-- ==== Defs.lean ====
def Pre_Kernel [hPre_rows_named : Cert.Pre_rows_named.Facts] (m : (ℓ : Loc Cert.Kernel.nD Cert.Kernel.τ Cert.Kernel.sig) → Buf (Elt Bits) ℓ) : Prop :=
  ∀ c : Dev Cert.Kernel.nD,
    (Cert.Pre_rows_named.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rows_named : Cert.Pre_rows_named.Facts] (m : (ℓ : Loc Cert.KernelIdeal.nD Cert.KernelIdeal.τ Cert.KernelIdeal.sig) → Buf (Elt Ideal) ℓ) : Prop :=
  ∀ c : Dev Cert.KernelIdeal.nD,
    (Cert.Pre_rows_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_named [hPre_rows_named : Cert.Pre_rows_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_rows_named : Cert.Pre_rows_named.Facts] (m : (ℓ : Loc Cert.Reference.nD Cert.Reference.τ Cert.Reference.sig) → Buf (Elt Bits) ℓ) : Prop :=
  ∀ c : Dev Cert.Reference.nD,
    (Cert.Pre_rows_named.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 [hPre_experts_named : Cert.Pre_experts_named.Facts] (m : (ℓ : Loc Cert.Kernel2.nD Cert.Kernel2.τ Cert.Kernel2.sig) → Buf (Elt Bits) ℓ) : Prop :=
  ∀ c : Dev Cert.Kernel2.nD,
    (Cert.Pre_experts_named.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))) = (fun _ => 1#1)

def Pre_Kernel2Ideal [hPre_experts_named : Cert.Pre_experts_named.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_named.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_named [hPre_experts_named : Cert.Pre_experts_named.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_named.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_last_named : Cert.Pre_last_named.Facts] (m : (ℓ : Loc Cert.Kernel4.nD Cert.Kernel4.τ Cert.Kernel4.sig) → Buf (Elt Bits) ℓ) : Prop :=
  ∀ c : Dev Cert.Kernel4.nD,
    (Cert.Pre_last_named.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7))) = (fun _ => 1#1)

def Pre_Kernel4Ideal [hPre_last_named : Cert.Pre_last_named.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_last_named.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_last_named [hPre_last_named : Cert.Pre_last_named.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_last_named.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] [hPre_rows_named : Cert.Pre_rows_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rows_named : Cert.Pre_rows_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rows_named [hReferenceIdeal : Cert.ReferenceIdeal.Facts] [hPre_rows_named : Cert.Pre_rows_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_named m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_rows_named : Cert.Pre_rows_named.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] [hPre_experts_named : Cert.Pre_experts_named.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_experts_named : Cert.Pre_experts_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_experts_named [hReference2Ideal : Cert.Reference2Ideal.Facts] [hPre_experts_named : Cert.Pre_experts_named.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_named m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] [hPre_last_named : Cert.Pre_last_named.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] [hPre_last_named : Cert.Pre_last_named.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_last_named [hReference4Ideal : Cert.Reference4Ideal.Facts] [hPre_last_named : Cert.Pre_last_named.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_last_named m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_named : Cert.Pre_rows_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_rows_named : Cert.Pre_rows_named.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] [hPre_experts_named : Cert.Pre_experts_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v81) = v0 c
          ∧ r.2.mem ((c.tc : Thread Cert.Reference2Ideal.nD Cert.Reference2Ideal.τ).loc Cert.Reference2Ideal.main_v84) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v48) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] [hPre_last_named : Cert.Pre_last_named.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v81) = v0 c
          ∧ r.2.mem ((c.tc : Thread Cert.Reference4Ideal.nD Cert.Reference4Ideal.τ).loc Cert.Reference4Ideal.main_v84) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_v36) = v1 c
          ∧ r.2.mem ((c.tc : Thread Cert.Reference5Ideal.nD Cert.Reference5Ideal.τ).loc Cert.Reference5Ideal.main_v37) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v35) = v0 c
          ∧ r.2.mem ((c.tc : Thread Cert.Reference6Ideal.nD Cert.Reference6Ideal.τ).loc Cert.Reference6Ideal.main_v37) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v55) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v73) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_rows_named : Cert.Pre_rows_named.Facts) (hPre_experts_named : Cert.Pre_experts_named.Facts) (hPre_last_named : Cert.Pre_last_named.Facts),
    quiescent_Kernel (hKernel := hKernel) (hPre_rows_named := hPre_rows_named)
    ∧ quiescent_KernelIdeal (hKernelIdeal := hKernelIdeal) (hPre_rows_named := hPre_rows_named)
    ∧ quiescent_ReferenceIdeal (hReferenceIdeal := hReferenceIdeal)
    ∧ quiescent_ReferenceIdeal_pre_rows_named (hReferenceIdeal := hReferenceIdeal) (hPre_rows_named := hPre_rows_named)
    ∧ quiescent_Reference (hReference := hReference) (hPre_rows_named := hPre_rows_named)
    ∧ quiescent_Kernel2 (hKernel2 := hKernel2) (hPre_experts_named := hPre_experts_named)
    ∧ quiescent_Kernel2Ideal (hKernel2Ideal := hKernel2Ideal) (hPre_experts_named := hPre_experts_named)
    ∧ quiescent_Reference2Ideal (hReference2Ideal := hReference2Ideal)
    ∧ quiescent_Reference2Ideal_pre_experts_named (hReference2Ideal := hReference2Ideal) (hPre_experts_named := hPre_experts_named)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_last_named := hPre_last_named)
    ∧ quiescent_Kernel4Ideal (hKernel4Ideal := hKernel4Ideal) (hPre_last_named := hPre_last_named)
    ∧ quiescent_Reference4Ideal (hReference4Ideal := hReference4Ideal)
    ∧ quiescent_Reference4Ideal_pre_last_named (hReference4Ideal := hReference4Ideal) (hPre_last_named := hPre_last_named)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal) (hPre_rows_named := hPre_rows_named)
    ∧ bitexact_Kernel_Reference (hKernel := hKernel) (hReference := hReference) (hPre_rows_named := hPre_rows_named)
    ∧ preserves_Kernel2_Kernel2Ideal
    ∧ algebraic_Kernel2Ideal_Reference2Ideal (hKernel2Ideal := hKernel2Ideal) (hReference2Ideal := hReference2Ideal) (hPre_experts_named := hPre_experts_named)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_last_named := hPre_last_named)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_experts_named.lean ====
abbrev S155648x256 : Shape := ⟨2, ![155648, 256]⟩
abbrev S304 : Shape := ⟨1, ![304]⟩
abbrev S1 : Shape := ⟨1, ![1]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩

class Facts : Prop where
  bcast_S_S304 : S_.BroadcastsInDim S304 (![] : Fin 0 → Fin S304.rank)

variable [Facts]

def fn {F : FTy → Type} [FloatOps F] (main_arg0 : IVec S155648x256 32) (main_arg1 : IVec S155648x256 32) (main_arg2 : IVec S304 32) (main_arg3 : IVec S1 32) (main_arg4 : FVec F S4x32x1024x2048 .f32) (main_arg5 : FVec F S4x32x2048 .f32) (main_arg6 : FVec F S4x32x1024x1024 .f32) (main_arg7 : FVec F S4x32x1024 .f32) : IVec S304 1 :=
  let main_c : IVec S_ 32 := constantI S_ 32 0#32
  let main_v0 : IVec S304 32 := broadcastInDim S304 ![] bcast_S_S304 main_c
  let main_v1 : IVec S304 1 := cmpi .sge main_arg2 main_v0
  let main_c_0 : IVec S_ 32 := constantI S_ 32 32#32
  let main_v2 : IVec S304 32 := broadcastInDim S304 ![] bcast_S_S304 main_c_0
  let main_v3 : IVec S304 1 := cmpi .slt main_arg2 main_v2
  let main_v4 : IVec S304 1 := andi main_v1 main_v3
  main_v4
-- ==== Pre_last_named.lean ====
abbrev S147456x256 : Shape := ⟨2, ![147456, 256]⟩
abbrev S288 : Shape := ⟨1, ![288]⟩
abbrev S1 : Shape := ⟨1, ![1]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩

class Facts : Prop where
  bcast_S_S288 : S_.BroadcastsInDim S288 (![] : Fin 0 → Fin S288.rank)

variable [Facts]

def fn {F : FTy → Type} [FloatOps F] (main_arg0 : IVec S147456x256 32) (main_arg1 : IVec S147456x256 32) (main_arg2 : IVec S288 32) (main_arg3 : IVec S1 32) (main_arg4 : FVec F S4x32x1024x2048 .f32) (main_arg5 : FVec F S4x32x2048 .f32) (main_arg6 : FVec F S4x32x1024x1024 .f32) (main_arg7 : FVec F S4x32x1024 .f32) : IVec S288 1 :=
  let main_c : IVec S_ 32 := constantI S_ 32 0#32
  let main_v0 : IVec S288 32 := broadcastInDim S288 ![] bcast_S_S288 main_c
  let main_v1 : IVec S288 1 := cmpi .sge main_arg2 main_v0
  let main_c_0 : IVec S_ 32 := constantI S_ 32 32#32
  let main_v2 : IVec S288 32 := broadcastInDim S288 ![] bcast_S_S288 main_c_0
  let main_v3 : IVec S288 1 := cmpi .slt main_arg2 main_v2
  let main_v4 : IVec S288 1 := andi main_v1 main_v3
  main_v4
-- ==== Pre_rows_named.lean ====
abbrev S155648x256 : Shape := ⟨2, ![155648, 256]⟩
abbrev S1x139264 : Shape := ⟨2, ![1, 139264]⟩
abbrev S_ : Shape := ⟨0, ![]⟩

class Facts : Prop where
  bcast_S_S1x139264 : S_.BroadcastsInDim S1x139264 (![] : Fin 0 → Fin S1x139264.rank)

variable [Facts]

def fn {F : FTy → Type} [FloatOps F] (main_arg0 : IVec S155648x256 32) (main_arg1 : IVec S1x139264 32) : IVec S1x139264 1 :=
  let main_c : IVec S_ 32 := constantI S_ 32 0#32
  let main_v0 : IVec S1x139264 32 := broadcastInDim S1x139264 ![] bcast_S_S1x139264 main_c
  let main_v1 : IVec S1x139264 1 := cmpi .sge main_arg1 main_v0
  let main_c_0 : IVec S_ 32 := constantI S_ 32 155648#32
  let main_v2 : IVec S1x139264 32 := broadcastInDim S1x139264 ![] bcast_S_S1x139264 main_c_0
  let main_v3 : IVec S1x139264 1 := cmpi .slt main_arg1 main_v2
  let main_v4 : IVec S1x139264 1 := andi main_v1 main_v3
  main_v4
-- ==== Kernel.lean ====
abbrev S155648x256 : Shape := ⟨2, ![155648, 256]⟩
abbrev S1x139264 : Shape := ⟨2, ![1, 139264]⟩
abbrev S139264x256 : Shape := ⟨2, ![139264, 256]⟩
abbrev S2x1x128 : Shape := ⟨3, ![2, 1, 128]⟩
abbrev S2 : Shape := ⟨1, ![2]⟩
abbrev S2x128x256 : Shape := ⟨3, ![2, 128, 256]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x256 : Shape := ⟨3, ![1, 128, 256]⟩
abbrev S128x256 : Shape := ⟨2, ![128, 256]⟩
abbrev S128x128 : Shape := ⟨2, ![128, 128]⟩
abbrev S128 : Shape := ⟨1, ![128]⟩
abbrev S155648x128 : Shape := ⟨2, ![155648, 128]⟩

abbrev nBuf : Table → Nat
  | .hbm => 3
  | .local .scVector .vmem => 2
  | _ => 0

abbrev bufTy : (tb : Table) → Fin (nBuf tb) → BufTy
  | .hbm, ⟨0, _⟩ => ⟨S155648x256, .i32⟩
  | .hbm, ⟨1, _⟩ => ⟨S1x139264, .i32⟩
  | .hbm, ⟨2, _⟩ => ⟨S139264x256, .i32⟩
  | .local .scVector .vmem, ⟨0, _⟩ => ⟨S2x1x128, .i32⟩
  | .local .scVector .vmem, ⟨1, _⟩ => ⟨S2x128x256, .i32⟩
  | _, _ => ⟨S155648x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c34_i32_27_r0 : BitVec 32 := 34#32
  let v32_r0 : BitVec 32 := Scalar.addi c0_i32_26_r0 c34_i32_27_r0
  let c1_i32_28_r0 : BitVec 32 := 1#32
  ⟨c0_i32_26_r0, v32_r0, c1_i32_28_r0⟩
def k0_off4 (arg6_r0 : BitVec 32) : Fin 3 → Nat :=
  let c2_i32_100_r0 : BitVec 32 := 2#32
  let v144_r0 : BitVec 32 := Scalar.remui arg6_r0 c2_i32_100_r0
  let c0_i32_102_r0 : BitVec 32 := 0#32
  let c0_i32_103_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c34_i32_62_r0 : BitVec 32 := 34#32
  let v74_r0 : BitVec 1 := Scalar.cmpi .eq v73_r0 c34_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c33_i32_68_r0 : BitVec 32 := 33#32
  let v83_r0 : BitVec 1 := Scalar.cmpi .sge arg5_r0 c33_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_104_r0 : BitVec 32 := 0#32
  let c128_i32_101_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c34_i32_62_r0 : BitVec 32 := 34#32
  let v74_r0 : BitVec 1 := Scalar.cmpi .eq v73_r0 c34_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v76_r0 : BitVec 32 := Scalar.addi v75_r0 v4
  let v145_r0 : BitVec 32 := Scalar.muli c128_i32_101_r0 v76_r0
  ![0, v145_r0.toNat]
def k0_off6 (arg6_r0 : BitVec 32) : Fin 1 → Nat :=
  let c2_i32_100_r0 : BitVec 32 := 2#32
  let v144_r0 : BitVec 32 := Scalar.remui arg6_r0 c2_i32_100_r0
  ![v144_r0.toNat]
def k0_off7 (arg7_r0 : BitVec 32) : Fin 3 → Nat :=
  let c2_i32_101_r0 : BitVec 32 := 2#32
  let v145_r0 : BitVec 32 := Scalar.remui arg7_r0 c2_i32_101_r0
  let c0_i32_102_r0 : BitVec 32 := 0#32
  let c0_i32_103_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c33_i32_59_r0 : BitVec 32 := 33#32
  let v70_r0 : BitVec 32 := Scalar.select v69_r0 c33_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_104_r0 : BitVec 32 := 0#32
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v66_r0 : BitVec 32 := Scalar.addi arg10_r0 v4
  let v144_r0 : BitVec 32 := Scalar.muli c128_i32_100_r0 v66_r0
  ![0, v144_r0.toNat]
def k0_off9 (arg7_r0 : BitVec 32) : Fin 1 → Nat :=
  let c2_i32_101_r0 : BitVec 32 := 2#32
  let v145_r0 : BitVec 32 := Scalar.remui arg7_r0 c2_i32_101_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_100_r1 : BitVec 32 := 0#32
  let c0_i32_101_r1 : BitVec 32 := 0#32
  ![v109_r0.toNat, 0, 0]

def k0_chk2 (arg8_r0 : BitVec 32) : Prop :=
  (∀ a, (k0_off10 arg8_r0) a + S1x128x256.size a ≤ S2x128x256.size a)
theorem k0_off10_inb : ∀ (arg8_r0 : BitVec 32) (k0_hw2 : k0_chk2 arg8_r0), ∀ a, (k0_off10 arg8_r0) a + S1x128x256.size a ≤ S2x128x256.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_104_r1 : BitVec 32 := 0#32
  let c0_i32_105_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_100_r0 : BitVec 32 := 2#32
  let v144_r0 : BitVec 32 := Scalar.remui arg8_r0 c2_i32_100_r0
  let c0_i32_102_r0 : BitVec 32 := 0#32
  let c0_i32_103_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c34_i32_62_r0 : BitVec 32 := 34#32
  let v74_r0 : BitVec 1 := Scalar.cmpi .eq v73_r0 c34_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c33_i32_55_r0 : BitVec 32 := 33#32
  let v65_r0 : BitVec 1 := Scalar.cmpi .eq arg5_r0 c33_i32_55_r0
  let v116_r0 : BitVec 1 := Scalar.ori v115_r0 v65_r0
  let v117_r0 : BitVec 32 := Scalar.extui v116_r0
  let c0_i32_85_r0 : BitVec 32 := 0#32
  let v118_r0 : BitVec 1 := Scalar.cmpi .ne v117_r0 c0_i32_85_r0
  v118_r0

def k0_off13 (i : grid0.Coords) (arg10_r0 : BitVec 32) : Fin 2 → Nat :=
  let c128_i32_101_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v66_r0 : BitVec 32 := Scalar.addi arg10_r0 v4
  let v145_r0 : BitVec 32 := Scalar.muli c128_i32_101_r0 v66_r0
  let c0_i32_104_r0 : BitVec 32 := 0#32
  ![v145_r0.toNat, 0]
def k0_off14 (arg8_r0 : BitVec 32) : Fin 1 → Nat :=
  let c2_i32_100_r0 : BitVec 32 := 2#32
  let v144_r0 : BitVec 32 := Scalar.remui arg8_r0 c2_i32_100_r0
  ![v144_r0.toNat]
def k0_off15 (arg9_r0 : BitVec 32) : Fin 3 → Nat :=
  let c2_i32_100_r0 : BitVec 32 := 2#32
  let v144_r0 : BitVec 32 := Scalar.remui arg9_r0 c2_i32_100_r0
  let c0_i32_102_r0 : BitVec 32 := 0#32
  let c0_i32_103_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c33_i32_59_r0 : BitVec 32 := 33#32
  let v70_r0 : BitVec 32 := Scalar.select v69_r0 c33_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_91_r0 : BitVec 1 := 1#1
  let v129_r0 : BitVec 1 := Scalar.xori v64_r0 true_91_r0
  let v130_r0 : BitVec 1 := Scalar.andi v128_r0 v129_r0
  let v131_r0 : BitVec 32 := Scalar.extui v130_r0
  let c0_i32_92_r0 : BitVec 32 := 0#32
  let v132_r0 : BitVec 1 := Scalar.cmpi .ne v131_r0 c0_i32_92_r0
  v132_r0

def k0_off16 (i : grid0.Coords) (arg10_r0 : BitVec 32) : Fin 2 → Nat :=
  let c128_i32_101_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c33_i32_59_r0 : BitVec 32 := 33#32
  let v70_r0 : BitVec 32 := Scalar.select v69_r0 c33_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v71_r0 : BitVec 32 := Scalar.addi v70_r0 v4
  let v145_r0 : BitVec 32 := Scalar.muli c128_i32_101_r0 v71_r0
  let c0_i32_104_r0 : BitVec 32 := 0#32
  ![v145_r0.toNat, 0]
def k0_off17 (arg9_r0 : BitVec 32) : Fin 1 → Nat :=
  let c2_i32_100_r0 : BitVec 32 := 2#32
  let v144_r0 : BitVec 32 := Scalar.remui arg9_r0 c2_i32_100_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x139264.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x139264.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x256.size a ≤ S2x128x256.size a) ∧
  (∀ (k0_h5 : k0_cond5 i k0_t1 arg10_r0 = 1#1), ∀ a, (k0_off13 i arg10_r0) a + S128x256.size a ≤ S139264x256.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x256.size a ≤ S2x128x256.size a) ∧
  (∀ (k0_h7 : k0_cond7 i k0_t1 arg10_r0 = 1#1), ∀ a, (k0_off16 i arg10_r0) a + S128x256.size a ≤ S139264x256.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x139264.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x139264.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x256.size a ≤ S2x128x256.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x256.size a ≤ S139264x256.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x256.size a ≤ S2x128x256.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x256.size a ≤ S139264x256.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c33_i32_33_r0 : BitVec 32 := 33#32
  let v37_r0 : BitVec 32 := Scalar.select v36_r0 c33_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c34_i32 : BitVec 32 := 34#32
  let v4 : BitVec 32 := Scalar.muli v3 c34_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x256.size a ≤ S139264x256.size a)
theorem k0_off19_inb : ∀ (i : grid0.Coords) (v33_4_r0 : BitVec 32) (k0_hw5 : k0_chk5 i v33_4_r0), ∀ a, (k0_off19 i v33_4_r0) a + S128x256.size a ≤ S139264x256.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x256.size a ≤ S2x128x256.size a) ∧
  (∀ a, (k0_off20 v33_3_r0) a + S1.size a ≤ S2.size a) ∧
  (∀ a, (k0_off21 v33_3_r0) a + S1x128x256.size a ≤ S2x128x256.size a)
theorem k0_off18_inb : ∀ (v33_3_r0 : BitVec 32) (k0_hw4 : k0_chk4 v33_3_r0), ∀ a, (k0_off18 v33_3_r0) a + S1x128x256.size a ≤ S2x128x256.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x256.size a ≤ S2x128x256.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S155648x256 : Shape := ⟨2, ![155648, 256]⟩
abbrev S1x139264 : Shape := ⟨2, ![1, 139264]⟩
abbrev S139264 : Shape := ⟨1, ![139264]⟩
abbrev S_ : Shape := ⟨0, ![]⟩
abbrev S139264x1 : Shape := ⟨2, ![139264, 1]⟩
abbrev S139264x256 : Shape := ⟨2, ![139264, 256]⟩

abbrev nBuf : Space → Nat
  | .hbm => 12
  | .vmem => 0
  | .smem => 0
  | _ => 0

abbrev bufTy : (tb : Table) → Fin (tcTables nBuf tb) → BufTy
  | .hbm, ⟨0, _⟩ => ⟨S155648x256, .i32⟩
  | .hbm, ⟨1, _⟩ => ⟨S1x139264, .i32⟩
  | .hbm, ⟨2, _⟩ => ⟨S139264, .i32⟩
  | .hbm, ⟨3, _⟩ => ⟨S_, .i32⟩
  | .hbm, ⟨4, _⟩ => ⟨S139264, .i32⟩
  | .hbm, ⟨5, _⟩ => ⟨S139264, .i1⟩
  | .hbm, ⟨6, _⟩ => ⟨S_, .i32⟩
  | .hbm, ⟨7, _⟩ => ⟨S139264, .i32⟩
  | .hbm, ⟨8, _⟩ => ⟨S139264, .i32⟩
  | .hbm, ⟨9, _⟩ => ⟨S139264, .i32⟩
  | .hbm, ⟨10, _⟩ => ⟨S139264x1, .i32⟩
  | .hbm, ⟨11, _⟩ => ⟨S139264x256, .i32⟩
  | _, _ => ⟨S155648x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel2.lean ====
abbrev S155648x256 : Shape := ⟨2, ![155648, 256]⟩
abbrev S304 : Shape := ⟨1, ![304]⟩
abbrev S1 : Shape := ⟨1, ![1]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S128x1024x2048 : Shape := ⟨3, ![128, 1024, 2048]⟩
abbrev S128x1024x1024 : Shape := ⟨3, ![128, 1024, 1024]⟩
abbrev S128x1x2048 : Shape := ⟨3, ![128, 1, 2048]⟩
abbrev S128x1x1024 : Shape := ⟨3, ![128, 1, 1024]⟩
abbrev S155648x512 : Shape := ⟨2, ![155648, 512]⟩
abbrev S512x256 : Shape := ⟨2, ![512, 256]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S512x512 : Shape := ⟨2, ![512, 512]⟩
abbrev S1024x2048 : Shape := ⟨2, ![1024, 2048]⟩
abbrev S1024x1024 : Shape := ⟨2, ![1024, 1024]⟩
abbrev S1x128x2048 : Shape := ⟨3, ![1, 128, 2048]⟩
abbrev S128x2048 : Shape := ⟨2, ![128, 2048]⟩
abbrev S1x128x1024 : Shape := ⟨3, ![1, 128, 1024]⟩
abbrev S128x1024 : Shape := ⟨2, ![128, 1024]⟩
abbrev S512x1024 : Shape := ⟨2, ![512, 1024]⟩
abbrev S1024x512 : Shape := ⟨2, ![1024, 512]⟩
abbrev S1x1x512 : Shape := ⟨3, ![1, 1, 512]⟩
abbrev S1x512 : Shape := ⟨2, ![1, 512]⟩
abbrev S1x1024 : Shape := ⟨2, ![1, 1024]⟩

abbrev nBuf : Space → Nat
  | .hbm => 12
  | .vmem => 18
  | .smem => 2
  | _ => 0

abbrev bufTy : (tb : Table) → Fin (tcTables nBuf tb) → BufTy
  | .hbm, ⟨0, _⟩ => ⟨S155648x256, .i32⟩
  | .hbm, ⟨1, _⟩ => ⟨S155648x256, .i32⟩
  | .hbm, ⟨2, _⟩ => ⟨S4x32x1024x2048, .f32⟩
  | .hbm, ⟨3, _⟩ => ⟨S4x32x2048, .f32⟩
  | .hbm, ⟨4, _⟩ => ⟨S4x32x1024x1024, .f32⟩
  | .hbm, ⟨5, _⟩ => ⟨S4x32x1024, .f32⟩
  | .hbm, ⟨6, _⟩ => ⟨S128x1024x2048, .f32⟩
  | .hbm, ⟨7, _⟩ => ⟨S128x1024x1024, .f32⟩
  | .hbm, ⟨8, _⟩ => ⟨S128x1x2048, .f32⟩
  | .hbm, ⟨9, _⟩ => ⟨S128x1x1024, .f32⟩
  | .hbm, ⟨10, _⟩ => ⟨S155648x512, .bf16⟩
  | .hbm, ⟨11, _⟩ => ⟨S155648x512, .bf16⟩
  | .local _ .vmem, ⟨0, _⟩ => ⟨S512x256, .i32⟩
  | .local _ .vmem, ⟨1, _⟩ => ⟨S512x256, .i32⟩
  | .local _ .vmem, ⟨2, _⟩ => ⟨S512x256, .i32⟩
  | .local _ .vmem, ⟨3, _⟩ => ⟨S512x256, .i32⟩
  | .local _ .vmem, ⟨4, _⟩ => ⟨S1x1024x2048, .f32⟩
  | .local _ .vmem, ⟨5, _⟩ => ⟨S1x1024x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S1024x2048, .bf16⟩
  | .local _ .vmem, ⟨17, _⟩ => ⟨S1024x1024, .bf16⟩
  | .local _ .smem, ⟨0, _⟩ => ⟨S304, .i32⟩
  | .local _ .smem, ⟨1, _⟩ => ⟨S1, .i32⟩
  | _, _ => ⟨S155648x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![304], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v14 : BitVec 32) : BitVec 1 :=
  let arg0 : BitVec 32 := BitVec.ofNat 32 (i 0).val
  let v15 : BitVec 1 := Scalar.cmpi .slt arg0 v14
  let v16 : BitVec 32 := Scalar.extui v15
  let c0_i32_3 : BitVec 32 := 0#32
  let v17 : BitVec 1 := Scalar.cmpi .ne v16 c0_i32_3
  v17

def k0_cond3 (i : grid0.Coords) (v18 : BitVec 32) : BitVec 1 :=
  let arg0 : BitVec 32 := BitVec.ofNat 32 (i 0).val
  let v19 : BitVec 1 := Scalar.cmpi .sge arg0 v18
  let v20 : BitVec 32 := Scalar.extui v19
  let c0_i32_5 : BitVec 32 := 0#32
  let v21 : BitVec 1 := Scalar.cmpi .ne v20 c0_i32_5
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c32_i32 : BitVec 32 := 32#32
  let v2 : BitVec 32 := Scalar.addi c32_i32 v1
  let c0_i32 : BitVec 32 := 0#32
  let c0_i32_0 : BitVec 32 := 0#32
  let c0_i32_1 : BitVec 32 := 0#32
  ![v2.toNat, c0_i32.toNat, c0_i32_0.toNat]

def cc0_transform_3 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c32_i32 : BitVec 32 := 32#32
  let v2 : BitVec 32 := Scalar.addi c32_i32 v1
  let c0_i32 : BitVec 32 := 0#32
  let c0_i32_0 : BitVec 32 := 0#32
  let c0_i32_1 : BitVec 32 := 0#32
  ![v2.toNat, c0_i32.toNat, c0_i32_0.toNat]

def cc0_transform_4 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c32_i32 : BitVec 32 := 32#32
  let v2 : BitVec 32 := Scalar.addi c32_i32 v1
  let c0_i32 : BitVec 32 := 0#32
  let c0_i32_0 : BitVec 32 := 0#32
  let c0_i32_1 : BitVec 32 := 0#32
  ![v2.toNat, c0_i32.toNat, c0_i32_0.toNat]

def cc0_transform_5 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c32_i32 : BitVec 32 := 32#32
  let v2 : BitVec 32 := Scalar.addi c32_i32 v1
  let c0_i32 : BitVec 32 := 0#32
  let c0_i32_0 : BitVec 32 := 0#32
  let c0_i32_1 : BitVec 32 := 0#32
  ![v2.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S155648x256 : Shape := ⟨2, ![155648, 256]⟩
abbrev S304 : Shape := ⟨1, ![304]⟩
abbrev S1 : Shape := ⟨1, ![1]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S155648x512 : Shape := ⟨2, ![155648, 512]⟩
abbrev S_ : Shape := ⟨0, ![]⟩
abbrev S155648x1024 : Shape := ⟨2, ![155648, 1024]⟩
abbrev S304x512x1024 : Shape := ⟨3, ![304, 512, 1024]⟩
abbrev S1x32x1024x2048 : Shape := ⟨4, ![1, 32, 1024, 2048]⟩
abbrev S32x1024x2048 : Shape := ⟨3, ![32, 1024, 2048]⟩
abbrev S304x1 : Shape := ⟨2, ![304, 1]⟩
abbrev S304x1024x2048 : Shape := ⟨3, ![304, 1024, 2048]⟩
abbrev S1x32x2048 : Shape := ⟨3, ![1, 32, 2048]⟩
abbrev S32x2048 : Shape := ⟨2, ![32, 2048]⟩
abbrev S304x2048 : Shape := ⟨2, ![304, 2048]⟩
abbrev S1x32x1024x1024 : Shape := ⟨4, ![1, 32, 1024, 1024]⟩
abbrev S32x1024x1024 : Shape := ⟨3, ![32, 1024, 1024]⟩
abbrev S304x1024x1024 : Shape := ⟨3, ![304, 1024, 1024]⟩
abbrev S1x32x1024 : Shape := ⟨3, ![1, 32, 1024]⟩
abbrev S32x1024 : Shape := ⟨2, ![32, 1024]⟩
abbrev S304x1024 : Shape := ⟨2, ![304, 1024]⟩
abbrev S304x512x2048 : Shape := ⟨3, ![304, 512, 2048]⟩
abbrev S304x1x2048 : Shape := ⟨3, ![304, 1, 2048]⟩
abbrev S304x1x1024 : Shape := ⟨3, ![304, 1, 1024]⟩
abbrev S304x1x1 : Shape := ⟨3, ![304, 1, 1]⟩
abbrev S155648x2x2x256 : Shape := ⟨4, ![155648, 2, 2, 256]⟩
abbrev S155648x2x1x256 : Shape := ⟨4, ![155648, 2, 1, 256]⟩
abbrev S155648x2x256 : Shape := ⟨3, ![155648, 2, 256]⟩

abbrev nBuf : Space → Nat
  | .hbm => 119
  | .vmem => 0
  | .smem => 0
  | _ => 0

abbrev bufTy : (tb : Table) → Fin (tcTables nBuf tb) → BufTy
  | .hbm, ⟨0, _⟩ => ⟨S155648x256, .i32⟩
  | .hbm, ⟨1, _⟩ => ⟨S155648x256, .i32⟩
  | .hbm, ⟨2, _⟩ => ⟨S304, .i32⟩
  | .hbm, ⟨3, _⟩ => ⟨S1, .i32⟩
  | .hbm, ⟨4, _⟩ => ⟨S4x32x1024x2048, .f32⟩
  | .hbm, ⟨5, _⟩ => ⟨S4x32x2048, .f32⟩
  | .hbm, ⟨6, _⟩ => ⟨S4x32x1024x1024, .f32⟩
  | .hbm, ⟨7, _⟩ => ⟨S4x32x1024, .f32⟩
  | .hbm, ⟨8, _⟩ => ⟨S155648x512, .i32⟩
  | .hbm, ⟨9, _⟩ => ⟨S_, .i32⟩
  | .hbm, ⟨10, _⟩ => ⟨S155648x512, .i32⟩
  | .hbm, ⟨11, _⟩ => ⟨S155648x512, .i32⟩
  | .hbm, ⟨12, _⟩ => ⟨S155648x512, .f32⟩
  | .hbm, ⟨13, _⟩ => ⟨S_, .i32⟩
  | .hbm, ⟨14, _⟩ => ⟨S155648x512, .i32⟩
  | .hbm, ⟨15, _⟩ => ⟨S155648x512, .i32⟩
  | .hbm, ⟨16, _⟩ => ⟨S155648x512, .f32⟩
  | .hbm, ⟨17, _⟩ => ⟨S155648x1024, .f32⟩
  | .hbm, ⟨18, _⟩ => ⟨S304x512x1024, .f32⟩
  | .hbm, ⟨19, _⟩ => ⟨S1x32x1024x2048, .f32⟩
  | .hbm, ⟨20, _⟩ => ⟨S32x1024x2048, .f32⟩
  | .hbm, ⟨21, _⟩ => ⟨S_, .i32⟩
  | .hbm, ⟨22, _⟩ => ⟨S304, .i32⟩
  | .hbm, ⟨23, _⟩ => ⟨S304, .i1⟩
  | .hbm, ⟨24, _⟩ => ⟨S_, .i32⟩
  | .hbm, ⟨25, _⟩ => ⟨S304, .i32⟩
  | .hbm, ⟨26, _⟩ => ⟨S304, .i32⟩
  | .hbm, ⟨27, _⟩ => ⟨S304, .i32⟩
  | .hbm, ⟨28, _⟩ => ⟨S304x1, .i32⟩
  | .hbm, ⟨29, _⟩ => ⟨S304x1024x2048, .f32⟩
  | .hbm, ⟨30, _⟩ => ⟨S1x32x2048, .f32⟩
  | .hbm, ⟨31, _⟩ => ⟨S32x2048, .f32⟩
  | .hbm, ⟨32, _⟩ => ⟨S_, .i32⟩
  | .hbm, ⟨33, _⟩ => ⟨S304, .i32⟩
  | .hbm, ⟨34, _⟩ => ⟨S304, .i1⟩
  | .hbm, ⟨35, _⟩ => ⟨S_, .i32⟩
  | .hbm, ⟨36, _⟩ => ⟨S304, .i32⟩
  | .hbm, ⟨37, _⟩ => ⟨S304, .i32⟩
  | .hbm, ⟨38, _⟩ => ⟨S304, .i32⟩
  | .hbm, ⟨39, _⟩ => ⟨S304x1, .i32⟩
  | .hbm, ⟨40, _⟩ => ⟨S304x2048, .f32⟩
  | .hbm, ⟨41, _⟩ => ⟨S1x32x1024x1024, .f32⟩
  | .hbm, ⟨42, _⟩ => ⟨S32x1024x1024, .f32⟩
  | .hbm, ⟨43, _⟩ => ⟨S_, .i32⟩
  | .hbm, ⟨44, _⟩ => ⟨S304, .i32⟩
  | .hbm, ⟨45, _⟩ => ⟨S304, .i1⟩
  | .hbm, ⟨46, _⟩ => ⟨S_, .i32⟩
  | .hbm, ⟨47, _⟩ => ⟨S304, .i32⟩
  | .hbm, ⟨48, _⟩ => ⟨S304, .i32⟩
  | .hbm, ⟨49, _⟩ => ⟨S304, .i32⟩
  | .hbm, ⟨50, _⟩ => ⟨S304x1, .i32⟩
  | .hbm, ⟨51, _⟩ => ⟨S304x1024x1024, .f32⟩
  | .hbm, ⟨52, _⟩ => ⟨S1x32x1024, .f32⟩
  | .hbm, ⟨53, _⟩ => ⟨S32x1024, .f32⟩
  | .hbm, ⟨54, _⟩ => ⟨S_, .i32⟩
  | .hbm, ⟨55, _⟩ => ⟨S304, .i32⟩
  | .hbm, ⟨56, _⟩ => ⟨S304, .i1⟩
  | .hbm, ⟨57, _⟩ => ⟨S_, .i32⟩
  | .hbm, ⟨58, _⟩ => ⟨S304, .i32⟩
  | .hbm, ⟨59, _⟩ => ⟨S304, .i32⟩
  | .hbm, ⟨60, _⟩ => ⟨S304, .i32⟩
  | .hbm, ⟨61, _⟩ => ⟨S304x1, .i32⟩
  | .hbm, ⟨62, _⟩ => ⟨S304x1024, .f32⟩
  | .hbm, ⟨63, _⟩ => ⟨S304x512x2048, .f32⟩
  | .hbm, ⟨64, _⟩ => ⟨S304x1x2048, .f32⟩
  | .hbm, ⟨65, _⟩ => ⟨S304x512x2048, .f32⟩
  | .hbm, ⟨66, _⟩ => ⟨S304x512x2048, .f32⟩
  | .hbm, ⟨67, _⟩ => ⟨S304x512x1024, .f32⟩
  | .hbm, ⟨68, _⟩ => ⟨S_, .f32⟩
  | .hbm, ⟨69, _⟩ => ⟨S304x512x1024, .f32⟩
  | .hbm, ⟨70, _⟩ => ⟨S304x512x1024, .f32⟩
  | .hbm, ⟨71, _⟩ => ⟨S304x512x1024, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S304x512x1024, .f32⟩
  | .hbm, ⟨76, _⟩ => ⟨S304x512x1024, .f32⟩
  | .hbm, ⟨77, _⟩ => ⟨S_, .f32⟩
  | .hbm, ⟨78, _⟩ => ⟨S304x512x1024, .f32⟩
  | .hbm, ⟨79, _⟩ => ⟨S304x512x1024, .f32⟩
  | .hbm, ⟨80, _⟩ => ⟨S_, .f32⟩
  | .hbm, ⟨81, _⟩ => ⟨S304x512x1024, .f32⟩
  | .hbm, ⟨82, _⟩ => ⟨S304x512x1024, .f32⟩
  | .hbm, ⟨83, _⟩ => ⟨S304x512x1024, .f32⟩
  | .hbm, ⟨84, _⟩ => ⟨S_, .f32⟩
  | .hbm, ⟨85, _⟩ => ⟨S304x512x1024, .f32⟩
  | .hbm, ⟨86, _⟩ => ⟨S304x512x1024, .f32⟩
  | .hbm, ⟨87, _⟩ => ⟨S304x512x1024, .f32⟩
  | .hbm, ⟨88, _⟩ => ⟨S304x512x1024, .f32⟩
  | .hbm, ⟨89, _⟩ => ⟨S_, .f32⟩
  | .hbm, ⟨90, _⟩ => ⟨S304x512x1024, .f32⟩
  | .hbm, ⟨91, _⟩ => ⟨S304x512x1024, .f32⟩
  | .hbm, ⟨92, _⟩ => ⟨S_, .f32⟩
  | .hbm, ⟨93, _⟩ => ⟨S304x512x1024, .f32⟩
  | .hbm, ⟨94, _⟩ => ⟨S304x512x1024, .f32⟩
  | .hbm, ⟨95, _⟩ => ⟨S304x512x1024, .f32⟩
  | .hbm, ⟨96, _⟩ => ⟨S304x512x1024, .f32⟩
  | .hbm, ⟨97, _⟩ => ⟨S304x1x1024, .f32⟩
  | .hbm, ⟨98, _⟩ => ⟨S304x512x1024, .f32⟩
  | .hbm, ⟨99, _⟩ => ⟨S304x512x1024, .f32⟩
  | .hbm, ⟨100, _⟩ => ⟨S304, .i32⟩
  | .hbm, ⟨101, _⟩ => ⟨S_, .i32⟩
  | .hbm, ⟨102, _⟩ => ⟨S304, .i32⟩
  | .hbm, ⟨103, _⟩ => ⟨S304, .i1⟩
  | .hbm, ⟨104, _⟩ => ⟨S304x1x1, .i1⟩
  | .hbm, ⟨105, _⟩ => ⟨S_, .f32⟩
  | .hbm, ⟨106, _⟩ => ⟨S_, .f32⟩
  | .hbm, ⟨107, _⟩ => ⟨S304x512x1024, .i1⟩
  | .hbm, ⟨108, _⟩ => ⟨S304x512x1024, .f32⟩
  | .hbm, ⟨109, _⟩ => ⟨S304x512x1024, .f32⟩
  | .hbm, ⟨110, _⟩ => ⟨S155648x1024, .f32⟩
  | .hbm, ⟨111, _⟩ => ⟨S155648x1024, .bf16⟩
  | .hbm, ⟨112, _⟩ => ⟨S155648x2x2x256, .bf16⟩
  | .hbm, ⟨113, _⟩ => ⟨S155648x2x1x256, .bf16⟩
  | .hbm, ⟨114, _⟩ => ⟨S155648x2x256, .bf16⟩
  | .hbm, ⟨115, _⟩ => ⟨S155648x512, .bf16⟩
  | .hbm, ⟨116, _⟩ => ⟨S155648x2x1x256, .bf16⟩
  | .hbm, ⟨117, _⟩ => ⟨S155648x2x256, .bf16⟩
  | .hbm, ⟨118, _⟩ => ⟨S155648x512, .bf16⟩
  | _, _ => ⟨S155648x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_7 : Ref sig .tc := ⟨.hbm, 54, rfl⟩
abbrev main_v38 : Ref sig .tc := ⟨.hbm, 55, rfl⟩
abbrev main_v39 : Ref sig .tc := ⟨.hbm, 56, rfl⟩
abbrev main_c_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_cst_10 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_13 : Ref sig .tc := ⟨.hbm, 89, rfl⟩
abbrev main_v61 : Ref sig .tc := ⟨.hbm, 90, rfl⟩
abbrev main_v62 : Ref sig .tc := ⟨.hbm, 91, rfl⟩
abbrev main_cst_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_15 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩

abbrev nD : Nat := 1
abbrev τ : Topo := Topo.v7x

variable {F : FTy → Type} [FloatOps F]
-- ==== Kernel3.lean ====
abbrev S8x4352x1024 : Shape := ⟨3, ![8, 4352, 1024]⟩
abbrev S8x2x8x1024 : Shape := ⟨4, ![8, 2, 8, 1024]⟩
abbrev S4x8x4096x256 : Shape := ⟨4, ![4, 8, 4096, 256]⟩
abbrev S8x4096x128 : Shape := ⟨3, ![8, 4096, 128]⟩
abbrev S1x1024 : Shape := ⟨2, ![1, 1024]⟩
abbrev S8x4096x1024 : Shape := ⟨3, ![8, 4096, 1024]⟩
abbrev S1x256x1024 : Shape := ⟨3, ![1, 256, 1024]⟩
abbrev S1x1x8x1024 : Shape := ⟨4, ![1, 1, 8, 1024]⟩
abbrev S4x1x256x256 : Shape := ⟨4, ![4, 1, 256, 256]⟩
abbrev S1x256x128 : Shape := ⟨3, ![1, 256, 128]⟩
abbrev S256x128 : Shape := ⟨2, ![256, 128]⟩
abbrev S1x1x256x256 : Shape := ⟨4, ![1, 1, 256, 256]⟩
abbrev S256x256 : Shape := ⟨2, ![256, 256]⟩
abbrev S256x512 : Shape := ⟨2, ![256, 512]⟩
abbrev S256x1024 : Shape := ⟨2, ![256, 1024]⟩
abbrev S256x1 : Shape := ⟨2, ![256, 1]⟩
abbrev S1x1x1x1024 : Shape := ⟨4, ![1, 1, 1, 1024]⟩
abbrev S256 : Shape := ⟨1, ![256]⟩

abbrev nBuf : Space → Nat
  | .hbm => 8
  | .vmem => 14
  | .smem => 0
  | _ => 0

abbrev bufTy : (tb : Table) → Fin (tcTables nBuf tb) → BufTy
  | .hbm, ⟨0, _⟩ => ⟨S8x4352x1024, .f32⟩
  | .hbm, ⟨1, _⟩ => ⟨S8x2x8x1024, .f32⟩
  | .hbm, ⟨2, _⟩ => ⟨S4x8x4096x256, .i32⟩
  | .hbm, ⟨3, _⟩ => ⟨S4x8x4096x256, .i32⟩
  | .hbm, ⟨4, _⟩ => ⟨S8x4096x128, .f32⟩
  | .hbm, ⟨5, _⟩ => ⟨S1x1024, .f32⟩
  | .hbm, ⟨6, _⟩ => ⟨S1x1024, .f32⟩
  | .hbm, ⟨7, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x8x1024, .f32⟩
  | .local _ .vmem, ⟨3, _⟩ => ⟨S1x1x8x1024, .f32⟩
  | .local _ .vmem, ⟨4, _⟩ => ⟨S4x1x256x256, .i32⟩
  | .local _ .vmem, ⟨5, _⟩ => ⟨S4x1x256x256, .i32⟩
  | .local _ .vmem, ⟨6, _⟩ => ⟨S4x1x256x256, .i32⟩
  | .local _ .vmem, ⟨7, _⟩ => ⟨S4x1x256x256, .i32⟩
  | .local _ .vmem, ⟨8, _⟩ => ⟨S1x256x128, .f32⟩
  | .local _ .vmem, ⟨9, _⟩ => ⟨S1x256x128, .f32⟩
  | .local _ .vmem, ⟨10, _⟩ => ⟨S1x1024, .f32⟩
  | .local _ .vmem, ⟨11, _⟩ => ⟨S1x1024, .f32⟩
  | .local _ .vmem, ⟨12, _⟩ => ⟨S1x256x1024, .f32⟩
  | .local _ .vmem, ⟨13, _⟩ => ⟨S1x256x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let v1 : BitVec 1 := Scalar.cmpi .slt v0 c1_i32_0
  let c0_i32 : BitVec 32 := 0#32
  let c1_i32_1 : BitVec 32 := 1#32
  let v2 : BitVec 32 := Scalar.select v1 c0_i32 c1_i32_1
  let c0_i32_2 : BitVec 32 := 0#32
  let c0_i32_3 : BitVec 32 := 0#32
  let c0_i32_4 : BitVec 32 := 0#32
  ![arg0.toNat, v2.toNat, c0_i32_2.toNat, c0_i32_3.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x256x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1x256x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8x4352x1024 : Shape := ⟨3, ![8, 4352, 1024]⟩
abbrev S8x2x8x1024 : Shape := ⟨4, ![8, 2, 8, 1024]⟩
abbrev S4x8x4096x256 : Shape := ⟨4, ![4, 8, 4096, 256]⟩
abbrev S8x4096x128 : Shape := ⟨3, ![8, 4096, 128]⟩
abbrev S1x1024 : Shape := ⟨2, ![1, 1024]⟩
abbrev S4x8x4096x512 : Shape := ⟨4, ![4, 8, 4096, 512]⟩
abbrev S_ : Shape := ⟨0, ![]⟩
abbrev S4x8x4096x1024 : Shape := ⟨4, ![4, 8, 4096, 1024]⟩
abbrev S8x4096x4 : Shape := ⟨3, ![8, 4096, 4]⟩
abbrev S4x8x4096 : Shape := ⟨3, ![4, 8, 4096]⟩
abbrev S4x8x4096x1 : Shape := ⟨4, ![4, 8, 4096, 1]⟩
abbrev S8x4096x1024 : Shape := ⟨3, ![8, 4096, 1024]⟩
abbrev S8x1x1x1024 : Shape := ⟨4, ![8, 1, 1, 1024]⟩
abbrev S8x1024 : Shape := ⟨2, ![8, 1024]⟩
abbrev S8x1x1024 : Shape := ⟨3, ![8, 1, 1024]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S8x2x8x1024, .f32⟩
  | .hbm, ⟨2, _⟩ => ⟨S4x8x4096x256, .i32⟩
  | .hbm, ⟨3, _⟩ => ⟨S4x8x4096x256, .i32⟩
  | .hbm, ⟨4, _⟩ => ⟨S8x4096x128, .f32⟩
  | .hbm, ⟨5, _⟩ => ⟨S1x1024, .f32⟩
  | .hbm, ⟨6, _⟩ => ⟨S1x1024, .f32⟩
  | .hbm, ⟨7, _⟩ => ⟨S4x8x4096x512, .i32⟩
  | .hbm, ⟨8, _⟩ => ⟨S_, .i32⟩
  | .hbm, ⟨9, _⟩ => ⟨S4x8x4096x512, .i32⟩
  | .hbm, ⟨10, _⟩ => ⟨S4x8x4096x512, .i32⟩
  | .hbm, ⟨11, _⟩ => ⟨S4x8x4096x512, .f32⟩
  | .hbm, ⟨12, _⟩ => ⟨S_, .i32⟩
  | .hbm, ⟨13, _⟩ => ⟨S4x8x4096x512, .i32⟩
  | .hbm, ⟨14, _⟩ => ⟨S4x8x4096x512, .i32⟩
  | .hbm, ⟨15, _⟩ => ⟨S4x8x4096x512, .f32⟩
  | .hbm, ⟨16, _⟩ => ⟨S4x8x4096x1024, .f32⟩
  | .hbm, ⟨17, _⟩ => ⟨S8x4096x4, .f32⟩
  | .hbm, ⟨18, _⟩ => ⟨S4x8x4096, .f32⟩
  | .hbm, ⟨19, _⟩ => ⟨S4x8x4096x1, .f32⟩
  | .hbm, ⟨20, _⟩ => ⟨S4x8x4096x1024, .f32⟩
  | .hbm, ⟨21, _⟩ => ⟨S4x8x4096x1024, .f32⟩
  | .hbm, ⟨22, _⟩ => ⟨S_, .f32⟩
  | .hbm, ⟨23, _⟩ => ⟨S8x4096x1024, .f32⟩
  | .hbm, ⟨24, _⟩ => ⟨S8x4096x1024, .f32⟩
  | .hbm, ⟨25, _⟩ => ⟨S_, .f32⟩
  | .hbm, ⟨26, _⟩ => ⟨S8x4096x1024, .f32⟩
  | .hbm, ⟨27, _⟩ => ⟨S8x4096x1024, .f32⟩
  | .hbm, ⟨28, _⟩ => ⟨S8x1x1x1024, .f32⟩
  | .hbm, ⟨29, _⟩ => ⟨S8x1024, .f32⟩
  | .hbm, ⟨30, _⟩ => ⟨S8x1x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S_, .f32⟩
  | .hbm, ⟨38, _⟩ => ⟨S8x4096x1, .f32⟩
  | .hbm, ⟨39, _⟩ => ⟨S8x4096x1, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S_, .f32⟩
  | .hbm, ⟨44, _⟩ => ⟨S8x4096, .f32⟩
  | .hbm, ⟨45, _⟩ => ⟨S8x4096x1, .f32⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S8x4096x1024, .f32⟩
  | .hbm, ⟨50, _⟩ => ⟨S8x4096x1024, .f32⟩
  | .hbm, ⟨51, _⟩ => ⟨S_, .f32⟩
  | .hbm, ⟨52, _⟩ => ⟨S8x4096x1, .f32⟩
  | .hbm, ⟨53, _⟩ => ⟨S8x4096x1, .f32⟩
  | .hbm, ⟨54, _⟩ => ⟨S8x4096x1, .f32⟩
  | .hbm, ⟨55, _⟩ => ⟨S8x4096x1024, .f32⟩
  | .hbm, ⟨56, _⟩ => ⟨S8x4096x1024, .f32⟩
  | .hbm, ⟨57, _⟩ => ⟨S1024, .f32⟩
  | .hbm, ⟨58, _⟩ => ⟨S1x1x1024, .f32⟩
  | .hbm, ⟨59, _⟩ => ⟨S8x4096x1024, .f32⟩
  | .hbm, ⟨60, _⟩ => ⟨S8x4096x1024, .f32⟩
  | .hbm, ⟨61, _⟩ => ⟨S1024, .f32⟩
  | .hbm, ⟨62, _⟩ => ⟨S1x1x1024, .f32⟩
  | .hbm, ⟨63, _⟩ => ⟨S8x4096x1024, .f32⟩
  | .hbm, ⟨64, _⟩ => ⟨S8x4096x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== Kernel4.lean ====
abbrev S147456x256 : Shape := ⟨2, ![147456, 256]⟩
abbrev S288 : Shape := ⟨1, ![288]⟩
abbrev S1 : Shape := ⟨1, ![1]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S128x1024x2048 : Shape := ⟨3, ![128, 1024, 2048]⟩
abbrev S128x1024x1024 : Shape := ⟨3, ![128, 1024, 1024]⟩
abbrev S128x1x2048 : Shape := ⟨3, ![128, 1, 2048]⟩
abbrev S128x1x1024 : Shape := ⟨3, ![128, 1, 1024]⟩
abbrev S147456x512 : Shape := ⟨2, ![147456, 512]⟩
abbrev S512x256 : Shape := ⟨2, ![512, 256]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S512x512 : Shape := ⟨2, ![512, 512]⟩
abbrev S1024x2048 : Shape := ⟨2, ![1024, 2048]⟩
abbrev S1024x1024 : Shape := ⟨2, ![1024, 1024]⟩
abbrev S1x128x2048 : Shape := ⟨3, ![1, 128, 2048]⟩
abbrev S128x2048 : Shape := ⟨2, ![128, 2048]⟩
abbrev S1x128x1024 : Shape := ⟨3, ![1, 128, 1024]⟩
abbrev S128x1024 : Shape := ⟨2, ![128, 1024]⟩
abbrev S512x1024 : Shape := ⟨2, ![512, 1024]⟩
abbrev S1024x512 : Shape := ⟨2, ![1024, 512]⟩
abbrev S1x1x512 : Shape := ⟨3, ![1, 1, 512]⟩
abbrev S1x512 : Shape := ⟨2, ![1, 512]⟩
abbrev S1x1024 : Shape := ⟨2, ![1, 1024]⟩

abbrev nBuf : Space → Nat
  | .hbm => 12
  | .vmem => 18
  | .smem => 2
  | _ => 0

abbrev bufTy : (tb : Table) → Fin (tcTables nBuf tb) → BufTy
  | .hbm, ⟨0, _⟩ => ⟨S147456x256, .i32⟩
  | .hbm, ⟨1, _⟩ => ⟨S147456x256, .i32⟩
  | .hbm, ⟨2, _⟩ => ⟨S4x32x1024x2048, .f32⟩
  | .hbm, ⟨3, _⟩ => ⟨S4x32x2048, .f32⟩
  | .hbm, ⟨4, _⟩ => ⟨S4x32x1024x1024, .f32⟩
  | .hbm, ⟨5, _⟩ => ⟨S4x32x1024, .f32⟩
  | .hbm, ⟨6, _⟩ => ⟨S128x1024x2048, .f32⟩
  | .hbm, ⟨7, _⟩ => ⟨S128x1024x1024, .f32⟩
  | .hbm, ⟨8, _⟩ => ⟨S128x1x2048, .f32⟩
  | .hbm, ⟨9, _⟩ => ⟨S128x1x1024, .f32⟩
  | .hbm, ⟨10, _⟩ => ⟨S147456x512, .bf16⟩
  | .hbm, ⟨11, _⟩ => ⟨S147456x512, .bf16⟩
  | .local _ .vmem, ⟨0, _⟩ => ⟨S512x256, .i32⟩
  | .local _ .vmem, ⟨1, _⟩ => ⟨S512x256, .i32⟩
  | .local _ .vmem, ⟨2, _⟩ => ⟨S512x256, .i32⟩
  | .local _ .vmem, ⟨3, _⟩ => ⟨S512x256, .i32⟩
  | .local _ .vmem, ⟨4, _⟩ => ⟨S1x1024x2048, .f32⟩
  | .local _ .vmem, ⟨5, _⟩ => ⟨S1x1024x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S1024x2048, .bf16⟩
  | .local _ .vmem, ⟨17, _⟩ => ⟨S1024x1024, .bf16⟩
  | .local _ .smem, ⟨0, _⟩ => ⟨S288, .i32⟩
  | .local _ .smem, ⟨1, _⟩ => ⟨S1, .i32⟩
  | _, _ => ⟨S147456x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v14 : BitVec 32) : BitVec 1 :=
  let arg0 : BitVec 32 := BitVec.ofNat 32 (i 0).val
  let v15 : BitVec 1 := Scalar.cmpi .slt arg0 v14
  let v16 : BitVec 32 := Scalar.extui v15
  let c0_i32_3 : BitVec 32 := 0#32
  let v17 : BitVec 1 := Scalar.cmpi .ne v16 c0_i32_3
  v17

def k0_cond3 (i : grid0.Coords) (v18 : BitVec 32) : BitVec 1 :=
  let arg0 : BitVec 32 := BitVec.ofNat 32 (i 0).val
  let v19 : BitVec 1 := Scalar.cmpi .sge arg0 v18
  let v20 : BitVec 32 := Scalar.extui v19
  let c0_i32_5 : BitVec 32 := 0#32
  let v21 : BitVec 1 := Scalar.cmpi .ne v20 c0_i32_5
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c96_i32 : BitVec 32 := 96#32
  let v2 : BitVec 32 := Scalar.addi c96_i32 v1
  let c0_i32 : BitVec 32 := 0#32
  let c0_i32_0 : BitVec 32 := 0#32
  let c0_i32_1 : BitVec 32 := 0#32
  ![v2.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c96_i32 : BitVec 32 := 96#32
  let v2 : BitVec 32 := Scalar.addi c96_i32 v1
  let c0_i32 : BitVec 32 := 0#32
  let c0_i32_0 : BitVec 32 := 0#32
  let c0_i32_1 : BitVec 32 := 0#32
  ![v2.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c96_i32 : BitVec 32 := 96#32
  let v2 : BitVec 32 := Scalar.addi c96_i32 v1
  let c0_i32 : BitVec 32 := 0#32
  let c0_i32_0 : BitVec 32 := 0#32
  let c0_i32_1 : BitVec 32 := 0#32
  ![v2.toNat, c0_i32.toNat, c0_i32_0.toNat]

def cc0_transform_5 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c96_i32 : BitVec 32 := 96#32
  let v2 : BitVec 32 := Scalar.addi c96_i32 v1
  let c0_i32 : BitVec 32 := 0#32
  let c0_i32_0 : BitVec 32 := 0#32
  let c0_i32_1 : BitVec 32 := 0#32
  ![v2.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S147456x256 : Shape := ⟨2, ![147456, 256]⟩
abbrev S288 : Shape := ⟨1, ![288]⟩
abbrev S1 : Shape := ⟨1, ![1]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S147456x512 : Shape := ⟨2, ![147456, 512]⟩
abbrev S_ : Shape := ⟨0, ![]⟩
abbrev S147456x1024 : Shape := ⟨2, ![147456, 1024]⟩
abbrev S288x512x1024 : Shape := ⟨3, ![288, 512, 1024]⟩
abbrev S1x32x1024x2048 : Shape := ⟨4, ![1, 32, 1024, 2048]⟩
abbrev S32x1024x2048 : Shape := ⟨3, ![32, 1024, 2048]⟩
abbrev S288x1 : Shape := ⟨2, ![288, 1]⟩
abbrev S288x1024x2048 : Shape := ⟨3, ![288, 1024, 2048]⟩
abbrev S1x32x2048 : Shape := ⟨3, ![1, 32, 2048]⟩
abbrev S32x2048 : Shape := ⟨2, ![32, 2048]⟩
abbrev S288x2048 : Shape := ⟨2, ![288, 2048]⟩
abbrev S1x32x1024x1024 : Shape := ⟨4, ![1, 32, 1024, 1024]⟩
abbrev S32x1024x1024 : Shape := ⟨3, ![32, 1024, 1024]⟩
abbrev S288x1024x1024 : Shape := ⟨3, ![288, 1024, 1024]⟩
abbrev S1x32x1024 : Shape := ⟨3, ![1, 32, 1024]⟩
abbrev S32x1024 : Shape := ⟨2, ![32, 1024]⟩
abbrev S288x1024 : Shape := ⟨2, ![288, 1024]⟩
abbrev S288x512x2048 : Shape := ⟨3, ![288, 512, 2048]⟩
abbrev S288x1x2048 : Shape := ⟨3, ![288, 1, 2048]⟩
abbrev S288x1x1024 : Shape := ⟨3, ![288, 1, 1024]⟩
abbrev S288x1x1 : Shape := ⟨3, ![288, 1, 1]⟩
abbrev S147456x2x2x256 : Shape := ⟨4, ![147456, 2, 2, 256]⟩
abbrev S147456x2x1x256 : Shape := ⟨4, ![147456, 2, 1, 256]⟩
abbrev S147456x2x256 : Shape := ⟨3, ![147456, 2, 256]⟩

abbrev nBuf : Space → Nat
  | .hbm => 119
  | .vmem => 0
  | .smem => 0
  | _ => 0

abbrev bufTy : (tb : Table) → Fin (tcTables nBuf tb) → BufTy
  | .hbm, ⟨0, _⟩ => ⟨S147456x256, .i32⟩
  | .hbm, ⟨1, _⟩ => ⟨S147456x256, .i32⟩
  | .hbm, ⟨2, _⟩ => ⟨S288, .i32⟩
  | .hbm, ⟨3, _⟩ => ⟨S1, .i32⟩
  | .hbm, ⟨4, _⟩ => ⟨S4x32x1024x2048, .f32⟩
  | .hbm, ⟨5, _⟩ => ⟨S4x32x2048, .f32⟩
  | .hbm, ⟨6, _⟩ => ⟨S4x32x1024x1024, .f32⟩
  | .hbm, ⟨7, _⟩ => ⟨S4x32x1024, .f32⟩
  | .hbm, ⟨8, _⟩ => ⟨S147456x512, .i32⟩
  | .hbm, ⟨9, _⟩ => ⟨S_, .i32⟩
  | .hbm, ⟨10, _⟩ => ⟨S147456x512, .i32⟩
  | .hbm, ⟨11, _⟩ => ⟨S147456x512, .i32⟩
  | .hbm, ⟨12, _⟩ => ⟨S147456x512, .f32⟩
  | .hbm, ⟨13, _⟩ => ⟨S_, .i32⟩
  | .hbm, ⟨14, _⟩ => ⟨S147456x512, .i32⟩
  | .hbm, ⟨15, _⟩ => ⟨S147456x512, .i32⟩
  | .hbm, ⟨16, _⟩ => ⟨S147456x512, .f32⟩
  | .hbm, ⟨17, _⟩ => ⟨S147456x1024, .f32⟩
  | .hbm, ⟨18, _⟩ => ⟨S288x512x1024, .f32⟩
  | .hbm, ⟨19, _⟩ => ⟨S1x32x1024x2048, .f32⟩
  | .hbm, ⟨20, _⟩ => ⟨S32x1024x2048, .f32⟩
  | .hbm, ⟨21, _⟩ => ⟨S_, .i32⟩
  | .hbm, ⟨22, _⟩ => ⟨S288, .i32⟩
  | .hbm, ⟨23, _⟩ => ⟨S288, .i1⟩
  | .hbm, ⟨24, _⟩ => ⟨S_, .i32⟩
  | .hbm, ⟨25, _⟩ => ⟨S288, .i32⟩
  | .hbm, ⟨26, _⟩ => ⟨S288, .i32⟩
  | .hbm, ⟨27, _⟩ => ⟨S288, .i32⟩
  | .hbm, ⟨28, _⟩ => ⟨S288x1, .i32⟩
  | .hbm, ⟨29, _⟩ => ⟨S288x1024x2048, .f32⟩
  | .hbm, ⟨30, _⟩ => ⟨S1x32x2048, .f32⟩
  | .hbm, ⟨31, _⟩ => ⟨S32x2048, .f32⟩
  | .hbm, ⟨32, _⟩ => ⟨S_, .i32⟩
  | .hbm, ⟨33, _⟩ => ⟨S288, .i32⟩
  | .hbm, ⟨34, _⟩ => ⟨S288, .i1⟩
  | .hbm, ⟨35, _⟩ => ⟨S_, .i32⟩
  | .hbm, ⟨36, _⟩ => ⟨S288, .i32⟩
  | .hbm, ⟨37, _⟩ => ⟨S288, .i32⟩
  | .hbm, ⟨38, _⟩ => ⟨S288, .i32⟩
  | .hbm, ⟨39, _⟩ => ⟨S288x1, .i32⟩
  | .hbm, ⟨40, _⟩ => ⟨S288x2048, .f32⟩
  | .hbm, ⟨41, _⟩ => ⟨S1x32x1024x1024, .f32⟩
  | .hbm, ⟨42, _⟩ => ⟨S32x1024x1024, .f32⟩
  | .hbm, ⟨43, _⟩ => ⟨S_, .i32⟩
  | .hbm, ⟨44, _⟩ => ⟨S288, .i32⟩
  | .hbm, ⟨45, _⟩ => ⟨S288, .i1⟩
  | .hbm, ⟨46, _⟩ => ⟨S_, .i32⟩
  | .hbm, ⟨47, _⟩ => ⟨S288, .i32⟩
  | .hbm, ⟨48, _⟩ => ⟨S288, .i32⟩
  | .hbm, ⟨49, _⟩ => ⟨S288, .i32⟩
  | .hbm, ⟨50, _⟩ => ⟨S288x1, .i32⟩
  | .hbm, ⟨51, _⟩ => ⟨S288x1024x1024, .f32⟩
  | .hbm, ⟨52, _⟩ => ⟨S1x32x1024, .f32⟩
  | .hbm, ⟨53, _⟩ => ⟨S32x1024, .f32⟩
  | .hbm, ⟨54, _⟩ => ⟨S_, .i32⟩
  | .hbm, ⟨55, _⟩ => ⟨S288, .i32⟩
  | .hbm, ⟨56, _⟩ => ⟨S288, .i1⟩
  | .hbm, ⟨57, _⟩ => ⟨S_, .i32⟩
  | .hbm, ⟨58, _⟩ => ⟨S288, .i32⟩
  | .hbm, ⟨59, _⟩ => ⟨S288, .i32⟩
  | .hbm, ⟨60, _⟩ => ⟨S288, .i32⟩
  | .hbm, ⟨61, _⟩ => ⟨S288x1, .i32⟩
  | .hbm, ⟨62, _⟩ => ⟨S288x1024, .f32⟩
  | .hbm, ⟨63, _⟩ => ⟨S288x512x2048, .f32⟩
  | .hbm, ⟨64, _⟩ => ⟨S288x1x2048, .f32⟩
  | .hbm, ⟨65, _⟩ => ⟨S288x512x2048, .f32⟩
  | .hbm, ⟨66, _⟩ => ⟨S288x512x2048, .f32⟩
  | .hbm, ⟨67, _⟩ => ⟨S288x512x1024, .f32⟩
  | .hbm, ⟨68, _⟩ => ⟨S_, .f32⟩
  | .hbm, ⟨69, _⟩ => ⟨S288x512x1024, .f32⟩
  | .hbm, ⟨70, _⟩ => ⟨S288x512x1024, .f32⟩
  | .hbm, ⟨71, _⟩ => ⟨S288x512x1024, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S288x512x1024, .f32⟩
  | .hbm, ⟨76, _⟩ => ⟨S288x512x1024, .f32⟩
  | .hbm, ⟨77, _⟩ => ⟨S_, .f32⟩
  | .hbm, ⟨78, _⟩ => ⟨S288x512x1024, .f32⟩
  | .hbm, ⟨79, _⟩ => ⟨S288x512x1024, .f32⟩
  | .hbm, ⟨80, _⟩ => ⟨S_, .f32⟩
  | .hbm, ⟨81, _⟩ => ⟨S288x512x1024, .f32⟩
  | .hbm, ⟨82, _⟩ => ⟨S288x512x1024, .f32⟩
  | .hbm, ⟨83, _⟩ => ⟨S288x512x1024, .f32⟩
  | .hbm, ⟨84, _⟩ => ⟨S_, .f32⟩
  | .hbm, ⟨85, _⟩ => ⟨S288x512x1024, .f32⟩
  | .hbm, ⟨86, _⟩ => ⟨S288x512x1024, .f32⟩
  | .hbm, ⟨87, _⟩ => ⟨S288x512x1024, .f32⟩
  | .hbm, ⟨88, _⟩ => ⟨S288x512x1024, .f32⟩
  | .hbm, ⟨89, _⟩ => ⟨S_, .f32⟩
  | .hbm, ⟨90, _⟩ => ⟨S288x512x1024, .f32⟩
  | .hbm, ⟨91, _⟩ => ⟨S288x512x1024, .f32⟩
  | .hbm, ⟨92, _⟩ => ⟨S_, .f32⟩
  | .hbm, ⟨93, _⟩ => ⟨S288x512x1024, .f32⟩
  | .hbm, ⟨94, _⟩ => ⟨S288x512x1024, .f32⟩
  | .hbm, ⟨95, _⟩ => ⟨S288x512x1024, .f32⟩
  | .hbm, ⟨96, _⟩ => ⟨S288x512x1024, .f32⟩
  | .hbm, ⟨97, _⟩ => ⟨S288x1x1024, .f32⟩
  | .hbm, ⟨98, _⟩ => ⟨S288x512x1024, .f32⟩
  | .hbm, ⟨99, _⟩ => ⟨S288x512x1024, .f32⟩
  | .hbm, ⟨100, _⟩ => ⟨S288, .i32⟩
  | .hbm, ⟨101, _⟩ => ⟨S_, .i32⟩
  | .hbm, ⟨102, _⟩ => ⟨S288, .i32⟩
  | .hbm, ⟨103, _⟩ => ⟨S288, .i1⟩
  | .hbm, ⟨104, _⟩ => ⟨S288x1x1, .i1⟩
  | .hbm, ⟨105, _⟩ => ⟨S_, .f32⟩
  | .hbm, ⟨106, _⟩ => ⟨S_, .f32⟩
  | .hbm, ⟨107, _⟩ => ⟨S288x512x1024, .i1⟩
  | .hbm, ⟨108, _⟩ => ⟨S288x512x1024, .f32⟩
  | .hbm, ⟨109, _⟩ => ⟨S288x512x1024, .f32⟩
  | .hbm, ⟨110, _⟩ => ⟨S147456x1024, .f32⟩
  | .hbm, ⟨111, _⟩ => ⟨S147456x1024, .bf16⟩
  | .hbm, ⟨112, _⟩ => ⟨S147456x2x2x256, .bf16⟩
  | .hbm, ⟨113, _⟩ => ⟨S147456x2x1x256, .bf16⟩
  | .hbm, ⟨114, _⟩ => ⟨S147456x2x256, .bf16⟩
  | .hbm, ⟨115, _⟩ => ⟨S147456x512, .bf16⟩
  | .hbm, ⟨116, _⟩ => ⟨S147456x2x1x256, .bf16⟩
  | .hbm, ⟨117, _⟩ => ⟨S147456x2x256, .bf16⟩
  | .hbm, ⟨118, _⟩ => ⟨S147456x512, .bf16⟩
  | _, _ => ⟨S147456x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_7 : Ref sig .tc := ⟨.hbm, 54, rfl⟩
abbrev main_v38 : Ref sig .tc := ⟨.hbm, 55, rfl⟩
abbrev main_v39 : Ref sig .tc := ⟨.hbm, 56, rfl⟩
abbrev main_c_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_cst_10 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_13 : Ref sig .tc := ⟨.hbm, 89, rfl⟩
abbrev main_v61 : Ref sig .tc := ⟨.hbm, 90, rfl⟩
abbrev main_v62 : Ref sig .tc := ⟨.hbm, 91, rfl⟩
abbrev main_cst_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_15 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩

abbrev nD : Nat := 1
abbrev τ : Topo := Topo.v7x

variable {F : FTy → Type} [FloatOps F]
-- ==== Kernel5.lean ====
abbrev S8x4352x1024 : Shape := ⟨3, ![8, 4352, 1024]⟩
abbrev S8x2x8x1024 : Shape := ⟨4, ![8, 2, 8, 1024]⟩
abbrev S1024x6144 : Shape := ⟨2, ![1024, 6144]⟩
abbrev S1024x64 : Shape := ⟨2, ![1024, 64]⟩
abbrev S_ : Shape := ⟨0, ![]⟩
abbrev S1024x128 : Shape := ⟨2, ![1024, 128]⟩
abbrev S1024x6272 : Shape := ⟨2, ![1024, 6272]⟩
abbrev S1x6272 : Shape := ⟨2, ![1, 6272]⟩
abbrev S8x4352x4096 : Shape := ⟨3, ![8, 4352, 4096]⟩
abbrev S8x4352x2048 : Shape := ⟨3, ![8, 4352, 2048]⟩
abbrev S8x4352x128 : Shape := ⟨3, ![8, 4352, 128]⟩
abbrev S1x256x1024 : Shape := ⟨3, ![1, 256, 1024]⟩
abbrev S1x1x8x1024 : Shape := ⟨4, ![1, 1, 8, 1024]⟩
abbrev S1x256x4096 : Shape := ⟨3, ![1, 256, 4096]⟩
abbrev S1x256x2048 : Shape := ⟨3, ![1, 256, 2048]⟩
abbrev S1x256x128 : Shape := ⟨3, ![1, 256, 128]⟩
abbrev S1x1x1x1024 : Shape := ⟨4, ![1, 1, 1, 1024]⟩
abbrev S1x1024 : Shape := ⟨2, ![1, 1024]⟩
abbrev S256x1024 : Shape := ⟨2, ![256, 1024]⟩
abbrev S1024x512 : Shape := ⟨2, ![1024, 512]⟩
abbrev S256x512 : Shape := ⟨2, ![256, 512]⟩
abbrev S1x512 : Shape := ⟨2, ![1, 512]⟩
abbrev S1x256x512 : Shape := ⟨3, ![1, 256, 512]⟩
abbrev S256x128 : Shape := ⟨2, ![256, 128]⟩
abbrev S1x128 : Shape := ⟨2, ![1, 128]⟩

abbrev nBuf : Space → Nat
  | .hbm => 14
  | .vmem => 12
  | .smem => 0
  | _ => 0

abbrev bufTy : (tb : Table) → Fin (tcTables nBuf tb) → BufTy
  | .hbm, ⟨0, _⟩ => ⟨S8x4352x1024, .f32⟩
  | .hbm, ⟨1, _⟩ => ⟨S8x2x8x1024, .f32⟩
  | .hbm, ⟨2, _⟩ => ⟨S1024x6144, .f32⟩
  | .hbm, ⟨3, _⟩ => ⟨S1024x64, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S1024x6272, .f32⟩
  | .hbm, ⟨8, _⟩ => ⟨S1024x6272, .bf16⟩
  | .hbm, ⟨9, _⟩ => ⟨S_, .f32⟩
  | .hbm, ⟨10, _⟩ => ⟨S1x6272, .f32⟩
  | .hbm, ⟨11, _⟩ => ⟨S8x4352x4096, .bf16⟩
  | .hbm, ⟨12, _⟩ => ⟨S8x4352x2048, .bf16⟩
  | .hbm, ⟨13, _⟩ => ⟨S8x4352x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1x8x1024, .f32⟩
  | .local _ .vmem, ⟨3, _⟩ => ⟨S1x1x8x1024, .f32⟩
  | .local _ .vmem, ⟨4, _⟩ => ⟨S1024x6272, .bf16⟩
  | .local _ .vmem, ⟨5, _⟩ => ⟨S1x6272, .f32⟩
  | .local _ .vmem, ⟨6, _⟩ => ⟨S1x256x4096, .bf16⟩
  | .local _ .vmem, ⟨7, _⟩ => ⟨S1x256x4096, .bf16⟩
  | .local _ .vmem, ⟨8, _⟩ => ⟨S1x256x2048, .bf16⟩
  | .local _ .vmem, ⟨9, _⟩ => ⟨S1x256x2048, .bf16⟩
  | .local _ .vmem, ⟨10, _⟩ => ⟨S1x256x128, .f32⟩
  | .local _ .vmem, ⟨11, _⟩ => ⟨S1x256x128, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![arg0.toNat, v1.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x6272 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x6272 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S8x4352x1024 : Shape := ⟨3, ![8, 4352, 1024]⟩
abbrev S8x2x8x1024 : Shape := ⟨4, ![8, 2, 8, 1024]⟩
abbrev S1024x6144 : Shape := ⟨2, ![1024, 6144]⟩
abbrev S1024x64 : Shape := ⟨2, ![1024, 64]⟩
abbrev S8x1x8x1024 : Shape := ⟨4, ![8, 1, 8, 1024]⟩
abbrev S8x8x1024 : Shape := ⟨3, ![8, 8, 1024]⟩
abbrev S8x256x1024 : Shape := ⟨3, ![8, 256, 1024]⟩
abbrev S8x1x1024 : Shape := ⟨3, ![8, 1, 1024]⟩
abbrev S8x1024 : Shape := ⟨2, ![8, 1024]⟩
abbrev S_ : Shape := ⟨0, ![]⟩
abbrev S8x4096x1024 : Shape := ⟨3, ![8, 4096, 1024]⟩
abbrev S8x4352x6144 : Shape := ⟨3, ![8, 4352, 6144]⟩
abbrev S8x4352x64 : Shape := ⟨3, ![8, 4352, 64]⟩
abbrev S8x4352x4096 : Shape := ⟨3, ![8, 4352, 4096]⟩
abbrev S8x4352x2048 : Shape := ⟨3, ![8, 4352, 2048]⟩
abbrev S8x4352x128 : Shape := ⟨3, ![8, 4352, 128]⟩

abbrev nBuf : Space → Nat
  | .hbm => 46
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S8x2x8x1024, .f32⟩
  | .hbm, ⟨2, _⟩ => ⟨S1024x6144, .f32⟩
  | .hbm, ⟨3, _⟩ => ⟨S1024x64, .f32⟩
  | .hbm, ⟨4, _⟩ => ⟨S8x1x8x1024, .f32⟩
  | .hbm, ⟨5, _⟩ => ⟨S8x8x1024, .f32⟩
  | .hbm, ⟨6, _⟩ => ⟨S8x1x8x1024, .f32⟩
  | .hbm, ⟨7, _⟩ => ⟨S8x8x1024, .f32⟩
  | .hbm, ⟨8, _⟩ => ⟨S8x256x1024, .f32⟩
  | .hbm, ⟨9, _⟩ => ⟨S8x1x1024, .f32⟩
  | .hbm, ⟨10, _⟩ => ⟨S8x1024, .f32⟩
  | .hbm, ⟨11, _⟩ => ⟨S8x1x1024, .f32⟩
  | .hbm, ⟨12, _⟩ => ⟨S_, .f32⟩
  | .hbm, ⟨13, _⟩ => ⟨S8x1x1024, .f32⟩
  | .hbm, ⟨14, _⟩ => ⟨S8x1x1024, .f32⟩
  | .hbm, ⟨15, _⟩ => ⟨S8x256x1024, .f32⟩
  | .hbm, ⟨16, _⟩ => ⟨S8x256x1024, .f32⟩
  | .hbm, ⟨17, _⟩ => ⟨S8x1x1024, .f32⟩
  | .hbm, ⟨18, _⟩ => ⟨S8x1024, .f32⟩
  | .hbm, ⟨19, _⟩ => ⟨S8x1x1024, .f32⟩
  | .hbm, ⟨20, _⟩ => ⟨S8x256x1024, .f32⟩
  | .hbm, ⟨21, _⟩ => ⟨S8x256x1024, .f32⟩
  | .hbm, ⟨22, _⟩ => ⟨S8x4096x1024, .f32⟩
  | .hbm, ⟨23, _⟩ => ⟨S8x1x1024, .f32⟩
  | .hbm, ⟨24, _⟩ => ⟨S8x1024, .f32⟩
  | .hbm, ⟨25, _⟩ => ⟨S8x1x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x4096x1024, .f32⟩
  | .hbm, ⟨30, _⟩ => ⟨S8x4096x1024, .f32⟩
  | .hbm, ⟨31, _⟩ => ⟨S8x1x1024, .f32⟩
  | .hbm, ⟨32, _⟩ => ⟨S8x1024, .f32⟩
  | .hbm, ⟨33, _⟩ => ⟨S8x1x1024, .f32⟩
  | .hbm, ⟨34, _⟩ => ⟨S8x4096x1024, .f32⟩
  | .hbm, ⟨35, _⟩ => ⟨S8x4096x1024, .f32⟩
  | .hbm, ⟨36, _⟩ => ⟨S8x4352x1024, .f32⟩
  | .hbm, ⟨37, _⟩ => ⟨S8x4352x6144, .f32⟩
  | .hbm, ⟨38, _⟩ => ⟨S8x4352x64, .f32⟩
  | .hbm, ⟨39, _⟩ => ⟨S8x4352x4096, .f32⟩
  | .hbm, ⟨40, _⟩ => ⟨S8x4352x4096, .bf16⟩
  | .hbm, ⟨41, _⟩ => ⟨S8x4352x2048, .f32⟩
  | .hbm, ⟨42, _⟩ => ⟨S8x4352x2048, .bf16⟩
  | .hbm, ⟨43, _⟩ => ⟨S_, .i32⟩
  | .hbm, ⟨44, _⟩ => ⟨S_, .f32⟩
  | .hbm, ⟨45, _⟩ => ⟨S8x4352x128, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_c : Ref sig .tc := ⟨.hbm, 43, rfl⟩
abbrev main_call0_v0 : Ref sig .tc := ⟨.hbm, 44, rfl⟩
abbrev main_v37 : Ref sig .tc := ⟨.hbm, 45, rfl⟩

abbrev nD : Nat := 1
abbrev τ : Topo := Topo.v7x

variable {F : FTy → Type} [FloatOps F]
-- ==== Kernel6.lean ====
abbrev S8x4352x1024 : Shape := ⟨3, ![8, 4352, 1024]⟩
abbrev S8x2x8x1024 : Shape := ⟨4, ![8, 2, 8, 1024]⟩
abbrev S1024x3072 : Shape := ⟨2, ![1024, 3072]⟩
abbrev S_ : Shape := ⟨0, ![]⟩
abbrev S1x3072 : Shape := ⟨2, ![1, 3072]⟩
abbrev S1x256x1024 : Shape := ⟨3, ![1, 256, 1024]⟩
abbrev S1x1x8x1024 : Shape := ⟨4, ![1, 1, 8, 1024]⟩
abbrev S1x1x1x1024 : Shape := ⟨4, ![1, 1, 1, 1024]⟩
abbrev S1x1024 : Shape := ⟨2, ![1, 1024]⟩
abbrev S256x1024 : Shape := ⟨2, ![256, 1024]⟩
abbrev S1024x512 : Shape := ⟨2, ![1024, 512]⟩
abbrev S256x512 : Shape := ⟨2, ![256, 512]⟩
abbrev S1x512 : Shape := ⟨2, ![1, 512]⟩
abbrev S1x256x512 : Shape := ⟨3, ![1, 256, 512]⟩

abbrev nBuf : Space → Nat
  | .hbm => 8
  | .vmem => 10
  | .smem => 0
  | _ => 0

abbrev bufTy : (tb : Table) → Fin (tcTables nBuf tb) → BufTy
  | .hbm, ⟨0, _⟩ => ⟨S8x4352x1024, .f32⟩
  | .hbm, ⟨1, _⟩ => ⟨S8x2x8x1024, .f32⟩
  | .hbm, ⟨2, _⟩ => ⟨S1024x3072, .f32⟩
  | .hbm, ⟨3, _⟩ => ⟨S1024x3072, .bf16⟩
  | .hbm, ⟨4, _⟩ => ⟨S_, .f32⟩
  | .hbm, ⟨5, _⟩ => ⟨S1x3072, .f32⟩
  | .hbm, ⟨6, _⟩ => ⟨S8x4352x1024, .bf16⟩
  | .hbm, ⟨7, _⟩ => ⟨S8x4352x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x8x1024, .f32⟩
  | .local _ .vmem, ⟨3, _⟩ => ⟨S1x1x8x1024, .f32⟩
  | .local _ .vmem, ⟨4, _⟩ => ⟨S1024x3072, .bf16⟩
  | .local _ .vmem, ⟨5, _⟩ => ⟨S1x3072, .f32⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![arg0.toNat, v1.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8x4352x1024 : Shape := ⟨3, ![8, 4352, 1024]⟩
abbrev S8x2x8x1024 : Shape := ⟨4, ![8, 2, 8, 1024]⟩
abbrev S1024x3072 : Shape := ⟨2, ![1024, 3072]⟩
abbrev S8x1x8x1024 : Shape := ⟨4, ![8, 1, 8, 1024]⟩
abbrev S8x8x1024 : Shape := ⟨3, ![8, 8, 1024]⟩
abbrev S8x256x1024 : Shape := ⟨3, ![8, 256, 1024]⟩
abbrev S8x1x1024 : Shape := ⟨3, ![8, 1, 1024]⟩
abbrev S8x1024 : Shape := ⟨2, ![8, 1024]⟩
abbrev S_ : Shape := ⟨0, ![]⟩
abbrev S8x4096x1024 : Shape := ⟨3, ![8, 4096, 1024]⟩
abbrev S8x4352x3072 : Shape := ⟨3, ![8, 4352, 3072]⟩

abbrev nBuf : Space → Nat
  | .hbm => 43
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S8x2x8x1024, .f32⟩
  | .hbm, ⟨2, _⟩ => ⟨S1024x3072, .f32⟩
  | .hbm, ⟨3, _⟩ => ⟨S8x1x8x1024, .f32⟩
  | .hbm, ⟨4, _⟩ => ⟨S8x8x1024, .f32⟩
  | .hbm, ⟨5, _⟩ => ⟨S8x1x8x1024, .f32⟩
  | .hbm, ⟨6, _⟩ => ⟨S8x8x1024, .f32⟩
  | .hbm, ⟨7, _⟩ => ⟨S8x256x1024, .f32⟩
  | .hbm, ⟨8, _⟩ => ⟨S8x1x1024, .f32⟩
  | .hbm, ⟨9, _⟩ => ⟨S8x1024, .f32⟩
  | .hbm, ⟨10, _⟩ => ⟨S8x1x1024, .f32⟩
  | .hbm, ⟨11, _⟩ => ⟨S_, .f32⟩
  | .hbm, ⟨12, _⟩ => ⟨S8x1x1024, .f32⟩
  | .hbm, ⟨13, _⟩ => ⟨S8x1x1024, .f32⟩
  | .hbm, ⟨14, _⟩ => ⟨S8x256x1024, .f32⟩
  | .hbm, ⟨15, _⟩ => ⟨S8x256x1024, .f32⟩
  | .hbm, ⟨16, _⟩ => ⟨S8x1x1024, .f32⟩
  | .hbm, ⟨17, _⟩ => ⟨S8x1024, .f32⟩
  | .hbm, ⟨18, _⟩ => ⟨S8x1x1024, .f32⟩
  | .hbm, ⟨19, _⟩ => ⟨S8x256x1024, .f32⟩
  | .hbm, ⟨20, _⟩ => ⟨S8x256x1024, .f32⟩
  | .hbm, ⟨21, _⟩ => ⟨S8x4096x1024, .f32⟩
  | .hbm, ⟨22, _⟩ => ⟨S8x1x1024, .f32⟩
  | .hbm, ⟨23, _⟩ => ⟨S8x1024, .f32⟩
  | .hbm, ⟨24, _⟩ => ⟨S8x1x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x1x1024, .f32⟩
  | .hbm, ⟨31, _⟩ => ⟨S8x1024, .f32⟩
  | .hbm, ⟨32, _⟩ => ⟨S8x1x1024, .f32⟩
  | .hbm, ⟨33, _⟩ => ⟨S8x4096x1024, .f32⟩
  | .hbm, ⟨34, _⟩ => ⟨S8x4096x1024, .f32⟩
  | .hbm, ⟨35, _⟩ => ⟨S8x4352x1024, .f32⟩
  | .hbm, ⟨36, _⟩ => ⟨S8x4352x3072, .f32⟩
  | .hbm, ⟨37, _⟩ => ⟨S8x4352x1024, .f32⟩
  | .hbm, ⟨38, _⟩ => ⟨S8x4352x1024, .f32⟩
  | .hbm, ⟨39, _⟩ => ⟨S8x4352x1024, .f32⟩
  | .hbm, ⟨40, _⟩ => ⟨S8x4352x1024, .bf16⟩
  | .hbm, ⟨41, _⟩ => ⟨S8x4352x1024, .f32⟩
  | .hbm, ⟨42, _⟩ => ⟨S8x4352x1024, .bf16⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩

abbrev nD : Nat := 1
abbrev τ : Topo := Topo.v7x

variable {F : FTy → Type} [FloatOps F]
-- ==== Kernel7.lean ====
abbrev S8x4352x1024 : Shape := ⟨3, ![8, 4352, 1024]⟩
abbrev S8x2x8x1024 : Shape := ⟨4, ![8, 2, 8, 1024]⟩
abbrev S1024x1024 : Shape := ⟨2, ![1024, 1024]⟩
abbrev S1024 : Shape := ⟨1, ![1024]⟩
abbrev S1x1024 : Shape := ⟨2, ![1, 1024]⟩
abbrev S1x256x1024 : Shape := ⟨3, ![1, 256, 1024]⟩
abbrev S1x1x8x1024 : Shape := ⟨4, ![1, 1, 8, 1024]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S8x4352x1024, .f32⟩
  | .hbm, ⟨1, _⟩ => ⟨S8x2x8x1024, .f32⟩
  | .hbm, ⟨2, _⟩ => ⟨S8x4352x1024, .bf16⟩
  | .hbm, ⟨3, _⟩ => ⟨S1024x1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S1024x1024, .bf16⟩
  | .hbm, ⟨8, _⟩ => ⟨S1x1024, .f32⟩
  | .hbm, ⟨9, _⟩ => ⟨S8x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x8x1024, .f32⟩
  | .local _ .vmem, ⟨3, _⟩ => ⟨S1x1x8x1024, .f32⟩
  | .local _ .vmem, ⟨4, _⟩ => ⟨S1x256x1024, .bf16⟩
  | .local _ .vmem, ⟨5, _⟩ => ⟨S1x256x1024, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x256x1024, .f32⟩
  | .local _ .vmem, ⟨11, _⟩ => ⟨S1x256x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![arg0.toNat, v1.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S8x4352x1024 : Shape := ⟨3, ![8, 4352, 1024]⟩
abbrev S8x2x8x1024 : Shape := ⟨4, ![8, 2, 8, 1024]⟩
abbrev S1024x1024 : Shape := ⟨2, ![1024, 1024]⟩
abbrev S1024 : Shape := ⟨1, ![1024]⟩
abbrev S1x1024 : Shape := ⟨2, ![1, 1024]⟩
abbrev S1x1x1024 : Shape := ⟨3, ![1, 1, 1024]⟩
abbrev S8x1x8x1024 : Shape := ⟨4, ![8, 1, 8, 1024]⟩
abbrev S8x8x1024 : Shape := ⟨3, ![8, 8, 1024]⟩
abbrev S8x256x1024 : Shape := ⟨3, ![8, 256, 1024]⟩
abbrev S_ : Shape := ⟨0, ![]⟩
abbrev S8x1x1024 : Shape := ⟨3, ![8, 1, 1024]⟩
abbrev S8x1024 : Shape := ⟨2, ![8, 1024]⟩
abbrev S8x4096x1024 : Shape := ⟨3, ![8, 4096, 1024]⟩
abbrev S8x4352 : Shape := ⟨2, ![8, 4352]⟩
abbrev S8x4352x1 : Shape := ⟨3, ![8, 4352, 1]⟩

abbrev nBuf : Space → Nat
  | .hbm => 70
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S8x2x8x1024, .f32⟩
  | .hbm, ⟨2, _⟩ => ⟨S8x4352x1024, .bf16⟩
  | .hbm, ⟨3, _⟩ => ⟨S1024x1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S8x4352x1024, .f32⟩
  | .hbm, ⟨8, _⟩ => ⟨S8x4352x1024, .f32⟩
  | .hbm, ⟨9, _⟩ => ⟨S1x1x1024, .f32⟩
  | .hbm, ⟨10, _⟩ => ⟨S8x4352x1024, .f32⟩
  | .hbm, ⟨11, _⟩ => ⟨S8x4352x1024, .f32⟩
  | .hbm, ⟨12, _⟩ => ⟨S8x1x8x1024, .f32⟩
  | .hbm, ⟨13, _⟩ => ⟨S8x8x1024, .f32⟩
  | .hbm, ⟨14, _⟩ => ⟨S8x1x8x1024, .f32⟩
  | .hbm, ⟨15, _⟩ => ⟨S8x8x1024, .f32⟩
  | .hbm, ⟨16, _⟩ => ⟨S8x256x1024, .f32⟩
  | .hbm, ⟨17, _⟩ => ⟨S_, .f32⟩
  | .hbm, ⟨18, _⟩ => ⟨S8x256x1024, .f32⟩
  | .hbm, ⟨19, _⟩ => ⟨S8x256x1024, .f32⟩
  | .hbm, ⟨20, _⟩ => ⟨S8x1x1024, .f32⟩
  | .hbm, ⟨21, _⟩ => ⟨S8x1024, .f32⟩
  | .hbm, ⟨22, _⟩ => ⟨S8x1x1024, .f32⟩
  | .hbm, ⟨23, _⟩ => ⟨S8x256x1024, .f32⟩
  | .hbm, ⟨24, _⟩ => ⟨S8x256x1024, .f32⟩
  | .hbm, ⟨25, _⟩ => ⟨S8x256x1024, .f32⟩
  | .hbm, ⟨26, _⟩ => ⟨S8x256x1024, .f32⟩
  | .hbm, ⟨27, _⟩ => ⟨S8x4096x1024, .f32⟩
  | .hbm, ⟨28, _⟩ => ⟨S_, .f32⟩
  | .hbm, ⟨29, _⟩ => ⟨S8x4096x1024, .f32⟩
  | .hbm, ⟨30, _⟩ => ⟨S8x4096x1024, .f32⟩
  | .hbm, ⟨31, _⟩ => ⟨S8x1x1024, .f32⟩
  | .hbm, ⟨32, _⟩ => ⟨S8x1024, .f32⟩
  | .hbm, ⟨33, _⟩ => ⟨S8x1x1024, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4352x1024, .f32⟩
  | .hbm, ⟨39, _⟩ => ⟨S_, .f32⟩
  | .hbm, ⟨40, _⟩ => ⟨S8x4352, .f32⟩
  | .hbm, ⟨41, _⟩ => ⟨S8x4352x1, .f32⟩
  | .hbm, ⟨42, _⟩ => ⟨S_, .f32⟩
  | .hbm, ⟨43, _⟩ => ⟨S8x4352x1, .f32⟩
  | .hbm, ⟨44, _⟩ => ⟨S8x4352x1, .f32⟩
  | .hbm, ⟨45, _⟩ => ⟨S8x4352x1024, .f32⟩
  | .hbm, ⟨46, _⟩ => ⟨S8x4352x1024, .f32⟩
  | .hbm, ⟨47, _⟩ => ⟨S8x4352x1024, .f32⟩
  | .hbm, ⟨48, _⟩ => ⟨S_, .f32⟩
  | .hbm, ⟨49, _⟩ => ⟨S8x4352, .f32⟩
  | .hbm, ⟨50, _⟩ => ⟨S8x4352x1, .f32⟩
  | .hbm, ⟨51, _⟩ => ⟨S_, .f32⟩
  | .hbm, ⟨52, _⟩ => ⟨S8x4352x1, .f32⟩
  | .hbm, ⟨53, _⟩ => ⟨S8x4352x1, .f32⟩
  | .hbm, ⟨54, _⟩ => ⟨S8x4352x1024, .f32⟩
  | .hbm, ⟨55, _⟩ => ⟨S8x4352x1024, .f32⟩
  | .hbm, ⟨56, _⟩ => ⟨S_, .f32⟩
  | .hbm, ⟨57, _⟩ => ⟨S8x4352x1, .f32⟩
  | .hbm, ⟨58, _⟩ => ⟨S8x4352x1, .f32⟩
  | .hbm, ⟨59, _⟩ => ⟨S8x4352x1, .f32⟩
  | .hbm, ⟨60, _⟩ => ⟨S8x4352x1024, .f32⟩
  | .hbm, ⟨61, _⟩ => ⟨S8x4352x1024, .f32⟩
  | .hbm, ⟨62, _⟩ => ⟨S1024, .f32⟩
  | .hbm, ⟨63, _⟩ => ⟨S1x1x1024, .f32⟩
  | .hbm, ⟨64, _⟩ => ⟨S8x4352x1024, .f32⟩
  | .hbm, ⟨65, _⟩ => ⟨S8x4352x1024, .f32⟩
  | .hbm, ⟨66, _⟩ => ⟨S1024, .f32⟩
  | .hbm, ⟨67, _⟩ => ⟨S1x1x1024, .f32⟩
  | .hbm, ⟨68, _⟩ => ⟨S8x4352x1024, .f32⟩
  | .hbm, ⟨69, _⟩ => ⟨S8x4352x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_1 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== Kernel8.lean ====
abbrev S8x4352x1024 : Shape := ⟨3, ![8, 4352, 1024]⟩
abbrev S8x2x8x1024 : Shape := ⟨4, ![8, 2, 8, 1024]⟩
abbrev S8x4352x2048 : Shape := ⟨3, ![8, 4352, 2048]⟩
abbrev S128 : Shape := ⟨1, ![128]⟩
abbrev S2048x1024 : Shape := ⟨2, ![2048, 1024]⟩
abbrev S1x1024 : Shape := ⟨2, ![1, 1024]⟩
abbrev S_ : Shape := ⟨0, ![]⟩
abbrev S1x128 : Shape := ⟨2, ![1, 128]⟩
abbrev S1x256x1024 : Shape := ⟨3, ![1, 256, 1024]⟩
abbrev S1x1x8x1024 : Shape := ⟨4, ![1, 1, 8, 1024]⟩
abbrev S1x256x2048 : Shape := ⟨3, ![1, 256, 2048]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S128x1024 : Shape := ⟨2, ![128, 1024]⟩
abbrev S256x1024 : Shape := ⟨2, ![256, 1024]⟩
abbrev S1x1x1x1024 : Shape := ⟨4, ![1, 1, 1, 1024]⟩

abbrev nBuf : Space → Nat
  | .hbm => 14
  | .vmem => 17
  | .smem => 0
  | _ => 0

abbrev bufTy : (tb : Table) → Fin (tcTables nBuf tb) → BufTy
  | .hbm, ⟨0, _⟩ => ⟨S8x4352x1024, .f32⟩
  | .hbm, ⟨1, _⟩ => ⟨S8x2x8x1024, .f32⟩
  | .hbm, ⟨2, _⟩ => ⟨S8x4352x2048, .bf16⟩
  | .hbm, ⟨3, _⟩ => ⟨S8x4352x2048, .bf16⟩
  | .hbm, ⟨4, _⟩ => ⟨S8x4352x2048, .bf16⟩
  | .hbm, ⟨5, _⟩ => ⟨S128, .f32⟩
  | .hbm, ⟨6, _⟩ => ⟨S2048x1024, .f32⟩
  | .hbm, ⟨7, _⟩ => ⟨S1x1024, .f32⟩
  | .hbm, ⟨8, _⟩ => ⟨S1x1024, .f32⟩
  | .hbm, ⟨9, _⟩ => ⟨S2048x1024, .bf16⟩
  | .hbm, ⟨10, _⟩ => ⟨S_, .f32⟩
  | .hbm, ⟨11, _⟩ => ⟨S1x1024, .f32⟩
  | .hbm, ⟨12, _⟩ => ⟨S1x128, .f32⟩
  | .hbm, ⟨13, _⟩ => ⟨S8x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x8x1024, .f32⟩
  | .local _ .vmem, ⟨3, _⟩ => ⟨S1x1x8x1024, .f32⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x256x2048, .bf16⟩
  | .local _ .vmem, ⟨9, _⟩ => ⟨S1x256x2048, .bf16⟩
  | .local _ .vmem, ⟨10, _⟩ => ⟨S1x128, .f32⟩
  | .local _ .vmem, ⟨11, _⟩ => ⟨S2048x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x256x1024, .f32⟩
  | .local _ .vmem, ⟨16, _⟩ => ⟨S1x256x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![arg0.toNat, v1.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference8Ideal.lean ====
abbrev S8x4352x1024 : Shape := ⟨3, ![8, 4352, 1024]⟩
abbrev S8x2x8x1024 : Shape := ⟨4, ![8, 2, 8, 1024]⟩
abbrev S8x4352x2048 : Shape := ⟨3, ![8, 4352, 2048]⟩
abbrev S128 : Shape := ⟨1, ![128]⟩
abbrev S2048x1024 : Shape := ⟨2, ![2048, 1024]⟩
abbrev S1x1024 : Shape := ⟨2, ![1, 1024]⟩
abbrev S8x4352x16x128 : Shape := ⟨4, ![8, 4352, 16, 128]⟩
abbrev S_ : Shape := ⟨0, ![]⟩
abbrev S8x4352x16 : Shape := ⟨3, ![8, 4352, 16]⟩
abbrev S8x4352x16x1 : Shape := ⟨4, ![8, 4352, 16, 1]⟩
abbrev S1x1x1x128 : Shape := ⟨4, ![1, 1, 1, 128]⟩
abbrev S8x1x8x1024 : Shape := ⟨4, ![8, 1, 8, 1024]⟩
abbrev S8x8x1024 : Shape := ⟨3, ![8, 8, 1024]⟩
abbrev S8x256x1024 : Shape := ⟨3, ![8, 256, 1024]⟩
abbrev S8x1x1024 : Shape := ⟨3, ![8, 1, 1024]⟩
abbrev S8x1024 : Shape := ⟨2, ![8, 1024]⟩
abbrev S8x4096x1024 : Shape := ⟨3, ![8, 4096, 1024]⟩
abbrev S8x4352 : Shape := ⟨2, ![8, 4352]⟩
abbrev S8x4352x1 : Shape := ⟨3, ![8, 4352, 1]⟩
abbrev S1024 : Shape := ⟨1, ![1024]⟩
abbrev S1x1x1024 : Shape := ⟨3, ![1, 1, 1024]⟩

abbrev nBuf : Space → Nat
  | .hbm => 101
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S8x2x8x1024, .f32⟩
  | .hbm, ⟨2, _⟩ => ⟨S8x4352x2048, .bf16⟩
  | .hbm, ⟨3, _⟩ => ⟨S8x4352x2048, .bf16⟩
  | .hbm, ⟨4, _⟩ => ⟨S8x4352x2048, .bf16⟩
  | .hbm, ⟨5, _⟩ => ⟨S128, .f32⟩
  | .hbm, ⟨6, _⟩ => ⟨S2048x1024, .f32⟩
  | .hbm, ⟨7, _⟩ => ⟨S1x1024, .f32⟩
  | .hbm, ⟨8, _⟩ => ⟨S1x1024, .f32⟩
  | .hbm, ⟨9, _⟩ => ⟨S8x4352x2048, .f32⟩
  | .hbm, ⟨10, _⟩ => ⟨S8x4352x2048, .f32⟩
  | .hbm, ⟨11, _⟩ => ⟨S8x4352x2048, .f32⟩
  | .hbm, ⟨12, _⟩ => ⟨S8x4352x16x128, .f32⟩
  | .hbm, ⟨13, _⟩ => ⟨S8x4352x16x128, .f32⟩
  | .hbm, ⟨14, _⟩ => ⟨S_, .f32⟩
  | .hbm, ⟨15, _⟩ => ⟨S8x4352x16, .f32⟩
  | .hbm, ⟨16, _⟩ => ⟨S8x4352x16x1, .f32⟩
  | .hbm, ⟨17, _⟩ => ⟨S_, .f32⟩
  | .hbm, ⟨18, _⟩ => ⟨S8x4352x16x1, .f32⟩
  | .hbm, ⟨19, _⟩ => ⟨S8x4352x16x1, .f32⟩
  | .hbm, ⟨20, _⟩ => ⟨S_, .f32⟩
  | .hbm, ⟨21, _⟩ => ⟨S8x4352x16x1, .f32⟩
  | .hbm, ⟨22, _⟩ => ⟨S8x4352x16x1, .f32⟩
  | .hbm, ⟨23, _⟩ => ⟨S8x4352x16x1, .f32⟩
  | .hbm, ⟨24, _⟩ => ⟨S8x4352x16x128, .f32⟩
  | .hbm, ⟨25, _⟩ => ⟨S8x4352x16x128, .f32⟩
  | .hbm, ⟨26, _⟩ => ⟨S1x1x1x128, .f32⟩
  | .hbm, ⟨27, _⟩ => ⟨S8x4352x16x128, .f32⟩
  | .hbm, ⟨28, _⟩ => ⟨S8x4352x16x128, .f32⟩
  | .hbm, ⟨29, _⟩ => ⟨S8x4352x2048, .f32⟩
  | .hbm, ⟨30, _⟩ => ⟨S8x4352x16x128, .f32⟩
  | .hbm, ⟨31, _⟩ => ⟨S8x4352x16x128, .f32⟩
  | .hbm, ⟨32, _⟩ => ⟨S8x4352x16x128, .f32⟩
  | .hbm, ⟨33, _⟩ => ⟨S_, .f32⟩
  | .hbm, ⟨34, _⟩ => ⟨S8x4352x16x128, .f32⟩
  | .hbm, ⟨35, _⟩ => ⟨S8x4352x16x128, .f32⟩
  | .hbm, ⟨36, _⟩ => ⟨S_, .f32⟩
  | .hbm, ⟨37, _⟩ => ⟨S8x4352x16x128, .f32⟩
  | .hbm, ⟨38, _⟩ => ⟨S8x4352x16x128, .f32⟩
  | .hbm, ⟨39, _⟩ => ⟨S8x4352x16x128, .f32⟩
  | .hbm, ⟨40, _⟩ => ⟨S8x4352x16x128, .f32⟩
  | .hbm, ⟨41, _⟩ => ⟨S8x4352x2048, .f32⟩
  | .hbm, ⟨42, _⟩ => ⟨S8x4352x1024, .f32⟩
  | .hbm, ⟨43, _⟩ => ⟨S8x1x8x1024, .f32⟩
  | .hbm, ⟨44, _⟩ => ⟨S8x8x1024, .f32⟩
  | .hbm, ⟨45, _⟩ => ⟨S8x1x8x1024, .f32⟩
  | .hbm, ⟨46, _⟩ => ⟨S8x8x1024, .f32⟩
  | .hbm, ⟨47, _⟩ => ⟨S8x256x1024, .f32⟩
  | .hbm, ⟨48, _⟩ => ⟨S_, .f32⟩
  | .hbm, ⟨49, _⟩ => ⟨S8x256x1024, .f32⟩
  | .hbm, ⟨50, _⟩ => ⟨S8x256x1024, .f32⟩
  | .hbm, ⟨51, _⟩ => ⟨S8x1x1024, .f32⟩
  | .hbm, ⟨52, _⟩ => ⟨S8x1024, .f32⟩
  | .hbm, ⟨53, _⟩ => ⟨S8x1x1024, .f32⟩
  | .hbm, ⟨54, _⟩ => ⟨S8x256x1024, .f32⟩
  | .hbm, ⟨55, _⟩ => ⟨S8x256x1024, .f32⟩
  | .hbm, ⟨56, _⟩ => ⟨S8x256x1024, .f32⟩
  | .hbm, ⟨57, _⟩ => ⟨S8x256x1024, .f32⟩
  | .hbm, ⟨58, _⟩ => ⟨S8x4096x1024, .f32⟩
  | .hbm, ⟨59, _⟩ => ⟨S_, .f32⟩
  | .hbm, ⟨60, _⟩ => ⟨S8x4096x1024, .f32⟩
  | .hbm, ⟨61, _⟩ => ⟨S8x4096x1024, .f32⟩
  | .hbm, ⟨62, _⟩ => ⟨S8x1x1024, .f32⟩
  | .hbm, ⟨63, _⟩ => ⟨S8x1024, .f32⟩
  | .hbm, ⟨64, _⟩ => ⟨S8x1x1024, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | .hbm, ⟨68, _⟩ => ⟨S8x4096x1024, .f32⟩
  | .hbm, ⟨69, _⟩ => ⟨S8x4352x1024, .f32⟩
  | .hbm, ⟨70, _⟩ => ⟨S_, .f32⟩
  | .hbm, ⟨71, _⟩ => ⟨S8x4352, .f32⟩
  | .hbm, ⟨72, _⟩ => ⟨S8x4352x1, .f32⟩
  | .hbm, ⟨73, _⟩ => ⟨S_, .f32⟩
  | .hbm, ⟨74, _⟩ => ⟨S8x4352x1, .f32⟩
  | .hbm, ⟨75, _⟩ => ⟨S8x4352x1, .f32⟩
  | .hbm, ⟨76, _⟩ => ⟨S8x4352x1024, .f32⟩
  | .hbm, ⟨77, _⟩ => ⟨S8x4352x1024, .f32⟩
  | .hbm, ⟨78, _⟩ => ⟨S8x4352x1024, .f32⟩
  | .hbm, ⟨79, _⟩ => ⟨S_, .f32⟩
  | .hbm, ⟨80, _⟩ => ⟨S8x4352, .f32⟩
  | .hbm, ⟨81, _⟩ => ⟨S8x4352x1, .f32⟩
  | .hbm, ⟨82, _⟩ => ⟨S_, .f32⟩
  | .hbm, ⟨83, _⟩ => ⟨S8x4352x1, .f32⟩
  | .hbm, ⟨84, _⟩ => ⟨S8x4352x1, .f32⟩
  | .hbm, ⟨85, _⟩ => ⟨S8x4352x1024, .f32⟩
  | .hbm, ⟨86, _⟩ => ⟨S8x4352x1024, .f32⟩
  | .hbm, ⟨87, _⟩ => ⟨S_, .f32⟩
  | .hbm, ⟨88, _⟩ => ⟨S8x4352x1, .f32⟩
  | .hbm, ⟨89, _⟩ => ⟨S8x4352x1, .f32⟩
  | .hbm, ⟨90, _⟩ => ⟨S8x4352x1, .f32⟩
  | .hbm, ⟨91, _⟩ => ⟨S8x4352x1024, .f32⟩
  | .hbm, ⟨92, _⟩ => ⟨S8x4352x1024, .f32⟩
  | .hbm, ⟨93, _⟩ => ⟨S1024, .f32⟩
  | .hbm, ⟨94, _⟩ => ⟨S1x1x1024, .f32⟩
  | .hbm, ⟨95, _⟩ => ⟨S8x4352x1024, .f32⟩
  | .hbm, ⟨96, _⟩ => ⟨S8x4352x1024, .f32⟩
  | .hbm, ⟨97, _⟩ => ⟨S1024, .f32⟩
  | .hbm, ⟨98, _⟩ => ⟨S1x1x1024, .f32⟩
  | .hbm, ⟨99, _⟩ => ⟨S8x4352x1024, .f32⟩
  | .hbm, ⟨100, _⟩ => ⟨S8x4352x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_2 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_3 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_4 : Ref sig .tc := ⟨.hbm, 70, rfl⟩
abbrev main_v48 : Ref sig .tc := ⟨.hbm, 71, rfl⟩
abbrev main_v49 : Ref sig .tc := ⟨.hbm, 72, rfl⟩
abbrev main_cst_5 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_6 : Ref sig .tc := ⟨.hbm, 79, rfl⟩
abbrev main_v55 : Ref sig .tc := ⟨.hbm, 80, rfl⟩
abbrev main_v56 : Ref sig .tc := ⟨.hbm, 81, rfl⟩
abbrev main_cst_7 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_8 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩

abbrev nD : Nat := 1
abbrev τ : Topo := Topo.v7x

variable {F : FTy → Type} [FloatOps F]
-- ==== Proof.Offsets.lean ====
/-
  The words the gather's loop carries, and what they make of its slices: before trip `k` the five carried words are
  `k + 1` (the index blocks asked for, at most 34), `k` (the index blocks taken), `k` (the row blocks filled), `k - 1`
  (the row blocks written out) and `k` again, back to 0 after the last. From them: which branches trip `k` takes, which of
  the two slots, cells and which block each slice names, and that every side condition the body assumes holds.
-/
module

public import proofs.«01_k».proof.Proof.Gen.KernelIdeal
public import proofs.«01_k».proof.Proof.Gen.KernelIdeal.Skeleton

@[expose] public section

set_option Elab.async false
set_option synthInstance.maxSize 4096

noncomputable section

namespace Cert.Proof.Gather

open Cert.KernelIdeal Cert.KernelIdeal.Gen
open Idealize.ShloMosaic

/-- The trips of the loop. -/
abbrev Tr : Type := Fin k0_t1_loop.trips

theorem trips_eq : k0_t1_loop.trips = 34 := by decide +kernel

/-- Index blocks asked for before trip `k`. -/
abbrev w6 (k : ℕ) : BitVec 32 := BitVec.ofNat 32 (min (k + 1) 34)
/-- Blocks taken before trip `k`. -/
abbrev w7 (k : ℕ) : BitVec 32 := BitVec.ofNat 32 k
/-- Row blocks written out before trip `k`. -/
abbrev w9 (k : ℕ) : BitVec 32 := BitVec.ofNat 32 (k - 1)
/-- The block trip `k` works on, 0 after the last. -/
abbrev w10 (k : ℕ) : BitVec 32 := BitVec.ofNat 32 (if k = 34 then 0 else k)
/-- The five words carried into trip `k`. -/
abbrev words (k : ℕ) : BitVec 32 × BitVec 32 × BitVec 32 × BitVec 32 × BitVec 32 := (w6 k, w7 k, w7 k, w9 k, w10 k)

/-- Subcore `L`'s number among the 32. -/
abbrev wid (L : grid0.Coords) : ℕ := 16 * (L 0).val + (L 1).val
/-- The array's block that is subcore `L`'s `k`-th. -/
abbrev gb (L : grid0.Coords) (k : ℕ) : ℕ := 34 * wid L + k

theorem cond1_lt : ∀ (L : grid0.Coords) (k : Tr), k.val < 33 → k0_cond1 L k (w10 k.val) = 1#1 := by decide +kernel
theorem cond1_last : ∀ (L : grid0.Coords) (k : Tr), ¬ k.val < 33 → ¬ k0_cond1 L k (w10 k.val) = 1#1 := by decide +kernel
theorem cond2_true : ∀ (L : grid0.Coords) (k : Tr), k0_cond2 L k (w10 k.val) = 1#1 := by decide +kernel
theorem cond5_true : ∀ (L : grid0.Coords) (k : Tr), k0_cond5 L k (w10 k.val) = 1#1 := by decide +kernel
theorem cond7_first : ∀ (L : grid0.Coords) (k : Tr), k.val = 0 → ¬ k0_cond7 L k (w10 k.val) = 1#1 := by decide +kernel
theorem cond7_pos : ∀ (L : grid0.Coords) (k : Tr), k.val ≠ 0 → k0_cond7 L k (w10 k.val) = 1#1 := by decide +kernel

theorem off4_eq : ∀ k : Tr, k.val < 33 → k0_off4 (w6 k.val) = ![(k.val + 1) % 2, 0, 0] := by decide +kernel
theorem off5_eq : ∀ (L : grid0.Coords) (k : Tr), k.val < 33 → k0_off5 L (w10 k.val) = ![0, 128 * gb L (k.val + 1)] := by decide +kernel
theorem off6_eq : ∀ k : Tr, k.val < 33 → k0_off6 (w6 k.val) = ![(k.val + 1) % 2] := by decide +kernel
theorem off7_eq : ∀ k : Tr, k0_off7 (w7 k.val) = ![k.val % 2, 0, 0] := by decide +kernel
theorem off8_eq : ∀ (L : grid0.Coords) (k : Tr), k0_off8 L (w10 k.val) = ![0, 128 * gb L k.val] := by decide +kernel
theorem off9_eq : ∀ k : Tr, k0_off9 (w7 k.val) = ![k.val % 2] := by decide +kernel
theorem off10_eq : ∀ k : Tr, k0_off10 (w7 k.val) = ![k.val % 2, 0, 0] := by decide +kernel
theorem off11_eq : ∀ k : Tr, k0_off11 (w7 k.val) = ![k.val % 2, 0, 0] := by decide +kernel
theorem off12_eq : ∀ k : Tr, k0_off12 (w7 k.val) = ![k.val % 2, 0, 0] := by decide +kernel
theorem off13_eq : ∀ (L : grid0.Coords) (k : Tr), k0_off13 L (w10 k.val) = ![128 * gb L k.val, 0] := by decide +kernel
theorem off14_eq : ∀ k : Tr, k0_off14 (w7 k.val) = ![k.val % 2] := by decide +kernel
theorem off15_eq : ∀ k : Tr, k.val ≠ 0 → k0_off15 (w9 k.val) = ![(k.val + 1) % 2, 0, 0] := by decide +kernel
theorem off16_eq : ∀ (L : grid0.Coords) (k : Tr), k.val ≠ 0 → k0_off16 L (w10 k.val) = ![128 * gb L (k.val - 1), 0] := by decide +kernel
theorem off17_eq : ∀ k : Tr, k.val ≠ 0 → k0_off17 (w9 k.val) = ![(k.val + 1) % 2] := by decide +kernel
theorem off19_eq : ∀ L : grid0.Coords, k0_off19 L (w10 34) = ![128 * gb L 33, 0] := by decide +kernel
theorem off20_eq : k0_off20 (w9 34) = ![1] := by decide +kernel
theorem off21_eq : k0_off21 (w9 34) = ![1, 0, 0] := by decide +kernel
theorem off2_eq : ∀ L : grid0.Coords, k0_off2 L = ![0, 128 * gb L 0] := by decide +kernel

theorem chk1_trip : ∀ (L : grid0.Coords) (k : Tr), k0_chk1 L k (w6 k.val) (w7 k.val) (w7 k.val) (w9 k.val) (w10 k.val) := by decide +kernel
theorem chk2_trip : ∀ k : Tr, k0_chk2 (w7 k.val) := by decide +kernel
theorem chk3_trip : ∀ k : Tr, k0_chk3 (w7 k.val) := by decide +kernel
theorem chk4_last : k0_chk4 (w9 34) := by decide +kernel
theorem chk5_last : ∀ L : grid0.Coords, k0_chk5 L (w10 34) := by decide +kernel

end Cert.Proof.Gather

end
-- ==== Proof.Base.lean ====
/-
  The gather as the launch theorem sees it, the slices its subcores address under one name each, and the two steps its
  body is made of: a transfer issued, and a transfer by a list of row numbers issued and waited for.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ShareLeaves
public import proofs.«01_k».proof.Proof.Offsets

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers, whole -/

abbrev xLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

/-- The table, the row numbers, the result; a subcore's two slots of row numbers and two slots of rows. -/
abbrev xV : Memref sig .scVector .hbm S155648x256 .i32 := Memref.whole main_arg0_scv
abbrev nV : Memref sig .scVector .hbm S1x139264 .i32 := Memref.whole main_arg1_scv
abbrev oV : Memref sig .scVector .hbm S139264x256 .i32 := Memref.whole main_v0_scv
abbrev bI : Memref sig .scVector .vmem S2x1x128 .i32 := Memref.whole cc0_scoped0
abbrev bO : Memref sig .scVector .vmem S2x128x256 .i32 := Memref.whole cc0_scoped2

abbrev cV (L : grid0.Coords) : Fin τ.nSC := (L 0).castLE hcore0
abbrev jV (L : grid0.Coords) : Fin τ.nSub := (L 1).castLE hsub0
/-- Vector subcore `L` of device `d`. -/
abbrev th (d : Dev nD) (L : grid0.Coords) : Thread nD τ := V d (cV L) (jV L)

/-! ## The slices, one name each -/

theorem slotI_inb (s : Fin 2) : ∀ a, (![s.val, 0, 0] : Fin 3 → ℕ) a + S1x1x128.size a ≤ S2x1x128.size a := by revert s; decide
theorem slotO_inb (s : Fin 2) : ∀ a, (![s.val, 0, 0] : Fin 3 → ℕ) a + S1x128x256.size a ≤ S2x128x256.size a := by revert s; decide
theorem cell_inb (s : Fin 2) : ∀ a, (![s.val] : Fin 1 → ℕ) a + S1.size a ≤ S2.size a := by revert s; decide
theorem wid_lt (L : grid0.Coords) : wid L < 32 := by
  have h0 : (L 0).val < 2 := (L 0).isLt
  have h1 : (L 1).val < 16 := (L 1).isLt
  unfold wid; omega
theorem blkI_inb (L : grid0.Coords) (b : Fin 34) : ∀ a, (![0, 128 * gb L b.val] : Fin 2 → ℕ) a + S1x128.size a ≤ S1x139264.size a := by
  have := wid_lt L; have := b.isLt
  intro a; match a with
  | 0 => show 0 + 1 ≤ 1; omega
  | 1 => show 128 * gb L b.val + 128 ≤ 139264; unfold gb; omega
theorem blkO_inb (L : grid0.Coords) (b : Fin 34) : ∀ a, (![128 * gb L b.val, 0] : Fin 2 → ℕ) a + S128x256.size a ≤ S139264x256.size a := by
  have := wid_lt L; have := b.isLt
  intro a; match a with
  | 0 => show 128 * gb L b.val + 128 ≤ 139264; unfold gb; omega
  | 1 => show 0 + 256 ≤ 256; omega

/-- Slot `s` of row numbers. -/
abbrev slotI (s : Fin 2) : Memref sig .scVector .vmem S1x128 .i32 :=
  (bI.slice (Rect.unit (s := S2x1x128) ![s.val, 0, 0] S1x1x128.size (slotI_inb s)) (fun _ => rfl)).squeeze S1x128 squeezes_S1x1x128_S1x128
/-- Slot `s` of rows. -/
abbrev slotO (s : Fin 2) : Memref sig .scVector .vmem S128x256 .i32 :=
  (bO.slice (Rect.unit (s := S2x128x256) ![s.val, 0, 0] S1x128x256.size (slotO_inb s)) (fun _ => rfl)).squeeze S128x256 squeezes_S1x128x256_S128x256
/-- Slot `s`'s cell for the row numbers' transfers. -/
abbrev semI (s : Fin 2) : DmaSems sig S_ :=
  (cc0_scoped1.slice (Rect.unit (s := S2) ![s.val] S1.size (cell_inb s))).squeeze S_ squeezes_S1_S_
/-- Slot `s`'s cell for the rows' transfers out. -/
abbrev semO (s : Fin 2) : DmaSems sig S_ :=
  (cc0_scoped3.slice (Rect.unit (s := S2) ![s.val] S1.size (cell_inb s))).squeeze S_ squeezes_S1_S_
/-- Subcore `L`'s `b`-th block of row numbers. -/
abbrev blkI (L : grid0.Coords) (b : Fin 34) : Memref sig .scVector .hbm S1x128 .i32 :=
  nV.slice (Rect.unit (s := S1x139264) ![0, 128 * gb L b.val] S1x128.size (blkI_inb L b)) (fun _ => rfl)
/-- Subcore `L`'s `b`-th block of the result. -/
abbrev blkO (L : grid0.Coords) (b : Fin 34) : Memref sig .scVector .hbm S128x256 .i32 :=
  oV.slice (Rect.unit (s := S139264x256) ![128 * gb L b.val, 0] S128x256.size (blkO_inb L b)) (fun _ => rfl)
/-- The table's left and right half rows. -/
abbrev xL : Memref sig .scVector .hbm S155648x128 .i32 :=
  xV.slice (Rect.unit (s := S155648x256) ![0, 0] S155648x128.size inb_S155648x256_S155648x128_0_0) (fun _ => rfl)
abbrev xR : Memref sig .scVector .hbm S155648x128 .i32 :=
  xV.slice (Rect.unit (s := S155648x256) ![0, 128] S155648x128.size inb_S155648x256_S155648x128_0_128) (fun _ => rfl)
/-- A slot's left and right half rows. -/
abbrev halfL (s : Fin 2) : Memref sig .scVector .vmem S128x128 .i32 :=
  (slotO s).slice (Rect.unit (s := S128x256) ![0, 0] S128x128.size inb_S128x256_S128x128_0_0) (fun _ => rfl)
abbrev halfR (s : Fin 2) : Memref sig .scVector .vmem S128x128 .i32 :=
  (slotO s).slice (Rect.unit (s := S128x256) ![0, 128] S128x128.size inb_S128x256_S128x128_0_128) (fun _ => rfl)
/-- A slot of row numbers as the list a transfer by rows reads. -/
abbrev list (s : Fin 2) : Memref sig .scVector .vmem S128 .i32 :=
  ((slotI s).slice (Rect.unit (s := S1x128) ![0, 0] S1x128.size inb_S1x128_S1x128_0_0) (fun _ => rfl)).squeeze S128 squeezes_S1x128_S128

theorem slotI_of {off : Fin 3 → ℕ} {s : Fin 2} (e : off = ![s.val, 0, 0]) (hh hs) :
    (bI.slice (Rect.unit (s := S2x1x128) off S1x1x128.size hh) hs).squeeze S1x128 squeezes_S1x1x128_S1x128 = slotI s :=
  congrArg (fun M : Memref sig .scVector .vmem S1x1x128 .i32 => M.squeeze S1x128 squeezes_S1x1x128_S1x128) (Memref.slice_unit_congr _ e _ _ _ _)
theorem slotO_of {off : Fin 3 → ℕ} {s : Fin 2} (e : off = ![s.val, 0, 0]) (hh hs) :
    (bO.slice (Rect.unit (s := S2x128x256) off S1x128x256.size hh) hs).squeeze S128x256 squeezes_S1x128x256_S128x256 = slotO s :=
  congrArg (fun M : Memref sig .scVector .vmem S1x128x256 .i32 => M.squeeze S128x256 squeezes_S1x128x256_S128x256) (Memref.slice_unit_congr _ e _ _ _ _)
theorem semI_of {off : Fin 1 → ℕ} {s : Fin 2} (e : off = ![s.val]) (hh) :
    (cc0_scoped1.slice (Rect.unit (s := S2) off S1.size hh)).squeeze S_ squeezes_S1_S_ = semI s :=
  congrArg (fun A : DmaSems sig S1 => A.squeeze S_ squeezes_S1_S_) (SemArray.slice_unit_congr _ e _ _)
theorem semO_of {off : Fin 1 → ℕ} {s : Fin 2} (e : off = ![s.val]) (hh) :
    (cc0_scoped3.slice (Rect.unit (s := S2) off S1.size hh)).squeeze S_ squeezes_S1_S_ = semO s :=
  congrArg (fun A : DmaSems sig S1 => A.squeeze S_ squeezes_S1_S_) (SemArray.slice_unit_congr _ e _ _)
theorem blkI_of {off : Fin 2 → ℕ} {L : grid0.Coords} {b : Fin 34} (e : off = ![0, 128 * gb L b.val]) (hh hs) :
    nV.slice (Rect.unit (s := S1x139264) off S1x128.size hh) hs = blkI L b := Memref.slice_unit_congr _ e _ _ _ _
theorem blkO_of {off : Fin 2 → ℕ} {L : grid0.Coords} {b : Fin 34} (e : off = ![128 * gb L b.val, 0]) (hh hs) :
    oV.slice (Rect.unit (s := S139264x256) off S128x256.size hh) hs = blkO L b := Memref.slice_unit_congr _ e _ _ _ _

/-! ## The two steps -/

section Steps

variable [FloatOps F] (d : Dev nD) (L : grid0.Coords)

/-- A transfer issued at the head of a program: its source, destination and cell are named by what they are equal to. -/
theorem dma_step {sp sp' : Space} {s : Shape} {e : EltTy} {src src' : Memref sig (th d L).2.kind sp s e} {dst dst' : Memref sig (th d L).2.kind sp' s e}
    {sm sm' : DmaSems sig S_} (hsrc : src = src') (hdst : dst = dst') (hsm : sm = sm')
    {h₁ : src.view.WordExact} {h₂ : dst.view.WordExact} {h₃ : DmaTarget.Typed (nD := nD) sp (.dma sm.sem) (.here dst)} {Q : PUnit → sProp 𝕄}
    {q : PosShare TreeShare} {fs : Buf (Elt F) (src'.view.loc (th d L))} {fd : Buf (Elt F) (dst'.view.loc (th d L))}
    (hN : 0 < dst'.view.dmaCredit) :
    iprop((src'.view.loc (th d L) ↦[src'.view.set]{q} fs) ∗ (dst'.view.loc (th d L) ↦[dst'.view.set]{fullShare} fd) ∗ semVal (th d L, SemLoc.dma sm'.sem) 0)
      ⊢ iprop((Transfers.Flight countersEmb (th d L) (.dma sm'.sem) (default : HIx 1) dst'.view.dmaCredit
            iprop((dst'.view.loc (th d L) ↦[dst'.view.set]{fullShare} (dst'.view.write (Elt F) fd (src'.view.read (Elt F) fs) Finset.univ))
              ∗ (src'.view.loc (th d L) ↦[src'.view.set]{q} fs)) -∗ Q ⟨⟩)
          -∗ wp frame (wpE (defs₀ (F := F)) 𝒱₀ (th d L) none) Set.univ
              (Prog.lift (.enqueueDma src (.here dst) (.dma sm.sem) h₁ h₂ h₃)) Q) := by
  subst hsrc hdst hsm
  iintro H HK
  iapply (Transfers.wp_dmaLocal countersEmb 𝒱₀ (th d L) none (default : HIx 1) dst.view.dmaCredit rfl hN (Finset.Subset.refl _)) $$ H
  iintro Hfl
  rw [wp_ret]
  imodintro
  iapply HK; iexact Hfl

/-- A wait for a transfer in flight. -/
theorem wait_step {sp sp' : Space} {s s' : Shape} {e e' : EltTy} {src src' : Memref sig (th d L).2.kind sp s e} {dst dst' : Memref sig (th d L).2.kind sp' s' e'}
    {sm sm' : DmaSems sig S_} (hsm : sm = sm')
    {h₁ : src.view.WordExact} {h₂ : dst.view.WordExact} {Q : PUnit → sProp 𝕄} {N : ℕ} (hN : dst.view.dmaCredit = N) {Dl : sProp 𝕄}
    {O : CellTallies nD τ sig (HIx 1)} {W : Waits sig (HIx 1)} :
    iprop(Transfers.MayWaits (th d L) (default : HIx 1) O ∗ Transfers.Flight countersEmb (th d L) (.dma sm'.sem) (default : HIx 1) N Dl ∗ owes (th d L) O W)
      ⊢ iprop((iprop(Dl ∗ semVal (th d L, SemLoc.dma sm'.sem) 0 ∗ owes (th d L) O (insert (SemLoc.dma sm'.sem, (default : HIx 1)) W)) -∗ Q ⟨⟩)
          -∗ wp frame (wpE (defs₀ (F := F)) 𝒱₀ (th d L) none) Set.univ (Prog.lift (.waitDma2 sm.sem src dst h₁ h₂)) Q) := by
  subst hsm
  iintro ⟨Hmw, Hfl, HO⟩ HK
  iapply (Transfers.wp_waitLocalO countersEmb 𝒱₀ (th d L) none (default : HIx 1) hN) $$ [Hmw Hfl HO]
  · isplitl [Hfl]; · iexact Hfl
    isplitl [HO]; · iexact HO
    iapply (Transfers.MayWaits.elim (SemLoc.dma sm.sem)) $$ Hmw
  iintro H
  rw [wp_ret]
  imodintro
  iapply HK; iexact H

/-- A transfer of half rows by a list of row numbers, issued and waited for. Its source, destination and list are
    named by what they are equal to, and held within `Sx`, `Sd` and `So`. -/
theorem gather_step {src : Memref sig (th d L).2.kind .hbm S155648x128 .i32} {dst dst' dst₂ : Memref sig (th d L).2.kind .vmem S128x128 .i32}
    {offs offs' : Memref sig (th d L).2.kind .vmem S128 .i32} {sem : DmaSems sig S_} (hdst : dst = dst') (hoffs : offs = offs')
    {hp : (th d L).2.kind = .scVector} {hg : S155648x128.Gathers 0 S128x128} {hn : S128.numel = S128x128.size hg.axis'}
    {h₁ : src.view.WordExact} {he : EltTy.i32.bits = 32} {hsp : Space.hbm = .hbm ∨ Space.hbm = .shared} {hr : S155648x128.StreamRows 0}
    {src₂ : Memref sig (th d L).2.kind .hbm S155648x128 .i32} {h₂ : src₂.view.WordExact} {h₃ : dst₂.view.WordExact}
    (hN : ∑ j, (dst'.slice (S128x128.rowRect hg.axis' j) (S128x128.stride_rowRect hg.axis' j)).view.dmaCredit = dst₂.view.dmaCredit)
    {Sx : Finset (Idx (src.view.loc (th d L)))} {Sd : Finset (Idx (dst'.view.loc (th d L)))} {So : Finset (Idx (offs'.view.loc (th d L)))}
    (hSx : src.view.set ⊆ Sx) (hSd : dst'.view.set ⊆ Sd) (hSo : offs'.view.set ⊆ So)
    {q qo : PosShare TreeShare} {fx : Buf (Elt F) (src.view.loc (th d L))} {fd : Buf (Elt F) (dst'.view.loc (th d L))}
    {fo : Buf (Elt F) (offs'.view.loc (th d L))} (hin : ∀ x, (offs'.view.read (Elt F) fo x).toNat < S155648x128.size hg.axis)
    {O : CellTallies nD τ sig (HIx 1)} {W : Waits sig (HIx 1)} {Q : PUnit → sProp 𝕄} :
    iprop(Transfers.MayWaits (th d L) (default : HIx 1) O ∗ (src.view.loc (th d L) ↦[Sx]{q} fx) ∗ (dst'.view.loc (th d L) ↦[Sd]{fullShare} fd)
        ∗ (offs'.view.loc (th d L) ↦[So]{qo} fo) ∗ semVal (th d L, SemLoc.dma sem.sem) 0 ∗ owes (th d L) O W)
      ⊢ iprop((iprop((src.view.loc (th d L) ↦[Sx]{q} fx)
            ∗ (dst'.view.loc (th d L) ↦[Sd]{fullShare} (dst'.view.write (Elt F) fd
                (SparseCore.gatherPayload hg (src.view.read (Elt F) fx) (SparseCore.rows (offs'.view.read (Elt F) fo) hn hin)) Finset.univ))
            ∗ (offs'.view.loc (th d L) ↦[So]{qo} fo) ∗ semVal (th d L, SemLoc.dma sem.sem) 0
            ∗ owes (th d L) O (insert (SemLoc.dma sem.sem, (default : HIx 1)) W)) -∗ Q ⟨⟩)
          -∗ wp frame (wpE (defs₀ (F := F)) 𝒱₀ (th d L) none) Set.univ
              (SparseCore.enqueueIndirectGather hp src dst hg offs hn sem.sem h₁ he hsp hr)
              (fun _ => wp frame (wpE (defs₀ (F := F)) 𝒱₀ (th d L) none) Set.univ (SparseCore.waitIndirectGather sem.sem src₂ dst₂ h₂ h₃) Q)) := by
  subst hdst hoffs
  have hoff : ∀ i ∈ Sd \ dst.view.set, fd i = dst.view.write (Elt F) fd
      (SparseCore.gatherPayload hg (src.view.read (Elt F) fx) (SparseCore.rows (offs.view.read (Elt F) fo) hn hin)) Finset.univ i :=
    fun i hi => (View.write_of_not_mem _ _ _ (by rw [View.setOn_univ]; exact (Finset.mem_sdiff.mp hi).2)).symm
  rw [← wp_bind]
  iintro ⟨Hmw, Hx, Hd, Ho, Hsem, HO⟩ HK
  ihave Hx := (pointsTo_split_subset hSx).1 $$ Hx
  icases Hx with ⟨Hx, Hx'⟩
  ihave Hd := (pointsTo_split_subset hSd).1 $$ Hd
  icases Hd with ⟨Hd, Hd'⟩
  ihave Ho := (pointsTo_split_subset hSo).1 $$ Ho
  icases Ho with ⟨Ho, Ho'⟩
  iapply (SparseCore.wp_indirectGatherLocal countersEmb 𝒱₀ (th d L) none (hg := hg) (default : HIx 1) dst₂.view.dmaCredit hN (by decide) hin) $$ [Hx Hd Ho Hsem]
  · isplitl [Hx]; · iexact Hx
    isplitl [Hd]; · iexact Hd
    isplitl [Ho]; · iexact Ho
    iexact Hsem
  iintro Hfl
  iapply (wait_step (F := F) d L (src := src₂) (src' := src₂) (dst := dst₂) (dst' := dst₂) (sm := sem) rfl rfl) $$ [Hmw Hfl HO]
  · isplitl [Hmw]; · iexact Hmw
    isplitl [Hfl]; · iexact Hfl
    iexact HO
  iintro ⟨⟨Hd, Hx, Ho⟩, Hsem, HO⟩
  iapply HK
  isplitl [Hx Hx']
  · iapply (pointsTo_split_subset hSx).2; isplitl [Hx]; · iexact Hx
    iexact Hx'
  isplitl [Hd Hd']
  · iapply (pointsTo_split_subset hSd).2; isplitl [Hd]; · iexact Hd
    iapply (Entails.of_eq (pointsTo_congr hoff)) $$ Hd'
  isplitl [Ho Ho']
  · iapply (pointsTo_split_subset hSo).2; isplitl [Ho]; · iexact Ho
    iexact Ho'
  isplitl [Hsem]; · iexact Hsem
  iexact HO

end Steps

end Cert.Proof.Gather

end
-- ==== Proof.Vals.lean ====
/-
  What the gather leaves: row `r` of the result is the table's row that word `r` names. The positions the slices' indices
  have in their buffers, the rows of the result a block is, and that a slot filled by the two half row transfers holds
  its block of the result.
-/
module

public import proofs.«01_k».proof.Proof.Base
public import Idealize.ShloMosaic.Lib.ValueLayout
public import Idealize.ShloMosaic.Lib.ValueIdxCore

@[expose] public section

noncomputable section

namespace Cert.Proof.Gather

open Cert.KernelIdeal Cert.KernelIdeal.Gen
open Idealize.ShloMosaic
open Idealize.ShloMosaic.ValueIdx

variable {F : FTy → Type}

/-- The row a word names. -/
def rowOf (w : BitVec 32) : Fin 155648 := ⟨w.toNat % 155648, Nat.mod_lt _ (by decide)⟩

/-- The gathered array: row `r` is row `n[0, r]` of `x`. -/
def gathered (x : S155648x256.Idx → BitVec 32) (n : S1x139264.Idx → BitVec 32) : S139264x256.Idx → BitVec 32 :=
  fun j => x (ix2 (rowOf (n (ix2 (0 : Fin 1) (j 0)))) (j 1))

/-- The rows of the result from `lo` up to `hi`. -/
def band (lo hi : ℕ) : Finset S139264x256.Idx := Finset.univ.filter fun j => lo ≤ (j 0).val ∧ (j 0).val < hi

theorem mem_band {lo hi : ℕ} {j : S139264x256.Idx} : j ∈ band lo hi ↔ lo ≤ (j 0).val ∧ (j 0).val < hi := by
  unfold band; simp

theorem band_union {lo mid hi : ℕ} (h₁ : lo ≤ mid) (h₂ : mid ≤ hi) : band lo mid ∪ band mid hi = band lo hi := by
  ext j; rw [Finset.mem_union, mem_band, mem_band, mem_band]; omega

theorem band_disjoint {lo mid mid' hi : ℕ} (h : mid ≤ mid') : Disjoint (band lo mid) (band mid' hi) := by
  rw [Finset.disjoint_left]; intro j; rw [mem_band, mem_band]; omega

theorem band_self (lo : ℕ) : band lo lo = ∅ := by
  ext j; rw [mem_band]; simp

section Positions

variable (L : grid0.Coords) (b : Fin 34) (s : Fin 2)

theorem gb_lt : 128 * gb L b.val + 128 ≤ 139264 := by
  have := wid_lt L; have := b.isLt; unfold gb; omega

theorem emb_blkO (y : S128x256.Idx) : (blkO L b).view.emb y
    = ix2 (n0 := 139264) (n1 := 256) ⟨128 * gb L b.val + (y 0).val, by have := gb_lt L b; have := idx2_lt0 y; omega⟩ (y 1) := by
  funext a; match a with
  | 0 => apply Fin.ext; show 128 * gb L b.val + 1 * (y 0).val = _; rw [Nat.one_mul]; rfl
  | 1 => apply Fin.ext; show 0 + 1 * (y 1).val = (y 1).val; omega

theorem set_blkO : (blkO L b).view.set = band (128 * gb L b.val) (128 * gb L (b.val + 1)) := by
  ext j; rw [mem_band]
  constructor
  · intro h
    obtain ⟨y, -, rfl⟩ := Finset.mem_map.mp h
    rw [emb_blkO]
    have := idx2_lt0 y
    show 128 * gb L b.val ≤ 128 * gb L b.val + (y 0).val ∧ 128 * gb L b.val + (y 0).val < 128 * gb L (b.val + 1)
    unfold gb; omega
  · rintro ⟨h₁, h₂⟩
    refine Finset.mem_map.mpr ⟨ix2 ⟨(j 0).val - 128 * gb L b.val, by unfold gb at *; omega⟩ (j 1), Finset.mem_univ _, ?_⟩
    rw [emb_blkO]
    funext a; match a with
    | 0 => apply Fin.ext; show 128 * gb L b.val + ((j 0).val - 128 * gb L b.val) = _; omega
    | 1 => rfl

theorem emb_blkI (y : S1x128.Idx) : (blkI L b).view.emb y
    = ix2 (n0 := 1) (n1 := 139264) 0 ⟨128 * gb L b.val + (y 1).val, by have := gb_lt L b; have := idx2_lt1 y; omega⟩ := by
  funext a; match a with
  | 0 => apply Fin.ext; show 0 + 1 * (y 0).val = 0; have := idx2_lt0 y; omega
  | 1 => apply Fin.ext; show 128 * gb L b.val + 1 * (y 1).val = _; rw [Nat.one_mul]; rfl

/-- The list's word `y` is the slot's word `(0, y)`. -/
theorem emb_list (y : S128.Idx) : (list s).view.emb y = (slotI s).view.emb (ix2 (n0 := 1) (n1 := 128) 0 (y 0)) := by
  show (slotI s).view.emb ((Rect.unit (s := S1x128) ![0, 0] S1x128.size inb_S1x128_S1x128_0_0).emb (Shape.reshapeEquiv _ y)) = _
  refine congrArg _ ?_
  rw [Shape.reshapeEquiv_eq_of_rowMajor (s := S1x128) (s' := S128) _ (x := y) (y := ix2 (n0 := 1) (n1 := 128) 0 (y 0)) (by
    rw [Shape.rowMajor_val_two, Shape.rowMajor_val_one]
    show 0 * 128 + (y 0).val = (y 0).val; omega)]
  funext a; match a with
  | 0 => rfl
  | 1 => apply Fin.ext; show 0 + 1 * (y 0).val = (y 0).val; omega

theorem emb_halfL (y : S128x128.Idx) : (halfL s).view.emb y
    = (slotO s).view.emb (ix2 (n0 := 128) (n1 := 256) (y 0) ⟨(y 1).val, by have := idx2_lt1 y; omega⟩) := by
  show (slotO s).view.emb ((Rect.unit (s := S128x256) ![0, 0] S128x128.size inb_S128x256_S128x128_0_0).emb y) = _
  refine congrArg _ ?_
  funext a; match a with
  | 0 => apply Fin.ext; show 0 + 1 * (y 0).val = (y 0).val; omega
  | 1 => apply Fin.ext; show 0 + 1 * (y 1).val = (y 1).val; omega

theorem emb_halfR (y : S128x128.Idx) : (halfR s).view.emb y
    = (slotO s).view.emb (ix2 (n0 := 128) (n1 := 256) (y 0) ⟨128 + (y 1).val, by have := idx2_lt1 y; omega⟩) := by
  show (slotO s).view.emb ((Rect.unit (s := S128x256) ![0, 128] S128x128.size inb_S128x256_S128x128_0_128).emb y) = _
  refine congrArg _ ?_
  funext a; match a with
  | 0 => apply Fin.ext; show 0 + 1 * (y 0).val = (y 0).val; omega
  | 1 => apply Fin.ext; show 128 + 1 * (y 1).val = 128 + (y 1).val; omega

theorem emb_xL (y : S155648x128.Idx) : (xL).view.emb y
    = ix2 (n0 := 155648) (n1 := 256) (y 0) ⟨(y 1).val, by have := idx2_lt1 y; omega⟩ := by
  funext a; match a with
  | 0 => apply Fin.ext; show 0 + 1 * (y 0).val = (y 0).val; omega
  | 1 => apply Fin.ext; show 0 + 1 * (y 1).val = (y 1).val; omega

theorem emb_xR (y : S155648x128.Idx) : (xR).view.emb y
    = ix2 (n0 := 155648) (n1 := 256) (y 0) ⟨128 + (y 1).val, by have := idx2_lt1 y; omega⟩ := by
  funext a; match a with
  | 0 => apply Fin.ext; show 0 + 1 * (y 0).val = (y 0).val; omega
  | 1 => apply Fin.ext; show 128 + 1 * (y 1).val = 128 + (y 1).val; omega

theorem sub_halfL : (halfL s).view.set ⊆ (slotO s).view.set := by
  intro i h; obtain ⟨y, -, rfl⟩ := Finset.mem_map.mp h; rw [emb_halfL]; exact View.emb_mem_set _ _
theorem sub_halfR : (halfR s).view.set ⊆ (slotO s).view.set := by
  intro i h; obtain ⟨y, -, rfl⟩ := Finset.mem_map.mp h; rw [emb_halfR]; exact View.emb_mem_set _ _
theorem sub_list : (list s).view.set ⊆ (slotI s).view.set := by
  intro i h; obtain ⟨y, -, rfl⟩ := Finset.mem_map.mp h; rw [emb_list]; exact View.emb_mem_set _ _

end Positions

section Values

variable (L : grid0.Coords) (b : Fin 34) (s : Fin 2)
variable (x : S155648x256.Idx → BitVec 32) (n : S1x139264.Idx → BitVec 32)

/-- A list read off a slot that holds block `b` of the row numbers. -/
theorem list_read (g : S2x1x128.Idx → BitVec 32) (hg : (slotI s).view.read (Elt F) g = (blkI L b).view.read (Elt F) n) (y : S128.Idx) :
    (list s).view.read (Elt F) g y = n (ix2 (n0 := 1) (n1 := 139264) 0
      ⟨128 * gb L b.val + (y 0).val, by have := gb_lt L b; have : (y 0).val < 128 := (y 0).isLt; omega⟩) := by
  have h := congrFun hg (ix2 (n0 := 1) (n1 := 128) 0 (y 0))
  rw [View.read_apply, View.read_apply, emb_blkI] at h
  rw [View.read_apply, emb_list]
  exact h

/-- The list's words name rows of the table. -/
theorem list_lt (hn : ∀ j, (n j).toNat < 155648) (g : S2x1x128.Idx → BitVec 32)
    (hg : (slotI s).view.read (Elt F) g = (blkI L b).view.read (Elt F) n) (y : S128.Idx) :
    ((list s).view.read (Elt F) g y).toNat < S155648x128.size gathers_S155648x128_S128x128.axis := by
  rw [list_read (F := F) L b s n g hg]; exact hn _

/-- A half row transfer's payload at `(r, c)`, whichever half: the half table's row named by the list's word `r`. -/
theorem payload_apply (t : S155648x128.Idx → BitVec 32) (g : S2x1x128.Idx → BitVec 32)
    (hg : (slotI s).view.read (Elt F) g = (blkI L b).view.read (Elt F) n) (hnn : S128.numel = S128x128.size gathers_S155648x128_S128x128.axis')
    (hin : ∀ y, ((list s).view.read (Elt F) g y).toNat < S155648x128.size gathers_S155648x128_S128x128.axis) (y : S128x128.Idx) :
    SparseCore.gatherPayload (F := F) (e := .i32) gathers_S155648x128_S128x128 t (SparseCore.rows ((list s).view.read (Elt F) g) hnn hin) y
      = t (ix2 (n0 := 155648) (n1 := 128) (rowOf (n (ix2 (n0 := 1) (n1 := 139264) 0
          ⟨128 * gb L b.val + (y 0).val, by have := gb_lt L b; have := idx2_lt0 y; omega⟩))) (y 1)) := by
  unfold SparseCore.gatherPayload
  refine congrArg t ?_
  have hrow : SparseCore.rows ((list s).view.read (Elt F) g) hnn hin (y 0) = rowOf (n (ix2 (n0 := 1) (n1 := 139264) 0
          ⟨128 * gb L b.val + (y 0).val, by have := gb_lt L b; have := idx2_lt0 y; omega⟩)) := by
    apply Fin.ext
    have hy : S128.rowMajor.symm ((y 0).cast hnn.symm) = (ix1 (n := 128) (y 0)) := by
      rw [Equiv.symm_apply_eq]; apply Fin.ext
      rw [Shape.rowMajor_val_one]; rfl
    have hlt := hin (ix1 (n := 128) (y 0))
    show ((list s).view.read (Elt F) g (S128.rowMajor.symm ((y 0).cast hnn.symm))).toNat = _
    rw [hy]
    rw [list_read (F := F) L b s n g hg] at hlt ⊢
    exact (Nat.mod_eq_of_lt hlt).symm
  funext a; match a with
  | 0 => exact (Shape.Gathers.idx_axis _ _ _).trans hrow
  | 1 => exact Fin.ext (Shape.Gathers.idx_of_ne gathers_S155648x128_S128x128 _ y 1 (by decide))

/-- A slot filled by the two half row transfers reads as its block of the gathered array. -/
theorem slot_read (f : S2x128x256.Idx → BitVec 32) (g : S2x1x128.Idx → BitVec 32)
    (hg : (slotI s).view.read (Elt F) g = (blkI L b).view.read (Elt F) n) (hnn : S128.numel = S128x128.size gathers_S155648x128_S128x128.axis')
    (hin : ∀ y, ((list s).view.read (Elt F) g y).toNat < S155648x128.size gathers_S155648x128_S128x128.axis) :
    (slotO s).view.read (Elt F) ((halfR s).view.write (Elt F) ((halfL s).view.write (Elt F) f
        (SparseCore.gatherPayload gathers_S155648x128_S128x128 ((xL).view.read (Elt F) x) (SparseCore.rows ((list s).view.read (Elt F) g) hnn hin)) Finset.univ)
        (SparseCore.gatherPayload gathers_S155648x128_S128x128 ((xR).view.read (Elt F) x) (SparseCore.rows ((list s).view.read (Elt F) g) hnn hin)) Finset.univ)
      = (blkO L b).view.read (Elt F) (gathered x n) := by
  funext y
  rw [View.read_apply, View.read_apply, emb_blkO]
  have hy0 := idx2_lt0 y
  have hy1 := idx2_lt1 y
  by_cases hc : (y 1).val < 128
  · have e : y = ix2 (n0 := 128) (n1 := 256) ((ix2 (n0 := 128) (n1 := 128) (y 0) ⟨(y 1).val, hc⟩ : S128x128.Idx) 0)
        ⟨((ix2 (n0 := 128) (n1 := 128) (y 0) ⟨(y 1).val, hc⟩ : S128x128.Idx) 1).val, hy1⟩ := eq_ix2 y
    have hL : (slotO s).view.emb y = (halfL s).view.emb (ix2 (n0 := 128) (n1 := 128) (y 0) ⟨(y 1).val, hc⟩) :=
      (congrArg _ e).trans (emb_halfL s _).symm
    rw [hL, View.write_of_not_mem, View.write_emb_of_mem _ _ (Finset.mem_univ _)]
    · refine (cast_eq _ _).trans ((cast_eq _ _).trans ?_)
      refine (payload_apply (F := F) L b s n _ g hg hnn hin _).trans ?_
      rw [View.read_apply, emb_xL]; rfl
    · rw [View.setOn_univ]
      intro h
      obtain ⟨z, -, hz⟩ := Finset.mem_map.mp h
      rw [emb_halfR, emb_halfL] at hz
      have := congrArg (fun i : S128x256.Idx => (i 1).val) ((slotO s).view.emb.injective hz)
      have h' : 128 + (z 1).val = (y 1).val := this
      omega
  · have e : y = ix2 (n0 := 128) (n1 := 256) ((ix2 (n0 := 128) (n1 := 128) (y 0) ⟨(y 1).val - 128, by omega⟩ : S128x128.Idx) 0)
        ⟨128 + ((ix2 (n0 := 128) (n1 := 128) (y 0) ⟨(y 1).val - 128, by omega⟩ : S128x128.Idx) 1).val, by
          show 128 + ((y 1).val - 128) < 256; omega⟩ := by
      funext a; match a with
      | 0 => rfl
      | 1 => apply Fin.ext; show (y 1).val = 128 + ((y 1).val - 128); omega
    have hR : (slotO s).view.emb y = (halfR s).view.emb (ix2 (n0 := 128) (n1 := 128) (y 0) ⟨(y 1).val - 128, by omega⟩) :=
      (congrArg _ e).trans (emb_halfR s _).symm
    rw [hR, View.write_emb_of_mem _ _ (Finset.mem_univ _)]
    refine (cast_eq _ _).trans ((cast_eq _ _).trans ?_)
    refine (payload_apply (F := F) L b s n _ g hg hnn hin _).trans ?_
    rw [View.read_apply, emb_xR]
    refine (cast_eq _ _).trans ?_
    unfold gathered
    refine congrArg x ?_
    funext a; match a with
    | 0 => rfl
    | 1 => apply Fin.ext; show 128 + ((y 1).val - 128) = (y 1).val; omega

/-- A block of the result written with what reads as its block of the gathered array is that array there. -/
theorem block_written (f : S139264x256.Idx → BitVec 32) (w : S128x256.Idx → BitVec 32) (hw : w = (blkO L b).view.read (Elt F) (gathered x n)) :
    ∀ i ∈ (blkO L b).view.set, (blkO L b).view.write (Elt F) f w Finset.univ i = gathered x n i := by
  intro i hi
  obtain ⟨y, -, rfl⟩ := Finset.mem_map.mp hi
  rw [View.write_emb_of_mem _ _ (Finset.mem_univ _), hw, View.read_apply]
  exact (cast_eq _ _).trans (cast_eq _ _)

end Values

end Cert.Proof.Gather

end
-- ==== Proof.Inv.lean ====
/-
  What a subcore holds before trip `k` of the gather's loop. The slot of row numbers that block `k` goes to has it in
  flight (after the last block the slot is free), the other is free; the slot of rows of block `k` is free, the other
  has block `k - 1` in flight to the result (before the first it is free). The result's blocks before `k - 1` are the
  gathered array's, those from `k` on as at launch. Each slot of row numbers comes with its own share of the row numbers.
-/
module

public import proofs.«01_k».proof.Proof.Vals

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F] (d : Dev nD) (L : grid0.Coords)
variable (qx : PosShare TreeShare) (qi : Fin 2 → PosShare TreeShare)
variable (x : S155648x256.Idx → BitVec 32) (n : S1x139264.Idx → BitVec 32) (o : S139264x256.Idx → BitVec 32)

/-- Trip `k`'s slot. -/
def sl (k : ℕ) : Fin 2 := ⟨k % 2, Nat.mod_lt _ (by decide)⟩

theorem sl_add_two (k : ℕ) : sl (k + 2) = sl k := Fin.ext (by show (k + 2) % 2 = k % 2; omega)

/-- A slot of row numbers, its cell, and its share of all the row numbers. -/
def IFree (s : Fin 2) : sProp 𝕄 :=
  iprop((∃ f, (slotI s).view.loc (th d L) ↦[(slotI s).view.set]{fullShare} f) ∗ semVal (th d L, SemLoc.dma (semI s).sem) 0
    ∗ ((nV).view.loc (th d L) ↦[Finset.univ]{qi s} n))
/-- Block `b` of row numbers in flight to its slot. -/
def IFly (b : Fin 34) : sProp 𝕄 :=
  iprop(∃ fd, Transfers.Flight countersEmb (th d L) (.dma (semI (sl b.val)).sem) (default : HIx 1) (slotI (sl b.val)).view.dmaCredit
      iprop(((slotI (sl b.val)).view.loc (th d L) ↦[(slotI (sl b.val)).view.set]{fullShare}
          (slotI (sl b.val)).view.write (Elt F) fd ((blkI L b).view.read (Elt F) n) Finset.univ)
        ∗ ((blkI L b).view.loc (th d L) ↦[(blkI L b).view.set]{qi (sl b.val)} n))
    ∗ ((nV).view.loc (th d L) ↦[Finset.univ \ (blkI L b).view.set]{qi (sl b.val)} n))
/-- Block `k` in flight, past the last its slot free. -/
def INext (k : ℕ) : sProp 𝕄 := if h : k < 34 then IFly (F := F) d L qi n ⟨k, h⟩ else IFree (F := F) d L qi n (sl k)

/-- A slot of rows and its cell. -/
def OFree (s : Fin 2) : sProp 𝕄 :=
  iprop((∃ f, (slotO s).view.loc (th d L) ↦[(slotO s).view.set]{fullShare} f) ∗ semVal (th d L, SemLoc.dma (semO s).sem) 0)
/-- Block `b` of the gathered array in flight from its slot to the result. -/
def OFly (b : Fin 34) : sProp 𝕄 :=
  iprop(∃ fd f, ⌜(slotO (sl b.val)).view.read (Elt F) f = (blkO L b).view.read (Elt F) (gathered x n)⌝
    ∗ Transfers.Flight countersEmb (th d L) (.dma (semO (sl b.val)).sem) (default : HIx 1) (blkO L b).view.dmaCredit
      iprop(((blkO L b).view.loc (th d L) ↦[(blkO L b).view.set]{fullShare}
          (blkO L b).view.write (Elt F) fd ((slotO (sl b.val)).view.read (Elt F) f) Finset.univ)
        ∗ ((slotO (sl b.val)).view.loc (th d L) ↦[(slotO (sl b.val)).view.set]{fullShare} f)))
/-- Block `k - 1` in flight, before the first the slot free. -/
def OPrev (k : ℕ) : sProp 𝕄 :=
  if h : 0 < k ∧ k ≤ 34 then OFly (F := F) d L x n ⟨k - 1, by omega⟩ else OFree (F := F) d L (sl (k + 1))

/-- The result's rows done, and those to do. -/
def Done (k : ℕ) : sProp 𝕄 := (oV).view.loc (th d L) ↦[band (128 * gb L 0) (128 * gb L k)]{fullShare} gathered x n
def Todo (k : ℕ) : sProp 𝕄 := (oV).view.loc (th d L) ↦[band (128 * gb L k) (128 * gb L 34)]{fullShare} o

/-- What the subcore owes, the waits it has recorded being `W`'s and the transfers' own. -/
def Owing (O : CellTallies nD τ sig (HIx 1)) (W : Waits sig (HIx 1)) : sProp 𝕄 :=
  iprop(∃ W', ⌜∀ p ∈ W', p ∈ W ∨ p.2 = none⌝ ∗ owes (th d L) O W')

/-- The two cells of the half row transfers, and the table. -/
def Rest : sProp 𝕄 :=
  iprop(semVal (th d L, SemLoc.dma cc0_scoped4.sem) 0 ∗ semVal (th d L, SemLoc.dma cc0_scoped5.sem) 0
    ∗ ((xV).view.loc (th d L) ↦[Finset.univ]{qx} x))

/-- Before trip `k`. -/
def Inv (O : CellTallies nD τ sig (HIx 1)) (W : Waits sig (HIx 1)) (k : ℕ) : sProp 𝕄 :=
  iprop(Transfers.MayWaits (th d L) (default : HIx 1) O ∗ Rest (F := F) d L qx x ∗ Owing (F := F) d L O W
    ∗ INext (F := F) d L qi n k ∗ IFree (F := F) d L qi n (sl (k + 1))
    ∗ OFree (F := F) d L (sl k) ∗ OPrev (F := F) d L x n k
    ∗ Done (F := F) d L x n (k - 1) ∗ Todo (F := F) d L o k)

omit [FloatOps F] in
theorem Done_split (b : Fin 34) : (Done (F := F) d L x n (b.val + 1) : sProp 𝕄)
    = iprop(Done (F := F) d L x n b.val ∗ ((blkO L b).view.loc (th d L) ↦[(blkO L b).view.set]{fullShare} gathered x n)) := by
  unfold Done
  rw [set_blkO, ← band_union (lo := 128 * gb L 0) (mid := 128 * gb L b.val) (hi := 128 * gb L (b.val + 1)) (by unfold gb; omega) (by unfold gb; omega)]
  exact BI.equiv_iff.mp ⟨(pointsTo_union (band_disjoint le_rfl)).1, (pointsTo_union (band_disjoint le_rfl)).2⟩
omit [FloatOps F] in
theorem Todo_split (b : Fin 34) : (Todo (F := F) d L o b.val : sProp 𝕄)
    = iprop(((blkO L b).view.loc (th d L) ↦[(blkO L b).view.set]{fullShare} o) ∗ Todo (F := F) d L o (b.val + 1)) := by
  have := b.isLt
  unfold Todo
  rw [set_blkO, ← band_union (lo := 128 * gb L b.val) (mid := 128 * gb L (b.val + 1)) (hi := 128 * gb L 34) (by unfold gb; omega) (by unfold gb; omega)]
  exact BI.equiv_iff.mp ⟨(pointsTo_union (band_disjoint le_rfl)).1, (pointsTo_union (band_disjoint le_rfl)).2⟩

/-- One more wait of the transfers' own keeps `Owing`. -/
theorem Owing_insert (O : CellTallies nD τ sig (HIx 1)) (W W' : Waits sig (HIx 1)) (hW : ∀ p ∈ W', p ∈ W ∨ p.2 = none) (sm : SemLoc sig) :
    owes (th d L) O (insert (sm, (default : HIx 1)) W') ⊢ (Owing (F := F) d L O W : sProp 𝕄) := by
  unfold Owing
  iintro HO
  iexists _
  isplitr
  swap; · iexact HO
  ipureintro; intro p hp
  rcases Finset.mem_insert.mp hp with hp | hp
  · exact .inr (hp ▸ rfl)
  · exact hW p hp

/-- A transfer's block of row numbers issued: from its slot free to the block in flight. -/
theorem issueI (b : Fin 34) {src : Memref sig (th d L).2.kind .hbm S1x128 .i32} {dst : Memref sig (th d L).2.kind .vmem S1x128 .i32} {sm : DmaSems sig S_}
    (hsrc : src = blkI L b) (hdst : dst = slotI (sl b.val)) (hsm : sm = semI (sl b.val))
    {h₁ : src.view.WordExact} {h₂ : dst.view.WordExact} {h₃ : DmaTarget.Typed (nD := nD) .hbm (.dma sm.sem) (.here dst)} {Q : PUnit → sProp 𝕄} :
    (IFree (F := F) d L qi n (sl b.val) : sProp 𝕄) ⊢ iprop((IFly (F := F) d L qi n b -∗ Q ⟨⟩)
      -∗ wp frame (wpE (defs₀ (F := F)) 𝒱₀ (th d L) none) Set.univ (Prog.lift (.enqueueDma src (.here dst) (.dma sm.sem) h₁ h₂ h₃)) Q) := by
  unfold IFree IFly
  iintro ⟨⟨%f, Hs⟩, Hsem, Hn⟩ HK
  ihave Hn := (pointsTo_split_subset (Finset.subset_univ (blkI L b).view.set)).1 $$ Hn
  icases Hn with ⟨Hn, Hn'⟩
  iapply (dma_step (F := F) d L hsrc hdst hsm (View.dmaCredit_pos _ (by decide))) $$ [Hn Hs Hsem]
  · isplitl [Hn]; · iexact Hn
    isplitl [Hs]; · iexact Hs
    iexact Hsem
  iintro Hfl
  iapply HK
  iexists f
  isplitl [Hfl]; · iexact Hfl
  iexact Hn'

/-- Its wait: the slot reads as the block. -/
theorem takeI (b : Fin 34) {sp : Space} {s : Shape} {e : EltTy} {src : Memref sig (th d L).2.kind sp s e} {dst : Memref sig (th d L).2.kind .vmem S1x128 .i32} {sm : DmaSems sig S_}
    (hsm : sm = semI (sl b.val)) (hdst : dst = slotI (sl b.val))
    {h₁ : src.view.WordExact} {h₂ : dst.view.WordExact} {Q : PUnit → sProp 𝕄} {O : CellTallies nD τ sig (HIx 1)} {W : Waits sig (HIx 1)} :
    iprop(Transfers.MayWaits (th d L) (default : HIx 1) O ∗ Owing (F := F) d L O W ∗ IFly (F := F) d L qi n b) ⊢ iprop((iprop(Owing (F := F) d L O W
        ∗ ∃ g, ⌜(slotI (sl b.val)).view.read (Elt F) g = (blkI L b).view.read (Elt F) n⌝
          ∗ ((slotI (sl b.val)).view.loc (th d L) ↦[(slotI (sl b.val)).view.set]{fullShare} g)
          ∗ semVal (th d L, SemLoc.dma (semI (sl b.val)).sem) 0 ∗ ((nV).view.loc (th d L) ↦[Finset.univ]{qi (sl b.val)} n)) -∗ Q ⟨⟩)
      -∗ wp frame (wpE (defs₀ (F := F)) 𝒱₀ (th d L) none) Set.univ (Prog.lift (.waitDma2 sm.sem src dst h₁ h₂)) Q) := by
  subst hdst
  unfold IFly Owing
  iintro ⟨Hmw, ⟨%W', %hW', HO⟩, ⟨%fd, Hfl, Hn'⟩⟩ HK
  iapply (wait_step (F := F) d L (src' := src) (dst' := slotI (sl b.val)) hsm rfl) $$ [Hmw HO Hfl]
  · isplitl [Hmw]; · iexact Hmw
    isplitl [Hfl]; · iexact Hfl
    iexact HO
  iintro ⟨⟨Hs, Hn⟩, Hsem, HO⟩
  iapply HK
  isplitl [HO]
  · iapply (show owes (th d L) O (insert (_, (default : HIx 1)) W') ⊢ (iprop(∃ W', ⌜∀ p ∈ W', p ∈ W ∨ p.2 = none⌝ ∗ owes (th d L) O W') : sProp 𝕄) from
      Owing_insert (F := F) d L O W W' hW' _)
    iexact HO
  iexists _
  isplitr
  swap
  · isplitl [Hs]; · iexact Hs
    isplitl [Hsem]; · iexact Hsem
    iapply (pointsTo_split_subset (Finset.subset_univ (blkI L b).view.set)).2
    isplitl [Hn]; · iexact Hn
    iexact Hn'
  · ipureintro; exact View.read_write_univ _ _

/-- A filled slot issued to its block of the result. -/
theorem issueO (b : Fin 34) {src : Memref sig (th d L).2.kind .vmem S128x256 .i32} {dst : Memref sig (th d L).2.kind .hbm S128x256 .i32} {sm : DmaSems sig S_}
    (hsrc : src = slotO (sl b.val)) (hdst : dst = blkO L b) (hsm : sm = semO (sl b.val))
    {h₁ : src.view.WordExact} {h₂ : dst.view.WordExact} {h₃ : DmaTarget.Typed (nD := nD) .vmem (.dma sm.sem) (.here dst)} {Q : PUnit → sProp 𝕄}
    {f : S2x128x256.Idx → BitVec 32} (hf : (slotO (sl b.val)).view.read (Elt F) f = (blkO L b).view.read (Elt F) (gathered x n)) :
    (iprop(((slotO (sl b.val)).view.loc (th d L) ↦[(slotO (sl b.val)).view.set]{fullShare} f) ∗ semVal (th d L, SemLoc.dma (semO (sl b.val)).sem) 0
        ∗ Todo (F := F) d L o b.val) : sProp 𝕄) ⊢ iprop((iprop(OFly (F := F) d L x n b ∗ Todo (F := F) d L o (b.val + 1)) -∗ Q ⟨⟩)
      -∗ wp frame (wpE (defs₀ (F := F)) 𝒱₀ (th d L) none) Set.univ (Prog.lift (.enqueueDma src (.here dst) (.dma sm.sem) h₁ h₂ h₃)) Q) := by
  rw [Todo_split]
  unfold OFly
  iintro ⟨Hs, Hsem, Ho, Ht⟩ HK
  iapply (dma_step (F := F) d L hsrc hdst hsm (View.dmaCredit_pos _ (by decide))) $$ [Ho Hs Hsem]
  · isplitl [Hs]; · iexact Hs
    isplitl [Ho]; · iexact Ho
    iexact Hsem
  iintro Hfl
  iapply HK
  isplitl [Hfl]
  · iexists o; iexists f
    isplitr; · ipureintro; exact hf
    iexact Hfl
  iexact Ht

/-- Its wait: one more block done, the slot free. -/
theorem takeO (b : Fin 34) {sp : Space} {s : Shape} {e : EltTy} {src : Memref sig (th d L).2.kind sp s e} {dst : Memref sig (th d L).2.kind .hbm S128x256 .i32} {sm : DmaSems sig S_}
    (hsm : sm = semO (sl b.val)) (hdst : dst = blkO L b)
    {h₁ : src.view.WordExact} {h₂ : dst.view.WordExact} {Q : PUnit → sProp 𝕄} {O : CellTallies nD τ sig (HIx 1)} {W : Waits sig (HIx 1)} :
    iprop(Transfers.MayWaits (th d L) (default : HIx 1) O ∗ Owing (F := F) d L O W ∗ OFly (F := F) d L x n b ∗ Done (F := F) d L x n b.val)
      ⊢ iprop((iprop(Owing (F := F) d L O W ∗ OFree (F := F) d L (sl b.val) ∗ Done (F := F) d L x n (b.val + 1)) -∗ Q ⟨⟩)
      -∗ wp frame (wpE (defs₀ (F := F)) 𝒱₀ (th d L) none) Set.univ (Prog.lift (.waitDma2 sm.sem src dst h₁ h₂)) Q) := by
  subst hdst
  rw [Done_split]
  unfold OFly Owing OFree
  iintro ⟨Hmw, ⟨%W', %hW', HO⟩, ⟨%fd, %f, %hf, Hfl⟩, Hd⟩ HK
  iapply (wait_step (F := F) d L (src' := src) (dst' := blkO L b) hsm rfl) $$ [Hmw HO Hfl]
  · isplitl [Hmw]; · iexact Hmw
    isplitl [Hfl]; · iexact Hfl
    iexact HO
  iintro ⟨⟨Ho, Hs⟩, Hsem, HO⟩
  ihave Ho := (Entails.of_eq (pointsTo_congr (block_written (F := F) L b x n fd _ hf))) $$ Ho
  iapply HK
  isplitl [HO]
  · iapply (show owes (th d L) O (insert (_, (default : HIx 1)) W') ⊢ (iprop(∃ W', ⌜∀ p ∈ W', p ∈ W ∨ p.2 = none⌝ ∗ owes (th d L) O W') : sProp 𝕄) from
      Owing_insert (F := F) d L O W W' hW' _)
    iexact HO
  isplitl [Hs Hsem]
  · isplitl [Hs]; · iexists f; iexact Hs
    iexact Hsem
  isplitl [Hd]; · iexact Hd
  iexact Ho

end Cert.Proof.Gather

end
-- ==== Proof.Trip.lean ====
/-
  One trip of the gather's loop keeps the invariant.
-/
module

public import proofs.«01_k».proof.Proof.Inv

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F] (d : Dev nD) (L : grid0.Coords)
variable (qx : PosShare TreeShare) (qi : Fin 2 → PosShare TreeShare)
variable (x : S155648x256.Idx → BitVec 32) (n : S1x139264.Idx → BitVec 32) (o : S139264x256.Idx → BitVec 32)

/-- The first block's number as the body computes it. -/
abbrev base (L : grid0.Coords) : BitVec 32 := BitVec.ofNat 32 (34 * wid L)

/-- Trip `k`'s block. -/
abbrev tb (k : Tr) : Fin 34 := ⟨k.val, Nat.lt_of_lt_of_eq k.isLt trips_eq⟩

theorem assume_step {P : Prop} {dec : Decidable P} (h : P) {Q : PLift P → sProp 𝕄} :
    Q ⟨h⟩ ⊢ wp frame (wpE (defs₀ (F := F)) 𝒱₀ (th d L) none) Set.univ (Prog.lift (.assume P dec)) Q := by
  iintro H
  iapply (wp_assume 𝒱₀ (th d L) none Set.univ h)
  rw [wp_ret]
  imodintro
  iexact H

/-- What the words the body computes from the carried ones come to: the next trip's. -/
def Next (L : grid0.Coords) (k : ℕ) (v64 v65 : BitVec 1) (v66 v71 v76 v91 : BitVec 32) : Prop :=
  v91 = w6 (k + 1)
    ∧ Scalar.select (Scalar.andi (Scalar.ori (Scalar.cmpi .ne v66 v76) v65) 1#1) (Scalar.addi (w7 k) 1#32) (w7 k) = w7 (k + 1)
    ∧ Scalar.select (Scalar.ori (Scalar.cmpi .ne v66 v76) v65) (Scalar.addi (w7 k) 1#32) (w7 k) = w7 (k + 1)
    ∧ Scalar.select (Scalar.andi (Scalar.andi (Scalar.cmpi .ne v66 v71) (Scalar.xori v64 1#1)) 1#1) (Scalar.addi (w9 k) 1#32) (w9 k) = w9 (k + 1)

instance (L : grid0.Coords) (k : ℕ) (v64 v65 : BitVec 1) (v66 v71 v76 v91 : BitVec 32) : Decidable (Next L k v64 v65 v66 v71 v76 v91) := by
  unfold Next; infer_instance

theorem next_words : ∀ (L : grid0.Coords) (k : Tr),
    let arg5 : BitVec 32 := Scf.iv 0#32 1#32 k
    let v64 : BitVec 1 := Scalar.cmpi .eq arg5 0#32
    let v65 : BitVec 1 := Scalar.cmpi .eq arg5 33#32
    let v66 : BitVec 32 := Scalar.addi (w10 k.val) (base L)
    let v68 : BitVec 32 := Scalar.select 1#1 (Scalar.subi (w10 k.val) 1#32) (w10 k.val)
    let v71 : BitVec 32 := Scalar.addi (Scalar.select (Scalar.cmpi .eq v68 4294967295#32) 33#32 v68) (base L)
    let v73 : BitVec 32 := Scalar.select 1#1 (Scalar.addi (w10 k.val) 1#32) (w10 k.val)
    let v76 : BitVec 32 := Scalar.addi (Scalar.select (Scalar.cmpi .eq v73 34#32) 0#32 v73) (base L)
    let v91 : BitVec 32 := Scalar.select (Scalar.andi (Scalar.andi (Scalar.cmpi .ne v66 v76) (Scalar.xori (Scalar.cmpi .sge arg5 33#32) 1#1)) 1#1)
      (Scalar.addi (w6 k.val) 1#32) (w6 k.val)
    Next L k.val v64 v65 v66 v71 v76 v91 := by decide +kernel

theorem next_block : ∀ k : Tr, Scalar.select (Scalar.cmpi .eq (Scalar.select 1#1 (Scalar.addi (w10 k.val) 1#32) (w10 k.val)) 34#32) 0#32
    (Scalar.select 1#1 (Scalar.addi (w10 k.val) 1#32) (w10 k.val)) = w10 (k.val + 1) := by decide +kernel

/-- A half slot's rows are together credited what the half slot is. -/
theorem credits_half (M M₂ : Memref sig .scVector .vmem S128x128 .i32) (h : M.view.buf = (bO).view.buf) (h₂ : M₂.view.buf = (bO).view.buf) :
    ∑ j, (M.slice (S128x128.rowRect gathers_S155648x128_S128x128.axis' j) (S128x128.stride_rowRect gathers_S155648x128_S128x128.axis' j)).view.dmaCredit
      = M₂.view.dmaCredit := by
  have e : ∀ j, (M.slice (S128x128.rowRect gathers_S155648x128_S128x128.axis' j) (S128x128.stride_rowRect gathers_S155648x128_S128x128.axis' j)).view.dmaCredit
      = sig.dmaCredit .scVector (Kind.scVector.table .vmem) (bO).view.buf (S128x128.rowShape gathers_S155648x128_S128x128.axis') .i32 := fun j =>
    congrArg (fun b => sig.dmaCredit .scVector (Kind.scVector.table .vmem) b _ .i32) h
  have e₂ : M₂.view.dmaCredit = sig.dmaCredit .scVector (Kind.scVector.table .vmem) (bO).view.buf S128x128 .i32 :=
    congrArg (fun b => sig.dmaCredit .scVector (Kind.scVector.table .vmem) b S128x128 .i32) h₂
  rw [e₂, Finset.sum_congr rfl (fun j _ => e j)]
  decide

/-- The trip's first part: the next block of row numbers asked for, where there is one. -/
theorem part1 (k : Tr) {Q : _ → sProp 𝕄} :
    (IFree (F := F) d L qi n (sl (k.val + 1)) : sProp 𝕄) ⊢ iprop((∀ v, iprop(⌜Next L k.val v.2.2.2.2.fst v.2.2.2.2.2.fst v.2.2.2.2.2.2.fst v.2.2.2.2.2.2.2.fst
          v.2.2.2.2.2.2.2.2.fst v.2.2.2.2.2.2.2.2.2.fst⌝ ∗ INext (F := F) d L qi n (k.val + 1)) -∗ Q v)
      -∗ wp frame (wpE (defs₀ (F := F)) 𝒱₀ (th d L) none) Set.univ
          (k0_part1_skel L xV (Memref.isWhole_whole _) nV (Memref.isWhole_whole _) oV (Memref.isWhole_whole _) bI (Memref.isWhole_whole _) cc0_scoped1
            bO (Memref.isWhole_whole _) cc0_scoped3 cc0_scoped4 cc0_scoped5 (base L) 0#32 1#32 k (w6 k.val) (w7 k.val) (w7 k.val) (w9 k.val) (w10 k.val)) Q) := by
  unfold k0_part1_skel
  simp only [wp_bind]
  iintro HI HK
  iapply (assume_step (F := F) d L (chk3_trip k))
  iapply (assume_step (F := F) d L (chk2_trip k))
  iapply (assume_step (F := F) d L (chk1_trip L k))
  by_cases h : k.val < 33
  · rw [dif_pos (cond1_lt L k h)]
    simp only [wp_bind]
    have hk : k.val + 1 < 34 := by omega
    iapply (issueI (F := F) d L qi n ⟨k.val + 1, hk⟩ (blkI_of (off5_eq L k h) _ _) (slotI_of (off4_eq k h) _ _) (semI_of (off6_eq k h) _)) $$ HI
    iintro HI
    rw [wp_pure]
    imodintro
    iapply HK
    isplitr
    · ipureintro; exact next_words L k
    · unfold INext; rw [dif_pos hk]; iexact HI
  · rw [dif_neg (cond1_last L k h)]
    rw [wp_pure]
    imodintro
    iapply HK
    isplitr
    · ipureintro; exact next_words L k
    · unfold INext; rw [dif_neg (by omega)]; iexact HI

/-- What a slot of rows holds once its left half rows have come. -/
def LeftDone (s : Fin 2) (f : S2x128x256.Idx → BitVec 32) (g : S2x1x128.Idx → BitVec 32) (f' : S2x128x256.Idx → BitVec 32) : Prop :=
  ∃ hin : ∀ y, ((list s).view.read (Elt F) g y).toNat < S155648x128.size gathers_S155648x128_S128x128.axis,
    f' = (halfL s).view.write (Elt F) f
        (SparseCore.gatherPayload gathers_S155648x128_S128x128 ((xL).view.read (Elt F) x) (SparseCore.rows ((list s).view.read (Elt F) g) rfl hin)) Finset.univ

/-- The trip's second part: its block of row numbers taken, the left half rows fetched. -/
theorem part2 (O : CellTallies nD τ sig (HIx 1)) (W : Waits sig (HIx 1)) (hn : ∀ j, (n j).toNat < 155648) (k : Tr) (f : S2x128x256.Idx → BitVec 32)
    {a₁ : k0_chk3 (w7 k.val)} {a₂ : k0_chk2 (w7 k.val)} {a₃ : k0_chk1 L k (w6 k.val) (w7 k.val) (w7 k.val) (w9 k.val) (w10 k.val)}
    {b₁ : BitVec 32} {b₂ : BitVec 1} {b₃ b₄ : BitVec 32} {b₅ : BitVec 1} {Q : PUnit → sProp 𝕄} :
    iprop(Transfers.MayWaits (th d L) (default : HIx 1) O ∗ Owing (F := F) d L O W ∗ IFly (F := F) d L qi n (tb k) ∗ Rest (F := F) d L qx x
        ∗ ((slotO (sl k.val)).view.loc (th d L) ↦[(slotO (sl k.val)).view.set]{fullShare} f))
      ⊢ iprop(((∃ g f', ⌜(slotI (sl k.val)).view.read (Elt F) g = (blkI L (tb k)).view.read (Elt F) n ∧ LeftDone (F := F) x (sl k.val) f g f'⌝
            ∗ Owing (F := F) d L O W ∗ Rest (F := F) d L qx x
            ∗ ((slotI (sl k.val)).view.loc (th d L) ↦[(slotI (sl k.val)).view.set]{fullShare} g)
            ∗ semVal (th d L, SemLoc.dma (semI (sl k.val)).sem) 0 ∗ ((nV).view.loc (th d L) ↦[Finset.univ]{qi (sl k.val)} n)
            ∗ ((slotO (sl k.val)).view.loc (th d L) ↦[(slotO (sl k.val)).view.set]{fullShare} f')) -∗ Q ⟨⟩)
      -∗ wp frame (wpE (defs₀ (F := F)) 𝒱₀ (th d L) none) Set.univ
          (k0_part2_skel L xV (Memref.isWhole_whole _) nV (Memref.isWhole_whole _) oV (Memref.isWhole_whole _) bI (Memref.isWhole_whole _) cc0_scoped1
            bO (Memref.isWhole_whole _) cc0_scoped3 cc0_scoped4 cc0_scoped5 k (w6 k.val) (w7 k.val) (w7 k.val) (w9 k.val) (w10 k.val) a₁ a₂ a₃ b₁ b₂ b₃ b₄ b₅) Q) := by
  unfold k0_part2_skel
  rw [dif_pos (cond2_true L k)]
  simp only [wp_bind, ite_self]
  iintro ⟨#Hmw, HO, HI, HR, Hs⟩ HK
  iapply (takeI (F := F) d L qi n (tb k) (semI_of (off9_eq k) _) (slotI_of (off7_eq k) _ _)) $$ [HO HI]
  · isplitr; · iexact Hmw
    isplitl [HO]; · iexact HO
    iexact HI
  iintro ⟨HO, %g, %hg, HsI, HsemI, Hn⟩
  unfold Owing Rest
  icases HO with ⟨%W', %hW', HO⟩
  icases HR with ⟨Hs4, Hs5, Hx⟩
  iapply (gather_step (F := F) d L (hg := gathers_S155648x128_S128x128) (dst' := halfL (sl k.val)) (offs' := list (sl k.val)) (sem := cc0_scoped4)
    (congrArg (fun M : Memref sig .scVector .vmem S128x256 .i32 => M.slice (Rect.unit (s := S128x256) ![0, 0] S128x128.size inb_S128x256_S128x128_0_0) (fun _ => rfl))
      (slotO_of (off10_eq k) _ _))
    (congrArg (fun M : Memref sig .scVector .vmem S1x128 .i32 => (M.slice (Rect.unit (s := S1x128) ![0, 0] S1x128.size inb_S1x128_S1x128_0_0) (fun _ => rfl)).squeeze S128 squeezes_S1x128_S128)
      (slotI_of (off11_eq k) _ _))
    (credits_half _ _ rfl rfl) (Finset.subset_univ _) (sub_halfL (sl k.val)) (sub_list (sl k.val)) (list_lt (F := F) L (tb k) (sl k.val) n hn g hg)) $$ [Hx Hs HsI Hs4 HO]
  · isplitr; · iexact Hmw
    isplitl [Hx]; · iexact Hx
    isplitl [Hs]; · iexact Hs
    isplitl [HsI]; · iexact HsI
    isplitl [Hs4]; · iexact Hs4
    iexact HO
  iintro ⟨Hx, Hs, HsI, Hs4, HO⟩
  rw [wp_pure]
  imodintro
  iapply HK
  iexists g; iexists _
  isplitr
  swap
  · isplitl [HO]
    · iapply (show owes (th d L) O (insert (_, (default : HIx 1)) W') ⊢ (iprop(∃ W', ⌜∀ p ∈ W', p ∈ W ∨ p.2 = none⌝ ∗ owes (th d L) O W') : sProp 𝕄) from
        Owing_insert (F := F) d L O W W' hW' _)
      iexact HO
    isplitl [Hs4 Hs5 Hx]
    · isplitl [Hs4]; · iexact Hs4
      isplitl [Hs5]; · iexact Hs5
      iexact Hx
    isplitl [HsI]; · iexact HsI
    isplitl [HsemI]; · iexact HsemI
    isplitl [Hn]; · iexact Hn
    iexact Hs
  · ipureintro; exact ⟨hg, _, rfl⟩

/-- The trip's third part: the right half rows fetched, the filled slot sent to its block of the result. -/
theorem part3 (O : CellTallies nD τ sig (HIx 1)) (W : Waits sig (HIx 1)) (hn : ∀ j, (n j).toNat < 155648) (k : Tr) (f f' : S2x128x256.Idx → BitVec 32)
    (g : S2x1x128.Idx → BitVec 32) (hg : (slotI (sl k.val)).view.read (Elt F) g = (blkI L (tb k)).view.read (Elt F) n)
    (hf : LeftDone (F := F) x (sl k.val) f g f')
    {a₁ : k0_chk3 (w7 k.val)} {a₂ : k0_chk2 (w7 k.val)} {a₃ : k0_chk1 L k (w6 k.val) (w7 k.val) (w7 k.val) (w9 k.val) (w10 k.val)}
    {v64 v65 : BitVec 1} {v66 v71 v76 v91 : BitVec 32} (hN : Next L k.val v64 v65 v66 v71 v76 v91) {Q : _ → sProp 𝕄} :
    iprop(Transfers.MayWaits (th d L) (default : HIx 1) O ∗ Owing (F := F) d L O W ∗ Rest (F := F) d L qx x
        ∗ ((slotI (sl k.val)).view.loc (th d L) ↦[(slotI (sl k.val)).view.set]{fullShare} g)
        ∗ ((slotO (sl k.val)).view.loc (th d L) ↦[(slotO (sl k.val)).view.set]{fullShare} f')
        ∗ semVal (th d L, SemLoc.dma (semO (sl k.val)).sem) 0
        ∗ Todo (F := F) d L o k.val)
      ⊢ iprop((∀ v, iprop(⌜v.1 = w7 (k.val + 1)⌝
            ∗ Owing (F := F) d L O W ∗ Rest (F := F) d L qx x
            ∗ ((slotI (sl k.val)).view.loc (th d L) ↦[(slotI (sl k.val)).view.set]{fullShare} g)
            ∗ OFly (F := F) d L x n (tb k) ∗ Todo (F := F) d L o (k.val + 1)) -∗ Q v)
      -∗ wp frame (wpE (defs₀ (F := F)) 𝒱₀ (th d L) none) Set.univ
          (k0_part3_skel L xV (Memref.isWhole_whole _) nV (Memref.isWhole_whole _) oV (Memref.isWhole_whole _) bI (Memref.isWhole_whole _) cc0_scoped1
            bO (Memref.isWhole_whole _) cc0_scoped3 cc0_scoped4 cc0_scoped5 k (w6 k.val) (w7 k.val) (w7 k.val) (w9 k.val) (w10 k.val) a₁ a₂ a₃
            v64 v65 v66 v71 v76) Q) := by
  obtain ⟨hin, rfl⟩ := hf
  unfold k0_part3_skel
  rw [dif_pos (cond5_true L k)]
  simp only [wp_bind, ite_self]
  iintro ⟨#Hmw, HO, HR, HsI, Hs, Hsem, Hb⟩ HK
  unfold Owing Rest
  icases HO with ⟨%W', %hW', HO⟩
  icases HR with ⟨Hs4, Hs5, Hx⟩
  iapply (gather_step (F := F) d L (hg := gathers_S155648x128_S128x128) (dst' := halfR (sl k.val)) (offs' := list (sl k.val)) (sem := cc0_scoped5)
    (congrArg (fun M : Memref sig .scVector .vmem S128x256 .i32 => M.slice (Rect.unit (s := S128x256) ![0, 128] S128x128.size inb_S128x256_S128x128_0_128) (fun _ => rfl))
      (slotO_of (off10_eq k) _ _))
    (congrArg (fun M : Memref sig .scVector .vmem S1x128 .i32 => (M.slice (Rect.unit (s := S1x128) ![0, 0] S1x128.size inb_S1x128_S1x128_0_0) (fun _ => rfl)).squeeze S128 squeezes_S1x128_S128)
      (slotI_of (off11_eq k) _ _))
    (credits_half _ _ rfl rfl) (Finset.subset_univ _) (sub_halfR (sl k.val)) (sub_list (sl k.val)) (list_lt (F := F) L (tb k) (sl k.val) n hn g hg)) $$ [Hx Hs HsI Hs5 HO]
  · isplitr; · iexact Hmw
    isplitl [Hx]; · iexact Hx
    isplitl [Hs]; · iexact Hs
    isplitl [HsI]; · iexact HsI
    isplitl [Hs5]; · iexact Hs5
    iexact HO
  iintro ⟨Hx, Hs, HsI, Hs5, HO⟩
  iapply (issueO (F := F) d L x n o (tb k) (slotO_of (off12_eq k) _ _) (blkO_of (off13_eq L k) _ _) (semO_of (off14_eq k) _)
    (slot_read (F := F) L (tb k) (sl k.val) x n f g hg rfl hin)) $$ [Hs Hsem Hb]
  · isplitl [Hs]; · iexact Hs
    isplitl [Hsem]; · iexact Hsem
    iexact Hb
  iintro ⟨Hfly, HT⟩
  rw [wp_pure]
  imodintro
  iapply HK
  isplitr
  · ipureintro; exact hN.2.1
  isplitl [HO]
  · iapply (show owes (th d L) O (insert (_, (default : HIx 1)) W') ⊢ (iprop(∃ W', ⌜∀ p ∈ W', p ∈ W ∨ p.2 = none⌝ ∗ owes (th d L) O W') : sProp 𝕄) from
      Owing_insert (F := F) d L O W W' hW' _)
    iexact HO
  isplitl [Hs4 Hs5 Hx]
  · isplitl [Hs4]; · iexact Hs4
    isplitl [Hs5]; · iexact Hs5
    iexact Hx
  isplitl [HsI]; · iexact HsI
  isplitl [Hfly]; · iexact Hfly
  iexact HT

/-- One trip keeps the invariant. -/
theorem trip (O : CellTallies nD τ sig (HIx 1)) (W : Waits sig (HIx 1)) (hn : ∀ j, (n j).toNat < 155648) (k : Tr) :
    (Inv (F := F) d L qx qi x n o O W k.val : sProp 𝕄) ⊢ wp frame (wpE (defs₀ (F := F)) 𝒱₀ (th d L) none) Set.univ
      (k0_t1_body L xV (Memref.isWhole_whole _) nV (Memref.isWhole_whole _) oV (Memref.isWhole_whole _) bI (Memref.isWhole_whole _) cc0_scoped1
        bO (Memref.isWhole_whole _) cc0_scoped3 cc0_scoped4 cc0_scoped5 (base L) k (words k.val))
      fun acc => iprop(⌜acc = words (k.val + 1)⌝ ∗ Inv (F := F) d L qx qi x n o O W (k.val + 1)) := by
  unfold k0_t1_body
  simp only [words, wp_bind, k0_part1_eq_skeleton, k0_part2_eq_skeleton, k0_part3_eq_skeleton]
  unfold Inv
  iintro ⟨#Hmw, HR, HO, HI, HI', HF, HP, HD, HT⟩
  iapply (part1 (F := F) d L qi n k) $$ HI'
  iintro %v ⟨%hN, HI'⟩
  ihave HI := (show (INext (F := F) d L qi n k.val : sProp 𝕄) ⊢ IFly (F := F) d L qi n (tb k) by
    unfold INext; rw [dif_pos (tb k).isLt]) $$ HI
  ihave HF := (show (OFree (F := F) d L (sl k.val) : sProp 𝕄) ⊢ iprop((∃ f, (slotO (sl k.val)).view.loc (th d L) ↦[(slotO (sl k.val)).view.set]{fullShare} f)
    ∗ semVal (th d L, SemLoc.dma (semO (sl k.val)).sem) 0) by unfold OFree; exact BIBase.Entails.rfl) $$ HF
  icases HF with ⟨⟨%f, HF⟩, Hsem⟩
  iapply (part2 (F := F) d L qx qi x n O W hn k f) $$ [HO HI HR HF]
  · isplitr; · iexact Hmw
    isplitl [HO]; · iexact HO
    isplitl [HI]; · iexact HI
    isplitl [HR]; · iexact HR
    iexact HF
  iintro ⟨%g, %f', %hg, HO, HR, HsI, HsemI, Hn, Hs⟩
  iapply (part3 (F := F) d L qx x n o O W hn k f f' g hg.1 hg.2 hN) $$ [HO HR HsI Hs Hsem HT]
  · isplitr; · iexact Hmw
    isplitl [HO]; · iexact HO
    isplitl [HR]; · iexact HR
    isplitl [HsI]; · iexact HsI
    isplitl [Hs]; · iexact Hs
    isplitl [Hsem]; · iexact Hsem
    iexact HT
  iintro %u ⟨%hu, HO, HR, HsI, Hfly, HT⟩
  simp only [ite_self]
  rw [hN.1, hN.2.2.1, hu, hN.2.2.2, next_block k]
  by_cases h : k.val = 0
  · rw [dif_neg (cond7_first L k h), wp_pure]
    imodintro
    ihave HP := (show (OPrev (F := F) d L x n k.val : sProp 𝕄) ⊢ OFree (F := F) d L (sl (k.val + 1)) by
      unfold OPrev; rw [dif_neg (by omega)]) $$ HP
    ihave HD := (show (Done (F := F) d L x n (k.val - 1) : sProp 𝕄) ⊢ Done (F := F) d L x n (k.val + 1 - 1) by
      rw [h]) $$ HD
    isplitr
    · ipureintro; rfl
    isplitr; · iexact Hmw
    isplitl [HR]; · iexact HR
    isplitl [HO]; · iexact HO
    isplitl [HI']; · iexact HI'
    isplitl [HsemI Hn HsI]
    · rw [sl_add_two]
      unfold IFree
      isplitl [HsI]
      · iexists g; iexact HsI
      isplitl [HsemI]; · iexact HsemI
      iexact Hn
    isplitl [HP]; · iexact HP
    isplitl [Hfly]
    · unfold OPrev; rw [dif_pos ⟨Nat.succ_pos _, (tb k).isLt⟩]; iexact Hfly
    isplitl [HD]; · iexact HD
    iexact HT
  · have hk : k.val - 1 < 34 := by have := (tb k).isLt; simp only [tb] at this; omega
    rw [dif_pos (cond7_pos L k h)]
    simp only [wp_bind]
    iapply (takeO (F := F) d L x n ⟨k.val - 1, hk⟩ (semO_of ((off17_eq k h).trans (by rw [show (k.val + 1) % 2 = (k.val - 1) % 2 by omega]; rfl)) _) (blkO_of (off16_eq L k h) _ _)) $$ [HO HP HD]
    · isplitr; · iexact Hmw
      isplitl [HO]; · iexact HO
      isplitl [HP]
      · iapply (show (OPrev (F := F) d L x n k.val : sProp 𝕄) ⊢ OFly (F := F) d L x n ⟨k.val - 1, hk⟩ by
          unfold OPrev; rw [dif_pos (by omega)])
        iexact HP
      iexact HD
    iintro ⟨HO, HP, HD⟩
    rw [wp_pure]
    imodintro
    ihave HP := (show (OFree (F := F) d L (sl (k.val - 1)) : sProp 𝕄) ⊢ OFree (F := F) d L (sl (k.val + 1)) by
      rw [show k.val + 1 = k.val - 1 + 2 by omega, sl_add_two]) $$ HP
    ihave HD := (show (Done (F := F) d L x n (k.val - 1 + 1) : sProp 𝕄) ⊢ Done (F := F) d L x n (k.val + 1 - 1) by
      rw [show k.val - 1 + 1 = k.val + 1 - 1 by omega]) $$ HD
    isplitr
    · ipureintro; rfl
    isplitr; · iexact Hmw
    isplitl [HR]; · iexact HR
    isplitl [HO]; · iexact HO
    isplitl [HI']; · iexact HI'
    isplitl [HsemI Hn HsI]
    · rw [sl_add_two]
      unfold IFree
      isplitl [HsI]
      · iexists g; iexact HsI
      isplitl [HsemI]; · iexact HsemI
      iexact Hn
    isplitl [HP]; · iexact HP
    isplitl [Hfly]
    · unfold OPrev; rw [dif_pos ⟨Nat.succ_pos _, (tb k).isLt⟩]; iexact Hfly
    isplitl [HD]; · iexact HD
    iexact HT

end Cert.Proof.Gather

end
-- ==== Proof.Tile.lean ====
/-
  A subcore's task: the slots and cells its scoped memory gives, the first block of row numbers asked for, the loop, and
  the last block of the result waited for.
-/
module

public import proofs.«01_k».proof.Proof.Trip

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## The two slots of a buffer -/

theorem two_dvd_I : 2 ∣ S2x1x128.size 0 := ⟨1, rfl⟩
theorem two_dvd_O : 2 ∣ S2x128x256.size 0 := ⟨1, rfl⟩

theorem set_slotI (s : Fin 2) : (slotI s).view.set = (Rect.part (s := S2x1x128) (a₀ := 0) two_dvd_I s).set := by
  have e : Rect.unit (s := S2x1x128) ![s.val, 0, 0] S1x1x128.size (slotI_inb s) = Rect.part (s := S2x1x128) (a₀ := 0) two_dvd_I s := by
    unfold Rect.part Rect.block
    congr 1 <;> funext a
    · match a with
      | 0 => simp [Shape.partIx, Shape.partSize]
      | 1 => simp [Shape.partIx, Shape.partSize]
      | 2 => simp [Shape.partIx, Shape.partSize]
    · match a with
      | 0 => simp [Shape.partSize]
      | 1 => simp [Shape.partSize]
      | 2 => simp [Shape.partSize]
  show (((bI).view.slice (Rect.unit (s := S2x1x128) ![s.val, 0, 0] S1x1x128.size (slotI_inb s))).reshape S1x128 squeezes_S1x1x128_S1x128.numel_eq).set = _
  rw [View.set_reshape, View.set_slice, ← e]
  exact Finset.map_refl
theorem set_slotO (s : Fin 2) : (slotO s).view.set = (Rect.part (s := S2x128x256) (a₀ := 0) two_dvd_O s).set := by
  have e : Rect.unit (s := S2x128x256) ![s.val, 0, 0] S1x128x256.size (slotO_inb s) = Rect.part (s := S2x128x256) (a₀ := 0) two_dvd_O s := by
    unfold Rect.part Rect.block
    congr 1 <;> funext a
    · match a with
      | 0 => simp [Shape.partIx, Shape.partSize]
      | 1 => simp [Shape.partIx, Shape.partSize]
      | 2 => simp [Shape.partIx, Shape.partSize]
    · match a with
      | 0 => simp [Shape.partSize]
      | 1 => simp [Shape.partSize]
      | 2 => simp [Shape.partSize]
  show (((bO).view.slice (Rect.unit (s := S2x128x256) ![s.val, 0, 0] S1x128x256.size (slotO_inb s))).reshape S128x256 squeezes_S1x128x256_S128x256.numel_eq).set = _
  rw [View.set_reshape, View.set_slice, ← e]
  exact Finset.map_refl

theorem slotsI_disjoint : Disjoint (slotI 0).view.set (slotI 1).view.set := by
  rw [set_slotI, set_slotI]; exact Rect.part_disjoint two_dvd_I (by decide)
theorem slotsO_disjoint : Disjoint (slotO 0).view.set (slotO 1).view.set := by
  rw [set_slotO, set_slotO]; exact Rect.part_disjoint two_dvd_O (by decide)
theorem slotsI_cover : (slotI 0).view.set ∪ (slotI 1).view.set = Finset.univ := by
  rw [set_slotI, set_slotI, ← Rect.biUnion_part two_dvd_I]
  rw [show (Finset.univ : Finset (Fin 2)) = {0, 1} by decide, Finset.biUnion_insert, Finset.singleton_biUnion]
theorem slotsO_cover : (slotO 0).view.set ∪ (slotO 1).view.set = Finset.univ := by
  rw [set_slotO, set_slotO, ← Rect.biUnion_part two_dvd_O]
  rw [show (Finset.univ : Finset (Fin 2)) = {0, 1} by decide, Finset.biUnion_insert, Finset.singleton_biUnion]

variable (d : Dev nD) (L : grid0.Coords)

theorem bufI_split : (iprop(∃ f, (th d L).loc cc0_scoped0 ↦{fullShare} f) : sProp 𝕄)
    ⊢ iprop((∃ f, (slotI 0).view.loc (th d L) ↦[(slotI 0).view.set]{fullShare} f) ∗ ∃ f, (slotI 1).view.loc (th d L) ↦[(slotI 1).view.set]{fullShare} f) := by
  iintro ⟨%f, H⟩
  ihave H := (show ((th d L).loc cc0_scoped0 ↦{fullShare} f : sProp 𝕄) ⊢ (bI).view.loc (th d L) ↦[(slotI 0).view.set ∪ (slotI 1).view.set]{fullShare} f by
    rw [slotsI_cover]) $$ H
  ihave H := (pointsTo_union slotsI_disjoint).1 $$ H
  icases H with ⟨H₀, H₁⟩
  isplitl [H₀]
  · iexists f; iexact H₀
  · iexists f; iexact H₁
theorem bufI_join : (iprop((∃ f, (slotI 0).view.loc (th d L) ↦[(slotI 0).view.set]{fullShare} f) ∗ ∃ f, (slotI 1).view.loc (th d L) ↦[(slotI 1).view.set]{fullShare} f) : sProp 𝕄)
    ⊢ iprop(∃ f, (th d L).loc cc0_scoped0 ↦{fullShare} f) := by
  iintro ⟨⟨%f, H₀⟩, ⟨%g, H₁⟩⟩
  ihave H := (pointsTo_join (ℓ := (bI).view.loc (th d L)) (f := f) (g := g) slotsI_disjoint) $$ [H₀ H₁]
  · isplitl [H₀] <;> iassumption
  iexists _
  iapply (show ((bI).view.loc (th d L) ↦[(slotI 0).view.set ∪ (slotI 1).view.set]{fullShare} (slotI 1).view.set.piecewise g f : sProp 𝕄)
    ⊢ ((th d L).loc cc0_scoped0 ↦{fullShare} (slotI 1).view.set.piecewise g f) by rw [slotsI_cover])
  iexact H
theorem bufO_split : (iprop(∃ f, (th d L).loc cc0_scoped2 ↦{fullShare} f) : sProp 𝕄)
    ⊢ iprop((∃ f, (slotO 0).view.loc (th d L) ↦[(slotO 0).view.set]{fullShare} f) ∗ ∃ f, (slotO 1).view.loc (th d L) ↦[(slotO 1).view.set]{fullShare} f) := by
  iintro ⟨%f, H⟩
  ihave H := (show ((th d L).loc cc0_scoped2 ↦{fullShare} f : sProp 𝕄) ⊢ (bO).view.loc (th d L) ↦[(slotO 0).view.set ∪ (slotO 1).view.set]{fullShare} f by
    rw [slotsO_cover]) $$ H
  ihave H := (pointsTo_union slotsO_disjoint).1 $$ H
  icases H with ⟨H₀, H₁⟩
  isplitl [H₀]
  · iexists f; iexact H₀
  · iexists f; iexact H₁
theorem bufO_join : (iprop((∃ f, (slotO 0).view.loc (th d L) ↦[(slotO 0).view.set]{fullShare} f) ∗ ∃ f, (slotO 1).view.loc (th d L) ↦[(slotO 1).view.set]{fullShare} f) : sProp 𝕄)
    ⊢ iprop(∃ f, (th d L).loc cc0_scoped2 ↦{fullShare} f) := by
  iintro ⟨⟨%f, H₀⟩, ⟨%g, H₁⟩⟩
  ihave H := (pointsTo_join (ℓ := (bO).view.loc (th d L)) (f := f) (g := g) slotsO_disjoint) $$ [H₀ H₁]
  · isplitl [H₀] <;> iassumption
  iexists _
  iapply (show ((bO).view.loc (th d L) ↦[(slotO 0).view.set ∪ (slotO 1).view.set]{fullShare} (slotO 1).view.set.piecewise g f : sProp 𝕄)
    ⊢ ((th d L).loc cc0_scoped2 ↦{fullShare} (slotO 1).view.set.piecewise g f) by rw [slotsO_cover])
  iexact H

/-! ## The subcore's own buffers and cells -/

/-- The subcore's buffers other than the two. -/
abbrev othersB : sProp 𝕄 :=
  bigSep (((ownRefs (τ := τ) (.scVector (cV L) (jV L))).erase ((Proc.scVector (cV L) (jV L)).devRef cc0_scoped0)).erase
    ((Proc.scVector (cV L) (jV L)).devRef cc0_scoped2)) fun b => iprop(∃ f, ((d, b) : Loc nD τ sig) ↦{fullShare} f)

theorem own_buffers : (ownBufs (th d L) : sProp 𝕄)
    = iprop((∃ f, (th d L).loc cc0_scoped0 ↦{fullShare} f) ∗ (∃ f, (th d L).loc cc0_scoped2 ↦{fullShare} f) ∗ othersB (F := F) d L) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-- A cell of the subcore, by its name. -/
abbrev cell (s : SemLoc sig) : GSem nD τ sig := (th d L, s)
abbrev nI (s : Fin 2) : SemLoc sig := .dma (semI s).sem
abbrev nO (s : Fin 2) : SemLoc sig := .dma (semO s).sem
abbrev nL : SemLoc sig := .dma cc0_scoped4.sem
abbrev nR : SemLoc sig := .dma cc0_scoped5.sem

theorem cell_ne {a b : SemLoc sig} (h : a ≠ b) : cell d L a ≠ cell d L b := fun e => h (congrArg Prod.snd e)
theorem cell_own {a : SemLoc sig} (h : a.isScoped .scVector = true) : cell d L a ∈ ownCells (th d L) := mem_ownCells.mpr ⟨rfl, h⟩

/-- The subcore's cells other than the six. -/
abbrev othersS : sProp 𝕄 :=
  bigSep (((((((ownCells (th d L)).erase (cell d L (nI 0))).erase (cell d L (nI 1))).erase (cell d L (nO 0))).erase (cell d L (nO 1))).erase
    (cell d L nL)).erase (cell d L nR)) fun g => semVal g 0

theorem own_cells : (ownSems0 (th d L) : sProp 𝕄)
    = iprop(semVal (cell d L (nI 0)) 0 ∗ semVal (cell d L (nI 1)) 0 ∗ semVal (cell d L (nO 0)) 0 ∗ semVal (cell d L (nO 1)) 0
        ∗ semVal (cell d L nL) 0 ∗ semVal (cell d L nR) 0 ∗ othersS (F := F) d L) := by
  unfold SparseCore.Cfg.ownSems0
  have i0 := cell_own d L (a := nI 0) (by decide)
  have i1 := Finset.mem_erase.mpr ⟨cell_ne d L (show nI 1 ≠ nI 0 by decide), cell_own d L (a := nI 1) (by decide)⟩
  have o0 := Finset.mem_erase.mpr ⟨cell_ne d L (show nO 0 ≠ nI 1 by decide), Finset.mem_erase.mpr ⟨cell_ne d L (show nO 0 ≠ nI 0 by decide), cell_own d L (a := nO 0) (by decide)⟩⟩
  have o1 := Finset.mem_erase.mpr ⟨cell_ne d L (show nO 1 ≠ nO 0 by decide), Finset.mem_erase.mpr ⟨cell_ne d L (show nO 1 ≠ nI 1 by decide),
    Finset.mem_erase.mpr ⟨cell_ne d L (show nO 1 ≠ nI 0 by decide), cell_own d L (a := nO 1) (by decide)⟩⟩⟩
  have l := Finset.mem_erase.mpr ⟨cell_ne d L (show nL ≠ nO 1 by decide), Finset.mem_erase.mpr ⟨cell_ne d L (show nL ≠ nO 0 by decide),
    Finset.mem_erase.mpr ⟨cell_ne d L (show nL ≠ nI 1 by decide), Finset.mem_erase.mpr ⟨cell_ne d L (show nL ≠ nI 0 by decide), cell_own d L (a := nL) (by decide)⟩⟩⟩⟩
  have r := Finset.mem_erase.mpr ⟨cell_ne d L (show nR ≠ nL by decide), Finset.mem_erase.mpr ⟨cell_ne d L (show nR ≠ nO 1 by decide), Finset.mem_erase.mpr ⟨cell_ne d L (show nR ≠ nO 0 by decide),
    Finset.mem_erase.mpr ⟨cell_ne d L (show nR ≠ nI 1 by decide), Finset.mem_erase.mpr ⟨cell_ne d L (show nR ≠ nI 0 by decide), cell_own d L (a := nR) (by decide)⟩⟩⟩⟩⟩
  rw [SparseCore.bigSep_erase' i0, SparseCore.bigSep_erase' i1, SparseCore.bigSep_erase' o0, SparseCore.bigSep_erase' o1,
    SparseCore.bigSep_erase' l, SparseCore.bigSep_erase' r]

variable [FloatOps F]
variable (q : PosShare TreeShare)
variable (x : S155648x256.Idx → BitVec 32) (n : S1x139264.Idx → BitVec 32) (o : S139264x256.Idx → BitVec 32)

/-- The two slots' shares of the row numbers: the halves of the subcore's. -/
def halves : Fin 2 → PosShare TreeShare := ![q.left, q.right]

theorem base_eq : ∀ L : grid0.Coords, Scalar.muli (Scalar.addi (Scalar.addi 0#32 (Scalar.muli (BitVec.ofNat 32 (L 1).val) 1#32))
    (Scalar.muli (BitVec.ofNat 32 (L 0).val) 16#32)) 34#32 = base L := by decide +kernel

/-- What the subcore is handed: its share of the table and of the row numbers, its rows of the result. -/
def Given : sProp 𝕄 :=
  iprop(((xV).view.loc (th d L) ↦[Finset.univ]{q} x) ∗ ((nV).view.loc (th d L) ↦[Finset.univ]{q} n)
    ∗ ((oV).view.loc (th d L) ↦[band (128 * gb L 0) (128 * gb L 34)]{fullShare} o))

/-- Between the first transfer and the last wait: the loop. -/
theorem loop (O : CellTallies nD τ sig (HIx 1)) (W : Waits sig (HIx 1)) (hn : ∀ j, (n j).toNat < 155648) {Q : _ → sProp 𝕄} :
    (Inv (F := F) d L q (halves q) x n o O W 0 : sProp 𝕄) ⊢ iprop((∀ v, iprop(⌜v.1 = w9 34 ∧ v.2.1 = w10 34⌝ ∗ Inv (F := F) d L q (halves q) x n o O W 34) -∗ Q v)
      -∗ wp frame (wpE (defs₀ (F := F)) 𝒱₀ (th d L) none) Set.univ
          (k0_part5_skel L xV (Memref.isWhole_whole _) nV (Memref.isWhole_whole _) oV (Memref.isWhole_whole _) bI (Memref.isWhole_whole _) cc0_scoped1
            bO (Memref.isWhole_whole _) cc0_scoped3 cc0_scoped4 cc0_scoped5 (base L)) Q) := by
  unfold k0_part5_skel
  simp only [wp_bind]
  iintro HI HK
  iapply (Scf.wp_for frame (wpE (defs₀ (F := F)) 𝒱₀ (th d L) none) Set.univ _ _ _ k0_t1_ok _ _
    (fun k acc => iprop(⌜acc = words k⌝ ∗ Inv (F := F) d L q (halves q) x n o O W k)) (by
      intro k acc
      iintro ⟨%h, HI⟩
      subst h
      iapply (trip (F := F) d L q (halves q) x n o O W hn k)
      iexact HI))
  isplitl [HI]
  · isplitr
    · ipureintro; decide
    · iexact HI
  iintro %acc ⟨%h, HI⟩
  subst h
  iapply (assume_step (F := F) d L (show k0_chk5 L (words k0_t1_loop.trips).2.2.2.2 from trips_eq ▸ chk5_last L))
  iapply (assume_step (F := F) d L (show k0_chk4 (words k0_t1_loop.trips).2.2.2.1 from trips_eq ▸ chk4_last))
  rw [wp_pure]
  imodintro
  iapply HK
  isplitr
  · ipureintro; exact ⟨congrArg w9 trips_eq, congrArg w10 trips_eq⟩
  · iapply (show (Inv (F := F) d L q (halves q) x n o O W k0_t1_loop.trips : sProp 𝕄) ⊢ Inv (F := F) d L q (halves q) x n o O W 34 by rw [trips_eq])
    iexact HI

/-- The subcore's task: its rows of the result come to hold the gathered array's. -/
theorem task (hF : (K (F := F)).Facts) (hn : ∀ j, (n j).toNat < 155648) (O : CellTallies nD τ sig (HIx 1)) (W : Waits sig (HIx 1)) (hO : ∀ g, O g none = 0) :
    iprop(levAts (K (F := F)).L (K (F := F)).lev ∗ emp ∗ Given (F := F) d L q x n o
        ∗ scopedBufs (th d L) ∗ scopedSems0 (th d L) ∗ owes (th d L) O W)
      ⊢ wp frame (wpE (defs₀ (F := F)) 𝒱₀ (th d L) none) Set.univ
          (cc0_gather L xV (Memref.isWhole_whole _) nV (Memref.isWhole_whole _) oV (Memref.isWhole_whole _) bI (Memref.isWhole_whole _) cc0_scoped1
            bO (Memref.isWhole_whole _) cc0_scoped3 cc0_scoped4 cc0_scoped5)
          fun _ => (iprop(Given (F := F) d L q x n (gathered x n) ∗ scopedBufs (th d L) ∗ scopedSems0 (th d L)
            ∗ ∃ W', ⌜∀ p ∈ W', p ∈ W ∨ p.2 = none⌝ ∗ owes (th d L) O W') : sProp 𝕄) := by
  simp only [cc0_gather_eq_skeleton]; unfold cc0_gather_skel
  simp only [wp_bind, k0_part4_eq_skeleton, k0_part5_eq_skeleton]
  rw [(K (F := F)).scopedBufs_V hF d (cV L) (jV L), SparseCore.Cfg.scopedSems0_V (Val := Elt F) d (cV L) (jV L)]
  rw [show (ownSems0 (V d (cV L) (jV L)) : sProp 𝕄) = _ from own_cells (F := F) d L, show (ownBufs (V d (cV L) (jV L)) : sProp 𝕄) = _ from own_buffers (F := F) d L]
  unfold Given
  iintro ⟨#Hlv, -, ⟨Hx, Hn, Ho⟩, ⟨HbI, HbO, Hbufs⟩, ⟨HI0, HI1, HO0, HO1, HL, HR, Hsems⟩, HO⟩
  ihave #Hmw := (show levAts (K (F := F)).L (K (F := F)).lev ⊢ (Transfers.MayWaits (th d L) (default : HIx 1) O : sProp 𝕄) from
    (K (F := F)).mayWaits_none (thr := th d L) hO) $$ Hlv
  ihave HbI := (bufI_split (F := F) d L) $$ HbI
  icases HbI with ⟨HbI0, HbI1⟩
  ihave HbO := (bufO_split (F := F) d L) $$ HbO
  icases HbO with ⟨HbO0, HbO1⟩
  ihave Hn := (pointsTo_share (PosShare.mem_left_op_right q)).1 $$ Hn
  icases Hn with ⟨Hn0, Hn1⟩
  unfold k0_part4_skel
  simp only [wp_bind]
  iapply (issueI (F := F) d L (halves q) n 0 (blkI_of (off2_eq L) _ _) (slotI_of k0_off1_eq _ _) (semI_of k0_off3_eq _)) $$ [HbI0 HI0 Hn0]
  · unfold IFree
    isplitl [HbI0]; · iexact HbI0
    isplitl [HI0]; · iexact HI0
    iexact Hn0
  iintro Hfly
  rw [wp_pure]
  imodintro
  rw [base_eq L]
  iapply (loop (F := F) d L q x n o O W hn) $$ [Hx Ho HI1 HO0 HO1 HL HR HO HbI1 HbO0 HbO1 Hn1 Hfly]
  · unfold Inv
    isplitr; · iexact Hmw
    isplitl [HL HR Hx]
    · unfold Rest
      isplitl [HL]; · iexact HL
      isplitl [HR]; · iexact HR
      iexact Hx
    isplitl [HO]
    · unfold Owing
      iexists W; isplitr
      · ipureintro; exact fun p hp => .inl hp
      · iexact HO
    isplitl [Hfly]
    · unfold INext; rw [dif_pos (by decide)]; iexact Hfly
    isplitl [HbI1 HI1 Hn1]
    · unfold IFree
      isplitl [HbI1]; · iexact HbI1
      isplitl [HI1]; · iexact HI1
      iexact Hn1
    isplitl [HbO0 HO0]
    · unfold OFree
      isplitl [HbO0]; · iexact HbO0
      iexact HO0
    isplitl [HbO1 HO1]
    · unfold OPrev; rw [dif_neg (by decide)]; unfold OFree
      isplitl [HbO1]; · iexact HbO1
      iexact HO1
    isplitr
    · unfold Done; rw [band_self, pointsTo_empty]; iempintro
    · unfold Todo; iexact Ho
  unfold Inv
  iintro %v ⟨%hv, -, Hrest, HO, HIn, HIf, HOf, HOp, HD, -⟩
  ihave HOp := (show (OPrev (F := F) d L x n 34 : sProp 𝕄) ⊢ OFly (F := F) d L x n 33 by
    unfold OPrev; rw [dif_pos (by decide)]; exact BIBase.Entails.rfl) $$ HOp
  iapply (takeO (F := F) d L x n 33 (semO_of ((congrArg k0_off20 hv.1).trans off20_eq) _) (blkO_of ((congrArg (k0_off19 L) hv.2).trans (off19_eq L)) _ _)) $$ [HO HOp HD]
  · isplitr; · iexact Hmw
    isplitl [HO]; · iexact HO
    isplitl [HOp]; · iexact HOp
    iexact HD
  iintro ⟨HO, HOp, HD⟩
  rw [wp_pure]
  imodintro
  ihave HIn := (show (INext (F := F) d L (halves q) n 34 : sProp 𝕄) ⊢ IFree (F := F) d L (halves q) n 0 by
    unfold INext; rw [dif_neg (by decide)]; exact BIBase.Entails.rfl) $$ HIn
  ihave HIf := (show (IFree (F := F) d L (halves q) n (sl (34 + 1)) : sProp 𝕄) ⊢ IFree (F := F) d L (halves q) n 1 from BIBase.Entails.rfl) $$ HIf
  ihave HOf := (show (OFree (F := F) d L (sl 34) : sProp 𝕄) ⊢ OFree (F := F) d L 0 from BIBase.Entails.rfl) $$ HOf
  ihave HOp := (show (OFree (F := F) d L (sl (33 : Fin 34).val) : sProp 𝕄) ⊢ OFree (F := F) d L 1 from BIBase.Entails.rfl) $$ HOp
  unfold IFree OFree Rest Owing
  icases HIn with ⟨HbI0, HI0, Hn0⟩
  icases HIf with ⟨HbI1, HI1, Hn1⟩
  icases HOf with ⟨HbO0, HO0⟩
  icases HOp with ⟨HbO1, HO1⟩
  icases Hrest with ⟨HL, HR, Hx⟩
  isplitl [Hx Hn0 Hn1 HD]
  · isplitl [Hx]; · iexact Hx
    isplitl [Hn0 Hn1]
    · iapply (pointsTo_share (PosShare.mem_left_op_right q)).2
      isplitl [Hn0]; · iexact Hn0
      iexact Hn1
    · unfold Done; iexact HD
  isplitl [HbI0 HbI1 HbO0 HbO1 Hbufs]
  · isplitl [HbI0 HbI1]
    · iapply (bufI_join (F := F) d L)
      isplitl [HbI0]; · iexact HbI0
      iexact HbI1
    isplitl [HbO0 HbO1]
    · iapply (bufO_join (F := F) d L)
      isplitl [HbO0]; · iexact HbO0
      iexact HbO1
    iexact Hbufs
  isplitl [HI0 HI1 HO0 HO1 HL HR Hsems]
  · isplitl [HI0]; · iexact HI0
    isplitl [HI1]; · iexact HI1
    isplitl [HO0]; · iexact HO0
    isplitl [HO1]; · iexact HO1
    isplitl [HL]; · iexact HL
    isplitl [HR]; · iexact HR
    iexact Hsems
  iexact HO

end Cert.Proof.Gather

end
-- ==== Proof.Launch.lean ====
/-
  The launch: what the call hands each SparseCore and each of its subcores, the shares of the table and of the row
  numbers and the rows of the result; the program's run, its result the gathered array.
-/
module

public import proofs.«01_k».proof.Proof.Tile
public import Idealize.ShloMosaic.Lib.ShareLeaves

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells)
open Idealize.ShloMosaic.ShareLeaves
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The shares and the rows -/

/-- Core `c`'s share of a buffer all subcores read, and its subcore `i`'s. -/
abbrev shC (c : Fin 2) : PosShare TreeShare := leaf 1 fullShare c
abbrev shT (c : Fin 2) (i : Fin 16) : PosShare TreeShare := leaf 4 (shC c) i

/-- The rows of the result that core `c` writes, and those its subcore `i` writes. -/
abbrev rowsC (c : Fin 2) : Finset S139264x256.Idx := band (128 * (34 * (16 * c.val))) (128 * (34 * (16 * c.val + 16)))
abbrev rowsT (c : Fin 2) (i : Fin 16) : Finset S139264x256.Idx := band (128 * (34 * (16 * c.val + i.val))) (128 * (34 * (16 * c.val + i.val) + 34))

theorem rowsT_disjoint (c : Fin 2) : ∀ i ∈ (Finset.univ : Finset (Fin 16)), ∀ j ∈ (Finset.univ : Finset (Fin 16)), i ≠ j → Disjoint (rowsT c i) (rowsT c j) := by
  intro i _ j _ h
  rcases Nat.lt_or_gt_of_ne (fun e => h (Fin.ext e)) with h | h
  · exact band_disjoint (by omega)
  · exact (band_disjoint (by omega)).symm
theorem rowsT_cover (c : Fin 2) : (Finset.univ : Finset (Fin 16)).biUnion (rowsT c) = rowsC c := by
  ext j
  simp only [Finset.mem_biUnion, Finset.mem_univ, true_and, mem_band]
  constructor
  · rintro ⟨i, h₁, h₂⟩; have := i.isLt; omega
  · rintro ⟨h₁, h₂⟩
    exact ⟨⟨(j 0).val / 4352 - 16 * c.val, by omega⟩, by show 128 * (34 * (16 * c.val + ((j 0).val / 4352 - 16 * c.val))) ≤ _; omega,
      by show _ < 128 * (34 * (16 * c.val + ((j 0).val / 4352 - 16 * c.val)) + 34); omega⟩
theorem rowsC_disjoint : ∀ i ∈ (Finset.univ : Finset (Fin 2)), ∀ j ∈ (Finset.univ : Finset (Fin 2)), i ≠ j → Disjoint (rowsC i) (rowsC j) := by
  intro i _ j _ h
  rcases Nat.lt_or_gt_of_ne (fun e => h (Fin.ext e)) with h | h
  · exact band_disjoint (by omega)
  · exact (band_disjoint (by omega)).symm
theorem rowsC_cover : (Finset.univ : Finset (Fin 2)).biUnion rowsC = Finset.univ := by
  ext j
  have hj : (j 0).val < 139264 := (j 0).isLt
  simp only [Finset.mem_biUnion, Finset.mem_univ, true_and, mem_band, iff_true]
  exact ⟨⟨(j 0).val / 69632, by omega⟩, by show 128 * (34 * (16 * ((j 0).val / 69632))) ≤ _; omega,
    by show _ < 128 * (34 * (16 * ((j 0).val / 69632) + 16)); omega⟩

/-! ## What the handshakes carry -/

variable (m : (ℓ : Loc nD τ sig) → Buf (Elt F) ℓ) (ρ : Dev nD → PrngReg)

/-- The result on device `d`: the rows the row numbers name. -/
abbrev res (d : Dev nD) : Buf (Elt F) (oLoc d) := gathered (m (xLoc d)) (m (iLoc d))

/-- All of the table, of the row numbers and of the result; a core's part; a subcore's part. -/
abbrev allPts (d : Dev nD) (o : Buf (Elt F) (oLoc d)) : sProp 𝕄 :=
  iprop((xLoc d ↦{fullShare} m (xLoc d)) ∗ (iLoc d ↦{fullShare} m (iLoc d)) ∗ oLoc d ↦{fullShare} o)
abbrev corePts (d : Dev nD) (c : Fin 2) (o : Buf (Elt F) (oLoc d)) : sProp 𝕄 :=
  iprop((xLoc d ↦{shC c} m (xLoc d)) ∗ (iLoc d ↦{shC c} m (iLoc d)) ∗ oLoc d ↦[rowsC c]{fullShare} o)
abbrev tilePts (d : Dev nD) (c : Fin 2) (i : Fin 16) (o : Buf (Elt F) (oLoc d)) : sProp 𝕄 :=
  iprop((xLoc d ↦{shT c i} m (xLoc d)) ∗ (iLoc d ↦{shT c i} m (iLoc d)) ∗ oLoc d ↦[rowsT c i]{fullShare} o)

theorem all_cores (d : Dev nD) (o : Buf (Elt F) (oLoc d)) : (allPts m d o : sProp 𝕄) = bigSep Finset.univ fun c : Fin 2 => corePts m d c o := by
  rw [bigSep_sep', bigSep_sep', ← pointsTo_biUnion Finset.univ (ℓ := oLoc d) rowsC rowsC_disjoint, rowsC_cover]
  unfold allPts
  rw [pointsTo_leaves Finset.univ (m (xLoc d)) 1 fullShare, pointsTo_leaves Finset.univ (m (iLoc d)) 1 fullShare]
  rfl
theorem core_tiles (d : Dev nD) (c : Fin 2) (o : Buf (Elt F) (oLoc d)) : (corePts m d c o : sProp 𝕄) = bigSep Finset.univ fun i : Fin 16 => tilePts m d c i o := by
  rw [bigSep_sep', bigSep_sep', ← pointsTo_biUnion Finset.univ (ℓ := oLoc d) (rowsT c) (rowsT_disjoint c), rowsT_cover]
  unfold corePts
  rw [pointsTo_leaves Finset.univ (m (xLoc d)) 4 (shC c), pointsTo_leaves Finset.univ (m (iLoc d)) 4 (shC c)]
  rfl

theorem nCore_zero : (K (F := F)).nCore 0 = 2 := rfl
abbrev cC (c : Fin ((K (F := F)).nCore 0)) : Fin 2 := Fin.cast nCore_zero c
abbrev cT (i : Fin ((K (F := F)).nSub 0)) : Fin 16 := Fin.cast nSub_zero i

/-- The call hands each core its part, each core its subcores theirs; they come back, the result's rows gathered. -/
def P : (K (F := F)).Pay (nD := nD) (Val := Elt F) (Name := ℕ) (U := UU) where
  st := fun q d c => match q with | 0 => corePts m d (cC c) (m (oLoc d))
  dn := fun q d c => match q with | 0 => corePts m d (cC c) (res m d)
  go := fun q d c i => match q with | 0 => tilePts m d (cC c) (cT i) (m (oLoc d))
  td := fun q d c i => match q with | 0 => tilePts m d (cC c) (cT i) (res m d)
  x := fun _ _ => iprop(emp)

instance P_storable : (P (F := F) m).IsStorable where
  st q d c := match q with | 0 => (inferInstance : BI.Storable (upEmb : UEmb _ 𝕄) (corePts m d (cC c) (m (oLoc d))))
  dn q d c := match q with | 0 => (inferInstance : BI.Storable (upEmb : UEmb _ 𝕄) (corePts m d (cC c) (res m d)))
  go q d c i := match q with | 0 => (inferInstance : BI.Storable (upEmb : UEmb _ 𝕄) (tilePts m d (cC c) (cT i) (m (oLoc d))))
  td q d c i := match q with | 0 => (inferInstance : BI.Storable (upEmb : UEmb _ 𝕄) (tilePts m d (cC c) (cT i) (res m d)))

/-- What is asked of the launch memory: every row number is one of the table's rows. -/
def PreOK : Prop := ∀ (d : Dev nD) (j : S1x139264.Idx), (m (iLoc d) j).toNat < 155648

variable [FloatOps F]

/-! ## The subcores' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather (coordsV c s) xV (Memref.isWhole_whole _) nV (Memref.isWhole_whole _) oV (Memref.isWhole_whole _)
          bI (Memref.isWhole_whole _) cc0_scoped1 bO (Memref.isWhole_whole _) cc0_scoped3 cc0_scoped4 cc0_scoped5) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task d (coordsV ⟨_, hci.1⟩ ⟨_, hci.2⟩) (shT (cC c) (cT i)) (m (xLoc d)) (m (iLoc d)) (m (oLoc d)) hF (hpre d) O W hO).trans
    (wp_mono frame _ _ fun _ => obl_post)

theorem vecSplit : (K (F := F)).VecSplit' (P m) 0 := by
  intro d c
  show (corePts m d (cC c) (m (oLoc d)) : sProp 𝕄) ⊢ |={Set.univ}=> iprop(
      (bigSep Finset.univ fun i : Fin ((K (F := F)).nSub 0) => tilePts m d (cC c) (cT i) (m (oLoc d)))
      ∗ ((bigSep Finset.univ fun i : Fin ((K (F := F)).nSub 0) => tilePts m d (cC c) (cT i) (res m d)) -∗ corePts m d (cC c) (res m d)))
  rw [show (bigSep Finset.univ fun i : Fin ((K (F := F)).nSub 0) => (tilePts m d (cC c) (cT i) (m (oLoc d)) : sProp 𝕄)) = corePts m d (cC c) (m (oLoc d)) from
      (core_tiles m d (cC c) (m (oLoc d))).symm,
    show (bigSep Finset.univ fun i : Fin ((K (F := F)).nSub 0) => (tilePts m d (cC c) (cT i) (res m d) : sProp 𝕄)) = corePts m d (cC c) (res m d) from
      (core_tiles m d (cC c) (res m d)).symm]
  iintro H; imodintro
  isplitl [H]; · iexact H
  iintro H; iexact H

/-! ## The launch element, @main, the end -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [show (bigSep Finset.univ fun _ : Dev nD => iprop(emp)) = (iprop(emp) : sProp 𝕄) from bigSep_emp_const _]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep Finset.univ fun _ : Thread nD τ => iprop(emp)) = (iprop(emp) : sProp 𝕄) from bigSep_emp_const _]
  iempintro

theorem unscoped (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- @main on device `d`'s TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ allPts m d (res m d) ∗ (K (F := F)).tcEnd d) := by
  unfold SparseCore.Cfg.tcRes SparseCore.Cfg.tcEnd
  rw [unscoped]
  simp only [main, wp_bind, wp_pure]
  iintro ⟨#Hctx, Hst, ⟨Hb, H, Hts, -⟩, -⟩
  iapply ((K (F := F)).wp_run (D (F := F)) 𝒱 (EH := EH) (P := P m) κ d 0) $$ [Hst H Hb Hts]
  isplitr; · iexact Hctx
  isplitl [Hst]; · iexact Hst
  isplitl [H]
  · rw [show (bigSep Finset.univ fun c : Fin ((K (F := F)).nCore 0) => (P m).st 0 d c : sProp 𝕄) = allPts m d (m (oLoc d)) from (all_cores m d _).symm]
    iexact H
  iintro ⟨Hst, Hdn⟩
  ihave Hdn := (Entails.of_eq (show (bigSep Finset.univ fun c : Fin ((K (F := F)).nCore 0) => (P m).dn 0 d c : sProp 𝕄) = allPts m d (res m d) from (all_cores m d _).symm)) $$ Hdn
  imodintro
  isplitl [Hst]; · iexact Hst
  isplitl [Hdn]; · iexact Hdn
  isplitl [Hb] <;> iassumption

/-- How device `d`'s buffers end. -/
def fq (d : Dev nD) (s' : Phys nD τ sig (Elt F)) : Prop :=
  s'.mem.mem (oLoc d) = res m d ∧ s'.mem.mem (xLoc d) = m (xLoc d) ∧ s'.mem.mem (iLoc d) = m (iLoc d)

set_option maxRecDepth 16384 in
theorem hfin (d : Dev nD) (s' : Phys nD τ sig (Elt F)) : iprop(allPts m d (res m d) ∗ SI s') ⊢ (⌜fq m d s'⌝ : sProp 𝕄) := by
  iintro ⟨⟨Hx, Hi, Ho⟩, HSI⟩
  ihave H := (persistent_entails_right (SI_pointsTo_agree (st := s') (ℓ := oLoc d) (I := Finset.univ) (q := fullShare) (f := res m d))) $$ [HSI Ho]
  · isplitl [HSI] <;> iassumption
  icases H with ⟨%h0, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := iLoc d) (I := Finset.univ) (q := fullShare) (f := m (iLoc d))) $$ [HSI Hi]
  · isplitl [HSI] <;> iassumption
  icases H with %h2
  ipureintro
  exact ⟨funext fun i => h0 i (Finset.mem_univ i), funext fun i => h1 i (Finset.mem_univ i), funext fun i => h2 i (Finset.mem_univ i)⟩

/-- Every run ends, the result the gathered array, the arguments unchanged, every counter at zero. -/
def QC : PUnit × MemSt nD τ sig (Elt F) → Prop := fun r =>
  (∀ c : Dev nD, r.2.mem (oLoc c) = res m c ∧ r.2.mem (xLoc c) = m (xLoc c) ∧ r.2.mem (iLoc c) = m (iLoc c)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (fun d => allPts m d (res m d)) (u₀ (F := F)) (sep_elim_left.trans (hu₀ m)) (hmain m ρ) (fq m) (hfin m) (QC m) (fun _ h hz => ⟨h, hz⟩)

end Cert.Proof.Gather

end
-- ==== Proof.Value.lean ====
/-
  The reference's rows, `table[idx[0]]`, are the gathered array's where every row number is one of the table's rows.
-/
module

public import proofs.«01_k».proof.Proof.Vals
public import Idealize.ShloMosaic.Lib.ValueIdxCore
public import Idealize.ShloMosaic.Lib.ValueLayout

@[expose] public section

noncomputable section

namespace Cert.Proof.Gather

open Idealize.ShloMosaic
open Idealize.ShloMosaic.ValueIdx

/-- The dimension numbers of taking whole rows of a rank-2 operand, one row number for each row of the result. -/
abbrev wholeRows (N C B : ℕ) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- Such a gather at `(b, j)` is the operand at column `j` of the row `idx[b, 0]` names, clamped to the operand's rows. -/
theorem wholeRows_apply {α : Type} {N C B w : ℕ} (hN : 0 < N) (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (y : (⟨2, ![B, C]⟩ : Shape).Idx) :
    Host.gather (wholeRows N C B wf) x idx y
      = x (ix2 (n0 := N) (n1 := C) ⟨min (idx (ix2 (n0 := B) (n1 := 1) (y 0) 0)).toInt.toNat (N - 1), by omega⟩ (y 1)) := by
  unfold Host.gather
  congr 1
  funext a
  refine Fin.ext ?_
  show (wholeRows N C B wf).start y idx a + (wholeRows N C B wf).batchCoord y a + (wholeRows N C B wf).offCoord y a = _
  match a with
  | 0 =>
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (wholeRows N C B wf).startIndexMap from List.mem_singleton.mpr rfl)]
    have e : (wholeRows N C B wf).siIdx y ⟨List.idxOf (0 : Fin 2) (wholeRows N C B wf).startIndexMap,
        List.idxOf_lt_length_iff.2 (List.mem_singleton.mpr rfl)⟩ = ix2 (n0 := B) (n1 := 1) (y 0) 0 := by
      funext b; refine Fin.ext ?_
      match b with
      | 0 => rfl
      | 1 => rfl
    rw [e]
    rfl
  | 1 =>
    rw [GatherDims.batchCoord_eq_zero _ _ _ List.not_mem_nil]
    unfold GatherDims.start
    rw [dif_neg (show ¬(1 : Fin 2) ∈ (wholeRows N C B wf).startIndexMap from
      fun h => absurd (congrArg Fin.val (List.mem_singleton.mp h)) Nat.one_ne_zero)]
    simp only [Nat.add_zero, Nat.zero_add]
    rfl

/-- A vector broadcast to one column is, at row `i`, the vector at `i`. -/
theorem broadcastInDim_at {α : Type} {B : ℕ} (h1 : (⟨1, ![B]⟩ : Shape).BroadcastsInDim ⟨2, ![B, 1]⟩ ![0])
    (x : (⟨1, ![B]⟩ : Shape).Idx → α) (i : Fin B) : broadcastInDim ⟨2, ![B, 1]⟩ ![0] h1 x (ix2 (n0 := B) (n1 := 1) i 0) = x (ix1 (n := B) i) := by
  unfold broadcastInDim
  congr 1
  funext a
  match a with
  | 0 =>
    refine Fin.ext ?_
    by_cases hB : B = 1
    · subst hB
      have := i.isLt
      simp only [Fin.isValue]
      split <;> first | rfl | (show (0 : ℕ) = i.val; omega)
    · split
      · next h => exact absurd h hB
      · rfl

/-- A word below 2³¹ is not negative, so the reference's choice of row number is the word. -/
theorem pick (v : BitVec 32) (h : v.toNat < 155648) :
    Scalar.select (IntOp.cmpi .slt v 0#32) (IntOp.addi v 155648#32) v = v := by
  have e : IntOp.cmpi .slt v 0#32 = 0#1 := by
    have : (v.slt 0#32) = false := by
      rw [BitVec.slt_eq_decide, decide_eq_false_iff_not, BitVec.toInt_eq_toNat_cond]
      simp only [BitVec.toInt_zero]
      split <;> omega
    show BitVec.ofBool (v.slt 0#32) = 0#1
    rw [this]; rfl
  rw [e]; rfl

/-- The reference's chain: the row numbers reshaped, a negative one counted from the table's end, the rows taken. -/
theorem ref_gathered (x : (⟨2, ![155648, 256]⟩ : Shape).Idx → BitVec 32) (n : (⟨2, ![1, 139264]⟩ : Shape).Idx → BitVec 32)
    (hn : ∀ j, (n j).toNat < 155648)
    (wf : GatherDims.WF ⟨2, ![155648, 256]⟩ ⟨2, ![139264, 1]⟩ ⟨2, ![139264, 256]⟩ [1] [0] [] [0] [] 1 ![1, 256])
    (h0 : (⟨0, ![]⟩ : Shape).BroadcastsInDim ⟨1, ![139264]⟩ ![]) (h1 : (⟨1, ![139264]⟩ : Shape).BroadcastsInDim ⟨2, ![139264, 1]⟩ ![0])
    (hs : (⟨2, ![1, 139264]⟩ : Shape).ShapeCasts ⟨1, ![139264]⟩) :
    Host.gather (wholeRows 155648 256 139264 wf) x (broadcastInDim ⟨2, ![139264, 1]⟩ ![0] h1
        (select (cmpi .slt (shapeCast _ n hs) (broadcastInDim ⟨1, ![139264]⟩ ![] h0 (constantI ⟨0, ![]⟩ 32 0#32)))
          (addi (shapeCast _ n hs) (broadcastInDim ⟨1, ![139264]⟩ ![] h0 (constantI ⟨0, ![]⟩ 32 155648#32))) (shapeCast _ n hs)))
      = gathered x n := by
  funext y
  rw [wholeRows_apply (by decide)]
  have hc : (shapeCast _ n hs : (⟨1, ![139264]⟩ : Shape).Idx → BitVec 32) (ix1 (n := 139264) (y 0)) = n (ix2 (n0 := 1) (n1 := 139264) 0 (y 0)) :=
    shapeCast_1a_a_apply n hs _
  have hlt := hn (ix2 (n0 := 1) (n1 := 139264) 0 (y 0))
  show _ = x (ix2 (rowOf (n (ix2 (n0 := 1) (n1 := 139264) 0 (y 0)))) (y 1))
  generalize n (ix2 (n0 := 1) (n1 := 139264) 0 (y 0)) = v at hc hlt ⊢
  have key : (broadcastInDim ⟨2, ![139264, 1]⟩ ![0] h1
        (select (cmpi .slt (shapeCast _ n hs) (broadcastInDim ⟨1, ![139264]⟩ ![] h0 (constantI ⟨0, ![]⟩ 32 0#32)))
          (addi (shapeCast _ n hs) (broadcastInDim ⟨1, ![139264]⟩ ![] h0 (constantI ⟨0, ![]⟩ 32 155648#32))) (shapeCast _ n hs)))
      (ix2 (n0 := 139264) (n1 := 1) (y 0) 0) = v := by
    refine Eq.trans (broadcastInDim_at h1 _ (y 0)) ?_
    simp only [select, cmpi, addi, broadcastInDim, constantI]
    rw [hc]
    exact pick v hlt
  refine congrArg (fun r => x (ix2 r (y 1))) (Fin.ext ?_)
  show min (BitVec.toInt _).toNat (155648 - 1) = v.toNat % 155648
  rw [key, BitVec.toInt_eq_toNat_cond]
  split <;> omega

end Cert.Proof.Gather

end
-- ==== Proof.ExBody.lean ====
/-
  The experts' body at one grid point, over any memrefs its windows are staged in.
-/
module

public import proofs.«01_k».proof.Proof.Gen.Kernel2Ideal.Skeleton
public import proofs.«01_k».proof.Proof.Gen.Kernel2Ideal.Launch
public import Idealize.ShloMosaic.Lib.Pipeline.TableIdle
public import Idealize.ShloMosaic.Lib.Pipeline.Frame
public import Idealize.ShloMosaic.Lib.Pipeline.FrameBody
public import Idealize.ShloMosaic.Lib.Pipeline.Value
public import Idealize.ShloMosaic.Lib.Exec
public import Idealize.ShloMosaic.Lib.Tactic
public import Idealize.ShloMosaic.Lib.ValueIdx
public import Idealize.ShloMosaic.Lib.ValueLayout
public import Idealize.ShloMosaic.Lib.WritesUnit
public import Idealize.ShloMosaic.Lib.VecWindow

@[expose] public section

noncomputable section

namespace Cert.Proof.Experts

open Cert.Kernel2Ideal Cert.Kernel2Ideal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig Unit (Elt F) ℕ (UR sig nD τ) ℕ

/-- The launch's variants: none. -/
abbrev 𝒱₀ : Variants := Variants.none

/-! ## What the body computes -/

/-- The rounded copy of an expert's first matrix. -/
def cast1 (x : Vec F S1x1024x2048 .f32) : Vec F S1024x2048 .bf16 :=
  truncf .bf16 (fun y : S1024x2048.Idx => x (ix3 (0 : Fin 1) (y 0) (y 1)) : FVec F S1024x2048 .f32) bitsLt_bf16_f32

/-- The rounded copy of an expert's second matrix. -/
def cast2 (x : Vec F S1x1024x1024 .f32) : Vec F S1024x1024 .bf16 :=
  truncf .bf16 (fun y : S1024x1024.Idx => x (ix3 (0 : Fin 1) (y 0) (y 1)) : FVec F S1024x1024 .f32) bitsLt_bf16_f32

theorem strip1 {o : ℕ} (h : ∀ a, (![0, o, 0] : Fin 3 → ℕ) a + S1x128x2048.size a ≤ S1x1024x2048.size a)
    (x : Vec F S1x1024x2048 .f32) (z : S128x2048.Idx) (y : S1024x2048.Idx)
    (h0 : (y 0).val = o + (z 0).val) (h1 : (y 1).val = (z 1).val) :
    k0_pay7 (F := F) (fun w => x ((Rect.unit (s := S1x1024x2048) ![0, o, 0] S1x128x2048.size h).toLoadRect.idx w)) z = cast1 x y := by
  unfold k0_pay7 cast1
  simp only [Idealize.ShloMosaic.shapeCast_self]
  have key : ∀ v : Vec F S1x128x2048 .f32, shapeCast S128x2048 v shapeCasts_S1x128x2048_S128x2048 z = v (ix3 (0 : Fin 1) (z 0) (z 1)) := fun v => by
    rw [eq_ix2 z]
    exact congrArg v (reshapeEquiv_ix2_1ab _ _ _)
  unfold truncf
  refine congrArg _ ?_
  refine (key _).trans (congrArg x (funext fun a => Fin.ext ?_))
  match a with
  | ⟨0, _⟩ => rfl
  | ⟨1, _⟩ => show o + 1 * (z 0).val = (y 0).val; omega
  | ⟨2, _⟩ => show 0 + 1 * (z 1).val = (y 1).val; omega

theorem strip2 {o : ℕ} (h : ∀ a, (![0, o, 0] : Fin 3 → ℕ) a + S1x128x1024.size a ≤ S1x1024x1024.size a)
    (x : Vec F S1x1024x1024 .f32) (z : S128x1024.Idx) (y : S1024x1024.Idx)
    (h0 : (y 0).val = o + (z 0).val) (h1 : (y 1).val = (z 1).val) :
    k0_pay15 (F := F) (fun w => x ((Rect.unit (s := S1x1024x1024) ![0, o, 0] S1x128x1024.size h).toLoadRect.idx w)) z = cast2 x y := by
  unfold k0_pay15 cast2
  simp only [Idealize.ShloMosaic.shapeCast_self]
  have key : ∀ v : Vec F S1x128x1024 .f32, shapeCast S128x1024 v shapeCasts_S1x128x1024_S128x1024 z = v (ix3 (0 : Fin 1) (z 0) (z 1)) := fun v => by
    rw [eq_ix2 z]
    exact congrArg v (reshapeEquiv_ix2_1ab _ _ _)
  unfold truncf
  refine congrArg _ ?_
  refine (key _).trans (congrArg x (funext fun a => Fin.ext ?_))
  match a with
  | ⟨0, _⟩ => rfl
  | ⟨1, _⟩ => show o + 1 * (z 0).val = (y 0).val; omega
  | ⟨2, _⟩ => show 0 + 1 * (z 1).val = (y 1).val; omega

/-- One word of a table. -/
abbrev wordAt (be : Vec F S304 .i32) (off : Fin 1 → ℕ) (h : ∀ a, off a + S1.size a ≤ S304.size a) : BitVec 32 :=
  be ((Rect.unit (s := S304) off S1.size h).toLoadRect.idx (Shape.Idx.first (by decide : 0 < S1.numel)))

/-- The count's one word. -/
abbrev word1 (n : Vec F S1 .i32) : BitVec 32 :=
  n ((Rect.unit (s := S1) ![0] S1.size inb_S1_S1_0).toLoadRect.idx (Shape.Idx.first (by decide : 0 < S1.numel)))

/-- The body copies the expert's matrices at this point. -/
def Fill (i : grid0.Coords) (be : Vec F S304 .i32) (n : Vec F S1 .i32) : Prop :=
  Scalar.cmpi .ne (Scalar.extui (Scalar.andi
    (Scalar.ori (Scalar.cmpi .eq (BitVec.ofNat 32 (i 0).val) 0#32)
      (Scalar.cmpi .ne (wordAt be (k0_off1 i) (k0_off1_inb i)) (wordAt be (k0_off2 i) (k0_off2_inb i))))
    (Scalar.cmpi .slt (BitVec.ofNat 32 (i 0).val) (word1 n)))) 0#32 = 1#1

instance (i : grid0.Coords) (be : Vec F S304 .i32) (n : Vec F S1 .i32) : Decidable (Fill i be n) := by
  unfold Fill; infer_instance

/-- The first matrix the body multiplies by. -/
def w1Of (i : grid0.Coords) (be : Vec F S304 .i32) (n : Vec F S1 .i32) (x5 : Vec F S1x1024x2048 .f32)
    (x11 : Vec F S1024x2048 .bf16) : Vec F S1024x2048 .bf16 := if Fill i be n then cast1 x5 else x11

/-- The second matrix the body multiplies by. -/
def w2Of (i : grid0.Coords) (be : Vec F S304 .i32) (n : Vec F S1 .i32) (x7 : Vec F S1x1024x1024 .f32)
    (x12 : Vec F S1024x1024 .bf16) : Vec F S1024x1024 .bf16 := if Fill i be n then cast2 x7 else x12

/-- The second product's sum, before its bias. -/
def acc (x3 x4 : Vec F S512x256 .i32) (w1 : Vec F S1024x2048 .bf16) (b1 : Vec F S1x1x2048 .f32)
    (w2 : Vec F S1024x1024 .bf16) : FVec F S512x1024 .f32 :=
  k0_pay27 (k0_pay23 x3 x4 (fun y => w1 ((Rect.unit (s := S1024x2048) ![0, 0] S1024x512.size inb_S1024x2048_S1024x512_0_0).toLoadRect.idx y))
      (fun y => b1 ((Rect.unit (s := S1x1x2048) ![0, 0, 0] S1x1x512.size inb_S1x1x2048_S1x1x512_0_0_0).toLoadRect.idx y)))
    (k0_pay24 x3 x4 (fun y => w1 ((Rect.unit (s := S1024x2048) ![0, 512] S1024x512.size inb_S1024x2048_S1024x512_0_512).toLoadRect.idx y))
      (fun y => b1 ((Rect.unit (s := S1x1x2048) ![0, 0, 512] S1x1x512.size inb_S1x1x2048_S1x1x512_0_0_512).toLoadRect.idx y)))
    (k0_pay25 x3 x4 (fun y => w1 ((Rect.unit (s := S1024x2048) ![0, 1024] S1024x512.size inb_S1024x2048_S1024x512_0_1024).toLoadRect.idx y))
      (fun y => b1 ((Rect.unit (s := S1x1x2048) ![0, 0, 1024] S1x1x512.size inb_S1x1x2048_S1x1x512_0_0_1024).toLoadRect.idx y)))
    (k0_pay26 x3 x4 (fun y => w1 ((Rect.unit (s := S1024x2048) ![0, 1536] S1024x512.size inb_S1024x2048_S1024x512_0_1536).toLoadRect.idx y)))
    (fun y => b1 ((Rect.unit (s := S1x1x2048) ![0, 0, 1536] S1x1x512.size inb_S1x1x2048_S1x1x512_0_0_1536).toLoadRect.idx y))
    (fun y => w2 ((Rect.unit (s := S1024x1024) ![0, 0] S512x1024.size inb_S1024x1024_S512x1024_0_0).toLoadRect.idx y))
    (fun y => w2 ((Rect.unit (s := S1024x1024) ![512, 0] S512x1024.size inb_S1024x1024_S512x1024_512_0).toLoadRect.idx y))

/-- The first result's block after the body. -/
def o9Of (i : grid0.Coords) (n : BitVec 32) (x3 x4 : Vec F S512x256 .i32) (w1 : Vec F S1024x2048 .bf16)
    (b1 : Vec F S1x1x2048 .f32) (w2 : Vec F S1024x1024 .bf16) (b2 : Vec F S1x1x1024 .f32) (d : Vec F S512x512 .bf16) :
    Vec F S512x512 .bf16 :=
  if k0_cond3 i n = 1#1 then k0_pay5 else if k0_cond2 i n = 1#1 then k0_pay3 (acc x3 x4 w1 b1 w2) (k0_pay28 b2) else d

/-- The second result's block after the body. -/
def o10Of (i : grid0.Coords) (n : BitVec 32) (x3 x4 : Vec F S512x256 .i32) (w1 : Vec F S1024x2048 .bf16)
    (b1 : Vec F S1x1x2048 .f32) (w2 : Vec F S1024x1024 .bf16) (b2 : Vec F S1x1x1024 .f32) (d : Vec F S512x512 .bf16) :
    Vec F S512x512 .bf16 :=
  if k0_cond3 i n = 1#1 then k0_pay6 else if k0_cond2 i n = 1#1 then k0_pay4 (acc x3 x4 w1 b1 w2) (k0_pay28 b2) else d

theorem acc_of (x3 x4 : Vec F S512x256 .i32) (w1 : Vec F S1024x2048 .bf16) (b1 : Vec F S1x1x2048 .f32) (w2 : Vec F S1024x1024 .bf16)
    (A0 A1 A2 A3 : Vec F S1024x512 .bf16) (B0 B1 : Vec F S512x1024 .bf16)
    (h0 : A0 = fun y => w1 ((Rect.unit (s := S1024x2048) ![0, 0] S1024x512.size inb_S1024x2048_S1024x512_0_0).toLoadRect.idx y))
    (h1 : A1 = fun y => w1 ((Rect.unit (s := S1024x2048) ![0, 512] S1024x512.size inb_S1024x2048_S1024x512_0_512).toLoadRect.idx y))
    (h2 : A2 = fun y => w1 ((Rect.unit (s := S1024x2048) ![0, 1024] S1024x512.size inb_S1024x2048_S1024x512_0_1024).toLoadRect.idx y))
    (h3 : A3 = fun y => w1 ((Rect.unit (s := S1024x2048) ![0, 1536] S1024x512.size inb_S1024x2048_S1024x512_0_1536).toLoadRect.idx y))
    (g0 : B0 = fun y => w2 ((Rect.unit (s := S1024x1024) ![0, 0] S512x1024.size inb_S1024x1024_S512x1024_0_0).toLoadRect.idx y))
    (g1 : B1 = fun y => w2 ((Rect.unit (s := S1024x1024) ![512, 0] S512x1024.size inb_S1024x1024_S512x1024_512_0).toLoadRect.idx y)) :
    k0_pay27 (k0_pay23 x3 x4 A0
        (fun y => b1 ((Rect.unit (s := S1x1x2048) ![0, 0, 0] S1x1x512.size inb_S1x1x2048_S1x1x512_0_0_0).toLoadRect.idx y)))
      (k0_pay24 x3 x4 A1
        (fun y => b1 ((Rect.unit (s := S1x1x2048) ![0, 0, 512] S1x1x512.size inb_S1x1x2048_S1x1x512_0_0_512).toLoadRect.idx y)))
      (k0_pay25 x3 x4 A2
        (fun y => b1 ((Rect.unit (s := S1x1x2048) ![0, 0, 1024] S1x1x512.size inb_S1x1x2048_S1x1x512_0_0_1024).toLoadRect.idx y)))
      (k0_pay26 x3 x4 A3)
      (fun y => b1 ((Rect.unit (s := S1x1x2048) ![0, 0, 1536] S1x1x512.size inb_S1x1x2048_S1x1x512_0_0_1536).toLoadRect.idx y))
      B0 B1 = acc x3 x4 w1 b1 w2 := by
  subst h0 h1 h2 h3 g0 g1; rfl

theorem read_fill1 {κ : Kind} {sp : Space} (v : View sig κ sp S1024x2048 .bf16) (f : v.ty.Contents (Elt F)) (x : Vec F S1x1024x2048 .f32) :
    v.read (Elt F) (v.writes (Elt F) f
      [⟨Rect.unit (s := S1024x2048) ![896, 0] S128x2048.size inb_S1024x2048_S128x2048_896_0, k0_pay14 (fun w => x ((Rect.unit (s := S1x1024x2048) ![0, 896, 0] S1x128x2048.size inb_S1x1024x2048_S1x128x2048_0_896_0).toLoadRect.idx w))⟩,
        ⟨Rect.unit (s := S1024x2048) ![768, 0] S128x2048.size inb_S1024x2048_S128x2048_768_0, k0_pay13 (fun w => x ((Rect.unit (s := S1x1024x2048) ![0, 768, 0] S1x128x2048.size inb_S1x1024x2048_S1x128x2048_0_768_0).toLoadRect.idx w))⟩,
        ⟨Rect.unit (s := S1024x2048) ![640, 0] S128x2048.size inb_S1024x2048_S128x2048_640_0, k0_pay12 (fun w => x ((Rect.unit (s := S1x1024x2048) ![0, 640, 0] S1x128x2048.size inb_S1x1024x2048_S1x128x2048_0_640_0).toLoadRect.idx w))⟩,
        ⟨Rect.unit (s := S1024x2048) ![512, 0] S128x2048.size inb_S1024x2048_S128x2048_512_0, k0_pay11 (fun w => x ((Rect.unit (s := S1x1024x2048) ![0, 512, 0] S1x128x2048.size inb_S1x1024x2048_S1x128x2048_0_512_0).toLoadRect.idx w))⟩,
        ⟨Rect.unit (s := S1024x2048) ![384, 0] S128x2048.size inb_S1024x2048_S128x2048_384_0, k0_pay10 (fun w => x ((Rect.unit (s := S1x1024x2048) ![0, 384, 0] S1x128x2048.size inb_S1x1024x2048_S1x128x2048_0_384_0).toLoadRect.idx w))⟩,
        ⟨Rect.unit (s := S1024x2048) ![256, 0] S128x2048.size inb_S1024x2048_S128x2048_256_0, k0_pay9 (fun w => x ((Rect.unit (s := S1x1024x2048) ![0, 256, 0] S1x128x2048.size inb_S1x1024x2048_S1x128x2048_0_256_0).toLoadRect.idx w))⟩,
        ⟨Rect.unit (s := S1024x2048) ![128, 0] S128x2048.size inb_S1024x2048_S128x2048_128_0, k0_pay8 (fun w => x ((Rect.unit (s := S1x1024x2048) ![0, 128, 0] S1x128x2048.size inb_S1x1024x2048_S1x128x2048_0_128_0).toLoadRect.idx w))⟩,
        ⟨Rect.unit (s := S1024x2048) ![0, 0] S128x2048.size inb_S1024x2048_S128x2048_0_0, k0_pay7 (fun w => x ((Rect.unit (s := S1x1024x2048) ![0, 0, 0] S1x128x2048.size inb_S1x1024x2048_S1x128x2048_0_0_0).toLoadRect.idx w))⟩]) = cast1 x := by
  funext y
  have h1024 : (y 0).val < 1024 := (y 0).isLt
  by_cases h896 : 896 ≤ (y 0).val
  · exact (View.read_writes_cons_rows_of_mem (o := 896) v f _ _ _ y (ix2 (n0 := 128) (n1 := 2048) ⟨(y 0).val - 896, by omega⟩ (y 1)) rfl
      (by show (y 0).val = 896 + ((y 0).val - 896); omega) rfl).trans
      (strip1 _ x _ y (by show (y 0).val = 896 + ((y 0).val - 896); omega) rfl)
  refine (View.read_writes_cons_rows_of_not_mem (o := 896) (W := 128) v f _ _ _ y rfl rfl (Or.inl (by omega))).trans ?_
  by_cases h768 : 768 ≤ (y 0).val
  · exact (View.read_writes_cons_rows_of_mem (o := 768) v f _ _ _ y (ix2 (n0 := 128) (n1 := 2048) ⟨(y 0).val - 768, by omega⟩ (y 1)) rfl
      (by show (y 0).val = 768 + ((y 0).val - 768); omega) rfl).trans
      (strip1 _ x _ y (by show (y 0).val = 768 + ((y 0).val - 768); omega) rfl)
  refine (View.read_writes_cons_rows_of_not_mem (o := 768) (W := 128) v f _ _ _ y rfl rfl (Or.inl (by omega))).trans ?_
  by_cases h640 : 640 ≤ (y 0).val
  · exact (View.read_writes_cons_rows_of_mem (o := 640) v f _ _ _ y (ix2 (n0 := 128) (n1 := 2048) ⟨(y 0).val - 640, by omega⟩ (y 1)) rfl
      (by show (y 0).val = 640 + ((y 0).val - 640); omega) rfl).trans
      (strip1 _ x _ y (by show (y 0).val = 640 + ((y 0).val - 640); omega) rfl)
  refine (View.read_writes_cons_rows_of_not_mem (o := 640) (W := 128) v f _ _ _ y rfl rfl (Or.inl (by omega))).trans ?_
  by_cases h512 : 512 ≤ (y 0).val
  · exact (View.read_writes_cons_rows_of_mem (o := 512) v f _ _ _ y (ix2 (n0 := 128) (n1 := 2048) ⟨(y 0).val - 512, by omega⟩ (y 1)) rfl
      (by show (y 0).val = 512 + ((y 0).val - 512); omega) rfl).trans
      (strip1 _ x _ y (by show (y 0).val = 512 + ((y 0).val - 512); omega) rfl)
  refine (View.read_writes_cons_rows_of_not_mem (o := 512) (W := 128) v f _ _ _ y rfl rfl (Or.inl (by omega))).trans ?_
  by_cases h384 : 384 ≤ (y 0).val
  · exact (View.read_writes_cons_rows_of_mem (o := 384) v f _ _ _ y (ix2 (n0 := 128) (n1 := 2048) ⟨(y 0).val - 384, by omega⟩ (y 1)) rfl
      (by show (y 0).val = 384 + ((y 0).val - 384); omega) rfl).trans
      (strip1 _ x _ y (by show (y 0).val = 384 + ((y 0).val - 384); omega) rfl)
  refine (View.read_writes_cons_rows_of_not_mem (o := 384) (W := 128) v f _ _ _ y rfl rfl (Or.inl (by omega))).trans ?_
  by_cases h256 : 256 ≤ (y 0).val
  · exact (View.read_writes_cons_rows_of_mem (o := 256) v f _ _ _ y (ix2 (n0 := 128) (n1 := 2048) ⟨(y 0).val - 256, by omega⟩ (y 1)) rfl
      (by show (y 0).val = 256 + ((y 0).val - 256); omega) rfl).trans
      (strip1 _ x _ y (by show (y 0).val = 256 + ((y 0).val - 256); omega) rfl)
  refine (View.read_writes_cons_rows_of_not_mem (o := 256) (W := 128) v f _ _ _ y rfl rfl (Or.inl (by omega))).trans ?_
  by_cases h128 : 128 ≤ (y 0).val
  · exact (View.read_writes_cons_rows_of_mem (o := 128) v f _ _ _ y (ix2 (n0 := 128) (n1 := 2048) ⟨(y 0).val - 128, by omega⟩ (y 1)) rfl
      (by show (y 0).val = 128 + ((y 0).val - 128); omega) rfl).trans
      (strip1 _ x _ y (by show (y 0).val = 128 + ((y 0).val - 128); omega) rfl)
  refine (View.read_writes_cons_rows_of_not_mem (o := 128) (W := 128) v f _ _ _ y rfl rfl (Or.inl (by omega))).trans ?_
  by_cases h0 : 0 ≤ (y 0).val
  · exact (View.read_writes_cons_rows_of_mem (o := 0) v f _ _ _ y (ix2 (n0 := 128) (n1 := 2048) ⟨(y 0).val - 0, by omega⟩ (y 1)) rfl
      (by show (y 0).val = 0 + ((y 0).val - 0); omega) rfl).trans
      (strip1 _ x _ y (by show (y 0).val = 0 + ((y 0).val - 0); omega) rfl)
  refine (View.read_writes_cons_rows_of_not_mem (o := 0) (W := 128) v f _ _ _ y rfl rfl (Or.inl (by omega))).trans ?_
  exact absurd (Nat.zero_le _) h0

theorem read_fill2 {κ : Kind} {sp : Space} (v : View sig κ sp S1024x1024 .bf16) (f : v.ty.Contents (Elt F)) (x : Vec F S1x1024x1024 .f32) :
    v.read (Elt F) (v.writes (Elt F) f
      [⟨Rect.unit (s := S1024x1024) ![896, 0] S128x1024.size inb_S1024x1024_S128x1024_896_0, k0_pay1 (fun w => x ((Rect.unit (s := S1x1024x1024) ![0, 896, 0] S1x128x1024.size inb_S1x1024x1024_S1x128x1024_0_896_0).toLoadRect.idx w))⟩,
        ⟨Rect.unit (s := S1024x1024) ![768, 0] S128x1024.size inb_S1024x1024_S128x1024_768_0, k0_pay21 (fun w => x ((Rect.unit (s := S1x1024x1024) ![0, 768, 0] S1x128x1024.size inb_S1x1024x1024_S1x128x1024_0_768_0).toLoadRect.idx w))⟩,
        ⟨Rect.unit (s := S1024x1024) ![640, 0] S128x1024.size inb_S1024x1024_S128x1024_640_0, k0_pay20 (fun w => x ((Rect.unit (s := S1x1024x1024) ![0, 640, 0] S1x128x1024.size inb_S1x1024x1024_S1x128x1024_0_640_0).toLoadRect.idx w))⟩,
        ⟨Rect.unit (s := S1024x1024) ![512, 0] S128x1024.size inb_S1024x1024_S128x1024_512_0, k0_pay19 (fun w => x ((Rect.unit (s := S1x1024x1024) ![0, 512, 0] S1x128x1024.size inb_S1x1024x1024_S1x128x1024_0_512_0).toLoadRect.idx w))⟩,
        ⟨Rect.unit (s := S1024x1024) ![384, 0] S128x1024.size inb_S1024x1024_S128x1024_384_0, k0_pay18 (fun w => x ((Rect.unit (s := S1x1024x1024) ![0, 384, 0] S1x128x1024.size inb_S1x1024x1024_S1x128x1024_0_384_0).toLoadRect.idx w))⟩,
        ⟨Rect.unit (s := S1024x1024) ![256, 0] S128x1024.size inb_S1024x1024_S128x1024_256_0, k0_pay17 (fun w => x ((Rect.unit (s := S1x1024x1024) ![0, 256, 0] S1x128x1024.size inb_S1x1024x1024_S1x128x1024_0_256_0).toLoadRect.idx w))⟩,
        ⟨Rect.unit (s := S1024x1024) ![128, 0] S128x1024.size inb_S1024x1024_S128x1024_128_0, k0_pay16 (fun w => x ((Rect.unit (s := S1x1024x1024) ![0, 128, 0] S1x128x1024.size inb_S1x1024x1024_S1x128x1024_0_128_0).toLoadRect.idx w))⟩,
        ⟨Rect.unit (s := S1024x1024) ![0, 0] S128x1024.size inb_S1024x1024_S128x1024_0_0, k0_pay15 (fun w => x ((Rect.unit (s := S1x1024x1024) ![0, 0, 0] S1x128x1024.size inb_S1x1024x1024_S1x128x1024_0_0_0).toLoadRect.idx w))⟩]) = cast2 x := by
  funext y
  have h1024 : (y 0).val < 1024 := (y 0).isLt
  by_cases h896 : 896 ≤ (y 0).val
  · exact (View.read_writes_cons_rows_of_mem (o := 896) v f _ _ _ y (ix2 (n0 := 128) (n1 := 1024) ⟨(y 0).val - 896, by omega⟩ (y 1)) rfl
      (by show (y 0).val = 896 + ((y 0).val - 896); omega) rfl).trans
      (strip2 _ x _ y (by show (y 0).val = 896 + ((y 0).val - 896); omega) rfl)
  refine (View.read_writes_cons_rows_of_not_mem (o := 896) (W := 128) v f _ _ _ y rfl rfl (Or.inl (by omega))).trans ?_
  by_cases h768 : 768 ≤ (y 0).val
  · exact (View.read_writes_cons_rows_of_mem (o := 768) v f _ _ _ y (ix2 (n0 := 128) (n1 := 1024) ⟨(y 0).val - 768, by omega⟩ (y 1)) rfl
      (by show (y 0).val = 768 + ((y 0).val - 768); omega) rfl).trans
      (strip2 _ x _ y (by show (y 0).val = 768 + ((y 0).val - 768); omega) rfl)
  refine (View.read_writes_cons_rows_of_not_mem (o := 768) (W := 128) v f _ _ _ y rfl rfl (Or.inl (by omega))).trans ?_
  by_cases h640 : 640 ≤ (y 0).val
  · exact (View.read_writes_cons_rows_of_mem (o := 640) v f _ _ _ y (ix2 (n0 := 128) (n1 := 1024) ⟨(y 0).val - 640, by omega⟩ (y 1)) rfl
      (by show (y 0).val = 640 + ((y 0).val - 640); omega) rfl).trans
      (strip2 _ x _ y (by show (y 0).val = 640 + ((y 0).val - 640); omega) rfl)
  refine (View.read_writes_cons_rows_of_not_mem (o := 640) (W := 128) v f _ _ _ y rfl rfl (Or.inl (by omega))).trans ?_
  by_cases h512 : 512 ≤ (y 0).val
  · exact (View.read_writes_cons_rows_of_mem (o := 512) v f _ _ _ y (ix2 (n0 := 128) (n1 := 1024) ⟨(y 0).val - 512, by omega⟩ (y 1)) rfl
      (by show (y 0).val = 512 + ((y 0).val - 512); omega) rfl).trans
      (strip2 _ x _ y (by show (y 0).val = 512 + ((y 0).val - 512); omega) rfl)
  refine (View.read_writes_cons_rows_of_not_mem (o := 512) (W := 128) v f _ _ _ y rfl rfl (Or.inl (by omega))).trans ?_
  by_cases h384 : 384 ≤ (y 0).val
  · exact (View.read_writes_cons_rows_of_mem (o := 384) v f _ _ _ y (ix2 (n0 := 128) (n1 := 1024) ⟨(y 0).val - 384, by omega⟩ (y 1)) rfl
      (by show (y 0).val = 384 + ((y 0).val - 384); omega) rfl).trans
      (strip2 _ x _ y (by show (y 0).val = 384 + ((y 0).val - 384); omega) rfl)
  refine (View.read_writes_cons_rows_of_not_mem (o := 384) (W := 128) v f _ _ _ y rfl rfl (Or.inl (by omega))).trans ?_
  by_cases h256 : 256 ≤ (y 0).val
  · exact (View.read_writes_cons_rows_of_mem (o := 256) v f _ _ _ y (ix2 (n0 := 128) (n1 := 1024) ⟨(y 0).val - 256, by omega⟩ (y 1)) rfl
      (by show (y 0).val = 256 + ((y 0).val - 256); omega) rfl).trans
      (strip2 _ x _ y (by show (y 0).val = 256 + ((y 0).val - 256); omega) rfl)
  refine (View.read_writes_cons_rows_of_not_mem (o := 256) (W := 128) v f _ _ _ y rfl rfl (Or.inl (by omega))).trans ?_
  by_cases h128 : 128 ≤ (y 0).val
  · exact (View.read_writes_cons_rows_of_mem (o := 128) v f _ _ _ y (ix2 (n0 := 128) (n1 := 1024) ⟨(y 0).val - 128, by omega⟩ (y 1)) rfl
      (by show (y 0).val = 128 + ((y 0).val - 128); omega) rfl).trans
      (strip2 _ x _ y (by show (y 0).val = 128 + ((y 0).val - 128); omega) rfl)
  refine (View.read_writes_cons_rows_of_not_mem (o := 128) (W := 128) v f _ _ _ y rfl rfl (Or.inl (by omega))).trans ?_
  by_cases h0 : 0 ≤ (y 0).val
  · exact (View.read_writes_cons_rows_of_mem (o := 0) v f _ _ _ y (ix2 (n0 := 128) (n1 := 1024) ⟨(y 0).val - 0, by omega⟩ (y 1)) rfl
      (by show (y 0).val = 0 + ((y 0).val - 0); omega) rfl).trans
      (strip2 _ x _ y (by show (y 0).val = 0 + ((y 0).val - 0); omega) rfl)
  refine (View.read_writes_cons_rows_of_not_mem (o := 0) (W := 128) v f _ _ _ y rfl rfl (Or.inl (by omega))).trans ?_
  exact absurd (Nat.zero_le _) h0

section Run

variable (c : Dev nD) (i : grid0.Coords)
variable (arg1 : Memref sig .tc .smem S304 .i32) (harg1 : arg1.IsWhole)
  (arg2 : Memref sig .tc .smem S1 .i32) (harg2 : arg2.IsWhole)
  (arg3 : Memref sig .tc .vmem S512x256 .i32) (harg3 : arg3.IsWhole)
  (arg4 : Memref sig .tc .vmem S512x256 .i32) (harg4 : arg4.IsWhole)
  (arg5 : Memref sig .tc .vmem S1x1024x2048 .f32) (harg5 : arg5.IsWhole)
  (arg6 : Memref sig .tc .vmem S1x1x2048 .f32) (harg6 : arg6.IsWhole)
  (arg7 : Memref sig .tc .vmem S1x1024x1024 .f32) (harg7 : arg7.IsWhole)
  (arg8 : Memref sig .tc .vmem S1x1x1024 .f32) (harg8 : arg8.IsWhole)
  (arg9 : Memref sig .tc .vmem S512x512 .bf16) (harg9 : arg9.IsWhole)
  (arg10 : Memref sig .tc .vmem S512x512 .bf16) (harg10 : arg10.IsWhole)
  (arg11 : Memref sig .tc .vmem S1024x2048 .bf16) (harg11 : arg11.IsWhole)
  (arg12 : Memref sig .tc .vmem S1024x1024 .bf16) (harg12 : arg12.IsWhole)

/-- What the body holds of its buffers. -/
def Held (q1 q2 : PosShare TreeShare) (be : Vec F S304 .i32) (n : Vec F S1 .i32) (x3 x4 : Vec F S512x256 .i32)
    (x5 : Vec F S1x1024x2048 .f32) (x6 : Vec F S1x1x2048 .f32) (x7 : Vec F S1x1024x1024 .f32) (x8 : Vec F S1x1x1024 .f32)
    (x9 x10 : Vec F S512x512 .bf16) (x11 : Vec F S1024x2048 .bf16) (x12 : Vec F S1024x1024 .bf16) : sProp 𝕄 :=
  iprop(owns (c : Thread nD τ) arg1 q1 be ∗ owns (c : Thread nD τ) arg2 q2 n
    ∗ owns (c : Thread nD τ) arg3 fullShare x3 ∗ owns (c : Thread nD τ) arg4 fullShare x4
    ∗ owns (c : Thread nD τ) arg5 fullShare x5 ∗ owns (c : Thread nD τ) arg6 fullShare x6
    ∗ owns (c : Thread nD τ) arg7 fullShare x7 ∗ owns (c : Thread nD τ) arg8 fullShare x8
    ∗ owns (c : Thread nD τ) arg9 fullShare x9 ∗ owns (c : Thread nD τ) arg10 fullShare x10
    ∗ owns (c : Thread nD τ) arg11 fullShare x11 ∗ owns (c : Thread nD τ) arg12 fullShare x12)

omit arg1 arg2 arg3 arg4 arg5 arg6 arg7 arg8 arg9 arg10 arg11 arg12 in
/-- A buffer whose contents read `X` is the buffer at `X`. -/
theorem rep_of_read {sp : Space} {sh : Shape} {e : EltTy} (m : Memref sig .tc sp sh e) (q : PosShare TreeShare)
    (f : Buf (Elt F) (m.view.loc (c : Thread nD τ))) (X : Vec F sh e) :
    (m.view.loc (c : Thread nD τ) ↦[m.view.set]{q} f)
      ⊢ (iprop(⌜m.view.read (Elt F) f = X⌝ -∗ (m.view.loc (c : Thread nD τ) ↦[m.view.set]{q} m.view.rep (Val := Elt F) X)) : sProp 𝕄) := by
  rw [← owns_eq_rep]
  unfold owns
  iintro H %h
  iexists f
  isplitr
  · ipureintro; exact h
  iexact H

omit arg1 arg2 arg3 arg4 arg5 arg6 arg7 arg8 arg9 arg10 arg11 arg12 c in
theorem readAt_of_read {κ : Kind} {sp : Space} {sh : Shape} {e : EltTy} (v : View sig κ sp sh e) (r : LoadRect sh)
    (f : v.ty.Contents (Elt F)) (X : Vec F sh e) (h : v.read (Elt F) f = X) : v.readAt (Elt F) r f = fun y => X (r.idx y) := by
  funext y; rw [View.readAt_apply, h]

/-- The body at one point, from what it holds to what it leaves. -/
theorem body_run (q1 q2 : PosShare TreeShare) (be : Vec F S304 .i32) (n : Vec F S1 .i32) (x3 x4 : Vec F S512x256 .i32)
    (x5 : Vec F S1x1024x2048 .f32) (x6 : Vec F S1x1x2048 .f32) (x7 : Vec F S1x1024x1024 .f32) (x8 : Vec F S1x1x1024 .f32)
    (x9 x10 : Vec F S512x512 .bf16) (x11 : Vec F S1024x2048 .bf16) (x12 : Vec F S1024x1024 .bf16) (K : PUnit → sProp 𝕄) :
    iprop(Held c arg1 arg2 arg3 arg4 arg5 arg6 arg7 arg8 arg9 arg10 arg11 arg12 q1 q2 be n x3 x4 x5 x6 x7 x8 x9 x10 x11 x12
      ∗ (Held c arg1 arg2 arg3 arg4 arg5 arg6 arg7 arg8 arg9 arg10 arg11 arg12 q1 q2 be n x3 x4 x5 x6 x7 x8
          (o9Of i (word1 n) x3 x4 (w1Of i be n x5 x11) x6 (w2Of i be n x7 x12) x8 x9)
          (o10Of i (word1 n) x3 x4 (w1Of i be n x5 x11) x6 (w2Of i be n x7 x12) x8 x10)
          (w1Of i be n x5 x11) (w2Of i be n x7 x12) -∗ K ⟨⟩))
      ⊢ wp frame (wpE (defs₀ (F := F)) 𝒱₀ (c : Thread nD τ) none) Set.univ
          (cc0__expert_kernel i arg1 harg1 arg2 harg2 arg3 harg3 arg4 harg4 arg5 harg5 arg6 harg6 arg7 harg7 arg8 harg8
            arg9 harg9 arg10 harg10 arg11 harg11 arg12 harg12) K := by
  unfold Held
  simp only [owns_eq_rep]
  iintro ⟨⟨H1, H2, H3, H4, H5, H6, H7, H8, H9, H10, H11, H12⟩, Hk⟩
  sl_unfold [cc0__expert_kernel]
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · ihave H := (rep_of_read c arg9 fullShare _ _) $$ H9
    iapply H
    ipureintro
    sl_unfold_run_names
    simp only [View.readAt_rep_full arg3.view x3, View.readAt_rep_full arg4.view x4, View.readAt_rep_full arg8.view x8]
    simp only [View.readAt_rep]
    split
    · next h3 =>
      have hf : k0_cond3 i (word1 n) = 1#1 := h3
      rw [o9Of, if_pos hf]
      exact View.read_writes_full arg9.view _ _ _ _
    next h3 =>
    have hf3 : ¬k0_cond3 i (word1 n) = 1#1 := h3
    rw [o9Of, if_neg hf3]
    split
    · next h2 =>
      have hf2 : k0_cond2 i (word1 n) = 1#1 := h2
      refine (View.read_writes_full arg9.view _ _ _ _).trans ?_
      split
      · next h =>
        have hf : Fill i be n := h
        simp only [w1Of, w2Of, if_pos hf]
        refine congrArg (fun a => k0_pay3 a (k0_pay28 x8)) (acc_of x3 x4 (cast1 x5) x6 (cast2 x7) _ _ _ _ _ _ ?_ ?_ ?_ ?_ ?_ ?_)
        all_goals first
          | exact readAt_of_read arg11.view _ _ _ (read_fill1 arg11.view (arg11.view.rep x11) x5)
          | exact readAt_of_read arg12.view _ _ _ (read_fill2 arg12.view (arg12.view.rep x12) x7)
      next h =>
      have hf : ¬Fill i be n := h
      simp only [View.readAt_rep]
      simp only [w1Of, w2Of, if_neg hf]
      rfl
    next h2 =>
    have hf2 : ¬k0_cond2 i (word1 n) = 1#1 := h2
    try rw [if_neg hf2]
    exact View.read_rep _ _
  isplitl [H10]
  · ihave H := (rep_of_read c arg10 fullShare _ _) $$ H10
    iapply H
    ipureintro
    sl_unfold_run_names
    simp only [View.readAt_rep_full arg3.view x3, View.readAt_rep_full arg4.view x4, View.readAt_rep_full arg8.view x8]
    simp only [View.readAt_rep]
    split
    · next h3 =>
      have hf : k0_cond3 i (word1 n) = 1#1 := h3
      rw [o10Of, if_pos hf]
      exact View.read_writes_full arg10.view _ _ _ _
    next h3 =>
    have hf3 : ¬k0_cond3 i (word1 n) = 1#1 := h3
    rw [o10Of, if_neg hf3]
    split
    · next h2 =>
      have hf2 : k0_cond2 i (word1 n) = 1#1 := h2
      refine (View.read_writes_full arg10.view _ _ _ _).trans ?_
      split
      · next h =>
        have hf : Fill i be n := h
        simp only [w1Of, w2Of, if_pos hf]
        refine congrArg (fun a => k0_pay4 a (k0_pay28 x8)) (acc_of x3 x4 (cast1 x5) x6 (cast2 x7) _ _ _ _ _ _ ?_ ?_ ?_ ?_ ?_ ?_)
        all_goals first
          | exact readAt_of_read arg11.view _ _ _ (read_fill1 arg11.view (arg11.view.rep x11) x5)
          | exact readAt_of_read arg12.view _ _ _ (read_fill2 arg12.view (arg12.view.rep x12) x7)
      next h =>
      have hf : ¬Fill i be n := h
      simp only [View.readAt_rep]
      simp only [w1Of, w2Of, if_neg hf]
      rfl
    next h2 =>
    have hf2 : ¬k0_cond2 i (word1 n) = 1#1 := h2
    try rw [if_neg hf2]
    exact View.read_rep _ _
  isplitl [H11]
  · ihave H := (rep_of_read c arg11 fullShare _ _) $$ H11
    iapply H
    ipureintro
    sl_unfold_run_names
    simp only [View.readAt_rep]
    split
    · next h =>
      have hf : Fill i be n := h
      rw [w1Of, if_pos hf]
      exact read_fill1 arg11.view _ x5
    next h =>
      have hf : ¬Fill i be n := h
      rw [w1Of, if_neg hf]
      exact View.read_rep _ _
  ihave H := (rep_of_read c arg12 fullShare _ _) $$ H12
  iapply H
  ipureintro
  sl_unfold_run_names
  simp only [View.readAt_rep]
  split
  · next h =>
    have hf : Fill i be n := h
    rw [w2Of, if_pos hf]
    exact read_fill2 arg12.view _ x7
  next h =>
    have hf : ¬Fill i be n := h
    rw [w2Of, if_neg hf]
    exact View.read_rep _ _

end Run

end Cert.Proof.Experts
-- ==== Proof.ExData.lean ====
/-
  The experts' launch: what its tables, windows and scratch hold at each grid point.
-/
module

public import proofs.«01_k».proof.Proof.ExBody
public import Idealize.ShloMosaic.Lib.StableHlo.Run

@[expose] public section

noncomputable section

namespace Cert.Proof.Experts

open Cert.Kernel2Ideal Cert.Kernel2Ideal.Gen
open Idealize.ShloMosaic Idealize.ShloMosaic.TcCoe Idealize.ShloMosaic.ValueIdx
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig Unit (Elt F) ℕ (UR sig nD τ) ℕ

/-! ## A window the body only reads -/

section Held

variable {cfg : Cfg sig Λ₀} {c : Dev nD} (dat : Dat τ (Elt F) Unit ℕ (UR sig nD τ) ℕ cfg c)

/-- Fetched or not at a point, the window's buffer holds the point's block. -/
theorem heldIn_fetched (w : Fin cfg.W) (hw : (cfg.win w).isOut = false)
    (hclip : ∀ (i : cfg.grid.Coords) a, (cfg.win w).clip i a = none) :
    ∀ (n : ℕ) (h : n < cfg.N), heldIn cfg dat.A w n h = dat.fetched w ⟨n, h⟩ (fun _ => Classical.arbitrary _)
  | 0, h => rfl
  | n + 1, h => by
    by_cases hf : (cfg.win w).fetch ⟨n + 1, h⟩ = true
    · exact heldIn_of_fetch dat.A w ⟨n + 1, h⟩ hf
    · have hf' := Bool.eq_false_iff.mpr hf
      have hidx : (cfg.win w).index ⟨n + 1, h⟩ = (cfg.win w).index ⟨n, Nat.lt_of_succ_lt h⟩ := by
        by_contra hne
        exact hf (((cfg.win w).fetch_in hw ⟨n + 1, h⟩).mpr (.inr ⟨Nat.succ_pos n, hne⟩))
      rw [heldIn_of_not_fetch dat.A w n h hf', heldIn_fetched w hw hclip n]
      exact (dat.fetched_congr w hidx (by funext a; rw [hclip, hclip]) _).symm

/-- Two points with one block index hold one block. -/
theorem heldIn_congr (w : Fin cfg.W) (hw : (cfg.win w).isOut = false)
    (hclip : ∀ (i : cfg.grid.Coords) a, (cfg.win w).clip i a = none) (t t' : Fin cfg.N)
    (h : (cfg.win w).index t = (cfg.win w).index t') :
    heldIn cfg dat.A w t.val t.isLt = heldIn cfg dat.A w t'.val t'.isLt := by
  rw [heldIn_fetched dat w hw hclip, heldIn_fetched dat w hw hclip]
  exact dat.fetched_congr w h (by funext a; rw [hclip, hclip]) _

end Held

variable (m : (ℓ : Loc nD τ sig) → Buf (Elt F) ℓ)

/-- The arrays the call finds. -/
def V (c : Dev nD) (b : Ref sig .tc) : Buf (Elt F) ((c.tc : Thread nD τ).loc b) :=
  StableHlo.after hostOps0 (fun b => m (c, b)) (Proc.devRef .tc b)

/-- A reference no reshape writes is found as launched. -/
theorem V_kept (c : Dev nD) (b : Ref sig .tc) (h0 : b ≠ main_v0) (h1 : b ≠ main_v1) (h2 : b ≠ main_v2) (h3 : b ≠ main_v3) :
    V m c b = m ((c.tc : Thread nD τ).loc b) := by
  unfold V
  refine StableHlo.after_of_forall_not_mem (b := Proc.devRef .tc b) _ _ (List.forall_iff_forall_mem.mp ?_)
  simp only [List.Forall]
  refine ⟨?_, ?_, ?_, ?_⟩
  · exact fun hm => StableHlo.devRef_ne_of_ne h0 (Finset.mem_singleton.mp hm)
  · exact fun hm => StableHlo.devRef_ne_of_ne h1 (Finset.mem_singleton.mp hm)
  · exact fun hm => StableHlo.devRef_ne_of_ne h2 (Finset.mem_singleton.mp hm)
  · exact fun hm => StableHlo.devRef_ne_of_ne h3 (Finset.mem_singleton.mp hm)

/-- The tables' words. -/
def tab : pre0.Contents (Elt F) := fun k => V m 0 (pre0.ref k)

/-- Every row of the first table names one of the 32 experts. -/
def PreOK : Prop := ∀ j : S304.Idx, ((tab m 0 : Vec F S304 .i32) j : BitVec 32).toNat < 32

theorem slab_lt (x : BitVec 32) (h : x.toNat < 32) : (Scalar.addi (32#32) x : BitVec 32).toNat + 1 ≤ 128 := by
  show ((32#32 : BitVec 32) + x).toNat + 1 ≤ 128
  rw [BitVec.toNat_add]
  simp only [BitVec.toNat_ofNat]
  omega

theorem blk_in (z b c : ℕ) (h : z + 1 ≤ 128) :
    ∀ a : Fin 3, ((![z, 0, 0] : Fin 3 → ℕ) a + 1) * (![1, b, c] : Fin 3 → ℕ) a ≤ (![128, b, c] : Fin 3 → ℕ) a := by
  intro a
  fin_cases a
  · simpa using h
  · simp
  · simp

/-- A block of one expert of the layer is inside the stack. -/
theorem ok_tab (h : PreOK m) : ok0 (tab m) :=
  ⟨fun i => ⟨blk_in _ 1024 2048 (slab_lt _ (h _)), .inl rfl⟩, fun i => ⟨blk_in _ 1 2048 (slab_lt _ (h _)), .inl rfl⟩,
   fun i => ⟨blk_in _ 1024 1024 (slab_lt _ (h _)), .inl rfl⟩, fun i => ⟨blk_in _ 1 1024 (slab_lt _ (h _)), .inl rfl⟩⟩

variable (hok : PreOK m)

/-- The tables as the launch admits them. -/
def adm : (p : Fin 1) → (pcfgs (F := F) p).Adm := fun _ => ⟨tab m, ok_tab m hok⟩

/-- The launch at its tables. -/
abbrev cfgE : Cfg sig Λ₀ := cfg0 (adm m hok 0)

/-- The arrays under the windows. -/
abbrev arrs (c : Dev nD) (w : Fin 8) : Buf (Elt F) (((cfgE m hok).win w).arr.view.loc (c.tc : Thread nD τ)) :=
  V m c (arrRef (cfgE m hok).spec w)

/-- The count's word. -/
abbrev used : BitVec 32 := word1 (tab m 1 : Vec F S1 .i32)

abbrev hw0 (c : Dev nD) (t : Fin (cfgE m hok).N) : Vec F S512x256 .i32 := heldIn (cfgE m hok) (arrs m hok c) 0 t.val t.isLt
abbrev hw1 (c : Dev nD) (t : Fin (cfgE m hok).N) : Vec F S512x256 .i32 := heldIn (cfgE m hok) (arrs m hok c) 1 t.val t.isLt
abbrev hw2 (c : Dev nD) (t : Fin (cfgE m hok).N) : Vec F S1x1024x2048 .f32 := heldIn (cfgE m hok) (arrs m hok c) 2 t.val t.isLt
abbrev hw3 (c : Dev nD) (t : Fin (cfgE m hok).N) : Vec F S1x1x2048 .f32 := heldIn (cfgE m hok) (arrs m hok c) 3 t.val t.isLt
abbrev hw4 (c : Dev nD) (t : Fin (cfgE m hok).N) : Vec F S1x1024x1024 .f32 := heldIn (cfgE m hok) (arrs m hok c) 4 t.val t.isLt
abbrev hw5 (c : Dev nD) (t : Fin (cfgE m hok).N) : Vec F S1x1x1024 .f32 := heldIn (cfgE m hok) (arrs m hok c) 5 t.val t.isLt

/-- The first result's block at a point. -/
def out6 (c : Dev nD) (t : Fin (cfgE m hok).N) : Vec F S512x512 .bf16 :=
  o9Of (grid0.coords t) (used m) (hw0 m hok c t) (hw1 m hok c t) (cast1 (hw2 m hok c t)) (hw3 m hok c t) (cast2 (hw4 m hok c t)) (hw5 m hok c t) k0_pay5
/-- The second result's block at a point. -/
def out7 (c : Dev nD) (t : Fin (cfgE m hok).N) : Vec F S512x512 .bf16 :=
  o10Of (grid0.coords t) (used m) (hw0 m hok c t) (hw1 m hok c t) (cast1 (hw2 m hok c t)) (hw3 m hok c t) (cast2 (hw4 m hok c t)) (hw5 m hok c t) k0_pay6

/-- The scratch after `k` points: where the last of them was a used one, its expert's rounded matrices. -/
def Good (c : Dev nD) (k : ℕ) (x11 : Vec F S1024x2048 .bf16) (x12 : Vec F S1024x1024 .bf16) : Prop :=
  ∀ t : Fin (cfgE m hok).N, t.val + 1 = k → k0_cond2 (grid0.coords t) (used m) = 1#1 →
    x11 = cast1 (hw2 m hok c t) ∧ x12 = cast2 (hw4 m hok c t)

/-- What the body holds between points. -/
def PhiS (c : Dev nD) (k : ℕ) (_ : k ≤ (cfgE m hok).N) : sProp 𝕄 :=
  iprop(owns (c : Thread nD τ) (Memref.whole main_arg2) fullShare.right (tab m 0 : Vec F S304 .i32)
    ∗ owns (c : Thread nD τ) (Memref.whole main_arg3) fullShare.right (tab m 1 : Vec F S1 .i32)
    ∗ (∃ x11 x12, ⌜Good m hok c k x11 x12⌝ ∗ owns (c : Thread nD τ) (Memref.whole cc0_scratch0) fullShare x11
        ∗ owns (c : Thread nD τ) (Memref.whole cc0_scratch1) fullShare x12)
    ∗ ∃ r, prngReg c r)

/-- The launch's data. -/
def dats (p : Fin 1) (c : Dev nD) : Dat τ (Elt F) Unit ℕ (UR sig nD τ) ℕ (pin (pcfgs (F := F)) (adm m hok) p) c where
  A w := V m c (arrRef (cfgE m hok).spec w)
  after w t := match w with
    | ⟨0, _⟩ => hw0 m hok c t
    | ⟨1, _⟩ => hw1 m hok c t
    | ⟨2, _⟩ => hw2 m hok c t
    | ⟨3, _⟩ => hw3 m hok c t
    | ⟨4, _⟩ => hw4 m hok c t
    | ⟨5, _⟩ => hw5 m hok c t
    | ⟨6, _⟩ => out6 m hok c t
    | ⟨7, _⟩ => out7 m hok c t
    | ⟨_ + 8, h⟩ => absurd h (Nat.not_lt.2 (Nat.le_add_left _ _))
  Φ t := PhiS m hok c t.val (Nat.le_of_lt_succ t.isLt)
  q _ := fullShare
  owed _ := 0

theorem A_eq (c : Dev nD) (w : Fin (cfgE m hok).W) : (dats m hok 0 c).A w = V m c (arrRef (cfgE m hok).spec w) := by
  dsimp only [dats]

theorem after_0 (c : Dev nD) (t : Fin (cfgE m hok).N) : (dats m hok 0 c).after 0 t = hw0 m hok c t := by dsimp only [dats]; rfl
theorem after_1 (c : Dev nD) (t : Fin (cfgE m hok).N) : (dats m hok 0 c).after 1 t = hw1 m hok c t := by dsimp only [dats]; rfl
theorem after_2 (c : Dev nD) (t : Fin (cfgE m hok).N) : (dats m hok 0 c).after 2 t = hw2 m hok c t := by dsimp only [dats]; rfl
theorem after_3 (c : Dev nD) (t : Fin (cfgE m hok).N) : (dats m hok 0 c).after 3 t = hw3 m hok c t := by dsimp only [dats]; rfl
theorem after_4 (c : Dev nD) (t : Fin (cfgE m hok).N) : (dats m hok 0 c).after 4 t = hw4 m hok c t := by dsimp only [dats]; rfl
theorem after_5 (c : Dev nD) (t : Fin (cfgE m hok).N) : (dats m hok 0 c).after 5 t = hw5 m hok c t := by dsimp only [dats]; rfl
theorem after_6 (c : Dev nD) (t : Fin (cfgE m hok).N) : (dats m hok 0 c).after 6 t = out6 m hok c t := by dsimp only [dats]; rfl
theorem after_7 (c : Dev nD) (t : Fin (cfgE m hok).N) : (dats m hok 0 c).after 7 t = out7 m hok c t := by dsimp only [dats]; rfl

theorem before_0 (c : Dev nD) (t : Fin (cfgE m hok).N) (d) : (dats m hok 0 c).before 0 t d = hw0 m hok c t :=
  (dats m hok 0 c).before_eq_heldIn 0 rfl (fun _ => rfl) (fun _ _ => rfl) (after_0 m hok c) t d
theorem before_1 (c : Dev nD) (t : Fin (cfgE m hok).N) (d) : (dats m hok 0 c).before 1 t d = hw1 m hok c t :=
  (dats m hok 0 c).before_eq_heldIn 1 rfl (fun _ => rfl) (fun _ _ => rfl) (after_1 m hok c) t d
theorem before_2 (c : Dev nD) (t : Fin (cfgE m hok).N) (d) : (dats m hok 0 c).before 2 t d = hw2 m hok c t :=
  (dats m hok 0 c).before_eq_heldIn 2 rfl (fun _ => rfl) (fun _ _ => rfl) (after_2 m hok c) t d
theorem before_3 (c : Dev nD) (t : Fin (cfgE m hok).N) (d) : (dats m hok 0 c).before 3 t d = hw3 m hok c t :=
  (dats m hok 0 c).before_eq_heldIn 3 rfl (fun _ => rfl) (fun _ _ => rfl) (after_3 m hok c) t d
theorem before_4 (c : Dev nD) (t : Fin (cfgE m hok).N) (d) : (dats m hok 0 c).before 4 t d = hw4 m hok c t :=
  (dats m hok 0 c).before_eq_heldIn 4 rfl (fun _ => rfl) (fun _ _ => rfl) (after_4 m hok c) t d
theorem before_5 (c : Dev nD) (t : Fin (cfgE m hok).N) (d) : (dats m hok 0 c).before 5 t d = hw5 m hok c t :=
  (dats m hok 0 c).before_eq_heldIn 5 rfl (fun _ => rfl) (fun _ _ => rfl) (after_5 m hok c) t d

end Cert.Proof.Experts
-- ==== Proof.ExRun.lean ====
/-
  The experts' launch: the body at each grid point, and the program's run.
-/
module

public import proofs.«01_k».proof.Proof.ExData

@[expose] public section

noncomputable section

namespace Cert.Proof.Experts

open Cert.Kernel2Ideal Cert.Kernel2Ideal.Gen
open Idealize.ShloMosaic Idealize.ShloMosaic.TcCoe Idealize.ShloMosaic.ValueIdx
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig Unit (Elt F) ℕ (UR sig nD τ) ℕ

/-! ## The body's branches -/

theorem bit_iff (b : Bool) : Scalar.cmpi .ne (Scalar.extui (BitVec.ofBool b) : BitVec 32) 0#32 = 1#1 ↔ b = true := by
  cases b <;> decide

theorem cond2_iff (i : grid0.Coords) (v : BitVec 32) : k0_cond2 i v = 1#1 ↔ (BitVec.ofNat 32 (i 0).val).slt v = true :=
  bit_iff _

theorem cond3_iff (i : grid0.Coords) (v : BitVec 32) : k0_cond3 i v = 1#1 ↔ v.sle (BitVec.ofNat 32 (i 0).val) = true :=
  bit_iff _

theorem cond3_of_not (i : grid0.Coords) (v : BitVec 32) (h : ¬ k0_cond2 i v = 1#1) : k0_cond3 i v = 1#1 := by
  rw [cond2_iff] at h
  rw [cond3_iff]
  rw [BitVec.slt_iff_toInt_lt] at h
  rw [BitVec.sle_iff_toInt_le]
  omega

theorem cond2_pred (i i' : grid0.Coords) (v : BitVec 32) (hle : (i' 0).val ≤ (i 0).val) (h : k0_cond2 i v = 1#1) :
    k0_cond2 i' v = 1#1 := by
  rw [cond2_iff, BitVec.slt_iff_toInt_lt] at *
  have hi : (i 0).val < 304 := (i 0).isLt
  rw [BitVec.toInt_ofNat'] at *
  have e1 : ((i 0).val : ℤ).bmod (2 ^ 32) = (i 0).val := by rw [Int.bmod_eq_of_le] <;> omega
  have e2 : ((i' 0).val : ℤ).bmod (2 ^ 32) = (i' 0).val := by rw [Int.bmod_eq_of_le] <;> omega
  rw [e1] at h
  rw [e2]
  omega

/-- A used point that copies nothing is not the first, and its expert is the previous point's. -/
theorem same_of_not_fill (i : grid0.Coords) (be : Vec F S304 .i32) (n : Vec F S1 .i32) (h : ¬ Fill i be n)
    (h2 : k0_cond2 i (word1 n) = 1#1) :
    0 < (i 0).val ∧ wordAt be (k0_off1 i) (k0_off1_inb i) = wordAt be (k0_off2 i) (k0_off2_inb i) := by
  unfold Fill at h
  rw [cond2_iff] at h2
  have hi : (i 0).val < 304 := (i 0).isLt
  have hs : Scalar.cmpi .slt (BitVec.ofNat 32 (i 0).val) (word1 n) = BitVec.ofBool true := by
    show BitVec.ofBool _ = _
    rw [h2]
  rw [hs] at h
  constructor
  · by_contra h0
    have h0' : (i 0).val = 0 := by omega
    apply h
    have e : Scalar.cmpi .eq (BitVec.ofNat 32 (i 0).val) 0#32 = 1#1 := by rw [h0']; decide
    rw [e]
    generalize Scalar.cmpi .ne (wordAt be (k0_off1 i) (k0_off1_inb i)) (wordAt be (k0_off2 i) (k0_off2_inb i)) = z
    revert z; decide
  · by_contra hne
    apply h
    have e : Scalar.cmpi .ne (wordAt be (k0_off1 i) (k0_off1_inb i)) (wordAt be (k0_off2 i) (k0_off2_inb i)) = 1#1 := by
      show BitVec.ofBool (_ != _) = _
      rw [bne_iff_ne.mpr hne]; rfl
    rw [e]
    generalize Scalar.cmpi .eq (BitVec.ofNat 32 (i 0).val) 0#32 = z
    revert z; decide

variable (m : (ℓ : Loc nD τ sig) → Buf (Elt F) ℓ) (hok : PreOK m)

theorem coords_val (t : Fin (cfgE m hok).N) : (grid0.coords t 0).val = t.val := by
  have h : t.val < 304 := t.isLt
  show t.val / 1 % 304 = t.val
  omega

theorem idle_key (i : grid0.Coords) (v : BitVec 32) : (!(k0_cond2 i v == 1#1) && !(k0_cond3 i v == 1#1)) = false := by
  by_cases h : k0_cond2 i v = 1#1
  · rw [h]; rfl
  · rw [cond3_of_not i v h]; cases k0_cond2 i v == 1#1 <;> rfl

theorem idle_tab (pf : pre0.Contents (Elt F)) (w : Fin 8) (i : grid0.Coords) : idle0 pf w i = false := by
  match w with
  | 0 => rfl
  | 1 => rfl
  | 2 => rfl
  | 3 => rfl
  | 4 => rfl
  | 5 => rfl
  | 6 => exact idle_key i (pf.atD 1 ![0])
  | 7 => exact idle_key i (pf.atD 1 ![0])

theorem idle_false (w : Fin 8) (i : grid0.Coords) : (cfgE m hok).idle w i = false :=
  (show (cfgE m hok).idle w i = idle0 (tab m) w i from rfl).trans (idle_tab (tab m) w i)

/-- The expert stacks' block at a point is named by the point's word of the first table. -/
theorem index_2 (t : Fin (cfgE m hok).N) : ((cfgE m hok).win 2).index t
    = ![(Scalar.addi (32#32) (wordAt (tab m 0 : Vec F S304 .i32) (k0_off1 (grid0.coords t)) (k0_off1_inb _)) : BitVec 32).toNat, 0, 0] := rfl
theorem index_4 (t : Fin (cfgE m hok).N) : ((cfgE m hok).win 4).index t
    = ![(Scalar.addi (32#32) (wordAt (tab m 0 : Vec F S304 .i32) (k0_off1 (grid0.coords t)) (k0_off1_inb _)) : BitVec 32).toNat, 0, 0] := rfl

theorem word_congr (be : Vec F S304 .i32) (o o' : Fin 1 → ℕ) (h h') (e : o = o') : wordAt be o h = wordAt be o' h' := by
  subst e; rfl

theorem off1_eq (t : Fin (cfgE m hok).N) : k0_off1 (grid0.coords t) = ![t.val] := by
  have h : t.val < 304 := t.isLt
  have h0 := coords_val m hok t
  show ![(BitVec.ofNat 32 (grid0.coords t 0).val).toNat] = _
  rw [h0, BitVec.toNat_ofNat, Nat.mod_eq_of_lt (by omega)]

theorem off2_eq (t : Fin (cfgE m hok).N) (hp : 0 < t.val) : k0_off2 (grid0.coords t) = ![t.val - 1] := by
  have h : t.val < 304 := t.isLt
  have h0 := coords_val m hok t
  unfold k0_off2
  simp only [h0]
  generalize t.val = n at *
  have : ∀ n : Fin 304, 0 < n.val → (Scalar.indexCast (Scalar.maxsi (Scalar.subi (BitVec.ofNat 32 n.val) 1#32) 0#32) : Index).toNat = n.val - 1 := by decide
  exact congrArg (fun z => ![z]) (this ⟨n, h⟩ hp)

/-- The matrices the body multiplies by at a used point are the point's expert's. -/
theorem mats (c : Dev nD) (t : Fin (cfgE m hok).N) (x11 : Vec F S1024x2048 .bf16) (x12 : Vec F S1024x1024 .bf16)
    (hg : Good m hok c t.val x11 x12) (h2 : k0_cond2 (grid0.coords t) (used m) = 1#1) :
    w1Of (grid0.coords t) (tab m 0) (tab m 1) (hw2 m hok c t) x11 = cast1 (hw2 m hok c t)
      ∧ w2Of (grid0.coords t) (tab m 0) (tab m 1) (hw4 m hok c t) x12 = cast2 (hw4 m hok c t) := by
  unfold w1Of w2Of
  by_cases hf : Fill (grid0.coords t) (tab m 0) (tab m 1)
  · rw [if_pos hf, if_pos hf]; exact ⟨rfl, rfl⟩
  · rw [if_neg hf, if_neg hf]
    obtain ⟨hp, hw⟩ := same_of_not_fill _ _ _ hf h2
    rw [coords_val m hok t] at hp
    let t' : Fin (cfgE m hok).N := ⟨t.val - 1, by have := t.isLt; omega⟩
    have hc2 : k0_cond2 (grid0.coords t') (used m) = 1#1 := cond2_pred _ _ _ (by rw [coords_val m hok, coords_val m hok]; exact Nat.sub_le _ _) h2
    have hww : wordAt (tab m 0 : Vec F S304 .i32) (k0_off1 (grid0.coords t)) (k0_off1_inb _)
        = wordAt (tab m 0 : Vec F S304 .i32) (k0_off1 (grid0.coords t')) (k0_off1_inb _) :=
      hw.trans (word_congr _ _ _ _ _ ((off2_eq m hok t hp).trans (off1_eq m hok t').symm))
    obtain ⟨e1, e2⟩ := hg t' (by show t.val - 1 + 1 = t.val; omega) hc2
    have i2 : ((cfgE m hok).win 2).index t' = ((cfgE m hok).win 2).index t := by rw [index_2, index_2, hww]
    have i4 : ((cfgE m hok).win 4).index t' = ((cfgE m hok).win 4).index t := by rw [index_4, index_4, hww]
    exact ⟨e1.trans (congrArg cast1 (heldIn_congr (dats m hok 0 c) 2 rfl (fun _ _ => rfl) t' t i2)),
      e2.trans (congrArg cast2 (heldIn_congr (dats m hok 0 c) 4 rfl (fun _ _ => rfl) t' t i4))⟩

theorem good_succ (c : Dev nD) (t : Fin (cfgE m hok).N) (x11 : Vec F S1024x2048 .bf16) (x12 : Vec F S1024x1024 .bf16)
    (hg : Good m hok c t.val x11 x12) :
    Good m hok c (t.val + 1) (w1Of (grid0.coords t) (tab m 0) (tab m 1) (hw2 m hok c t) x11)
      (w2Of (grid0.coords t) (tab m 0) (tab m 1) (hw4 m hok c t) x12) := by
  intro t' ht' h2
  have e : t' = t := Fin.ext (Nat.succ.inj ht')
  subst e
  exact mats m hok c t' x11 x12 hg h2

theorem out6_eq (c : Dev nD) (t : Fin (cfgE m hok).N) (x11 : Vec F S1024x2048 .bf16) (x12 : Vec F S1024x1024 .bf16)
    (d : Vec F S512x512 .bf16) (hg : Good m hok c t.val x11 x12) :
    o9Of (grid0.coords t) (word1 (tab m 1 : Vec F S1 .i32)) (hw0 m hok c t) (hw1 m hok c t) (w1Of (grid0.coords t) (tab m 0) (tab m 1) (hw2 m hok c t) x11)
      (hw3 m hok c t) (w2Of (grid0.coords t) (tab m 0) (tab m 1) (hw4 m hok c t) x12) (hw5 m hok c t) d = out6 m hok c t := by
  unfold out6 o9Of
  by_cases h3 : k0_cond3 (grid0.coords t) (used m) = 1#1
  · rw [if_pos h3, if_pos h3]
  · have h2 : k0_cond2 (grid0.coords t) (used m) = 1#1 := by by_contra h; exact h3 (cond3_of_not _ _ h)
    rw [if_neg h3, if_neg h3, if_pos h2, if_pos h2, (mats m hok c t x11 x12 hg h2).1, (mats m hok c t x11 x12 hg h2).2]

theorem out7_eq (c : Dev nD) (t : Fin (cfgE m hok).N) (x11 : Vec F S1024x2048 .bf16) (x12 : Vec F S1024x1024 .bf16)
    (d : Vec F S512x512 .bf16) (hg : Good m hok c t.val x11 x12) :
    o10Of (grid0.coords t) (word1 (tab m 1 : Vec F S1 .i32)) (hw0 m hok c t) (hw1 m hok c t) (w1Of (grid0.coords t) (tab m 0) (tab m 1) (hw2 m hok c t) x11)
      (hw3 m hok c t) (w2Of (grid0.coords t) (tab m 0) (tab m 1) (hw4 m hok c t) x12) (hw5 m hok c t) d = out7 m hok c t := by
  unfold out7 o10Of
  by_cases h3 : k0_cond3 (grid0.coords t) (used m) = 1#1
  · rw [if_pos h3, if_pos h3]
  · have h2 : k0_cond2 (grid0.coords t) (used m) = 1#1 := by by_contra h; exact h3 (cond3_of_not _ _ h)
    rw [if_neg h3, if_neg h3, if_pos h2, if_pos h2, (mats m hok c t x11 x12 hg h2).1, (mats m hok c t x11 x12 hg h2).2]

/-! ## The body at a point -/

/-- A window's current buffer. -/
abbrev stg (t : Fin (cfgE m hok).N) (w : Fin (cfgE m hok).W) := ((cfgE m hok).win w).stage ((cfgE m hok).slots t w)

/-- What the body runs at a point. -/
def bodyAt (t : Fin (cfgE m hok).N) : Prog (TpuEff nD τ sig (Elt F) Λ₀ .tc) PUnit :=
  cc0__expert_kernel (grid0.coords t) (Memref.whole main_arg2) (Memref.isWhole_whole _) (Memref.whole main_arg3) (Memref.isWhole_whole _) (spec0_0.stage ((cfgE m hok).slots t 0)) (hstage0_0 (((cfgE m hok).slots t 0).cast nbuf0_0)) (spec0_1.stage ((cfgE m hok).slots t 1)) (hstage0_1 (((cfgE m hok).slots t 1).cast nbuf0_1)) (spec0_2.stage ((cfgE m hok).slots t 2)) (hstage0_2 (((cfgE m hok).slots t 2).cast nbuf0_2)) (spec0_3.stage ((cfgE m hok).slots t 3)) (hstage0_3 (((cfgE m hok).slots t 3).cast nbuf0_3)) (spec0_4.stage ((cfgE m hok).slots t 4)) (hstage0_4 (((cfgE m hok).slots t 4).cast nbuf0_4)) (spec0_5.stage ((cfgE m hok).slots t 5)) (hstage0_5 (((cfgE m hok).slots t 5).cast nbuf0_5)) (spec0_6.stage ((cfgE m hok).slots t 6)) (hstage0_6 (((cfgE m hok).slots t 6).cast nbuf0_6)) (spec0_7.stage ((cfgE m hok).slots t 7)) (hstage0_7 (((cfgE m hok).slots t 7).cast nbuf0_7)) (Memref.whole cc0_scratch0) (Memref.isWhole_whole _) (Memref.whole cc0_scratch1) (Memref.isWhole_whole _)

theorem row (t : Fin (cfgE m hok).N) :
    (defs₀ (F := F)) .tc (cfgE m hok).body ((cfgE m hok).bodyArgs t ((cfgE m hok).slots t)) = bodyAt m hok t := by
  unfold defs₀; rw [Defs.onTc_tc]; rfl

def bodyPre (c : Dev nD) (t : Fin (cfgE m hok).N) : sProp 𝕄 :=
  iprop((dats m hok 0 c).Φ t.castSucc ∗ (dats m hok 0 c).owesAt () t.castSucc
    ∗ (∃ d, owns (c : Thread nD τ) (stg m hok t 0) fullShare ((dats m hok 0 c).before 0 t d))
    ∗ (∃ d, owns (c : Thread nD τ) (stg m hok t 1) fullShare ((dats m hok 0 c).before 1 t d))
    ∗ (∃ d, owns (c : Thread nD τ) (stg m hok t 2) fullShare ((dats m hok 0 c).before 2 t d))
    ∗ (∃ d, owns (c : Thread nD τ) (stg m hok t 3) fullShare ((dats m hok 0 c).before 3 t d))
    ∗ (∃ d, owns (c : Thread nD τ) (stg m hok t 4) fullShare ((dats m hok 0 c).before 4 t d))
    ∗ (∃ d, owns (c : Thread nD τ) (stg m hok t 5) fullShare ((dats m hok 0 c).before 5 t d))
    ∗ (∃ d, owns (c : Thread nD τ) (stg m hok t 6) fullShare ((dats m hok 0 c).before 6 t d))
    ∗ (∃ d, owns (c : Thread nD τ) (stg m hok t 7) fullShare ((dats m hok 0 c).before 7 t d)))

def bodyPost (c : Dev nD) (t : Fin (cfgE m hok).N) : sProp 𝕄 :=
  iprop((dats m hok 0 c).Φ t.succ ∗ (dats m hok 0 c).owesAt () t.succ
    ∗ owns (c : Thread nD τ) (stg m hok t 0) fullShare ((dats m hok 0 c).after 0 t)
    ∗ owns (c : Thread nD τ) (stg m hok t 1) fullShare ((dats m hok 0 c).after 1 t)
    ∗ owns (c : Thread nD τ) (stg m hok t 2) fullShare ((dats m hok 0 c).after 2 t)
    ∗ owns (c : Thread nD τ) (stg m hok t 3) fullShare ((dats m hok 0 c).after 3 t)
    ∗ owns (c : Thread nD τ) (stg m hok t 4) fullShare ((dats m hok 0 c).after 4 t)
    ∗ owns (c : Thread nD τ) (stg m hok t 5) fullShare ((dats m hok 0 c).after 5 t)
    ∗ owns (c : Thread nD τ) (stg m hok t 6) fullShare ((dats m hok 0 c).after 6 t)
    ∗ owns (c : Thread nD τ) (stg m hok t 7) fullShare ((dats m hok 0 c).after 7 t))

theorem Phi_at (c : Dev nD) (t : Fin ((cfgE m hok).N + 1)) : (dats m hok 0 c).Φ t = PhiS m hok c t.val (Nat.le_of_lt_succ t.isLt) := by
  dsimp only [dats]

theorem body_run_to (c : Dev nD) (i : grid0.Coords) (arg1 : Memref sig .tc .smem S304 .i32) (harg1 : arg1.IsWhole)
  (arg2 : Memref sig .tc .smem S1 .i32) (harg2 : arg2.IsWhole)
  (arg3 : Memref sig .tc .vmem S512x256 .i32) (harg3 : arg3.IsWhole)
  (arg4 : Memref sig .tc .vmem S512x256 .i32) (harg4 : arg4.IsWhole)
  (arg5 : Memref sig .tc .vmem S1x1024x2048 .f32) (harg5 : arg5.IsWhole)
  (arg6 : Memref sig .tc .vmem S1x1x2048 .f32) (harg6 : arg6.IsWhole)
  (arg7 : Memref sig .tc .vmem S1x1024x1024 .f32) (harg7 : arg7.IsWhole)
  (arg8 : Memref sig .tc .vmem S1x1x1024 .f32) (harg8 : arg8.IsWhole)
  (arg9 : Memref sig .tc .vmem S512x512 .bf16) (harg9 : arg9.IsWhole)
  (arg10 : Memref sig .tc .vmem S512x512 .bf16) (harg10 : arg10.IsWhole)
  (arg11 : Memref sig .tc .vmem S1024x2048 .bf16) (harg11 : arg11.IsWhole)
  (arg12 : Memref sig .tc .vmem S1024x1024 .bf16) (harg12 : arg12.IsWhole)
    (q1 q2 : PosShare TreeShare) (be : Vec F S304 .i32) (n : Vec F S1 .i32) (x3 x4 : Vec F S512x256 .i32)
    (x5 : Vec F S1x1024x2048 .f32) (x6 : Vec F S1x1x2048 .f32) (x7 : Vec F S1x1024x1024 .f32) (x8 : Vec F S1x1x1024 .f32)
    (x9 x10 : Vec F S512x512 .bf16) (x11 : Vec F S1024x2048 .bf16) (x12 : Vec F S1024x1024 .bf16)
    (y9 y10 : Vec F S512x512 .bf16)
    (e9 : o9Of i (word1 n) x3 x4 (w1Of i be n x5 x11) x6 (w2Of i be n x7 x12) x8 x9 = y9)
    (e10 : o10Of i (word1 n) x3 x4 (w1Of i be n x5 x11) x6 (w2Of i be n x7 x12) x8 x10 = y10) (K : PUnit → sProp 𝕄) :
    iprop(Held c arg1 arg2 arg3 arg4 arg5 arg6 arg7 arg8 arg9 arg10 arg11 arg12 q1 q2 be n x3 x4 x5 x6 x7 x8 x9 x10 x11 x12
      ∗ (Held c arg1 arg2 arg3 arg4 arg5 arg6 arg7 arg8 arg9 arg10 arg11 arg12 q1 q2 be n x3 x4 x5 x6 x7 x8
          y9 y10 (w1Of i be n x5 x11) (w2Of i be n x7 x12) -∗ K ⟨⟩))
      ⊢ wp frame (wpE (defs₀ (F := F)) 𝒱₀ (c : Thread nD τ) none) Set.univ
          (cc0__expert_kernel i arg1 harg1 arg2 harg2 arg3 harg3 arg4 harg4 arg5 harg5 arg6 harg6 arg7 harg7 arg8 harg8
            arg9 harg9 arg10 harg10 arg11 harg11 arg12 harg12) K := by
  subst e9 e10
  exact body_run c i arg1 harg1 arg2 harg2 arg3 harg3 arg4 harg4 arg5 harg5 arg6 harg6 arg7 harg7 arg8 harg8
    arg9 harg9 arg10 harg10 arg11 harg11 arg12 harg12 q1 q2 be n x3 x4 x5 x6 x7 x8 x9 x10 x11 x12 K

theorem sound_body (c : Dev nD) (t : Fin (cfgE m hok).N) :
    bodyPre m hok c t ⊢ wp frame (wpE (defs₀ (F := F)) 𝒱₀ (c : Thread nD τ) none) Set.univ (bodyAt m hok t) (fun _ => bodyPost m hok c t) := by
  unfold bodyPre bodyPost bodyAt
  simp only [before_0, before_1, before_2, before_3, before_4, before_5]
  rw [show (dats m hok 0 c).owesAt () t.succ = (dats m hok 0 c).owesAt () t.castSucc from rfl, Phi_at, Phi_at,
    after_0, after_1, after_2, after_3, after_4, after_5, after_6, after_7]
  unfold PhiS
  iintro ⟨⟨Ht0, Ht1, ⟨%x11, %x12, %hg, Hs0, Hs1⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run_to c (grid0.coords t) _ _ _ _ _ _ _ _ _ _ _ _ _ _ _ _ _ _ _ _ _ _ _ _ fullShare.right fullShare.right
    (tab m 0) (tab m 1) (hw0 m hok c t) (hw1 m hok c t) (hw2 m hok c t) (hw3 m hok c t) (hw4 m hok c t) (hw5 m hok c t)
    ((dats m hok 0 c).before 6 t d6) ((dats m hok 0 c).before 7 t d7) x11 x12 _ _
    (out6_eq m hok c t x11 x12 _ hg) (out7_eq m hok c t x11 x12 _ hg) _)
  unfold Held
  isplitl [Ht0 Ht1 Hs0 Hs1 H0 H1 H2 H3 H4 H5 H6 H7]
  · isplitl [Ht0]; · iexact Ht0
    isplitl [Ht1]; · iexact Ht1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hs0]; · iexact Hs0
    iexact Hs1
  iintro ⟨Ht0, Ht1, H0, H1, H2, H3, H4, H5, H6, H7, Hs0, Hs1⟩
  isplitl [Ht0 Ht1 Hs0 Hs1 Hp]
  · isplitl [Ht0]; · iexact Ht0
    isplitl [Ht1]; · iexact Ht1
    isplitl [Hs0 Hs1]
    · iexists _
      iexists _
      isplitr
      · ipureintro; exact good_succ m hok c t x11 x12 hg
      isplitl [Hs0]; · iexact Hs0
      iexact Hs1
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The obligation where no point leaves a window alone. -/
theorem obligation_of {cfg : Cfg sig Λ₀} {c : Dev nD} (dat : Dat τ (Elt F) Unit ℕ (UR sig nD τ) ℕ cfg c)
    (D : Defs nD τ sig (Elt F) Λ₀) (W : Variants) (hidle : ∀ w i, cfg.idle w i = false)
    (h : ∀ t : Fin cfg.N, iprop(dat.Φ t.castSucc ∗ dat.owesAt () t.castSucc
        ∗ bigSep Finset.univ fun w : Fin cfg.W => iprop(∃ d, owns (c : Thread nD τ) ((cfg.win w).stage (cfg.slots t w)) fullShare (dat.before w t d)))
      ⊢ wp frame (wpE D W (c : Thread nD τ) none) Set.univ (D .tc cfg.body (cfg.bodyArgs t (cfg.slots t))) fun _ =>
        iprop(dat.Φ t.succ ∗ dat.owesAt () t.succ
          ∗ bigSep Finset.univ fun w : Fin cfg.W => owns (c : Thread nD τ) ((cfg.win w).stage (cfg.slots t w)) fullShare (dat.after w t))) :
    BodyObligation dat D W () Set.univ := fun t => by
  simp only [hidle]
  exact h t

theorem body_obligation (c : Dev nD) : BodyObligation (dats m hok 0 c) (defs₀ (F := F)) 𝒱₀ () Set.univ :=
  obligation_of (dats m hok 0 c) _ _ (idle_false m hok) fun t => by
    rw [row, bigSep_W0, bigSep_W0]
    exact triple_restated (sound_body m hok c t) rfl .rfl fun _ => .rfl

/-! ## The run -/

theorem hfresh : (hostOps0 (F := F)).Forall fun op => op.fresh = ∅ := ⟨rfl, rfl, rfl, rfl⟩

theorem tables_eq (c : Dev nD) (v : pre0.Contents (Elt F)) :
    (ΦT (Val := Elt F) (U := UR sig nD τ) pre0 v c : sProp 𝕄)
      = iprop(owns (c : Thread nD τ) (Memref.whole main_arg2) fullShare.right (v 0 : Vec F S304 .i32)
          ∗ owns (c : Thread nD τ) (Memref.whole main_arg3) fullShare.right (v 1 : Vec F S1 .i32)) := by
  unfold ΦT prefHeld
  exact (bigSep_univ_eq_bigSepL [(0 : Fin 2), (1 : Fin 2)] (by decide) (by decide) _).trans
    (congrArg₂ (fun A B : sProp 𝕄 => iprop(A ∗ B)) (owns_whole (c : Thread nD τ) main_arg2 fullShare.right (v 0)).symm
      (owns_whole (c : Thread nD τ) main_arg3 fullShare.right (v 1)).symm)

theorem hin (c : Dev nD) : iprop(ΦA (Val := Elt F) (U := UR sig nD τ) (cfgE m hok).spec c ∗ ΦT (Val := Elt F) (U := UR sig nD τ) pre0 (tab m) c) ⊢ (dats m hok 0 c).Φ 0 := by
  rw [Phi_at, tables_eq]
  unfold ΦA PhiS
  rw [show (scopedRest (Ix := Unit) (Name := ℕ) (U := UR sig nD τ) (Lvl := ℕ) (Val := Elt F) (cfgE m hok).spec c : sProp 𝕄) = _ from scopedRest0_eq c]
  simp only [owns_whole (c : Thread nD τ) cc0_scratch0, owns_whole (c : Thread nD τ) cc0_scratch1]
  iintro ⟨⟨⟨⟨%f0, Hs0⟩, ⟨%f1, Hs1⟩⟩, Hp⟩, Ht0, Ht1⟩
  isplitl [Ht0]; · iexact Ht0
  isplitl [Ht1]; · iexact Ht1
  isplitl [Hs0 Hs1]
  · iexists f0
    iexists f1
    isplitr
    · ipureintro; exact fun t ht => absurd ht (Nat.succ_ne_zero _)
    isplitl [Hs0]; · iexact Hs0
    iexact Hs1
  iexact Hp

theorem hout (c : Dev nD) : (dats m hok 0 c).Φ (Fin.last (cfgE m hok).N) ⊢ ΦA (Val := Elt F) (U := UR sig nD τ) (cfgE m hok).spec c := by
  rw [Phi_at]
  unfold ΦA PhiS
  rw [show (scopedRest (Ix := Unit) (Name := ℕ) (U := UR sig nD τ) (Lvl := ℕ) (Val := Elt F) (cfgE m hok).spec c : sProp 𝕄) = _ from scopedRest0_eq c]
  simp only [owns_whole (c : Thread nD τ) cc0_scratch0, owns_whole (c : Thread nD τ) cc0_scratch1]
  iintro ⟨Ht0, Ht1, ⟨%x11, %x12, %hg, Hs0, Hs1⟩, Hp⟩
  isplitl [Hs0 Hs1]
  · isplitl [Hs0]
    · iexists _; iexact Hs0
    iexists _; iexact Hs1
  iexact Hp

variable (ρ : Dev nD → PrngReg)

/-- The program's run, every window's array at what the points leave and every other array as the call finds it. -/
theorem run_main : θ_run (defs (F := F)) (onTc (τ := τ) (main (F := F))) (s₀ m ρ)
    (fun r => FramePost (pin (pcfgs (F := F)) (adm m hok)) (dats m hok) 0 (V m) r ∧ r.2.sem = fun _ => 0) :=
  θ_run_frameP_track (pcfgs (F := F)) (adm m hok) (dats m hok) (0 : Fin 1) launch0 (defs₀ (F := F)) 𝒱₀ m ρ main
    (hbody := fun c => (body_obligation m hok c).loose) (hshare := fun c => (dats m hok 0 c).share_full fun _ => rfl)
    (howed := fun _ _ => rfl) (V := V m)
    (hmain := hmainP_prefix (pcfgs (F := F)) 0 (defs₀ (F := F)) 𝒱₀ m main hostOps0 hostOps0_sub hfresh main_chain)
    (hA := A_eq m hok) (hpf := fun c k => by obtain rfl : c = 0 := Subsingleton.elim _ _; rfl)
    (hin := hin m hok) (hout := hout m hok)
    (Q' := fun r => FramePost (pin (pcfgs (F := F)) (adm m hok)) (dats m hok) 0 (V m) r ∧ r.2.sem = fun _ => 0)
    (hQ' := fun _ h => h)

end Cert.Proof.Experts
-- ==== Proof.ExEnd.lean ====
/-
  The experts' launch: what the program leaves, its arguments as launched and its two results as the points leave them.
-/
module

public import proofs.«01_k».proof.Proof.ExRun

@[expose] public section

noncomputable section

namespace Cert.Proof.Experts

open Cert.Kernel2Ideal Cert.Kernel2Ideal.Gen
open Idealize.ShloMosaic Idealize.ShloMosaic.TcCoe Idealize.ShloMosaic.ValueIdx
open Idealize.ShloMosaic.Pipeline
open Idealize.SL Idealize.SL.Sem

variable {F : FTy → Type} [FloatOps F]
variable (m : (ℓ : Loc nD τ sig) → Buf (Elt F) ℓ) (hok : PreOK m) (ρ : Dev nD → PrngReg)

/-- Every argument as launched. -/
def Kept (r : MemSt nD τ sig (Elt F)) (c : Dev nD) : Prop :=
  r.mem ((c.tc : Thread nD τ).loc main_arg0) = m ((c.tc : Thread nD τ).loc main_arg0)
  ∧ r.mem ((c.tc : Thread nD τ).loc main_arg1) = m ((c.tc : Thread nD τ).loc main_arg1)
  ∧ r.mem ((c.tc : Thread nD τ).loc main_arg2) = m ((c.tc : Thread nD τ).loc main_arg2)
  ∧ r.mem ((c.tc : Thread nD τ).loc main_arg3) = m ((c.tc : Thread nD τ).loc main_arg3)
  ∧ r.mem ((c.tc : Thread nD τ).loc main_arg4) = m ((c.tc : Thread nD τ).loc main_arg4)
  ∧ r.mem ((c.tc : Thread nD τ).loc main_arg5) = m ((c.tc : Thread nD τ).loc main_arg5)
  ∧ r.mem ((c.tc : Thread nD τ).loc main_arg6) = m ((c.tc : Thread nD τ).loc main_arg6)
  ∧ r.mem ((c.tc : Thread nD τ).loc main_arg7) = m ((c.tc : Thread nD τ).loc main_arg7)

theorem V_arg0 (c : Dev nD) : V m c main_arg0 = m ((c.tc : Thread nD τ).loc main_arg0) :=
  V_kept m c main_arg0 (fun h => by cases h) (fun h => by cases h) (fun h => by cases h) (fun h => by cases h)
theorem V_arg1 (c : Dev nD) : V m c main_arg1 = m ((c.tc : Thread nD τ).loc main_arg1) :=
  V_kept m c main_arg1 (fun h => by cases h) (fun h => by cases h) (fun h => by cases h) (fun h => by cases h)
theorem V_arg2 (c : Dev nD) : V m c main_arg2 = m ((c.tc : Thread nD τ).loc main_arg2) :=
  V_kept m c main_arg2 (fun h => by cases h) (fun h => by cases h) (fun h => by cases h) (fun h => by cases h)
theorem V_arg3 (c : Dev nD) : V m c main_arg3 = m ((c.tc : Thread nD τ).loc main_arg3) :=
  V_kept m c main_arg3 (fun h => by cases h) (fun h => by cases h) (fun h => by cases h) (fun h => by cases h)
theorem V_arg4 (c : Dev nD) : V m c main_arg4 = m ((c.tc : Thread nD τ).loc main_arg4) :=
  V_kept m c main_arg4 (fun h => by cases h) (fun h => by cases h) (fun h => by cases h) (fun h => by cases h)
theorem V_arg5 (c : Dev nD) : V m c main_arg5 = m ((c.tc : Thread nD τ).loc main_arg5) :=
  V_kept m c main_arg5 (fun h => by cases h) (fun h => by cases h) (fun h => by cases h) (fun h => by cases h)
theorem V_arg6 (c : Dev nD) : V m c main_arg6 = m ((c.tc : Thread nD τ).loc main_arg6) :=
  V_kept m c main_arg6 (fun h => by cases h) (fun h => by cases h) (fun h => by cases h) (fun h => by cases h)
theorem V_arg7 (c : Dev nD) : V m c main_arg7 = m ((c.tc : Thread nD τ).loc main_arg7) :=
  V_kept m c main_arg7 (fun h => by cases h) (fun h => by cases h) (fun h => by cases h) (fun h => by cases h)

/-- The two results. -/
def res6 (c : Dev nD) : Buf (Elt F) ((c.tc : Thread nD τ).loc main_v4_0) := (dats m hok 0 c).arrAt 6 (cfgE m hok).N
def res7 (c : Dev nD) : Buf (Elt F) ((c.tc : Thread nD τ).loc main_v4_1) := (dats m hok 0 c).arrAt 7 (cfgE m hok).N

/-- The run: the two results as the points leave them, the arguments as launched, every counter at zero. -/
theorem run_kept : θ_run (defs (F := F)) (onTc (τ := τ) (main (F := F))) ⟨m, fun _ => 0, ρ⟩
    (fun r => (∀ c : Dev nD, r.2.mem ((c.tc : Thread nD τ).loc main_v4_0) = res6 m hok c
      ∧ r.2.mem ((c.tc : Thread nD τ).loc main_v4_1) = res7 m hok c ∧ Kept m r.2 c) ∧ r.2.sem = fun _ => 0) :=
  (θ_run (defs (F := F)) _ _).mono (fun r ⟨h, hz⟩ => ⟨fun c =>
    ⟨(h c).1 6, (h c).1 7,
     ((h c).1 0).trans (((dats m hok 0 c).arrAt_in 0 rfl _).trans ((A_eq m hok c 0).trans (V_arg0 m c))),
     ((h c).1 1).trans (((dats m hok 0 c).arrAt_in 1 rfl _).trans ((A_eq m hok c 1).trans (V_arg1 m c))),
     ((h c).2 main_arg2 (mem_restRefs_of main_arg2 rfl (fun w => by fin_cases w <;> exact fun h => by cases h))).trans (V_arg2 m c),
     ((h c).2 main_arg3 (mem_restRefs_of main_arg3 rfl (fun w => by fin_cases w <;> exact fun h => by cases h))).trans (V_arg3 m c),
     ((h c).2 main_arg4 (mem_restRefs_of main_arg4 rfl (fun w => by fin_cases w <;> exact fun h => by cases h))).trans (V_arg4 m c),
     ((h c).2 main_arg5 (mem_restRefs_of main_arg5 rfl (fun w => by fin_cases w <;> exact fun h => by cases h))).trans (V_arg5 m c),
     ((h c).2 main_arg6 (mem_restRefs_of main_arg6 rfl (fun w => by fin_cases w <;> exact fun h => by cases h))).trans (V_arg6 m c),
     ((h c).2 main_arg7 (mem_restRefs_of main_arg7 rfl (fun w => by fin_cases w <;> exact fun h => by cases h))).trans (V_arg7 m c)⟩, hz⟩)
    (run_main m hok ρ)

end Cert.Proof.Experts
-- ==== Proof.ExSame.lean ====
module

public import proofs.«01_k».proof.Defs
public import proofs.«01_k».proof.Proof.Gen.Kernel2
public import proofs.«01_k».proof.Proof.Gen.Kernel2Ideal

/-! # The experts' two printings are one program

No operation was read otherwise for the extended reals, so the printed program and the one it is read as are the
same term: the body first, then the body table, then the whole table. -/

@[expose] public section

noncomputable section

namespace Cert.Proof.Experts

open Idealize.ShloMosaic

open Cert.Kernel2Ideal Cert.Kernel2Ideal.Facts Cert.Kernel2Ideal.Facts₀ in
/-- The body table with its one function as a parameter. -/
def tableOf (f : type_of% (@Cert.Kernel2Ideal.cc0__expert_kernel Bits _ _)) : Defs nD τ sig (Elt Bits) Λ₀ := Defs.onTc fun
  | 0, (t, s) => f (grid0.coords t) (Memref.whole main_arg2) (Memref.isWhole_whole _) (Memref.whole main_arg3) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6)) (spec0_7.stage (s 7)) (hstage0_7 ((s 7).cast nbuf0_7)) (Memref.whole cc0_scratch0) (Memref.isWhole_whole _) (Memref.whole cc0_scratch1) (Memref.isWhole_whole _)
  | ⟨_ + 1, h⟩, _ => absurd h (Nat.not_lt.2 (Nat.le_add_left _ _))

theorem body_eq : (@Cert.Kernel2.cc0__expert_kernel Bits _ _) = (@Cert.Kernel2Ideal.cc0__expert_kernel Bits _ _) := rfl

theorem table_printed : (Cert.Kernel2.defs₀ (F := Bits)) = tableOf (@Cert.Kernel2.cc0__expert_kernel Bits _ _) := by
  unfold Cert.Kernel2.defs₀ tableOf
  refine congrArg Defs.onTc ?_
  funext l x
  match l with
  | ⟨0, _⟩ =>
    obtain ⟨t, s⟩ := x
    dsimp only
    rfl
  | ⟨_ + 1, h⟩ => exact absurd h (Nat.not_lt.2 (Nat.le_add_left _ _))

theorem table_ideal : (Cert.Kernel2Ideal.defs₀ (F := Bits)) = tableOf (@Cert.Kernel2Ideal.cc0__expert_kernel Bits _ _) := by
  unfold Cert.Kernel2Ideal.defs₀ tableOf
  refine congrArg Defs.onTc ?_
  funext l x
  match l with
  | ⟨0, _⟩ =>
    obtain ⟨t, s⟩ := x
    dsimp only
  | ⟨_ + 1, h⟩ => exact absurd h (Nat.not_lt.2 (Nat.le_add_left _ _))

theorem table_eq : (Cert.Kernel2.defs₀ (F := Bits)) = (Cert.Kernel2Ideal.defs₀ (F := Bits)) :=
  table_printed.trans ((congrArg tableOf body_eq).trans table_ideal.symm)

theorem main_same : (Cert.Kernel2.main (F := Bits)) = (Cert.Kernel2Ideal.main (F := Bits)) := rfl

theorem defs_same : (Cert.Kernel2.defs (F := Bits)) = (Cert.Kernel2Ideal.defs (F := Bits)) :=
  congrArg (Pipeline.defs (Cert.Kernel2Ideal.pcfgs (F := Bits))) table_eq

end Cert.Proof.Experts

end
-- ==== Proof.ExMath.lean ====
module

public import proofs.«01_k».proof.Proof.ExBody
public import Idealize.ShloMosaic.Lib.Pointwise

/-! # The experts' rows, entry by entry

One row of the layer as a plain sum, and the body's block read at one entry as that sum. -/

@[expose] public section

noncomputable section

namespace Cert.Proof.Experts

open Cert.Kernel2Ideal Cert.Kernel2Ideal.Gen
open Idealize.ShloMosaic

/-! ## One row -/

/-- A row's word `c` out of its two halves. -/
def word (a b : Fin 256 → BitVec 32) (c : ℕ) (h : c < 512) : BitVec 32 :=
  if h' : c < 256 then a ⟨c, h'⟩ else b ⟨c - 256, by omega⟩

/-- A row's entries: the words' upper halves, then their lower halves. -/
def unpacked (a b : Fin 256 → BitVec 32) (k : Fin 1024) : EReal :=
  if h : k.val < 512 then Ideal.ofBits .f32 (IntOp.andi (word a b k.val h) 4294901760#32)
  else Ideal.ofBits .f32 (IntOp.shli .vector (word a b (k.val - 512) (by omega)) 16#32)

/-- The first layer's entry `j`. -/
def hidden (x : Fin 1024 → EReal) (W : Fin 1024 → Fin 2048 → EReal) (B : Fin 2048 → EReal) (j : Fin 2048) : EReal :=
  (∑ k, x k * W k j) + B j

/-- The clipped, gated product of a pair of entries. -/
def gated (g u : EReal) : EReal :=
  (min (Ideal.ofBits .f32 1088421888#32) (max (Ideal.ofBits .f32 3235905536#32) u) + 1) * min g (Ideal.ofBits .f32 1088421888#32) *
    Ideal.logistic (Ideal.ofBits .f32 1071242019#32 * min g (Ideal.ofBits .f32 1088421888#32))

/-- The middle entry `f`. -/
def middle (x : Fin 1024 → EReal) (W : Fin 1024 → Fin 2048 → EReal) (B : Fin 2048 → EReal) (f : Fin 1024) : EReal :=
  gated (hidden x W B ⟨f.val, by omega⟩) (hidden x W B ⟨1024 + f.val, by omega⟩)

/-- The row's result at `d`. -/
def rowOut (x : Fin 1024 → EReal) (W : Fin 1024 → Fin 2048 → EReal) (B : Fin 2048 → EReal) (W' : Fin 1024 → Fin 1024 → EReal)
    (B' : Fin 1024 → EReal) (d : Fin 1024) : EReal :=
  (∑ f, middle x W B f * W' f d) + B' d

/-! ## The body's terms at one entry -/

theorem pay22_at (x3 x4 : Vec Ideal S512x256 .i32) (r : Fin 512) (k : Fin 1024) :
    k0_pay22 (F := Ideal) x3 x4 (ix2 r k) = unpacked (fun c => x3 (ix2 r c)) (fun c => x4 (ix2 r c)) k := by
  pointwise [k0_pay22]
  rfl

theorem pay23_at (x3 x4 : Vec Ideal S512x256 .i32) (w : Vec Ideal S1024x512 .bf16) (b : Vec Ideal S1x1x512 .f32) (r l : Fin 512) :
    k0_pay23 (F := Ideal) x3 x4 w b (ix2 r l)
      = (∑ k, unpacked (fun c => x3 (ix2 r c)) (fun c => x4 (ix2 r c)) k * w (ix2 k l)) + b (ix3 0 0 l) := by
  pointwise [k0_pay23]
  simp only [pay22_at]

theorem pay24_at (x3 x4 : Vec Ideal S512x256 .i32) (w : Vec Ideal S1024x512 .bf16) (b : Vec Ideal S1x1x512 .f32) (r l : Fin 512) :
    k0_pay24 (F := Ideal) x3 x4 w b (ix2 r l)
      = (∑ k, unpacked (fun c => x3 (ix2 r c)) (fun c => x4 (ix2 r c)) k * w (ix2 k l)) + b (ix3 0 0 l) := by
  pointwise [k0_pay24]
  simp only [pay22_at]

theorem pay25_at (x3 x4 : Vec Ideal S512x256 .i32) (w : Vec Ideal S1024x512 .bf16) (b : Vec Ideal S1x1x512 .f32) (r l : Fin 512) :
    k0_pay25 (F := Ideal) x3 x4 w b (ix2 r l)
      = (∑ k, unpacked (fun c => x3 (ix2 r c)) (fun c => x4 (ix2 r c)) k * w (ix2 k l)) + b (ix3 0 0 l) := by
  pointwise [k0_pay25]
  simp only [pay22_at]

theorem pay26_at (x3 x4 : Vec Ideal S512x256 .i32) (w : Vec Ideal S1024x512 .bf16) (r l : Fin 512) :
    k0_pay26 (F := Ideal) x3 x4 w (ix2 r l)
      = ∑ k, unpacked (fun c => x3 (ix2 r c)) (fun c => x4 (ix2 r c)) k * w (ix2 k l) := by
  pointwise [k0_pay26]
  simp only [pay22_at]

theorem pay27_at (g g' u v : FVec Ideal S512x512 .f32) (b : Vec Ideal S1x1x512 .f32) (w w' : Vec Ideal S512x1024 .bf16)
    (r : Fin 512) (d : Fin 1024) :
    k0_pay27 (F := Ideal) g g' u v b w w' (ix2 r d)
      = (∑ x, gated (g (ix2 r x)) (u (ix2 r x)) * w (ix2 x d))
        + ∑ x, gated (g' (ix2 r x)) (v (ix2 r x) + b (ix3 0 0 x)) * w' (ix2 x d) := by
  pointwise [k0_pay27]
  rfl

/-- The second product's sum at one entry. -/
theorem acc_at (x3 x4 : Vec Ideal S512x256 .i32) (w1 : Vec Ideal S1x1024x2048 .f32) (b1 : Vec Ideal S1x1x2048 .f32)
    (w2 : Vec Ideal S1x1024x1024 .f32) (r : Fin 512) (d : Fin 1024) :
    acc x3 x4 (cast1 w1) b1 (cast2 w2) (ix2 r d)
      = ∑ f, middle (unpacked (fun c => x3 (ix2 r c)) (fun c => x4 (ix2 r c))) (fun k j => w1 (ix3 0 k j)) (fun j => b1 (ix3 0 0 j)) f
          * w2 (ix3 0 f d) := by
  have off1 : ∀ (o : ℕ) (h) (k : Fin 1024) (l : Fin 512) (hl : o + l.val < 2048),
      (cast1 w1 : Vec Ideal S1024x2048 .bf16) ((Rect.unit (s := S1024x2048) ![0, o] S1024x512.size h).toLoadRect.idx (ix2 k l))
        = w1 (ix3 0 k ⟨o + l.val, hl⟩) := fun o h k l hl => by
    show w1 _ = _
    refine congrArg w1 (funext fun a => Fin.ext ?_)
    match a with
    | ⟨0, _⟩ => rfl
    | ⟨1, _⟩ => show 0 + 1 * k.val = k.val; omega
    | ⟨2, _⟩ => show o + 1 * l.val = o + l.val; omega
  have off2 : ∀ (o : ℕ) (h) (f : Fin 512) (hf : o + f.val < 1024),
      (cast2 w2 : Vec Ideal S1024x1024 .bf16) ((Rect.unit (s := S1024x1024) ![o, 0] S512x1024.size h).toLoadRect.idx (ix2 f d))
        = w2 (ix3 0 ⟨o + f.val, hf⟩ d) := fun o h f hf => by
    show w2 _ = _
    refine congrArg w2 (funext fun a => Fin.ext ?_)
    match a with
    | ⟨0, _⟩ => rfl
    | ⟨1, _⟩ => show o + 1 * f.val = o + f.val; omega
    | ⟨2, _⟩ => show 0 + 1 * d.val = d.val; omega
  have offb : ∀ (o : ℕ) (h) (l : Fin 512) (hl : o + l.val < 2048),
      b1 ((Rect.unit (s := S1x1x2048) ![0, 0, o] S1x1x512.size h).toLoadRect.idx (ix3 0 0 l))
        = b1 (ix3 0 0 ⟨o + l.val, hl⟩) := fun o h l hl => by
    refine congrArg b1 (funext fun a => Fin.ext ?_)
    match a with
    | ⟨0, _⟩ => rfl
    | ⟨1, _⟩ => rfl
    | ⟨2, _⟩ => show o + 1 * l.val = o + l.val; omega
  unfold acc
  rw [pay27_at]
  refine Eq.trans ?_ (Fin.sum_univ_add (a := 512) (b := 512) (fun f : Fin (512 + 512) =>
    middle (unpacked (fun c => x3 (ix2 r c)) (fun c => x4 (ix2 r c))) (fun k j => w1 (ix3 0 k j)) (fun j => b1 (ix3 0 0 j)) f
          * w2 (ix3 0 f d))).symm
  refine congrArg₂ (· + ·) (Finset.sum_congr rfl fun f _ => ?_) (Finset.sum_congr rfl fun f _ => ?_)
  · rw [pay23_at, pay25_at, off2 0 _ f (by omega)]
    simp only [off1 0 _ _ f (by omega), off1 1024 _ _ f (by omega), offb 0 _ f (by omega), offb 1024 _ f (by omega)]
    unfold middle hidden
    congr 1
    · congr 1 <;> congr 1 <;> simp [Fin.castAdd]
    · exact congrArg (fun x => w2 (ix3 0 x d)) (Fin.ext (Nat.zero_add _))
  · rw [pay24_at, pay26_at, off2 512 _ f (by omega)]
    simp only [off1 512 _ _ f (by omega), off1 1536 _ _ f (by omega), offb 512 _ f (by omega), offb 1536 _ f (by omega)]
    unfold middle hidden
    have e : (⟨1024 + (Fin.natAdd 512 f).val, by simp [Fin.natAdd]; omega⟩ : Fin 2048) = ⟨1536 + f.val, by omega⟩ :=
      Fin.ext (by show 1024 + (512 + f.val) = 1536 + f.val; omega)
    rw [e]
    rfl

/-- Column `q` of the first result is the row's column `(q / 256) * 512 + q % 256`. -/
def colA (q : Fin 512) : Fin 1024 := ⟨(q.val / 256) * 512 + q.val % 256, by omega⟩

/-- Column `q` of the second result is the row's column `(q / 256) * 512 + 256 + q % 256`. -/
def colB (q : Fin 512) : Fin 1024 := ⟨(q.val / 256) * 512 + 256 + q.val % 256, by omega⟩

theorem pay3_at (a : FVec Ideal S512x1024 .f32) (b : Vec Ideal S1x1x1024 .f32) (r q : Fin 512) :
    k0_pay3 (F := Ideal) a (k0_pay28 b) (ix2 r q) = a (ix2 r (colA q)) + b (ix3 0 0 (colA q)) := by
  have hb : ∀ (d : Fin 1024), k0_pay28 (F := Ideal) b (ix2 r d) = b (ix3 0 0 d) := fun d => by
    pointwise [k0_pay28]
  pointwise [k0_pay3, k0_pay2]
  split
  · rename_i h
    have e : colA q = ⟨q.val, by omega⟩ := Fin.ext (by show (q.val / 256) * 512 + q.val % 256 = q.val; omega)
    rw [e, hb]
  · rename_i h
    have e : colA q = ⟨512 + (q.val - 256), by omega⟩ := Fin.ext (by show (q.val / 256) * 512 + q.val % 256 = 512 + (q.val - 256); omega)
    rw [e, hb]

theorem pay4_at (a : FVec Ideal S512x1024 .f32) (b : Vec Ideal S1x1x1024 .f32) (r q : Fin 512) :
    k0_pay4 (F := Ideal) a (k0_pay28 b) (ix2 r q) = a (ix2 r (colB q)) + b (ix3 0 0 (colB q)) := by
  have hb : ∀ (d : Fin 1024), k0_pay28 (F := Ideal) b (ix2 r d) = b (ix3 0 0 d) := fun d => by
    pointwise [k0_pay28]
  pointwise [k0_pay4, k0_pay2]
  split
  · rename_i h
    have e : colB q = ⟨256 + q.val, by omega⟩ := Fin.ext (by show (q.val / 256) * 512 + 256 + q.val % 256 = 256 + q.val; omega)
    rw [e, hb]
  · rename_i h
    have e : colB q = ⟨768 + (q.val - 256), by omega⟩ := Fin.ext (by show (q.val / 256) * 512 + 256 + q.val % 256 = 768 + (q.val - 256); omega)
    rw [e, hb]

theorem pay5_at (r q : Fin 512) : k0_pay5 (F := Ideal) (ix2 r q) = 0 := by
  pointwise [k0_pay5]

theorem pay6_at (r q : Fin 512) : k0_pay6 (F := Ideal) (ix2 r q) = 0 := by
  pointwise [k0_pay6]

end Cert.Proof.Experts
-- ==== Proof.ExRef.lean ====
module

public import proofs.«01_k».proof.Proof.Gen.Reference2Ideal
public import proofs.«01_k».proof.Proof.Gen.Reference2Ideal.Run
public import proofs.«01_k».proof.Proof.ExMath
public import Idealize.ShloMosaic.Lib.Pointwise
public import Idealize.ShloMosaic.Lib.StackMember
public import Idealize.ShloMosaic.Lib.Routing.Ops

/-! # The experts' reference, entry by entry

The reference's results in stages (the rows, the gathered matrices and biases, the two layers, the choice of the blocks
in use, the two column halves), and each stage read at one entry. -/

@[expose] public section

noncomputable section

namespace Cert.Proof.Experts.Ref

open Cert.Reference2Ideal Cert.Reference2Ideal.Gen
open Idealize.ShloMosaic

/-! ## The stages -/

/-- The rows, unpacked, in their blocks. -/
def rows (a0 a1 : IVec S155648x256 32) : FVec Ideal S304x512x1024 .f32 :=
  shapeCast S304x512x1024 (concatenate S155648x1024 1 [⟨S155648x512, (bitcastToFloat (F := Ideal) .f32 (andi (concatenate S155648x512 1 [⟨S155648x256, a0⟩, ⟨S155648x256, a1⟩] concatenates_S155648x256_S155648x256_S155648x512_d1) (broadcastInDim S155648x512 ![] bcast_S_S155648x512 (constantI S_ 32 4294901760#32))))⟩, ⟨S155648x512, (bitcastToFloat (F := Ideal) .f32 (Host.shli (concatenate S155648x512 1 [⟨S155648x256, a0⟩, ⟨S155648x256, a1⟩] concatenates_S155648x256_S155648x256_S155648x512_d1) (broadcastInDim S155648x512 ![] bcast_S_S155648x512 (constantI S_ 32 16#32))))⟩] concatenates_S155648x512_S155648x512_S155648x1024_d1) shapeCasts_S155648x1024_S304x512x1024

/-- The blocks' experts, as the reference's gathers take them. -/
def picks (a2 : IVec S304 32) : IVec S304x1 32 := (broadcastInDim S304x1 ![0] bcast_S304_S304x1_0 (select (cmpi .slt a2 (broadcastInDim S304 ![] bcast_S_S304 (constantI S_ 32 0#32))) (addi a2 (broadcastInDim S304 ![] bcast_S_S304 (constantI S_ 32 32#32))) a2))

def mat1 (a4 : FVec Ideal S4x32x1024x2048 .f32) (d : IVec S304x1 32) : FVec Ideal S304x1024x2048 .f32 := (Host.gather gather_S32x1024x2048_S304x1_S304x1024x2048_12_0_n_n_0_1_110242048 (shapeCast _ (extractStridedSlice S1x32x1024x2048 ![1, 0, 0, 0] a4 slices_S4x32x1024x2048_S1x32x1024x2048_1_0_0_0) shapeCasts_S1x32x1024x2048_S32x1024x2048) d)

def bias1 (a5 : FVec Ideal S4x32x2048 .f32) (d : IVec S304x1 32) : FVec Ideal S304x2048 .f32 := (Host.gather gather_S32x2048_S304x1_S304x2048_1_0_n_n_0_1_12048 (shapeCast _ (extractStridedSlice S1x32x2048 ![1, 0, 0] a5 slices_S4x32x2048_S1x32x2048_1_0_0) shapeCasts_S1x32x2048_S32x2048) d)

def mat2 (a6 : FVec Ideal S4x32x1024x1024 .f32) (d : IVec S304x1 32) : FVec Ideal S304x1024x1024 .f32 := (Host.gather gather_S32x1024x1024_S304x1_S304x1024x1024_12_0_n_n_0_1_110241024 (shapeCast _ (extractStridedSlice S1x32x1024x1024 ![1, 0, 0, 0] a6 slices_S4x32x1024x1024_S1x32x1024x1024_1_0_0_0) shapeCasts_S1x32x1024x1024_S32x1024x1024) d)

def bias2 (a7 : FVec Ideal S4x32x1024 .f32) (d : IVec S304x1 32) : FVec Ideal S304x1024 .f32 := (Host.gather gather_S32x1024_S304x1_S304x1024_1_0_n_n_0_1_11024 (shapeCast _ (extractStridedSlice S1x32x1024 ![1, 0, 0] a7 slices_S4x32x1024_S1x32x1024_1_0_0) shapeCasts_S1x32x1024_S32x1024) d)

/-- The first layer. -/
def layer1 (X : FVec Ideal S304x512x1024 .f32) (G : FVec Ideal S304x1024x2048 .f32) (B : FVec Ideal S304x2048 .f32) :
    FVec Ideal S304x512x2048 .f32 := (addf (Host.dotGeneral dot_S304x512x1024_S304x1024x2048_S304x512x2048_2_1_1_2_0_0 none X G) (broadcastInDim S304x512x2048 ![0, 1, 2] bcast_S304x1x2048_S304x512x2048_0_1_2 (broadcastInDim S304x1x2048 ![0, 2] bcast_S304x2048_S304x1x2048_0_2 B)))

/-- The clipped, gated product. -/
def gate (H : FVec Ideal S304x512x2048 .f32) : FVec Ideal S304x512x1024 .f32 :=
  (mulf (mulf (addf (minimumf (broadcastInDim S304x512x1024 ![] bcast_S_S304x512x1024 (id (constant S_ .f32 0x40E00000#32))) (maximumf (broadcastInDim S304x512x1024 ![] bcast_S_S304x512x1024 (id (constant S_ .f32 0xC0E00000#32))) (extractStridedSlice S304x512x1024 ![0, 0, 1024] H slices_S304x512x2048_S304x512x1024_0_0_1024))) (broadcastInDim S304x512x1024 ![] bcast_S_S304x512x1024 (constant S_ .f32 0x3F800000#32))) (minimumf (extractStridedSlice S304x512x1024 ![0, 0, 0] H slices_S304x512x2048_S304x512x1024_0_0_0) (broadcastInDim S304x512x1024 ![] bcast_S_S304x512x1024 (constant S_ .f32 0x40E00000#32)))) (Host.divf (broadcastInDim S304x512x1024 ![] bcast_S_S304x512x1024 (constant S_ .f32 0x3F800000#32)) (addf (broadcastInDim S304x512x1024 ![] bcast_S_S304x512x1024 (constant S_ .f32 0x3F800000#32)) (Host.exp (Host.negf (mulf (broadcastInDim S304x512x1024 ![] bcast_S_S304x512x1024 (constant S_ .f32 0x3FD9DB23#32)) (minimumf (extractStridedSlice S304x512x1024 ![0, 0, 0] H slices_S304x512x2048_S304x512x1024_0_0_0) (broadcastInDim S304x512x1024 ![] bcast_S_S304x512x1024 (constant S_ .f32 0x40E00000#32)))))))))

/-- The second layer. -/
def layer2 (M : FVec Ideal S304x512x1024 .f32) (G : FVec Ideal S304x1024x1024 .f32) (B : FVec Ideal S304x1024 .f32) :
    FVec Ideal S304x512x1024 .f32 := (addf (Host.dotGeneral dot_S304x512x1024_S304x1024x1024_S304x512x1024_2_1_1_2_0_0 none M G) (broadcastInDim S304x512x1024 ![0, 1, 2] bcast_S304x1x1024_S304x512x1024_0_1_2 (broadcastInDim S304x1x1024 ![0, 2] bcast_S304x1024_S304x1x1024_0_2 B)))

/-- The blocks in use; zero elsewhere. -/
def inUse (a3 : IVec S1 32) (Y : FVec Ideal S304x512x1024 .f32) : FVec Ideal S304x512x1024 .f32 :=
  (select (broadcastInDim S304x512x1024 ![0, 1, 2] bcast_S304x1x1_S304x512x1024_0_1_2 (broadcastInDim S304x1x1 ![0] bcast_S304_S304x1x1_0 (cmpi .slt (iotaInDim S304 32 0) (broadcastInDim S304 ![] bcast_S_S304 (shapeCast _ a3 shapeCasts_S1_S_))))) Y (broadcastInDim S304x512x1024 ![] bcast_S_S304x512x1024 (id (constant S_ .f32 0x00000000#32))))

def halfA (Z : FVec Ideal S304x512x1024 .f32) : FVec Ideal S155648x512 .bf16 :=
  shapeCast S155648x512 (shapeCast S155648x2x256 (extractStridedSlice S155648x2x1x256 ![0, 0, 0, 0] (shapeCast S155648x2x2x256 (truncf .bf16 (shapeCast S155648x1024 Z shapeCasts_S304x512x1024_S155648x1024) bitsLt_bf16_f32) shapeCasts_S155648x1024_S155648x2x2x256) slices_S155648x2x2x256_S155648x2x1x256_0_0_0_0) shapeCasts_S155648x2x1x256_S155648x2x256) shapeCasts_S155648x2x256_S155648x512

def halfB (Z : FVec Ideal S304x512x1024 .f32) : FVec Ideal S155648x512 .bf16 :=
  shapeCast S155648x512 (shapeCast S155648x2x256 (extractStridedSlice S155648x2x1x256 ![0, 0, 1, 0] (shapeCast S155648x2x2x256 (truncf .bf16 (shapeCast S155648x1024 Z shapeCasts_S304x512x1024_S155648x1024) bitsLt_bf16_f32) shapeCasts_S155648x1024_S155648x2x2x256) slices_S155648x2x2x256_S155648x2x1x256_0_0_1_0) shapeCasts_S155648x2x1x256_S155648x2x256) shapeCasts_S155648x2x256_S155648x512

/-- All stages but the last. -/
def whole (a0 a1 : IVec S155648x256 32) (a2 : IVec S304 32) (a3 : IVec S1 32) (a4 : FVec Ideal S4x32x1024x2048 .f32)
    (a5 : FVec Ideal S4x32x2048 .f32) (a6 : FVec Ideal S4x32x1024x1024 .f32) (a7 : FVec Ideal S4x32x1024 .f32) : FVec Ideal S304x512x1024 .f32 :=
  inUse a3 (layer2 (gate (layer1 (rows a0 a1) (mat1 a4 (picks a2)) (bias1 a5 (picks a2)))) (mat2 a6 (picks a2)) (bias2 a7 (picks a2)))

/-! ## Each stage at one entry -/

/-- A gather of whole slabs: the dimension numbers of `table[idx]` over a table of matrices. -/
abbrev slabDims (N A B n : Nat) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Where the picks hold at `b` a member's number `e`, slab `b` of the result is member `e`. -/
theorem gather_slab {α : Type} {N A B n : Nat}
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (b : Fin n) (r : Fin A) (k : Fin B) (e : Fin N)
    (he : idx (ix2 b 0) = BitVec.ofNat 32 e.val) (hN : N < 2 ^ 31) :
    Host.gather (slabDims N A B n wf) x idx (ix3 b r k) = x (ix3 e r k) := by
  have hb : ∀ a : Fin 3, a ∉ (slabDims N A B n wf).operandBatchingDims := fun a => List.not_mem_nil
  have he' := e.isLt
  unfold Host.gather
  refine congrArg x (funext fun a => Fin.ext ?_)
  show (slabDims N A B n wf).start (ix3 b r k) idx a + (slabDims N A B n wf).batchCoord (ix3 b r k) a
    + (slabDims N A B n wf).offCoord (ix3 b r k) a = _
  rw [GatherDims.batchCoord_eq_zero _ _ _ (hb a), Nat.add_zero]
  have h3 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (slabDims N A B n wf).startIndexMap from List.mem_singleton.mpr rfl)]
    have hsi : (slabDims N A B n wf).siIdx (ix3 b r k) ⟨List.idxOf (0 : Fin 3) (slabDims N A B n wf).startIndexMap,
        List.idxOf_lt_length_iff.2 (List.mem_singleton.mpr rfl)⟩ = ix2 b 0 := by
      funext c; refine Fin.ext ?_
      match c with
      | ⟨0, _⟩ => rfl
      | ⟨1, _⟩ => rfl
    rw [hsi, he, StableHlo.Predicate.toInt_ofNat_small _ (by omega)]
    show min ((e.val : Int)).toNat (N - 1) = e.val
    omega
  · unfold GatherDims.start GatherDims.offCoord
    rw [dif_neg (show (1 : Fin 3) ∉ (slabDims N A B n wf).startIndexMap from fun h => by simp at h),
      dif_pos ((GatherDims.mem_sKept _ _).mpr ⟨fun h => by simp at h, hb _⟩), Nat.zero_add]
    rfl
  · unfold GatherDims.start GatherDims.offCoord
    rw [dif_neg (show (2 : Fin 3) ∉ (slabDims N A B n wf).startIndexMap from fun h => by simp at h),
      dif_pos ((GatherDims.mem_sKept _ _).mpr ⟨fun h => by simp at h, hb _⟩), Nat.zero_add]
    rfl

/-- A pick in range is the block's word. -/
theorem picks_at (a2 : IVec S304 32) (b : Fin 304) (h : (a2 (ix1 b)).toNat < 32) : picks a2 (ix2 b 0) = a2 (ix1 b) := by
  pointwise [picks]
  have hlt : ¬ ((a2 (ix1 b)).slt 0#32 = true) := by
    simp only [BitVec.slt_eq_decide, decide_eq_true_eq, BitVec.toInt_eq_toNat_cond, BitVec.toNat_ofNat, Nat.reducePow, Nat.reduceMod]
    omega
  have e : IntOp.cmpi CmpIPredicate.slt (a2 (ix1 b)) 0#32 = 0#1 := by
    show BitVec.ofBool ((a2 (ix1 b)).slt 0#32) = 0#1
    rw [Bool.eq_false_iff.2 hlt]; rfl
  rw [e]
  rfl

theorem rows_at (a0 a1 : IVec S155648x256 32) (b : Fin 304) (r : Fin 512) (k : Fin 1024) :
    rows a0 a1 (ix3 b r k)
      = unpacked (fun c => a0 (ix2 ⟨b.val * 512 + r.val, by omega⟩ c)) (fun c => a1 (ix2 ⟨b.val * 512 + r.val, by omega⟩ c)) k := by
  pointwise [rows]
  rfl

theorem layer1_at (X : FVec Ideal S304x512x1024 .f32) (G : FVec Ideal S304x1024x2048 .f32) (B : FVec Ideal S304x2048 .f32)
    (b : Fin 304) (r : Fin 512) (j : Fin 2048) :
    layer1 X G B (ix3 b r j) = hidden (fun k => X (ix3 b r k)) (fun k l => G (ix3 b k l)) (fun l => B (ix2 b l)) j := by
  unfold layer1 hidden
  have e := StackMember.dotGeneral_stack_apply dot_S304x512x1024_S304x1024x2048_S304x512x2048_2_1_1_2_0_0_wf none X G b r j
  have f : broadcastInDim S304x512x2048 ![0, 1, 2] bcast_S304x1x2048_S304x512x2048_0_1_2
      (broadcastInDim S304x1x2048 ![0, 2] bcast_S304x2048_S304x1x2048_0_2 B) (ix3 b r j) = B (ix2 b j) := by
    pointwise
  exact congrArg₂ (· + ·) e f

theorem layer2_at (M : FVec Ideal S304x512x1024 .f32) (G : FVec Ideal S304x1024x1024 .f32) (B : FVec Ideal S304x1024 .f32)
    (b : Fin 304) (r : Fin 512) (d : Fin 1024) :
    layer2 M G B (ix3 b r d) = (∑ f, M (ix3 b r f) * G (ix3 b f d)) + B (ix2 b d) := by
  unfold layer2
  have e := StackMember.dotGeneral_stack_apply dot_S304x512x1024_S304x1024x1024_S304x512x1024_2_1_1_2_0_0_wf none M G b r d
  have f : broadcastInDim S304x512x1024 ![0, 1, 2] bcast_S304x1x1024_S304x512x1024_0_1_2
      (broadcastInDim S304x1x1024 ![0, 2] bcast_S304x1024_S304x1x1024_0_2 B) (ix3 b r d) = B (ix2 b d) := by
    pointwise
  exact congrArg₂ (· + ·) e f

theorem gate_at (H : FVec Ideal S304x512x2048 .f32) (b : Fin 304) (r : Fin 512) (f : Fin 1024) :
    gate H (ix3 b r f) = gated (H (ix3 b r ⟨f.val, by omega⟩)) (H (ix3 b r ⟨1024 + f.val, by omega⟩)) := by
  pointwise [gate]
  rfl

theorem inUse_at (a3 : IVec S1 32) (Y : FVec Ideal S304x512x1024 .f32) (b : Fin 304) (r : Fin 512) (d : Fin 1024) :
    inUse a3 Y (ix3 b r d) = if (BitVec.ofNat 32 b.val).slt (a3 (ix1 0)) = true then Y (ix3 b r d) else 0 := by
  pointwise [inUse]
  show (if BitVec.ofBool ((BitVec.ofNat 32 b.val).slt (a3 (ix1 0))) = 1#1 then Y (ix3 b r d) else Ideal.ofBits .f32 0#32) = _
  rw [Ideal.ofBits_zero_f32]
  cases (BitVec.ofNat 32 b.val).slt (a3 (ix1 0)) <;> rfl

theorem halfA_at (Z : FVec Ideal S304x512x1024 .f32) (R : Fin 155648) (q : Fin 512) :
    halfA Z (ix2 R q) = Z (ix3 ⟨R.val / 512, by omega⟩ ⟨R.val % 512, by omega⟩ (colA q)) := by
  pointwise [halfA]
  rfl

theorem halfB_at (Z : FVec Ideal S304x512x1024 .f32) (R : Fin 155648) (q : Fin 512) :
    halfB Z (ix2 R q) = Z (ix3 ⟨R.val / 512, by omega⟩ ⟨R.val % 512, by omega⟩ (colB q)) := by
  pointwise [halfB]
  rfl

section gathers
variable (a2 : IVec S304 32) (b : Fin 304) (e : Fin 32) (h : a2 (ix1 b) = BitVec.ofNat 32 e.val)
include h

theorem pick_of : picks a2 (ix2 b 0) = BitVec.ofNat 32 e.val :=
  (picks_at a2 b (by rw [h, BitVec.toNat_ofNat, Nat.mod_eq_of_lt (by omega)]; exact e.isLt)).trans h

theorem mat1_at (a4 : FVec Ideal S4x32x1024x2048 .f32) (k : Fin 1024) (j : Fin 2048) :
    mat1 a4 (picks a2) (ix3 b k j) = a4 (ix4 1 e k j) := by
  refine (gather_slab gather_S32x1024x2048_S304x1_S304x1024x2048_12_0_n_n_0_1_110242048_wf _ _ b k j e (pick_of a2 b e h) (by decide)).trans ?_
  pointwise

theorem mat2_at (a6 : FVec Ideal S4x32x1024x1024 .f32) (k : Fin 1024) (j : Fin 1024) :
    mat2 a6 (picks a2) (ix3 b k j) = a6 (ix4 1 e k j) := by
  refine (gather_slab gather_S32x1024x1024_S304x1_S304x1024x1024_12_0_n_n_0_1_110241024_wf _ _ b k j e (pick_of a2 b e h) (by decide)).trans ?_
  pointwise

theorem bias1_at (a5 : FVec Ideal S4x32x2048 .f32) (j : Fin 2048) :
    bias1 a5 (picks a2) (ix2 b j) = a5 (ix3 1 e j) := by
  refine (Routing.gather_row gather_S32x2048_S304x1_S304x2048_1_0_n_n_0_1_12048 rfl rfl rfl rfl rfl _ _ b j e (pick_of a2 b e h) (by decide)).trans ?_
  pointwise

theorem bias2_at (a7 : FVec Ideal S4x32x1024 .f32) (j : Fin 1024) :
    bias2 a7 (picks a2) (ix2 b j) = a7 (ix3 1 e j) := by
  refine (Routing.gather_row gather_S32x1024_S304x1_S304x1024_1_0_n_n_0_1_11024 rfl rfl rfl rfl rfl _ _ b j e (pick_of a2 b e h) (by decide)).trans ?_
  pointwise

/-- All stages but the last, at one entry. -/
theorem whole_at (a0 a1 : IVec S155648x256 32) (a3 : IVec S1 32) (a4 : FVec Ideal S4x32x1024x2048 .f32)
    (a5 : FVec Ideal S4x32x2048 .f32) (a6 : FVec Ideal S4x32x1024x1024 .f32) (a7 : FVec Ideal S4x32x1024 .f32)
    (r : Fin 512) (d : Fin 1024) :
    whole a0 a1 a2 a3 a4 a5 a6 a7 (ix3 b r d)
      = if (BitVec.ofNat 32 b.val).slt (a3 (ix1 0)) = true then
          rowOut (unpacked (fun c => a0 (ix2 ⟨b.val * 512 + r.val, by omega⟩ c)) (fun c => a1 (ix2 ⟨b.val * 512 + r.val, by omega⟩ c)))
            (fun k j => a4 (ix4 1 e k j)) (fun j => a5 (ix3 1 e j)) (fun k j => a6 (ix4 1 e k j)) (fun j => a7 (ix3 1 e j)) d
        else 0 := by
  unfold whole
  rw [inUse_at, layer2_at]
  refine congrArg (fun x => if (BitVec.ofNat 32 b.val).slt (a3 (ix1 0)) = true then x else 0) ?_
  unfold rowOut middle
  refine congrArg₂ (· + ·) (Finset.sum_congr rfl fun f _ => congrArg₂ (· * ·) ?_ (mat2_at a2 b e h a6 f d)) (bias2_at a2 b e h a7 d)
  rw [gate_at, layer1_at, layer1_at]
  simp only [rows_at, mat1_at a2 b e h, bias1_at a2 b e h]

end gathers

/-! ## The results are the stages -/

theorem res0_eq (m : (ℓ : Loc nD τ sig) → Buf (Elt Ideal) ℓ) (c : Dev nD) :
    Value.res_main_v81 (F := Ideal) m c = halfA (whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))) := rfl

theorem res1_eq (m : (ℓ : Loc nD τ sig) → Buf (Elt Ideal) ℓ) (c : Dev nD) :
    Value.res_main_v84 (F := Ideal) m c = halfB (whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))) := rfl

end Cert.Proof.Experts.Ref

end
-- ==== Proof.ExValue.lean ====
module

public import proofs.«01_k».proof.Proof.ExEnd
public import proofs.«01_k».proof.Proof.ExMath
public import proofs.«01_k».proof.Proof.ExRef
public import Idealize.ShloMosaic.Lib.Pipeline.ValueKit
public import Idealize.ShloMosaic.Lib.Pointwise

/-! # The experts' results, entry by entry

The blocks a point holds, read at one entry of the arguments; what a point leaves, at one entry; the two results. -/

@[expose] public section

noncomputable section

namespace Cert.Proof.Experts

open Cert.Kernel2Ideal Cert.Kernel2Ideal.Gen
open Idealize.ShloMosaic Idealize.ShloMosaic.TcCoe
open Idealize.ShloMosaic.Pipeline
open Idealize.SL Idealize.SL.Sem

section

variable {F : FTy → Type} [FloatOps F]
variable {cfg : Cfg sig Λ₀} {c : Dev nD} (dat : Dat τ (Elt F) Unit ℕ (UR sig nD τ) ℕ cfg c)

/-- A held block, at an entry: the array under the block. -/
theorem held_at (w : Fin cfg.W) (hw : (cfg.win w).isOut = false) (hclip : ∀ (i : cfg.grid.Coords) a, (cfg.win w).clip i a = none)
    (n : ℕ) (h : n < cfg.N) (y : ((cfg.win w).xblock (cfg.grid.coords ⟨n, h⟩)).Idx) :
    heldIn cfg dat.A w n h ((cfg.win w).xinj _ y) = ((cfg.win w).blk ⟨n, h⟩).view.read (Elt F) (dat.A w) y := by
  rw [heldIn_fetched dat w hw hclip n h]
  exact congrFun ((cfg.win w).cut_fill _ _ _) y

end

variable (m : (ℓ : Loc nD τ sig) → Buf (Elt Ideal) ℓ) (hok : PreOK m)

theorem word_toNat (n : ℕ) (h : n < 304) : (BitVec.ofNat 32 n).toNat = n := by
  rw [BitVec.toNat_ofNat]; omega

theorem hw0_at (c : Dev nD) (t : Fin (cfgE m hok).N) (ht : t.val < 304) (r : Fin 512) (k : Fin 256) :
    hw0 m hok c t (ix2 r k) = (m ((c.tc : Thread nD τ).loc main_arg0) : IVec S155648x256 32) (ix2 ⟨t.val * 512 + r.val, by omega⟩ k) := by
  refine (held_at (dats m hok 0 c) 0 rfl (fun _ _ => rfl) t.val t.isLt (ix2 r k)).trans ?_
  refine (congrFun ((A_eq m hok c 0).trans (V_arg0 m c)) ((((cfgE m hok).win 0).rect t).emb (ix2 r k))).trans ?_
  refine congrArg (m ((c.tc : Thread nD τ).loc main_arg0)) (funext fun a => Fin.ext ?_)
  refine (Window.rect_emb_val ((cfgE m hok).win 0) t (ix2 r k) a).trans ?_
  have hc := coords_val m hok t
  match a with
  | ⟨0, _⟩ =>
    show (BitVec.ofNat 32 (grid0.coords t 0).val).toNat * 512 + r.val = t.val * 512 + r.val
    rw [hc, word_toNat _ ht]
  | ⟨1, _⟩ =>
    show 0 * 256 + k.val = k.val
    omega

theorem hw1_at (c : Dev nD) (t : Fin (cfgE m hok).N) (ht : t.val < 304) (r : Fin 512) (k : Fin 256) :
    hw1 m hok c t (ix2 r k) = (m ((c.tc : Thread nD τ).loc main_arg1) : IVec S155648x256 32) (ix2 ⟨t.val * 512 + r.val, by omega⟩ k) := by
  refine (held_at (dats m hok 0 c) 1 rfl (fun _ _ => rfl) t.val t.isLt (ix2 r k)).trans ?_
  refine (congrFun ((A_eq m hok c 1).trans (V_arg1 m c)) ((((cfgE m hok).win 1).rect t).emb (ix2 r k))).trans ?_
  refine congrArg (m ((c.tc : Thread nD τ).loc main_arg1)) (funext fun a => Fin.ext ?_)
  refine (Window.rect_emb_val ((cfgE m hok).win 1) t (ix2 r k) a).trans ?_
  have hc := coords_val m hok t
  match a with
  | ⟨0, _⟩ =>
    show (BitVec.ofNat 32 (grid0.coords t 0).val).toNat * 512 + r.val = t.val * 512 + r.val
    rw [hc, word_toNat _ ht]
  | ⟨1, _⟩ =>
    show 0 * 256 + k.val = k.val
    omega

/-! ## The arrays the reshapes write -/

theorem split_div (x : ℕ) (hx : x < 32) : (32 + x) / 32 = 1 ∧ (32 + x) % 32 = x := by omega

theorem v0_cast {α : Type} (x : S4x32x1024x2048.Idx → α) (n : Fin 128) (e : Fin 32) (hn : n.val = 32 + e.val) (k : Fin 1024) (j : Fin 2048) :
    shapeCast S128x1024x2048 x shapeCasts_S4x32x1024x2048_S128x1024x2048 (ix3 n k j) = x (ix4 1 e k j) := by
  have h1 : n.val / 32 = 1 := by omega
  have h2 : n.val % 32 = e.val := by omega
  have e1 : ∀ p, (⟨n.val / 32, p⟩ : Fin 4) = 1 := fun _ => Fin.ext h1
  have e2 : ∀ p, (⟨n.val % 32, p⟩ : Fin 32) = e := fun _ => Fin.ext h2
  pointwise
  rw [e1, e2]

theorem V_v0 (c : Dev nD) : V m c main_v0 = shapeCast S128x1024x2048 (m ((c.tc : Thread nD τ).loc main_arg4) : S4x32x1024x2048.Idx → Elt Ideal .f32) shapeCasts_S4x32x1024x2048_S128x1024x2048 := by
  unfold V
  after_results_simp
  rfl

theorem v1_cast {α : Type} (x : S4x32x1024x1024.Idx → α) (n : Fin 128) (e : Fin 32) (hn : n.val = 32 + e.val) (k : Fin 1024) (j : Fin 1024) :
    shapeCast S128x1024x1024 x shapeCasts_S4x32x1024x1024_S128x1024x1024 (ix3 n k j) = x (ix4 1 e k j) := by
  have h1 : n.val / 32 = 1 := by omega
  have h2 : n.val % 32 = e.val := by omega
  have e1 : ∀ p, (⟨n.val / 32, p⟩ : Fin 4) = 1 := fun _ => Fin.ext h1
  have e2 : ∀ p, (⟨n.val % 32, p⟩ : Fin 32) = e := fun _ => Fin.ext h2
  pointwise
  rw [e1, e2]

theorem V_v1 (c : Dev nD) : V m c main_v1 = shapeCast S128x1024x1024 (m ((c.tc : Thread nD τ).loc main_arg6) : S4x32x1024x1024.Idx → Elt Ideal .f32) shapeCasts_S4x32x1024x1024_S128x1024x1024 := by
  unfold V
  after_results_simp
  rfl

theorem v2_cast {α : Type} (x : S4x32x2048.Idx → α) (n : Fin 128) (e : Fin 32) (hn : n.val = 32 + e.val) (j : Fin 2048) :
    shapeCast S128x1x2048 x shapeCasts_S4x32x2048_S128x1x2048 (ix3 n 0 j) = x (ix3 1 e j) := by
  have h1 : n.val / 32 = 1 := by omega
  have h2 : n.val % 32 = e.val := by omega
  have e1 : ∀ p, (⟨n.val / 32, p⟩ : Fin 4) = 1 := fun _ => Fin.ext h1
  have e2 : ∀ p, (⟨n.val % 32, p⟩ : Fin 32) = e := fun _ => Fin.ext h2
  pointwise
  rw [e1, e2]

theorem V_v2 (c : Dev nD) : V m c main_v2 = shapeCast S128x1x2048 (m ((c.tc : Thread nD τ).loc main_arg5) : S4x32x2048.Idx → Elt Ideal .f32) shapeCasts_S4x32x2048_S128x1x2048 := by
  unfold V
  after_results_simp
  rfl

theorem v3_cast {α : Type} (x : S4x32x1024.Idx → α) (n : Fin 128) (e : Fin 32) (hn : n.val = 32 + e.val) (j : Fin 1024) :
    shapeCast S128x1x1024 x shapeCasts_S4x32x1024_S128x1x1024 (ix3 n 0 j) = x (ix3 1 e j) := by
  have h1 : n.val / 32 = 1 := by omega
  have h2 : n.val % 32 = e.val := by omega
  have e1 : ∀ p, (⟨n.val / 32, p⟩ : Fin 4) = 1 := fun _ => Fin.ext h1
  have e2 : ∀ p, (⟨n.val % 32, p⟩ : Fin 32) = e := fun _ => Fin.ext h2
  pointwise
  rw [e1, e2]

theorem V_v3 (c : Dev nD) : V m c main_v3 = shapeCast S128x1x1024 (m ((c.tc : Thread nD τ).loc main_arg7) : S4x32x1024.Idx → Elt Ideal .f32) shapeCasts_S4x32x1024_S128x1x1024 := by
  unfold V
  after_results_simp
  rfl

/-! ## The blocks of the expert a point names -/

theorem word_at (be : Vec Ideal S304 .i32) (n : ℕ) (hn : n < 304) (h : ∀ a, (![n] : Fin 1 → ℕ) a + S1.size a ≤ S304.size a) :
    wordAt be ![n] h = be (ix1 ⟨n, hn⟩) :=
  congrArg be (funext fun a => Fin.ext (by
    match a with
    | ⟨0, _⟩ => show n + 1 * 0 = n; omega))

theorem block_of (be : Vec Ideal S304 .i32) (o : Fin 1 → ℕ) (h : ∀ a, o a + S1.size a ≤ S304.size a) (n : ℕ) (hn : n < 304)
    (ho : o = ![n]) (e : Fin 32) (he : be (ix1 ⟨n, hn⟩) = BitVec.ofNat 32 e.val) :
    (Scalar.addi (32#32) (wordAt be o h) : BitVec 32).toNat = 32 + e.val := by
  subst ho
  rw [word_at be n hn h, he]
  show ((32#32 : BitVec 32) + BitVec.ofNat 32 e.val).toNat = _
  rw [BitVec.toNat_add, BitVec.toNat_ofNat, BitVec.toNat_ofNat]
  omega

theorem block_at (t : Fin (cfgE m hok).N) (ht : t.val < 304) (e : Fin 32)
    (he : (tab m 0 : Vec Ideal S304 .i32) (ix1 ⟨t.val, ht⟩) = BitVec.ofNat 32 e.val) :
    (Scalar.addi (32#32) (wordAt (tab m 0 : Vec Ideal S304 .i32) (k0_off1 (grid0.coords t)) (k0_off1_inb _)) : BitVec 32).toNat = 32 + e.val :=
  block_of (tab m 0 : Vec Ideal S304 .i32) _ (k0_off1_inb _) t.val ht (off1_eq m hok t) e he

/-- A block's row in the whole of the two results. -/
def rowAt (c : Dev nD) (t : ℕ) (ht : t < 304) (e : Fin 32) (r : Fin 512) (d : Fin 1024) : EReal :=
  if (BitVec.ofNat 32 t).slt (used m) = true then
    rowOut (unpacked (fun k => (m ((c.tc : Thread nD τ).loc main_arg0) : IVec S155648x256 32) (ix2 ⟨t * 512 + r.val, by omega⟩ k))
        (fun k => (m ((c.tc : Thread nD τ).loc main_arg1) : IVec S155648x256 32) (ix2 ⟨t * 512 + r.val, by omega⟩ k)))
      (fun k j => (m ((c.tc : Thread nD τ).loc main_arg4) : S4x32x1024x2048.Idx → Elt Ideal .f32) (ix4 1 e k j))
      (fun j => (m ((c.tc : Thread nD τ).loc main_arg5) : S4x32x2048.Idx → Elt Ideal .f32) (ix3 1 e j))
      (fun k j => (m ((c.tc : Thread nD τ).loc main_arg6) : S4x32x1024x1024.Idx → Elt Ideal .f32) (ix4 1 e k j))
      (fun j => (m ((c.tc : Thread nD τ).loc main_arg7) : S4x32x1024.Idx → Elt Ideal .f32) (ix3 1 e j)) d
  else 0

section
variable (c : Dev nD) (t : Fin (cfgE m hok).N) (ht : t.val < 304) (e : Fin 32)
variable (he : (tab m 0 : Vec Ideal S304 .i32) (ix1 ⟨t.val, ht⟩) = BitVec.ofNat 32 e.val)
include he

theorem hw2_at (k : Fin 1024) (j : Fin 2048) :
    hw2 m hok c t (ix3 0 k j) = (m ((c.tc : Thread nD τ).loc main_arg4) : S4x32x1024x2048.Idx → Elt Ideal .f32) (ix4 1 e k j) := by
  have hb := block_at m hok t ht e he
  refine (held_at (dats m hok 0 c) 2 rfl (fun _ _ => rfl) t.val t.isLt (ix3 0 k j)).trans ?_
  refine (congrFun ((A_eq m hok c 2).trans (V_v0 m c)) ((((cfgE m hok).win 2).rect t).emb (ix3 0 k j))).trans ?_
  refine Eq.trans (congrArg _ (funext fun a => Fin.ext ?_)) (v0_cast (m ((c.tc : Thread nD τ).loc main_arg4) : S4x32x1024x2048.Idx → Elt Ideal .f32) ⟨32 + e.val, by omega⟩ e rfl k j)
  refine (Window.rect_emb_val ((cfgE m hok).win 2) t (ix3 0 k j) a).trans ?_
  match a with
  | ⟨0, _⟩ =>
    show (Scalar.addi (32#32) (wordAt (tab m 0 : Vec Ideal S304 .i32) (k0_off1 (grid0.coords t)) (k0_off1_inb _)) : BitVec 32).toNat * 1 + 0 = 32 + e.val
    rw [hb]; omega
  | ⟨1, _⟩ =>
    show 0 * 1024 + k.val = k.val
    omega
  | ⟨2, _⟩ =>
    show 0 * 2048 + j.val = j.val
    omega

theorem hw4_at (k : Fin 1024) (j : Fin 1024) :
    hw4 m hok c t (ix3 0 k j) = (m ((c.tc : Thread nD τ).loc main_arg6) : S4x32x1024x1024.Idx → Elt Ideal .f32) (ix4 1 e k j) := by
  have hb := block_at m hok t ht e he
  refine (held_at (dats m hok 0 c) 4 rfl (fun _ _ => rfl) t.val t.isLt (ix3 0 k j)).trans ?_
  refine (congrFun ((A_eq m hok c 4).trans (V_v1 m c)) ((((cfgE m hok).win 4).rect t).emb (ix3 0 k j))).trans ?_
  refine Eq.trans (congrArg _ (funext fun a => Fin.ext ?_)) (v1_cast (m ((c.tc : Thread nD τ).loc main_arg6) : S4x32x1024x1024.Idx → Elt Ideal .f32) ⟨32 + e.val, by omega⟩ e rfl k j)
  refine (Window.rect_emb_val ((cfgE m hok).win 4) t (ix3 0 k j) a).trans ?_
  match a with
  | ⟨0, _⟩ =>
    show (Scalar.addi (32#32) (wordAt (tab m 0 : Vec Ideal S304 .i32) (k0_off1 (grid0.coords t)) (k0_off1_inb _)) : BitVec 32).toNat * 1 + 0 = 32 + e.val
    rw [hb]; omega
  | ⟨1, _⟩ =>
    show 0 * 1024 + k.val = k.val
    omega
  | ⟨2, _⟩ =>
    show 0 * 1024 + j.val = j.val
    omega

theorem hw3_at (j : Fin 2048) :
    hw3 m hok c t (ix3 0 0 j) = (m ((c.tc : Thread nD τ).loc main_arg5) : S4x32x2048.Idx → Elt Ideal .f32) (ix3 1 e j) := by
  have hb := block_at m hok t ht e he
  refine (held_at (dats m hok 0 c) 3 rfl (fun _ _ => rfl) t.val t.isLt (ix3 0 0 j)).trans ?_
  refine (congrFun ((A_eq m hok c 3).trans (V_v2 m c)) ((((cfgE m hok).win 3).rect t).emb (ix3 0 0 j))).trans ?_
  refine Eq.trans (congrArg _ (funext fun a => Fin.ext ?_)) (v2_cast (m ((c.tc : Thread nD τ).loc main_arg5) : S4x32x2048.Idx → Elt Ideal .f32) ⟨32 + e.val, by omega⟩ e rfl j)
  refine (Window.rect_emb_val ((cfgE m hok).win 3) t (ix3 0 0 j) a).trans ?_
  match a with
  | ⟨0, _⟩ =>
    show (Scalar.addi (32#32) (wordAt (tab m 0 : Vec Ideal S304 .i32) (k0_off1 (grid0.coords t)) (k0_off1_inb _)) : BitVec 32).toNat * 1 + 0 = 32 + e.val
    rw [hb]; omega
  | ⟨1, _⟩ =>
    show 0 * 1 + 0 = 0
    omega
  | ⟨2, _⟩ =>
    show 0 * 2048 + j.val = j.val
    omega

theorem hw5_at (j : Fin 1024) :
    hw5 m hok c t (ix3 0 0 j) = (m ((c.tc : Thread nD τ).loc main_arg7) : S4x32x1024.Idx → Elt Ideal .f32) (ix3 1 e j) := by
  have hb := block_at m hok t ht e he
  refine (held_at (dats m hok 0 c) 5 rfl (fun _ _ => rfl) t.val t.isLt (ix3 0 0 j)).trans ?_
  refine (congrFun ((A_eq m hok c 5).trans (V_v3 m c)) ((((cfgE m hok).win 5).rect t).emb (ix3 0 0 j))).trans ?_
  refine Eq.trans (congrArg _ (funext fun a => Fin.ext ?_)) (v3_cast (m ((c.tc : Thread nD τ).loc main_arg7) : S4x32x1024.Idx → Elt Ideal .f32) ⟨32 + e.val, by omega⟩ e rfl j)
  refine (Window.rect_emb_val ((cfgE m hok).win 5) t (ix3 0 0 j) a).trans ?_
  match a with
  | ⟨0, _⟩ =>
    show (Scalar.addi (32#32) (wordAt (tab m 0 : Vec Ideal S304 .i32) (k0_off1 (grid0.coords t)) (k0_off1_inb _)) : BitVec 32).toNat * 1 + 0 = 32 + e.val
    rw [hb]; omega
  | ⟨1, _⟩ =>
    show 0 * 1 + 0 = 0
    omega
  | ⟨2, _⟩ =>
    show 0 * 1024 + j.val = j.val
    omega

/-! ## What a point leaves, at one entry -/

theorem acc_held (r : Fin 512) (d : Fin 1024) :
    acc (hw0 m hok c t) (hw1 m hok c t) (cast1 (hw2 m hok c t)) (hw3 m hok c t) (cast2 (hw4 m hok c t)) (ix2 r d) + hw5 m hok c t (ix3 0 0 d)
      = rowOut (unpacked (fun k => (m ((c.tc : Thread nD τ).loc main_arg0) : IVec S155648x256 32) (ix2 ⟨t.val * 512 + r.val, by omega⟩ k))
        (fun k => (m ((c.tc : Thread nD τ).loc main_arg1) : IVec S155648x256 32) (ix2 ⟨t.val * 512 + r.val, by omega⟩ k)))
      (fun k j => (m ((c.tc : Thread nD τ).loc main_arg4) : S4x32x1024x2048.Idx → Elt Ideal .f32) (ix4 1 e k j))
      (fun j => (m ((c.tc : Thread nD τ).loc main_arg5) : S4x32x2048.Idx → Elt Ideal .f32) (ix3 1 e j))
      (fun k j => (m ((c.tc : Thread nD τ).loc main_arg6) : S4x32x1024x1024.Idx → Elt Ideal .f32) (ix4 1 e k j))
      (fun j => (m ((c.tc : Thread nD τ).loc main_arg7) : S4x32x1024.Idx → Elt Ideal .f32) (ix3 1 e j)) d := by
  have h0 : (fun k => hw0 m hok c t (ix2 r k)) = _ := funext fun k => hw0_at m hok c t ht r k
  have h1 : (fun k => hw1 m hok c t (ix2 r k)) = _ := funext fun k => hw1_at m hok c t ht r k
  have h2 : (fun k j => hw2 m hok c t (ix3 0 k j)) = _ := funext fun k => funext fun j => hw2_at m hok c t ht e he k j
  have h3 : (fun j => hw3 m hok c t (ix3 0 0 j)) = _ := funext fun j => hw3_at m hok c t ht e he j
  have h4 : (fun k j => hw4 m hok c t (ix3 0 k j)) = _ := funext fun k => funext fun j => hw4_at m hok c t ht e he k j
  refine congr (congrArg HAdd.hAdd ((acc_at _ _ _ _ _ r d).trans ?_)) (hw5_at m hok c t ht e he d)
  rw [h0, h1, h2, h3]
  exact Finset.sum_congr rfl fun f _ => congrArg _ (congrFun (congrFun h4 f) d)

theorem out6_at (r q : Fin 512) : out6 m hok c t (ix2 r q) = rowAt m c t.val ht e r (colA q) := by
  have hc := coords_val m hok t
  unfold out6 o9Of rowAt
  by_cases h2 : k0_cond2 (grid0.coords t) (used m) = 1#1
  · have h2' := (cond2_iff _ _).mp h2
    have h3 : ¬ k0_cond3 (grid0.coords t) (used m) = 1#1 := fun h3 => by
      have h3' := (cond3_iff _ _).mp h3
      rw [BitVec.slt_iff_toInt_lt] at h2'
      rw [BitVec.sle_iff_toInt_le] at h3'
      omega
    rw [hc] at h2'
    rw [if_neg h3, if_pos h2, if_pos h2']
    exact (pay3_at _ _ r q).trans (acc_held m hok c t ht e he r (colA q))
  · have h3 := cond3_of_not _ _ h2
    have h2' := fun h => h2 ((cond2_iff _ _).mpr h)
    rw [hc] at h2'
    rw [if_pos h3, if_neg h2']
    exact pay5_at r q

theorem out7_at (r q : Fin 512) : out7 m hok c t (ix2 r q) = rowAt m c t.val ht e r (colB q) := by
  have hc := coords_val m hok t
  unfold out7 o10Of rowAt
  by_cases h2 : k0_cond2 (grid0.coords t) (used m) = 1#1
  · have h2' := (cond2_iff _ _).mp h2
    have h3 : ¬ k0_cond3 (grid0.coords t) (used m) = 1#1 := fun h3 => by
      have h3' := (cond3_iff _ _).mp h3
      rw [BitVec.slt_iff_toInt_lt] at h2'
      rw [BitVec.sle_iff_toInt_le] at h3'
      omega
    rw [hc] at h2'
    rw [if_neg h3, if_pos h2, if_pos h2']
    exact (pay4_at _ _ r q).trans (acc_held m hok c t ht e he r (colB q))
  · have h3 := cond3_of_not _ _ h2
    have h2' := fun h => h2 ((cond2_iff _ _).mpr h)
    rw [hc] at h2'
    rw [if_pos h3, if_neg h2']
    exact pay6_at r q

end

/-! ## The two results -/

theorem tab0 : (tab m 0 : Vec Ideal S304 .i32) = (m (((0 : Dev nD).tc : Thread nD τ).loc main_arg2) : IVec S304 32) := V_arg2 m 0

theorem used_at : used m = (m (((0 : Dev nD).tc : Thread nD τ).loc main_arg3) : IVec S1 32) (ix1 0) := by
  refine (congrFun (V_arg3 m 0) _).trans (congrArg (m (((0 : Dev nD).tc : Thread nD τ).loc main_arg3)) (funext fun a => Fin.ext ?_))
  match a with
  | ⟨0, _⟩ => rfl

/-- The rows of all blocks over the kernel's arguments. -/
abbrev wholeOf (c : Dev nD) : FVec Ideal Cert.Reference2Ideal.S304x512x1024 .f32 :=
  Ref.whole (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

theorem word_back (x : BitVec 32) : x = BitVec.ofNat 32 x.toNat := by simp

include hok in
theorem expert_of (n : ℕ) (hn : n < 304) : ∃ e : Fin 32, (tab m 0 : Vec Ideal S304 .i32) (ix1 ⟨n, hn⟩) = BitVec.ofNat 32 e.val :=
  ⟨⟨((tab m 0 : Vec Ideal S304 .i32) (ix1 ⟨n, hn⟩) : BitVec 32).toNat, hok _⟩, word_back _⟩

theorem whole_row (c : Dev nD) (n : ℕ) (hn : n < 304) (e : Fin 32) (he : (tab m 0 : Vec Ideal S304 .i32) (ix1 ⟨n, hn⟩) = BitVec.ofNat 32 e.val)
    (r : Fin 512) (d : Fin 1024) : wholeOf m c (ix3 ⟨n, hn⟩ r d) = rowAt m c n hn e r d := by
  obtain rfl : c = 0 := Subsingleton.elim _ _
  unfold rowAt
  rw [used_at]
  exact Ref.whole_at _ ⟨n, hn⟩ e ((congrFun (tab0 m) _).symm.trans he) _ _ _ _ _ _ _ r d

theorem flush_6 (t : Fin (cfgE m hok).N) : ((cfgE m hok).win 6).flush t = true := by
  rw [Window.flush_out _ rfl]
  have ht : t.val < 304 := t.isLt
  by_cases h : t.val + 1 = 304
  · exact .inl h
  · refine .inr ⟨(by show t.val + 1 < 304; omega), fun he => ?_⟩
    have h0 := congrFun he (0 : Fin 2)
    have h0' : (BitVec.ofNat 32 (grid0.coords (⟨t.val + 1, by show t.val + 1 < 304; omega⟩ : Fin (cfgE m hok).N) 0).val).toNat
      = (BitVec.ofNat 32 (grid0.coords t 0).val).toNat := h0
    rw [coords_val m hok, coords_val m hok, word_toNat _ ht, word_toNat _ (by show t.val + 1 < 304; omega)] at h0'
    exact absurd h0' (by show t.val + 1 ≠ t.val; omega)

theorem flush_7 (t : Fin (cfgE m hok).N) : ((cfgE m hok).win 7).flush t = true := flush_6 m hok t

theorem emb_6 (t : Fin (cfgE m hok).N) (ht : t.val < 304) (r q : Fin 512) :
    (((cfgE m hok).win 6).rect t).emb (ix2 r q) = (ix2 (⟨t.val * 512 + r.val, by omega⟩ : Fin 155648) q : S155648x512.Idx) := by
  refine funext fun a => Fin.ext ?_
  refine (Window.rect_emb_val ((cfgE m hok).win 6) t (ix2 r q) a).trans ?_
  have hc := coords_val m hok t
  match a with
  | ⟨0, _⟩ =>
    show (BitVec.ofNat 32 (grid0.coords t 0).val).toNat * 512 + r.val = t.val * 512 + r.val
    rw [hc, word_toNat _ ht]
  | ⟨1, _⟩ =>
    show 0 * 512 + q.val = q.val
    omega

theorem row_split (n : ℕ) (hn : n < 304) (r : Fin 512) :
    (⟨(n * 512 + r.val) / 512, by omega⟩ : Fin 304) = ⟨n, hn⟩ ∧ (⟨(n * 512 + r.val) % 512, by omega⟩ : Fin 512) = r :=
  ⟨Fin.ext (by show (n * 512 + r.val) / 512 = n; omega), Fin.ext (by show (n * 512 + r.val) % 512 = r.val; omega)⟩

theorem halfA_row (Z : FVec Ideal Cert.Reference2Ideal.S304x512x1024 .f32) (n : ℕ) (hn : n < 304) (r q : Fin 512) :
    Ref.halfA Z (ix2 ⟨n * 512 + r.val, by omega⟩ q) = Z (ix3 ⟨n, hn⟩ r (colA q)) := by
  rw [Ref.halfA_at, (row_split n hn r).1, (row_split n hn r).2]

theorem halfB_row (Z : FVec Ideal Cert.Reference2Ideal.S304x512x1024 .f32) (n : ℕ) (hn : n < 304) (r q : Fin 512) :
    Ref.halfB Z (ix2 ⟨n * 512 + r.val, by omega⟩ q) = Z (ix3 ⟨n, hn⟩ r (colB q)) := by
  rw [Ref.halfB_at, (row_split n hn r).1, (row_split n hn r).2]

theorem blockMem (i : S155648x512.Idx) (t : Fin (cfgE m hok).N) (ht : t.val = (i 0).val / 512) :
    i ∈ (((cfgE m hok).win 6).rect t).set := by
  refine (Window.mem_rect_iff ((cfgE m hok).win 6) t i (by rfl)).mpr fun a => ?_
  have hc := coords_val m hok t
  have hlt : t.val < 304 := t.isLt
  match a with
  | ⟨0, _⟩ =>
    show (BitVec.ofNat 32 (grid0.coords t 0).val).toNat * 512 ≤ (i 0).val
      ∧ (i 0).val < (BitVec.ofNat 32 (grid0.coords t 0).val).toNat * 512 + 512
    rw [hc, word_toNat _ hlt]
    omega
  | ⟨1, _⟩ =>
    have h1 : (i 1).val < 512 := (i 1).isLt
    show 0 * 512 ≤ (i 1).val ∧ (i 1).val < 0 * 512 + 512
    omega

theorem point_of (i : S155648x512.Idx) : (i 0).val / 512 < (cfgE m hok).N := by
  have h : (i 0).val < 155648 := (i 0).isLt
  show (i 0).val / 512 < 304
  omega

theorem res6_eq (c : Dev nD) : res6 m hok c = Ref.halfA (wholeOf m c) := by
  refine (dats m hok 0 c).arrAt_eq_of_cover 6 (Ref.halfA (wholeOf m c) : S155648x512.Idx → Elt Ideal .bf16) (fun t _ => ?_) (fun i => ?_)
  · have ht : t.val < 304 := t.isLt
    obtain ⟨e, he⟩ := expert_of m hok t.val ht
    show ((cfgE m hok).win 6).cut ((cfgE m hok).grid.coords t) ((dats m hok 0 c).after 6 t) = _
    rw [after_6]
    refine funext fun y => ?_
    obtain ⟨r, q, rfl⟩ : ∃ r q : Fin 512, y = (ix2 r q : S512x512.Idx) := ⟨y (0 : Fin 2), y (1 : Fin 2), funext fun a => by match a with | ⟨0, _⟩ => rfl | ⟨1, _⟩ => rfl⟩
    refine (out6_at m hok c t ht e he r q).trans ?_
    refine Eq.trans ?_ (congrArg (Ref.halfA (wholeOf m c)) (emb_6 m hok t ht r q).symm)
    exact ((halfA_row _ t.val ht r q).trans (whole_row m c t.val ht e he r (colA q))).symm
  · refine ⟨⟨_, point_of m hok i⟩, flush_6 m hok _, ?_⟩
    show i ∈ ((View.whole main_v4_0).slice (((cfgE m hok).win 6).rect ⟨_, point_of m hok i⟩)).set
    erw [View.set_slice_whole]
    exact blockMem m hok i _ rfl

theorem res7_eq (c : Dev nD) : res7 m hok c = Ref.halfB (wholeOf m c) := by
  refine (dats m hok 0 c).arrAt_eq_of_cover 7 (Ref.halfB (wholeOf m c) : S155648x512.Idx → Elt Ideal .bf16) (fun t _ => ?_) (fun i => ?_)
  · have ht : t.val < 304 := t.isLt
    obtain ⟨e, he⟩ := expert_of m hok t.val ht
    show ((cfgE m hok).win 7).cut ((cfgE m hok).grid.coords t) ((dats m hok 0 c).after 7 t) = _
    rw [after_7]
    refine funext fun y => ?_
    obtain ⟨r, q, rfl⟩ : ∃ r q : Fin 512, y = (ix2 r q : S512x512.Idx) := ⟨y (0 : Fin 2), y (1 : Fin 2), funext fun a => by match a with | ⟨0, _⟩ => rfl | ⟨1, _⟩ => rfl⟩
    refine (out7_at m hok c t ht e he r q).trans ?_
    refine Eq.trans ?_ (congrArg (Ref.halfB (wholeOf m c)) (emb_6 m hok t ht r q).symm)
    exact ((halfB_row _ t.val ht r q).trans (whole_row m c t.val ht e he r (colB q))).symm
  · refine ⟨⟨_, point_of m hok i⟩, flush_7 m hok _, ?_⟩
    show i ∈ ((View.whole main_v4_1).slice (((cfgE m hok).win 7).rect ⟨_, point_of m hok i⟩)).set
    erw [View.set_slice_whole]
    exact blockMem m hok i _ rfl

end Cert.Proof.Experts
-- ==== Proof.CoMath.lean ====
module

public import proofs.«01_k».proof.Proof.Gen.Kernel3Ideal
public import proofs.«01_k».proof.Proof.Gen.Kernel3Ideal.Frame
public import proofs.«01_k».proof.Proof.ExMath
public import Idealize.ShloMosaic.Lib.Pointwise

/-! # The combine's values, entry by entry

A row's sum of its experts' rows by their weights, its residual row, its norm, and the combine body's terms read at one
entry. -/

@[expose] public section

noncomputable section

namespace Cert.Proof.Combine

open Cert.Kernel3Ideal Cert.Kernel3Ideal.Gen
open Idealize.ShloMosaic
open Cert.Proof.Experts (unpacked)

/-! ## One row -/

/-- The sum of the experts' rows by their weights. -/
def mixed (za zb : Fin 4 → Fin 256 → BitVec 32) (wt : Fin 4 → EReal) (d : Fin 1024) : EReal :=
  ∑ k, unpacked (za k) (zb k) d * wt k

/-- The residual row. -/
def resid (x gate f : Fin 1024 → EReal) (d : Fin 1024) : EReal :=
  Ideal.ofBits .f32 1071072509#32 * x d + gate d * f d

/-- A row's mean. -/
def mean (r : Fin 1024 → EReal) : EReal := Ideal.div (∑ d, r d) (Ideal.ofBits .f32 1149239296#32)

/-- A row less its mean. -/
def centred (r : Fin 1024 → EReal) (d : Fin 1024) : EReal := r d - mean r

/-- The row's norm, scaled and shifted. -/
def normed (r g b : Fin 1024 → EReal) (d : Fin 1024) : EReal :=
  centred r d * Ideal.rsqrt (mean (fun e => centred r e * centred r e) + Ideal.ofBits .f32 925353388#32) * g d + b d

/-! ## The body's terms at one entry -/

theorem pay2_at (w : Vec Ideal S1x256x128 .f32) (r : Fin 256) (l : Fin 128) :
    k0_pay2 (F := Ideal) w (ix2 r l) = w (ix3 0 r l) := by
  pointwise [k0_pay2]

theorem pay5_at (x : Vec Ideal S1x256x1024 .f32) (r : Fin 256) (d : Fin 1024) :
    k0_pay5 (F := Ideal) x (ix2 r d) = x (ix3 0 r d) := by
  pointwise [k0_pay5]

theorem pay3_at (w : Vec Ideal S1x256x128 .f32) (a b a' b' : Vec Ideal S1x1x256x256 .i32) (r : Fin 256) (d : Fin 1024) :
    k0_pay3 (F := Ideal) w a b a' b' (ix2 r d)
      = unpacked (fun c => a (ix4 0 0 r c)) (fun c => b (ix4 0 0 r c)) d * w (ix3 0 r 0)
        + unpacked (fun c => a' (ix4 0 0 r c)) (fun c => b' (ix4 0 0 r c)) d * w (ix3 0 r 1) := by
  pointwise [k0_pay3]
  simp only [pay2_at]
  rfl

theorem pay4_at (w : FVec Ideal S256x128 .f32) (s : FVec Ideal S256x1024 .f32) (a b a' b' : Vec Ideal S1x1x256x256 .i32)
    (r : Fin 256) (d : Fin 1024) :
    k0_pay4 (F := Ideal) w s a b a' b' (ix2 r d)
      = s (ix2 r d) + unpacked (fun c => a (ix4 0 0 r c)) (fun c => b (ix4 0 0 r c)) d * w (ix2 r 2)
        + unpacked (fun c => a' (ix4 0 0 r c)) (fun c => b' (ix4 0 0 r c)) d * w (ix2 r 3) := by
  pointwise [k0_pay4]
  rfl

theorem pay1_at (f x : FVec Ideal S256x1024 .f32) (gt : Vec Ideal S1x1x1x1024 .f32) (g b : Vec Ideal S1x1024 .f32)
    (r : Fin 256) (d : Fin 1024) :
    k0_pay1 (F := Ideal) f x gt g b (ix3 0 r d)
      = normed (resid (fun e => x (ix2 r e)) (fun e => gt (ix4 0 0 0 e)) (fun e => f (ix2 r e)))
          (fun e => g (ix2 0 e)) (fun e => b (ix2 0 e)) d := by
  pointwise [k0_pay1]
  rfl

end Cert.Proof.Combine
-- ==== Proof.CoRef.lean ====
module

public import proofs.«01_k».proof.Proof.Gen.Reference3Ideal
public import proofs.«01_k».proof.Proof.Gen.Reference3Ideal.Run
public import proofs.«01_k».proof.Proof.CoMath
public import Idealize.ShloMosaic.Lib.Pointwise

/-! # The combine's reference, entry by entry

The reference's result in stages (the experts' rows, their sum by the weights, the residual rows, the norm), and each
stage read at one entry. -/

@[expose] public section

noncomputable section

namespace Cert.Proof.Combine.Ref

open Cert.Reference3Ideal Cert.Reference3Ideal.Gen
open Idealize.ShloMosaic
open Cert.Proof.Experts (unpacked)

/-! ## The stages -/

/-- The experts' rows, unpacked. -/
def rows (a2 a3 : IVec S4x8x4096x256 32) : FVec Ideal S4x8x4096x1024 .f32 :=
  concatenate S4x8x4096x1024 3 [⟨S4x8x4096x512, (bitcastToFloat (F := Ideal) .f32 (andi (concatenate S4x8x4096x512 3 [⟨S4x8x4096x256, a2⟩, ⟨S4x8x4096x256, a3⟩] concatenates_S4x8x4096x256_S4x8x4096x256_S4x8x4096x512_d3) (broadcastInDim S4x8x4096x512 ![] bcast_S_S4x8x4096x512 (constantI S_ 32 4294901760#32))))⟩, ⟨S4x8x4096x512, (bitcastToFloat (F := Ideal) .f32 (Host.shli (concatenate S4x8x4096x512 3 [⟨S4x8x4096x256, a2⟩, ⟨S4x8x4096x256, a3⟩] concatenates_S4x8x4096x256_S4x8x4096x256_S4x8x4096x512_d3) (broadcastInDim S4x8x4096x512 ![] bcast_S_S4x8x4096x512 (constantI S_ 32 16#32))))⟩] concatenates_S4x8x4096x512_S4x8x4096x512_S4x8x4096x1024_d3

/-- The weights over the rows' entries. -/
def weights (a4 : FVec Ideal S8x4096x128 .f32) : FVec Ideal S4x8x4096x1024 .f32 :=
  (broadcastInDim S4x8x4096x1024 ![0, 1, 2, 3] bcast_S4x8x4096x1_S4x8x4096x1024_0_1_2_3 (broadcastInDim S4x8x4096x1 ![0, 1, 2] bcast_S4x8x4096_S4x8x4096x1_0_1_2 (transpose S4x8x4096 [2, 0, 1] (extractStridedSlice S8x4096x4 ![0, 0, 0] a4 slices_S8x4096x128_S8x4096x4_0_0_0) transposes_S8x4096x4_S4x8x4096_2_0_1)))

/-- The rows' sum by the weights. -/
def sums (X W : FVec Ideal S4x8x4096x1024 .f32) : FVec Ideal S8x4096x1024 .f32 :=
  Host.reduceAdd (mulf X W) (constant S_ .f32 0x00000000#32) reducesTo_S4x8x4096x1024_S8x4096x1024_d0 h_S_

/-- The residual rows. -/
def residual (a0 : FVec Ideal S8x4352x1024 .f32) (a1 : FVec Ideal S8x2x8x1024 .f32) (f : FVec Ideal S8x4096x1024 .f32) : FVec Ideal S8x4096x1024 .f32 :=
  addf (mulf (broadcastInDim S8x4096x1024 ![] bcast_S_S8x4096x1024 (constant S_ .f32 0x3FD744FD#32)) (extractStridedSlice S8x4096x1024 ![0, 256, 0] a0 slices_S8x4352x1024_S8x4096x1024_0_256_0)) (mulf (broadcastInDim S8x4096x1024 ![0, 1, 2] bcast_S8x1x1024_S8x4096x1024_0_1_2 (broadcastInDim S8x1x1024 ![0, 2] bcast_S8x1024_S8x1x1024_0_2 (shapeCast _ (extractStridedSlice S8x1x1x1024 ![0, 1, 5, 0] a1 slices_S8x2x8x1024_S8x1x1x1024_0_1_5_0) shapeCasts_S8x1x1x1024_S8x1024))) f)

/-- The rows' means. -/
def means (R : FVec Ideal S8x4096x1024 .f32) : FVec Ideal S8x4096x1 .f32 :=
  Host.divf (broadcastInDim S8x4096x1 ![0, 1] bcast_S8x4096_S8x4096x1_0_1 (Host.reduceAdd R (constant S_ .f32 0x00000000#32) reducesTo_S8x4096x1024_S8x4096_d2 h_S_)) (broadcastInDim S8x4096x1 ![] bcast_S_S8x4096x1 (constant S_ .f32 0x44800000#32))

/-- The rows less their means. -/
def less (R : FVec Ideal S8x4096x1024 .f32) : FVec Ideal S8x4096x1024 .f32 :=
  subf R (broadcastInDim S8x4096x1024 ![0, 1, 2] bcast_S8x4096x1_S8x4096x1024_0_1_2 (means R))

/-- The norm, scaled and shifted. -/
def norm (R : FVec Ideal S8x4096x1024 .f32) (a5 a6 : FVec Ideal S1x1024 .f32) : FVec Ideal S8x4096x1024 .f32 :=
  addf (mulf (mulf (less R) (broadcastInDim S8x4096x1024 ![0, 1, 2] bcast_S8x4096x1_S8x4096x1024_0_1_2 (Host.rsqrt (addf (means (mulf (less R) (less R))) (broadcastInDim S8x4096x1 ![] bcast_S_S8x4096x1 (constant S_ .f32 0x3727C5AC#32)))))) (broadcastInDim S8x4096x1024 ![0, 1, 2] bcast_S1x1x1024_S8x4096x1024_0_1_2 (broadcastInDim S1x1x1024 ![2] bcast_S1024_S1x1x1024_2 (shapeCast _ a5 shapeCasts_S1x1024_S1024)))) (broadcastInDim S8x4096x1024 ![0, 1, 2] bcast_S1x1x1024_S8x4096x1024_0_1_2 (broadcastInDim S1x1x1024 ![2] bcast_S1024_S1x1x1024_2 (shapeCast _ a6 shapeCasts_S1x1024_S1024)))

def whole (a0 : FVec Ideal S8x4352x1024 .f32) (a1 : FVec Ideal S8x2x8x1024 .f32) (a2 a3 : IVec S4x8x4096x256 32)
    (a4 : FVec Ideal S8x4096x128 .f32) (a5 a6 : FVec Ideal S1x1024 .f32) : FVec Ideal S8x4096x1024 .f32 :=
  norm (residual a0 a1 (sums (rows a2 a3) (weights a4))) a5 a6

/-! ## Each stage at one entry -/

theorem rows_at (a2 a3 : IVec S4x8x4096x256 32) (k : Fin 4) (b : Fin 8) (n : Fin 4096) (d : Fin 1024) :
    rows a2 a3 (ix4 k b n d) = unpacked (fun c => a2 (ix4 k b n c)) (fun c => a3 (ix4 k b n c)) d := by
  pointwise [rows]
  rfl

theorem weights_at (a4 : FVec Ideal S8x4096x128 .f32) (k : Fin 4) (b : Fin 8) (n : Fin 4096) (d : Fin 1024) :
    weights a4 (ix4 k b n d) = a4 (ix3 b n ⟨k.val, by omega⟩) := by
  pointwise [weights]

theorem sums_at (X W : FVec Ideal S4x8x4096x1024 .f32) (b : Fin 8) (n : Fin 4096) (d : Fin 1024) :
    sums X W (ix3 b n d) = ∑ k, X (ix4 k b n d) * W (ix4 k b n d) := by
  pointwise [sums]

theorem residual_at (a0 : FVec Ideal S8x4352x1024 .f32) (a1 : FVec Ideal S8x2x8x1024 .f32) (f : FVec Ideal S8x4096x1024 .f32)
    (b : Fin 8) (n : Fin 4096) (d : Fin 1024) :
    residual a0 a1 f (ix3 b n d)
      = resid (fun e => a0 (ix3 b ⟨256 + n.val, by omega⟩ e)) (fun e => a1 (ix4 b 1 5 e)) (fun e => f (ix3 b n e)) d := by
  pointwise [residual]
  rfl

theorem means_at (R : FVec Ideal S8x4096x1024 .f32) (b : Fin 8) (n : Fin 4096) :
    means R (ix3 b n 0) = mean (fun e => R (ix3 b n e)) := by
  pointwise [means]
  rfl

theorem less_at (R : FVec Ideal S8x4096x1024 .f32) (b : Fin 8) (n : Fin 4096) (d : Fin 1024) :
    less R (ix3 b n d) = centred (fun e => R (ix3 b n e)) d := by
  pointwise [less]
  simp only [means_at]
  rfl

theorem norm_at (R : FVec Ideal S8x4096x1024 .f32) (a5 a6 : FVec Ideal S1x1024 .f32) (b : Fin 8) (n : Fin 4096) (d : Fin 1024) :
    norm R a5 a6 (ix3 b n d) = normed (fun e => R (ix3 b n e)) (fun e => a5 (ix2 0 e)) (fun e => a6 (ix2 0 e)) d := by
  pointwise [norm]
  have e : (fun e => mulf (less R) (less R) (ix3 b n e))
      = fun e => centred (fun l => R (ix3 b n l)) e * centred (fun l => R (ix3 b n l)) e :=
    funext fun e => congrArg₂ (· * ·) (less_at R b n e) (less_at R b n e)
  simp only [means_at, less_at, e]
  rfl

theorem whole_at (a0 : FVec Ideal S8x4352x1024 .f32) (a1 : FVec Ideal S8x2x8x1024 .f32) (a2 a3 : IVec S4x8x4096x256 32)
    (a4 : FVec Ideal S8x4096x128 .f32) (a5 a6 : FVec Ideal S1x1024 .f32) (b : Fin 8) (n : Fin 4096) (d : Fin 1024) :
    whole a0 a1 a2 a3 a4 a5 a6 (ix3 b n d)
      = normed (resid (fun e => a0 (ix3 b ⟨256 + n.val, by omega⟩ e)) (fun e => a1 (ix4 b 1 5 e))
          (mixed (fun k c => a2 (ix4 k b n c)) (fun k c => a3 (ix4 k b n c)) (fun k => a4 (ix3 b n ⟨k.val, by omega⟩))))
          (fun e => a5 (ix2 0 e)) (fun e => a6 (ix2 0 e)) d := by
  unfold whole
  rw [norm_at]
  refine congrArg (fun r => normed r _ _ d) (funext fun e => ?_)
  rw [residual_at]
  refine congrArg (fun f => resid _ _ f e) (funext fun l => ?_)
  rw [sums_at]
  exact Finset.sum_congr rfl fun k _ => congrArg₂ (· * ·) (rows_at a2 a3 k b n l) (weights_at a4 k b n l)

/-- The reference's result is the stages' result. -/
theorem result_eq (m : (ℓ : Loc nD τ sig) → Buf (Elt Ideal) ℓ) (c : Dev nD) :
    Cert.Reference3Ideal.Value.res_main_v48 m c
      = whole (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) := rfl

end Cert.Proof.Combine.Ref
-- ==== Proof.CoValue.lean ====
module

public import proofs.«01_k».proof.Proof.CoMath
public import proofs.«01_k».proof.Proof.CoRef
public import Idealize.ShloMosaic.Lib.Pipeline.ValueKit
public import Idealize.ShloMosaic.Lib.Pointwise

/-! # The combine's result, entry by entry

The blocks a point holds, read at one entry of the arguments; what a point leaves, at one entry; the result. -/

@[expose] public section

noncomputable section

namespace Cert.Proof.Combine

open Cert.Kernel3Ideal Cert.Kernel3Ideal.Gen
open Idealize.ShloMosaic Idealize.ShloMosaic.TcCoe
open Idealize.ShloMosaic.Pipeline
open Idealize.SL Idealize.SL.Sem
open Cert.Proof.Experts (unpacked)

variable (m : (ℓ : Loc nD τ sig) → Buf (Elt Ideal) ℓ)

/-! ## The blocks' places -/

theorem place0 : ∀ t : Fin grid0.N, cc0_transform_0 (grid0.coords t) = ![t.val / 16, t.val % 16 + 1, 0] := by decide +kernel
theorem place1 : ∀ t : Fin grid0.N, cc0_transform_1 (grid0.coords t) = ![t.val / 16, 1, 0, 0] := by decide +kernel
theorem place2 : ∀ t : Fin grid0.N, cc0_transform_2 (grid0.coords t) = ![0, t.val / 16, t.val % 16, 0] := by decide +kernel
theorem place3 : ∀ t : Fin grid0.N, cc0_transform_3 (grid0.coords t) = ![0, t.val / 16, t.val % 16, 0] := by decide +kernel
theorem place4 : ∀ t : Fin grid0.N, cc0_transform_4 (grid0.coords t) = ![t.val / 16, t.val % 16, 0] := by decide +kernel
theorem place7 : ∀ t : Fin grid0.N, cc0_transform_7 (grid0.coords t) = ![t.val / 16, t.val % 16, 0] := by decide +kernel

/-- The point's batch row. -/
def batch (t : Fin cfg0.N) : Fin 8 := ⟨t.val / 16, by have h : t.val < 128 := t.isLt; omega⟩

/-- The point's row `r`, of the latent rows. -/
def row (t : Fin cfg0.N) (r : Fin 256) : Fin 4096 := ⟨t.val % 16 * 256 + r.val, by omega⟩

section

variable (c : Dev nD) (t : Fin cfg0.N)

theorem x_at (r : Fin 256) (d : Fin 1024) :
    iblk m c 0 t (ix3 0 r d) = (m ((c.tc : Thread nD τ).loc main_arg0) : FVec Ideal S8x4352x1024 .f32) (ix3 (batch t) ⟨256 + (row t r).val, by omega⟩ d) := by
  refine congrArg (m ((c.tc : Thread nD τ).loc main_arg0)) (funext fun a => Fin.ext ?_)
  refine (Window.rect_emb_val (cfg0.win 0) t (ix3 0 r d) a).trans ?_
  have h := congrFun (place0 t)
  match a with
  | ⟨0, _⟩ => show cc0_transform_0 (grid0.coords t) 0 * 1 + 0 = t.val / 16; rw [h]; show t.val / 16 * 1 + 0 = _; omega
  | ⟨1, _⟩ => show cc0_transform_0 (grid0.coords t) 1 * 256 + r.val = 256 + (t.val % 16 * 256 + r.val); rw [h]; show (t.val % 16 + 1) * 256 + r.val = _; omega
  | ⟨2, _⟩ => show cc0_transform_0 (grid0.coords t) 2 * 1024 + d.val = d.val; rw [h]; show 0 * 1024 + d.val = _; omega

theorem gate_at (l : Fin 8) (d : Fin 1024) :
    iblk m c 1 t (ix4 0 0 l d) = (m ((c.tc : Thread nD τ).loc main_arg1) : FVec Ideal S8x2x8x1024 .f32) (ix4 (batch t) 1 l d) := by
  refine congrArg (m ((c.tc : Thread nD τ).loc main_arg1)) (funext fun a => Fin.ext ?_)
  refine (Window.rect_emb_val (cfg0.win 1) t (ix4 0 0 l d) a).trans ?_
  have h := congrFun (place1 t)
  match a with
  | ⟨0, _⟩ => show cc0_transform_1 (grid0.coords t) 0 * 1 + 0 = t.val / 16; rw [h]; show t.val / 16 * 1 + 0 = _; omega
  | ⟨1, _⟩ => show cc0_transform_1 (grid0.coords t) 1 * 1 + 0 = 1; rw [h]; rfl
  | ⟨2, _⟩ => show cc0_transform_1 (grid0.coords t) 2 * 8 + l.val = l.val; rw [h]; show 0 * 8 + l.val = _; omega
  | ⟨3, _⟩ => show cc0_transform_1 (grid0.coords t) 3 * 1024 + d.val = d.val; rw [h]; show 0 * 1024 + d.val = _; omega

theorem za_at (k : Fin 4) (r l : Fin 256) :
    iblk m c 2 t (ix4 k 0 r l) = (m ((c.tc : Thread nD τ).loc main_arg2) : IVec S4x8x4096x256 32) (ix4 k (batch t) (row t r) l) := by
  refine congrArg (m ((c.tc : Thread nD τ).loc main_arg2)) (funext fun a => Fin.ext ?_)
  refine (Window.rect_emb_val (cfg0.win 2) t (ix4 k 0 r l) a).trans ?_
  have h := congrFun (place2 t)
  match a with
  | ⟨0, _⟩ => show cc0_transform_2 (grid0.coords t) 0 * 4 + k.val = k.val; rw [h]; show 0 * 4 + k.val = _; omega
  | ⟨1, _⟩ => show cc0_transform_2 (grid0.coords t) 1 * 1 + 0 = t.val / 16; rw [h]; show t.val / 16 * 1 + 0 = _; omega
  | ⟨2, _⟩ => show cc0_transform_2 (grid0.coords t) 2 * 256 + r.val = t.val % 16 * 256 + r.val; rw [h]; rfl
  | ⟨3, _⟩ => show cc0_transform_2 (grid0.coords t) 3 * 256 + l.val = l.val; rw [h]; show 0 * 256 + l.val = _; omega

theorem zb_at (k : Fin 4) (r l : Fin 256) :
    iblk m c 3 t (ix4 k 0 r l) = (m ((c.tc : Thread nD τ).loc main_arg3) : IVec S4x8x4096x256 32) (ix4 k (batch t) (row t r) l) := by
  refine congrArg (m ((c.tc : Thread nD τ).loc main_arg3)) (funext fun a => Fin.ext ?_)
  refine (Window.rect_emb_val (cfg0.win 3) t (ix4 k 0 r l) a).trans ?_
  have h := congrFun (place3 t)
  match a with
  | ⟨0, _⟩ => show cc0_transform_3 (grid0.coords t) 0 * 4 + k.val = k.val; rw [h]; show 0 * 4 + k.val = _; omega
  | ⟨1, _⟩ => show cc0_transform_3 (grid0.coords t) 1 * 1 + 0 = t.val / 16; rw [h]; show t.val / 16 * 1 + 0 = _; omega
  | ⟨2, _⟩ => show cc0_transform_3 (grid0.coords t) 2 * 256 + r.val = t.val % 16 * 256 + r.val; rw [h]; rfl
  | ⟨3, _⟩ => show cc0_transform_3 (grid0.coords t) 3 * 256 + l.val = l.val; rw [h]; show 0 * 256 + l.val = _; omega

theorem wt_at (r : Fin 256) (l : Fin 128) :
    iblk m c 4 t (ix3 0 r l) = (m ((c.tc : Thread nD τ).loc main_arg4) : FVec Ideal S8x4096x128 .f32) (ix3 (batch t) (row t r) l) := by
  refine congrArg (m ((c.tc : Thread nD τ).loc main_arg4)) (funext fun a => Fin.ext ?_)
  refine (Window.rect_emb_val (cfg0.win 4) t (ix3 0 r l) a).trans ?_
  have h := congrFun (place4 t)
  match a with
  | ⟨0, _⟩ => show cc0_transform_4 (grid0.coords t) 0 * 1 + 0 = t.val / 16; rw [h]; show t.val / 16 * 1 + 0 = _; omega
  | ⟨1, _⟩ => show cc0_transform_4 (grid0.coords t) 1 * 256 + r.val = t.val % 16 * 256 + r.val; rw [h]; rfl
  | ⟨2, _⟩ => show cc0_transform_4 (grid0.coords t) 2 * 128 + l.val = l.val; rw [h]; show 0 * 128 + l.val = _; omega

theorem g_at (d : Fin 1024) :
    iblk m c 5 t (ix2 0 d) = (m ((c.tc : Thread nD τ).loc main_arg5) : FVec Ideal S1x1024 .f32) (ix2 0 d) := by
  refine congrArg (m ((c.tc : Thread nD τ).loc main_arg5)) (funext fun a => Fin.ext ?_)
  refine (Window.rect_emb_val (cfg0.win 5) t (ix2 0 d) a).trans ?_
  match a with
  | ⟨0, _⟩ => rfl
  | ⟨1, _⟩ => show 0 * 1024 + d.val = d.val; omega

theorem b_at (d : Fin 1024) :
    iblk m c 6 t (ix2 0 d) = (m ((c.tc : Thread nD τ).loc main_arg6) : FVec Ideal S1x1024 .f32) (ix2 0 d) := by
  refine congrArg (m ((c.tc : Thread nD τ).loc main_arg6)) (funext fun a => Fin.ext ?_)
  refine (Window.rect_emb_val (cfg0.win 6) t (ix2 0 d) a).trans ?_
  match a with
  | ⟨0, _⟩ => rfl
  | ⟨1, _⟩ => show 0 * 1024 + d.val = d.val; omega

theorem emb_at (r : Fin 256) (d : Fin 1024) :
    ((cfg0.win 7).rect t).emb (ix3 0 r d) = (ix3 (batch t) (row t r) d : S8x4096x1024.Idx) := by
  refine funext fun a => Fin.ext ?_
  refine (Window.rect_emb_val (cfg0.win 7) t (ix3 0 r d) a).trans ?_
  have h := congrFun (place7 t)
  match a with
  | ⟨0, _⟩ => show cc0_transform_7 (grid0.coords t) 0 * 1 + 0 = t.val / 16; rw [h]; show t.val / 16 * 1 + 0 = _; omega
  | ⟨1, _⟩ => show cc0_transform_7 (grid0.coords t) 1 * 256 + r.val = t.val % 16 * 256 + r.val; rw [h]; rfl
  | ⟨2, _⟩ => show cc0_transform_7 (grid0.coords t) 2 * 1024 + d.val = d.val; rw [h]; show 0 * 1024 + d.val = _; omega

end

/-! ## The loads within a block -/

theorem ld_w (x : Vec Ideal S1x256x128 .f32) (r : Fin 256) (l : Fin 128) : View.ld x r0_0 (ix3 0 r l) = x (ix3 0 r l) := by
  refine congrArg x (funext fun a => Fin.ext ?_)
  match a with
  | ⟨0, _⟩ => rfl
  | ⟨1, _⟩ => show 0 + 1 * r.val = r.val; omega
  | ⟨2, _⟩ => show 0 + 1 * l.val = l.val; omega

theorem ld_x (x : Vec Ideal S1x256x1024 .f32) (r : Fin 256) (l : Fin 1024) : View.ld x r0_5 (ix3 0 r l) = x (ix3 0 r l) := by
  refine congrArg x (funext fun a => Fin.ext ?_)
  match a with
  | ⟨0, _⟩ => rfl
  | ⟨1, _⟩ => show 0 + 1 * r.val = r.val; omega
  | ⟨2, _⟩ => show 0 + 1 * l.val = l.val; omega

theorem ld_gate (x : Vec Ideal S1x1x8x1024 .f32) (l : Fin 1024) : View.ld x r0_6 (ix4 0 0 0 l) = x (ix4 0 0 5 l) := by
  refine congrArg x (funext fun a => Fin.ext ?_)
  match a with
  | ⟨0, _⟩ => rfl
  | ⟨1, _⟩ => rfl
  | ⟨2, _⟩ => rfl
  | ⟨3, _⟩ => show 0 + 1 * l.val = l.val; omega

theorem ld_g (x : Vec Ideal S1x1024 .f32) (l : Fin 1024) : View.ld x r0_7 (ix2 0 l) = x (ix2 0 l) := by
  refine congrArg x (funext fun a => Fin.ext ?_)
  match a with
  | ⟨0, _⟩ => rfl
  | ⟨1, _⟩ => show 0 + 1 * l.val = l.val; omega

/-- The words of slab `k`. -/
theorem ld_slab (x : Vec Ideal S4x1x256x256 .i32) (o : ℕ) (k : Fin 4) (hk : k.val = o)
    (h : ∀ a, (![o, 0, 0, 0] : Fin 4 → ℕ) a + S1x1x256x256.size a ≤ S4x1x256x256.size a) (r l : Fin 256) :
    View.ld x (Rect.unit (s := S4x1x256x256) ![o, 0, 0, 0] S1x1x256x256.size h) (ix4 0 0 r l) = x (ix4 k 0 r l) := by
  refine congrArg x (funext fun a => Fin.ext ?_)
  match a with
  | ⟨0, _⟩ => show o + 1 * 0 = k.val; omega
  | ⟨1, _⟩ => rfl
  | ⟨2, _⟩ => show 0 + 1 * r.val = r.val; omega
  | ⟨3, _⟩ => show 0 + 1 * l.val = l.val; omega

/-! ## What a point leaves -/

theorem sum_of_four (f : Fin 4 → EReal) : ∑ k, f k = f 0 + f 1 + f 2 + f 3 := by
  simp only [Fin.sum_univ_succ, Fin.sum_univ_zero, Fin.succ_zero_eq_one, add_zero]
  exact ((add_assoc _ _ _).trans (add_assoc _ _ _)).symm

theorem left_at (x0 : Vec Ideal S1x256x1024 .f32) (x1 : Vec Ideal S1x1x8x1024 .f32) (x2 x3 : Vec Ideal S4x1x256x256 .i32)
    (x4 : Vec Ideal S1x256x128 .f32) (x5 x6 : Vec Ideal S1x1024 .f32) (r : Fin 256) (d : Fin 1024) :
    out0_7 x0 x1 x2 x3 x4 x5 x6 (ix3 0 r d)
      = normed (resid (fun e => x0 (ix3 0 r e)) (fun e => x1 (ix4 0 0 5 e))
          (mixed (fun k l => x2 (ix4 k 0 r l)) (fun k l => x3 (ix4 k 0 r l)) (fun k => x4 (ix3 0 r ⟨k.val, by omega⟩))))
          (fun e => x5 (ix2 0 e)) (fun e => x6 (ix2 0 e)) d := by
  have e : (ix3 0 r d : S1x256x1024.Idx) = r0_5.emb (ix3 0 r d) := by
    refine funext fun a => Fin.ext ?_
    match a with
    | ⟨0, _⟩ => rfl
    | ⟨1, _⟩ => show r.val = 0 + 1 * r.val; omega
    | ⟨2, _⟩ => show d.val = 0 + 1 * d.val; omega
  refine (congrArg (out0_7 x0 x1 x2 x3 x4 x5 x6) e).trans ?_
  refine (View.canon_cons_emb r0_5 _ [] (ix3 0 r d)).trans ?_
  rw [pay1_at]
  have hg : (fun e => View.ld x5 r0_7 (ix2 0 e)) = fun e => x5 (ix2 0 e) := funext fun e => ld_g x5 e
  have hb : (fun e => View.ld x6 r0_7 (ix2 0 e)) = fun e => x6 (ix2 0 e) := funext fun e => ld_g x6 e
  have hgt : (fun e => View.ld x1 r0_6 (ix4 0 0 0 e)) = fun e => x1 (ix4 0 0 5 e) := funext fun e => ld_gate x1 e
  rw [hg, hb, hgt]
  refine congrArg (fun q => normed q _ _ d) (congrArg₂ (fun p q => resid p _ q) (funext fun l => ?_) (funext fun l => ?_))
  · rw [pay5_at, ld_x]
  · rw [pay4_at, pay3_at]
    simp only [pay2_at]
    unfold mixed
    rw [sum_of_four]
    simp only [ld_slab x2 0 0 rfl, ld_slab x2 1 1 rfl, ld_slab x2 2 2 rfl, ld_slab x2 3 3 rfl,
      ld_slab x3 0 0 rfl, ld_slab x3 1 1 rfl, ld_slab x3 2 2 rfl, ld_slab x3 3 3 rfl]
    exact congrArg₂ (· + ·) (congrArg₂ (· + ·) (congrArg₂ (· + ·) (congrArg (HMul.hMul _) (ld_w x4 r 0))
      (congrArg (HMul.hMul _) (ld_w x4 r 1))) (congrArg (HMul.hMul _) (ld_w x4 r 2))) (congrArg (HMul.hMul _) (ld_w x4 r 3))

/-! ## The result -/

/-- The reference's result on the kernel's arguments. -/
def wholeOf (c : Dev nD) : FVec Ideal S8x4096x1024 .f32 :=
  Ref.whole (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))

theorem block_row (c : Dev nD) (t : Fin cfg0.N) (r : Fin 256) (d : Fin 1024) :
    out0_7 (iblk m c 0 t) (iblk m c 1 t) (iblk m c 2 t) (iblk m c 3 t) (iblk m c 4 t) (iblk m c 5 t) (iblk m c 6 t) (ix3 0 r d)
      = wholeOf m c (ix3 (batch t) (row t r) d) := by
  refine (left_at _ _ _ _ _ _ _ r d).trans ?_
  refine Eq.trans ?_ (Ref.whole_at _ _ _ _ _ _ _ (batch t) (row t r) d).symm
  simp only [x_at, gate_at, za_at, zb_at, wt_at, g_at, b_at]

theorem mem_block (i : S8x4096x1024.Idx) (t : Fin cfg0.N) (ht : t.val = (i 0).val * 16 + (i 1).val / 256) :
    i ∈ ((cfg0.win 7).rect t).set := by
  refine (Window.mem_rect_iff (cfg0.win 7) t i (by rfl)).mpr fun a => ?_
  have h := congrFun (place7 t)
  have h1 : (i 1).val < 4096 := (i 1).isLt
  match a with
  | ⟨0, _⟩ =>
    show cc0_transform_7 (grid0.coords t) 0 * 1 ≤ (i 0).val ∧ (i 0).val < cc0_transform_7 (grid0.coords t) 0 * 1 + 1
    rw [h]
    show t.val / 16 * 1 ≤ (i 0).val ∧ (i 0).val < t.val / 16 * 1 + 1
    omega
  | ⟨1, _⟩ =>
    show cc0_transform_7 (grid0.coords t) 1 * 256 ≤ (i 1).val ∧ (i 1).val < cc0_transform_7 (grid0.coords t) 1 * 256 + 256
    rw [h]
    show t.val % 16 * 256 ≤ (i 1).val ∧ (i 1).val < t.val % 16 * 256 + 256
    omega
  | ⟨2, _⟩ =>
    have h2 : (i 2).val < 1024 := (i 2).isLt
    show cc0_transform_7 (grid0.coords t) 2 * 1024 ≤ (i 2).val ∧ (i 2).val < cc0_transform_7 (grid0.coords t) 2 * 1024 + 1024
    rw [h]
    show 0 * 1024 ≤ (i 2).val ∧ (i 2).val < 0 * 1024 + 1024
    omega

theorem point_of (i : S8x4096x1024.Idx) : (i 0).val * 16 + (i 1).val / 256 < cfg0.N := by
  have h0 : (i 0).val < 8 := (i 0).isLt
  have h1 : (i 1).val < 4096 := (i 1).isLt
  show _ < 128
  omega

/-- The array the points leave is the reference's. -/
theorem result_eq (c : Dev nD) : (dats m 0 c).arrAt 7 cfg0.N = wholeOf m c := by
  refine (dats m 0 c).arrAt_eq_of_cover 7 (wholeOf m c : S8x4096x1024.Idx → Elt Ideal .f32) (fun t _ => ?_) (fun i => ?_)
  · show (cfg0.win 7).cut (cfg0.grid.coords t) ((dats m 0 c).after 7 t) = _
    rw [after0_7]
    refine funext fun y => ?_
    obtain ⟨r, d, rfl⟩ : ∃ (r : Fin 256) (d : Fin 1024), y = (ix3 0 r d : S1x256x1024.Idx) :=
      ⟨y (1 : Fin 3), y (2 : Fin 3), funext fun a => by
        match a with
        | ⟨0, _⟩ => exact Fin.ext (Nat.lt_one_iff.mp (y (0 : Fin 3)).isLt)
        | ⟨1, _⟩ => rfl
        | ⟨2, _⟩ => rfl⟩
    exact (block_row m c t r d).trans (congrArg (wholeOf m c) (emb_at t r d).symm)
  · refine ⟨⟨_, point_of i⟩, flush0_7 _, ?_⟩
    show i ∈ ((View.whole main_v0).slice ((cfg0.win 7).rect ⟨_, point_of i⟩)).set
    erw [View.set_slice_whole]
    exact mem_block i _ rfl

end Cert.Proof.Combine
-- ==== Proof.LxBody.lean ====
/-
  The last layer's experts' body at one grid point, over any memrefs its windows are staged in.
-/
module

public import proofs.«01_k».proof.Proof.Gen.Kernel4Ideal.Skeleton
public import proofs.«01_k».proof.Proof.Gen.Kernel4Ideal.Launch
public import Idealize.ShloMosaic.Lib.Pipeline.TableIdle
public import Idealize.ShloMosaic.Lib.Pipeline.Frame
public import Idealize.ShloMosaic.Lib.Pipeline.FrameBody
public import Idealize.ShloMosaic.Lib.Pipeline.Value
public import Idealize.ShloMosaic.Lib.Exec
public import Idealize.ShloMosaic.Lib.Tactic
public import Idealize.ShloMosaic.Lib.ValueIdx
public import Idealize.ShloMosaic.Lib.ValueLayout
public import Idealize.ShloMosaic.Lib.WritesUnit
public import Idealize.ShloMosaic.Lib.VecWindow

@[expose] public section

noncomputable section

namespace Cert.Proof.LastExperts

open Cert.Kernel4Ideal Cert.Kernel4Ideal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig Unit (Elt F) ℕ (UR sig nD τ) ℕ

/-- The launch's variants: none. -/
abbrev 𝒱₀ : Variants := Variants.none

/-! ## What the body computes -/

/-- The rounded copy of an expert's first matrix. -/
def cast1 (x : Vec F S1x1024x2048 .f32) : Vec F S1024x2048 .bf16 :=
  truncf .bf16 (fun y : S1024x2048.Idx => x (ix3 (0 : Fin 1) (y 0) (y 1)) : FVec F S1024x2048 .f32) bitsLt_bf16_f32

/-- The rounded copy of an expert's second matrix. -/
def cast2 (x : Vec F S1x1024x1024 .f32) : Vec F S1024x1024 .bf16 :=
  truncf .bf16 (fun y : S1024x1024.Idx => x (ix3 (0 : Fin 1) (y 0) (y 1)) : FVec F S1024x1024 .f32) bitsLt_bf16_f32

theorem strip1 {o : ℕ} (h : ∀ a, (![0, o, 0] : Fin 3 → ℕ) a + S1x128x2048.size a ≤ S1x1024x2048.size a)
    (x : Vec F S1x1024x2048 .f32) (z : S128x2048.Idx) (y : S1024x2048.Idx)
    (h0 : (y 0).val = o + (z 0).val) (h1 : (y 1).val = (z 1).val) :
    k0_pay7 (F := F) (fun w => x ((Rect.unit (s := S1x1024x2048) ![0, o, 0] S1x128x2048.size h).toLoadRect.idx w)) z = cast1 x y := by
  unfold k0_pay7 cast1
  simp only [Idealize.ShloMosaic.shapeCast_self]
  have key : ∀ v : Vec F S1x128x2048 .f32, shapeCast S128x2048 v shapeCasts_S1x128x2048_S128x2048 z = v (ix3 (0 : Fin 1) (z 0) (z 1)) := fun v => by
    rw [eq_ix2 z]
    exact congrArg v (reshapeEquiv_ix2_1ab _ _ _)
  unfold truncf
  refine congrArg _ ?_
  refine (key _).trans (congrArg x (funext fun a => Fin.ext ?_))
  match a with
  | ⟨0, _⟩ => rfl
  | ⟨1, _⟩ => show o + 1 * (z 0).val = (y 0).val; omega
  | ⟨2, _⟩ => show 0 + 1 * (z 1).val = (y 1).val; omega

theorem strip2 {o : ℕ} (h : ∀ a, (![0, o, 0] : Fin 3 → ℕ) a + S1x128x1024.size a ≤ S1x1024x1024.size a)
    (x : Vec F S1x1024x1024 .f32) (z : S128x1024.Idx) (y : S1024x1024.Idx)
    (h0 : (y 0).val = o + (z 0).val) (h1 : (y 1).val = (z 1).val) :
    k0_pay15 (F := F) (fun w => x ((Rect.unit (s := S1x1024x1024) ![0, o, 0] S1x128x1024.size h).toLoadRect.idx w)) z = cast2 x y := by
  unfold k0_pay15 cast2
  simp only [Idealize.ShloMosaic.shapeCast_self]
  have key : ∀ v : Vec F S1x128x1024 .f32, shapeCast S128x1024 v shapeCasts_S1x128x1024_S128x1024 z = v (ix3 (0 : Fin 1) (z 0) (z 1)) := fun v => by
    rw [eq_ix2 z]
    exact congrArg v (reshapeEquiv_ix2_1ab _ _ _)
  unfold truncf
  refine congrArg _ ?_
  refine (key _).trans (congrArg x (funext fun a => Fin.ext ?_))
  match a with
  | ⟨0, _⟩ => rfl
  | ⟨1, _⟩ => show o + 1 * (z 0).val = (y 0).val; omega
  | ⟨2, _⟩ => show 0 + 1 * (z 1).val = (y 1).val; omega

/-- One word of a table. -/
abbrev wordAt (be : Vec F S288 .i32) (off : Fin 1 → ℕ) (h : ∀ a, off a + S1.size a ≤ S288.size a) : BitVec 32 :=
  be ((Rect.unit (s := S288) off S1.size h).toLoadRect.idx (Shape.Idx.first (by decide : 0 < S1.numel)))

/-- The count's one word. -/
abbrev word1 (n : Vec F S1 .i32) : BitVec 32 :=
  n ((Rect.unit (s := S1) ![0] S1.size inb_S1_S1_0).toLoadRect.idx (Shape.Idx.first (by decide : 0 < S1.numel)))

/-- The body copies the expert's matrices at this point. -/
def Fill (i : grid0.Coords) (be : Vec F S288 .i32) (n : Vec F S1 .i32) : Prop :=
  Scalar.cmpi .ne (Scalar.extui (Scalar.andi
    (Scalar.ori (Scalar.cmpi .eq (BitVec.ofNat 32 (i 0).val) 0#32)
      (Scalar.cmpi .ne (wordAt be (k0_off1 i) (k0_off1_inb i)) (wordAt be (k0_off2 i) (k0_off2_inb i))))
    (Scalar.cmpi .slt (BitVec.ofNat 32 (i 0).val) (word1 n)))) 0#32 = 1#1

instance (i : grid0.Coords) (be : Vec F S288 .i32) (n : Vec F S1 .i32) : Decidable (Fill i be n) := by
  unfold Fill; infer_instance

/-- The first matrix the body multiplies by. -/
def w1Of (i : grid0.Coords) (be : Vec F S288 .i32) (n : Vec F S1 .i32) (x5 : Vec F S1x1024x2048 .f32)
    (x11 : Vec F S1024x2048 .bf16) : Vec F S1024x2048 .bf16 := if Fill i be n then cast1 x5 else x11

/-- The second matrix the body multiplies by. -/
def w2Of (i : grid0.Coords) (be : Vec F S288 .i32) (n : Vec F S1 .i32) (x7 : Vec F S1x1024x1024 .f32)
    (x12 : Vec F S1024x1024 .bf16) : Vec F S1024x1024 .bf16 := if Fill i be n then cast2 x7 else x12

/-- The second product's sum, before its bias. -/
def acc (x3 x4 : Vec F S512x256 .i32) (w1 : Vec F S1024x2048 .bf16) (b1 : Vec F S1x1x2048 .f32)
    (w2 : Vec F S1024x1024 .bf16) : FVec F S512x1024 .f32 :=
  k0_pay27 (k0_pay23 x3 x4 (fun y => w1 ((Rect.unit (s := S1024x2048) ![0, 0] S1024x512.size inb_S1024x2048_S1024x512_0_0).toLoadRect.idx y))
      (fun y => b1 ((Rect.unit (s := S1x1x2048) ![0, 0, 0] S1x1x512.size inb_S1x1x2048_S1x1x512_0_0_0).toLoadRect.idx y)))
    (k0_pay24 x3 x4 (fun y => w1 ((Rect.unit (s := S1024x2048) ![0, 512] S1024x512.size inb_S1024x2048_S1024x512_0_512).toLoadRect.idx y))
      (fun y => b1 ((Rect.unit (s := S1x1x2048) ![0, 0, 512] S1x1x512.size inb_S1x1x2048_S1x1x512_0_0_512).toLoadRect.idx y)))
    (k0_pay25 x3 x4 (fun y => w1 ((Rect.unit (s := S1024x2048) ![0, 1024] S1024x512.size inb_S1024x2048_S1024x512_0_1024).toLoadRect.idx y))
      (fun y => b1 ((Rect.unit (s := S1x1x2048) ![0, 0, 1024] S1x1x512.size inb_S1x1x2048_S1x1x512_0_0_1024).toLoadRect.idx y)))
    (k0_pay26 x3 x4 (fun y => w1 ((Rect.unit (s := S1024x2048) ![0, 1536] S1024x512.size inb_S1024x2048_S1024x512_0_1536).toLoadRect.idx y)))
    (fun y => b1 ((Rect.unit (s := S1x1x2048) ![0, 0, 1536] S1x1x512.size inb_S1x1x2048_S1x1x512_0_0_1536).toLoadRect.idx y))
    (fun y => w2 ((Rect.unit (s := S1024x1024) ![0, 0] S512x1024.size inb_S1024x1024_S512x1024_0_0).toLoadRect.idx y))
    (fun y => w2 ((Rect.unit (s := S1024x1024) ![512, 0] S512x1024.size inb_S1024x1024_S512x1024_512_0).toLoadRect.idx y))

/-- The first result's block after the body. -/
def o9Of (i : grid0.Coords) (n : BitVec 32) (x3 x4 : Vec F S512x256 .i32) (w1 : Vec F S1024x2048 .bf16)
    (b1 : Vec F S1x1x2048 .f32) (w2 : Vec F S1024x1024 .bf16) (b2 : Vec F S1x1x1024 .f32) (d : Vec F S512x512 .bf16) :
    Vec F S512x512 .bf16 :=
  if k0_cond3 i n = 1#1 then k0_pay5 else if k0_cond2 i n = 1#1 then k0_pay3 (acc x3 x4 w1 b1 w2) (k0_pay28 b2) else d

/-- The second result's block after the body. -/
def o10Of (i : grid0.Coords) (n : BitVec 32) (x3 x4 : Vec F S512x256 .i32) (w1 : Vec F S1024x2048 .bf16)
    (b1 : Vec F S1x1x2048 .f32) (w2 : Vec F S1024x1024 .bf16) (b2 : Vec F S1x1x1024 .f32) (d : Vec F S512x512 .bf16) :
    Vec F S512x512 .bf16 :=
  if k0_cond3 i n = 1#1 then k0_pay6 else if k0_cond2 i n = 1#1 then k0_pay4 (acc x3 x4 w1 b1 w2) (k0_pay28 b2) else d

theorem acc_of (x3 x4 : Vec F S512x256 .i32) (w1 : Vec F S1024x2048 .bf16) (b1 : Vec F S1x1x2048 .f32) (w2 : Vec F S1024x1024 .bf16)
    (A0 A1 A2 A3 : Vec F S1024x512 .bf16) (B0 B1 : Vec F S512x1024 .bf16)
    (h0 : A0 = fun y => w1 ((Rect.unit (s := S1024x2048) ![0, 0] S1024x512.size inb_S1024x2048_S1024x512_0_0).toLoadRect.idx y))
    (h1 : A1 = fun y => w1 ((Rect.unit (s := S1024x2048) ![0, 512] S1024x512.size inb_S1024x2048_S1024x512_0_512).toLoadRect.idx y))
    (h2 : A2 = fun y => w1 ((Rect.unit (s := S1024x2048) ![0, 1024] S1024x512.size inb_S1024x2048_S1024x512_0_1024).toLoadRect.idx y))
    (h3 : A3 = fun y => w1 ((Rect.unit (s := S1024x2048) ![0, 1536] S1024x512.size inb_S1024x2048_S1024x512_0_1536).toLoadRect.idx y))
    (g0 : B0 = fun y => w2 ((Rect.unit (s := S1024x1024) ![0, 0] S512x1024.size inb_S1024x1024_S512x1024_0_0).toLoadRect.idx y))
    (g1 : B1 = fun y => w2 ((Rect.unit (s := S1024x1024) ![512, 0] S512x1024.size inb_S1024x1024_S512x1024_512_0).toLoadRect.idx y)) :
    k0_pay27 (k0_pay23 x3 x4 A0
        (fun y => b1 ((Rect.unit (s := S1x1x2048) ![0, 0, 0] S1x1x512.size inb_S1x1x2048_S1x1x512_0_0_0).toLoadRect.idx y)))
      (k0_pay24 x3 x4 A1
        (fun y => b1 ((Rect.unit (s := S1x1x2048) ![0, 0, 512] S1x1x512.size inb_S1x1x2048_S1x1x512_0_0_512).toLoadRect.idx y)))
      (k0_pay25 x3 x4 A2
        (fun y => b1 ((Rect.unit (s := S1x1x2048) ![0, 0, 1024] S1x1x512.size inb_S1x1x2048_S1x1x512_0_0_1024).toLoadRect.idx y)))
      (k0_pay26 x3 x4 A3)
      (fun y => b1 ((Rect.unit (s := S1x1x2048) ![0, 0, 1536] S1x1x512.size inb_S1x1x2048_S1x1x512_0_0_1536).toLoadRect.idx y))
      B0 B1 = acc x3 x4 w1 b1 w2 := by
  subst h0 h1 h2 h3 g0 g1; rfl

theorem read_fill1 {κ : Kind} {sp : Space} (v : View sig κ sp S1024x2048 .bf16) (f : v.ty.Contents (Elt F)) (x : Vec F S1x1024x2048 .f32) :
    v.read (Elt F) (v.writes (Elt F) f
      [⟨Rect.unit (s := S1024x2048) ![896, 0] S128x2048.size inb_S1024x2048_S128x2048_896_0, k0_pay14 (fun w => x ((Rect.unit (s := S1x1024x2048) ![0, 896, 0] S1x128x2048.size inb_S1x1024x2048_S1x128x2048_0_896_0).toLoadRect.idx w))⟩,
        ⟨Rect.unit (s := S1024x2048) ![768, 0] S128x2048.size inb_S1024x2048_S128x2048_768_0, k0_pay13 (fun w => x ((Rect.unit (s := S1x1024x2048) ![0, 768, 0] S1x128x2048.size inb_S1x1024x2048_S1x128x2048_0_768_0).toLoadRect.idx w))⟩,
        ⟨Rect.unit (s := S1024x2048) ![640, 0] S128x2048.size inb_S1024x2048_S128x2048_640_0, k0_pay12 (fun w => x ((Rect.unit (s := S1x1024x2048) ![0, 640, 0] S1x128x2048.size inb_S1x1024x2048_S1x128x2048_0_640_0).toLoadRect.idx w))⟩,
        ⟨Rect.unit (s := S1024x2048) ![512, 0] S128x2048.size inb_S1024x2048_S128x2048_512_0, k0_pay11 (fun w => x ((Rect.unit (s := S1x1024x2048) ![0, 512, 0] S1x128x2048.size inb_S1x1024x2048_S1x128x2048_0_512_0).toLoadRect.idx w))⟩,
        ⟨Rect.unit (s := S1024x2048) ![384, 0] S128x2048.size inb_S1024x2048_S128x2048_384_0, k0_pay10 (fun w => x ((Rect.unit (s := S1x1024x2048) ![0, 384, 0] S1x128x2048.size inb_S1x1024x2048_S1x128x2048_0_384_0).toLoadRect.idx w))⟩,
        ⟨Rect.unit (s := S1024x2048) ![256, 0] S128x2048.size inb_S1024x2048_S128x2048_256_0, k0_pay9 (fun w => x ((Rect.unit (s := S1x1024x2048) ![0, 256, 0] S1x128x2048.size inb_S1x1024x2048_S1x128x2048_0_256_0).toLoadRect.idx w))⟩,
        ⟨Rect.unit (s := S1024x2048) ![128, 0] S128x2048.size inb_S1024x2048_S128x2048_128_0, k0_pay8 (fun w => x ((Rect.unit (s := S1x1024x2048) ![0, 128, 0] S1x128x2048.size inb_S1x1024x2048_S1x128x2048_0_128_0).toLoadRect.idx w))⟩,
        ⟨Rect.unit (s := S1024x2048) ![0, 0] S128x2048.size inb_S1024x2048_S128x2048_0_0, k0_pay7 (fun w => x ((Rect.unit (s := S1x1024x2048) ![0, 0, 0] S1x128x2048.size inb_S1x1024x2048_S1x128x2048_0_0_0).toLoadRect.idx w))⟩]) = cast1 x := by
  funext y
  have h1024 : (y 0).val < 1024 := (y 0).isLt
  by_cases h896 : 896 ≤ (y 0).val
  · exact (View.read_writes_cons_rows_of_mem (o := 896) v f _ _ _ y (ix2 (n0 := 128) (n1 := 2048) ⟨(y 0).val - 896, by omega⟩ (y 1)) rfl
      (by show (y 0).val = 896 + ((y 0).val - 896); omega) rfl).trans
      (strip1 _ x _ y (by show (y 0).val = 896 + ((y 0).val - 896); omega) rfl)
  refine (View.read_writes_cons_rows_of_not_mem (o := 896) (W := 128) v f _ _ _ y rfl rfl (Or.inl (by omega))).trans ?_
  by_cases h768 : 768 ≤ (y 0).val
  · exact (View.read_writes_cons_rows_of_mem (o := 768) v f _ _ _ y (ix2 (n0 := 128) (n1 := 2048) ⟨(y 0).val - 768, by omega⟩ (y 1)) rfl
      (by show (y 0).val = 768 + ((y 0).val - 768); omega) rfl).trans
      (strip1 _ x _ y (by show (y 0).val = 768 + ((y 0).val - 768); omega) rfl)
  refine (View.read_writes_cons_rows_of_not_mem (o := 768) (W := 128) v f _ _ _ y rfl rfl (Or.inl (by omega))).trans ?_
  by_cases h640 : 640 ≤ (y 0).val
  · exact (View.read_writes_cons_rows_of_mem (o := 640) v f _ _ _ y (ix2 (n0 := 128) (n1 := 2048) ⟨(y 0).val - 640, by omega⟩ (y 1)) rfl
      (by show (y 0).val = 640 + ((y 0).val - 640); omega) rfl).trans
      (strip1 _ x _ y (by show (y 0).val = 640 + ((y 0).val - 640); omega) rfl)
  refine (View.read_writes_cons_rows_of_not_mem (o := 640) (W := 128) v f _ _ _ y rfl rfl (Or.inl (by omega))).trans ?_
  by_cases h512 : 512 ≤ (y 0).val
  · exact (View.read_writes_cons_rows_of_mem (o := 512) v f _ _ _ y (ix2 (n0 := 128) (n1 := 2048) ⟨(y 0).val - 512, by omega⟩ (y 1)) rfl
      (by show (y 0).val = 512 + ((y 0).val - 512); omega) rfl).trans
      (strip1 _ x _ y (by show (y 0).val = 512 + ((y 0).val - 512); omega) rfl)
  refine (View.read_writes_cons_rows_of_not_mem (o := 512) (W := 128) v f _ _ _ y rfl rfl (Or.inl (by omega))).trans ?_
  by_cases h384 : 384 ≤ (y 0).val
  · exact (View.read_writes_cons_rows_of_mem (o := 384) v f _ _ _ y (ix2 (n0 := 128) (n1 := 2048) ⟨(y 0).val - 384, by omega⟩ (y 1)) rfl
      (by show (y 0).val = 384 + ((y 0).val - 384); omega) rfl).trans
      (strip1 _ x _ y (by show (y 0).val = 384 + ((y 0).val - 384); omega) rfl)
  refine (View.read_writes_cons_rows_of_not_mem (o := 384) (W := 128) v f _ _ _ y rfl rfl (Or.inl (by omega))).trans ?_
  by_cases h256 : 256 ≤ (y 0).val
  · exact (View.read_writes_cons_rows_of_mem (o := 256) v f _ _ _ y (ix2 (n0 := 128) (n1 := 2048) ⟨(y 0).val - 256, by omega⟩ (y 1)) rfl
      (by show (y 0).val = 256 + ((y 0).val - 256); omega) rfl).trans
      (strip1 _ x _ y (by show (y 0).val = 256 + ((y 0).val - 256); omega) rfl)
  refine (View.read_writes_cons_rows_of_not_mem (o := 256) (W := 128) v f _ _ _ y rfl rfl (Or.inl (by omega))).trans ?_
  by_cases h128 : 128 ≤ (y 0).val
  · exact (View.read_writes_cons_rows_of_mem (o := 128) v f _ _ _ y (ix2 (n0 := 128) (n1 := 2048) ⟨(y 0).val - 128, by omega⟩ (y 1)) rfl
      (by show (y 0).val = 128 + ((y 0).val - 128); omega) rfl).trans
      (strip1 _ x _ y (by show (y 0).val = 128 + ((y 0).val - 128); omega) rfl)
  refine (View.read_writes_cons_rows_of_not_mem (o := 128) (W := 128) v f _ _ _ y rfl rfl (Or.inl (by omega))).trans ?_
  by_cases h0 : 0 ≤ (y 0).val
  · exact (View.read_writes_cons_rows_of_mem (o := 0) v f _ _ _ y (ix2 (n0 := 128) (n1 := 2048) ⟨(y 0).val - 0, by omega⟩ (y 1)) rfl
      (by show (y 0).val = 0 + ((y 0).val - 0); omega) rfl).trans
      (strip1 _ x _ y (by show (y 0).val = 0 + ((y 0).val - 0); omega) rfl)
  refine (View.read_writes_cons_rows_of_not_mem (o := 0) (W := 128) v f _ _ _ y rfl rfl (Or.inl (by omega))).trans ?_
  exact absurd (Nat.zero_le _) h0

theorem read_fill2 {κ : Kind} {sp : Space} (v : View sig κ sp S1024x1024 .bf16) (f : v.ty.Contents (Elt F)) (x : Vec F S1x1024x1024 .f32) :
    v.read (Elt F) (v.writes (Elt F) f
      [⟨Rect.unit (s := S1024x1024) ![896, 0] S128x1024.size inb_S1024x1024_S128x1024_896_0, k0_pay1 (fun w => x ((Rect.unit (s := S1x1024x1024) ![0, 896, 0] S1x128x1024.size inb_S1x1024x1024_S1x128x1024_0_896_0).toLoadRect.idx w))⟩,
        ⟨Rect.unit (s := S1024x1024) ![768, 0] S128x1024.size inb_S1024x1024_S128x1024_768_0, k0_pay21 (fun w => x ((Rect.unit (s := S1x1024x1024) ![0, 768, 0] S1x128x1024.size inb_S1x1024x1024_S1x128x1024_0_768_0).toLoadRect.idx w))⟩,
        ⟨Rect.unit (s := S1024x1024) ![640, 0] S128x1024.size inb_S1024x1024_S128x1024_640_0, k0_pay20 (fun w => x ((Rect.unit (s := S1x1024x1024) ![0, 640, 0] S1x128x1024.size inb_S1x1024x1024_S1x128x1024_0_640_0).toLoadRect.idx w))⟩,
        ⟨Rect.unit (s := S1024x1024) ![512, 0] S128x1024.size inb_S1024x1024_S128x1024_512_0, k0_pay19 (fun w => x ((Rect.unit (s := S1x1024x1024) ![0, 512, 0] S1x128x1024.size inb_S1x1024x1024_S1x128x1024_0_512_0).toLoadRect.idx w))⟩,
        ⟨Rect.unit (s := S1024x1024) ![384, 0] S128x1024.size inb_S1024x1024_S128x1024_384_0, k0_pay18 (fun w => x ((Rect.unit (s := S1x1024x1024) ![0, 384, 0] S1x128x1024.size inb_S1x1024x1024_S1x128x1024_0_384_0).toLoadRect.idx w))⟩,
        ⟨Rect.unit (s := S1024x1024) ![256, 0] S128x1024.size inb_S1024x1024_S128x1024_256_0, k0_pay17 (fun w => x ((Rect.unit (s := S1x1024x1024) ![0, 256, 0] S1x128x1024.size inb_S1x1024x1024_S1x128x1024_0_256_0).toLoadRect.idx w))⟩,
        ⟨Rect.unit (s := S1024x1024) ![128, 0] S128x1024.size inb_S1024x1024_S128x1024_128_0, k0_pay16 (fun w => x ((Rect.unit (s := S1x1024x1024) ![0, 128, 0] S1x128x1024.size inb_S1x1024x1024_S1x128x1024_0_128_0).toLoadRect.idx w))⟩,
        ⟨Rect.unit (s := S1024x1024) ![0, 0] S128x1024.size inb_S1024x1024_S128x1024_0_0, k0_pay15 (fun w => x ((Rect.unit (s := S1x1024x1024) ![0, 0, 0] S1x128x1024.size inb_S1x1024x1024_S1x128x1024_0_0_0).toLoadRect.idx w))⟩]) = cast2 x := by
  funext y
  have h1024 : (y 0).val < 1024 := (y 0).isLt
  by_cases h896 : 896 ≤ (y 0).val
  · exact (View.read_writes_cons_rows_of_mem (o := 896) v f _ _ _ y (ix2 (n0 := 128) (n1 := 1024) ⟨(y 0).val - 896, by omega⟩ (y 1)) rfl
      (by show (y 0).val = 896 + ((y 0).val - 896); omega) rfl).trans
      (strip2 _ x _ y (by show (y 0).val = 896 + ((y 0).val - 896); omega) rfl)
  refine (View.read_writes_cons_rows_of_not_mem (o := 896) (W := 128) v f _ _ _ y rfl rfl (Or.inl (by omega))).trans ?_
  by_cases h768 : 768 ≤ (y 0).val
  · exact (View.read_writes_cons_rows_of_mem (o := 768) v f _ _ _ y (ix2 (n0 := 128) (n1 := 1024) ⟨(y 0).val - 768, by omega⟩ (y 1)) rfl
      (by show (y 0).val = 768 + ((y 0).val - 768); omega) rfl).trans
      (strip2 _ x _ y (by show (y 0).val = 768 + ((y 0).val - 768); omega) rfl)
  refine (View.read_writes_cons_rows_of_not_mem (o := 768) (W := 128) v f _ _ _ y rfl rfl (Or.inl (by omega))).trans ?_
  by_cases h640 : 640 ≤ (y 0).val
  · exact (View.read_writes_cons_rows_of_mem (o := 640) v f _ _ _ y (ix2 (n0 := 128) (n1 := 1024) ⟨(y 0).val - 640, by omega⟩ (y 1)) rfl
      (by show (y 0).val = 640 + ((y 0).val - 640); omega) rfl).trans
      (strip2 _ x _ y (by show (y 0).val = 640 + ((y 0).val - 640); omega) rfl)
  refine (View.read_writes_cons_rows_of_not_mem (o := 640) (W := 128) v f _ _ _ y rfl rfl (Or.inl (by omega))).trans ?_
  by_cases h512 : 512 ≤ (y 0).val
  · exact (View.read_writes_cons_rows_of_mem (o := 512) v f _ _ _ y (ix2 (n0 := 128) (n1 := 1024) ⟨(y 0).val - 512, by omega⟩ (y 1)) rfl
      (by show (y 0).val = 512 + ((y 0).val - 512); omega) rfl).trans
      (strip2 _ x _ y (by show (y 0).val = 512 + ((y 0).val - 512); omega) rfl)
  refine (View.read_writes_cons_rows_of_not_mem (o := 512) (W := 128) v f _ _ _ y rfl rfl (Or.inl (by omega))).trans ?_
  by_cases h384 : 384 ≤ (y 0).val
  · exact (View.read_writes_cons_rows_of_mem (o := 384) v f _ _ _ y (ix2 (n0 := 128) (n1 := 1024) ⟨(y 0).val - 384, by omega⟩ (y 1)) rfl
      (by show (y 0).val = 384 + ((y 0).val - 384); omega) rfl).trans
      (strip2 _ x _ y (by show (y 0).val = 384 + ((y 0).val - 384); omega) rfl)
  refine (View.read_writes_cons_rows_of_not_mem (o := 384) (W := 128) v f _ _ _ y rfl rfl (Or.inl (by omega))).trans ?_
  by_cases h256 : 256 ≤ (y 0).val
  · exact (View.read_writes_cons_rows_of_mem (o := 256) v f _ _ _ y (ix2 (n0 := 128) (n1 := 1024) ⟨(y 0).val - 256, by omega⟩ (y 1)) rfl
      (by show (y 0).val = 256 + ((y 0).val - 256); omega) rfl).trans
      (strip2 _ x _ y (by show (y 0).val = 256 + ((y 0).val - 256); omega) rfl)
  refine (View.read_writes_cons_rows_of_not_mem (o := 256) (W := 128) v f _ _ _ y rfl rfl (Or.inl (by omega))).trans ?_
  by_cases h128 : 128 ≤ (y 0).val
  · exact (View.read_writes_cons_rows_of_mem (o := 128) v f _ _ _ y (ix2 (n0 := 128) (n1 := 1024) ⟨(y 0).val - 128, by omega⟩ (y 1)) rfl
      (by show (y 0).val = 128 + ((y 0).val - 128); omega) rfl).trans
      (strip2 _ x _ y (by show (y 0).val = 128 + ((y 0).val - 128); omega) rfl)
  refine (View.read_writes_cons_rows_of_not_mem (o := 128) (W := 128) v f _ _ _ y rfl rfl (Or.inl (by omega))).trans ?_
  by_cases h0 : 0 ≤ (y 0).val
  · exact (View.read_writes_cons_rows_of_mem (o := 0) v f _ _ _ y (ix2 (n0 := 128) (n1 := 1024) ⟨(y 0).val - 0, by omega⟩ (y 1)) rfl
      (by show (y 0).val = 0 + ((y 0).val - 0); omega) rfl).trans
      (strip2 _ x _ y (by show (y 0).val = 0 + ((y 0).val - 0); omega) rfl)
  refine (View.read_writes_cons_rows_of_not_mem (o := 0) (W := 128) v f _ _ _ y rfl rfl (Or.inl (by omega))).trans ?_
  exact absurd (Nat.zero_le _) h0

section Run

variable (c : Dev nD) (i : grid0.Coords)
variable (arg1 : Memref sig .tc .smem S288 .i32) (harg1 : arg1.IsWhole)
  (arg2 : Memref sig .tc .smem S1 .i32) (harg2 : arg2.IsWhole)
  (arg3 : Memref sig .tc .vmem S512x256 .i32) (harg3 : arg3.IsWhole)
  (arg4 : Memref sig .tc .vmem S512x256 .i32) (harg4 : arg4.IsWhole)
  (arg5 : Memref sig .tc .vmem S1x1024x2048 .f32) (harg5 : arg5.IsWhole)
  (arg6 : Memref sig .tc .vmem S1x1x2048 .f32) (harg6 : arg6.IsWhole)
  (arg7 : Memref sig .tc .vmem S1x1024x1024 .f32) (harg7 : arg7.IsWhole)
  (arg8 : Memref sig .tc .vmem S1x1x1024 .f32) (harg8 : arg8.IsWhole)
  (arg9 : Memref sig .tc .vmem S512x512 .bf16) (harg9 : arg9.IsWhole)
  (arg10 : Memref sig .tc .vmem S512x512 .bf16) (harg10 : arg10.IsWhole)
  (arg11 : Memref sig .tc .vmem S1024x2048 .bf16) (harg11 : arg11.IsWhole)
  (arg12 : Memref sig .tc .vmem S1024x1024 .bf16) (harg12 : arg12.IsWhole)

/-- What the body holds of its buffers. -/
def Held (q1 q2 : PosShare TreeShare) (be : Vec F S288 .i32) (n : Vec F S1 .i32) (x3 x4 : Vec F S512x256 .i32)
    (x5 : Vec F S1x1024x2048 .f32) (x6 : Vec F S1x1x2048 .f32) (x7 : Vec F S1x1024x1024 .f32) (x8 : Vec F S1x1x1024 .f32)
    (x9 x10 : Vec F S512x512 .bf16) (x11 : Vec F S1024x2048 .bf16) (x12 : Vec F S1024x1024 .bf16) : sProp 𝕄 :=
  iprop(owns (c : Thread nD τ) arg1 q1 be ∗ owns (c : Thread nD τ) arg2 q2 n
    ∗ owns (c : Thread nD τ) arg3 fullShare x3 ∗ owns (c : Thread nD τ) arg4 fullShare x4
    ∗ owns (c : Thread nD τ) arg5 fullShare x5 ∗ owns (c : Thread nD τ) arg6 fullShare x6
    ∗ owns (c : Thread nD τ) arg7 fullShare x7 ∗ owns (c : Thread nD τ) arg8 fullShare x8
    ∗ owns (c : Thread nD τ) arg9 fullShare x9 ∗ owns (c : Thread nD τ) arg10 fullShare x10
    ∗ owns (c : Thread nD τ) arg11 fullShare x11 ∗ owns (c : Thread nD τ) arg12 fullShare x12)

omit arg1 arg2 arg3 arg4 arg5 arg6 arg7 arg8 arg9 arg10 arg11 arg12 in
/-- A buffer whose contents read `X` is the buffer at `X`. -/
theorem rep_of_read {sp : Space} {sh : Shape} {e : EltTy} (m : Memref sig .tc sp sh e) (q : PosShare TreeShare)
    (f : Buf (Elt F) (m.view.loc (c : Thread nD τ))) (X : Vec F sh e) :
    (m.view.loc (c : Thread nD τ) ↦[m.view.set]{q} f)
      ⊢ (iprop(⌜m.view.read (Elt F) f = X⌝ -∗ (m.view.loc (c : Thread nD τ) ↦[m.view.set]{q} m.view.rep (Val := Elt F) X)) : sProp 𝕄) := by
  rw [← owns_eq_rep]
  unfold owns
  iintro H %h
  iexists f
  isplitr
  · ipureintro; exact h
  iexact H

omit arg1 arg2 arg3 arg4 arg5 arg6 arg7 arg8 arg9 arg10 arg11 arg12 c in
theorem readAt_of_read {κ : Kind} {sp : Space} {sh : Shape} {e : EltTy} (v : View sig κ sp sh e) (r : LoadRect sh)
    (f : v.ty.Contents (Elt F)) (X : Vec F sh e) (h : v.read (Elt F) f = X) : v.readAt (Elt F) r f = fun y => X (r.idx y) := by
  funext y; rw [View.readAt_apply, h]

/-- The body at one point, from what it holds to what it leaves. -/
theorem body_run (q1 q2 : PosShare TreeShare) (be : Vec F S288 .i32) (n : Vec F S1 .i32) (x3 x4 : Vec F S512x256 .i32)
    (x5 : Vec F S1x1024x2048 .f32) (x6 : Vec F S1x1x2048 .f32) (x7 : Vec F S1x1024x1024 .f32) (x8 : Vec F S1x1x1024 .f32)
    (x9 x10 : Vec F S512x512 .bf16) (x11 : Vec F S1024x2048 .bf16) (x12 : Vec F S1024x1024 .bf16) (K : PUnit → sProp 𝕄) :
    iprop(Held c arg1 arg2 arg3 arg4 arg5 arg6 arg7 arg8 arg9 arg10 arg11 arg12 q1 q2 be n x3 x4 x5 x6 x7 x8 x9 x10 x11 x12
      ∗ (Held c arg1 arg2 arg3 arg4 arg5 arg6 arg7 arg8 arg9 arg10 arg11 arg12 q1 q2 be n x3 x4 x5 x6 x7 x8
          (o9Of i (word1 n) x3 x4 (w1Of i be n x5 x11) x6 (w2Of i be n x7 x12) x8 x9)
          (o10Of i (word1 n) x3 x4 (w1Of i be n x5 x11) x6 (w2Of i be n x7 x12) x8 x10)
          (w1Of i be n x5 x11) (w2Of i be n x7 x12) -∗ K ⟨⟩))
      ⊢ wp frame (wpE (defs₀ (F := F)) 𝒱₀ (c : Thread nD τ) none) Set.univ
          (cc0__expert_kernel i arg1 harg1 arg2 harg2 arg3 harg3 arg4 harg4 arg5 harg5 arg6 harg6 arg7 harg7 arg8 harg8
            arg9 harg9 arg10 harg10 arg11 harg11 arg12 harg12) K := by
  unfold Held
  simp only [owns_eq_rep]
  iintro ⟨⟨H1, H2, H3, H4, H5, H6, H7, H8, H9, H10, H11, H12⟩, Hk⟩
  sl_unfold [cc0__expert_kernel]
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · ihave H := (rep_of_read c arg9 fullShare _ _) $$ H9
    iapply H
    ipureintro
    sl_unfold_run_names
    simp only [View.readAt_rep_full arg3.view x3, View.readAt_rep_full arg4.view x4, View.readAt_rep_full arg8.view x8]
    simp only [View.readAt_rep]
    split
    · next h3 =>
      have hf : k0_cond3 i (word1 n) = 1#1 := h3
      rw [o9Of, if_pos hf]
      exact View.read_writes_full arg9.view _ _ _ _
    next h3 =>
    have hf3 : ¬k0_cond3 i (word1 n) = 1#1 := h3
    rw [o9Of, if_neg hf3]
    split
    · next h2 =>
      have hf2 : k0_cond2 i (word1 n) = 1#1 := h2
      refine (View.read_writes_full arg9.view _ _ _ _).trans ?_
      split
      · next h =>
        have hf : Fill i be n := h
        simp only [w1Of, w2Of, if_pos hf]
        refine congrArg (fun a => k0_pay3 a (k0_pay28 x8)) (acc_of x3 x4 (cast1 x5) x6 (cast2 x7) _ _ _ _ _ _ ?_ ?_ ?_ ?_ ?_ ?_)
        all_goals first
          | exact readAt_of_read arg11.view _ _ _ (read_fill1 arg11.view (arg11.view.rep x11) x5)
          | exact readAt_of_read arg12.view _ _ _ (read_fill2 arg12.view (arg12.view.rep x12) x7)
      next h =>
      have hf : ¬Fill i be n := h
      simp only [View.readAt_rep]
      simp only [w1Of, w2Of, if_neg hf]
      rfl
    next h2 =>
    have hf2 : ¬k0_cond2 i (word1 n) = 1#1 := h2
    try rw [if_neg hf2]
    exact View.read_rep _ _
  isplitl [H10]
  · ihave H := (rep_of_read c arg10 fullShare _ _) $$ H10
    iapply H
    ipureintro
    sl_unfold_run_names
    simp only [View.readAt_rep_full arg3.view x3, View.readAt_rep_full arg4.view x4, View.readAt_rep_full arg8.view x8]
    simp only [View.readAt_rep]
    split
    · next h3 =>
      have hf : k0_cond3 i (word1 n) = 1#1 := h3
      rw [o10Of, if_pos hf]
      exact View.read_writes_full arg10.view _ _ _ _
    next h3 =>
    have hf3 : ¬k0_cond3 i (word1 n) = 1#1 := h3
    rw [o10Of, if_neg hf3]
    split
    · next h2 =>
      have hf2 : k0_cond2 i (word1 n) = 1#1 := h2
      refine (View.read_writes_full arg10.view _ _ _ _).trans ?_
      split
      · next h =>
        have hf : Fill i be n := h
        simp only [w1Of, w2Of, if_pos hf]
        refine congrArg (fun a => k0_pay4 a (k0_pay28 x8)) (acc_of x3 x4 (cast1 x5) x6 (cast2 x7) _ _ _ _ _ _ ?_ ?_ ?_ ?_ ?_ ?_)
        all_goals first
          | exact readAt_of_read arg11.view _ _ _ (read_fill1 arg11.view (arg11.view.rep x11) x5)
          | exact readAt_of_read arg12.view _ _ _ (read_fill2 arg12.view (arg12.view.rep x12) x7)
      next h =>
      have hf : ¬Fill i be n := h
      simp only [View.readAt_rep]
      simp only [w1Of, w2Of, if_neg hf]
      rfl
    next h2 =>
    have hf2 : ¬k0_cond2 i (word1 n) = 1#1 := h2
    try rw [if_neg hf2]
    exact View.read_rep _ _
  isplitl [H11]
  · ihave H := (rep_of_read c arg11 fullShare _ _) $$ H11
    iapply H
    ipureintro
    sl_unfold_run_names
    simp only [View.readAt_rep]
    split
    · next h =>
      have hf : Fill i be n := h
      rw [w1Of, if_pos hf]
      exact read_fill1 arg11.view _ x5
    next h =>
      have hf : ¬Fill i be n := h
      rw [w1Of, if_neg hf]
      exact View.read_rep _ _
  ihave H := (rep_of_read c arg12 fullShare _ _) $$ H12
  iapply H
  ipureintro
  sl_unfold_run_names
  simp only [View.readAt_rep]
  split
  · next h =>
    have hf : Fill i be n := h
    rw [w2Of, if_pos hf]
    exact read_fill2 arg12.view _ x7
  next h =>
    have hf : ¬Fill i be n := h
    rw [w2Of, if_neg hf]
    exact View.read_rep _ _

end Run

end Cert.Proof.LastExperts
-- ==== Proof.LxData.lean ====
/-
  The last layer's experts' launch: what its tables, windows and scratch hold at each grid point.
-/
module

public import proofs.«01_k».proof.Proof.LxBody
public import Idealize.ShloMosaic.Lib.StableHlo.Run

@[expose] public section

noncomputable section

namespace Cert.Proof.LastExperts

open Cert.Kernel4Ideal Cert.Kernel4Ideal.Gen
open Idealize.ShloMosaic Idealize.ShloMosaic.TcCoe Idealize.ShloMosaic.ValueIdx
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig Unit (Elt F) ℕ (UR sig nD τ) ℕ

/-! ## A window the body only reads -/

section Held

variable {cfg : Cfg sig Λ₀} {c : Dev nD} (dat : Dat τ (Elt F) Unit ℕ (UR sig nD τ) ℕ cfg c)

/-- Fetched or not at a point, the window's buffer holds the point's block. -/
theorem heldIn_fetched (w : Fin cfg.W) (hw : (cfg.win w).isOut = false)
    (hclip : ∀ (i : cfg.grid.Coords) a, (cfg.win w).clip i a = none) :
    ∀ (n : ℕ) (h : n < cfg.N), heldIn cfg dat.A w n h = dat.fetched w ⟨n, h⟩ (fun _ => Classical.arbitrary _)
  | 0, h => rfl
  | n + 1, h => by
    by_cases hf : (cfg.win w).fetch ⟨n + 1, h⟩ = true
    · exact heldIn_of_fetch dat.A w ⟨n + 1, h⟩ hf
    · have hf' := Bool.eq_false_iff.mpr hf
      have hidx : (cfg.win w).index ⟨n + 1, h⟩ = (cfg.win w).index ⟨n, Nat.lt_of_succ_lt h⟩ := by
        by_contra hne
        exact hf (((cfg.win w).fetch_in hw ⟨n + 1, h⟩).mpr (.inr ⟨Nat.succ_pos n, hne⟩))
      rw [heldIn_of_not_fetch dat.A w n h hf', heldIn_fetched w hw hclip n]
      exact (dat.fetched_congr w hidx (by funext a; rw [hclip, hclip]) _).symm

/-- Two points with one block index hold one block. -/
theorem heldIn_congr (w : Fin cfg.W) (hw : (cfg.win w).isOut = false)
    (hclip : ∀ (i : cfg.grid.Coords) a, (cfg.win w).clip i a = none) (t t' : Fin cfg.N)
    (h : (cfg.win w).index t = (cfg.win w).index t') :
    heldIn cfg dat.A w t.val t.isLt = heldIn cfg dat.A w t'.val t'.isLt := by
  rw [heldIn_fetched dat w hw hclip, heldIn_fetched dat w hw hclip]
  exact dat.fetched_congr w h (by funext a; rw [hclip, hclip]) _

end Held

variable (m : (ℓ : Loc nD τ sig) → Buf (Elt F) ℓ)

/-- The arrays the call finds. -/
def V (c : Dev nD) (b : Ref sig .tc) : Buf (Elt F) ((c.tc : Thread nD τ).loc b) :=
  StableHlo.after hostOps0 (fun b => m (c, b)) (Proc.devRef .tc b)

/-- A reference no reshape writes is found as launched. -/
theorem V_kept (c : Dev nD) (b : Ref sig .tc) (h0 : b ≠ main_v0) (h1 : b ≠ main_v1) (h2 : b ≠ main_v2) (h3 : b ≠ main_v3) :
    V m c b = m ((c.tc : Thread nD τ).loc b) := by
  unfold V
  refine StableHlo.after_of_forall_not_mem (b := Proc.devRef .tc b) _ _ (List.forall_iff_forall_mem.mp ?_)
  simp only [List.Forall]
  refine ⟨?_, ?_, ?_, ?_⟩
  · exact fun hm => StableHlo.devRef_ne_of_ne h0 (Finset.mem_singleton.mp hm)
  · exact fun hm => StableHlo.devRef_ne_of_ne h1 (Finset.mem_singleton.mp hm)
  · exact fun hm => StableHlo.devRef_ne_of_ne h2 (Finset.mem_singleton.mp hm)
  · exact fun hm => StableHlo.devRef_ne_of_ne h3 (Finset.mem_singleton.mp hm)

/-- The tables' words. -/
def tab : pre0.Contents (Elt F) := fun k => V m 0 (pre0.ref k)

/-- Every row of the first table names one of the 32 experts. -/
def PreOK : Prop := ∀ j : S288.Idx, ((tab m 0 : Vec F S288 .i32) j : BitVec 32).toNat < 32

theorem slab_lt (x : BitVec 32) (h : x.toNat < 32) : (Scalar.addi (96#32) x : BitVec 32).toNat + 1 ≤ 128 := by
  show ((96#32 : BitVec 32) + x).toNat + 1 ≤ 128
  rw [BitVec.toNat_add]
  simp only [BitVec.toNat_ofNat]
  omega

theorem blk_in (z b c : ℕ) (h : z + 1 ≤ 128) :
    ∀ a : Fin 3, ((![z, 0, 0] : Fin 3 → ℕ) a + 1) * (![1, b, c] : Fin 3 → ℕ) a ≤ (![128, b, c] : Fin 3 → ℕ) a := by
  intro a
  fin_cases a
  · simpa using h
  · simp
  · simp

/-- A block of one expert of the layer is inside the stack. -/
theorem ok_tab (h : PreOK m) : ok0 (tab m) :=
  ⟨fun i => ⟨blk_in _ 1024 2048 (slab_lt _ (h _)), .inl rfl⟩, fun i => ⟨blk_in _ 1 2048 (slab_lt _ (h _)), .inl rfl⟩,
   fun i => ⟨blk_in _ 1024 1024 (slab_lt _ (h _)), .inl rfl⟩, fun i => ⟨blk_in _ 1 1024 (slab_lt _ (h _)), .inl rfl⟩⟩

variable (hok : PreOK m)

/-- The tables as the launch admits them. -/
def adm : (p : Fin 1) → (pcfgs (F := F) p).Adm := fun _ => ⟨tab m, ok_tab m hok⟩

/-- The launch at its tables. -/
abbrev cfgE : Cfg sig Λ₀ := cfg0 (adm m hok 0)

/-- The arrays under the windows. -/
abbrev arrs (c : Dev nD) (w : Fin 8) : Buf (Elt F) (((cfgE m hok).win w).arr.view.loc (c.tc : Thread nD τ)) :=
  V m c (arrRef (cfgE m hok).spec w)

/-- The count's word. -/
abbrev used : BitVec 32 := word1 (tab m 1 : Vec F S1 .i32)

abbrev hw0 (c : Dev nD) (t : Fin (cfgE m hok).N) : Vec F S512x256 .i32 := heldIn (cfgE m hok) (arrs m hok c) 0 t.val t.isLt
abbrev hw1 (c : Dev nD) (t : Fin (cfgE m hok).N) : Vec F S512x256 .i32 := heldIn (cfgE m hok) (arrs m hok c) 1 t.val t.isLt
abbrev hw2 (c : Dev nD) (t : Fin (cfgE m hok).N) : Vec F S1x1024x2048 .f32 := heldIn (cfgE m hok) (arrs m hok c) 2 t.val t.isLt
abbrev hw3 (c : Dev nD) (t : Fin (cfgE m hok).N) : Vec F S1x1x2048 .f32 := heldIn (cfgE m hok) (arrs m hok c) 3 t.val t.isLt
abbrev hw4 (c : Dev nD) (t : Fin (cfgE m hok).N) : Vec F S1x1024x1024 .f32 := heldIn (cfgE m hok) (arrs m hok c) 4 t.val t.isLt
abbrev hw5 (c : Dev nD) (t : Fin (cfgE m hok).N) : Vec F S1x1x1024 .f32 := heldIn (cfgE m hok) (arrs m hok c) 5 t.val t.isLt

/-- The first result's block at a point. -/
def out6 (c : Dev nD) (t : Fin (cfgE m hok).N) : Vec F S512x512 .bf16 :=
  o9Of (grid0.coords t) (used m) (hw0 m hok c t) (hw1 m hok c t) (cast1 (hw2 m hok c t)) (hw3 m hok c t) (cast2 (hw4 m hok c t)) (hw5 m hok c t) k0_pay5
/-- The second result's block at a point. -/
def out7 (c : Dev nD) (t : Fin (cfgE m hok).N) : Vec F S512x512 .bf16 :=
  o10Of (grid0.coords t) (used m) (hw0 m hok c t) (hw1 m hok c t) (cast1 (hw2 m hok c t)) (hw3 m hok c t) (cast2 (hw4 m hok c t)) (hw5 m hok c t) k0_pay6

/-- The scratch after `k` points: where the last of them was a used one, its expert's rounded matrices. -/
def Good (c : Dev nD) (k : ℕ) (x11 : Vec F S1024x2048 .bf16) (x12 : Vec F S1024x1024 .bf16) : Prop :=
  ∀ t : Fin (cfgE m hok).N, t.val + 1 = k → k0_cond2 (grid0.coords t) (used m) = 1#1 →
    x11 = cast1 (hw2 m hok c t) ∧ x12 = cast2 (hw4 m hok c t)

/-- What the body holds between points. -/
def PhiS (c : Dev nD) (k : ℕ) (_ : k ≤ (cfgE m hok).N) : sProp 𝕄 :=
  iprop(owns (c : Thread nD τ) (Memref.whole main_arg2) fullShare.right (tab m 0 : Vec F S288 .i32)
    ∗ owns (c : Thread nD τ) (Memref.whole main_arg3) fullShare.right (tab m 1 : Vec F S1 .i32)
    ∗ (∃ x11 x12, ⌜Good m hok c k x11 x12⌝ ∗ owns (c : Thread nD τ) (Memref.whole cc0_scratch0) fullShare x11
        ∗ owns (c : Thread nD τ) (Memref.whole cc0_scratch1) fullShare x12)
    ∗ ∃ r, prngReg c r)

/-- The launch's data. -/
def dats (p : Fin 1) (c : Dev nD) : Dat τ (Elt F) Unit ℕ (UR sig nD τ) ℕ (pin (pcfgs (F := F)) (adm m hok) p) c where
  A w := V m c (arrRef (cfgE m hok).spec w)
  after w t := match w with
    | ⟨0, _⟩ => hw0 m hok c t
    | ⟨1, _⟩ => hw1 m hok c t
    | ⟨2, _⟩ => hw2 m hok c t
    | ⟨3, _⟩ => hw3 m hok c t
    | ⟨4, _⟩ => hw4 m hok c t
    | ⟨5, _⟩ => hw5 m hok c t
    | ⟨6, _⟩ => out6 m hok c t
    | ⟨7, _⟩ => out7 m hok c t
    | ⟨_ + 8, h⟩ => absurd h (Nat.not_lt.2 (Nat.le_add_left _ _))
  Φ t := PhiS m hok c t.val (Nat.le_of_lt_succ t.isLt)
  q _ := fullShare
  owed _ := 0

theorem A_eq (c : Dev nD) (w : Fin (cfgE m hok).W) : (dats m hok 0 c).A w = V m c (arrRef (cfgE m hok).spec w) := by
  dsimp only [dats]

theorem after_0 (c : Dev nD) (t : Fin (cfgE m hok).N) : (dats m hok 0 c).after 0 t = hw0 m hok c t := by dsimp only [dats]; rfl
theorem after_1 (c : Dev nD) (t : Fin (cfgE m hok).N) : (dats m hok 0 c).after 1 t = hw1 m hok c t := by dsimp only [dats]; rfl
theorem after_2 (c : Dev nD) (t : Fin (cfgE m hok).N) : (dats m hok 0 c).after 2 t = hw2 m hok c t := by dsimp only [dats]; rfl
theorem after_3 (c : Dev nD) (t : Fin (cfgE m hok).N) : (dats m hok 0 c).after 3 t = hw3 m hok c t := by dsimp only [dats]; rfl
theorem after_4 (c : Dev nD) (t : Fin (cfgE m hok).N) : (dats m hok 0 c).after 4 t = hw4 m hok c t := by dsimp only [dats]; rfl
theorem after_5 (c : Dev nD) (t : Fin (cfgE m hok).N) : (dats m hok 0 c).after 5 t = hw5 m hok c t := by dsimp only [dats]; rfl
theorem after_6 (c : Dev nD) (t : Fin (cfgE m hok).N) : (dats m hok 0 c).after 6 t = out6 m hok c t := by dsimp only [dats]; rfl
theorem after_7 (c : Dev nD) (t : Fin (cfgE m hok).N) : (dats m hok 0 c).after 7 t = out7 m hok c t := by dsimp only [dats]; rfl

theorem before_0 (c : Dev nD) (t : Fin (cfgE m hok).N) (d) : (dats m hok 0 c).before 0 t d = hw0 m hok c t :=
  (dats m hok 0 c).before_eq_heldIn 0 rfl (fun _ => rfl) (fun _ _ => rfl) (after_0 m hok c) t d
theorem before_1 (c : Dev nD) (t : Fin (cfgE m hok).N) (d) : (dats m hok 0 c).before 1 t d = hw1 m hok c t :=
  (dats m hok 0 c).before_eq_heldIn 1 rfl (fun _ => rfl) (fun _ _ => rfl) (after_1 m hok c) t d
theorem before_2 (c : Dev nD) (t : Fin (cfgE m hok).N) (d) : (dats m hok 0 c).before 2 t d = hw2 m hok c t :=
  (dats m hok 0 c).before_eq_heldIn 2 rfl (fun _ => rfl) (fun _ _ => rfl) (after_2 m hok c) t d
theorem before_3 (c : Dev nD) (t : Fin (cfgE m hok).N) (d) : (dats m hok 0 c).before 3 t d = hw3 m hok c t :=
  (dats m hok 0 c).before_eq_heldIn 3 rfl (fun _ => rfl) (fun _ _ => rfl) (after_3 m hok c) t d
theorem before_4 (c : Dev nD) (t : Fin (cfgE m hok).N) (d) : (dats m hok 0 c).before 4 t d = hw4 m hok c t :=
  (dats m hok 0 c).before_eq_heldIn 4 rfl (fun _ => rfl) (fun _ _ => rfl) (after_4 m hok c) t d
theorem before_5 (c : Dev nD) (t : Fin (cfgE m hok).N) (d) : (dats m hok 0 c).before 5 t d = hw5 m hok c t :=
  (dats m hok 0 c).before_eq_heldIn 5 rfl (fun _ => rfl) (fun _ _ => rfl) (after_5 m hok c) t d

end Cert.Proof.LastExperts
-- ==== Proof.LxRun.lean ====
/-
  The last layer's experts' launch: the body at each grid point, and the program's run.
-/
module

public import proofs.«01_k».proof.Proof.LxData

@[expose] public section

noncomputable section

namespace Cert.Proof.LastExperts

open Cert.Kernel4Ideal Cert.Kernel4Ideal.Gen
open Idealize.ShloMosaic Idealize.ShloMosaic.TcCoe Idealize.ShloMosaic.ValueIdx
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig Unit (Elt F) ℕ (UR sig nD τ) ℕ

/-! ## The body's branches -/

theorem bit_iff (b : Bool) : Scalar.cmpi .ne (Scalar.extui (BitVec.ofBool b) : BitVec 32) 0#32 = 1#1 ↔ b = true := by
  cases b <;> decide

theorem cond2_iff (i : grid0.Coords) (v : BitVec 32) : k0_cond2 i v = 1#1 ↔ (BitVec.ofNat 32 (i 0).val).slt v = true :=
  bit_iff _

theorem cond3_iff (i : grid0.Coords) (v : BitVec 32) : k0_cond3 i v = 1#1 ↔ v.sle (BitVec.ofNat 32 (i 0).val) = true :=
  bit_iff _

theorem cond3_of_not (i : grid0.Coords) (v : BitVec 32) (h : ¬ k0_cond2 i v = 1#1) : k0_cond3 i v = 1#1 := by
  rw [cond2_iff] at h
  rw [cond3_iff]
  rw [BitVec.slt_iff_toInt_lt] at h
  rw [BitVec.sle_iff_toInt_le]
  omega

theorem cond2_pred (i i' : grid0.Coords) (v : BitVec 32) (hle : (i' 0).val ≤ (i 0).val) (h : k0_cond2 i v = 1#1) :
    k0_cond2 i' v = 1#1 := by
  rw [cond2_iff, BitVec.slt_iff_toInt_lt] at *
  have hi : (i 0).val < 288 := (i 0).isLt
  rw [BitVec.toInt_ofNat'] at *
  have e1 : ((i 0).val : ℤ).bmod (2 ^ 32) = (i 0).val := by rw [Int.bmod_eq_of_le] <;> omega
  have e2 : ((i' 0).val : ℤ).bmod (2 ^ 32) = (i' 0).val := by rw [Int.bmod_eq_of_le] <;> omega
  rw [e1] at h
  rw [e2]
  omega

/-- A used point that copies nothing is not the first, and its expert is the previous point's. -/
theorem same_of_not_fill (i : grid0.Coords) (be : Vec F S288 .i32) (n : Vec F S1 .i32) (h : ¬ Fill i be n)
    (h2 : k0_cond2 i (word1 n) = 1#1) :
    0 < (i 0).val ∧ wordAt be (k0_off1 i) (k0_off1_inb i) = wordAt be (k0_off2 i) (k0_off2_inb i) := by
  unfold Fill at h
  rw [cond2_iff] at h2
  have hi : (i 0).val < 288 := (i 0).isLt
  have hs : Scalar.cmpi .slt (BitVec.ofNat 32 (i 0).val) (word1 n) = BitVec.ofBool true := by
    show BitVec.ofBool _ = _
    rw [h2]
  rw [hs] at h
  constructor
  · by_contra h0
    have h0' : (i 0).val = 0 := by omega
    apply h
    have e : Scalar.cmpi .eq (BitVec.ofNat 32 (i 0).val) 0#32 = 1#1 := by rw [h0']; decide
    rw [e]
    generalize Scalar.cmpi .ne (wordAt be (k0_off1 i) (k0_off1_inb i)) (wordAt be (k0_off2 i) (k0_off2_inb i)) = z
    revert z; decide
  · by_contra hne
    apply h
    have e : Scalar.cmpi .ne (wordAt be (k0_off1 i) (k0_off1_inb i)) (wordAt be (k0_off2 i) (k0_off2_inb i)) = 1#1 := by
      show BitVec.ofBool (_ != _) = _
      rw [bne_iff_ne.mpr hne]; rfl
    rw [e]
    generalize Scalar.cmpi .eq (BitVec.ofNat 32 (i 0).val) 0#32 = z
    revert z; decide

variable (m : (ℓ : Loc nD τ sig) → Buf (Elt F) ℓ) (hok : PreOK m)

theorem coords_val (t : Fin (cfgE m hok).N) : (grid0.coords t 0).val = t.val := by
  have h : t.val < 288 := t.isLt
  show t.val / 1 % 288 = t.val
  omega

theorem idle_key (i : grid0.Coords) (v : BitVec 32) : (!(k0_cond2 i v == 1#1) && !(k0_cond3 i v == 1#1)) = false := by
  by_cases h : k0_cond2 i v = 1#1
  · rw [h]; rfl
  · rw [cond3_of_not i v h]; cases k0_cond2 i v == 1#1 <;> rfl

theorem idle_tab (pf : pre0.Contents (Elt F)) (w : Fin 8) (i : grid0.Coords) : idle0 pf w i = false := by
  match w with
  | 0 => rfl
  | 1 => rfl
  | 2 => rfl
  | 3 => rfl
  | 4 => rfl
  | 5 => rfl
  | 6 => exact idle_key i (pf.atD 1 ![0])
  | 7 => exact idle_key i (pf.atD 1 ![0])

theorem idle_false (w : Fin 8) (i : grid0.Coords) : (cfgE m hok).idle w i = false :=
  (show (cfgE m hok).idle w i = idle0 (tab m) w i from rfl).trans (idle_tab (tab m) w i)

/-- The expert stacks' block at a point is named by the point's word of the first table. -/
theorem index_2 (t : Fin (cfgE m hok).N) : ((cfgE m hok).win 2).index t
    = ![(Scalar.addi (96#32) (wordAt (tab m 0 : Vec F S288 .i32) (k0_off1 (grid0.coords t)) (k0_off1_inb _)) : BitVec 32).toNat, 0, 0] := rfl
theorem index_4 (t : Fin (cfgE m hok).N) : ((cfgE m hok).win 4).index t
    = ![(Scalar.addi (96#32) (wordAt (tab m 0 : Vec F S288 .i32) (k0_off1 (grid0.coords t)) (k0_off1_inb _)) : BitVec 32).toNat, 0, 0] := rfl

theorem word_congr (be : Vec F S288 .i32) (o o' : Fin 1 → ℕ) (h h') (e : o = o') : wordAt be o h = wordAt be o' h' := by
  subst e; rfl

theorem off1_eq (t : Fin (cfgE m hok).N) : k0_off1 (grid0.coords t) = ![t.val] := by
  have h : t.val < 288 := t.isLt
  have h0 := coords_val m hok t
  show ![(BitVec.ofNat 32 (grid0.coords t 0).val).toNat] = _
  rw [h0, BitVec.toNat_ofNat, Nat.mod_eq_of_lt (by omega)]

theorem off2_eq (t : Fin (cfgE m hok).N) (hp : 0 < t.val) : k0_off2 (grid0.coords t) = ![t.val - 1] := by
  have h : t.val < 288 := t.isLt
  have h0 := coords_val m hok t
  unfold k0_off2
  simp only [h0]
  generalize t.val = n at *
  have : ∀ n : Fin 288, 0 < n.val → (Scalar.indexCast (Scalar.maxsi (Scalar.subi (BitVec.ofNat 32 n.val) 1#32) 0#32) : Index).toNat = n.val - 1 := by decide
  exact congrArg (fun z => ![z]) (this ⟨n, h⟩ hp)

/-- The matrices the body multiplies by at a used point are the point's expert's. -/
theorem mats (c : Dev nD) (t : Fin (cfgE m hok).N) (x11 : Vec F S1024x2048 .bf16) (x12 : Vec F S1024x1024 .bf16)
    (hg : Good m hok c t.val x11 x12) (h2 : k0_cond2 (grid0.coords t) (used m) = 1#1) :
    w1Of (grid0.coords t) (tab m 0) (tab m 1) (hw2 m hok c t) x11 = cast1 (hw2 m hok c t)
      ∧ w2Of (grid0.coords t) (tab m 0) (tab m 1) (hw4 m hok c t) x12 = cast2 (hw4 m hok c t) := by
  unfold w1Of w2Of
  by_cases hf : Fill (grid0.coords t) (tab m 0) (tab m 1)
  · rw [if_pos hf, if_pos hf]; exact ⟨rfl, rfl⟩
  · rw [if_neg hf, if_neg hf]
    obtain ⟨hp, hw⟩ := same_of_not_fill _ _ _ hf h2
    rw [coords_val m hok t] at hp
    let t' : Fin (cfgE m hok).N := ⟨t.val - 1, by have := t.isLt; omega⟩
    have hc2 : k0_cond2 (grid0.coords t') (used m) = 1#1 := cond2_pred _ _ _ (by rw [coords_val m hok, coords_val m hok]; exact Nat.sub_le _ _) h2
    have hww : wordAt (tab m 0 : Vec F S288 .i32) (k0_off1 (grid0.coords t)) (k0_off1_inb _)
        = wordAt (tab m 0 : Vec F S288 .i32) (k0_off1 (grid0.coords t')) (k0_off1_inb _) :=
      hw.trans (word_congr _ _ _ _ _ ((off2_eq m hok t hp).trans (off1_eq m hok t').symm))
    obtain ⟨e1, e2⟩ := hg t' (by show t.val - 1 + 1 = t.val; omega) hc2
    have i2 : ((cfgE m hok).win 2).index t' = ((cfgE m hok).win 2).index t := by rw [index_2, index_2, hww]
    have i4 : ((cfgE m hok).win 4).index t' = ((cfgE m hok).win 4).index t := by rw [index_4, index_4, hww]
    exact ⟨e1.trans (congrArg cast1 (heldIn_congr (dats m hok 0 c) 2 rfl (fun _ _ => rfl) t' t i2)),
      e2.trans (congrArg cast2 (heldIn_congr (dats m hok 0 c) 4 rfl (fun _ _ => rfl) t' t i4))⟩

theorem good_succ (c : Dev nD) (t : Fin (cfgE m hok).N) (x11 : Vec F S1024x2048 .bf16) (x12 : Vec F S1024x1024 .bf16)
    (hg : Good m hok c t.val x11 x12) :
    Good m hok c (t.val + 1) (w1Of (grid0.coords t) (tab m 0) (tab m 1) (hw2 m hok c t) x11)
      (w2Of (grid0.coords t) (tab m 0) (tab m 1) (hw4 m hok c t) x12) := by
  intro t' ht' h2
  have e : t' = t := Fin.ext (Nat.succ.inj ht')
  subst e
  exact mats m hok c t' x11 x12 hg h2

theorem out6_eq (c : Dev nD) (t : Fin (cfgE m hok).N) (x11 : Vec F S1024x2048 .bf16) (x12 : Vec F S1024x1024 .bf16)
    (d : Vec F S512x512 .bf16) (hg : Good m hok c t.val x11 x12) :
    o9Of (grid0.coords t) (word1 (tab m 1 : Vec F S1 .i32)) (hw0 m hok c t) (hw1 m hok c t) (w1Of (grid0.coords t) (tab m 0) (tab m 1) (hw2 m hok c t) x11)
      (hw3 m hok c t) (w2Of (grid0.coords t) (tab m 0) (tab m 1) (hw4 m hok c t) x12) (hw5 m hok c t) d = out6 m hok c t := by
  unfold out6 o9Of
  by_cases h3 : k0_cond3 (grid0.coords t) (used m) = 1#1
  · rw [if_pos h3, if_pos h3]
  · have h2 : k0_cond2 (grid0.coords t) (used m) = 1#1 := by by_contra h; exact h3 (cond3_of_not _ _ h)
    rw [if_neg h3, if_neg h3, if_pos h2, if_pos h2, (mats m hok c t x11 x12 hg h2).1, (mats m hok c t x11 x12 hg h2).2]

theorem out7_eq (c : Dev nD) (t : Fin (cfgE m hok).N) (x11 : Vec F S1024x2048 .bf16) (x12 : Vec F S1024x1024 .bf16)
    (d : Vec F S512x512 .bf16) (hg : Good m hok c t.val x11 x12) :
    o10Of (grid0.coords t) (word1 (tab m 1 : Vec F S1 .i32)) (hw0 m hok c t) (hw1 m hok c t) (w1Of (grid0.coords t) (tab m 0) (tab m 1) (hw2 m hok c t) x11)
      (hw3 m hok c t) (w2Of (grid0.coords t) (tab m 0) (tab m 1) (hw4 m hok c t) x12) (hw5 m hok c t) d = out7 m hok c t := by
  unfold out7 o10Of
  by_cases h3 : k0_cond3 (grid0.coords t) (used m) = 1#1
  · rw [if_pos h3, if_pos h3]
  · have h2 : k0_cond2 (grid0.coords t) (used m) = 1#1 := by by_contra h; exact h3 (cond3_of_not _ _ h)
    rw [if_neg h3, if_neg h3, if_pos h2, if_pos h2, (mats m hok c t x11 x12 hg h2).1, (mats m hok c t x11 x12 hg h2).2]

/-! ## The body at a point -/

/-- A window's current buffer. -/
abbrev stg (t : Fin (cfgE m hok).N) (w : Fin (cfgE m hok).W) := ((cfgE m hok).win w).stage ((cfgE m hok).slots t w)

/-- What the body runs at a point. -/
def bodyAt (t : Fin (cfgE m hok).N) : Prog (TpuEff nD τ sig (Elt F) Λ₀ .tc) PUnit :=
  cc0__expert_kernel (grid0.coords t) (Memref.whole main_arg2) (Memref.isWhole_whole _) (Memref.whole main_arg3) (Memref.isWhole_whole _) (spec0_0.stage ((cfgE m hok).slots t 0)) (hstage0_0 (((cfgE m hok).slots t 0).cast nbuf0_0)) (spec0_1.stage ((cfgE m hok).slots t 1)) (hstage0_1 (((cfgE m hok).slots t 1).cast nbuf0_1)) (spec0_2.stage ((cfgE m hok).slots t 2)) (hstage0_2 (((cfgE m hok).slots t 2).cast nbuf0_2)) (spec0_3.stage ((cfgE m hok).slots t 3)) (hstage0_3 (((cfgE m hok).slots t 3).cast nbuf0_3)) (spec0_4.stage ((cfgE m hok).slots t 4)) (hstage0_4 (((cfgE m hok).slots t 4).cast nbuf0_4)) (spec0_5.stage ((cfgE m hok).slots t 5)) (hstage0_5 (((cfgE m hok).slots t 5).cast nbuf0_5)) (spec0_6.stage ((cfgE m hok).slots t 6)) (hstage0_6 (((cfgE m hok).slots t 6).cast nbuf0_6)) (spec0_7.stage ((cfgE m hok).slots t 7)) (hstage0_7 (((cfgE m hok).slots t 7).cast nbuf0_7)) (Memref.whole cc0_scratch0) (Memref.isWhole_whole _) (Memref.whole cc0_scratch1) (Memref.isWhole_whole _)

theorem row (t : Fin (cfgE m hok).N) :
    (defs₀ (F := F)) .tc (cfgE m hok).body ((cfgE m hok).bodyArgs t ((cfgE m hok).slots t)) = bodyAt m hok t := by
  unfold defs₀; rw [Defs.onTc_tc]; rfl

def bodyPre (c : Dev nD) (t : Fin (cfgE m hok).N) : sProp 𝕄 :=
  iprop((dats m hok 0 c).Φ t.castSucc ∗ (dats m hok 0 c).owesAt () t.castSucc
    ∗ (∃ d, owns (c : Thread nD τ) (stg m hok t 0) fullShare ((dats m hok 0 c).before 0 t d))
    ∗ (∃ d, owns (c : Thread nD τ) (stg m hok t 1) fullShare ((dats m hok 0 c).before 1 t d))
    ∗ (∃ d, owns (c : Thread nD τ) (stg m hok t 2) fullShare ((dats m hok 0 c).before 2 t d))
    ∗ (∃ d, owns (c : Thread nD τ) (stg m hok t 3) fullShare ((dats m hok 0 c).before 3 t d))
    ∗ (∃ d, owns (c : Thread nD τ) (stg m hok t 4) fullShare ((dats m hok 0 c).before 4 t d))
    ∗ (∃ d, owns (c : Thread nD τ) (stg m hok t 5) fullShare ((dats m hok 0 c).before 5 t d))
    ∗ (∃ d, owns (c : Thread nD τ) (stg m hok t 6) fullShare ((dats m hok 0 c).before 6 t d))
    ∗ (∃ d, owns (c : Thread nD τ) (stg m hok t 7) fullShare ((dats m hok 0 c).before 7 t d)))

def bodyPost (c : Dev nD) (t : Fin (cfgE m hok).N) : sProp 𝕄 :=
  iprop((dats m hok 0 c).Φ t.succ ∗ (dats m hok 0 c).owesAt () t.succ
    ∗ owns (c : Thread nD τ) (stg m hok t 0) fullShare ((dats m hok 0 c).after 0 t)
    ∗ owns (c : Thread nD τ) (stg m hok t 1) fullShare ((dats m hok 0 c).after 1 t)
    ∗ owns (c : Thread nD τ) (stg m hok t 2) fullShare ((dats m hok 0 c).after 2 t)
    ∗ owns (c : Thread nD τ) (stg m hok t 3) fullShare ((dats m hok 0 c).after 3 t)
    ∗ owns (c : Thread nD τ) (stg m hok t 4) fullShare ((dats m hok 0 c).after 4 t)
    ∗ owns (c : Thread nD τ) (stg m hok t 5) fullShare ((dats m hok 0 c).after 5 t)
    ∗ owns (c : Thread nD τ) (stg m hok t 6) fullShare ((dats m hok 0 c).after 6 t)
    ∗ owns (c : Thread nD τ) (stg m hok t 7) fullShare ((dats m hok 0 c).after 7 t))

theorem Phi_at (c : Dev nD) (t : Fin ((cfgE m hok).N + 1)) : (dats m hok 0 c).Φ t = PhiS m hok c t.val (Nat.le_of_lt_succ t.isLt) := by
  dsimp only [dats]

theorem body_run_to (c : Dev nD) (i : grid0.Coords) (arg1 : Memref sig .tc .smem S288 .i32) (harg1 : arg1.IsWhole)
  (arg2 : Memref sig .tc .smem S1 .i32) (harg2 : arg2.IsWhole)
  (arg3 : Memref sig .tc .vmem S512x256 .i32) (harg3 : arg3.IsWhole)
  (arg4 : Memref sig .tc .vmem S512x256 .i32) (harg4 : arg4.IsWhole)
  (arg5 : Memref sig .tc .vmem S1x1024x2048 .f32) (harg5 : arg5.IsWhole)
  (arg6 : Memref sig .tc .vmem S1x1x2048 .f32) (harg6 : arg6.IsWhole)
  (arg7 : Memref sig .tc .vmem S1x1024x1024 .f32) (harg7 : arg7.IsWhole)
  (arg8 : Memref sig .tc .vmem S1x1x1024 .f32) (harg8 : arg8.IsWhole)
  (arg9 : Memref sig .tc .vmem S512x512 .bf16) (harg9 : arg9.IsWhole)
  (arg10 : Memref sig .tc .vmem S512x512 .bf16) (harg10 : arg10.IsWhole)
  (arg11 : Memref sig .tc .vmem S1024x2048 .bf16) (harg11 : arg11.IsWhole)
  (arg12 : Memref sig .tc .vmem S1024x1024 .bf16) (harg12 : arg12.IsWhole)
    (q1 q2 : PosShare TreeShare) (be : Vec F S288 .i32) (n : Vec F S1 .i32) (x3 x4 : Vec F S512x256 .i32)
    (x5 : Vec F S1x1024x2048 .f32) (x6 : Vec F S1x1x2048 .f32) (x7 : Vec F S1x1024x1024 .f32) (x8 : Vec F S1x1x1024 .f32)
    (x9 x10 : Vec F S512x512 .bf16) (x11 : Vec F S1024x2048 .bf16) (x12 : Vec F S1024x1024 .bf16)
    (y9 y10 : Vec F S512x512 .bf16)
    (e9 : o9Of i (word1 n) x3 x4 (w1Of i be n x5 x11) x6 (w2Of i be n x7 x12) x8 x9 = y9)
    (e10 : o10Of i (word1 n) x3 x4 (w1Of i be n x5 x11) x6 (w2Of i be n x7 x12) x8 x10 = y10) (K : PUnit → sProp 𝕄) :
    iprop(Held c arg1 arg2 arg3 arg4 arg5 arg6 arg7 arg8 arg9 arg10 arg11 arg12 q1 q2 be n x3 x4 x5 x6 x7 x8 x9 x10 x11 x12
      ∗ (Held c arg1 arg2 arg3 arg4 arg5 arg6 arg7 arg8 arg9 arg10 arg11 arg12 q1 q2 be n x3 x4 x5 x6 x7 x8
          y9 y10 (w1Of i be n x5 x11) (w2Of i be n x7 x12) -∗ K ⟨⟩))
      ⊢ wp frame (wpE (defs₀ (F := F)) 𝒱₀ (c : Thread nD τ) none) Set.univ
          (cc0__expert_kernel i arg1 harg1 arg2 harg2 arg3 harg3 arg4 harg4 arg5 harg5 arg6 harg6 arg7 harg7 arg8 harg8
            arg9 harg9 arg10 harg10 arg11 harg11 arg12 harg12) K := by
  subst e9 e10
  exact body_run c i arg1 harg1 arg2 harg2 arg3 harg3 arg4 harg4 arg5 harg5 arg6 harg6 arg7 harg7 arg8 harg8
    arg9 harg9 arg10 harg10 arg11 harg11 arg12 harg12 q1 q2 be n x3 x4 x5 x6 x7 x8 x9 x10 x11 x12 K

theorem sound_body (c : Dev nD) (t : Fin (cfgE m hok).N) :
    bodyPre m hok c t ⊢ wp frame (wpE (defs₀ (F := F)) 𝒱₀ (c : Thread nD τ) none) Set.univ (bodyAt m hok t) (fun _ => bodyPost m hok c t) := by
  unfold bodyPre bodyPost bodyAt
  simp only [before_0, before_1, before_2, before_3, before_4, before_5]
  rw [show (dats m hok 0 c).owesAt () t.succ = (dats m hok 0 c).owesAt () t.castSucc from rfl, Phi_at, Phi_at,
    after_0, after_1, after_2, after_3, after_4, after_5, after_6, after_7]
  unfold PhiS
  iintro ⟨⟨Ht0, Ht1, ⟨%x11, %x12, %hg, Hs0, Hs1⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run_to c (grid0.coords t) _ _ _ _ _ _ _ _ _ _ _ _ _ _ _ _ _ _ _ _ _ _ _ _ fullShare.right fullShare.right
    (tab m 0) (tab m 1) (hw0 m hok c t) (hw1 m hok c t) (hw2 m hok c t) (hw3 m hok c t) (hw4 m hok c t) (hw5 m hok c t)
    ((dats m hok 0 c).before 6 t d6) ((dats m hok 0 c).before 7 t d7) x11 x12 _ _
    (out6_eq m hok c t x11 x12 _ hg) (out7_eq m hok c t x11 x12 _ hg) _)
  unfold Held
  isplitl [Ht0 Ht1 Hs0 Hs1 H0 H1 H2 H3 H4 H5 H6 H7]
  · isplitl [Ht0]; · iexact Ht0
    isplitl [Ht1]; · iexact Ht1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hs0]; · iexact Hs0
    iexact Hs1
  iintro ⟨Ht0, Ht1, H0, H1, H2, H3, H4, H5, H6, H7, Hs0, Hs1⟩
  isplitl [Ht0 Ht1 Hs0 Hs1 Hp]
  · isplitl [Ht0]; · iexact Ht0
    isplitl [Ht1]; · iexact Ht1
    isplitl [Hs0 Hs1]
    · iexists _
      iexists _
      isplitr
      · ipureintro; exact good_succ m hok c t x11 x12 hg
      isplitl [Hs0]; · iexact Hs0
      iexact Hs1
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The obligation where no point leaves a window alone. -/
theorem obligation_of {cfg : Cfg sig Λ₀} {c : Dev nD} (dat : Dat τ (Elt F) Unit ℕ (UR sig nD τ) ℕ cfg c)
    (D : Defs nD τ sig (Elt F) Λ₀) (W : Variants) (hidle : ∀ w i, cfg.idle w i = false)
    (h : ∀ t : Fin cfg.N, iprop(dat.Φ t.castSucc ∗ dat.owesAt () t.castSucc
        ∗ bigSep Finset.univ fun w : Fin cfg.W => iprop(∃ d, owns (c : Thread nD τ) ((cfg.win w).stage (cfg.slots t w)) fullShare (dat.before w t d)))
      ⊢ wp frame (wpE D W (c : Thread nD τ) none) Set.univ (D .tc cfg.body (cfg.bodyArgs t (cfg.slots t))) fun _ =>
        iprop(dat.Φ t.succ ∗ dat.owesAt () t.succ
          ∗ bigSep Finset.univ fun w : Fin cfg.W => owns (c : Thread nD τ) ((cfg.win w).stage (cfg.slots t w)) fullShare (dat.after w t))) :
    BodyObligation dat D W () Set.univ := fun t => by
  simp only [hidle]
  exact h t

theorem body_obligation (c : Dev nD) : BodyObligation (dats m hok 0 c) (defs₀ (F := F)) 𝒱₀ () Set.univ :=
  obligation_of (dats m hok 0 c) _ _ (idle_false m hok) fun t => by
    rw [row, bigSep_W0, bigSep_W0]
    exact triple_restated (sound_body m hok c t) rfl .rfl fun _ => .rfl

/-! ## The run -/

theorem hfresh : (hostOps0 (F := F)).Forall fun op => op.fresh = ∅ := ⟨rfl, rfl, rfl, rfl⟩

theorem tables_eq (c : Dev nD) (v : pre0.Contents (Elt F)) :
    (ΦT (Val := Elt F) (U := UR sig nD τ) pre0 v c : sProp 𝕄)
      = iprop(owns (c : Thread nD τ) (Memref.whole main_arg2) fullShare.right (v 0 : Vec F S288 .i32)
          ∗ owns (c : Thread nD τ) (Memref.whole main_arg3) fullShare.right (v 1 : Vec F S1 .i32)) := by
  unfold ΦT prefHeld
  exact (bigSep_univ_eq_bigSepL [(0 : Fin 2), (1 : Fin 2)] (by decide) (by decide) _).trans
    (congrArg₂ (fun A B : sProp 𝕄 => iprop(A ∗ B)) (owns_whole (c : Thread nD τ) main_arg2 fullShare.right (v 0)).symm
      (owns_whole (c : Thread nD τ) main_arg3 fullShare.right (v 1)).symm)

theorem hin (c : Dev nD) : iprop(ΦA (Val := Elt F) (U := UR sig nD τ) (cfgE m hok).spec c ∗ ΦT (Val := Elt F) (U := UR sig nD τ) pre0 (tab m) c) ⊢ (dats m hok 0 c).Φ 0 := by
  rw [Phi_at, tables_eq]
  unfold ΦA PhiS
  rw [show (scopedRest (Ix := Unit) (Name := ℕ) (U := UR sig nD τ) (Lvl := ℕ) (Val := Elt F) (cfgE m hok).spec c : sProp 𝕄) = _ from scopedRest0_eq c]
  simp only [owns_whole (c : Thread nD τ) cc0_scratch0, owns_whole (c : Thread nD τ) cc0_scratch1]
  iintro ⟨⟨⟨⟨%f0, Hs0⟩, ⟨%f1, Hs1⟩⟩, Hp⟩, Ht0, Ht1⟩
  isplitl [Ht0]; · iexact Ht0
  isplitl [Ht1]; · iexact Ht1
  isplitl [Hs0 Hs1]
  · iexists f0
    iexists f1
    isplitr
    · ipureintro; exact fun t ht => absurd ht (Nat.succ_ne_zero _)
    isplitl [Hs0]; · iexact Hs0
    iexact Hs1
  iexact Hp

theorem hout (c : Dev nD) : (dats m hok 0 c).Φ (Fin.last (cfgE m hok).N) ⊢ ΦA (Val := Elt F) (U := UR sig nD τ) (cfgE m hok).spec c := by
  rw [Phi_at]
  unfold ΦA PhiS
  rw [show (scopedRest (Ix := Unit) (Name := ℕ) (U := UR sig nD τ) (Lvl := ℕ) (Val := Elt F) (cfgE m hok).spec c : sProp 𝕄) = _ from scopedRest0_eq c]
  simp only [owns_whole (c : Thread nD τ) cc0_scratch0, owns_whole (c : Thread nD τ) cc0_scratch1]
  iintro ⟨Ht0, Ht1, ⟨%x11, %x12, %hg, Hs0, Hs1⟩, Hp⟩
  isplitl [Hs0 Hs1]
  · isplitl [Hs0]
    · iexists _; iexact Hs0
    iexists _; iexact Hs1
  iexact Hp

variable (ρ : Dev nD → PrngReg)

/-- The program's run, every window's array at what the points leave and every other array as the call finds it. -/
theorem run_main : θ_run (defs (F := F)) (onTc (τ := τ) (main (F := F))) (s₀ m ρ)
    (fun r => FramePost (pin (pcfgs (F := F)) (adm m hok)) (dats m hok) 0 (V m) r ∧ r.2.sem = fun _ => 0) :=
  θ_run_frameP_track (pcfgs (F := F)) (adm m hok) (dats m hok) (0 : Fin 1) launch0 (defs₀ (F := F)) 𝒱₀ m ρ main
    (hbody := fun c => (body_obligation m hok c).loose) (hshare := fun c => (dats m hok 0 c).share_full fun _ => rfl)
    (howed := fun _ _ => rfl) (V := V m)
    (hmain := hmainP_prefix (pcfgs (F := F)) 0 (defs₀ (F := F)) 𝒱₀ m main hostOps0 hostOps0_sub hfresh main_chain)
    (hA := A_eq m hok) (hpf := fun c k => by obtain rfl : c = 0 := Subsingleton.elim _ _; rfl)
    (hin := hin m hok) (hout := hout m hok)
    (Q' := fun r => FramePost (pin (pcfgs (F := F)) (adm m hok)) (dats m hok) 0 (V m) r ∧ r.2.sem = fun _ => 0)
    (hQ' := fun _ h => h)

end Cert.Proof.LastExperts
-- ==== Proof.LxEnd.lean ====
/-
  The last layer's experts' launch: what the program leaves, its arguments as launched and its two results as the points leave them.
-/
module

public import proofs.«01_k».proof.Proof.LxRun

@[expose] public section

noncomputable section

namespace Cert.Proof.LastExperts

open Cert.Kernel4Ideal Cert.Kernel4Ideal.Gen
open Idealize.ShloMosaic Idealize.ShloMosaic.TcCoe Idealize.ShloMosaic.ValueIdx
open Idealize.ShloMosaic.Pipeline
open Idealize.SL Idealize.SL.Sem

variable {F : FTy → Type} [FloatOps F]
variable (m : (ℓ : Loc nD τ sig) → Buf (Elt F) ℓ) (hok : PreOK m) (ρ : Dev nD → PrngReg)

/-- Every argument as launched. -/
def Kept (r : MemSt nD τ sig (Elt F)) (c : Dev nD) : Prop :=
  r.mem ((c.tc : Thread nD τ).loc main_arg0) = m ((c.tc : Thread nD τ).loc main_arg0)
  ∧ r.mem ((c.tc : Thread nD τ).loc main_arg1) = m ((c.tc : Thread nD τ).loc main_arg1)
  ∧ r.mem ((c.tc : Thread nD τ).loc main_arg2) = m ((c.tc : Thread nD τ).loc main_arg2)
  ∧ r.mem ((c.tc : Thread nD τ).loc main_arg3) = m ((c.tc : Thread nD τ).loc main_arg3)
  ∧ r.mem ((c.tc : Thread nD τ).loc main_arg4) = m ((c.tc : Thread nD τ).loc main_arg4)
  ∧ r.mem ((c.tc : Thread nD τ).loc main_arg5) = m ((c.tc : Thread nD τ).loc main_arg5)
  ∧ r.mem ((c.tc : Thread nD τ).loc main_arg6) = m ((c.tc : Thread nD τ).loc main_arg6)
  ∧ r.mem ((c.tc : Thread nD τ).loc main_arg7) = m ((c.tc : Thread nD τ).loc main_arg7)

theorem V_arg0 (c : Dev nD) : V m c main_arg0 = m ((c.tc : Thread nD τ).loc main_arg0) :=
  V_kept m c main_arg0 (fun h => by cases h) (fun h => by cases h) (fun h => by cases h) (fun h => by cases h)
theorem V_arg1 (c : Dev nD) : V m c main_arg1 = m ((c.tc : Thread nD τ).loc main_arg1) :=
  V_kept m c main_arg1 (fun h => by cases h) (fun h => by cases h) (fun h => by cases h) (fun h => by cases h)
theorem V_arg2 (c : Dev nD) : V m c main_arg2 = m ((c.tc : Thread nD τ).loc main_arg2) :=
  V_kept m c main_arg2 (fun h => by cases h) (fun h => by cases h) (fun h => by cases h) (fun h => by cases h)
theorem V_arg3 (c : Dev nD) : V m c main_arg3 = m ((c.tc : Thread nD τ).loc main_arg3) :=
  V_kept m c main_arg3 (fun h => by cases h) (fun h => by cases h) (fun h => by cases h) (fun h => by cases h)
theorem V_arg4 (c : Dev nD) : V m c main_arg4 = m ((c.tc : Thread nD τ).loc main_arg4) :=
  V_kept m c main_arg4 (fun h => by cases h) (fun h => by cases h) (fun h => by cases h) (fun h => by cases h)
theorem V_arg5 (c : Dev nD) : V m c main_arg5 = m ((c.tc : Thread nD τ).loc main_arg5) :=
  V_kept m c main_arg5 (fun h => by cases h) (fun h => by cases h) (fun h => by cases h) (fun h => by cases h)
theorem V_arg6 (c : Dev nD) : V m c main_arg6 = m ((c.tc : Thread nD τ).loc main_arg6) :=
  V_kept m c main_arg6 (fun h => by cases h) (fun h => by cases h) (fun h => by cases h) (fun h => by cases h)
theorem V_arg7 (c : Dev nD) : V m c main_arg7 = m ((c.tc : Thread nD τ).loc main_arg7) :=
  V_kept m c main_arg7 (fun h => by cases h) (fun h => by cases h) (fun h => by cases h) (fun h => by cases h)

/-- The two results. -/
def res6 (c : Dev nD) : Buf (Elt F) ((c.tc : Thread nD τ).loc main_v4_0) := (dats m hok 0 c).arrAt 6 (cfgE m hok).N
def res7 (c : Dev nD) : Buf (Elt F) ((c.tc : Thread nD τ).loc main_v4_1) := (dats m hok 0 c).arrAt 7 (cfgE m hok).N

/-- The run: the two results as the points leave them, the arguments as launched, every counter at zero. -/
theorem run_kept : θ_run (defs (F := F)) (onTc (τ := τ) (main (F := F))) ⟨m, fun _ => 0, ρ⟩
    (fun r => (∀ c : Dev nD, r.2.mem ((c.tc : Thread nD τ).loc main_v4_0) = res6 m hok c
      ∧ r.2.mem ((c.tc : Thread nD τ).loc main_v4_1) = res7 m hok c ∧ Kept m r.2 c) ∧ r.2.sem = fun _ => 0) :=
  (θ_run (defs (F := F)) _ _).mono (fun r ⟨h, hz⟩ => ⟨fun c =>
    ⟨(h c).1 6, (h c).1 7,
     ((h c).1 0).trans (((dats m hok 0 c).arrAt_in 0 rfl _).trans ((A_eq m hok c 0).trans (V_arg0 m c))),
     ((h c).1 1).trans (((dats m hok 0 c).arrAt_in 1 rfl _).trans ((A_eq m hok c 1).trans (V_arg1 m c))),
     ((h c).2 main_arg2 (mem_restRefs_of main_arg2 rfl (fun w => by fin_cases w <;> exact fun h => by cases h))).trans (V_arg2 m c),
     ((h c).2 main_arg3 (mem_restRefs_of main_arg3 rfl (fun w => by fin_cases w <;> exact fun h => by cases h))).trans (V_arg3 m c),
     ((h c).2 main_arg4 (mem_restRefs_of main_arg4 rfl (fun w => by fin_cases w <;> exact fun h => by cases h))).trans (V_arg4 m c),
     ((h c).2 main_arg5 (mem_restRefs_of main_arg5 rfl (fun w => by fin_cases w <;> exact fun h => by cases h))).trans (V_arg5 m c),
     ((h c).2 main_arg6 (mem_restRefs_of main_arg6 rfl (fun w => by fin_cases w <;> exact fun h => by cases h))).trans (V_arg6 m c),
     ((h c).2 main_arg7 (mem_restRefs_of main_arg7 rfl (fun w => by fin_cases w <;> exact fun h => by cases h))).trans (V_arg7 m c)⟩, hz⟩)
    (run_main m hok ρ)

end Cert.Proof.LastExperts
-- ==== Proof.LxSame.lean ====
module

public import proofs.«01_k».proof.Defs
public import proofs.«01_k».proof.Proof.Gen.Kernel4
public import proofs.«01_k».proof.Proof.Gen.Kernel4Ideal

/-! # The last layer's experts' two printings are one program

No operation was read otherwise for the extended reals, so the printed program and the one it is read as are the
same term: the body first, then the body table, then the whole table. -/

@[expose] public section

noncomputable section

namespace Cert.Proof.LastExperts

open Idealize.ShloMosaic

open Cert.Kernel4Ideal Cert.Kernel4Ideal.Facts Cert.Kernel4Ideal.Facts₀ in
/-- The body table with its one function as a parameter. -/
def tableOf (f : type_of% (@Cert.Kernel4Ideal.cc0__expert_kernel Bits _ _)) : Defs nD τ sig (Elt Bits) Λ₀ := Defs.onTc fun
  | 0, (t, s) => f (grid0.coords t) (Memref.whole main_arg2) (Memref.isWhole_whole _) (Memref.whole main_arg3) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6)) (spec0_7.stage (s 7)) (hstage0_7 ((s 7).cast nbuf0_7)) (Memref.whole cc0_scratch0) (Memref.isWhole_whole _) (Memref.whole cc0_scratch1) (Memref.isWhole_whole _)
  | ⟨_ + 1, h⟩, _ => absurd h (Nat.not_lt.2 (Nat.le_add_left _ _))

theorem body_eq : (@Cert.Kernel4.cc0__expert_kernel Bits _ _) = (@Cert.Kernel4Ideal.cc0__expert_kernel Bits _ _) := rfl

theorem table_printed : (Cert.Kernel4.defs₀ (F := Bits)) = tableOf (@Cert.Kernel4.cc0__expert_kernel Bits _ _) := by
  unfold Cert.Kernel4.defs₀ tableOf
  refine congrArg Defs.onTc ?_
  funext l x
  match l with
  | ⟨0, _⟩ =>
    obtain ⟨t, s⟩ := x
    dsimp only
    rfl
  | ⟨_ + 1, h⟩ => exact absurd h (Nat.not_lt.2 (Nat.le_add_left _ _))

theorem table_ideal : (Cert.Kernel4Ideal.defs₀ (F := Bits)) = tableOf (@Cert.Kernel4Ideal.cc0__expert_kernel Bits _ _) := by
  unfold Cert.Kernel4Ideal.defs₀ tableOf
  refine congrArg Defs.onTc ?_
  funext l x
  match l with
  | ⟨0, _⟩ =>
    obtain ⟨t, s⟩ := x
    dsimp only
  | ⟨_ + 1, h⟩ => exact absurd h (Nat.not_lt.2 (Nat.le_add_left _ _))

theorem table_eq : (Cert.Kernel4.defs₀ (F := Bits)) = (Cert.Kernel4Ideal.defs₀ (F := Bits)) :=
  table_printed.trans ((congrArg tableOf body_eq).trans table_ideal.symm)

theorem main_same : (Cert.Kernel4.main (F := Bits)) = (Cert.Kernel4Ideal.main (F := Bits)) := rfl

theorem defs_same : (Cert.Kernel4.defs (F := Bits)) = (Cert.Kernel4Ideal.defs (F := Bits)) :=
  congrArg (Pipeline.defs (Cert.Kernel4Ideal.pcfgs (F := Bits))) table_eq

end Cert.Proof.LastExperts

end
-- ==== Proof.LxMath.lean ====
module

public import proofs.«01_k».proof.Proof.LxBody
public import Idealize.ShloMosaic.Lib.Pointwise

/-! # The last layer's experts' rows, entry by entry

One row of the layer as a plain sum, and the body's block read at one entry as that sum. -/

@[expose] public section

noncomputable section

namespace Cert.Proof.LastExperts

open Cert.Kernel4Ideal Cert.Kernel4Ideal.Gen
open Idealize.ShloMosaic

/-! ## One row -/

/-- A row's word `c` out of its two halves. -/
def word (a b : Fin 256 → BitVec 32) (c : ℕ) (h : c < 512) : BitVec 32 :=
  if h' : c < 256 then a ⟨c, h'⟩ else b ⟨c - 256, by omega⟩

/-- A row's entries: the words' upper halves, then their lower halves. -/
def unpacked (a b : Fin 256 → BitVec 32) (k : Fin 1024) : EReal :=
  if h : k.val < 512 then Ideal.ofBits .f32 (IntOp.andi (word a b k.val h) 4294901760#32)
  else Ideal.ofBits .f32 (IntOp.shli .vector (word a b (k.val - 512) (by omega)) 16#32)

/-- The first layer's entry `j`. -/
def hidden (x : Fin 1024 → EReal) (W : Fin 1024 → Fin 2048 → EReal) (B : Fin 2048 → EReal) (j : Fin 2048) : EReal :=
  (∑ k, x k * W k j) + B j

/-- The clipped, gated product of a pair of entries. -/
def gated (g u : EReal) : EReal :=
  (min (Ideal.ofBits .f32 1088421888#32) (max (Ideal.ofBits .f32 3235905536#32) u) + 1) * min g (Ideal.ofBits .f32 1088421888#32) *
    Ideal.logistic (Ideal.ofBits .f32 1071242019#32 * min g (Ideal.ofBits .f32 1088421888#32))

/-- The middle entry `f`. -/
def middle (x : Fin 1024 → EReal) (W : Fin 1024 → Fin 2048 → EReal) (B : Fin 2048 → EReal) (f : Fin 1024) : EReal :=
  gated (hidden x W B ⟨f.val, by omega⟩) (hidden x W B ⟨1024 + f.val, by omega⟩)

/-- The row's result at `d`. -/
def rowOut (x : Fin 1024 → EReal) (W : Fin 1024 → Fin 2048 → EReal) (B : Fin 2048 → EReal) (W' : Fin 1024 → Fin 1024 → EReal)
    (B' : Fin 1024 → EReal) (d : Fin 1024) : EReal :=
  (∑ f, middle x W B f * W' f d) + B' d

/-! ## The body's terms at one entry -/

theorem pay22_at (x3 x4 : Vec Ideal S512x256 .i32) (r : Fin 512) (k : Fin 1024) :
    k0_pay22 (F := Ideal) x3 x4 (ix2 r k) = unpacked (fun c => x3 (ix2 r c)) (fun c => x4 (ix2 r c)) k := by
  pointwise [k0_pay22]
  rfl

theorem pay23_at (x3 x4 : Vec Ideal S512x256 .i32) (w : Vec Ideal S1024x512 .bf16) (b : Vec Ideal S1x1x512 .f32) (r l : Fin 512) :
    k0_pay23 (F := Ideal) x3 x4 w b (ix2 r l)
      = (∑ k, unpacked (fun c => x3 (ix2 r c)) (fun c => x4 (ix2 r c)) k * w (ix2 k l)) + b (ix3 0 0 l) := by
  pointwise [k0_pay23]
  simp only [pay22_at]

theorem pay24_at (x3 x4 : Vec Ideal S512x256 .i32) (w : Vec Ideal S1024x512 .bf16) (b : Vec Ideal S1x1x512 .f32) (r l : Fin 512) :
    k0_pay24 (F := Ideal) x3 x4 w b (ix2 r l)
      = (∑ k, unpacked (fun c => x3 (ix2 r c)) (fun c => x4 (ix2 r c)) k * w (ix2 k l)) + b (ix3 0 0 l) := by
  pointwise [k0_pay24]
  simp only [pay22_at]

theorem pay25_at (x3 x4 : Vec Ideal S512x256 .i32) (w : Vec Ideal S1024x512 .bf16) (b : Vec Ideal S1x1x512 .f32) (r l : Fin 512) :
    k0_pay25 (F := Ideal) x3 x4 w b (ix2 r l)
      = (∑ k, unpacked (fun c => x3 (ix2 r c)) (fun c => x4 (ix2 r c)) k * w (ix2 k l)) + b (ix3 0 0 l) := by
  pointwise [k0_pay25]
  simp only [pay22_at]

theorem pay26_at (x3 x4 : Vec Ideal S512x256 .i32) (w : Vec Ideal S1024x512 .bf16) (r l : Fin 512) :
    k0_pay26 (F := Ideal) x3 x4 w (ix2 r l)
      = ∑ k, unpacked (fun c => x3 (ix2 r c)) (fun c => x4 (ix2 r c)) k * w (ix2 k l) := by
  pointwise [k0_pay26]
  simp only [pay22_at]

theorem pay27_at (g g' u v : FVec Ideal S512x512 .f32) (b : Vec Ideal S1x1x512 .f32) (w w' : Vec Ideal S512x1024 .bf16)
    (r : Fin 512) (d : Fin 1024) :
    k0_pay27 (F := Ideal) g g' u v b w w' (ix2 r d)
      = (∑ x, gated (g (ix2 r x)) (u (ix2 r x)) * w (ix2 x d))
        + ∑ x, gated (g' (ix2 r x)) (v (ix2 r x) + b (ix3 0 0 x)) * w' (ix2 x d) := by
  pointwise [k0_pay27]
  rfl

/-- The second product's sum at one entry. -/
theorem acc_at (x3 x4 : Vec Ideal S512x256 .i32) (w1 : Vec Ideal S1x1024x2048 .f32) (b1 : Vec Ideal S1x1x2048 .f32)
    (w2 : Vec Ideal S1x1024x1024 .f32) (r : Fin 512) (d : Fin 1024) :
    acc x3 x4 (cast1 w1) b1 (cast2 w2) (ix2 r d)
      = ∑ f, middle (unpacked (fun c => x3 (ix2 r c)) (fun c => x4 (ix2 r c))) (fun k j => w1 (ix3 0 k j)) (fun j => b1 (ix3 0 0 j)) f
          * w2 (ix3 0 f d) := by
  have off1 : ∀ (o : ℕ) (h) (k : Fin 1024) (l : Fin 512) (hl : o + l.val < 2048),
      (cast1 w1 : Vec Ideal S1024x2048 .bf16) ((Rect.unit (s := S1024x2048) ![0, o] S1024x512.size h).toLoadRect.idx (ix2 k l))
        = w1 (ix3 0 k ⟨o + l.val, hl⟩) := fun o h k l hl => by
    show w1 _ = _
    refine congrArg w1 (funext fun a => Fin.ext ?_)
    match a with
    | ⟨0, _⟩ => rfl
    | ⟨1, _⟩ => show 0 + 1 * k.val = k.val; omega
    | ⟨2, _⟩ => show o + 1 * l.val = o + l.val; omega
  have off2 : ∀ (o : ℕ) (h) (f : Fin 512) (hf : o + f.val < 1024),
      (cast2 w2 : Vec Ideal S1024x1024 .bf16) ((Rect.unit (s := S1024x1024) ![o, 0] S512x1024.size h).toLoadRect.idx (ix2 f d))
        = w2 (ix3 0 ⟨o + f.val, hf⟩ d) := fun o h f hf => by
    show w2 _ = _
    refine congrArg w2 (funext fun a => Fin.ext ?_)
    match a with
    | ⟨0, _⟩ => rfl
    | ⟨1, _⟩ => show o + 1 * f.val = o + f.val; omega
    | ⟨2, _⟩ => show 0 + 1 * d.val = d.val; omega
  have offb : ∀ (o : ℕ) (h) (l : Fin 512) (hl : o + l.val < 2048),
      b1 ((Rect.unit (s := S1x1x2048) ![0, 0, o] S1x1x512.size h).toLoadRect.idx (ix3 0 0 l))
        = b1 (ix3 0 0 ⟨o + l.val, hl⟩) := fun o h l hl => by
    refine congrArg b1 (funext fun a => Fin.ext ?_)
    match a with
    | ⟨0, _⟩ => rfl
    | ⟨1, _⟩ => rfl
    | ⟨2, _⟩ => show o + 1 * l.val = o + l.val; omega
  unfold acc
  rw [pay27_at]
  refine Eq.trans ?_ (Fin.sum_univ_add (a := 512) (b := 512) (fun f : Fin (512 + 512) =>
    middle (unpacked (fun c => x3 (ix2 r c)) (fun c => x4 (ix2 r c))) (fun k j => w1 (ix3 0 k j)) (fun j => b1 (ix3 0 0 j)) f
          * w2 (ix3 0 f d))).symm
  refine congrArg₂ (· + ·) (Finset.sum_congr rfl fun f _ => ?_) (Finset.sum_congr rfl fun f _ => ?_)
  · rw [pay23_at, pay25_at, off2 0 _ f (by omega)]
    simp only [off1 0 _ _ f (by omega), off1 1024 _ _ f (by omega), offb 0 _ f (by omega), offb 1024 _ f (by omega)]
    unfold middle hidden
    congr 1
    · congr 1 <;> congr 1 <;> simp [Fin.castAdd]
    · exact congrArg (fun x => w2 (ix3 0 x d)) (Fin.ext (Nat.zero_add _))
  · rw [pay24_at, pay26_at, off2 512 _ f (by omega)]
    simp only [off1 512 _ _ f (by omega), off1 1536 _ _ f (by omega), offb 512 _ f (by omega), offb 1536 _ f (by omega)]
    unfold middle hidden
    have e : (⟨1024 + (Fin.natAdd 512 f).val, by simp [Fin.natAdd]; omega⟩ : Fin 2048) = ⟨1536 + f.val, by omega⟩ :=
      Fin.ext (by show 1024 + (512 + f.val) = 1536 + f.val; omega)
    rw [e]
    rfl

/-- Column `q` of the first result is the row's column `(q / 256) * 512 + q % 256`. -/
def colA (q : Fin 512) : Fin 1024 := ⟨(q.val / 256) * 512 + q.val % 256, by omega⟩

/-- Column `q` of the second result is the row's column `(q / 256) * 512 + 256 + q % 256`. -/
def colB (q : Fin 512) : Fin 1024 := ⟨(q.val / 256) * 512 + 256 + q.val % 256, by omega⟩

theorem pay3_at (a : FVec Ideal S512x1024 .f32) (b : Vec Ideal S1x1x1024 .f32) (r q : Fin 512) :
    k0_pay3 (F := Ideal) a (k0_pay28 b) (ix2 r q) = a (ix2 r (colA q)) + b (ix3 0 0 (colA q)) := by
  have hb : ∀ (d : Fin 1024), k0_pay28 (F := Ideal) b (ix2 r d) = b (ix3 0 0 d) := fun d => by
    pointwise [k0_pay28]
  pointwise [k0_pay3, k0_pay2]
  split
  · rename_i h
    have e : colA q = ⟨q.val, by omega⟩ := Fin.ext (by show (q.val / 256) * 512 + q.val % 256 = q.val; omega)
    rw [e, hb]
  · rename_i h
    have e : colA q = ⟨512 + (q.val - 256), by omega⟩ := Fin.ext (by show (q.val / 256) * 512 + q.val % 256 = 512 + (q.val - 256); omega)
    rw [e, hb]

theorem pay4_at (a : FVec Ideal S512x1024 .f32) (b : Vec Ideal S1x1x1024 .f32) (r q : Fin 512) :
    k0_pay4 (F := Ideal) a (k0_pay28 b) (ix2 r q) = a (ix2 r (colB q)) + b (ix3 0 0 (colB q)) := by
  have hb : ∀ (d : Fin 1024), k0_pay28 (F := Ideal) b (ix2 r d) = b (ix3 0 0 d) := fun d => by
    pointwise [k0_pay28]
  pointwise [k0_pay4, k0_pay2]
  split
  · rename_i h
    have e : colB q = ⟨256 + q.val, by omega⟩ := Fin.ext (by show (q.val / 256) * 512 + 256 + q.val % 256 = 256 + q.val; omega)
    rw [e, hb]
  · rename_i h
    have e : colB q = ⟨768 + (q.val - 256), by omega⟩ := Fin.ext (by show (q.val / 256) * 512 + 256 + q.val % 256 = 768 + (q.val - 256); omega)
    rw [e, hb]

theorem pay5_at (r q : Fin 512) : k0_pay5 (F := Ideal) (ix2 r q) = 0 := by
  pointwise [k0_pay5]

theorem pay6_at (r q : Fin 512) : k0_pay6 (F := Ideal) (ix2 r q) = 0 := by
  pointwise [k0_pay6]

end Cert.Proof.LastExperts
-- ==== Proof.LxRef.lean ====
module

public import proofs.«01_k».proof.Proof.Gen.Reference4Ideal
public import proofs.«01_k».proof.Proof.Gen.Reference4Ideal.Run
public import proofs.«01_k».proof.Proof.LxMath
public import Idealize.ShloMosaic.Lib.Pointwise
public import Idealize.ShloMosaic.Lib.StackMember
public import Idealize.ShloMosaic.Lib.Routing.Ops

/-! # The last layer's experts' reference, entry by entry

The reference's results in stages (the rows, the gathered matrices and biases, the two layers, the choice of the blocks
in use, the two column halves), and each stage read at one entry. -/

@[expose] public section

noncomputable section

namespace Cert.Proof.LastExperts.Ref

open Cert.Reference4Ideal Cert.Reference4Ideal.Gen
open Idealize.ShloMosaic

/-! ## The stages -/

/-- The rows, unpacked, in their blocks. -/
def rows (a0 a1 : IVec S147456x256 32) : FVec Ideal S288x512x1024 .f32 :=
  shapeCast S288x512x1024 (concatenate S147456x1024 1 [⟨S147456x512, (bitcastToFloat (F := Ideal) .f32 (andi (concatenate S147456x512 1 [⟨S147456x256, a0⟩, ⟨S147456x256, a1⟩] concatenates_S147456x256_S147456x256_S147456x512_d1) (broadcastInDim S147456x512 ![] bcast_S_S147456x512 (constantI S_ 32 4294901760#32))))⟩, ⟨S147456x512, (bitcastToFloat (F := Ideal) .f32 (Host.shli (concatenate S147456x512 1 [⟨S147456x256, a0⟩, ⟨S147456x256, a1⟩] concatenates_S147456x256_S147456x256_S147456x512_d1) (broadcastInDim S147456x512 ![] bcast_S_S147456x512 (constantI S_ 32 16#32))))⟩] concatenates_S147456x512_S147456x512_S147456x1024_d1) shapeCasts_S147456x1024_S288x512x1024

/-- The blocks' experts, as the reference's gathers take them. -/
def picks (a2 : IVec S288 32) : IVec S288x1 32 := (broadcastInDim S288x1 ![0] bcast_S288_S288x1_0 (select (cmpi .slt a2 (broadcastInDim S288 ![] bcast_S_S288 (constantI S_ 32 0#32))) (addi a2 (broadcastInDim S288 ![] bcast_S_S288 (constantI S_ 32 32#32))) a2))

def mat1 (a4 : FVec Ideal S4x32x1024x2048 .f32) (d : IVec S288x1 32) : FVec Ideal S288x1024x2048 .f32 := (Host.gather gather_S32x1024x2048_S288x1_S288x1024x2048_12_0_n_n_0_1_110242048 (shapeCast _ (extractStridedSlice S1x32x1024x2048 ![3, 0, 0, 0] a4 slices_S4x32x1024x2048_S1x32x1024x2048_3_0_0_0) shapeCasts_S1x32x1024x2048_S32x1024x2048) d)

def bias1 (a5 : FVec Ideal S4x32x2048 .f32) (d : IVec S288x1 32) : FVec Ideal S288x2048 .f32 := (Host.gather gather_S32x2048_S288x1_S288x2048_1_0_n_n_0_1_12048 (shapeCast _ (extractStridedSlice S1x32x2048 ![3, 0, 0] a5 slices_S4x32x2048_S1x32x2048_3_0_0) shapeCasts_S1x32x2048_S32x2048) d)

def mat2 (a6 : FVec Ideal S4x32x1024x1024 .f32) (d : IVec S288x1 32) : FVec Ideal S288x1024x1024 .f32 := (Host.gather gather_S32x1024x1024_S288x1_S288x1024x1024_12_0_n_n_0_1_110241024 (shapeCast _ (extractStridedSlice S1x32x1024x1024 ![3, 0, 0, 0] a6 slices_S4x32x1024x1024_S1x32x1024x1024_3_0_0_0) shapeCasts_S1x32x1024x1024_S32x1024x1024) d)

def bias2 (a7 : FVec Ideal S4x32x1024 .f32) (d : IVec S288x1 32) : FVec Ideal S288x1024 .f32 := (Host.gather gather_S32x1024_S288x1_S288x1024_1_0_n_n_0_1_11024 (shapeCast _ (extractStridedSlice S1x32x1024 ![3, 0, 0] a7 slices_S4x32x1024_S1x32x1024_3_0_0) shapeCasts_S1x32x1024_S32x1024) d)

/-- The first layer. -/
def layer1 (X : FVec Ideal S288x512x1024 .f32) (G : FVec Ideal S288x1024x2048 .f32) (B : FVec Ideal S288x2048 .f32) :
    FVec Ideal S288x512x2048 .f32 := (addf (Host.dotGeneral dot_S288x512x1024_S288x1024x2048_S288x512x2048_2_1_1_2_0_0 none X G) (broadcastInDim S288x512x2048 ![0, 1, 2] bcast_S288x1x2048_S288x512x2048_0_1_2 (broadcastInDim S288x1x2048 ![0, 2] bcast_S288x2048_S288x1x2048_0_2 B)))

/-- The clipped, gated product. -/
def gate (H : FVec Ideal S288x512x2048 .f32) : FVec Ideal S288x512x1024 .f32 :=
  (mulf (mulf (addf (minimumf (broadcastInDim S288x512x1024 ![] bcast_S_S288x512x1024 (id (constant S_ .f32 0x40E00000#32))) (maximumf (broadcastInDim S288x512x1024 ![] bcast_S_S288x512x1024 (id (constant S_ .f32 0xC0E00000#32))) (extractStridedSlice S288x512x1024 ![0, 0, 1024] H slices_S288x512x2048_S288x512x1024_0_0_1024))) (broadcastInDim S288x512x1024 ![] bcast_S_S288x512x1024 (constant S_ .f32 0x3F800000#32))) (minimumf (extractStridedSlice S288x512x1024 ![0, 0, 0] H slices_S288x512x2048_S288x512x1024_0_0_0) (broadcastInDim S288x512x1024 ![] bcast_S_S288x512x1024 (constant S_ .f32 0x40E00000#32)))) (Host.divf (broadcastInDim S288x512x1024 ![] bcast_S_S288x512x1024 (constant S_ .f32 0x3F800000#32)) (addf (broadcastInDim S288x512x1024 ![] bcast_S_S288x512x1024 (constant S_ .f32 0x3F800000#32)) (Host.exp (Host.negf (mulf (broadcastInDim S288x512x1024 ![] bcast_S_S288x512x1024 (constant S_ .f32 0x3FD9DB23#32)) (minimumf (extractStridedSlice S288x512x1024 ![0, 0, 0] H slices_S288x512x2048_S288x512x1024_0_0_0) (broadcastInDim S288x512x1024 ![] bcast_S_S288x512x1024 (constant S_ .f32 0x40E00000#32)))))))))

/-- The second layer. -/
def layer2 (M : FVec Ideal S288x512x1024 .f32) (G : FVec Ideal S288x1024x1024 .f32) (B : FVec Ideal S288x1024 .f32) :
    FVec Ideal S288x512x1024 .f32 := (addf (Host.dotGeneral dot_S288x512x1024_S288x1024x1024_S288x512x1024_2_1_1_2_0_0 none M G) (broadcastInDim S288x512x1024 ![0, 1, 2] bcast_S288x1x1024_S288x512x1024_0_1_2 (broadcastInDim S288x1x1024 ![0, 2] bcast_S288x1024_S288x1x1024_0_2 B)))

/-- The blocks in use; zero elsewhere. -/
def inUse (a3 : IVec S1 32) (Y : FVec Ideal S288x512x1024 .f32) : FVec Ideal S288x512x1024 .f32 :=
  (select (broadcastInDim S288x512x1024 ![0, 1, 2] bcast_S288x1x1_S288x512x1024_0_1_2 (broadcastInDim S288x1x1 ![0] bcast_S288_S288x1x1_0 (cmpi .slt (iotaInDim S288 32 0) (broadcastInDim S288 ![] bcast_S_S288 (shapeCast _ a3 shapeCasts_S1_S_))))) Y (broadcastInDim S288x512x1024 ![] bcast_S_S288x512x1024 (id (constant S_ .f32 0x00000000#32))))

def halfA (Z : FVec Ideal S288x512x1024 .f32) : FVec Ideal S147456x512 .bf16 :=
  shapeCast S147456x512 (shapeCast S147456x2x256 (extractStridedSlice S147456x2x1x256 ![0, 0, 0, 0] (shapeCast S147456x2x2x256 (truncf .bf16 (shapeCast S147456x1024 Z shapeCasts_S288x512x1024_S147456x1024) bitsLt_bf16_f32) shapeCasts_S147456x1024_S147456x2x2x256) slices_S147456x2x2x256_S147456x2x1x256_0_0_0_0) shapeCasts_S147456x2x1x256_S147456x2x256) shapeCasts_S147456x2x256_S147456x512

def halfB (Z : FVec Ideal S288x512x1024 .f32) : FVec Ideal S147456x512 .bf16 :=
  shapeCast S147456x512 (shapeCast S147456x2x256 (extractStridedSlice S147456x2x1x256 ![0, 0, 1, 0] (shapeCast S147456x2x2x256 (truncf .bf16 (shapeCast S147456x1024 Z shapeCasts_S288x512x1024_S147456x1024) bitsLt_bf16_f32) shapeCasts_S147456x1024_S147456x2x2x256) slices_S147456x2x2x256_S147456x2x1x256_0_0_1_0) shapeCasts_S147456x2x1x256_S147456x2x256) shapeCasts_S147456x2x256_S147456x512

/-- All stages but the last. -/
def whole (a0 a1 : IVec S147456x256 32) (a2 : IVec S288 32) (a3 : IVec S1 32) (a4 : FVec Ideal S4x32x1024x2048 .f32)
    (a5 : FVec Ideal S4x32x2048 .f32) (a6 : FVec Ideal S4x32x1024x1024 .f32) (a7 : FVec Ideal S4x32x1024 .f32) : FVec Ideal S288x512x1024 .f32 :=
  inUse a3 (layer2 (gate (layer1 (rows a0 a1) (mat1 a4 (picks a2)) (bias1 a5 (picks a2)))) (mat2 a6 (picks a2)) (bias2 a7 (picks a2)))

/-! ## Each stage at one entry -/

/-- A gather of whole slabs: the dimension numbers of `table[idx]` over a table of matrices. -/
abbrev slabDims (N A B n : Nat) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Where the picks hold at `b` a member's number `e`, slab `b` of the result is member `e`. -/
theorem gather_slab {α : Type} {N A B n : Nat}
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (b : Fin n) (r : Fin A) (k : Fin B) (e : Fin N)
    (he : idx (ix2 b 0) = BitVec.ofNat 32 e.val) (hN : N < 2 ^ 31) :
    Host.gather (slabDims N A B n wf) x idx (ix3 b r k) = x (ix3 e r k) := by
  have hb : ∀ a : Fin 3, a ∉ (slabDims N A B n wf).operandBatchingDims := fun a => List.not_mem_nil
  have he' := e.isLt
  unfold Host.gather
  refine congrArg x (funext fun a => Fin.ext ?_)
  show (slabDims N A B n wf).start (ix3 b r k) idx a + (slabDims N A B n wf).batchCoord (ix3 b r k) a
    + (slabDims N A B n wf).offCoord (ix3 b r k) a = _
  rw [GatherDims.batchCoord_eq_zero _ _ _ (hb a), Nat.add_zero]
  have h3 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (slabDims N A B n wf).startIndexMap from List.mem_singleton.mpr rfl)]
    have hsi : (slabDims N A B n wf).siIdx (ix3 b r k) ⟨List.idxOf (0 : Fin 3) (slabDims N A B n wf).startIndexMap,
        List.idxOf_lt_length_iff.2 (List.mem_singleton.mpr rfl)⟩ = ix2 b 0 := by
      funext c; refine Fin.ext ?_
      match c with
      | ⟨0, _⟩ => rfl
      | ⟨1, _⟩ => rfl
    rw [hsi, he, StableHlo.Predicate.toInt_ofNat_small _ (by omega)]
    show min ((e.val : Int)).toNat (N - 1) = e.val
    omega
  · unfold GatherDims.start GatherDims.offCoord
    rw [dif_neg (show (1 : Fin 3) ∉ (slabDims N A B n wf).startIndexMap from fun h => by simp at h),
      dif_pos ((GatherDims.mem_sKept _ _).mpr ⟨fun h => by simp at h, hb _⟩), Nat.zero_add]
    rfl
  · unfold GatherDims.start GatherDims.offCoord
    rw [dif_neg (show (2 : Fin 3) ∉ (slabDims N A B n wf).startIndexMap from fun h => by simp at h),
      dif_pos ((GatherDims.mem_sKept _ _).mpr ⟨fun h => by simp at h, hb _⟩), Nat.zero_add]
    rfl

/-- A pick in range is the block's word. -/
theorem picks_at (a2 : IVec S288 32) (b : Fin 288) (h : (a2 (ix1 b)).toNat < 32) : picks a2 (ix2 b 0) = a2 (ix1 b) := by
  pointwise [picks]
  have hlt : ¬ ((a2 (ix1 b)).slt 0#32 = true) := by
    simp only [BitVec.slt_eq_decide, decide_eq_true_eq, BitVec.toInt_eq_toNat_cond, BitVec.toNat_ofNat, Nat.reducePow, Nat.reduceMod]
    omega
  have e : IntOp.cmpi CmpIPredicate.slt (a2 (ix1 b)) 0#32 = 0#1 := by
    show BitVec.ofBool ((a2 (ix1 b)).slt 0#32) = 0#1
    rw [Bool.eq_false_iff.2 hlt]; rfl
  rw [e]
  rfl

theorem rows_at (a0 a1 : IVec S147456x256 32) (b : Fin 288) (r : Fin 512) (k : Fin 1024) :
    rows a0 a1 (ix3 b r k)
      = unpacked (fun c => a0 (ix2 ⟨b.val * 512 + r.val, by omega⟩ c)) (fun c => a1 (ix2 ⟨b.val * 512 + r.val, by omega⟩ c)) k := by
  pointwise [rows]
  rfl

theorem layer1_at (X : FVec Ideal S288x512x1024 .f32) (G : FVec Ideal S288x1024x2048 .f32) (B : FVec Ideal S288x2048 .f32)
    (b : Fin 288) (r : Fin 512) (j : Fin 2048) :
    layer1 X G B (ix3 b r j) = hidden (fun k => X (ix3 b r k)) (fun k l => G (ix3 b k l)) (fun l => B (ix2 b l)) j := by
  unfold layer1 hidden
  have e := StackMember.dotGeneral_stack_apply dot_S288x512x1024_S288x1024x2048_S288x512x2048_2_1_1_2_0_0_wf none X G b r j
  have f : broadcastInDim S288x512x2048 ![0, 1, 2] bcast_S288x1x2048_S288x512x2048_0_1_2
      (broadcastInDim S288x1x2048 ![0, 2] bcast_S288x2048_S288x1x2048_0_2 B) (ix3 b r j) = B (ix2 b j) := by
    pointwise
  exact congrArg₂ (· + ·) e f

theorem layer2_at (M : FVec Ideal S288x512x1024 .f32) (G : FVec Ideal S288x1024x1024 .f32) (B : FVec Ideal S288x1024 .f32)
    (b : Fin 288) (r : Fin 512) (d : Fin 1024) :
    layer2 M G B (ix3 b r d) = (∑ f, M (ix3 b r f) * G (ix3 b f d)) + B (ix2 b d) := by
  unfold layer2
  have e := StackMember.dotGeneral_stack_apply dot_S288x512x1024_S288x1024x1024_S288x512x1024_2_1_1_2_0_0_wf none M G b r d
  have f : broadcastInDim S288x512x1024 ![0, 1, 2] bcast_S288x1x1024_S288x512x1024_0_1_2
      (broadcastInDim S288x1x1024 ![0, 2] bcast_S288x1024_S288x1x1024_0_2 B) (ix3 b r d) = B (ix2 b d) := by
    pointwise
  exact congrArg₂ (· + ·) e f

theorem gate_at (H : FVec Ideal S288x512x2048 .f32) (b : Fin 288) (r : Fin 512) (f : Fin 1024) :
    gate H (ix3 b r f) = gated (H (ix3 b r ⟨f.val, by omega⟩)) (H (ix3 b r ⟨1024 + f.val, by omega⟩)) := by
  pointwise [gate]
  rfl

theorem inUse_at (a3 : IVec S1 32) (Y : FVec Ideal S288x512x1024 .f32) (b : Fin 288) (r : Fin 512) (d : Fin 1024) :
    inUse a3 Y (ix3 b r d) = if (BitVec.ofNat 32 b.val).slt (a3 (ix1 0)) = true then Y (ix3 b r d) else 0 := by
  pointwise [inUse]
  show (if BitVec.ofBool ((BitVec.ofNat 32 b.val).slt (a3 (ix1 0))) = 1#1 then Y (ix3 b r d) else Ideal.ofBits .f32 0#32) = _
  rw [Ideal.ofBits_zero_f32]
  cases (BitVec.ofNat 32 b.val).slt (a3 (ix1 0)) <;> rfl

theorem halfA_at (Z : FVec Ideal S288x512x1024 .f32) (R : Fin 147456) (q : Fin 512) :
    halfA Z (ix2 R q) = Z (ix3 ⟨R.val / 512, by omega⟩ ⟨R.val % 512, by omega⟩ (colA q)) := by
  pointwise [halfA]
  rfl

theorem halfB_at (Z : FVec Ideal S288x512x1024 .f32) (R : Fin 147456) (q : Fin 512) :
    halfB Z (ix2 R q) = Z (ix3 ⟨R.val / 512, by omega⟩ ⟨R.val % 512, by omega⟩ (colB q)) := by
  pointwise [halfB]
  rfl

section gathers
variable (a2 : IVec S288 32) (b : Fin 288) (e : Fin 32) (h : a2 (ix1 b) = BitVec.ofNat 32 e.val)
include h

theorem pick_of : picks a2 (ix2 b 0) = BitVec.ofNat 32 e.val :=
  (picks_at a2 b (by rw [h, BitVec.toNat_ofNat, Nat.mod_eq_of_lt (by omega)]; exact e.isLt)).trans h

theorem mat1_at (a4 : FVec Ideal S4x32x1024x2048 .f32) (k : Fin 1024) (j : Fin 2048) :
    mat1 a4 (picks a2) (ix3 b k j) = a4 (ix4 3 e k j) := by
  refine (gather_slab gather_S32x1024x2048_S288x1_S288x1024x2048_12_0_n_n_0_1_110242048_wf _ _ b k j e (pick_of a2 b e h) (by decide)).trans ?_
  pointwise

theorem mat2_at (a6 : FVec Ideal S4x32x1024x1024 .f32) (k : Fin 1024) (j : Fin 1024) :
    mat2 a6 (picks a2) (ix3 b k j) = a6 (ix4 3 e k j) := by
  refine (gather_slab gather_S32x1024x1024_S288x1_S288x1024x1024_12_0_n_n_0_1_110241024_wf _ _ b k j e (pick_of a2 b e h) (by decide)).trans ?_
  pointwise

theorem bias1_at (a5 : FVec Ideal S4x32x2048 .f32) (j : Fin 2048) :
    bias1 a5 (picks a2) (ix2 b j) = a5 (ix3 3 e j) := by
  refine (Routing.gather_row gather_S32x2048_S288x1_S288x2048_1_0_n_n_0_1_12048 rfl rfl rfl rfl rfl _ _ b j e (pick_of a2 b e h) (by decide)).trans ?_
  pointwise

theorem bias2_at (a7 : FVec Ideal S4x32x1024 .f32) (j : Fin 1024) :
    bias2 a7 (picks a2) (ix2 b j) = a7 (ix3 3 e j) := by
  refine (Routing.gather_row gather_S32x1024_S288x1_S288x1024_1_0_n_n_0_1_11024 rfl rfl rfl rfl rfl _ _ b j e (pick_of a2 b e h) (by decide)).trans ?_
  pointwise

/-- All stages but the last, at one entry. -/
theorem whole_at (a0 a1 : IVec S147456x256 32) (a3 : IVec S1 32) (a4 : FVec Ideal S4x32x1024x2048 .f32)
    (a5 : FVec Ideal S4x32x2048 .f32) (a6 : FVec Ideal S4x32x1024x1024 .f32) (a7 : FVec Ideal S4x32x1024 .f32)
    (r : Fin 512) (d : Fin 1024) :
    whole a0 a1 a2 a3 a4 a5 a6 a7 (ix3 b r d)
      = if (BitVec.ofNat 32 b.val).slt (a3 (ix1 0)) = true then
          rowOut (unpacked (fun c => a0 (ix2 ⟨b.val * 512 + r.val, by omega⟩ c)) (fun c => a1 (ix2 ⟨b.val * 512 + r.val, by omega⟩ c)))
            (fun k j => a4 (ix4 3 e k j)) (fun j => a5 (ix3 3 e j)) (fun k j => a6 (ix4 3 e k j)) (fun j => a7 (ix3 3 e j)) d
        else 0 := by
  unfold whole
  rw [inUse_at, layer2_at]
  refine congrArg (fun x => if (BitVec.ofNat 32 b.val).slt (a3 (ix1 0)) = true then x else 0) ?_
  unfold rowOut middle
  refine congrArg₂ (· + ·) (Finset.sum_congr rfl fun f _ => congrArg₂ (· * ·) ?_ (mat2_at a2 b e h a6 f d)) (bias2_at a2 b e h a7 d)
  rw [gate_at, layer1_at, layer1_at]
  simp only [rows_at, mat1_at a2 b e h, bias1_at a2 b e h]

end gathers

/-! ## The results are the stages -/

theorem res0_eq (m : (ℓ : Loc nD τ sig) → Buf (Elt Ideal) ℓ) (c : Dev nD) :
    Value.res_main_v81 (F := Ideal) m c = halfA (whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))) := rfl

theorem res1_eq (m : (ℓ : Loc nD τ sig) → Buf (Elt Ideal) ℓ) (c : Dev nD) :
    Value.res_main_v84 (F := Ideal) m c = halfB (whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))) := rfl

end Cert.Proof.LastExperts.Ref

end
-- ==== Proof.LxValue.lean ====
module

public import proofs.«01_k».proof.Proof.LxEnd
public import proofs.«01_k».proof.Proof.LxMath
public import proofs.«01_k».proof.Proof.LxRef
public import Idealize.ShloMosaic.Lib.Pipeline.ValueKit
public import Idealize.ShloMosaic.Lib.Pointwise

/-! # The last layer's experts' results, entry by entry

The blocks a point holds, read at one entry of the arguments; what a point leaves, at one entry; the two results. -/

@[expose] public section

noncomputable section

namespace Cert.Proof.LastExperts

open Cert.Kernel4Ideal Cert.Kernel4Ideal.Gen
open Idealize.ShloMosaic Idealize.ShloMosaic.TcCoe
open Idealize.ShloMosaic.Pipeline
open Idealize.SL Idealize.SL.Sem

section

variable {F : FTy → Type} [FloatOps F]
variable {cfg : Cfg sig Λ₀} {c : Dev nD} (dat : Dat τ (Elt F) Unit ℕ (UR sig nD τ) ℕ cfg c)

/-- A held block, at an entry: the array under the block. -/
theorem held_at (w : Fin cfg.W) (hw : (cfg.win w).isOut = false) (hclip : ∀ (i : cfg.grid.Coords) a, (cfg.win w).clip i a = none)
    (n : ℕ) (h : n < cfg.N) (y : ((cfg.win w).xblock (cfg.grid.coords ⟨n, h⟩)).Idx) :
    heldIn cfg dat.A w n h ((cfg.win w).xinj _ y) = ((cfg.win w).blk ⟨n, h⟩).view.read (Elt F) (dat.A w) y := by
  rw [heldIn_fetched dat w hw hclip n h]
  exact congrFun ((cfg.win w).cut_fill _ _ _) y

end

variable (m : (ℓ : Loc nD τ sig) → Buf (Elt Ideal) ℓ) (hok : PreOK m)

theorem word_toNat (n : ℕ) (h : n < 288) : (BitVec.ofNat 32 n).toNat = n := by
  rw [BitVec.toNat_ofNat]; omega

theorem hw0_at (c : Dev nD) (t : Fin (cfgE m hok).N) (ht : t.val < 288) (r : Fin 512) (k : Fin 256) :
    hw0 m hok c t (ix2 r k) = (m ((c.tc : Thread nD τ).loc main_arg0) : IVec S147456x256 32) (ix2 ⟨t.val * 512 + r.val, by omega⟩ k) := by
  refine (held_at (dats m hok 0 c) 0 rfl (fun _ _ => rfl) t.val t.isLt (ix2 r k)).trans ?_
  refine (congrFun ((A_eq m hok c 0).trans (V_arg0 m c)) ((((cfgE m hok).win 0).rect t).emb (ix2 r k))).trans ?_
  refine congrArg (m ((c.tc : Thread nD τ).loc main_arg0)) (funext fun a => Fin.ext ?_)
  refine (Window.rect_emb_val ((cfgE m hok).win 0) t (ix2 r k) a).trans ?_
  have hc := coords_val m hok t
  match a with
  | ⟨0, _⟩ =>
    show (BitVec.ofNat 32 (grid0.coords t 0).val).toNat * 512 + r.val = t.val * 512 + r.val
    rw [hc, word_toNat _ ht]
  | ⟨1, _⟩ =>
    show 0 * 256 + k.val = k.val
    omega

theorem hw1_at (c : Dev nD) (t : Fin (cfgE m hok).N) (ht : t.val < 288) (r : Fin 512) (k : Fin 256) :
    hw1 m hok c t (ix2 r k) = (m ((c.tc : Thread nD τ).loc main_arg1) : IVec S147456x256 32) (ix2 ⟨t.val * 512 + r.val, by omega⟩ k) := by
  refine (held_at (dats m hok 0 c) 1 rfl (fun _ _ => rfl) t.val t.isLt (ix2 r k)).trans ?_
  refine (congrFun ((A_eq m hok c 1).trans (V_arg1 m c)) ((((cfgE m hok).win 1).rect t).emb (ix2 r k))).trans ?_
  refine congrArg (m ((c.tc : Thread nD τ).loc main_arg1)) (funext fun a => Fin.ext ?_)
  refine (Window.rect_emb_val ((cfgE m hok).win 1) t (ix2 r k) a).trans ?_
  have hc := coords_val m hok t
  match a with
  | ⟨0, _⟩ =>
    show (BitVec.ofNat 32 (grid0.coords t 0).val).toNat * 512 + r.val = t.val * 512 + r.val
    rw [hc, word_toNat _ ht]
  | ⟨1, _⟩ =>
    show 0 * 256 + k.val = k.val
    omega

/-! ## The arrays the reshapes write -/

theorem split_div (x : ℕ) (hx : x < 32) : (96 + x) / 32 = 3 ∧ (96 + x) % 32 = x := by omega

theorem v0_cast {α : Type} (x : S4x32x1024x2048.Idx → α) (n : Fin 128) (e : Fin 32) (hn : n.val = 96 + e.val) (k : Fin 1024) (j : Fin 2048) :
    shapeCast S128x1024x2048 x shapeCasts_S4x32x1024x2048_S128x1024x2048 (ix3 n k j) = x (ix4 3 e k j) := by
  have h1 : n.val / 32 = 3 := by omega
  have h2 : n.val % 32 = e.val := by omega
  have e1 : ∀ p, (⟨n.val / 32, p⟩ : Fin 4) = 3 := fun _ => Fin.ext h1
  have e2 : ∀ p, (⟨n.val % 32, p⟩ : Fin 32) = e := fun _ => Fin.ext h2
  pointwise
  rw [e1, e2]

theorem V_v0 (c : Dev nD) : V m c main_v0 = shapeCast S128x1024x2048 (m ((c.tc : Thread nD τ).loc main_arg4) : S4x32x1024x2048.Idx → Elt Ideal .f32) shapeCasts_S4x32x1024x2048_S128x1024x2048 := by
  unfold V
  after_results_simp
  rfl

theorem v1_cast {α : Type} (x : S4x32x1024x1024.Idx → α) (n : Fin 128) (e : Fin 32) (hn : n.val = 96 + e.val) (k : Fin 1024) (j : Fin 1024) :
    shapeCast S128x1024x1024 x shapeCasts_S4x32x1024x1024_S128x1024x1024 (ix3 n k j) = x (ix4 3 e k j) := by
  have h1 : n.val / 32 = 3 := by omega
  have h2 : n.val % 32 = e.val := by omega
  have e1 : ∀ p, (⟨n.val / 32, p⟩ : Fin 4) = 3 := fun _ => Fin.ext h1
  have e2 : ∀ p, (⟨n.val % 32, p⟩ : Fin 32) = e := fun _ => Fin.ext h2
  pointwise
  rw [e1, e2]

theorem V_v1 (c : Dev nD) : V m c main_v1 = shapeCast S128x1024x1024 (m ((c.tc : Thread nD τ).loc main_arg6) : S4x32x1024x1024.Idx → Elt Ideal .f32) shapeCasts_S4x32x1024x1024_S128x1024x1024 := by
  unfold V
  after_results_simp
  rfl

theorem v2_cast {α : Type} (x : S4x32x2048.Idx → α) (n : Fin 128) (e : Fin 32) (hn : n.val = 96 + e.val) (j : Fin 2048) :
    shapeCast S128x1x2048 x shapeCasts_S4x32x2048_S128x1x2048 (ix3 n 0 j) = x (ix3 3 e j) := by
  have h1 : n.val / 32 = 3 := by omega
  have h2 : n.val % 32 = e.val := by omega
  have e1 : ∀ p, (⟨n.val / 32, p⟩ : Fin 4) = 3 := fun _ => Fin.ext h1
  have e2 : ∀ p, (⟨n.val % 32, p⟩ : Fin 32) = e := fun _ => Fin.ext h2
  pointwise
  rw [e1, e2]

theorem V_v2 (c : Dev nD) : V m c main_v2 = shapeCast S128x1x2048 (m ((c.tc : Thread nD τ).loc main_arg5) : S4x32x2048.Idx → Elt Ideal .f32) shapeCasts_S4x32x2048_S128x1x2048 := by
  unfold V
  after_results_simp
  rfl

theorem v3_cast {α : Type} (x : S4x32x1024.Idx → α) (n : Fin 128) (e : Fin 32) (hn : n.val = 96 + e.val) (j : Fin 1024) :
    shapeCast S128x1x1024 x shapeCasts_S4x32x1024_S128x1x1024 (ix3 n 0 j) = x (ix3 3 e j) := by
  have h1 : n.val / 32 = 3 := by omega
  have h2 : n.val % 32 = e.val := by omega
  have e1 : ∀ p, (⟨n.val / 32, p⟩ : Fin 4) = 3 := fun _ => Fin.ext h1
  have e2 : ∀ p, (⟨n.val % 32, p⟩ : Fin 32) = e := fun _ => Fin.ext h2
  pointwise
  rw [e1, e2]

theorem V_v3 (c : Dev nD) : V m c main_v3 = shapeCast S128x1x1024 (m ((c.tc : Thread nD τ).loc main_arg7) : S4x32x1024.Idx → Elt Ideal .f32) shapeCasts_S4x32x1024_S128x1x1024 := by
  unfold V
  after_results_simp
  rfl

/-! ## The blocks of the expert a point names -/

theorem word_at (be : Vec Ideal S288 .i32) (n : ℕ) (hn : n < 288) (h : ∀ a, (![n] : Fin 1 → ℕ) a + S1.size a ≤ S288.size a) :
    wordAt be ![n] h = be (ix1 ⟨n, hn⟩) :=
  congrArg be (funext fun a => Fin.ext (by
    match a with
    | ⟨0, _⟩ => show n + 1 * 0 = n; omega))

theorem block_of (be : Vec Ideal S288 .i32) (o : Fin 1 → ℕ) (h : ∀ a, o a + S1.size a ≤ S288.size a) (n : ℕ) (hn : n < 288)
    (ho : o = ![n]) (e : Fin 32) (he : be (ix1 ⟨n, hn⟩) = BitVec.ofNat 32 e.val) :
    (Scalar.addi (96#32) (wordAt be o h) : BitVec 32).toNat = 96 + e.val := by
  subst ho
  rw [word_at be n hn h, he]
  show ((96#32 : BitVec 32) + BitVec.ofNat 32 e.val).toNat = _
  rw [BitVec.toNat_add, BitVec.toNat_ofNat, BitVec.toNat_ofNat]
  omega

theorem block_at (t : Fin (cfgE m hok).N) (ht : t.val < 288) (e : Fin 32)
    (he : (tab m 0 : Vec Ideal S288 .i32) (ix1 ⟨t.val, ht⟩) = BitVec.ofNat 32 e.val) :
    (Scalar.addi (96#32) (wordAt (tab m 0 : Vec Ideal S288 .i32) (k0_off1 (grid0.coords t)) (k0_off1_inb _)) : BitVec 32).toNat = 96 + e.val :=
  block_of (tab m 0 : Vec Ideal S288 .i32) _ (k0_off1_inb _) t.val ht (off1_eq m hok t) e he

/-- A block's row in the whole of the two results. -/
def rowAt (c : Dev nD) (t : ℕ) (ht : t < 288) (e : Fin 32) (r : Fin 512) (d : Fin 1024) : EReal :=
  if (BitVec.ofNat 32 t).slt (used m) = true then
    rowOut (unpacked (fun k => (m ((c.tc : Thread nD τ).loc main_arg0) : IVec S147456x256 32) (ix2 ⟨t * 512 + r.val, by omega⟩ k))
        (fun k => (m ((c.tc : Thread nD τ).loc main_arg1) : IVec S147456x256 32) (ix2 ⟨t * 512 + r.val, by omega⟩ k)))
      (fun k j => (m ((c.tc : Thread nD τ).loc main_arg4) : S4x32x1024x2048.Idx → Elt Ideal .f32) (ix4 3 e k j))
      (fun j => (m ((c.tc : Thread nD τ).loc main_arg5) : S4x32x2048.Idx → Elt Ideal .f32) (ix3 3 e j))
      (fun k j => (m ((c.tc : Thread nD τ).loc main_arg6) : S4x32x1024x1024.Idx → Elt Ideal .f32) (ix4 3 e k j))
      (fun j => (m ((c.tc : Thread nD τ).loc main_arg7) : S4x32x1024.Idx → Elt Ideal .f32) (ix3 3 e j)) d
  else 0

section
variable (c : Dev nD) (t : Fin (cfgE m hok).N) (ht : t.val < 288) (e : Fin 32)
variable (he : (tab m 0 : Vec Ideal S288 .i32) (ix1 ⟨t.val, ht⟩) = BitVec.ofNat 32 e.val)
include he

theorem hw2_at (k : Fin 1024) (j : Fin 2048) :
    hw2 m hok c t (ix3 0 k j) = (m ((c.tc : Thread nD τ).loc main_arg4) : S4x32x1024x2048.Idx → Elt Ideal .f32) (ix4 3 e k j) := by
  have hb := block_at m hok t ht e he
  refine (held_at (dats m hok 0 c) 2 rfl (fun _ _ => rfl) t.val t.isLt (ix3 0 k j)).trans ?_
  refine (congrFun ((A_eq m hok c 2).trans (V_v0 m c)) ((((cfgE m hok).win 2).rect t).emb (ix3 0 k j))).trans ?_
  refine Eq.trans (congrArg _ (funext fun a => Fin.ext ?_)) (v0_cast (m ((c.tc : Thread nD τ).loc main_arg4) : S4x32x1024x2048.Idx → Elt Ideal .f32) ⟨96 + e.val, by omega⟩ e rfl k j)
  refine (Window.rect_emb_val ((cfgE m hok).win 2) t (ix3 0 k j) a).trans ?_
  match a with
  | ⟨0, _⟩ =>
    show (Scalar.addi (96#32) (wordAt (tab m 0 : Vec Ideal S288 .i32) (k0_off1 (grid0.coords t)) (k0_off1_inb _)) : BitVec 32).toNat * 1 + 0 = 96 + e.val
    rw [hb]; omega
  | ⟨1, _⟩ =>
    show 0 * 1024 + k.val = k.val
    omega
  | ⟨2, _⟩ =>
    show 0 * 2048 + j.val = j.val
    omega

theorem hw4_at (k : Fin 1024) (j : Fin 1024) :
    hw4 m hok c t (ix3 0 k j) = (m ((c.tc : Thread nD τ).loc main_arg6) : S4x32x1024x1024.Idx → Elt Ideal .f32) (ix4 3 e k j) := by
  have hb := block_at m hok t ht e he
  refine (held_at (dats m hok 0 c) 4 rfl (fun _ _ => rfl) t.val t.isLt (ix3 0 k j)).trans ?_
  refine (congrFun ((A_eq m hok c 4).trans (V_v1 m c)) ((((cfgE m hok).win 4).rect t).emb (ix3 0 k j))).trans ?_
  refine Eq.trans (congrArg _ (funext fun a => Fin.ext ?_)) (v1_cast (m ((c.tc : Thread nD τ).loc main_arg6) : S4x32x1024x1024.Idx → Elt Ideal .f32) ⟨96 + e.val, by omega⟩ e rfl k j)
  refine (Window.rect_emb_val ((cfgE m hok).win 4) t (ix3 0 k j) a).trans ?_
  match a with
  | ⟨0, _⟩ =>
    show (Scalar.addi (96#32) (wordAt (tab m 0 : Vec Ideal S288 .i32) (k0_off1 (grid0.coords t)) (k0_off1_inb _)) : BitVec 32).toNat * 1 + 0 = 96 + e.val
    rw [hb]; omega
  | ⟨1, _⟩ =>
    show 0 * 1024 + k.val = k.val
    omega
  | ⟨2, _⟩ =>
    show 0 * 1024 + j.val = j.val
    omega

theorem hw3_at (j : Fin 2048) :
    hw3 m hok c t (ix3 0 0 j) = (m ((c.tc : Thread nD τ).loc main_arg5) : S4x32x2048.Idx → Elt Ideal .f32) (ix3 3 e j) := by
  have hb := block_at m hok t ht e he
  refine (held_at (dats m hok 0 c) 3 rfl (fun _ _ => rfl) t.val t.isLt (ix3 0 0 j)).trans ?_
  refine (congrFun ((A_eq m hok c 3).trans (V_v2 m c)) ((((cfgE m hok).win 3).rect t).emb (ix3 0 0 j))).trans ?_
  refine Eq.trans (congrArg _ (funext fun a => Fin.ext ?_)) (v2_cast (m ((c.tc : Thread nD τ).loc main_arg5) : S4x32x2048.Idx → Elt Ideal .f32) ⟨96 + e.val, by omega⟩ e rfl j)
  refine (Window.rect_emb_val ((cfgE m hok).win 3) t (ix3 0 0 j) a).trans ?_
  match a with
  | ⟨0, _⟩ =>
    show (Scalar.addi (96#32) (wordAt (tab m 0 : Vec Ideal S288 .i32) (k0_off1 (grid0.coords t)) (k0_off1_inb _)) : BitVec 32).toNat * 1 + 0 = 96 + e.val
    rw [hb]; omega
  | ⟨1, _⟩ =>
    show 0 * 1 + 0 = 0
    omega
  | ⟨2, _⟩ =>
    show 0 * 2048 + j.val = j.val
    omega

theorem hw5_at (j : Fin 1024) :
    hw5 m hok c t (ix3 0 0 j) = (m ((c.tc : Thread nD τ).loc main_arg7) : S4x32x1024.Idx → Elt Ideal .f32) (ix3 3 e j) := by
  have hb := block_at m hok t ht e he
  refine (held_at (dats m hok 0 c) 5 rfl (fun _ _ => rfl) t.val t.isLt (ix3 0 0 j)).trans ?_
  refine (congrFun ((A_eq m hok c 5).trans (V_v3 m c)) ((((cfgE m hok).win 5).rect t).emb (ix3 0 0 j))).trans ?_
  refine Eq.trans (congrArg _ (funext fun a => Fin.ext ?_)) (v3_cast (m ((c.tc : Thread nD τ).loc main_arg7) : S4x32x1024.Idx → Elt Ideal .f32) ⟨96 + e.val, by omega⟩ e rfl j)
  refine (Window.rect_emb_val ((cfgE m hok).win 5) t (ix3 0 0 j) a).trans ?_
  match a with
  | ⟨0, _⟩ =>
    show (Scalar.addi (96#32) (wordAt (tab m 0 : Vec Ideal S288 .i32) (k0_off1 (grid0.coords t)) (k0_off1_inb _)) : BitVec 32).toNat * 1 + 0 = 96 + e.val
    rw [hb]; omega
  | ⟨1, _⟩ =>
    show 0 * 1 + 0 = 0
    omega
  | ⟨2, _⟩ =>
    show 0 * 1024 + j.val = j.val
    omega

/-! ## What a point leaves, at one entry -/

theorem acc_held (r : Fin 512) (d : Fin 1024) :
    acc (hw0 m hok c t) (hw1 m hok c t) (cast1 (hw2 m hok c t)) (hw3 m hok c t) (cast2 (hw4 m hok c t)) (ix2 r d) + hw5 m hok c t (ix3 0 0 d)
      = rowOut (unpacked (fun k => (m ((c.tc : Thread nD τ).loc main_arg0) : IVec S147456x256 32) (ix2 ⟨t.val * 512 + r.val, by omega⟩ k))
        (fun k => (m ((c.tc : Thread nD τ).loc main_arg1) : IVec S147456x256 32) (ix2 ⟨t.val * 512 + r.val, by omega⟩ k)))
      (fun k j => (m ((c.tc : Thread nD τ).loc main_arg4) : S4x32x1024x2048.Idx → Elt Ideal .f32) (ix4 3 e k j))
      (fun j => (m ((c.tc : Thread nD τ).loc main_arg5) : S4x32x2048.Idx → Elt Ideal .f32) (ix3 3 e j))
      (fun k j => (m ((c.tc : Thread nD τ).loc main_arg6) : S4x32x1024x1024.Idx → Elt Ideal .f32) (ix4 3 e k j))
      (fun j => (m ((c.tc : Thread nD τ).loc main_arg7) : S4x32x1024.Idx → Elt Ideal .f32) (ix3 3 e j)) d := by
  have h0 : (fun k => hw0 m hok c t (ix2 r k)) = _ := funext fun k => hw0_at m hok c t ht r k
  have h1 : (fun k => hw1 m hok c t (ix2 r k)) = _ := funext fun k => hw1_at m hok c t ht r k
  have h2 : (fun k j => hw2 m hok c t (ix3 0 k j)) = _ := funext fun k => funext fun j => hw2_at m hok c t ht e he k j
  have h3 : (fun j => hw3 m hok c t (ix3 0 0 j)) = _ := funext fun j => hw3_at m hok c t ht e he j
  have h4 : (fun k j => hw4 m hok c t (ix3 0 k j)) = _ := funext fun k => funext fun j => hw4_at m hok c t ht e he k j
  refine congr (congrArg HAdd.hAdd ((acc_at _ _ _ _ _ r d).trans ?_)) (hw5_at m hok c t ht e he d)
  rw [h0, h1, h2, h3]
  exact Finset.sum_congr rfl fun f _ => congrArg _ (congrFun (congrFun h4 f) d)

theorem out6_at (r q : Fin 512) : out6 m hok c t (ix2 r q) = rowAt m c t.val ht e r (colA q) := by
  have hc := coords_val m hok t
  unfold out6 o9Of rowAt
  by_cases h2 : k0_cond2 (grid0.coords t) (used m) = 1#1
  · have h2' := (cond2_iff _ _).mp h2
    have h3 : ¬ k0_cond3 (grid0.coords t) (used m) = 1#1 := fun h3 => by
      have h3' := (cond3_iff _ _).mp h3
      rw [BitVec.slt_iff_toInt_lt] at h2'
      rw [BitVec.sle_iff_toInt_le] at h3'
      omega
    rw [hc] at h2'
    rw [if_neg h3, if_pos h2, if_pos h2']
    exact (pay3_at _ _ r q).trans (acc_held m hok c t ht e he r (colA q))
  · have h3 := cond3_of_not _ _ h2
    have h2' := fun h => h2 ((cond2_iff _ _).mpr h)
    rw [hc] at h2'
    rw [if_pos h3, if_neg h2']
    exact pay5_at r q

theorem out7_at (r q : Fin 512) : out7 m hok c t (ix2 r q) = rowAt m c t.val ht e r (colB q) := by
  have hc := coords_val m hok t
  unfold out7 o10Of rowAt
  by_cases h2 : k0_cond2 (grid0.coords t) (used m) = 1#1
  · have h2' := (cond2_iff _ _).mp h2
    have h3 : ¬ k0_cond3 (grid0.coords t) (used m) = 1#1 := fun h3 => by
      have h3' := (cond3_iff _ _).mp h3
      rw [BitVec.slt_iff_toInt_lt] at h2'
      rw [BitVec.sle_iff_toInt_le] at h3'
      omega
    rw [hc] at h2'
    rw [if_neg h3, if_pos h2, if_pos h2']
    exact (pay4_at _ _ r q).trans (acc_held m hok c t ht e he r (colB q))
  · have h3 := cond3_of_not _ _ h2
    have h2' := fun h => h2 ((cond2_iff _ _).mpr h)
    rw [hc] at h2'
    rw [if_pos h3, if_neg h2']
    exact pay6_at r q

end

/-! ## The two results -/

theorem tab0 : (tab m 0 : Vec Ideal S288 .i32) = (m (((0 : Dev nD).tc : Thread nD τ).loc main_arg2) : IVec S288 32) := V_arg2 m 0

theorem used_at : used m = (m (((0 : Dev nD).tc : Thread nD τ).loc main_arg3) : IVec S1 32) (ix1 0) := by
  refine (congrFun (V_arg3 m 0) _).trans (congrArg (m (((0 : Dev nD).tc : Thread nD τ).loc main_arg3)) (funext fun a => Fin.ext ?_))
  match a with
  | ⟨0, _⟩ => rfl

/-- The rows of all blocks over the kernel's arguments. -/
abbrev wholeOf (c : Dev nD) : FVec Ideal Cert.Reference4Ideal.S288x512x1024 .f32 :=
  Ref.whole (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

theorem word_back (x : BitVec 32) : x = BitVec.ofNat 32 x.toNat := by simp

include hok in
theorem expert_of (n : ℕ) (hn : n < 288) : ∃ e : Fin 32, (tab m 0 : Vec Ideal S288 .i32) (ix1 ⟨n, hn⟩) = BitVec.ofNat 32 e.val :=
  ⟨⟨((tab m 0 : Vec Ideal S288 .i32) (ix1 ⟨n, hn⟩) : BitVec 32).toNat, hok _⟩, word_back _⟩

theorem whole_row (c : Dev nD) (n : ℕ) (hn : n < 288) (e : Fin 32) (he : (tab m 0 : Vec Ideal S288 .i32) (ix1 ⟨n, hn⟩) = BitVec.ofNat 32 e.val)
    (r : Fin 512) (d : Fin 1024) : wholeOf m c (ix3 ⟨n, hn⟩ r d) = rowAt m c n hn e r d := by
  obtain rfl : c = 0 := Subsingleton.elim _ _
  unfold rowAt
  rw [used_at]
  exact Ref.whole_at _ ⟨n, hn⟩ e ((congrFun (tab0 m) _).symm.trans he) _ _ _ _ _ _ _ r d

theorem flush_6 (t : Fin (cfgE m hok).N) : ((cfgE m hok).win 6).flush t = true := by
  rw [Window.flush_out _ rfl]
  have ht : t.val < 288 := t.isLt
  by_cases h : t.val + 1 = 288
  · exact .inl h
  · refine .inr ⟨(by show t.val + 1 < 288; omega), fun he => ?_⟩
    have h0 := congrFun he (0 : Fin 2)
    have h0' : (BitVec.ofNat 32 (grid0.coords (⟨t.val + 1, by show t.val + 1 < 288; omega⟩ : Fin (cfgE m hok).N) 0).val).toNat
      = (BitVec.ofNat 32 (grid0.coords t 0).val).toNat := h0
    rw [coords_val m hok, coords_val m hok, word_toNat _ ht, word_toNat _ (by show t.val + 1 < 288; omega)] at h0'
    exact absurd h0' (by show t.val + 1 ≠ t.val; omega)

theorem flush_7 (t : Fin (cfgE m hok).N) : ((cfgE m hok).win 7).flush t = true := flush_6 m hok t

theorem emb_6 (t : Fin (cfgE m hok).N) (ht : t.val < 288) (r q : Fin 512) :
    (((cfgE m hok).win 6).rect t).emb (ix2 r q) = (ix2 (⟨t.val * 512 + r.val, by omega⟩ : Fin 147456) q : S147456x512.Idx) := by
  refine funext fun a => Fin.ext ?_
  refine (Window.rect_emb_val ((cfgE m hok).win 6) t (ix2 r q) a).trans ?_
  have hc := coords_val m hok t
  match a with
  | ⟨0, _⟩ =>
    show (BitVec.ofNat 32 (grid0.coords t 0).val).toNat * 512 + r.val = t.val * 512 + r.val
    rw [hc, word_toNat _ ht]
  | ⟨1, _⟩ =>
    show 0 * 512 + q.val = q.val
    omega

theorem row_split (n : ℕ) (hn : n < 288) (r : Fin 512) :
    (⟨(n * 512 + r.val) / 512, by omega⟩ : Fin 288) = ⟨n, hn⟩ ∧ (⟨(n * 512 + r.val) % 512, by omega⟩ : Fin 512) = r :=
  ⟨Fin.ext (by show (n * 512 + r.val) / 512 = n; omega), Fin.ext (by show (n * 512 + r.val) % 512 = r.val; omega)⟩

theorem halfA_row (Z : FVec Ideal Cert.Reference4Ideal.S288x512x1024 .f32) (n : ℕ) (hn : n < 288) (r q : Fin 512) :
    Ref.halfA Z (ix2 ⟨n * 512 + r.val, by omega⟩ q) = Z (ix3 ⟨n, hn⟩ r (colA q)) := by
  rw [Ref.halfA_at, (row_split n hn r).1, (row_split n hn r).2]

theorem halfB_row (Z : FVec Ideal Cert.Reference4Ideal.S288x512x1024 .f32) (n : ℕ) (hn : n < 288) (r q : Fin 512) :
    Ref.halfB Z (ix2 ⟨n * 512 + r.val, by omega⟩ q) = Z (ix3 ⟨n, hn⟩ r (colB q)) := by
  rw [Ref.halfB_at, (row_split n hn r).1, (row_split n hn r).2]

theorem blockMem (i : S147456x512.Idx) (t : Fin (cfgE m hok).N) (ht : t.val = (i 0).val / 512) :
    i ∈ (((cfgE m hok).win 6).rect t).set := by
  refine (Window.mem_rect_iff ((cfgE m hok).win 6) t i (by rfl)).mpr fun a => ?_
  have hc := coords_val m hok t
  have hlt : t.val < 288 := t.isLt
  match a with
  | ⟨0, _⟩ =>
    show (BitVec.ofNat 32 (grid0.coords t 0).val).toNat * 512 ≤ (i 0).val
      ∧ (i 0).val < (BitVec.ofNat 32 (grid0.coords t 0).val).toNat * 512 + 512
    rw [hc, word_toNat _ hlt]
    omega
  | ⟨1, _⟩ =>
    have h1 : (i 1).val < 512 := (i 1).isLt
    show 0 * 512 ≤ (i 1).val ∧ (i 1).val < 0 * 512 + 512
    omega

theorem point_of (i : S147456x512.Idx) : (i 0).val / 512 < (cfgE m hok).N := by
  have h : (i 0).val < 147456 := (i 0).isLt
  show (i 0).val / 512 < 288
  omega

theorem res6_eq (c : Dev nD) : res6 m hok c = Ref.halfA (wholeOf m c) := by
  refine (dats m hok 0 c).arrAt_eq_of_cover 6 (Ref.halfA (wholeOf m c) : S147456x512.Idx → Elt Ideal .bf16) (fun t _ => ?_) (fun i => ?_)
  · have ht : t.val < 288 := t.isLt
    obtain ⟨e, he⟩ := expert_of m hok t.val ht
    show ((cfgE m hok).win 6).cut ((cfgE m hok).grid.coords t) ((dats m hok 0 c).after 6 t) = _
    rw [after_6]
    refine funext fun y => ?_
    obtain ⟨r, q, rfl⟩ : ∃ r q : Fin 512, y = (ix2 r q : S512x512.Idx) := ⟨y (0 : Fin 2), y (1 : Fin 2), funext fun a => by match a with | ⟨0, _⟩ => rfl | ⟨1, _⟩ => rfl⟩
    refine (out6_at m hok c t ht e he r q).trans ?_
    refine Eq.trans ?_ (congrArg (Ref.halfA (wholeOf m c)) (emb_6 m hok t ht r q).symm)
    exact ((halfA_row _ t.val ht r q).trans (whole_row m c t.val ht e he r (colA q))).symm
  · refine ⟨⟨_, point_of m hok i⟩, flush_6 m hok _, ?_⟩
    show i ∈ ((View.whole main_v4_0).slice (((cfgE m hok).win 6).rect ⟨_, point_of m hok i⟩)).set
    erw [View.set_slice_whole]
    exact blockMem m hok i _ rfl

theorem res7_eq (c : Dev nD) : res7 m hok c = Ref.halfB (wholeOf m c) := by
  refine (dats m hok 0 c).arrAt_eq_of_cover 7 (Ref.halfB (wholeOf m c) : S147456x512.Idx → Elt Ideal .bf16) (fun t _ => ?_) (fun i => ?_)
  · have ht : t.val < 288 := t.isLt
    obtain ⟨e, he⟩ := expert_of m hok t.val ht
    show ((cfgE m hok).win 7).cut ((cfgE m hok).grid.coords t) ((dats m hok 0 c).after 7 t) = _
    rw [after_7]
    refine funext fun y => ?_
    obtain ⟨r, q, rfl⟩ : ∃ r q : Fin 512, y = (ix2 r q : S512x512.Idx) := ⟨y (0 : Fin 2), y (1 : Fin 2), funext fun a => by match a with | ⟨0, _⟩ => rfl | ⟨1, _⟩ => rfl⟩
    refine (out7_at m hok c t ht e he r q).trans ?_
    refine Eq.trans ?_ (congrArg (Ref.halfB (wholeOf m c)) (emb_6 m hok t ht r q).symm)
    exact ((halfB_row _ t.val ht r q).trans (whole_row m c t.val ht e he r (colB q))).symm
  · refine ⟨⟨_, point_of m hok i⟩, flush_7 m hok _, ?_⟩
    show i ∈ ((View.whole main_v4_1).slice (((cfgE m hok).win 7).rect ⟨_, point_of m hok i⟩)).set
    erw [View.set_slice_whole]
    exact blockMem m hok i _ rfl

end Cert.Proof.LastExperts
-- ==== Proof.PjMath.lean ====
module

public import proofs.«01_k».proof.Proof.Gen.Kernel5Ideal
public import proofs.«01_k».proof.Proof.Gen.Kernel5Ideal.Frame
public import Idealize.ShloMosaic.Lib.Pointwise
public import Idealize.ShloMosaic.Lib.Pipeline.ValueKit

/-! # The delta mixer's projection, entry by entry

A modulated row, its product with a column, and what a point of the projection leaves: the results' column slabs are each
a product with the same columns of the matrix. -/

@[expose] public section

noncomputable section

namespace Cert.Proof.Project

open Idealize.ShloMosaic

/-- An array whose pieces all read one function, read where a piece lies, is that function there. -/
theorem canon_eq_of_pieces {s : Shape} {e : EltTy} {Val : EltTy → Type} [∀ e, Nonempty (Val e)] (G : s.Idx → Val e) :
    (L : List (View.Piece Val s e)) → (∀ p ∈ L, ∀ x, p.2 x = G (p.1.emb x)) → ∀ y : s.Idx, (∃ p ∈ L, y ∈ p.1.set) → View.canon L y = G y
  | [], _, _, h => by obtain ⟨p, hp, _⟩ := h; exact absurd hp (List.not_mem_nil)
  | p :: L, hL, y, h => by
    by_cases hy : y ∈ p.1.set
    · obtain ⟨x, rfl⟩ : ∃ x, p.1.emb x = y := by
        choose j hj e using p.1.mem_set.mp hy
        exact ⟨fun a => ⟨j a, hj a⟩, funext fun a => Fin.ext (e a).symm⟩
      obtain ⟨r, w⟩ := p
      exact (View.canon_cons_emb r w L x).trans (hL _ (List.mem_cons_self) x)
    · refine (View.canon_cons_of_not_mem p L hy).trans (canon_eq_of_pieces G L (fun q hq => hL q (List.mem_cons_of_mem _ hq)) y ?_)
      obtain ⟨q, hq, hyq⟩ := h
      rcases List.mem_cons.mp hq with rfl | hq
      · exact absurd hyq hy
      · exact ⟨q, hq, hyq⟩

/-- A modulated entry. -/
def modulated (x scale shift : EReal) : EReal := x * (1 + scale) + shift

end Cert.Proof.Project

namespace Cert.Proof.Project.Delta

open Cert.Kernel5Ideal Cert.Kernel5Ideal.Gen
open Idealize.ShloMosaic

/-- A row's product with a column, and the column's bias. -/
def line {n : ℕ} (h : FVec Ideal S256x1024 .bf16) (w : Fin 1024 → Fin n → EReal) (b : Fin n → EReal) (r : Fin 256) (d : Fin n) : EReal :=
  (∑ k, h (ix2 r k) * w k d) + b d

theorem pay4_at (v0 v2 : Vec Ideal S1x1x1x1024 .f32) (v4 : Vec Ideal S1x256x1024 .f32) (r : Fin 256) (k : Fin 1024) :
    k0_pay4 (F := Ideal) v0 v2 v4 (ix2 r k) = modulated (v4 (ix3 0 r k)) (v2 (ix4 0 0 0 k)) (v0 (ix4 0 0 0 k)) := by
  pointwise [k0_pay4]
  rfl

theorem pay2_at (h : FVec Ideal S256x1024 .bf16) (w : Vec Ideal S1024x512 .bf16) (b : Vec Ideal S1x512 .f32) (r : Fin 256) (d : Fin 512) :
    k0_pay2 (F := Ideal) h w b (ix3 0 r d) = line h (fun k d => w (ix2 k d)) (fun d => b (ix2 0 d)) r d := by
  pointwise [k0_pay2]
  rfl

theorem pay8_at (h : FVec Ideal S256x1024 .bf16) (w : Vec Ideal S1024x512 .bf16) (b : Vec Ideal S1x512 .f32) (r : Fin 256) (d : Fin 512) :
    k0_pay8 (F := Ideal) h w b (ix3 0 r d) = line h (fun k d => w (ix2 k d)) (fun d => b (ix2 0 d)) r d := by
  pointwise [k0_pay8]
  rfl

theorem pay9_at (h : FVec Ideal S256x1024 .bf16) (w : Vec Ideal S1024x512 .bf16) (b : Vec Ideal S1x512 .f32) (r : Fin 256) (d : Fin 512) :
    k0_pay9 (F := Ideal) h w b (ix3 0 r d) = line h (fun k d => w (ix2 k d)) (fun d => b (ix2 0 d)) r d := by
  pointwise [k0_pay9]
  rfl

theorem pay12_at (h : FVec Ideal S256x1024 .bf16) (w : Vec Ideal S1024x512 .bf16) (b : Vec Ideal S1x512 .f32) (r : Fin 256) (d : Fin 512) :
    k0_pay12 (F := Ideal) h w b (ix3 0 r d) = line h (fun k d => w (ix2 k d)) (fun d => b (ix2 0 d)) r d := by
  pointwise [k0_pay12]
  rfl

theorem pay13_at (h : FVec Ideal S256x1024 .bf16) (w : Vec Ideal S1024x512 .bf16) (b : Vec Ideal S1x512 .f32) (r : Fin 256) (d : Fin 512) :
    k0_pay13 (F := Ideal) h w b (ix3 0 r d) = line h (fun k d => w (ix2 k d)) (fun d => b (ix2 0 d)) r d := by
  pointwise [k0_pay13]
  rfl

theorem pay16_at (h : FVec Ideal S256x1024 .bf16) (w : Vec Ideal S1024x512 .bf16) (b : Vec Ideal S1x512 .f32) (r : Fin 256) (d : Fin 512) :
    k0_pay16 (F := Ideal) h w b (ix3 0 r d) = line h (fun k d => w (ix2 k d)) (fun d => b (ix2 0 d)) r d := by
  pointwise [k0_pay16]
  rfl

theorem pay17_at (h : FVec Ideal S256x1024 .bf16) (w : Vec Ideal S1024x512 .bf16) (b : Vec Ideal S1x512 .f32) (r : Fin 256) (d : Fin 512) :
    k0_pay17 (F := Ideal) h w b (ix3 0 r d) = line h (fun k d => w (ix2 k d)) (fun d => b (ix2 0 d)) r d := by
  pointwise [k0_pay17]
  rfl

theorem pay11_at (h : FVec Ideal S256x1024 .bf16) (w : Vec Ideal S1024x512 .bf16) (b : Vec Ideal S1x512 .f32) (r : Fin 256) (d : Fin 512) :
    k0_pay11 (F := Ideal) (k0_pay10 h w b) (ix3 0 r d) = line h (fun k d => w (ix2 k d)) (fun d => b (ix2 0 d)) r d := by
  pointwise [k0_pay11, k0_pay10]
  rfl

theorem pay15_at (h : FVec Ideal S256x1024 .bf16) (w : Vec Ideal S1024x512 .bf16) (b : Vec Ideal S1x512 .f32) (r : Fin 256) (d : Fin 512) :
    k0_pay15 (F := Ideal) (k0_pay14 h w b) (ix3 0 r d) = line h (fun k d => w (ix2 k d)) (fun d => b (ix2 0 d)) r d := by
  pointwise [k0_pay15, k0_pay14]
  rfl

theorem pay1_at (h : FVec Ideal S256x1024 .bf16) (w : Vec Ideal S1024x512 .bf16) (b : Vec Ideal S1x512 .f32) (r : Fin 256) (d : Fin 512) :
    k0_pay1 (F := Ideal) (k0_pay18 h w b) (ix3 0 r d) = line h (fun k d => w (ix2 k d)) (fun d => b (ix2 0 d)) r d := by
  pointwise [k0_pay1, k0_pay18]
  rfl

theorem pay5_at (v0 v2 : Vec Ideal S1x1x1x1024 .f32) (v4 : Vec Ideal S1x256x1024 .f32) (w : Vec Ideal S1024x512 .bf16) (b : Vec Ideal S1x512 .f32) (r : Fin 256) (d : Fin 512) :
    k0_pay5 (F := Ideal) v0 v2 v4 w b (ix3 0 r d) = line (k0_pay4 v0 v2 v4) (fun k d => w (ix2 k d)) (fun d => b (ix2 0 d)) r d := by
  pointwise [k0_pay5]
  rfl

theorem pay7_at (v0 v2 : Vec Ideal S1x1x1x1024 .f32) (v4 : Vec Ideal S1x256x1024 .f32) (w : Vec Ideal S1024x512 .bf16) (b : Vec Ideal S1x512 .f32) (r : Fin 256) (d : Fin 512) :
    k0_pay7 (F := Ideal) (k0_pay6 v0 v2 v4 w b) (ix3 0 r d) = line (k0_pay4 v0 v2 v4) (fun k d => w (ix2 k d)) (fun d => b (ix2 0 d)) r d := by
  pointwise [k0_pay7, k0_pay6]
  rfl

theorem pay3_at (h : FVec Ideal S256x1024 .bf16) (w : Vec Ideal S1024x128 .bf16) (b : Vec Ideal S1x128 .f32) (r : Fin 256) (d : Fin 128) :
    k0_pay3 (F := Ideal) h w b (ix3 0 r d) = line h (fun k d => w (ix2 k d)) (fun d => b (ix2 0 d)) r d := by
  pointwise [k0_pay3]
  rfl

/-! ## What a point leaves -/

/-- The point's row, modulated, by column `q` of the matrix. -/
def entry (x0 : Vec Ideal S1x256x1024 .f32) (x1 : Vec Ideal S1x1x8x1024 .f32) (x2 : Vec Ideal S1024x6272 .bf16) (x3 : Vec Ideal S1x6272 .f32)
    (r : Fin 256) (q : Fin 6272) : EReal :=
  (∑ k, modulated (x0 (ix3 0 r k)) (x1 (ix4 0 0 1 k)) (x1 (ix4 0 0 0 k)) * x2 (ix2 k q)) + x3 (ix2 0 q)

theorem ld_shift (x : Vec Ideal S1x1x8x1024 .f32) (l : Fin 1024) : View.ld x r0_0 (ix4 0 0 0 l) = x (ix4 0 0 0 l) := by
  refine congrArg x (funext fun a => Fin.ext ?_)
  match a with
  | ⟨0, _⟩ => rfl
  | ⟨1, _⟩ => rfl
  | ⟨2, _⟩ => rfl
  | ⟨3, _⟩ => show 0 + 1 * l.val = l.val; omega

theorem ld_scale (x : Vec Ideal S1x1x8x1024 .f32) (l : Fin 1024) : View.ld x r0_1 (ix4 0 0 0 l) = x (ix4 0 0 1 l) := by
  refine congrArg x (funext fun a => Fin.ext ?_)
  match a with
  | ⟨0, _⟩ => rfl
  | ⟨1, _⟩ => rfl
  | ⟨2, _⟩ => rfl
  | ⟨3, _⟩ => show 0 + 1 * l.val = l.val; omega

theorem ld_x (x : Vec Ideal S1x256x1024 .f32) (r : Fin 256) (l : Fin 1024) : View.ld x r0_2 (ix3 0 r l) = x (ix3 0 r l) := by
  refine congrArg x (funext fun a => Fin.ext ?_)
  match a with
  | ⟨0, _⟩ => rfl
  | ⟨1, _⟩ => show 0 + 1 * r.val = r.val; omega
  | ⟨2, _⟩ => show 0 + 1 * l.val = l.val; omega

/-- A product with loaded columns is the entry of the whole column. -/
theorem line_entry (x0 : Vec Ideal S1x256x1024 .f32) (x1 : Vec Ideal S1x1x8x1024 .f32) (x2 : Vec Ideal S1024x6272 .bf16) (x3 : Vec Ideal S1x6272 .f32)
    {n : ℕ} (o : ℕ) (h2 : ∀ a, (![0, o] : Fin 2 → ℕ) a + (⟨2, ![1024, n]⟩ : Shape).size a ≤ S1024x6272.size a)
    (h3 : ∀ a, (![0, o] : Fin 2 → ℕ) a + (⟨2, ![1, n]⟩ : Shape).size a ≤ S1x6272.size a) (r : Fin 256) (d : Fin n) (q : Fin 6272) (hq : q.val = o + d.val) :
    line (k0_pay4 (View.ld x1 r0_0) (View.ld x1 r0_1) (View.ld x0 r0_2))
      (fun k (d : Fin n) => View.ld x2 (Rect.unit (s := S1024x6272) ![0, o] (⟨2, ![1024, n]⟩ : Shape).size h2) (ix2 k d))
      (fun d => View.ld x3 (Rect.unit (s := S1x6272) ![0, o] (⟨2, ![1, n]⟩ : Shape).size h3) (ix2 0 d)) r d = entry x0 x1 x2 x3 r q := by
  have e2 : ∀ k : Fin 1024, View.ld x2 (Rect.unit (s := S1024x6272) ![0, o] (⟨2, ![1024, n]⟩ : Shape).size h2) (ix2 k d) = x2 (ix2 k q) := fun k => by
    refine congrArg x2 (funext fun a => Fin.ext ?_)
    match a with
    | ⟨0, _⟩ => show 0 + 1 * k.val = k.val; omega
    | ⟨1, _⟩ => show o + 1 * d.val = q.val; omega
  have e3 : View.ld x3 (Rect.unit (s := S1x6272) ![0, o] (⟨2, ![1, n]⟩ : Shape).size h3) (ix2 0 d) = x3 (ix2 0 q) := by
    refine congrArg x3 (funext fun a => Fin.ext ?_)
    match a with
    | ⟨0, _⟩ => rfl
    | ⟨1, _⟩ => show o + 1 * d.val = q.val; omega
  unfold line entry
  refine congrArg₂ (· + ·) (Finset.sum_congr rfl fun k _ => congrArg₂ (· * ·) ?_ (e2 k)) e3
  rw [pay4_at, ld_shift, ld_scale, ld_x]

/-- The first result's block. -/
def G4 (x0 : Vec Ideal S1x256x1024 .f32) (x1 : Vec Ideal S1x1x8x1024 .f32) (x2 : Vec Ideal S1024x6272 .bf16) (x3 : Vec Ideal S1x6272 .f32) : Vec Ideal S1x256x4096 .bf16 :=
  fun y => entry x0 x1 x2 x3 ⟨(y (1 : Fin 3)).val, (y (1 : Fin 3)).isLt⟩ ⟨(y (2 : Fin 3)).val, by have h : (y (2 : Fin 3)).val < 4096 := (y (2 : Fin 3)).isLt; omega⟩

/-- The second's. -/
def G5 (x0 : Vec Ideal S1x256x1024 .f32) (x1 : Vec Ideal S1x1x8x1024 .f32) (x2 : Vec Ideal S1024x6272 .bf16) (x3 : Vec Ideal S1x6272 .f32) : Vec Ideal S1x256x2048 .bf16 :=
  fun y => entry x0 x1 x2 x3 ⟨(y (1 : Fin 3)).val, (y (1 : Fin 3)).isLt⟩ ⟨4096 + (y (2 : Fin 3)).val, by have h : (y (2 : Fin 3)).val < 2048 := (y (2 : Fin 3)).isLt; omega⟩

/-- The third's. -/
def G6 (x0 : Vec Ideal S1x256x1024 .f32) (x1 : Vec Ideal S1x1x8x1024 .f32) (x2 : Vec Ideal S1024x6272 .bf16) (x3 : Vec Ideal S1x6272 .f32) : Vec Ideal S1x256x128 .f32 :=
  fun y => entry x0 x1 x2 x3 ⟨(y (1 : Fin 3)).val, (y (1 : Fin 3)).isLt⟩ ⟨6144 + (y (2 : Fin 3)).val, by have h : (y (2 : Fin 3)).val < 128 := (y (2 : Fin 3)).isLt; omega⟩

theorem split3 {a b : ℕ} (y : (⟨3, ![1, a, b]⟩ : Shape).Idx) : ∃ (r : Fin a) (d : Fin b), y = ix3 0 r d :=
  ⟨y (1 : Fin 3), y (2 : Fin 3), funext fun i => by
    match i with
    | ⟨0, _⟩ => exact Fin.ext (Nat.lt_one_iff.mp (y (0 : Fin 3)).isLt)
    | ⟨1, _⟩ => rfl
    | ⟨2, _⟩ => rfl⟩

theorem out4_eq (x0 : Vec Ideal S1x256x1024 .f32) (x1 : Vec Ideal S1x1x8x1024 .f32) (x2 : Vec Ideal S1024x6272 .bf16) (x3 : Vec Ideal S1x6272 .f32) :
    out0_4 x0 x1 x2 x3 = G4 x0 x1 x2 x3 := by
  funext y
  refine canon_eq_of_pieces (G4 x0 x1 x2 x3) _ ?_ y (cover0_4 _ _ _ _ _ _ _ _ y)
  refine List.forall_mem_cons.mpr ⟨(fun x => by
      obtain ⟨r, d, rfl⟩ := split3 x
      refine (pay15_at _ _ _ r d).trans ((line_entry x0 x1 x2 x3 3584 _ _ r d ⟨3584 + d.val, by omega⟩ rfl).trans ?_)
      refine congrArg₂ (entry x0 x1 x2 x3) (Fin.ext ?_) (Fin.ext ?_)
      · show r.val = 0 + 1 * r.val; omega
      · show 3584 + d.val = (3584 + 1 * d.val); omega),
    List.forall_mem_cons.mpr ⟨(fun x => by
      obtain ⟨r, d, rfl⟩ := split3 x
      refine (pay13_at _ _ _ r d).trans ((line_entry x0 x1 x2 x3 3072 _ _ r d ⟨3072 + d.val, by omega⟩ rfl).trans ?_)
      refine congrArg₂ (entry x0 x1 x2 x3) (Fin.ext ?_) (Fin.ext ?_)
      · show r.val = 0 + 1 * r.val; omega
      · show 3072 + d.val = (3072 + 1 * d.val); omega),
    List.forall_mem_cons.mpr ⟨(fun x => by
      obtain ⟨r, d, rfl⟩ := split3 x
      refine (pay12_at _ _ _ r d).trans ((line_entry x0 x1 x2 x3 2560 _ _ r d ⟨2560 + d.val, by omega⟩ rfl).trans ?_)
      refine congrArg₂ (entry x0 x1 x2 x3) (Fin.ext ?_) (Fin.ext ?_)
      · show r.val = 0 + 1 * r.val; omega
      · show 2560 + d.val = (2560 + 1 * d.val); omega),
    List.forall_mem_cons.mpr ⟨(fun x => by
      obtain ⟨r, d, rfl⟩ := split3 x
      refine (pay11_at _ _ _ r d).trans ((line_entry x0 x1 x2 x3 2048 _ _ r d ⟨2048 + d.val, by omega⟩ rfl).trans ?_)
      refine congrArg₂ (entry x0 x1 x2 x3) (Fin.ext ?_) (Fin.ext ?_)
      · show r.val = 0 + 1 * r.val; omega
      · show 2048 + d.val = (2048 + 1 * d.val); omega),
    List.forall_mem_cons.mpr ⟨(fun x => by
      obtain ⟨r, d, rfl⟩ := split3 x
      refine (pay9_at _ _ _ r d).trans ((line_entry x0 x1 x2 x3 1536 _ _ r d ⟨1536 + d.val, by omega⟩ rfl).trans ?_)
      refine congrArg₂ (entry x0 x1 x2 x3) (Fin.ext ?_) (Fin.ext ?_)
      · show r.val = 0 + 1 * r.val; omega
      · show 1536 + d.val = (1536 + 1 * d.val); omega),
    List.forall_mem_cons.mpr ⟨(fun x => by
      obtain ⟨r, d, rfl⟩ := split3 x
      refine (pay8_at _ _ _ r d).trans ((line_entry x0 x1 x2 x3 1024 _ _ r d ⟨1024 + d.val, by omega⟩ rfl).trans ?_)
      refine congrArg₂ (entry x0 x1 x2 x3) (Fin.ext ?_) (Fin.ext ?_)
      · show r.val = 0 + 1 * r.val; omega
      · show 1024 + d.val = (1024 + 1 * d.val); omega),
    List.forall_mem_cons.mpr ⟨(fun x => by
      obtain ⟨r, d, rfl⟩ := split3 x
      refine (pay7_at _ _ _ _ _ r d).trans ((line_entry x0 x1 x2 x3 512 _ _ r d ⟨512 + d.val, by omega⟩ rfl).trans ?_)
      refine congrArg₂ (entry x0 x1 x2 x3) (Fin.ext ?_) (Fin.ext ?_)
      · show r.val = 0 + 1 * r.val; omega
      · show 512 + d.val = (512 + 1 * d.val); omega),
    List.forall_mem_cons.mpr ⟨(fun x => by
      obtain ⟨r, d, rfl⟩ := split3 x
      refine (pay5_at _ _ _ _ _ r d).trans ((line_entry x0 x1 x2 x3 0 _ _ r d ⟨0 + d.val, by omega⟩ rfl).trans ?_)
      refine congrArg₂ (entry x0 x1 x2 x3) (Fin.ext ?_) (Fin.ext ?_)
      · show r.val = 0 + 1 * r.val; omega
      · show 0 + d.val = (0 + 1 * d.val); omega),
    fun _ h => absurd h List.not_mem_nil⟩⟩⟩⟩⟩⟩⟩⟩

theorem out5_eq (x0 : Vec Ideal S1x256x1024 .f32) (x1 : Vec Ideal S1x1x8x1024 .f32) (x2 : Vec Ideal S1024x6272 .bf16) (x3 : Vec Ideal S1x6272 .f32) :
    out0_5 x0 x1 x2 x3 = G5 x0 x1 x2 x3 := by
  funext y
  refine canon_eq_of_pieces (G5 x0 x1 x2 x3) _ ?_ y (cover0_5 _ _ _ _ y)
  refine List.forall_mem_cons.mpr ⟨(fun x => by
      obtain ⟨r, d, rfl⟩ := split3 x
      refine (pay2_at _ _ _ r d).trans ((line_entry x0 x1 x2 x3 5632 _ _ r d ⟨5632 + d.val, by omega⟩ rfl).trans ?_)
      refine congrArg₂ (entry x0 x1 x2 x3) (Fin.ext ?_) (Fin.ext ?_)
      · show r.val = 0 + 1 * r.val; omega
      · show 5632 + d.val = 4096 + (1536 + 1 * d.val); omega),
    List.forall_mem_cons.mpr ⟨(fun x => by
      obtain ⟨r, d, rfl⟩ := split3 x
      refine (pay1_at _ _ _ r d).trans ((line_entry x0 x1 x2 x3 5120 _ _ r d ⟨5120 + d.val, by omega⟩ rfl).trans ?_)
      refine congrArg₂ (entry x0 x1 x2 x3) (Fin.ext ?_) (Fin.ext ?_)
      · show r.val = 0 + 1 * r.val; omega
      · show 5120 + d.val = 4096 + (1024 + 1 * d.val); omega),
    List.forall_mem_cons.mpr ⟨(fun x => by
      obtain ⟨r, d, rfl⟩ := split3 x
      refine (pay17_at _ _ _ r d).trans ((line_entry x0 x1 x2 x3 4608 _ _ r d ⟨4608 + d.val, by omega⟩ rfl).trans ?_)
      refine congrArg₂ (entry x0 x1 x2 x3) (Fin.ext ?_) (Fin.ext ?_)
      · show r.val = 0 + 1 * r.val; omega
      · show 4608 + d.val = 4096 + (512 + 1 * d.val); omega),
    List.forall_mem_cons.mpr ⟨(fun x => by
      obtain ⟨r, d, rfl⟩ := split3 x
      refine (pay16_at _ _ _ r d).trans ((line_entry x0 x1 x2 x3 4096 _ _ r d ⟨4096 + d.val, by omega⟩ rfl).trans ?_)
      refine congrArg₂ (entry x0 x1 x2 x3) (Fin.ext ?_) (Fin.ext ?_)
      · show r.val = 0 + 1 * r.val; omega
      · show 4096 + d.val = 4096 + (0 + 1 * d.val); omega),
    fun _ h => absurd h List.not_mem_nil⟩⟩⟩⟩

theorem out6_eq (x0 : Vec Ideal S1x256x1024 .f32) (x1 : Vec Ideal S1x1x8x1024 .f32) (x2 : Vec Ideal S1024x6272 .bf16) (x3 : Vec Ideal S1x6272 .f32) :
    out0_6 x0 x1 x2 x3 = G6 x0 x1 x2 x3 := by
  funext y
  refine canon_eq_of_pieces (G6 x0 x1 x2 x3) _ ?_ y (cover0_6 _ y)
  refine List.forall_mem_cons.mpr ⟨(fun x => by
      obtain ⟨r, d, rfl⟩ := split3 x
      refine (pay3_at _ _ _ r d).trans ((line_entry x0 x1 x2 x3 6144 _ _ r d ⟨6144 + d.val, by omega⟩ rfl).trans ?_)
      refine congrArg₂ (entry x0 x1 x2 x3) (Fin.ext ?_) (Fin.ext ?_)
      · show r.val = 0 + 1 * r.val; omega
      · show 6144 + d.val = 6144 + (0 + 1 * d.val); omega),
    fun _ h => absurd h List.not_mem_nil⟩

end Cert.Proof.Project.Delta

end
-- ==== Proof.PjRef.lean ====
module

public import proofs.«01_k».proof.Proof.Gen.Reference5Ideal
public import proofs.«01_k».proof.Proof.Gen.Reference5Ideal.Run
public import proofs.«01_k».proof.Proof.PjMath
public import Idealize.ShloMosaic.Lib.Pointwise

/-! # The delta projection's reference, entry by entry -/

@[expose] public section

noncomputable section

namespace Cert.Proof.Project.Delta.Ref

open Cert.Reference5Ideal Cert.Reference5Ideal.Gen
open Idealize.ShloMosaic

/-- The table's context rows. -/
def tabC (a1 : FVec Ideal S8x2x8x1024 .f32) : FVec Ideal S8x8x1024 .f32 :=
  shapeCast S8x8x1024 (extractStridedSlice S8x1x8x1024 ![0, 0, 0, 0] a1 slices_S8x2x8x1024_S8x1x8x1024_0_0_0_0) shapeCasts_S8x1x8x1024_S8x8x1024

/-- The table's latent rows. -/
def tabL (a1 : FVec Ideal S8x2x8x1024 .f32) : FVec Ideal S8x8x1024 .f32 :=
  shapeCast S8x8x1024 (extractStridedSlice S8x1x8x1024 ![0, 1, 0, 0] a1 slices_S8x2x8x1024_S8x1x8x1024_0_1_0_0) shapeCasts_S8x1x8x1024_S8x8x1024

/-- A table's shifts and scales as rows. -/
def shifts (T : FVec Ideal S8x8x1024 .f32) : FVec Ideal S8x1x1024 .f32 :=
  broadcastInDim S8x1x1024 ![0, 2] bcast_S8x1024_S8x1x1024_0_2 (shapeCast S8x1024 (extractStridedSlice S8x1x1024 ![0, 0, 0] T slices_S8x8x1024_S8x1x1024_0_0_0) shapeCasts_S8x1x1024_S8x1024)

def scales (T : FVec Ideal S8x8x1024 .f32) : FVec Ideal S8x1x1024 .f32 :=
  addf (broadcastInDim S8x1x1024 ![] bcast_S_S8x1x1024 (constant S_ .f32 0x3F800000#32)) (broadcastInDim S8x1x1024 ![0, 2] bcast_S8x1024_S8x1x1024_0_2 (shapeCast S8x1024 (extractStridedSlice S8x1x1024 ![0, 1, 0] T slices_S8x8x1024_S8x1x1024_0_1_0) shapeCasts_S8x1x1024_S8x1024))

/-- The context's modulated rows. -/
def ctxRows (a0 : FVec Ideal S8x4352x1024 .f32) (a1 : FVec Ideal S8x2x8x1024 .f32) : FVec Ideal S8x256x1024 .f32 :=
  addf (mulf (extractStridedSlice S8x256x1024 ![0, 0, 0] a0 slices_S8x4352x1024_S8x256x1024_0_0_0) (broadcastInDim S8x256x1024 ![0, 1, 2] bcast_S8x1x1024_S8x256x1024_0_1_2 (scales (tabC a1))))
    (broadcastInDim S8x256x1024 ![0, 1, 2] bcast_S8x1x1024_S8x256x1024_0_1_2 (shifts (tabC a1)))

/-- The latent modulated rows. -/
def latRows (a0 : FVec Ideal S8x4352x1024 .f32) (a1 : FVec Ideal S8x2x8x1024 .f32) : FVec Ideal S8x4096x1024 .f32 :=
  addf (mulf (extractStridedSlice S8x4096x1024 ![0, 256, 0] a0 slices_S8x4352x1024_S8x4096x1024_0_256_0) (broadcastInDim S8x4096x1024 ![0, 1, 2] bcast_S8x1x1024_S8x4096x1024_0_1_2 (scales (tabL a1))))
    (broadcastInDim S8x4096x1024 ![0, 1, 2] bcast_S8x1x1024_S8x4096x1024_0_1_2 (shifts (tabL a1)))

/-- All modulated rows. -/
def rows (a0 : FVec Ideal S8x4352x1024 .f32) (a1 : FVec Ideal S8x2x8x1024 .f32) : FVec Ideal S8x4352x1024 .f32 :=
  concatenate S8x4352x1024 1 [⟨S8x256x1024, ctxRows a0 a1⟩, ⟨S8x4096x1024, latRows a0 a1⟩] concatenates_S8x256x1024_S8x4096x1024_S8x4352x1024_d1

/-- The rows by the matrix. -/
def product (a0 : FVec Ideal S8x4352x1024 .f32) (a1 : FVec Ideal S8x2x8x1024 .f32) (a2 : FVec Ideal S1024x6144 .f32) : FVec Ideal S8x4352x6144 .f32 :=
  Host.dotGeneral dot_S8x4352x1024_S1024x6144_S8x4352x6144_2_0_01_1_n_n none (rows a0 a1) a2

def res0 (a0 : FVec Ideal S8x4352x1024 .f32) (a1 : FVec Ideal S8x2x8x1024 .f32) (a2 : FVec Ideal S1024x6144 .f32) : FVec Ideal S8x4352x4096 .bf16 :=
  truncf .bf16 (extractStridedSlice S8x4352x4096 ![0, 0, 0] (product a0 a1 a2) slices_S8x4352x6144_S8x4352x4096_0_0_0) bitsLt_bf16_f32

def res1 (a0 : FVec Ideal S8x4352x1024 .f32) (a1 : FVec Ideal S8x2x8x1024 .f32) (a2 : FVec Ideal S1024x6144 .f32) : FVec Ideal S8x4352x2048 .bf16 :=
  truncf .bf16 (extractStridedSlice S8x4352x2048 ![0, 0, 4096] (product a0 a1 a2) slices_S8x4352x6144_S8x4352x2048_0_0_4096) bitsLt_bf16_f32

def res2 (a0 : FVec Ideal S8x4352x1024 .f32) (a1 : FVec Ideal S8x2x8x1024 .f32) (a3 : FVec Ideal S1024x64 .f32) : FVec Ideal S8x4352x128 .f32 :=
  pad S8x4352x128 ![0, 0, 0] ![0, 0, 64] ![0, 0, 0] (Host.dotGeneral dot_S8x4352x1024_S1024x64_S8x4352x64_2_0_01_1_n_n none (rows a0 a1) a3) (sitofp .f32 (constantI S_ 32 0#32)) pads_S8x4352x64_S8x4352x128_000_000_0640 h_S_

/-! ## At one entry -/

/-- The word 0 as a float is 0. -/
theorem zero_word : (FloatOps.sitofp (F := Ideal) FTy.f32 0#32 : EReal) = 0 := by
  show ((((0#32 : BitVec 32).toInt : ℤ) : ℝ) : EReal) = 0
  simp

/-- The part of the table a row takes: the context's before the latent rows'. -/
def seg (n : Fin 4352) : Fin 2 := if n.val < 256 then 0 else 1

theorem ctxRows_at (a0 : FVec Ideal S8x4352x1024 .f32) (a1 : FVec Ideal S8x2x8x1024 .f32) (b : Fin 8) (n : Fin 256) (k : Fin 1024) :
    ctxRows a0 a1 (ix3 b n k) = modulated (a0 (ix3 b ⟨n.val, by omega⟩ k)) (a1 (ix4 b 0 1 k)) (a1 (ix4 b 0 0 k)) := by
  pointwise [ctxRows, scales, shifts, tabC]
  rfl

theorem latRows_at (a0 : FVec Ideal S8x4352x1024 .f32) (a1 : FVec Ideal S8x2x8x1024 .f32) (b : Fin 8) (n : Fin 4096) (k : Fin 1024) :
    latRows a0 a1 (ix3 b n k) = modulated (a0 (ix3 b ⟨256 + n.val, by omega⟩ k)) (a1 (ix4 b 1 1 k)) (a1 (ix4 b 1 0 k)) := by
  pointwise [latRows, scales, shifts, tabL]
  rfl

theorem rows_at (a0 : FVec Ideal S8x4352x1024 .f32) (a1 : FVec Ideal S8x2x8x1024 .f32) (b : Fin 8) (n : Fin 4352) (k : Fin 1024) :
    rows a0 a1 (ix3 b n k) = modulated (a0 (ix3 b n k)) (a1 (ix4 b (seg n) 1 k)) (a1 (ix4 b (seg n) 0 k)) := by
  by_cases h : n.val < 256
  · have hs : seg n = 0 := if_pos h
    rw [hs]
    refine Eq.trans ?_ (ctxRows_at a0 a1 b ⟨n.val, h⟩ k)
    pointwise [rows]
    simp only [h, dif_pos]
  · have hs : seg n = 1 := if_neg h
    rw [hs]
    refine Eq.trans ?_ ((latRows_at a0 a1 b ⟨n.val - 256, by omega⟩ k).trans ?_)
    · pointwise [rows]
      simp only [h, dif_neg, not_false_iff]
    · have e : (⟨256 + (n.val - 256), by omega⟩ : Fin 4352) = n := Fin.ext (by show 256 + (n.val - 256) = n.val; omega)
      exact congrArg (fun q => modulated (a0 (ix3 b q k)) _ _) e

theorem product_at (a0 : FVec Ideal S8x4352x1024 .f32) (a1 : FVec Ideal S8x2x8x1024 .f32) (a2 : FVec Ideal S1024x6144 .f32) (b : Fin 8) (n : Fin 4352) (q : Fin 6144) :
    product a0 a1 a2 (ix3 b n q) = ∑ k, rows a0 a1 (ix3 b n k) * a2 (ix2 k q) := by
  pointwise [product]

theorem res0_at (a0 : FVec Ideal S8x4352x1024 .f32) (a1 : FVec Ideal S8x2x8x1024 .f32) (a2 : FVec Ideal S1024x6144 .f32) (b : Fin 8) (n : Fin 4352) (d : Fin 4096) :
    res0 a0 a1 a2 (ix3 b n d) = ∑ k, rows a0 a1 (ix3 b n k) * a2 (ix2 k ⟨d.val, by omega⟩) := by
  pointwise [res0]
  rw [product_at]

theorem res1_at (a0 : FVec Ideal S8x4352x1024 .f32) (a1 : FVec Ideal S8x2x8x1024 .f32) (a2 : FVec Ideal S1024x6144 .f32) (b : Fin 8) (n : Fin 4352) (d : Fin 2048) :
    res1 a0 a1 a2 (ix3 b n d) = ∑ k, rows a0 a1 (ix3 b n k) * a2 (ix2 k ⟨4096 + d.val, by omega⟩) := by
  pointwise [res1]
  rw [product_at]

theorem res2_at (a0 : FVec Ideal S8x4352x1024 .f32) (a1 : FVec Ideal S8x2x8x1024 .f32) (a3 : FVec Ideal S1024x64 .f32) (b : Fin 8) (n : Fin 4352) (d : Fin 128) :
    res2 a0 a1 a3 (ix3 b n d) = if h : d.val < 64 then ∑ k, rows a0 a1 (ix3 b n k) * a3 (ix2 k ⟨d.val, h⟩) else 0 := by
  pointwise [res2]
  refine dite_congr rfl (fun _ => rfl) fun _ => zero_word

end Cert.Proof.Project.Delta.Ref

end
-- ==== Proof.PjValue.lean ====
module

public import proofs.«01_k».proof.Proof.PjMath
public import proofs.«01_k».proof.Proof.PjRef
public import Idealize.ShloMosaic.Lib.StableHlo.Run
public import Idealize.ShloMosaic.Lib.Pipeline.ValueKit
public import Idealize.ShloMosaic.Lib.Pointwise

/-! # The delta projection's results, entry by entry

The blocks a point holds, read at one entry of the arguments; the three results. -/

@[expose] public section

noncomputable section

namespace Cert.Proof.Project.Delta

open Cert.Kernel5Ideal Cert.Kernel5Ideal.Gen
open Idealize.ShloMosaic Idealize.ShloMosaic.TcCoe
open Idealize.ShloMosaic.Pipeline
open Idealize.SL Idealize.SL.Sem

variable (m : (ℓ : Loc nD τ sig) → Buf (Elt Ideal) ℓ)

/-! ## The prepared arrays -/

/-- The matrix the call takes: both matrices' columns, then columns of zeros. -/
def joined (a2 : FVec Ideal S1024x6144 .f32) (a3 : FVec Ideal S1024x64 .f32) : FVec Ideal S1024x6272 .bf16 :=
  truncf .bf16 (concatenate S1024x6272 1 [⟨S1024x6144, a2⟩, ⟨S1024x128, pad S1024x128 ![0, 0] ![0, 64] ![0, 0] a3 (sitofp .f32 (constantI S_ 32 0#32)) pads_S1024x64_S1024x128_000_0640 h_S_⟩] concatenates_S1024x6144_S1024x128_S1024x6272_d1) bitsLt_bf16_f32

theorem V_v2 (c : Dev nD) : V m c main_v2 = joined (m ((c.tc : Thread nD τ).loc main_arg2)) (m ((c.tc : Thread nD τ).loc main_arg3)) := by
  unfold V
  simp only [hostOps0, hostOps0_1, hostOps0_2, StableHlo.TRef.binary, StableHlo.TRef.unary, StableHlo.TRef.toBuf, StableHlo.TRef.ofBuf, cast_eq,
    List.flatten_cons, List.flatten_nil, List.append_nil, List.cons_append, List.nil_append]
  after_results_simp
  rfl

theorem V_v3 (c : Dev nD) : V m c main_v3 = broadcastInDim S1x6272 ![] bcast_S_S1x6272 (constant (F := Ideal) S_ .f32 0x00000000#32) := by
  unfold V
  simp only [hostOps0, hostOps0_1, hostOps0_2, StableHlo.TRef.binary, StableHlo.TRef.unary, StableHlo.TRef.toBuf, StableHlo.TRef.ofBuf, cast_eq,
    List.flatten_cons, List.flatten_nil, List.append_nil, List.cons_append, List.nil_append]
  after_results_simp

theorem joined_main (a2 : FVec Ideal S1024x6144 .f32) (a3 : FVec Ideal S1024x64 .f32) (k : Fin 1024) (q : Fin 6272) (h : q.val < 6144) :
    joined a2 a3 (ix2 k q) = a2 (ix2 k ⟨q.val, h⟩) := by
  pointwise [joined]
  simp only [h, dif_pos]

theorem joined_ba (a2 : FVec Ideal S1024x6144 .f32) (a3 : FVec Ideal S1024x64 .f32) (k : Fin 1024) (d : Fin 128) :
    joined a2 a3 (ix2 k ⟨6144 + d.val, by omega⟩) = if h : d.val < 64 then a3 (ix2 k ⟨d.val, h⟩) else 0 := by
  have h1 : ¬ (6144 + d.val < 6144) := by omega
  pointwise [joined]
  refine dite_congr rfl (fun _ => rfl) fun _ => Ref.zero_word

/-! ## The blocks' places -/

theorem place0 : ∀ t : Fin grid0.N, cc0_transform_0 (grid0.coords t) = ![t.val / 17, t.val % 17, 0] := by decide +kernel
theorem place1 : ∀ t : Fin grid0.N, cc0_transform_1 (grid0.coords t) = ![t.val / 17, if t.val % 17 = 0 then 0 else 1, 0, 0] := by decide +kernel
theorem place4 : ∀ t : Fin grid0.N, cc0_transform_4 (grid0.coords t) = ![t.val / 17, t.val % 17, 0] := by decide +kernel
theorem place5 : ∀ t : Fin grid0.N, cc0_transform_5 (grid0.coords t) = ![t.val / 17, t.val % 17, 0] := by decide +kernel
theorem place6 : ∀ t : Fin grid0.N, cc0_transform_6 (grid0.coords t) = ![t.val / 17, t.val % 17, 0] := by decide +kernel

/-- The point's batch row. -/
def batch (t : Fin cfg0.N) : Fin 8 := ⟨t.val / 17, by have h : t.val < 136 := t.isLt; omega⟩

/-- The point's row `r`. -/
def row (t : Fin cfg0.N) (r : Fin 256) : Fin 4352 := ⟨t.val % 17 * 256 + r.val, by omega⟩

section

variable (c : Dev nD) (t : Fin cfg0.N)

theorem x_at (r : Fin 256) (d : Fin 1024) :
    iblk m c 0 t (ix3 0 r d) = (m ((c.tc : Thread nD τ).loc main_arg0) : FVec Ideal S8x4352x1024 .f32) (ix3 (batch t) (row t r) d) := by
  refine (congrFun (V_main_arg0 m c) (((cfg0.win 0).rect t).emb (ix3 0 r d))).trans ?_
  refine congrArg (m ((c.tc : Thread nD τ).loc main_arg0)) (funext fun a => Fin.ext ?_)
  refine (Window.rect_emb_val (cfg0.win 0) t (ix3 0 r d) a).trans ?_
  have h := congrFun (place0 t)
  match a with
  | ⟨0, _⟩ => show cc0_transform_0 (grid0.coords t) 0 * 1 + 0 = t.val / 17; rw [h]; show t.val / 17 * 1 + 0 = _; omega
  | ⟨1, _⟩ => show cc0_transform_0 (grid0.coords t) 1 * 256 + r.val = t.val % 17 * 256 + r.val; rw [h]; rfl
  | ⟨2, _⟩ => show cc0_transform_0 (grid0.coords t) 2 * 1024 + d.val = d.val; rw [h]; show 0 * 1024 + d.val = _; omega

theorem tab_at (r : Fin 256) (l : Fin 8) (d : Fin 1024) :
    iblk m c 1 t (ix4 0 0 l d) = (m ((c.tc : Thread nD τ).loc main_arg1) : FVec Ideal S8x2x8x1024 .f32) (ix4 (batch t) (Ref.seg (row t r)) l d) := by
  refine (congrFun (V_main_arg1 m c) (((cfg0.win 1).rect t).emb (ix4 0 0 l d))).trans ?_
  refine congrArg (m ((c.tc : Thread nD τ).loc main_arg1)) (funext fun a => Fin.ext ?_)
  refine (Window.rect_emb_val (cfg0.win 1) t (ix4 0 0 l d) a).trans ?_
  have h := congrFun (place1 t)
  match a with
  | ⟨0, _⟩ => show cc0_transform_1 (grid0.coords t) 0 * 1 + 0 = t.val / 17; rw [h]; show t.val / 17 * 1 + 0 = _; omega
  | ⟨1, _⟩ =>
    show cc0_transform_1 (grid0.coords t) 1 * 1 + 0 = (Ref.seg (row t r)).val
    rw [h]
    show (if t.val % 17 = 0 then 0 else 1) * 1 + 0 = (if t.val % 17 * 256 + r.val < 256 then (0 : Fin 2) else 1).val
    by_cases e : t.val % 17 = 0
    · rw [if_pos e, if_pos (by omega)]; rfl
    · rw [if_neg e, if_neg (by omega)]; rfl
  | ⟨2, _⟩ => show cc0_transform_1 (grid0.coords t) 2 * 8 + l.val = l.val; rw [h]; show 0 * 8 + l.val = _; omega
  | ⟨3, _⟩ => show cc0_transform_1 (grid0.coords t) 3 * 1024 + d.val = d.val; rw [h]; show 0 * 1024 + d.val = _; omega

theorem w_at (k : Fin 1024) (q : Fin 6272) :
    iblk m c 2 t (ix2 k q) = joined (m ((c.tc : Thread nD τ).loc main_arg2)) (m ((c.tc : Thread nD τ).loc main_arg3)) (ix2 k q) := by
  refine (congrFun (V_v2 m c) (((cfg0.win 2).rect t).emb (ix2 k q))).trans ?_
  refine congrArg (joined _ _) (funext fun a => Fin.ext ?_)
  refine (Window.rect_emb_val (cfg0.win 2) t (ix2 k q) a).trans ?_
  match a with
  | ⟨0, _⟩ => show 0 * 1024 + k.val = k.val; omega
  | ⟨1, _⟩ => show 0 * 6272 + q.val = q.val; omega

theorem b_at (q : Fin 6272) : iblk m c 3 t (ix2 0 q) = (0 : EReal) := by
  refine (congrFun (V_v3 m c) (((cfg0.win 3).rect t).emb (ix2 0 q))).trans ?_
  pointwise

/-- A point's entry, of the arguments. -/
theorem entry_at (r : Fin 256) (q : Fin 6272) :
    entry (iblk m c 0 t) (iblk m c 1 t) (iblk m c 2 t) (iblk m c 3 t) r q
      = ∑ k, Ref.rows (m ((c.tc : Thread nD τ).loc main_arg0)) (m ((c.tc : Thread nD τ).loc main_arg1)) (ix3 (batch t) (row t r) k)
          * joined (m ((c.tc : Thread nD τ).loc main_arg2)) (m ((c.tc : Thread nD τ).loc main_arg3)) (ix2 k q) := by
  unfold entry
  rw [b_at, add_zero]
  refine Finset.sum_congr rfl fun k _ => congrArg₂ (· * ·) ?_ (w_at m c t k q)
  rw [Ref.rows_at, x_at, tab_at m c t r, tab_at m c t r]

end

/-! ## The results -/

/-- The reference's results on the kernel's arguments. -/
def want0 (c : Dev nD) : FVec Ideal S8x4352x4096 .bf16 :=
  Ref.res0 (m ((c.tc : Thread nD τ).loc main_arg0)) (m ((c.tc : Thread nD τ).loc main_arg1)) (m ((c.tc : Thread nD τ).loc main_arg2))

def want1 (c : Dev nD) : FVec Ideal S8x4352x2048 .bf16 :=
  Ref.res1 (m ((c.tc : Thread nD τ).loc main_arg0)) (m ((c.tc : Thread nD τ).loc main_arg1)) (m ((c.tc : Thread nD τ).loc main_arg2))

def want2 (c : Dev nD) : FVec Ideal S8x4352x128 .f32 :=
  Ref.res2 (m ((c.tc : Thread nD τ).loc main_arg0)) (m ((c.tc : Thread nD τ).loc main_arg1)) (m ((c.tc : Thread nD τ).loc main_arg3))

theorem block0 (c : Dev nD) (t : Fin cfg0.N) (r : Fin 256) (d : Fin 4096) :
    out0_4 (iblk m c 0 t) (iblk m c 1 t) (iblk m c 2 t) (iblk m c 3 t) (ix3 0 r d) = want0 m c (ix3 (batch t) (row t r) d) := by
  rw [out4_eq]
  refine (entry_at m c t r ⟨d.val, by omega⟩).trans (Eq.trans ?_ (Ref.res0_at _ _ _ (batch t) (row t r) d).symm)
  exact Finset.sum_congr rfl fun k _ => congrArg (HMul.hMul _) (joined_main _ _ k _ (by show d.val < 6144; omega))

theorem block1 (c : Dev nD) (t : Fin cfg0.N) (r : Fin 256) (d : Fin 2048) :
    out0_5 (iblk m c 0 t) (iblk m c 1 t) (iblk m c 2 t) (iblk m c 3 t) (ix3 0 r d) = want1 m c (ix3 (batch t) (row t r) d) := by
  rw [out5_eq]
  refine (entry_at m c t r ⟨4096 + d.val, by omega⟩).trans (Eq.trans ?_ (Ref.res1_at _ _ _ (batch t) (row t r) d).symm)
  exact Finset.sum_congr rfl fun k _ => congrArg (HMul.hMul _) (joined_main _ _ k _ (by show 4096 + d.val < 6144; omega))

theorem block2 (c : Dev nD) (t : Fin cfg0.N) (r : Fin 256) (d : Fin 128) :
    out0_6 (iblk m c 0 t) (iblk m c 1 t) (iblk m c 2 t) (iblk m c 3 t) (ix3 0 r d) = want2 m c (ix3 (batch t) (row t r) d) := by
  rw [out6_eq]
  refine (entry_at m c t r ⟨6144 + d.val, by omega⟩).trans (Eq.trans ?_ (Ref.res2_at _ _ _ (batch t) (row t r) d).symm)
  by_cases h : d.val < 64
  · rw [dif_pos h]
    exact Finset.sum_congr rfl fun k _ => congrArg (HMul.hMul _) ((joined_ba _ _ k d).trans (dif_pos h))
  · rw [dif_neg h]
    exact Finset.sum_eq_zero fun k _ => (congrArg (HMul.hMul _) ((joined_ba _ _ k d).trans (dif_neg h))).trans (mul_zero _)

/-! ### Result 0 -/

theorem emb0_at (t : Fin cfg0.N) (r : Fin 256) (d : Fin 4096) :
    ((cfg0.win 4).rect t).emb (ix3 0 r d) = (ix3 (batch t) (row t r) d : S8x4352x4096.Idx) := by
  refine funext fun a => Fin.ext ?_
  refine (Window.rect_emb_val (cfg0.win 4) t (ix3 0 r d) a).trans ?_
  have h := congrFun (place4 t)
  match a with
  | ⟨0, _⟩ => show cc0_transform_4 (grid0.coords t) 0 * 1 + 0 = t.val / 17; rw [h]; show t.val / 17 * 1 + 0 = _; omega
  | ⟨1, _⟩ => show cc0_transform_4 (grid0.coords t) 1 * 256 + r.val = t.val % 17 * 256 + r.val; rw [h]; rfl
  | ⟨2, _⟩ => show cc0_transform_4 (grid0.coords t) 2 * 4096 + d.val = d.val; rw [h]; show 0 * 4096 + d.val = _; omega

theorem mem0 (i : S8x4352x4096.Idx) (t : Fin cfg0.N) (ht : t.val = (i 0).val * 17 + (i 1).val / 256) :
    i ∈ ((cfg0.win 4).rect t).set := by
  refine (Window.mem_rect_iff (cfg0.win 4) t i (by rfl)).mpr fun a => ?_
  have h := congrFun (place4 t)
  have h1 : (i 1).val < 4352 := (i 1).isLt
  match a with
  | ⟨0, _⟩ =>
    show cc0_transform_4 (grid0.coords t) 0 * 1 ≤ (i 0).val ∧ (i 0).val < cc0_transform_4 (grid0.coords t) 0 * 1 + 1
    rw [h]
    show t.val / 17 * 1 ≤ (i 0).val ∧ (i 0).val < t.val / 17 * 1 + 1
    omega
  | ⟨1, _⟩ =>
    show cc0_transform_4 (grid0.coords t) 1 * 256 ≤ (i 1).val ∧ (i 1).val < cc0_transform_4 (grid0.coords t) 1 * 256 + 256
    rw [h]
    show t.val % 17 * 256 ≤ (i 1).val ∧ (i 1).val < t.val % 17 * 256 + 256
    omega
  | ⟨2, _⟩ =>
    have h2 : (i 2).val < 4096 := (i 2).isLt
    show cc0_transform_4 (grid0.coords t) 2 * 4096 ≤ (i 2).val ∧ (i 2).val < cc0_transform_4 (grid0.coords t) 2 * 4096 + 4096
    rw [h]
    show 0 * 4096 ≤ (i 2).val ∧ (i 2).val < 0 * 4096 + 4096
    omega

theorem point0 (i : S8x4352x4096.Idx) : (i 0).val * 17 + (i 1).val / 256 < cfg0.N := by
  have h0 : (i 0).val < 8 := (i 0).isLt
  have h1 : (i 1).val < 4352 := (i 1).isLt
  show _ < 136
  omega

theorem result0_eq (c : Dev nD) : (dats m 0 c).arrAt 4 cfg0.N = want0 m c := by
  refine (dats m 0 c).arrAt_eq_of_cover 4 (want0 m c : S8x4352x4096.Idx → EReal) (fun t _ => ?_) (fun i => ?_)
  · show (cfg0.win 4).cut (cfg0.grid.coords t) ((dats m 0 c).after 4 t) = _
    rw [after0_4]
    refine funext fun y => ?_
    obtain ⟨r, d, rfl⟩ : ∃ (r : Fin 256) (d : Fin 4096), y = (ix3 0 r d : S1x256x4096.Idx) := split3 y
    exact (block0 m c t r d).trans (congrArg (want0 m c) (emb0_at t r d).symm)
  · refine ⟨⟨_, point0 i⟩, flush0_4 _, ?_⟩
    show i ∈ ((View.whole main_v4_0).slice ((cfg0.win 4).rect ⟨_, point0 i⟩)).set
    erw [View.set_slice_whole]
    exact mem0 i _ rfl

/-! ### Result 1 -/

theorem emb1_at (t : Fin cfg0.N) (r : Fin 256) (d : Fin 2048) :
    ((cfg0.win 5).rect t).emb (ix3 0 r d) = (ix3 (batch t) (row t r) d : S8x4352x2048.Idx) := by
  refine funext fun a => Fin.ext ?_
  refine (Window.rect_emb_val (cfg0.win 5) t (ix3 0 r d) a).trans ?_
  have h := congrFun (place5 t)
  match a with
  | ⟨0, _⟩ => show cc0_transform_5 (grid0.coords t) 0 * 1 + 0 = t.val / 17; rw [h]; show t.val / 17 * 1 + 0 = _; omega
  | ⟨1, _⟩ => show cc0_transform_5 (grid0.coords t) 1 * 256 + r.val = t.val % 17 * 256 + r.val; rw [h]; rfl
  | ⟨2, _⟩ => show cc0_transform_5 (grid0.coords t) 2 * 2048 + d.val = d.val; rw [h]; show 0 * 2048 + d.val = _; omega

theorem mem1 (i : S8x4352x2048.Idx) (t : Fin cfg0.N) (ht : t.val = (i 0).val * 17 + (i 1).val / 256) :
    i ∈ ((cfg0.win 5).rect t).set := by
  refine (Window.mem_rect_iff (cfg0.win 5) t i (by rfl)).mpr fun a => ?_
  have h := congrFun (place5 t)
  have h1 : (i 1).val < 4352 := (i 1).isLt
  match a with
  | ⟨0, _⟩ =>
    show cc0_transform_5 (grid0.coords t) 0 * 1 ≤ (i 0).val ∧ (i 0).val < cc0_transform_5 (grid0.coords t) 0 * 1 + 1
    rw [h]
    show t.val / 17 * 1 ≤ (i 0).val ∧ (i 0).val < t.val / 17 * 1 + 1
    omega
  | ⟨1, _⟩ =>
    show cc0_transform_5 (grid0.coords t) 1 * 256 ≤ (i 1).val ∧ (i 1).val < cc0_transform_5 (grid0.coords t) 1 * 256 + 256
    rw [h]
    show t.val % 17 * 256 ≤ (i 1).val ∧ (i 1).val < t.val % 17 * 256 + 256
    omega
  | ⟨2, _⟩ =>
    have h2 : (i 2).val < 2048 := (i 2).isLt
    show cc0_transform_5 (grid0.coords t) 2 * 2048 ≤ (i 2).val ∧ (i 2).val < cc0_transform_5 (grid0.coords t) 2 * 2048 + 2048
    rw [h]
    show 0 * 2048 ≤ (i 2).val ∧ (i 2).val < 0 * 2048 + 2048
    omega

theorem point1 (i : S8x4352x2048.Idx) : (i 0).val * 17 + (i 1).val / 256 < cfg0.N := by
  have h0 : (i 0).val < 8 := (i 0).isLt
  have h1 : (i 1).val < 4352 := (i 1).isLt
  show _ < 136
  omega

theorem result1_eq (c : Dev nD) : (dats m 0 c).arrAt 5 cfg0.N = want1 m c := by
  refine (dats m 0 c).arrAt_eq_of_cover 5 (want1 m c : S8x4352x2048.Idx → EReal) (fun t _ => ?_) (fun i => ?_)
  · show (cfg0.win 5).cut (cfg0.grid.coords t) ((dats m 0 c).after 5 t) = _
    rw [after0_5]
    refine funext fun y => ?_
    obtain ⟨r, d, rfl⟩ : ∃ (r : Fin 256) (d : Fin 2048), y = (ix3 0 r d : S1x256x2048.Idx) := split3 y
    exact (block1 m c t r d).trans (congrArg (want1 m c) (emb1_at t r d).symm)
  · refine ⟨⟨_, point1 i⟩, flush0_5 _, ?_⟩
    show i ∈ ((View.whole main_v4_1).slice ((cfg0.win 5).rect ⟨_, point1 i⟩)).set
    erw [View.set_slice_whole]
    exact mem1 i _ rfl

/-! ### Result 2 -/

theorem emb2_at (t : Fin cfg0.N) (r : Fin 256) (d : Fin 128) :
    ((cfg0.win 6).rect t).emb (ix3 0 r d) = (ix3 (batch t) (row t r) d : S8x4352x128.Idx) := by
  refine funext fun a => Fin.ext ?_
  refine (Window.rect_emb_val (cfg0.win 6) t (ix3 0 r d) a).trans ?_
  have h := congrFun (place6 t)
  match a with
  | ⟨0, _⟩ => show cc0_transform_6 (grid0.coords t) 0 * 1 + 0 = t.val / 17; rw [h]; show t.val / 17 * 1 + 0 = _; omega
  | ⟨1, _⟩ => show cc0_transform_6 (grid0.coords t) 1 * 256 + r.val = t.val % 17 * 256 + r.val; rw [h]; rfl
  | ⟨2, _⟩ => show cc0_transform_6 (grid0.coords t) 2 * 128 + d.val = d.val; rw [h]; show 0 * 128 + d.val = _; omega

theorem mem2 (i : S8x4352x128.Idx) (t : Fin cfg0.N) (ht : t.val = (i 0).val * 17 + (i 1).val / 256) :
    i ∈ ((cfg0.win 6).rect t).set := by
  refine (Window.mem_rect_iff (cfg0.win 6) t i (by rfl)).mpr fun a => ?_
  have h := congrFun (place6 t)
  have h1 : (i 1).val < 4352 := (i 1).isLt
  match a with
  | ⟨0, _⟩ =>
    show cc0_transform_6 (grid0.coords t) 0 * 1 ≤ (i 0).val ∧ (i 0).val < cc0_transform_6 (grid0.coords t) 0 * 1 + 1
    rw [h]
    show t.val / 17 * 1 ≤ (i 0).val ∧ (i 0).val < t.val / 17 * 1 + 1
    omega
  | ⟨1, _⟩ =>
    show cc0_transform_6 (grid0.coords t) 1 * 256 ≤ (i 1).val ∧ (i 1).val < cc0_transform_6 (grid0.coords t) 1 * 256 + 256
    rw [h]
    show t.val % 17 * 256 ≤ (i 1).val ∧ (i 1).val < t.val % 17 * 256 + 256
    omega
  | ⟨2, _⟩ =>
    have h2 : (i 2).val < 128 := (i 2).isLt
    show cc0_transform_6 (grid0.coords t) 2 * 128 ≤ (i 2).val ∧ (i 2).val < cc0_transform_6 (grid0.coords t) 2 * 128 + 128
    rw [h]
    show 0 * 128 ≤ (i 2).val ∧ (i 2).val < 0 * 128 + 128
    omega

theorem point2 (i : S8x4352x128.Idx) : (i 0).val * 17 + (i 1).val / 256 < cfg0.N := by
  have h0 : (i 0).val < 8 := (i 0).isLt
  have h1 : (i 1).val < 4352 := (i 1).isLt
  show _ < 136
  omega

theorem result2_eq (c : Dev nD) : (dats m 0 c).arrAt 6 cfg0.N = want2 m c := by
  refine (dats m 0 c).arrAt_eq_of_cover 6 (want2 m c : S8x4352x128.Idx → EReal) (fun t _ => ?_) (fun i => ?_)
  · show (cfg0.win 6).cut (cfg0.grid.coords t) ((dats m 0 c).after 6 t) = _
    rw [after0_6]
    refine funext fun y => ?_
    obtain ⟨r, d, rfl⟩ : ∃ (r : Fin 256) (d : Fin 128), y = (ix3 0 r d : S1x256x128.Idx) := split3 y
    exact (block2 m c t r d).trans (congrArg (want2 m c) (emb2_at t r d).symm)
  · refine ⟨⟨_, point2 i⟩, flush0_6 _, ?_⟩
    show i ∈ ((View.whole main_v4_2).slice ((cfg0.win 6).rect ⟨_, point2 i⟩)).set
    erw [View.set_slice_whole]
    exact mem2 i _ rfl

end Cert.Proof.Project.Delta

end
-- ==== Proof.PcMath.lean ====
module

public import proofs.«01_k».proof.Proof.Gen.Kernel6Ideal
public import proofs.«01_k».proof.Proof.Gen.Kernel6Ideal.Frame
public import proofs.«01_k».proof.Proof.PjMath
public import Idealize.ShloMosaic.Lib.Pointwise
public import Idealize.ShloMosaic.Lib.Pipeline.ValueKit

/-! # The conv mixer's projection, entry by entry

The first result is a product with the matrix's first third of columns; the second the product, entry by entry, of the
products with the other two thirds. -/

@[expose] public section

noncomputable section

namespace Cert.Proof.Project.Conv

open Cert.Kernel6Ideal Cert.Kernel6Ideal.Gen
open Idealize.ShloMosaic
open Cert.Proof.Project.Delta (split3)

/-- A row's product with a column, and the column's bias. -/
def line {n : ℕ} (h : FVec Ideal S256x1024 .bf16) (w : Fin 1024 → Fin n → EReal) (b : Fin n → EReal) (r : Fin 256) (d : Fin n) : EReal :=
  (∑ k, h (ix2 r k) * w k d) + b d

theorem pay2_at (v0 v2 : Vec Ideal S1x1x1x1024 .f32) (v4 : Vec Ideal S1x256x1024 .f32) (r : Fin 256) (k : Fin 1024) :
    k0_pay2 (F := Ideal) v0 v2 v4 (ix2 r k) = modulated (v4 (ix3 0 r k)) (v2 (ix4 0 0 0 k)) (v0 (ix4 0 0 0 k)) := by
  pointwise [k0_pay2]
  rfl

theorem pay3_at (v0 v2 : Vec Ideal S1x1x1x1024 .f32) (v4 : Vec Ideal S1x256x1024 .f32) (w : Vec Ideal S1024x512 .bf16) (b : Vec Ideal S1x512 .f32) (r : Fin 256) (d : Fin 512) :
    k0_pay3 (F := Ideal) v0 v2 v4 w b (ix3 0 r d) = line (k0_pay2 v0 v2 v4) (fun k d => w (ix2 k d)) (fun d => b (ix2 0 d)) r d := by
  pointwise [k0_pay3]
  rfl

theorem pay5_at (v0 v2 : Vec Ideal S1x1x1x1024 .f32) (v4 : Vec Ideal S1x256x1024 .f32) (w : Vec Ideal S1024x512 .bf16) (b : Vec Ideal S1x512 .f32) (r : Fin 256) (d : Fin 512) :
    k0_pay5 (F := Ideal) (k0_pay4 v0 v2 v4 w b) (ix3 0 r d) = line (k0_pay2 v0 v2 v4) (fun k d => w (ix2 k d)) (fun d => b (ix2 0 d)) r d := by
  pointwise [k0_pay5, k0_pay4]
  rfl

theorem pay6_at (h : FVec Ideal S256x1024 .bf16) (w : Vec Ideal S1024x512 .bf16) (b : Vec Ideal S1x512 .f32) (w' : Vec Ideal S1024x512 .bf16) (b' : Vec Ideal S1x512 .f32) (r : Fin 256) (d : Fin 512) :
    k0_pay6 (F := Ideal) h w b w' b' (ix3 0 r d) = (line h (fun k d => w (ix2 k d)) (fun d => b (ix2 0 d)) r d) * (line h (fun k d => w' (ix2 k d)) (fun d => b' (ix2 0 d)) r d) := by
  pointwise [k0_pay6]
  rfl

theorem pay1_at (h : FVec Ideal S256x1024 .bf16) (w : Vec Ideal S1024x512 .bf16) (b : Vec Ideal S1x512 .f32) (w' : Vec Ideal S1024x512 .bf16) (b' : Vec Ideal S1x512 .f32) (r : Fin 256) (d : Fin 512) :
    k0_pay1 (F := Ideal) (k0_pay7 h w b) (k0_pay8 h w') b' (ix3 0 r d) = (line h (fun k d => w (ix2 k d)) (fun d => b (ix2 0 d)) r d) * (line h (fun k d => w' (ix2 k d)) (fun d => b' (ix2 0 d)) r d) := by
  pointwise [k0_pay1, k0_pay7, k0_pay8]
  rfl

/-! ## What a point leaves -/

/-- The point's row, modulated, by column `q` of the matrix. -/
def entry (x0 : Vec Ideal S1x256x1024 .f32) (x1 : Vec Ideal S1x1x8x1024 .f32) (x2 : Vec Ideal S1024x3072 .bf16) (x3 : Vec Ideal S1x3072 .f32)
    (r : Fin 256) (q : Fin 3072) : EReal :=
  (∑ k, modulated (x0 (ix3 0 r k)) (x1 (ix4 0 0 1 k)) (x1 (ix4 0 0 0 k)) * x2 (ix2 k q)) + x3 (ix2 0 q)

theorem ld_shift (x : Vec Ideal S1x1x8x1024 .f32) (l : Fin 1024) : View.ld x r0_0 (ix4 0 0 0 l) = x (ix4 0 0 0 l) := by
  refine congrArg x (funext fun a => Fin.ext ?_)
  match a with
  | ⟨0, _⟩ => rfl
  | ⟨1, _⟩ => rfl
  | ⟨2, _⟩ => rfl
  | ⟨3, _⟩ => show 0 + 1 * l.val = l.val; omega

theorem ld_scale (x : Vec Ideal S1x1x8x1024 .f32) (l : Fin 1024) : View.ld x r0_1 (ix4 0 0 0 l) = x (ix4 0 0 1 l) := by
  refine congrArg x (funext fun a => Fin.ext ?_)
  match a with
  | ⟨0, _⟩ => rfl
  | ⟨1, _⟩ => rfl
  | ⟨2, _⟩ => rfl
  | ⟨3, _⟩ => show 0 + 1 * l.val = l.val; omega

theorem ld_x (x : Vec Ideal S1x256x1024 .f32) (r : Fin 256) (l : Fin 1024) : View.ld x r0_2 (ix3 0 r l) = x (ix3 0 r l) := by
  refine congrArg x (funext fun a => Fin.ext ?_)
  match a with
  | ⟨0, _⟩ => rfl
  | ⟨1, _⟩ => show 0 + 1 * r.val = r.val; omega
  | ⟨2, _⟩ => show 0 + 1 * l.val = l.val; omega

/-- A product with loaded columns is the entry of the whole column. -/
theorem line_entry (x0 : Vec Ideal S1x256x1024 .f32) (x1 : Vec Ideal S1x1x8x1024 .f32) (x2 : Vec Ideal S1024x3072 .bf16) (x3 : Vec Ideal S1x3072 .f32)
    {n : ℕ} (o : ℕ) (h2 : ∀ a, (![0, o] : Fin 2 → ℕ) a + (⟨2, ![1024, n]⟩ : Shape).size a ≤ S1024x3072.size a)
    (h3 : ∀ a, (![0, o] : Fin 2 → ℕ) a + (⟨2, ![1, n]⟩ : Shape).size a ≤ S1x3072.size a) (r : Fin 256) (d : Fin n) (q : Fin 3072) (hq : q.val = o + d.val) :
    line (k0_pay2 (View.ld x1 r0_0) (View.ld x1 r0_1) (View.ld x0 r0_2))
      (fun k (d : Fin n) => View.ld x2 (Rect.unit (s := S1024x3072) ![0, o] (⟨2, ![1024, n]⟩ : Shape).size h2) (ix2 k d))
      (fun d => View.ld x3 (Rect.unit (s := S1x3072) ![0, o] (⟨2, ![1, n]⟩ : Shape).size h3) (ix2 0 d)) r d = entry x0 x1 x2 x3 r q := by
  have e2 : ∀ k : Fin 1024, View.ld x2 (Rect.unit (s := S1024x3072) ![0, o] (⟨2, ![1024, n]⟩ : Shape).size h2) (ix2 k d) = x2 (ix2 k q) := fun k => by
    refine congrArg x2 (funext fun a => Fin.ext ?_)
    match a with
    | ⟨0, _⟩ => show 0 + 1 * k.val = k.val; omega
    | ⟨1, _⟩ => show o + 1 * d.val = q.val; omega
  have e3 : View.ld x3 (Rect.unit (s := S1x3072) ![0, o] (⟨2, ![1, n]⟩ : Shape).size h3) (ix2 0 d) = x3 (ix2 0 q) := by
    refine congrArg x3 (funext fun a => Fin.ext ?_)
    match a with
    | ⟨0, _⟩ => rfl
    | ⟨1, _⟩ => show o + 1 * d.val = q.val; omega
  unfold line entry
  refine congrArg₂ (· + ·) (Finset.sum_congr rfl fun k _ => congrArg₂ (· * ·) ?_ (e2 k)) e3
  rw [pay2_at, ld_shift, ld_scale, ld_x]

/-- The first result's block. -/
def G4 (x0 : Vec Ideal S1x256x1024 .f32) (x1 : Vec Ideal S1x1x8x1024 .f32) (x2 : Vec Ideal S1024x3072 .bf16) (x3 : Vec Ideal S1x3072 .f32) : Vec Ideal S1x256x1024 .bf16 :=
  fun y => entry x0 x1 x2 x3 ⟨(y (1 : Fin 3)).val, (y (1 : Fin 3)).isLt⟩ ⟨(y (2 : Fin 3)).val, by have h : (y (2 : Fin 3)).val < 1024 := (y (2 : Fin 3)).isLt; omega⟩

/-- The second's. -/
def G5 (x0 : Vec Ideal S1x256x1024 .f32) (x1 : Vec Ideal S1x1x8x1024 .f32) (x2 : Vec Ideal S1024x3072 .bf16) (x3 : Vec Ideal S1x3072 .f32) : Vec Ideal S1x256x1024 .bf16 :=
  fun y => entry x0 x1 x2 x3 ⟨(y (1 : Fin 3)).val, (y (1 : Fin 3)).isLt⟩ ⟨1024 + (y (2 : Fin 3)).val, by have h : (y (2 : Fin 3)).val < 1024 := (y (2 : Fin 3)).isLt; omega⟩
    * entry x0 x1 x2 x3 ⟨(y (1 : Fin 3)).val, (y (1 : Fin 3)).isLt⟩ ⟨2048 + (y (2 : Fin 3)).val, by have h : (y (2 : Fin 3)).val < 1024 := (y (2 : Fin 3)).isLt; omega⟩

theorem out4_eq (x0 : Vec Ideal S1x256x1024 .f32) (x1 : Vec Ideal S1x1x8x1024 .f32) (x2 : Vec Ideal S1024x3072 .bf16) (x3 : Vec Ideal S1x3072 .f32) :
    out0_4 x0 x1 x2 x3 = G4 x0 x1 x2 x3 := by
  funext y
  refine canon_eq_of_pieces (G4 x0 x1 x2 x3) _ ?_ y (cover0_4 _ _ y)
  refine List.forall_mem_cons.mpr ⟨(fun x => by
      obtain ⟨r, d, rfl⟩ := split3 x
      refine (pay5_at _ _ _ _ _ r d).trans ((line_entry x0 x1 x2 x3 512 _ _ r d ⟨512 + d.val, by omega⟩ rfl).trans ?_)
      refine congrArg₂ (entry x0 x1 x2 x3) (Fin.ext ?_) (Fin.ext ?_)
      · show r.val = 0 + 1 * r.val; omega
      · show 512 + d.val = (512 + 1 * d.val); omega),
    List.forall_mem_cons.mpr ⟨(fun x => by
      obtain ⟨r, d, rfl⟩ := split3 x
      refine (pay3_at _ _ _ _ _ r d).trans ((line_entry x0 x1 x2 x3 0 _ _ r d ⟨0 + d.val, by omega⟩ rfl).trans ?_)
      refine congrArg₂ (entry x0 x1 x2 x3) (Fin.ext ?_) (Fin.ext ?_)
      · show r.val = 0 + 1 * r.val; omega
      · show 0 + d.val = (0 + 1 * d.val); omega),
    fun _ h => absurd h List.not_mem_nil⟩⟩

theorem out5_eq (x0 : Vec Ideal S1x256x1024 .f32) (x1 : Vec Ideal S1x1x8x1024 .f32) (x2 : Vec Ideal S1024x3072 .bf16) (x3 : Vec Ideal S1x3072 .f32) :
    out0_5 x0 x1 x2 x3 = G5 x0 x1 x2 x3 := by
  funext y
  refine canon_eq_of_pieces (G5 x0 x1 x2 x3) _ ?_ y (cover0_5 _ _ y)
  refine List.forall_mem_cons.mpr ⟨(fun x => by
      obtain ⟨r, d, rfl⟩ := split3 x
      refine (pay1_at _ _ _ _ _ r d).trans (congrArg₂ (· * ·)
        ((line_entry x0 x1 x2 x3 1536 _ _ r d ⟨1536 + d.val, by omega⟩ rfl).trans ?_)
        ((line_entry x0 x1 x2 x3 2560 _ _ r d ⟨2560 + d.val, by omega⟩ rfl).trans ?_))
      · refine congrArg₂ (entry x0 x1 x2 x3) (Fin.ext ?_) (Fin.ext ?_)
        · show r.val = 0 + 1 * r.val; omega
        · show 1536 + d.val = 1024 + (512 + 1 * d.val); omega
      · refine congrArg₂ (entry x0 x1 x2 x3) (Fin.ext ?_) (Fin.ext ?_)
        · show r.val = 0 + 1 * r.val; omega
        · show 2560 + d.val = 2048 + (512 + 1 * d.val); omega),
    List.forall_mem_cons.mpr ⟨(fun x => by
      obtain ⟨r, d, rfl⟩ := split3 x
      refine (pay6_at _ _ _ _ _ r d).trans (congrArg₂ (· * ·)
        ((line_entry x0 x1 x2 x3 1024 _ _ r d ⟨1024 + d.val, by omega⟩ rfl).trans ?_)
        ((line_entry x0 x1 x2 x3 2048 _ _ r d ⟨2048 + d.val, by omega⟩ rfl).trans ?_))
      · refine congrArg₂ (entry x0 x1 x2 x3) (Fin.ext ?_) (Fin.ext ?_)
        · show r.val = 0 + 1 * r.val; omega
        · show 1024 + d.val = 1024 + (0 + 1 * d.val); omega
      · refine congrArg₂ (entry x0 x1 x2 x3) (Fin.ext ?_) (Fin.ext ?_)
        · show r.val = 0 + 1 * r.val; omega
        · show 2048 + d.val = 2048 + (0 + 1 * d.val); omega),
    fun _ h => absurd h List.not_mem_nil⟩⟩

end Cert.Proof.Project.Conv

end
-- ==== Proof.PcRef.lean ====
module

public import proofs.«01_k».proof.Proof.Gen.Reference6Ideal
public import proofs.«01_k».proof.Proof.Gen.Reference6Ideal.Run
public import proofs.«01_k».proof.Proof.PcMath
public import Idealize.ShloMosaic.Lib.Pointwise

/-! # The conv projection's reference, entry by entry -/

@[expose] public section

noncomputable section

namespace Cert.Proof.Project.Conv.Ref

open Cert.Reference6Ideal Cert.Reference6Ideal.Gen
open Idealize.ShloMosaic

/-- The table's context rows. -/
def tabC (a1 : FVec Ideal S8x2x8x1024 .f32) : FVec Ideal S8x8x1024 .f32 :=
  shapeCast S8x8x1024 (extractStridedSlice S8x1x8x1024 ![0, 0, 0, 0] a1 slices_S8x2x8x1024_S8x1x8x1024_0_0_0_0) shapeCasts_S8x1x8x1024_S8x8x1024

/-- The table's latent rows. -/
def tabL (a1 : FVec Ideal S8x2x8x1024 .f32) : FVec Ideal S8x8x1024 .f32 :=
  shapeCast S8x8x1024 (extractStridedSlice S8x1x8x1024 ![0, 1, 0, 0] a1 slices_S8x2x8x1024_S8x1x8x1024_0_1_0_0) shapeCasts_S8x1x8x1024_S8x8x1024

/-- A table's shifts and scales as rows. -/
def shifts (T : FVec Ideal S8x8x1024 .f32) : FVec Ideal S8x1x1024 .f32 :=
  broadcastInDim S8x1x1024 ![0, 2] bcast_S8x1024_S8x1x1024_0_2 (shapeCast S8x1024 (extractStridedSlice S8x1x1024 ![0, 0, 0] T slices_S8x8x1024_S8x1x1024_0_0_0) shapeCasts_S8x1x1024_S8x1024)

def scales (T : FVec Ideal S8x8x1024 .f32) : FVec Ideal S8x1x1024 .f32 :=
  addf (broadcastInDim S8x1x1024 ![] bcast_S_S8x1x1024 (constant S_ .f32 0x3F800000#32)) (broadcastInDim S8x1x1024 ![0, 2] bcast_S8x1024_S8x1x1024_0_2 (shapeCast S8x1024 (extractStridedSlice S8x1x1024 ![0, 1, 0] T slices_S8x8x1024_S8x1x1024_0_1_0) shapeCasts_S8x1x1024_S8x1024))

/-- The context's modulated rows. -/
def ctxRows (a0 : FVec Ideal S8x4352x1024 .f32) (a1 : FVec Ideal S8x2x8x1024 .f32) : FVec Ideal S8x256x1024 .f32 :=
  addf (mulf (extractStridedSlice S8x256x1024 ![0, 0, 0] a0 slices_S8x4352x1024_S8x256x1024_0_0_0) (broadcastInDim S8x256x1024 ![0, 1, 2] bcast_S8x1x1024_S8x256x1024_0_1_2 (scales (tabC a1))))
    (broadcastInDim S8x256x1024 ![0, 1, 2] bcast_S8x1x1024_S8x256x1024_0_1_2 (shifts (tabC a1)))

/-- The latent modulated rows. -/
def latRows (a0 : FVec Ideal S8x4352x1024 .f32) (a1 : FVec Ideal S8x2x8x1024 .f32) : FVec Ideal S8x4096x1024 .f32 :=
  addf (mulf (extractStridedSlice S8x4096x1024 ![0, 256, 0] a0 slices_S8x4352x1024_S8x4096x1024_0_256_0) (broadcastInDim S8x4096x1024 ![0, 1, 2] bcast_S8x1x1024_S8x4096x1024_0_1_2 (scales (tabL a1))))
    (broadcastInDim S8x4096x1024 ![0, 1, 2] bcast_S8x1x1024_S8x4096x1024_0_1_2 (shifts (tabL a1)))

/-- All modulated rows. -/
def rows (a0 : FVec Ideal S8x4352x1024 .f32) (a1 : FVec Ideal S8x2x8x1024 .f32) : FVec Ideal S8x4352x1024 .f32 :=
  concatenate S8x4352x1024 1 [⟨S8x256x1024, ctxRows a0 a1⟩, ⟨S8x4096x1024, latRows a0 a1⟩] concatenates_S8x256x1024_S8x4096x1024_S8x4352x1024_d1

/-- The rows by the matrix. -/
def product (a0 : FVec Ideal S8x4352x1024 .f32) (a1 : FVec Ideal S8x2x8x1024 .f32) (a2 : FVec Ideal S1024x3072 .f32) : FVec Ideal S8x4352x3072 .f32 :=
  Host.dotGeneral dot_S8x4352x1024_S1024x3072_S8x4352x3072_2_0_01_1_n_n none (rows a0 a1) a2

def res0 (a0 : FVec Ideal S8x4352x1024 .f32) (a1 : FVec Ideal S8x2x8x1024 .f32) (a2 : FVec Ideal S1024x3072 .f32) : FVec Ideal S8x4352x1024 .bf16 :=
  truncf .bf16 (extractStridedSlice S8x4352x1024 ![0, 0, 0] (product a0 a1 a2) slices_S8x4352x3072_S8x4352x1024_0_0_0) bitsLt_bf16_f32

def res1 (a0 : FVec Ideal S8x4352x1024 .f32) (a1 : FVec Ideal S8x2x8x1024 .f32) (a2 : FVec Ideal S1024x3072 .f32) : FVec Ideal S8x4352x1024 .bf16 :=
  truncf .bf16 (mulf (extractStridedSlice S8x4352x1024 ![0, 0, 1024] (product a0 a1 a2) slices_S8x4352x3072_S8x4352x1024_0_0_1024) (extractStridedSlice S8x4352x1024 ![0, 0, 2048] (product a0 a1 a2) slices_S8x4352x3072_S8x4352x1024_0_0_2048)) bitsLt_bf16_f32

/-! ## At one entry -/

/-- The part of the table a row takes: the context's before the latent rows'. -/
def seg (n : Fin 4352) : Fin 2 := if n.val < 256 then 0 else 1

theorem ctxRows_at (a0 : FVec Ideal S8x4352x1024 .f32) (a1 : FVec Ideal S8x2x8x1024 .f32) (b : Fin 8) (n : Fin 256) (k : Fin 1024) :
    ctxRows a0 a1 (ix3 b n k) = modulated (a0 (ix3 b ⟨n.val, by omega⟩ k)) (a1 (ix4 b 0 1 k)) (a1 (ix4 b 0 0 k)) := by
  pointwise [ctxRows, scales, shifts, tabC]
  rfl

theorem latRows_at (a0 : FVec Ideal S8x4352x1024 .f32) (a1 : FVec Ideal S8x2x8x1024 .f32) (b : Fin 8) (n : Fin 4096) (k : Fin 1024) :
    latRows a0 a1 (ix3 b n k) = modulated (a0 (ix3 b ⟨256 + n.val, by omega⟩ k)) (a1 (ix4 b 1 1 k)) (a1 (ix4 b 1 0 k)) := by
  pointwise [latRows, scales, shifts, tabL]
  rfl

theorem rows_at (a0 : FVec Ideal S8x4352x1024 .f32) (a1 : FVec Ideal S8x2x8x1024 .f32) (b : Fin 8) (n : Fin 4352) (k : Fin 1024) :
    rows a0 a1 (ix3 b n k) = modulated (a0 (ix3 b n k)) (a1 (ix4 b (seg n) 1 k)) (a1 (ix4 b (seg n) 0 k)) := by
  by_cases h : n.val < 256
  · have hs : seg n = 0 := if_pos h
    rw [hs]
    refine Eq.trans ?_ (ctxRows_at a0 a1 b ⟨n.val, h⟩ k)
    pointwise [rows]
    simp only [h, dif_pos]
  · have hs : seg n = 1 := if_neg h
    rw [hs]
    refine Eq.trans ?_ ((latRows_at a0 a1 b ⟨n.val - 256, by omega⟩ k).trans ?_)
    · pointwise [rows]
      simp only [h, dif_neg, not_false_iff]
    · have e : (⟨256 + (n.val - 256), by omega⟩ : Fin 4352) = n := Fin.ext (by show 256 + (n.val - 256) = n.val; omega)
      exact congrArg (fun q => modulated (a0 (ix3 b q k)) _ _) e

theorem product_at (a0 : FVec Ideal S8x4352x1024 .f32) (a1 : FVec Ideal S8x2x8x1024 .f32) (a2 : FVec Ideal S1024x3072 .f32) (b : Fin 8) (n : Fin 4352) (q : Fin 3072) :
    product a0 a1 a2 (ix3 b n q) = ∑ k, rows a0 a1 (ix3 b n k) * a2 (ix2 k q) := by
  pointwise [product]

theorem res0_at (a0 : FVec Ideal S8x4352x1024 .f32) (a1 : FVec Ideal S8x2x8x1024 .f32) (a2 : FVec Ideal S1024x3072 .f32) (b : Fin 8) (n : Fin 4352) (d : Fin 1024) :
    res0 a0 a1 a2 (ix3 b n d) = ∑ k, rows a0 a1 (ix3 b n k) * a2 (ix2 k ⟨d.val, by omega⟩) := by
  pointwise [res0]
  rw [product_at]

theorem res1_at (a0 : FVec Ideal S8x4352x1024 .f32) (a1 : FVec Ideal S8x2x8x1024 .f32) (a2 : FVec Ideal S1024x3072 .f32) (b : Fin 8) (n : Fin 4352) (d : Fin 1024) :
    res1 a0 a1 a2 (ix3 b n d) = (∑ k, rows a0 a1 (ix3 b n k) * a2 (ix2 k ⟨1024 + d.val, by omega⟩)) * (∑ k, rows a0 a1 (ix3 b n k) * a2 (ix2 k ⟨2048 + d.val, by omega⟩)) := by
  pointwise [res1]
  rw [product_at, product_at]

end Cert.Proof.Project.Conv.Ref

end
-- ==== Proof.PcValue.lean ====
module

public import proofs.«01_k».proof.Proof.PcMath
public import proofs.«01_k».proof.Proof.PcRef
public import Idealize.ShloMosaic.Lib.StableHlo.Run
public import Idealize.ShloMosaic.Lib.Pipeline.ValueKit
public import Idealize.ShloMosaic.Lib.Pointwise

/-! # The conv projection's results, entry by entry

The blocks a point holds, read at one entry of the arguments; the two results. -/

@[expose] public section

noncomputable section

namespace Cert.Proof.Project.Conv

open Cert.Kernel6Ideal Cert.Kernel6Ideal.Gen
open Idealize.ShloMosaic Idealize.ShloMosaic.TcCoe
open Idealize.ShloMosaic.Pipeline
open Idealize.SL Idealize.SL.Sem
open Cert.Proof.Project.Delta (split3)

variable (m : (ℓ : Loc nD τ sig) → Buf (Elt Ideal) ℓ)

/-! ## The prepared arrays -/

/-- The matrix the call takes. -/
def taken (a2 : FVec Ideal S1024x3072 .f32) : FVec Ideal S1024x3072 .bf16 := truncf .bf16 a2 bitsLt_bf16_f32

theorem V_v0 (c : Dev nD) : V m c main_v0 = taken (m ((c.tc : Thread nD τ).loc main_arg2)) := by
  unfold V
  after_results_simp
  rfl

theorem V_v1 (c : Dev nD) : V m c main_v1 = broadcastInDim S1x3072 ![] bcast_S_S1x3072 (constant (F := Ideal) S_ .f32 0x00000000#32) := by
  unfold V
  after_results_simp

/-! ## The blocks' places -/

theorem place0 : ∀ t : Fin grid0.N, cc0_transform_0 (grid0.coords t) = ![t.val / 17, t.val % 17, 0] := by decide +kernel
theorem place1 : ∀ t : Fin grid0.N, cc0_transform_1 (grid0.coords t) = ![t.val / 17, if t.val % 17 = 0 then 0 else 1, 0, 0] := by decide +kernel
theorem place4 : ∀ t : Fin grid0.N, cc0_transform_4 (grid0.coords t) = ![t.val / 17, t.val % 17, 0] := by decide +kernel
theorem place5 : ∀ t : Fin grid0.N, cc0_transform_5 (grid0.coords t) = ![t.val / 17, t.val % 17, 0] := by decide +kernel

/-- The point's batch row. -/
def batch (t : Fin cfg0.N) : Fin 8 := ⟨t.val / 17, by have h : t.val < 136 := t.isLt; omega⟩

/-- The point's row `r`. -/
def row (t : Fin cfg0.N) (r : Fin 256) : Fin 4352 := ⟨t.val % 17 * 256 + r.val, by omega⟩

section

variable (c : Dev nD) (t : Fin cfg0.N)

theorem x_at (r : Fin 256) (d : Fin 1024) :
    iblk m c 0 t (ix3 0 r d) = (m ((c.tc : Thread nD τ).loc main_arg0) : FVec Ideal S8x4352x1024 .f32) (ix3 (batch t) (row t r) d) := by
  refine (congrFun (V_main_arg0 m c) (((cfg0.win 0).rect t).emb (ix3 0 r d))).trans ?_
  refine congrArg (m ((c.tc : Thread nD τ).loc main_arg0)) (funext fun a => Fin.ext ?_)
  refine (Window.rect_emb_val (cfg0.win 0) t (ix3 0 r d) a).trans ?_
  have h := congrFun (place0 t)
  match a with
  | ⟨0, _⟩ => show cc0_transform_0 (grid0.coords t) 0 * 1 + 0 = t.val / 17; rw [h]; show t.val / 17 * 1 + 0 = _; omega
  | ⟨1, _⟩ => show cc0_transform_0 (grid0.coords t) 1 * 256 + r.val = t.val % 17 * 256 + r.val; rw [h]; rfl
  | ⟨2, _⟩ => show cc0_transform_0 (grid0.coords t) 2 * 1024 + d.val = d.val; rw [h]; show 0 * 1024 + d.val = _; omega

theorem tab_at (r : Fin 256) (l : Fin 8) (d : Fin 1024) :
    iblk m c 1 t (ix4 0 0 l d) = (m ((c.tc : Thread nD τ).loc main_arg1) : FVec Ideal S8x2x8x1024 .f32) (ix4 (batch t) (Ref.seg (row t r)) l d) := by
  refine (congrFun (V_main_arg1 m c) (((cfg0.win 1).rect t).emb (ix4 0 0 l d))).trans ?_
  refine congrArg (m ((c.tc : Thread nD τ).loc main_arg1)) (funext fun a => Fin.ext ?_)
  refine (Window.rect_emb_val (cfg0.win 1) t (ix4 0 0 l d) a).trans ?_
  have h := congrFun (place1 t)
  match a with
  | ⟨0, _⟩ => show cc0_transform_1 (grid0.coords t) 0 * 1 + 0 = t.val / 17; rw [h]; show t.val / 17 * 1 + 0 = _; omega
  | ⟨1, _⟩ =>
    show cc0_transform_1 (grid0.coords t) 1 * 1 + 0 = (Ref.seg (row t r)).val
    rw [h]
    show (if t.val % 17 = 0 then 0 else 1) * 1 + 0 = (if t.val % 17 * 256 + r.val < 256 then (0 : Fin 2) else 1).val
    by_cases e : t.val % 17 = 0
    · rw [if_pos e, if_pos (by omega)]; rfl
    · rw [if_neg e, if_neg (by omega)]; rfl
  | ⟨2, _⟩ => show cc0_transform_1 (grid0.coords t) 2 * 8 + l.val = l.val; rw [h]; show 0 * 8 + l.val = _; omega
  | ⟨3, _⟩ => show cc0_transform_1 (grid0.coords t) 3 * 1024 + d.val = d.val; rw [h]; show 0 * 1024 + d.val = _; omega

theorem w_at (k : Fin 1024) (q : Fin 3072) :
    iblk m c 2 t (ix2 k q) = (m ((c.tc : Thread nD τ).loc main_arg2) : FVec Ideal S1024x3072 .f32) (ix2 k q) := by
  refine (congrFun (V_v0 m c) (((cfg0.win 2).rect t).emb (ix2 k q))).trans ?_
  refine congrArg (m ((c.tc : Thread nD τ).loc main_arg2)) (funext fun a => Fin.ext ?_)
  refine (Window.rect_emb_val (cfg0.win 2) t (ix2 k q) a).trans ?_
  match a with
  | ⟨0, _⟩ => show 0 * 1024 + k.val = k.val; omega
  | ⟨1, _⟩ => show 0 * 3072 + q.val = q.val; omega

theorem b_at (q : Fin 3072) : iblk m c 3 t (ix2 0 q) = (0 : EReal) := by
  refine (congrFun (V_v1 m c) (((cfg0.win 3).rect t).emb (ix2 0 q))).trans ?_
  pointwise

/-- A point's entry, of the arguments. -/
theorem entry_at (r : Fin 256) (q : Fin 3072) :
    entry (iblk m c 0 t) (iblk m c 1 t) (iblk m c 2 t) (iblk m c 3 t) r q
      = ∑ k, Ref.rows (m ((c.tc : Thread nD τ).loc main_arg0)) (m ((c.tc : Thread nD τ).loc main_arg1)) (ix3 (batch t) (row t r) k)
          * (m ((c.tc : Thread nD τ).loc main_arg2) : FVec Ideal S1024x3072 .f32) (ix2 k q) := by
  unfold entry
  rw [b_at, add_zero]
  refine Finset.sum_congr rfl fun k _ => congrArg₂ (· * ·) ?_ (w_at m c t k q)
  rw [Ref.rows_at, x_at, tab_at m c t r, tab_at m c t r]

end

/-! ## The results -/

/-- The reference's results on the kernel's arguments. -/
def want0 (c : Dev nD) : FVec Ideal S8x4352x1024 .bf16 :=
  Ref.res0 (m ((c.tc : Thread nD τ).loc main_arg0)) (m ((c.tc : Thread nD τ).loc main_arg1)) (m ((c.tc : Thread nD τ).loc main_arg2))

def want1 (c : Dev nD) : FVec Ideal S8x4352x1024 .bf16 :=
  Ref.res1 (m ((c.tc : Thread nD τ).loc main_arg0)) (m ((c.tc : Thread nD τ).loc main_arg1)) (m ((c.tc : Thread nD τ).loc main_arg2))

theorem block0 (c : Dev nD) (t : Fin cfg0.N) (r : Fin 256) (d : Fin 1024) :
    out0_4 (iblk m c 0 t) (iblk m c 1 t) (iblk m c 2 t) (iblk m c 3 t) (ix3 0 r d) = want0 m c (ix3 (batch t) (row t r) d) := by
  rw [out4_eq]
  exact (entry_at m c t r ⟨d.val, by omega⟩).trans (Ref.res0_at _ _ _ (batch t) (row t r) d).symm

theorem block1 (c : Dev nD) (t : Fin cfg0.N) (r : Fin 256) (d : Fin 1024) :
    out0_5 (iblk m c 0 t) (iblk m c 1 t) (iblk m c 2 t) (iblk m c 3 t) (ix3 0 r d) = want1 m c (ix3 (batch t) (row t r) d) := by
  rw [out5_eq]
  exact (congrArg₂ (· * ·) (entry_at m c t r ⟨1024 + d.val, by omega⟩) (entry_at m c t r ⟨2048 + d.val, by omega⟩)).trans
    (Ref.res1_at _ _ _ (batch t) (row t r) d).symm

/-! ### Result 0 -/

theorem emb0_at (t : Fin cfg0.N) (r : Fin 256) (d : Fin 1024) :
    ((cfg0.win 4).rect t).emb (ix3 0 r d) = (ix3 (batch t) (row t r) d : S8x4352x1024.Idx) := by
  refine funext fun a => Fin.ext ?_
  refine (Window.rect_emb_val (cfg0.win 4) t (ix3 0 r d) a).trans ?_
  have h := congrFun (place4 t)
  match a with
  | ⟨0, _⟩ => show cc0_transform_4 (grid0.coords t) 0 * 1 + 0 = t.val / 17; rw [h]; show t.val / 17 * 1 + 0 = _; omega
  | ⟨1, _⟩ => show cc0_transform_4 (grid0.coords t) 1 * 256 + r.val = t.val % 17 * 256 + r.val; rw [h]; rfl
  | ⟨2, _⟩ => show cc0_transform_4 (grid0.coords t) 2 * 1024 + d.val = d.val; rw [h]; show 0 * 1024 + d.val = _; omega

theorem mem0 (i : S8x4352x1024.Idx) (t : Fin cfg0.N) (ht : t.val = (i 0).val * 17 + (i 1).val / 256) :
    i ∈ ((cfg0.win 4).rect t).set := by
  refine (Window.mem_rect_iff (cfg0.win 4) t i (by rfl)).mpr fun a => ?_
  have h := congrFun (place4 t)
  have h1 : (i 1).val < 4352 := (i 1).isLt
  match a with
  | ⟨0, _⟩ =>
    show cc0_transform_4 (grid0.coords t) 0 * 1 ≤ (i 0).val ∧ (i 0).val < cc0_transform_4 (grid0.coords t) 0 * 1 + 1
    rw [h]
    show t.val / 17 * 1 ≤ (i 0).val ∧ (i 0).val < t.val / 17 * 1 + 1
    omega
  | ⟨1, _⟩ =>
    show cc0_transform_4 (grid0.coords t) 1 * 256 ≤ (i 1).val ∧ (i 1).val < cc0_transform_4 (grid0.coords t) 1 * 256 + 256
    rw [h]
    show t.val % 17 * 256 ≤ (i 1).val ∧ (i 1).val < t.val % 17 * 256 + 256
    omega
  | ⟨2, _⟩ =>
    have h2 : (i 2).val < 1024 := (i 2).isLt
    show cc0_transform_4 (grid0.coords t) 2 * 1024 ≤ (i 2).val ∧ (i 2).val < cc0_transform_4 (grid0.coords t) 2 * 1024 + 1024
    rw [h]
    show 0 * 1024 ≤ (i 2).val ∧ (i 2).val < 0 * 1024 + 1024
    omega

theorem point0 (i : S8x4352x1024.Idx) : (i 0).val * 17 + (i 1).val / 256 < cfg0.N := by
  have h0 : (i 0).val < 8 := (i 0).isLt
  have h1 : (i 1).val < 4352 := (i 1).isLt
  show _ < 136
  omega

theorem result0_eq (c : Dev nD) : (dats m 0 c).arrAt 4 cfg0.N = want0 m c := by
  refine (dats m 0 c).arrAt_eq_of_cover 4 (want0 m c : S8x4352x1024.Idx → EReal) (fun t _ => ?_) (fun i => ?_)
  · show (cfg0.win 4).cut (cfg0.grid.coords t) ((dats m 0 c).after 4 t) = _
    rw [after0_4]
    refine funext fun y => ?_
    obtain ⟨r, d, rfl⟩ : ∃ (r : Fin 256) (d : Fin 1024), y = (ix3 0 r d : S1x256x1024.Idx) := split3 y
    exact (block0 m c t r d).trans (congrArg (want0 m c) (emb0_at t r d).symm)
  · refine ⟨⟨_, point0 i⟩, flush0_4 _, ?_⟩
    show i ∈ ((View.whole main_v2_0).slice ((cfg0.win 4).rect ⟨_, point0 i⟩)).set
    erw [View.set_slice_whole]
    exact mem0 i _ rfl

/-! ### Result 1 -/

theorem emb1_at (t : Fin cfg0.N) (r : Fin 256) (d : Fin 1024) :
    ((cfg0.win 5).rect t).emb (ix3 0 r d) = (ix3 (batch t) (row t r) d : S8x4352x1024.Idx) := by
  refine funext fun a => Fin.ext ?_
  refine (Window.rect_emb_val (cfg0.win 5) t (ix3 0 r d) a).trans ?_
  have h := congrFun (place5 t)
  match a with
  | ⟨0, _⟩ => show cc0_transform_5 (grid0.coords t) 0 * 1 + 0 = t.val / 17; rw [h]; show t.val / 17 * 1 + 0 = _; omega
  | ⟨1, _⟩ => show cc0_transform_5 (grid0.coords t) 1 * 256 + r.val = t.val % 17 * 256 + r.val; rw [h]; rfl
  | ⟨2, _⟩ => show cc0_transform_5 (grid0.coords t) 2 * 1024 + d.val = d.val; rw [h]; show 0 * 1024 + d.val = _; omega

theorem mem1 (i : S8x4352x1024.Idx) (t : Fin cfg0.N) (ht : t.val = (i 0).val * 17 + (i 1).val / 256) :
    i ∈ ((cfg0.win 5).rect t).set := by
  refine (Window.mem_rect_iff (cfg0.win 5) t i (by rfl)).mpr fun a => ?_
  have h := congrFun (place5 t)
  have h1 : (i 1).val < 4352 := (i 1).isLt
  match a with
  | ⟨0, _⟩ =>
    show cc0_transform_5 (grid0.coords t) 0 * 1 ≤ (i 0).val ∧ (i 0).val < cc0_transform_5 (grid0.coords t) 0 * 1 + 1
    rw [h]
    show t.val / 17 * 1 ≤ (i 0).val ∧ (i 0).val < t.val / 17 * 1 + 1
    omega
  | ⟨1, _⟩ =>
    show cc0_transform_5 (grid0.coords t) 1 * 256 ≤ (i 1).val ∧ (i 1).val < cc0_transform_5 (grid0.coords t) 1 * 256 + 256
    rw [h]
    show t.val % 17 * 256 ≤ (i 1).val ∧ (i 1).val < t.val % 17 * 256 + 256
    omega
  | ⟨2, _⟩ =>
    have h2 : (i 2).val < 1024 := (i 2).isLt
    show cc0_transform_5 (grid0.coords t) 2 * 1024 ≤ (i 2).val ∧ (i 2).val < cc0_transform_5 (grid0.coords t) 2 * 1024 + 1024
    rw [h]
    show 0 * 1024 ≤ (i 2).val ∧ (i 2).val < 0 * 1024 + 1024
    omega

theorem point1 (i : S8x4352x1024.Idx) : (i 0).val * 17 + (i 1).val / 256 < cfg0.N := by
  have h0 : (i 0).val < 8 := (i 0).isLt
  have h1 : (i 1).val < 4352 := (i 1).isLt
  show _ < 136
  omega

theorem result1_eq (c : Dev nD) : (dats m 0 c).arrAt 5 cfg0.N = want1 m c := by
  refine (dats m 0 c).arrAt_eq_of_cover 5 (want1 m c : S8x4352x1024.Idx → EReal) (fun t _ => ?_) (fun i => ?_)
  · show (cfg0.win 5).cut (cfg0.grid.coords t) ((dats m 0 c).after 5 t) = _
    rw [after0_5]
    refine funext fun y => ?_
    obtain ⟨r, d, rfl⟩ : ∃ (r : Fin 256) (d : Fin 1024), y = (ix3 0 r d : S1x256x1024.Idx) := split3 y
    exact (block1 m c t r d).trans (congrArg (want1 m c) (emb1_at t r d).symm)
  · refine ⟨⟨_, point1 i⟩, flush0_5 _, ?_⟩
    show i ∈ ((View.whole main_v2_1).slice ((cfg0.win 5).rect ⟨_, point1 i⟩)).set
    erw [View.set_slice_whole]
    exact mem1 i _ rfl

end Cert.Proof.Project.Conv

end
-- ==== Proof.OuMath.lean ====
module

public import proofs.«01_k».proof.Proof.Gen.Kernel7Ideal
public import proofs.«01_k».proof.Proof.Gen.Kernel7Ideal.Frame
public import proofs.«01_k».proof.Proof.CoMath
public import proofs.«01_k».proof.Proof.PjMath
public import Idealize.ShloMosaic.Lib.Pipeline.ValueKit
public import Idealize.ShloMosaic.Lib.Pointwise

/-! # A mixer's output projection, entry by entry

A row's product with the matrix and the bias, its residual row and norm, and the body's terms read at one entry. -/

@[expose] public section

noncomputable section

namespace Cert.Proof.Output

open Cert.Kernel7Ideal Cert.Kernel7Ideal.Gen
open Idealize.ShloMosaic
open Cert.Proof.Combine (resid mean centred normed)

/-- A row by the matrix, and the bias. -/
def projected (o : Fin 1024 → EReal) (w : Fin 1024 → Fin 1024 → EReal) (b : Fin 1024 → EReal) (d : Fin 1024) : EReal :=
  (∑ k, o k * w k d) + b d

theorem pay2_at (v0 : Vec Ideal S1x256x1024 .bf16) (v2 : Vec Ideal S1024x1024 .bf16) (v5 : Vec Ideal S1x1024 .f32)
    (v9 : Vec Ideal S1x256x1024 .f32) (v11 : Vec Ideal S1x1x1x1024 .f32) (r : Fin 256) (d : Fin 1024) :
    k0_pay2 (F := Ideal) v0 v2 v5 v9 v11 (ix2 r d)
      = centred (resid (fun e => v9 (ix3 0 r e)) (fun e => v11 (ix4 0 0 0 e))
          (projected (fun k => v0 (ix3 0 r k)) (fun k e => v2 (ix2 k e)) (fun e => v5 (ix2 0 e)))) d := by
  pointwise [k0_pay2]
  rfl

theorem pay3_at (v0 : Vec Ideal S1x256x1024 .bf16) (v2 : Vec Ideal S1024x1024 .bf16) (v5 : Vec Ideal S1x1024 .f32)
    (v9 : Vec Ideal S1x256x1024 .f32) (v11 : Vec Ideal S1x1x1x1024 .f32) (r : Fin 256) :
    k0_pay3 (F := Ideal) v0 v2 v5 v9 v11 (ix2 r 0)
      = mean (fun d => k0_pay2 (F := Ideal) v0 v2 v5 v9 v11 (ix2 r d) * k0_pay2 (F := Ideal) v0 v2 v5 v9 v11 (ix2 r d))
          + Ideal.ofBits .f32 925353388#32 := by
  pointwise [k0_pay3]
  rfl

theorem pay1_at (g b : Vec Ideal S1x1024 .f32) (q : FVec Ideal S256x1024 .f32) (s : FVec Ideal S256x1 .f32)
    (r : Fin 256) (d : Fin 1024) :
    k0_pay1 (F := Ideal) g b q s (ix3 0 r d) = q (ix2 r d) * Ideal.rsqrt (s (ix2 r 0)) * g (ix2 0 d) + b (ix2 0 d) := by
  pointwise [k0_pay1]

/-! ## The loads within a block -/

theorem ld_x {t : EltTy} (x : Vec Ideal S1x256x1024 t) (r : Fin 256) (l : Fin 1024) : View.ld x r0_0 (ix3 0 r l) = x (ix3 0 r l) := by
  refine congrArg x (funext fun a => Fin.ext ?_)
  match a with
  | ⟨0, _⟩ => rfl
  | ⟨1, _⟩ => show 0 + 1 * r.val = r.val; omega
  | ⟨2, _⟩ => show 0 + 1 * l.val = l.val; omega

theorem ld_w (x : Vec Ideal S1024x1024 .bf16) (k l : Fin 1024) : View.ld x r0_1 (ix2 k l) = x (ix2 k l) := by
  refine congrArg x (funext fun a => Fin.ext ?_)
  match a with
  | ⟨0, _⟩ => show 0 + 1 * k.val = k.val; omega
  | ⟨1, _⟩ => show 0 + 1 * l.val = l.val; omega

theorem ld_g (x : Vec Ideal S1x1024 .f32) (l : Fin 1024) : View.ld x r0_2 (ix2 0 l) = x (ix2 0 l) := by
  refine congrArg x (funext fun a => Fin.ext ?_)
  match a with
  | ⟨0, _⟩ => rfl
  | ⟨1, _⟩ => show 0 + 1 * l.val = l.val; omega

theorem ld_gate (x : Vec Ideal S1x1x8x1024 .f32) (l : Fin 1024) : View.ld x r0_3 (ix4 0 0 0 l) = x (ix4 0 0 2 l) := by
  refine congrArg x (funext fun a => Fin.ext ?_)
  match a with
  | ⟨0, _⟩ => rfl
  | ⟨1, _⟩ => rfl
  | ⟨2, _⟩ => rfl
  | ⟨3, _⟩ => show 0 + 1 * l.val = l.val; omega

/-! ## What a point leaves -/

theorem left_at (x0 : Vec Ideal S1x256x1024 .f32) (x1 : Vec Ideal S1x1x8x1024 .f32) (x2 : Vec Ideal S1x256x1024 .bf16)
    (x3 : Vec Ideal S1024x1024 .bf16) (x4 x5 x6 : Vec Ideal S1x1024 .f32) (r : Fin 256) (d : Fin 1024) :
    out0_7 x0 x1 x2 x3 x4 x5 x6 (ix3 0 r d)
      = normed (resid (fun e => x0 (ix3 0 r e)) (fun e => x1 (ix4 0 0 2 e))
          (projected (fun k => x2 (ix3 0 r k)) (fun k e => x3 (ix2 k e)) (fun e => x4 (ix2 0 e))))
          (fun e => x5 (ix2 0 e)) (fun e => x6 (ix2 0 e)) d := by
  have e : (ix3 0 r d : S1x256x1024.Idx) = r0_0.emb (ix3 0 r d) := by
    refine funext fun a => Fin.ext ?_
    match a with
    | ⟨0, _⟩ => rfl
    | ⟨1, _⟩ => show r.val = 0 + 1 * r.val; omega
    | ⟨2, _⟩ => show d.val = 0 + 1 * d.val; omega
  refine (congrArg (out0_7 x0 x1 x2 x3 x4 x5 x6) e).trans ?_
  refine (View.canon_cons_emb r0_0 _ [] (ix3 0 r d)).trans ?_
  rw [pay1_at, pay3_at]
  have hx : (fun e => View.ld x0 r0_0 (ix3 0 r e)) = fun e => x0 (ix3 0 r e) := funext fun e => ld_x x0 r e
  have ho : (fun e => View.ld x2 r0_0 (ix3 0 r e)) = fun e => x2 (ix3 0 r e) := funext fun e => ld_x x2 r e
  have hw : (fun k e => View.ld x3 r0_1 (ix2 k e)) = fun k e => x3 (ix2 k e) := funext fun k => funext fun e => ld_w x3 k e
  have hc : (fun e => View.ld x4 r0_2 (ix2 0 e)) = fun e => x4 (ix2 0 e) := funext fun e => ld_g x4 e
  have hgt : (fun e => View.ld x1 r0_3 (ix4 0 0 0 e)) = fun e => x1 (ix4 0 0 2 e) := funext fun e => ld_gate x1 e
  simp only [pay2_at]
  rw [hx, ho, hw, hc, hgt]
  exact congrArg₂ (fun p q => _ * p + q) (ld_g x5 d) (ld_g x6 d)

end Cert.Proof.Output

end
-- ==== Proof.OuRef.lean ====
module

public import proofs.«01_k».proof.Proof.Gen.Reference7Ideal
public import proofs.«01_k».proof.Proof.Gen.Reference7Ideal.Run
public import proofs.«01_k».proof.Proof.OuMath
public import proofs.«01_k».proof.Proof.PjRef
public import Idealize.ShloMosaic.Lib.Pointwise

/-! # A mixer's output projection's reference, entry by entry

The reference's result in stages (the projection, the residual rows, the norm), and each stage read at one entry. -/

@[expose] public section

noncomputable section

namespace Cert.Proof.Output.Ref

open Cert.Reference7Ideal Cert.Reference7Ideal.Gen
open Idealize.ShloMosaic
open Cert.Proof.Combine (resid mean centred normed)
open Cert.Proof.Project.Delta.Ref (seg)

/-! ## The stages -/

/-- The table's context rows. -/
def tabC (a1 : FVec Ideal S8x2x8x1024 .f32) : FVec Ideal S8x8x1024 .f32 :=
  shapeCast S8x8x1024 (extractStridedSlice S8x1x8x1024 ![0, 0, 0, 0] a1 slices_S8x2x8x1024_S8x1x8x1024_0_0_0_0) shapeCasts_S8x1x8x1024_S8x8x1024

/-- The table's latent rows. -/
def tabL (a1 : FVec Ideal S8x2x8x1024 .f32) : FVec Ideal S8x8x1024 .f32 :=
  shapeCast S8x8x1024 (extractStridedSlice S8x1x8x1024 ![0, 1, 0, 0] a1 slices_S8x2x8x1024_S8x1x8x1024_0_1_0_0) shapeCasts_S8x1x8x1024_S8x8x1024

/-- A table's gates as rows. -/
def gates (T : FVec Ideal S8x8x1024 .f32) : FVec Ideal S8x1x1024 .f32 :=
  broadcastInDim S8x1x1024 ![0, 2] bcast_S8x1024_S8x1x1024_0_2 (shapeCast S8x1024 (extractStridedSlice S8x1x1024 ![0, 2, 0] T slices_S8x8x1024_S8x1x1024_0_2_0) shapeCasts_S8x1x1024_S8x1024)

/-- The rows by the matrix, and the bias. -/
def product (a2 : FVec Ideal S8x4352x1024 .bf16) (a3 : FVec Ideal S1024x1024 .f32) (a4 : FVec Ideal S1024 .f32) : FVec Ideal S8x4352x1024 .f32 :=
  addf (Host.dotGeneral dot_S8x4352x1024_S1024x1024_S8x4352x1024_2_0_01_1_n_n none (extf .f32 a2 bitsLt_bf16_f32) a3) (broadcastInDim S8x4352x1024 ![0, 1, 2] bcast_S1x1x1024_S8x4352x1024_0_1_2 (broadcastInDim S1x1x1024 ![2] bcast_S1024_S1x1x1024_2 a4))

/-- The context's residual rows. -/
def ctxRows (a0 : FVec Ideal S8x4352x1024 .f32) (a1 : FVec Ideal S8x2x8x1024 .f32) (y : FVec Ideal S8x4352x1024 .f32) : FVec Ideal S8x256x1024 .f32 :=
  addf (mulf (broadcastInDim S8x256x1024 ![] bcast_S_S8x256x1024 (constant S_ .f32 0x3FD744FD#32)) (extractStridedSlice S8x256x1024 ![0, 0, 0] a0 slices_S8x4352x1024_S8x256x1024_0_0_0))
    (mulf (broadcastInDim S8x256x1024 ![0, 1, 2] bcast_S8x1x1024_S8x256x1024_0_1_2 (gates (tabC a1))) (extractStridedSlice S8x256x1024 ![0, 0, 0] y slices_S8x4352x1024_S8x256x1024_0_0_0))

/-- The latent residual rows. -/
def latRows (a0 : FVec Ideal S8x4352x1024 .f32) (a1 : FVec Ideal S8x2x8x1024 .f32) (y : FVec Ideal S8x4352x1024 .f32) : FVec Ideal S8x4096x1024 .f32 :=
  addf (mulf (broadcastInDim S8x4096x1024 ![] bcast_S_S8x4096x1024 (constant S_ .f32 0x3FD744FD#32)) (extractStridedSlice S8x4096x1024 ![0, 256, 0] a0 slices_S8x4352x1024_S8x4096x1024_0_256_0))
    (mulf (broadcastInDim S8x4096x1024 ![0, 1, 2] bcast_S8x1x1024_S8x4096x1024_0_1_2 (gates (tabL a1))) (extractStridedSlice S8x4096x1024 ![0, 256, 0] y slices_S8x4352x1024_S8x4096x1024_0_256_0))

/-- All residual rows. -/
def residual (a0 : FVec Ideal S8x4352x1024 .f32) (a1 : FVec Ideal S8x2x8x1024 .f32) (y : FVec Ideal S8x4352x1024 .f32) : FVec Ideal S8x4352x1024 .f32 :=
  concatenate S8x4352x1024 1 [⟨S8x256x1024, ctxRows a0 a1 y⟩, ⟨S8x4096x1024, latRows a0 a1 y⟩] concatenates_S8x256x1024_S8x4096x1024_S8x4352x1024_d1

/-- The rows' means. -/
def means (R : FVec Ideal S8x4352x1024 .f32) : FVec Ideal S8x4352x1 .f32 :=
  Host.divf (broadcastInDim S8x4352x1 ![0, 1] bcast_S8x4352_S8x4352x1_0_1 (Host.reduceAdd R (constant S_ .f32 0x00000000#32) reducesTo_S8x4352x1024_S8x4352_d2 h_S_)) (broadcastInDim S8x4352x1 ![] bcast_S_S8x4352x1 (constant S_ .f32 0x44800000#32))

/-- The rows less their means. -/
def less (R : FVec Ideal S8x4352x1024 .f32) : FVec Ideal S8x4352x1024 .f32 :=
  subf R (broadcastInDim S8x4352x1024 ![0, 1, 2] bcast_S8x4352x1_S8x4352x1024_0_1_2 (means R))

/-- The norm, scaled and shifted. -/
def norm (R : FVec Ideal S8x4352x1024 .f32) (a5 a6 : FVec Ideal S1x1024 .f32) : FVec Ideal S8x4352x1024 .f32 :=
  addf (mulf (mulf (less R) (broadcastInDim S8x4352x1024 ![0, 1, 2] bcast_S8x4352x1_S8x4352x1024_0_1_2 (Host.rsqrt (addf (means (mulf (less R) (less R))) (broadcastInDim S8x4352x1 ![] bcast_S_S8x4352x1 (constant S_ .f32 0x3727C5AC#32)))))) (broadcastInDim S8x4352x1024 ![0, 1, 2] bcast_S1x1x1024_S8x4352x1024_0_1_2 (broadcastInDim S1x1x1024 ![2] bcast_S1024_S1x1x1024_2 (shapeCast _ a5 shapeCasts_S1x1024_S1024)))) (broadcastInDim S8x4352x1024 ![0, 1, 2] bcast_S1x1x1024_S8x4352x1024_0_1_2 (broadcastInDim S1x1x1024 ![2] bcast_S1024_S1x1x1024_2 (shapeCast _ a6 shapeCasts_S1x1024_S1024)))

def whole (a0 : FVec Ideal S8x4352x1024 .f32) (a1 : FVec Ideal S8x2x8x1024 .f32) (a2 : FVec Ideal S8x4352x1024 .bf16)
    (a3 : FVec Ideal S1024x1024 .f32) (a4 : FVec Ideal S1024 .f32) (a5 a6 : FVec Ideal S1x1024 .f32) : FVec Ideal S8x4352x1024 .f32 :=
  norm (residual a0 a1 (product a2 a3 a4)) a5 a6

/-! ## Each stage at one entry -/

theorem product_at (a2 : FVec Ideal S8x4352x1024 .bf16) (a3 : FVec Ideal S1024x1024 .f32) (a4 : FVec Ideal S1024 .f32)
    (b : Fin 8) (n : Fin 4352) (d : Fin 1024) :
    product a2 a3 a4 (ix3 b n d) = projected (fun k => a2 (ix3 b n k)) (fun k e => a3 (ix2 k e)) (fun e => a4 (ix1 e)) d := by
  pointwise [product]
  rfl

theorem ctxRows_at (a0 : FVec Ideal S8x4352x1024 .f32) (a1 : FVec Ideal S8x2x8x1024 .f32) (y : FVec Ideal S8x4352x1024 .f32) (b : Fin 8) (n : Fin 256) (d : Fin 1024) :
    ctxRows a0 a1 y (ix3 b n d)
      = resid (fun e => a0 (ix3 b ⟨n.val, by omega⟩ e)) (fun e => a1 (ix4 b 0 2 e)) (fun e => y (ix3 b ⟨n.val, by omega⟩ e)) d := by
  pointwise [ctxRows, gates, tabC]
  rfl

theorem latRows_at (a0 : FVec Ideal S8x4352x1024 .f32) (a1 : FVec Ideal S8x2x8x1024 .f32) (y : FVec Ideal S8x4352x1024 .f32) (b : Fin 8) (n : Fin 4096) (d : Fin 1024) :
    latRows a0 a1 y (ix3 b n d)
      = resid (fun e => a0 (ix3 b ⟨256 + n.val, by omega⟩ e)) (fun e => a1 (ix4 b 1 2 e)) (fun e => y (ix3 b ⟨256 + n.val, by omega⟩ e)) d := by
  pointwise [latRows, gates, tabL]
  rfl

theorem residual_at (a0 : FVec Ideal S8x4352x1024 .f32) (a1 : FVec Ideal S8x2x8x1024 .f32) (y : FVec Ideal S8x4352x1024 .f32) (b : Fin 8) (n : Fin 4352) (d : Fin 1024) :
    residual a0 a1 y (ix3 b n d)
      = resid (fun e => a0 (ix3 b n e)) (fun e => a1 (ix4 b (seg n) 2 e)) (fun e => y (ix3 b n e)) d := by
  by_cases h : n.val < 256
  · have hs : seg n = 0 := if_pos h
    rw [hs]
    refine Eq.trans ?_ (ctxRows_at a0 a1 y b ⟨n.val, h⟩ d)
    pointwise [residual]
    simp only [h, dif_pos]
  · have hs : seg n = 1 := if_neg h
    rw [hs]
    refine Eq.trans ?_ ((latRows_at a0 a1 y b ⟨n.val - 256, by omega⟩ d).trans ?_)
    · pointwise [residual]
      simp only [h, dif_neg, not_false_iff]
    · have e : (⟨256 + (n.val - 256), by omega⟩ : Fin 4352) = n := Fin.ext (by show 256 + (n.val - 256) = n.val; omega)
      exact congrArg (fun q => resid (fun e => a0 (ix3 b q e)) _ (fun e => y (ix3 b q e)) d) e

theorem means_at (R : FVec Ideal S8x4352x1024 .f32) (b : Fin 8) (n : Fin 4352) :
    means R (ix3 b n 0) = mean (fun e => R (ix3 b n e)) := by
  pointwise [means]
  rfl

theorem less_at (R : FVec Ideal S8x4352x1024 .f32) (b : Fin 8) (n : Fin 4352) (d : Fin 1024) :
    less R (ix3 b n d) = centred (fun e => R (ix3 b n e)) d := by
  pointwise [less]
  simp only [means_at]
  rfl

theorem norm_at (R : FVec Ideal S8x4352x1024 .f32) (a5 a6 : FVec Ideal S1x1024 .f32) (b : Fin 8) (n : Fin 4352) (d : Fin 1024) :
    norm R a5 a6 (ix3 b n d) = normed (fun e => R (ix3 b n e)) (fun e => a5 (ix2 0 e)) (fun e => a6 (ix2 0 e)) d := by
  pointwise [norm]
  have e : (fun e => mulf (less R) (less R) (ix3 b n e))
      = fun e => centred (fun l => R (ix3 b n l)) e * centred (fun l => R (ix3 b n l)) e :=
    funext fun e => congrArg₂ (· * ·) (less_at R b n e) (less_at R b n e)
  simp only [means_at, less_at, e]
  rfl

theorem whole_at (a0 : FVec Ideal S8x4352x1024 .f32) (a1 : FVec Ideal S8x2x8x1024 .f32) (a2 : FVec Ideal S8x4352x1024 .bf16)
    (a3 : FVec Ideal S1024x1024 .f32) (a4 : FVec Ideal S1024 .f32) (a5 a6 : FVec Ideal S1x1024 .f32) (b : Fin 8) (n : Fin 4352) (d : Fin 1024) :
    whole a0 a1 a2 a3 a4 a5 a6 (ix3 b n d)
      = normed (resid (fun e => a0 (ix3 b n e)) (fun e => a1 (ix4 b (seg n) 2 e))
          (projected (fun k => a2 (ix3 b n k)) (fun k e => a3 (ix2 k e)) (fun e => a4 (ix1 e))))
          (fun e => a5 (ix2 0 e)) (fun e => a6 (ix2 0 e)) d := by
  unfold whole
  rw [norm_at]
  refine congrArg (fun r => normed r _ _ d) (funext fun e => ?_)
  rw [residual_at]
  exact congrArg (fun f => resid _ _ f e) (funext fun l => product_at a2 a3 a4 b n l)

/-- The reference's result is the stages' result. -/
theorem result_eq (m : (ℓ : Loc nD τ sig) → Buf (Elt Ideal) ℓ) (c : Dev nD) :
    Cert.Reference7Ideal.Value.res_main_v55 m c
      = whole (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) := rfl

end Cert.Proof.Output.Ref

end
-- ==== Proof.OuValue.lean ====
module

public import proofs.«01_k».proof.Proof.OuMath
public import proofs.«01_k».proof.Proof.OuRef
public import Idealize.ShloMosaic.Lib.StableHlo.Run
public import Idealize.ShloMosaic.Lib.Pipeline.ValueKit
public import Idealize.ShloMosaic.Lib.Pointwise

/-! # A mixer's output projection's result, entry by entry

The blocks a point holds, read at one entry of the arguments; the result. -/

@[expose] public section

noncomputable section

namespace Cert.Proof.Output

open Cert.Kernel7Ideal Cert.Kernel7Ideal.Gen
open Idealize.ShloMosaic Idealize.ShloMosaic.TcCoe
open Idealize.ShloMosaic.Pipeline
open Idealize.SL Idealize.SL.Sem
open Cert.Proof.Combine (resid normed)
open Cert.Proof.Project.Delta (split3)
open Cert.Proof.Project.Delta.Ref (seg)

variable (m : (ℓ : Loc nD τ sig) → Buf (Elt Ideal) ℓ)

/-! ## The prepared arrays -/

/-- The matrix the call takes. -/
def taken (a3 : FVec Ideal S1024x1024 .f32) : FVec Ideal S1024x1024 .bf16 := truncf .bf16 a3 bitsLt_bf16_f32

/-- The bias the call takes. -/
def laid (a4 : FVec Ideal S1024 .f32) : FVec Ideal S1x1024 .f32 := shapeCast S1x1024 a4 shapeCasts_S1024_S1x1024

theorem V_v0 (c : Dev nD) : V m c main_v0 = taken (m ((c.tc : Thread nD τ).loc main_arg3)) := by
  unfold V
  after_results_simp
  rfl

theorem V_v1 (c : Dev nD) : V m c main_v1 = laid (m ((c.tc : Thread nD τ).loc main_arg4)) := by
  unfold V
  after_results_simp
  rfl

theorem laid_at (a4 : FVec Ideal S1024 .f32) (d : Fin 1024) : laid a4 (ix2 0 d) = a4 (ix1 d) := by
  pointwise [laid]

/-! ## The blocks' places -/

theorem place0 : ∀ t : Fin grid0.N, cc0_transform_0 (grid0.coords t) = ![t.val / 17, t.val % 17, 0] := by decide +kernel
theorem place1 : ∀ t : Fin grid0.N, cc0_transform_1 (grid0.coords t) = ![t.val / 17, if t.val % 17 = 0 then 0 else 1, 0, 0] := by decide +kernel
theorem place2 : ∀ t : Fin grid0.N, cc0_transform_2 (grid0.coords t) = ![t.val / 17, t.val % 17, 0] := by decide +kernel
theorem place7 : ∀ t : Fin grid0.N, cc0_transform_7 (grid0.coords t) = ![t.val / 17, t.val % 17, 0] := by decide +kernel

/-- The point's batch row. -/
def batch (t : Fin cfg0.N) : Fin 8 := ⟨t.val / 17, by have h : t.val < 136 := t.isLt; omega⟩

/-- The point's row `r`. -/
def row (t : Fin cfg0.N) (r : Fin 256) : Fin 4352 := ⟨t.val % 17 * 256 + r.val, by omega⟩

section

variable (c : Dev nD) (t : Fin cfg0.N)

theorem x_at (r : Fin 256) (d : Fin 1024) :
    iblk m c 0 t (ix3 0 r d) = (m ((c.tc : Thread nD τ).loc main_arg0) : FVec Ideal S8x4352x1024 .f32) (ix3 (batch t) (row t r) d) := by
  refine (congrFun (V_main_arg0 m c) (((cfg0.win 0).rect t).emb (ix3 0 r d))).trans ?_
  refine congrArg (m ((c.tc : Thread nD τ).loc main_arg0)) (funext fun a => Fin.ext ?_)
  refine (Window.rect_emb_val (cfg0.win 0) t (ix3 0 r d) a).trans ?_
  have h := congrFun (place0 t)
  match a with
  | ⟨0, _⟩ => show cc0_transform_0 (grid0.coords t) 0 * 1 + 0 = t.val / 17; rw [h]; show t.val / 17 * 1 + 0 = _; omega
  | ⟨1, _⟩ => show cc0_transform_0 (grid0.coords t) 1 * 256 + r.val = t.val % 17 * 256 + r.val; rw [h]; rfl
  | ⟨2, _⟩ => show cc0_transform_0 (grid0.coords t) 2 * 1024 + d.val = d.val; rw [h]; show 0 * 1024 + d.val = _; omega

theorem tab_at (r : Fin 256) (l : Fin 8) (d : Fin 1024) :
    iblk m c 1 t (ix4 0 0 l d) = (m ((c.tc : Thread nD τ).loc main_arg1) : FVec Ideal S8x2x8x1024 .f32) (ix4 (batch t) (seg (row t r)) l d) := by
  refine (congrFun (V_main_arg1 m c) (((cfg0.win 1).rect t).emb (ix4 0 0 l d))).trans ?_
  refine congrArg (m ((c.tc : Thread nD τ).loc main_arg1)) (funext fun a => Fin.ext ?_)
  refine (Window.rect_emb_val (cfg0.win 1) t (ix4 0 0 l d) a).trans ?_
  have h := congrFun (place1 t)
  match a with
  | ⟨0, _⟩ => show cc0_transform_1 (grid0.coords t) 0 * 1 + 0 = t.val / 17; rw [h]; show t.val / 17 * 1 + 0 = _; omega
  | ⟨1, _⟩ =>
    show cc0_transform_1 (grid0.coords t) 1 * 1 + 0 = (seg (row t r)).val
    rw [h]
    show (if t.val % 17 = 0 then 0 else 1) * 1 + 0 = (if t.val % 17 * 256 + r.val < 256 then (0 : Fin 2) else 1).val
    by_cases e : t.val % 17 = 0
    · rw [if_pos e, if_pos (by omega)]; rfl
    · rw [if_neg e, if_neg (by omega)]; rfl
  | ⟨2, _⟩ => show cc0_transform_1 (grid0.coords t) 2 * 8 + l.val = l.val; rw [h]; show 0 * 8 + l.val = _; omega
  | ⟨3, _⟩ => show cc0_transform_1 (grid0.coords t) 3 * 1024 + d.val = d.val; rw [h]; show 0 * 1024 + d.val = _; omega

theorem o_at (r : Fin 256) (d : Fin 1024) :
    iblk m c 2 t (ix3 0 r d) = (m ((c.tc : Thread nD τ).loc main_arg2) : FVec Ideal S8x4352x1024 .bf16) (ix3 (batch t) (row t r) d) := by
  refine (congrFun (V_main_arg2 m c) (((cfg0.win 2).rect t).emb (ix3 0 r d))).trans ?_
  refine congrArg (m ((c.tc : Thread nD τ).loc main_arg2)) (funext fun a => Fin.ext ?_)
  refine (Window.rect_emb_val (cfg0.win 2) t (ix3 0 r d) a).trans ?_
  have h := congrFun (place2 t)
  match a with
  | ⟨0, _⟩ => show cc0_transform_2 (grid0.coords t) 0 * 1 + 0 = t.val / 17; rw [h]; show t.val / 17 * 1 + 0 = _; omega
  | ⟨1, _⟩ => show cc0_transform_2 (grid0.coords t) 1 * 256 + r.val = t.val % 17 * 256 + r.val; rw [h]; rfl
  | ⟨2, _⟩ => show cc0_transform_2 (grid0.coords t) 2 * 1024 + d.val = d.val; rw [h]; show 0 * 1024 + d.val = _; omega

theorem w_at (k : Fin 1024) (q : Fin 1024) :
    iblk m c 3 t (ix2 k q) = (m ((c.tc : Thread nD τ).loc main_arg3) : FVec Ideal S1024x1024 .f32) (ix2 k q) := by
  refine (congrFun (V_v0 m c) (((cfg0.win 3).rect t).emb (ix2 k q))).trans ?_
  refine congrArg (m ((c.tc : Thread nD τ).loc main_arg3)) (funext fun a => Fin.ext ?_)
  refine (Window.rect_emb_val (cfg0.win 3) t (ix2 k q) a).trans ?_
  match a with
  | ⟨0, _⟩ => show 0 * 1024 + k.val = k.val; omega
  | ⟨1, _⟩ => show 0 * 1024 + q.val = q.val; omega

theorem bias_at (d : Fin 1024) :
    iblk m c 4 t (ix2 0 d) = (m ((c.tc : Thread nD τ).loc main_arg4) : FVec Ideal S1024 .f32) (ix1 d) := by
  refine (congrFun (V_v1 m c) (((cfg0.win 4).rect t).emb (ix2 0 d))).trans ?_
  refine Eq.trans (congrArg (laid _) (funext fun a => Fin.ext ?_)) (laid_at _ d)
  refine (Window.rect_emb_val (cfg0.win 4) t (ix2 0 d) a).trans ?_
  match a with
  | ⟨0, _⟩ => rfl
  | ⟨1, _⟩ => show 0 * 1024 + d.val = d.val; omega

theorem g_at (d : Fin 1024) :
    iblk m c 5 t (ix2 0 d) = (m ((c.tc : Thread nD τ).loc main_arg5) : FVec Ideal S1x1024 .f32) (ix2 0 d) := by
  refine (congrFun (V_main_arg5 m c) (((cfg0.win 5).rect t).emb (ix2 0 d))).trans ?_
  refine congrArg (m ((c.tc : Thread nD τ).loc main_arg5)) (funext fun a => Fin.ext ?_)
  refine (Window.rect_emb_val (cfg0.win 5) t (ix2 0 d) a).trans ?_
  match a with
  | ⟨0, _⟩ => rfl
  | ⟨1, _⟩ => show 0 * 1024 + d.val = d.val; omega

theorem b_at (d : Fin 1024) :
    iblk m c 6 t (ix2 0 d) = (m ((c.tc : Thread nD τ).loc main_arg6) : FVec Ideal S1x1024 .f32) (ix2 0 d) := by
  refine (congrFun (V_main_arg6 m c) (((cfg0.win 6).rect t).emb (ix2 0 d))).trans ?_
  refine congrArg (m ((c.tc : Thread nD τ).loc main_arg6)) (funext fun a => Fin.ext ?_)
  refine (Window.rect_emb_val (cfg0.win 6) t (ix2 0 d) a).trans ?_
  match a with
  | ⟨0, _⟩ => rfl
  | ⟨1, _⟩ => show 0 * 1024 + d.val = d.val; omega

end

/-! ## The result -/

/-- The reference's result on the kernel's arguments. -/
def wholeOf (c : Dev nD) : FVec Ideal S8x4352x1024 .f32 :=
  Ref.whole (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))

theorem block_row (c : Dev nD) (t : Fin cfg0.N) (r : Fin 256) (d : Fin 1024) :
    out0_7 (iblk m c 0 t) (iblk m c 1 t) (iblk m c 2 t) (iblk m c 3 t) (iblk m c 4 t) (iblk m c 5 t) (iblk m c 6 t) (ix3 0 r d)
      = wholeOf m c (ix3 (batch t) (row t r) d) := by
  refine (left_at _ _ _ _ _ _ _ r d).trans ?_
  refine Eq.trans ?_ (Ref.whole_at _ _ _ _ _ _ _ (batch t) (row t r) d).symm
  simp only [x_at, tab_at m c t r, o_at, w_at, bias_at, g_at, b_at]

theorem emb0_at (t : Fin cfg0.N) (r : Fin 256) (d : Fin 1024) :
    ((cfg0.win 7).rect t).emb (ix3 0 r d) = (ix3 (batch t) (row t r) d : S8x4352x1024.Idx) := by
  refine funext fun a => Fin.ext ?_
  refine (Window.rect_emb_val (cfg0.win 7) t (ix3 0 r d) a).trans ?_
  have h := congrFun (place7 t)
  match a with
  | ⟨0, _⟩ => show cc0_transform_7 (grid0.coords t) 0 * 1 + 0 = t.val / 17; rw [h]; show t.val / 17 * 1 + 0 = _; omega
  | ⟨1, _⟩ => show cc0_transform_7 (grid0.coords t) 1 * 256 + r.val = t.val % 17 * 256 + r.val; rw [h]; rfl
  | ⟨2, _⟩ => show cc0_transform_7 (grid0.coords t) 2 * 1024 + d.val = d.val; rw [h]; show 0 * 1024 + d.val = _; omega

theorem mem0 (i : S8x4352x1024.Idx) (t : Fin cfg0.N) (ht : t.val = (i 0).val * 17 + (i 1).val / 256) :
    i ∈ ((cfg0.win 7).rect t).set := by
  refine (Window.mem_rect_iff (cfg0.win 7) t i (by rfl)).mpr fun a => ?_
  have h := congrFun (place7 t)
  have h1 : (i 1).val < 4352 := (i 1).isLt
  match a with
  | ⟨0, _⟩ =>
    show cc0_transform_7 (grid0.coords t) 0 * 1 ≤ (i 0).val ∧ (i 0).val < cc0_transform_7 (grid0.coords t) 0 * 1 + 1
    rw [h]
    show t.val / 17 * 1 ≤ (i 0).val ∧ (i 0).val < t.val / 17 * 1 + 1
    omega
  | ⟨1, _⟩ =>
    show cc0_transform_7 (grid0.coords t) 1 * 256 ≤ (i 1).val ∧ (i 1).val < cc0_transform_7 (grid0.coords t) 1 * 256 + 256
    rw [h]
    show t.val % 17 * 256 ≤ (i 1).val ∧ (i 1).val < t.val % 17 * 256 + 256
    omega
  | ⟨2, _⟩ =>
    have h2 : (i 2).val < 1024 := (i 2).isLt
    show cc0_transform_7 (grid0.coords t) 2 * 1024 ≤ (i 2).val ∧ (i 2).val < cc0_transform_7 (grid0.coords t) 2 * 1024 + 1024
    rw [h]
    show 0 * 1024 ≤ (i 2).val ∧ (i 2).val < 0 * 1024 + 1024
    omega

theorem point0 (i : S8x4352x1024.Idx) : (i 0).val * 17 + (i 1).val / 256 < cfg0.N := by
  have h0 : (i 0).val < 8 := (i 0).isLt
  have h1 : (i 1).val < 4352 := (i 1).isLt
  show _ < 136
  omega

theorem result_eq (c : Dev nD) : (dats m 0 c).arrAt 7 cfg0.N = wholeOf m c := by
  refine (dats m 0 c).arrAt_eq_of_cover 7 (wholeOf m c : S8x4352x1024.Idx → EReal) (fun t _ => ?_) (fun i => ?_)
  · show (cfg0.win 7).cut (cfg0.grid.coords t) ((dats m 0 c).after 7 t) = _
    rw [after0_7]
    refine funext fun y => ?_
    obtain ⟨r, d, rfl⟩ : ∃ (r : Fin 256) (d : Fin 1024), y = (ix3 0 r d : S1x256x1024.Idx) := split3 y
    exact (block_row m c t r d).trans (congrArg (wholeOf m c) (emb0_at t r d).symm)
  · refine ⟨⟨_, point0 i⟩, flush0_7 _, ?_⟩
    show i ∈ ((View.whole main_v2).slice ((cfg0.win 7).rect ⟨_, point0 i⟩)).set
    erw [View.set_slice_whole]
    exact mem0 i _ rfl

end Cert.Proof.Output

end
-- ==== Proof.DoMath.lean ====
module

public import proofs.«01_k».proof.Proof.Gen.Kernel8Ideal
public import proofs.«01_k».proof.Proof.Gen.Kernel8Ideal.Frame
public import proofs.«01_k».proof.Proof.CoMath
public import Idealize.ShloMosaic.Lib.Pipeline.ValueKit
public import Idealize.ShloMosaic.Lib.Pointwise

/-! # The delta mixer's output projection, entry by entry

A head's normed and gated row, its product with the head's part of the matrix, and the body's terms read at one entry. -/

@[expose] public section

noncomputable section

namespace Cert.Proof.DeltaOutput

open Cert.Kernel8Ideal Cert.Kernel8Ideal.Gen
open Idealize.ShloMosaic
open Cert.Proof.Combine (resid mean centred normed)

/-! ## One row of one head -/

/-- The head's row scaled by its root mean square and by the gains, and gated. -/
def gated (p q z g : Fin 128 → EReal) (l : Fin 128) : EReal :=
  (p l + q l) * Ideal.rsqrt (Ideal.div (∑ e, (p e + q e) * (p e + q e)) (Ideal.ofBits .f32 0x43000000#32) + Ideal.ofBits .f32 0x358637BD#32)
    * g l * (z l * Ideal.logistic (z l))

/-- The head's part of a product. -/
def head (g : Vec Ideal S1x128 .f32) (p q z : Vec Ideal S1x256x128 .bf16) (w : Vec Ideal S128x1024 .bf16) (r : Fin 256) (d : Fin 1024) : EReal :=
  ∑ l, gated (fun e => p (ix3 0 r e)) (fun e => q (ix3 0 r e)) (fun e => z (ix3 0 r e)) (fun e => g (ix2 0 e)) l * w (ix2 l d)

/-- The column `l` of head `k`. -/
def col (k : Fin 16) (l : Fin 128) : Fin 2048 := ⟨l.val + 128 * k.val, by omega⟩

/-! ## The body's terms at one entry -/

theorem pay2_at (g : Vec Ideal S1x128 .f32) (l : Fin 128) : k0_pay2 (F := Ideal) g (ix2 0 l) = g (ix2 0 l) := by
  pointwise [k0_pay2]

theorem pay3_at (g : Vec Ideal S1x128 .f32) (p q z : Vec Ideal S1x256x128 .bf16) (w : Vec Ideal S128x1024 .bf16) (r : Fin 256) (d : Fin 1024) :
    k0_pay3 (F := Ideal) g p q z w (ix2 r d) = head g p q z w r d := by
  pointwise [k0_pay3]
  simp only [pay2_at]
  rfl

theorem pay5_at (g : FVec Ideal S1x128 .f32) (s : FVec Ideal S256x1024 .f32) (p q z : Vec Ideal S1x256x128 .bf16) (w : Vec Ideal S128x1024 .bf16) (r : Fin 256) (d : Fin 1024) :
    k0_pay5 (F := Ideal) g s (k0_pay4 p) q z w (ix2 r d) = s (ix2 r d) + head g p q z w r d := by
  pointwise [k0_pay5, k0_pay4]
  rfl

theorem pay8_at (g : FVec Ideal S1x128 .f32) (s : FVec Ideal S256x1024 .f32) (p q z : Vec Ideal S1x256x128 .bf16) (w : Vec Ideal S128x1024 .bf16) (r : Fin 256) (d : Fin 1024) :
    k0_pay8 (F := Ideal) g s (k0_pay6 p q) (k0_pay7 p q) z w (ix2 r d) = s (ix2 r d) + head g p q z w r d := by
  pointwise [k0_pay8, k0_pay6, k0_pay7]
  rfl

theorem pay10_at (g : FVec Ideal S1x128 .f32) (s : FVec Ideal S256x1024 .f32) (p q z p' q' z' : Vec Ideal S1x256x128 .bf16) (w w' : Vec Ideal S128x1024 .bf16) (r : Fin 256) (d : Fin 1024) :
    k0_pay10 (F := Ideal) g s (k0_pay9 g p q z) w p' q' z' w' (ix2 r d) = s (ix2 r d) + head g p q z w r d + head g p' q' z' w' r d := by
  pointwise [k0_pay10, k0_pay9]
  rfl

theorem pay12_at (g : FVec Ideal S1x128 .f32) (s : FVec Ideal S256x1024 .f32) (p q z : Vec Ideal S1x256x128 .bf16) (w : Vec Ideal S128x1024 .bf16) (r : Fin 256) (d : Fin 1024) :
    k0_pay12 (F := Ideal) g s (k0_pay11 p) q z w (ix2 r d) = s (ix2 r d) + head g p q z w r d := pay5_at g s p q z w r d

theorem pay19_at (g : FVec Ideal S1x128 .f32) (s : FVec Ideal S256x1024 .f32) (p q z : Vec Ideal S1x256x128 .bf16) (w : Vec Ideal S128x1024 .bf16) (r : Fin 256) (d : Fin 1024) :
    k0_pay19 (F := Ideal) g s (k0_pay18 p) q z w (ix2 r d) = s (ix2 r d) + head g p q z w r d := pay5_at g s p q z w r d

theorem pay26_at (g : FVec Ideal S1x128 .f32) (s : FVec Ideal S256x1024 .f32) (p q z : Vec Ideal S1x256x128 .bf16) (w : Vec Ideal S128x1024 .bf16) (r : Fin 256) (d : Fin 1024) :
    k0_pay26 (F := Ideal) g s (k0_pay25 p) q z w (ix2 r d) = s (ix2 r d) + head g p q z w r d := pay5_at g s p q z w r d

theorem pay15_at (g : FVec Ideal S1x128 .f32) (s : FVec Ideal S256x1024 .f32) (p q z : Vec Ideal S1x256x128 .bf16) (w : Vec Ideal S128x1024 .bf16) (r : Fin 256) (d : Fin 1024) :
    k0_pay15 (F := Ideal) g s (k0_pay13 p q) (k0_pay14 p q) z w (ix2 r d) = s (ix2 r d) + head g p q z w r d := pay8_at g s p q z w r d

theorem pay22_at (g : FVec Ideal S1x128 .f32) (s : FVec Ideal S256x1024 .f32) (p q z : Vec Ideal S1x256x128 .bf16) (w : Vec Ideal S128x1024 .bf16) (r : Fin 256) (d : Fin 1024) :
    k0_pay22 (F := Ideal) g s (k0_pay20 p q) (k0_pay21 p q) z w (ix2 r d) = s (ix2 r d) + head g p q z w r d := pay8_at g s p q z w r d

theorem pay29_at (g : FVec Ideal S1x128 .f32) (s : FVec Ideal S256x1024 .f32) (p q z : Vec Ideal S1x256x128 .bf16) (w : Vec Ideal S128x1024 .bf16) (r : Fin 256) (d : Fin 1024) :
    k0_pay29 (F := Ideal) g s (k0_pay27 p q) (k0_pay28 p q) z w (ix2 r d) = s (ix2 r d) + head g p q z w r d := pay8_at g s p q z w r d

theorem pay17_at (g : FVec Ideal S1x128 .f32) (s : FVec Ideal S256x1024 .f32) (p q z p' q' z' : Vec Ideal S1x256x128 .bf16) (w w' : Vec Ideal S128x1024 .bf16) (r : Fin 256) (d : Fin 1024) :
    k0_pay17 (F := Ideal) g s (k0_pay16 g p q z) w p' q' z' w' (ix2 r d) = s (ix2 r d) + head g p q z w r d + head g p' q' z' w' r d :=
  pay10_at g s p q z p' q' z' w w' r d

theorem pay24_at (g : FVec Ideal S1x128 .f32) (s : FVec Ideal S256x1024 .f32) (p q z p' q' z' : Vec Ideal S1x256x128 .bf16) (w w' : Vec Ideal S128x1024 .bf16) (r : Fin 256) (d : Fin 1024) :
    k0_pay24 (F := Ideal) g s (k0_pay23 g p q z) w p' q' z' w' (ix2 r d) = s (ix2 r d) + head g p q z w r d + head g p' q' z' w' r d :=
  pay10_at g s p q z p' q' z' w w' r d

theorem pay1_at (v : FVec Ideal S256x1024 .f32) (r : Fin 256) (d : Fin 1024) : k0_pay1 (F := Ideal) v (ix3 0 r d) = v (ix2 r d) := by
  pointwise [k0_pay1]

theorem pay31_at (g : FVec Ideal S1x128 .f32) (s : FVec Ideal S256x1024 .f32) (p q z : Vec Ideal S1x256x128 .bf16) (w : Vec Ideal S128x1024 .bf16)
    (c : Vec Ideal S1x1024 .f32) (x : Vec Ideal S1x256x1024 .f32) (gt : Vec Ideal S1x1x1x1024 .f32) (a b : Vec Ideal S1x1024 .f32) (r : Fin 256) (d : Fin 1024) :
    k0_pay31 (F := Ideal) s (k0_pay30 g p q z) w c x gt a b (ix2 r d)
      = normed (resid (fun e => x (ix3 0 r e)) (fun e => gt (ix4 0 0 0 e)) (fun e => s (ix2 r e) + head g p q z w r e + c (ix2 0 e)))
          (fun e => a (ix2 0 e)) (fun e => b (ix2 0 e)) d := by
  pointwise [k0_pay31, k0_pay30]
  rfl

end Cert.Proof.DeltaOutput

end
-- ==== Proof.DoRef.lean ====
module

public import proofs.«01_k».proof.Proof.Gen.Reference8Ideal
public import proofs.«01_k».proof.Proof.Gen.Reference8Ideal.Run
public import proofs.«01_k».proof.Proof.DoMath
public import proofs.«01_k».proof.Proof.OuRef
public import Idealize.ShloMosaic.Lib.Pointwise

/-! # The delta mixer's output projection's reference, entry by entry -/

@[expose] public section

noncomputable section

namespace Cert.Proof.DeltaOutput.Ref

open Cert.Reference8Ideal Cert.Reference8Ideal.Gen
open Idealize.ShloMosaic
open Cert.Proof.Combine (resid normed)
open Cert.Proof.Project.Delta.Ref (seg)

/-! ## The stages -/

/-- Both directions' rows together, by heads. -/
def both (a2 a3 : FVec Ideal S8x4352x2048 .bf16) : FVec Ideal S8x4352x16x128 .f32 :=
  shapeCast S8x4352x16x128 (addf (extf .f32 a2 bitsLt_bf16_f32) (extf .f32 a3 bitsLt_bf16_f32)) shapeCasts_S8x4352x2048_S8x4352x16x128

/-- The gates' rows, by heads. -/
def side (a4 : FVec Ideal S8x4352x2048 .bf16) : FVec Ideal S8x4352x16x128 .f32 :=
  shapeCast S8x4352x16x128 (extf .f32 a4 bitsLt_bf16_f32) shapeCasts_S8x4352x2048_S8x4352x16x128

/-- The heads' rows by their root mean squares. -/
def scaled (s : FVec Ideal S8x4352x16x128 .f32) : FVec Ideal S8x4352x16x128 .f32 :=
  mulf s (broadcastInDim S8x4352x16x128 ![0, 1, 2, 3] bcast_S8x4352x16x1_S8x4352x16x128_0_1_2_3 (Host.rsqrt (addf (Host.divf (broadcastInDim S8x4352x16x1 ![0, 1, 2] bcast_S8x4352x16_S8x4352x16x1_0_1_2 (Host.reduceAdd (mulf s s) (constant S_ .f32 0x00000000#32) reducesTo_S8x4352x16x128_S8x4352x16_d3 h_S_)) (broadcastInDim S8x4352x16x1 ![] bcast_S_S8x4352x16x1 (constant S_ .f32 0x43000000#32))) (broadcastInDim S8x4352x16x1 ![] bcast_S_S8x4352x16x1 (constant S_ .f32 0x358637BD#32)))))

/-- The heads' rows, scaled and gated. -/
def rows (s z : FVec Ideal S8x4352x16x128 .f32) (a5 : FVec Ideal S128 .f32) : FVec Ideal S8x4352x16x128 .f32 :=
  mulf (mulf (scaled s) (broadcastInDim S8x4352x16x128 ![0, 1, 2, 3] bcast_S1x1x1x128_S8x4352x16x128_0_1_2_3 (broadcastInDim S1x1x1x128 ![3] bcast_S128_S1x1x1x128_3 a5)))
    (mulf z (Host.divf (broadcastInDim S8x4352x16x128 ![] bcast_S_S8x4352x16x128 (constant S_ .f32 0x3F800000#32)) (addf (broadcastInDim S8x4352x16x128 ![] bcast_S_S8x4352x16x128 (constant S_ .f32 0x3F800000#32)) (Host.exp (Host.negf z)))))

/-- The rows, flat. -/
def flat (s : FVec Ideal S8x4352x16x128 .f32) : FVec Ideal S8x4352x2048 .f32 :=
  shapeCast S8x4352x2048 s shapeCasts_S8x4352x16x128_S8x4352x2048

/-- The rows by the matrix. -/
def product (a2 a3 a4 : FVec Ideal S8x4352x2048 .bf16) (a5 : FVec Ideal S128 .f32) (a6 : FVec Ideal S2048x1024 .f32) : FVec Ideal S8x4352x1024 .f32 :=
  Host.dotGeneral dot_S8x4352x2048_S2048x1024_S8x4352x1024_2_0_01_1_n_n none (flat (rows (both a2 a3) (side a4) a5)) a6

def whole (a0 : FVec Ideal S8x4352x1024 .f32) (a1 : FVec Ideal S8x2x8x1024 .f32) (a2 a3 a4 : FVec Ideal S8x4352x2048 .bf16)
    (a5 : FVec Ideal S128 .f32) (a6 : FVec Ideal S2048x1024 .f32) (a7 a8 : FVec Ideal S1x1024 .f32) : FVec Ideal S8x4352x1024 .f32 :=
  Output.Ref.norm (Output.Ref.residual a0 a1 (product a2 a3 a4 a5 a6)) a7 a8

/-! ## Each stage at one entry -/

theorem both_at (a2 a3 : FVec Ideal S8x4352x2048 .bf16) (b : Fin 8) (n : Fin 4352) (k : Fin 16) (l : Fin 128) :
    both a2 a3 (ix4 b n k l) = a2 (ix3 b n (col k l)) + a3 (ix3 b n (col k l)) := by
  have e : (⟨k.val * 128 + l.val, by omega⟩ : Fin 2048) = col k l := Fin.ext (by show k.val * 128 + l.val = l.val + 128 * k.val; omega)
  pointwise [both]
  exact congrArg (fun j => a2 (ix3 b n j) + a3 (ix3 b n j)) e

theorem side_at (a4 : FVec Ideal S8x4352x2048 .bf16) (b : Fin 8) (n : Fin 4352) (k : Fin 16) (l : Fin 128) :
    side a4 (ix4 b n k l) = a4 (ix3 b n (col k l)) := by
  have e : (⟨k.val * 128 + l.val, by omega⟩ : Fin 2048) = col k l := Fin.ext (by show k.val * 128 + l.val = l.val + 128 * k.val; omega)
  pointwise [side]
  exact congrArg (fun j => a4 (ix3 b n j)) e

theorem flat_at (s : FVec Ideal S8x4352x16x128 .f32) (b : Fin 8) (n : Fin 4352) (k : Fin 16) (l : Fin 128) :
    flat s (ix3 b n (col k l)) = s (ix4 b n k l) := by
  have e1 : (⟨(col k l).val / 128, by omega⟩ : Fin 16) = k := Fin.ext (by show (l.val + 128 * k.val) / 128 = k.val; omega)
  have e2 : (⟨(col k l).val % 128, by omega⟩ : Fin 128) = l := Fin.ext (by show (l.val + 128 * k.val) % 128 = l.val; omega)
  pointwise [flat]
  exact congrArg₂ (fun i j => s (ix4 b n i j)) e1 e2

theorem scaled_at (s : FVec Ideal S8x4352x16x128 .f32) (b : Fin 8) (n : Fin 4352) (k : Fin 16) (l : Fin 128) :
    scaled s (ix4 b n k l) = s (ix4 b n k l) * Ideal.rsqrt (Ideal.div (∑ e, s (ix4 b n k e) * s (ix4 b n k e)) (Ideal.ofBits .f32 0x43000000#32) + Ideal.ofBits .f32 0x358637BD#32) := by
  pointwise [scaled]

theorem rows_at (s z : FVec Ideal S8x4352x16x128 .f32) (a5 : FVec Ideal S128 .f32) (b : Fin 8) (n : Fin 4352) (k : Fin 16) (l : Fin 128) :
    rows s z a5 (ix4 b n k l) = scaled s (ix4 b n k l) * a5 (ix1 l) * (z (ix4 b n k l) * Ideal.logistic (z (ix4 b n k l))) := by
  pointwise [rows]
  rfl

/-- A sum over the columns, by heads. -/
theorem sum_heads (f : Fin 2048 → EReal) : ∑ j, f j = ∑ k, ∑ l, f (col k l) :=
  ((Equiv.sum_comp (finProdFinEquiv (m := 16) (n := 128)) f).symm).trans (Fintype.sum_prod_type _)

theorem gated_at (a2 a3 a4 : FVec Ideal S8x4352x2048 .bf16) (a5 : FVec Ideal S128 .f32) (b : Fin 8) (n : Fin 4352) (k : Fin 16) (l : Fin 128) :
    flat (rows (both a2 a3) (side a4) a5) (ix3 b n (col k l))
      = gated (fun e => a2 (ix3 b n (col k e))) (fun e => a3 (ix3 b n (col k e))) (fun e => a4 (ix3 b n (col k e))) (fun e => a5 (ix1 e)) l := by
  rw [flat_at, rows_at, scaled_at, side_at]
  simp only [both_at]
  rfl

theorem product_at (a2 a3 a4 : FVec Ideal S8x4352x2048 .bf16) (a5 : FVec Ideal S128 .f32) (a6 : FVec Ideal S2048x1024 .f32)
    (b : Fin 8) (n : Fin 4352) (d : Fin 1024) :
    product a2 a3 a4 a5 a6 (ix3 b n d)
      = ∑ k, ∑ l, gated (fun e => a2 (ix3 b n (col k e))) (fun e => a3 (ix3 b n (col k e))) (fun e => a4 (ix3 b n (col k e))) (fun e => a5 (ix1 e)) l * a6 (ix2 (col k l) d) := by
  have h : product a2 a3 a4 a5 a6 (ix3 b n d) = ∑ j, flat (rows (both a2 a3) (side a4) a5) (ix3 b n j) * a6 (ix2 j d) := by
    pointwise [product]
  rw [h, sum_heads]
  exact Finset.sum_congr rfl fun k _ => Finset.sum_congr rfl fun l _ => congrArg (· * a6 (ix2 (col k l) d)) (gated_at a2 a3 a4 a5 b n k l)

theorem whole_at (a0 : FVec Ideal S8x4352x1024 .f32) (a1 : FVec Ideal S8x2x8x1024 .f32) (a2 a3 a4 : FVec Ideal S8x4352x2048 .bf16)
    (a5 : FVec Ideal S128 .f32) (a6 : FVec Ideal S2048x1024 .f32) (a7 a8 : FVec Ideal S1x1024 .f32) (b : Fin 8) (n : Fin 4352) (d : Fin 1024) :
    whole a0 a1 a2 a3 a4 a5 a6 a7 a8 (ix3 b n d)
      = normed (resid (fun e => a0 (ix3 b n e)) (fun e => a1 (ix4 b (seg n) 2 e))
          (fun e => ∑ k, ∑ l, gated (fun e => a2 (ix3 b n (col k e))) (fun e => a3 (ix3 b n (col k e))) (fun e => a4 (ix3 b n (col k e))) (fun e => a5 (ix1 e)) l * a6 (ix2 (col k l) e)))
          (fun e => a7 (ix2 0 e)) (fun e => a8 (ix2 0 e)) d := by
  unfold whole
  refine (Output.Ref.norm_at _ a7 a8 b n d).trans ?_
  refine congrArg (fun r => normed r _ _ d) (funext fun e => ?_)
  refine (Output.Ref.residual_at a0 a1 _ b n e).trans ?_
  exact congrArg (fun f => resid _ _ f e) (funext fun l => product_at a2 a3 a4 a5 a6 b n l)

/-- The reference's result is the stages' result. -/
theorem result_eq (m : (ℓ : Loc nD τ sig) → Buf (Elt Ideal) ℓ) (c : Dev nD) :
    Cert.Reference8Ideal.Value.res_main_v73 m c
      = whole (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := rfl

end Cert.Proof.DeltaOutput.Ref

end
-- ==== Proof.DoValue.lean ====
module

public import proofs.«01_k».proof.Proof.DoMath
public import proofs.«01_k».proof.Proof.DoRef
public import Idealize.ShloMosaic.Lib.StableHlo.Run
public import Idealize.ShloMosaic.Lib.Pipeline.ValueKit
public import Idealize.ShloMosaic.Lib.Pointwise

/-! # The delta mixer's output projection's result, entry by entry

The blocks a point holds, read at one entry of the arguments; the result. -/

@[expose] public section

noncomputable section

namespace Cert.Proof.DeltaOutput

open Cert.Kernel8Ideal Cert.Kernel8Ideal.Gen
open Idealize.ShloMosaic Idealize.ShloMosaic.TcCoe
open Idealize.ShloMosaic.Pipeline
open Idealize.SL Idealize.SL.Sem
open Cert.Proof.Combine (resid normed)
open Cert.Proof.Project.Delta (split3)
open Cert.Proof.Project.Delta.Ref (seg)

variable (m : (ℓ : Loc nD τ sig) → Buf (Elt Ideal) ℓ)

/-! ## The loads within a block -/

theorem ld_x (x : Vec Ideal S1x256x1024 .f32) (r : Fin 256) (l : Fin 1024) : View.ld x r0_34 (ix3 0 r l) = x (ix3 0 r l) := by
  refine congrArg x (funext fun a => Fin.ext ?_)
  match a with
  | ⟨0, _⟩ => rfl
  | ⟨1, _⟩ => show 0 + 1 * r.val = r.val; omega
  | ⟨2, _⟩ => show 0 + 1 * l.val = l.val; omega

theorem ld_gain (x : Vec Ideal S1x128 .f32) (l : Fin 128) : View.ld x r0_0 (ix2 0 l) = x (ix2 0 l) := by
  refine congrArg x (funext fun a => Fin.ext ?_)
  match a with
  | ⟨0, _⟩ => rfl
  | ⟨1, _⟩ => show 0 + 1 * l.val = l.val; omega

theorem ld_g (x : Vec Ideal S1x1024 .f32) (l : Fin 1024) : View.ld x r0_33 (ix2 0 l) = x (ix2 0 l) := by
  refine congrArg x (funext fun a => Fin.ext ?_)
  match a with
  | ⟨0, _⟩ => rfl
  | ⟨1, _⟩ => show 0 + 1 * l.val = l.val; omega

theorem ld_gate (x : Vec Ideal S1x1x8x1024 .f32) (l : Fin 1024) : View.ld x r0_35 (ix4 0 0 0 l) = x (ix4 0 0 2 l) := by
  refine congrArg x (funext fun a => Fin.ext ?_)
  match a with
  | ⟨0, _⟩ => rfl
  | ⟨1, _⟩ => rfl
  | ⟨2, _⟩ => rfl
  | ⟨3, _⟩ => show 0 + 1 * l.val = l.val; omega

/-- The entries of head `k`. -/
theorem ld_head (x : Vec Ideal S1x256x2048 .bf16) (o : ℕ) (k : Fin 16) (hk : o = 128 * k.val)
    (h : ∀ a, (![0, 0, o] : Fin 3 → ℕ) a + S1x256x128.size a ≤ S1x256x2048.size a) (r : Fin 256) (l : Fin 128) :
    View.ld x (Rect.unit (s := S1x256x2048) ![0, 0, o] S1x256x128.size h) (ix3 0 r l) = x (ix3 0 r (col k l)) := by
  refine congrArg x (funext fun a => Fin.ext ?_)
  match a with
  | ⟨0, _⟩ => rfl
  | ⟨1, _⟩ => show 0 + 1 * r.val = r.val; omega
  | ⟨2, _⟩ => show o + 1 * l.val = l.val + 128 * k.val; omega

/-- The matrix's part of head `k`. -/
theorem ld_part (x : Vec Ideal S2048x1024 .bf16) (o : ℕ) (k : Fin 16) (hk : o = 128 * k.val)
    (h : ∀ a, (![o, 0] : Fin 2 → ℕ) a + S128x1024.size a ≤ S2048x1024.size a) (l : Fin 128) (d : Fin 1024) :
    View.ld x (Rect.unit (s := S2048x1024) ![o, 0] S128x1024.size h) (ix2 l d) = x (ix2 (col k l) d) := by
  refine congrArg x (funext fun a => Fin.ext ?_)
  match a with
  | ⟨0, _⟩ => show o + 1 * l.val = l.val + 128 * k.val; omega
  | ⟨1, _⟩ => show 0 + 1 * d.val = d.val; omega

/-- Head `k`'s part of a product, of the whole blocks. -/
def headOf (x5 : Vec Ideal S1x128 .f32) (x2 x3 x4 : Vec Ideal S1x256x2048 .bf16) (x6 : Vec Ideal S2048x1024 .bf16) (r : Fin 256) (d : Fin 1024) (k : Fin 16) : EReal :=
  ∑ l, gated (fun e => x2 (ix3 0 r (col k e))) (fun e => x3 (ix3 0 r (col k e))) (fun e => x4 (ix3 0 r (col k e))) (fun e => x5 (ix2 0 e)) l * x6 (ix2 (col k l) d)

theorem head_ld (g x5 : Vec Ideal S1x128 .f32) (x2 x3 x4 : Vec Ideal S1x256x2048 .bf16) (x6 : Vec Ideal S2048x1024 .bf16) (r : Fin 256) (d : Fin 1024)
    (hg : ∀ e, g (ix2 0 e) = x5 (ix2 0 e)) (o : ℕ) (k : Fin 16) (hk : o = 128 * k.val)
    (h : ∀ a, (![0, 0, o] : Fin 3 → ℕ) a + S1x256x128.size a ≤ S1x256x2048.size a)
    (h' : ∀ a, (![o, 0] : Fin 2 → ℕ) a + S128x1024.size a ≤ S2048x1024.size a) :
    head g (View.ld x2 (Rect.unit (s := S1x256x2048) ![0, 0, o] S1x256x128.size h)) (View.ld x3 (Rect.unit (s := S1x256x2048) ![0, 0, o] S1x256x128.size h))
        (View.ld x4 (Rect.unit (s := S1x256x2048) ![0, 0, o] S1x256x128.size h)) (View.ld x6 (Rect.unit (s := S2048x1024) ![o, 0] S128x1024.size h')) r d
      = headOf x5 x2 x3 x4 x6 r d k := by
  unfold head headOf
  refine Finset.sum_congr rfl fun l _ => congrArg₂ (· * ·) ?_ (ld_part x6 o k hk h' l d)
  have e2 := funext fun e => ld_head x2 o k hk h r e
  have e3 := funext fun e => ld_head x3 o k hk h r e
  have e4 := funext fun e => ld_head x4 o k hk h r e
  have e5 := funext hg
  rw [e2, e3, e4, e5]

theorem sum_of_heads (f : Fin 16 → EReal) :
    ∑ k, f k = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

theorem add2 {a b c d : EReal} (h : a = b) (h' : c = d) : a + c = b + d := congrArg₂ (· + ·) h h'

section

variable (x0 : Vec Ideal S1x256x1024 .f32) (x1 : Vec Ideal S1x1x8x1024 .f32) (x2 x3 x4 : Vec Ideal S1x256x2048 .bf16)
  (x5 : Vec Ideal S1x128 .f32) (x6 : Vec Ideal S2048x1024 .bf16) (x7 x8 x9 : Vec Ideal S1x1024 .f32)

theorem pay32_at (e : Fin 128) : k0_pay32 x0 x1 x2 x3 x4 x5 x6 x7 x8 x9 (ix2 0 e) = x5 (ix2 0 e) :=
  (pay2_at (View.ld x5 r0_0) e).trans (ld_gain x5 e)

theorem left_at (r : Fin 256) (d : Fin 1024) :
    out0_10 x0 x1 x2 x3 x4 x5 x6 x7 x8 x9 (ix3 0 r d)
      = normed (resid (fun e => x0 (ix3 0 r e)) (fun e => x1 (ix4 0 0 2 e))
          (fun e => (∑ k, headOf x5 x2 x3 x4 x6 r e k) + x7 (ix2 0 e)))
          (fun e => x8 (ix2 0 e)) (fun e => x9 (ix2 0 e)) d := by
  have e : (ix3 0 r d : S1x256x1024.Idx) = r0_34.emb (ix3 0 r d) := by
    refine funext fun a => Fin.ext ?_
    match a with
    | ⟨0, _⟩ => rfl
    | ⟨1, _⟩ => show r.val = 0 + 1 * r.val; omega
    | ⟨2, _⟩ => show d.val = 0 + 1 * d.val; omega
  refine (congrArg (out0_10 x0 x1 x2 x3 x4 x5 x6 x7 x8 x9) e).trans ?_
  refine (View.canon_cons_emb r0_34 _ [] (ix3 0 r d)).trans ?_
  rw [pay1_at, pay31_at]
  have hx : (fun e => View.ld x0 r0_34 (ix3 0 r e)) = fun e => x0 (ix3 0 r e) := funext fun e => ld_x x0 r e
  have hgt : (fun e => View.ld x1 r0_35 (ix4 0 0 0 e)) = fun e => x1 (ix4 0 0 2 e) := funext fun e => ld_gate x1 e
  have ha : (fun e => View.ld x8 r0_33 (ix2 0 e)) = fun e => x8 (ix2 0 e) := funext fun e => ld_g x8 e
  have hb : (fun e => View.ld x9 r0_33 (ix2 0 e)) = fun e => x9 (ix2 0 e) := funext fun e => ld_g x9 e
  rw [hx, hgt, ha, hb]
  refine congrArg (fun q => normed q _ _ d) (congrArg (resid _ _) (funext fun l => ?_))
  refine add2 ?_ (ld_g x7 l)
  rw [sum_of_heads, pay29_at, pay26_at, pay24_at, pay22_at, pay19_at, pay17_at, pay15_at, pay12_at, pay10_at, pay8_at, pay5_at, pay3_at]
  have hg := pay32_at x0 x1 x2 x3 x4 x5 x6 x7 x8 x9
  exact add2 (add2 (add2 (add2 (add2 (add2 (add2 (add2 (add2 (add2 (add2 (add2 (add2 (add2 (add2
    (head_ld _ x5 x2 x3 x4 x6 r l (ld_gain x5) 0 0 rfl _ _)
    (head_ld _ x5 x2 x3 x4 x6 r l hg 128 1 rfl _ _))
    (head_ld _ x5 x2 x3 x4 x6 r l hg 256 2 rfl _ _))
    (head_ld _ x5 x2 x3 x4 x6 r l hg 384 3 rfl _ _))
    (head_ld _ x5 x2 x3 x4 x6 r l hg 512 4 rfl _ _))
    (head_ld _ x5 x2 x3 x4 x6 r l hg 640 5 rfl _ _))
    (head_ld _ x5 x2 x3 x4 x6 r l hg 768 6 rfl _ _))
    (head_ld _ x5 x2 x3 x4 x6 r l hg 896 7 rfl _ _))
    (head_ld _ x5 x2 x3 x4 x6 r l hg 1024 8 rfl _ _))
    (head_ld _ x5 x2 x3 x4 x6 r l hg 1152 9 rfl _ _))
    (head_ld _ x5 x2 x3 x4 x6 r l hg 1280 10 rfl _ _))
    (head_ld _ x5 x2 x3 x4 x6 r l hg 1408 11 rfl _ _))
    (head_ld _ x5 x2 x3 x4 x6 r l hg 1536 12 rfl _ _))
    (head_ld _ x5 x2 x3 x4 x6 r l hg 1664 13 rfl _ _))
    (head_ld _ x5 x2 x3 x4 x6 r l hg 1792 14 rfl _ _))
    (head_ld _ x5 x2 x3 x4 x6 r l hg 1920 15 rfl _ _)

end

/-! ## The prepared arrays -/

/-- The matrix the call takes. -/
def taken (a6 : FVec Ideal S2048x1024 .f32) : FVec Ideal S2048x1024 .bf16 := truncf .bf16 a6 bitsLt_bf16_f32

/-- The gains the call takes. -/
def laid (a5 : FVec Ideal S128 .f32) : FVec Ideal S1x128 .f32 := shapeCast S1x128 a5 shapeCasts_S128_S1x128

theorem V_v0 (c : Dev nD) : V m c main_v0 = taken (m ((c.tc : Thread nD τ).loc main_arg6)) := by
  unfold V
  after_results_simp
  rfl

theorem V_v1 (c : Dev nD) : V m c main_v1 = broadcastInDim S1x1024 ![] bcast_S_S1x1024 (constant (F := Ideal) S_ .f32 0x00000000#32) := by
  unfold V
  after_results_simp

theorem V_v2 (c : Dev nD) : V m c main_v2 = laid (m ((c.tc : Thread nD τ).loc main_arg5)) := by
  unfold V
  after_results_simp
  rfl

theorem laid_at (a5 : FVec Ideal S128 .f32) (d : Fin 128) : laid a5 (ix2 0 d) = a5 (ix1 d) := by
  pointwise [laid]

/-! ## The blocks' places -/

theorem place0 : ∀ t : Fin grid0.N, cc0_transform_0 (grid0.coords t) = ![t.val / 17, t.val % 17, 0] := by decide +kernel
theorem place1 : ∀ t : Fin grid0.N, cc0_transform_1 (grid0.coords t) = ![t.val / 17, if t.val % 17 = 0 then 0 else 1, 0, 0] := by decide +kernel
theorem place2 : ∀ t : Fin grid0.N, cc0_transform_2 (grid0.coords t) = ![t.val / 17, t.val % 17, 0] := by decide +kernel
theorem place3 : ∀ t : Fin grid0.N, cc0_transform_3 (grid0.coords t) = ![t.val / 17, t.val % 17, 0] := by decide +kernel
theorem place4 : ∀ t : Fin grid0.N, cc0_transform_4 (grid0.coords t) = ![t.val / 17, t.val % 17, 0] := by decide +kernel
theorem place10 : ∀ t : Fin grid0.N, cc0_transform_10 (grid0.coords t) = ![t.val / 17, t.val % 17, 0] := by decide +kernel

/-- The point's batch row. -/
def batch (t : Fin cfg0.N) : Fin 8 := ⟨t.val / 17, by have h : t.val < 136 := t.isLt; omega⟩

/-- The point's row `r`. -/
def row (t : Fin cfg0.N) (r : Fin 256) : Fin 4352 := ⟨t.val % 17 * 256 + r.val, by omega⟩

section

variable (c : Dev nD) (t : Fin cfg0.N)

theorem x_at (r : Fin 256) (d : Fin 1024) :
    iblk m c 0 t (ix3 0 r d) = (m ((c.tc : Thread nD τ).loc main_arg0) : FVec Ideal S8x4352x1024 .f32) (ix3 (batch t) (row t r) d) := by
  refine (congrFun (V_main_arg0 m c) (((cfg0.win 0).rect t).emb (ix3 0 r d))).trans ?_
  refine congrArg (m ((c.tc : Thread nD τ).loc main_arg0)) (funext fun a => Fin.ext ?_)
  refine (Window.rect_emb_val (cfg0.win 0) t (ix3 0 r d) a).trans ?_
  have h := congrFun (place0 t)
  match a with
  | ⟨0, _⟩ => show cc0_transform_0 (grid0.coords t) 0 * 1 + 0 = t.val / 17; rw [h]; show t.val / 17 * 1 + 0 = _; omega
  | ⟨1, _⟩ => show cc0_transform_0 (grid0.coords t) 1 * 256 + r.val = t.val % 17 * 256 + r.val; rw [h]; rfl
  | ⟨2, _⟩ => show cc0_transform_0 (grid0.coords t) 2 * 1024 + d.val = d.val; rw [h]; show 0 * 1024 + d.val = _; omega

theorem tab_at (r : Fin 256) (l : Fin 8) (d : Fin 1024) :
    iblk m c 1 t (ix4 0 0 l d) = (m ((c.tc : Thread nD τ).loc main_arg1) : FVec Ideal S8x2x8x1024 .f32) (ix4 (batch t) (seg (row t r)) l d) := by
  refine (congrFun (V_main_arg1 m c) (((cfg0.win 1).rect t).emb (ix4 0 0 l d))).trans ?_
  refine congrArg (m ((c.tc : Thread nD τ).loc main_arg1)) (funext fun a => Fin.ext ?_)
  refine (Window.rect_emb_val (cfg0.win 1) t (ix4 0 0 l d) a).trans ?_
  have h := congrFun (place1 t)
  match a with
  | ⟨0, _⟩ => show cc0_transform_1 (grid0.coords t) 0 * 1 + 0 = t.val / 17; rw [h]; show t.val / 17 * 1 + 0 = _; omega
  | ⟨1, _⟩ =>
    show cc0_transform_1 (grid0.coords t) 1 * 1 + 0 = (seg (row t r)).val
    rw [h]
    show (if t.val % 17 = 0 then 0 else 1) * 1 + 0 = (if t.val % 17 * 256 + r.val < 256 then (0 : Fin 2) else 1).val
    by_cases e : t.val % 17 = 0
    · rw [if_pos e, if_pos (by omega)]; rfl
    · rw [if_neg e, if_neg (by omega)]; rfl
  | ⟨2, _⟩ => show cc0_transform_1 (grid0.coords t) 2 * 8 + l.val = l.val; rw [h]; show 0 * 8 + l.val = _; omega
  | ⟨3, _⟩ => show cc0_transform_1 (grid0.coords t) 3 * 1024 + d.val = d.val; rw [h]; show 0 * 1024 + d.val = _; omega

theorem p_at (r : Fin 256) (d : Fin 2048) :
    iblk m c 2 t (ix3 0 r d) = (m ((c.tc : Thread nD τ).loc main_arg2) : FVec Ideal S8x4352x2048 .bf16) (ix3 (batch t) (row t r) d) := by
  refine (congrFun (V_main_arg2 m c) (((cfg0.win 2).rect t).emb (ix3 0 r d))).trans ?_
  refine congrArg (m ((c.tc : Thread nD τ).loc main_arg2)) (funext fun a => Fin.ext ?_)
  refine (Window.rect_emb_val (cfg0.win 2) t (ix3 0 r d) a).trans ?_
  have h := congrFun (place2 t)
  match a with
  | ⟨0, _⟩ => show cc0_transform_2 (grid0.coords t) 0 * 1 + 0 = t.val / 17; rw [h]; show t.val / 17 * 1 + 0 = _; omega
  | ⟨1, _⟩ => show cc0_transform_2 (grid0.coords t) 1 * 256 + r.val = t.val % 17 * 256 + r.val; rw [h]; rfl
  | ⟨2, _⟩ => show cc0_transform_2 (grid0.coords t) 2 * 2048 + d.val = d.val; rw [h]; show 0 * 2048 + d.val = _; omega

theorem q_at (r : Fin 256) (d : Fin 2048) :
    iblk m c 3 t (ix3 0 r d) = (m ((c.tc : Thread nD τ).loc main_arg3) : FVec Ideal S8x4352x2048 .bf16) (ix3 (batch t) (row t r) d) := by
  refine (congrFun (V_main_arg3 m c) (((cfg0.win 3).rect t).emb (ix3 0 r d))).trans ?_
  refine congrArg (m ((c.tc : Thread nD τ).loc main_arg3)) (funext fun a => Fin.ext ?_)
  refine (Window.rect_emb_val (cfg0.win 3) t (ix3 0 r d) a).trans ?_
  have h := congrFun (place3 t)
  match a with
  | ⟨0, _⟩ => show cc0_transform_3 (grid0.coords t) 0 * 1 + 0 = t.val / 17; rw [h]; show t.val / 17 * 1 + 0 = _; omega
  | ⟨1, _⟩ => show cc0_transform_3 (grid0.coords t) 1 * 256 + r.val = t.val % 17 * 256 + r.val; rw [h]; rfl
  | ⟨2, _⟩ => show cc0_transform_3 (grid0.coords t) 2 * 2048 + d.val = d.val; rw [h]; show 0 * 2048 + d.val = _; omega

theorem z_at (r : Fin 256) (d : Fin 2048) :
    iblk m c 4 t (ix3 0 r d) = (m ((c.tc : Thread nD τ).loc main_arg4) : FVec Ideal S8x4352x2048 .bf16) (ix3 (batch t) (row t r) d) := by
  refine (congrFun (V_main_arg4 m c) (((cfg0.win 4).rect t).emb (ix3 0 r d))).trans ?_
  refine congrArg (m ((c.tc : Thread nD τ).loc main_arg4)) (funext fun a => Fin.ext ?_)
  refine (Window.rect_emb_val (cfg0.win 4) t (ix3 0 r d) a).trans ?_
  have h := congrFun (place4 t)
  match a with
  | ⟨0, _⟩ => show cc0_transform_4 (grid0.coords t) 0 * 1 + 0 = t.val / 17; rw [h]; show t.val / 17 * 1 + 0 = _; omega
  | ⟨1, _⟩ => show cc0_transform_4 (grid0.coords t) 1 * 256 + r.val = t.val % 17 * 256 + r.val; rw [h]; rfl
  | ⟨2, _⟩ => show cc0_transform_4 (grid0.coords t) 2 * 2048 + d.val = d.val; rw [h]; show 0 * 2048 + d.val = _; omega

theorem w_at (k : Fin 2048) (q : Fin 1024) :
    iblk m c 6 t (ix2 k q) = (m ((c.tc : Thread nD τ).loc main_arg6) : FVec Ideal S2048x1024 .f32) (ix2 k q) := by
  refine (congrFun (V_v0 m c) (((cfg0.win 6).rect t).emb (ix2 k q))).trans ?_
  refine congrArg (m ((c.tc : Thread nD τ).loc main_arg6)) (funext fun a => Fin.ext ?_)
  refine (Window.rect_emb_val (cfg0.win 6) t (ix2 k q) a).trans ?_
  match a with
  | ⟨0, _⟩ => show 0 * 2048 + k.val = k.val; omega
  | ⟨1, _⟩ => show 0 * 1024 + q.val = q.val; omega

theorem gain_at (d : Fin 128) :
    iblk m c 5 t (ix2 0 d) = (m ((c.tc : Thread nD τ).loc main_arg5) : FVec Ideal S128 .f32) (ix1 d) := by
  refine (congrFun (V_v2 m c) (((cfg0.win 5).rect t).emb (ix2 0 d))).trans ?_
  refine Eq.trans (congrArg (laid _) (funext fun a => Fin.ext ?_)) (laid_at _ d)
  refine (Window.rect_emb_val (cfg0.win 5) t (ix2 0 d) a).trans ?_
  match a with
  | ⟨0, _⟩ => rfl
  | ⟨1, _⟩ => show 0 * 128 + d.val = d.val; omega

theorem bias_at (d : Fin 1024) : iblk m c 7 t (ix2 0 d) = (0 : EReal) := by
  refine (congrFun (V_v1 m c) (((cfg0.win 7).rect t).emb (ix2 0 d))).trans ?_
  pointwise

theorem g_at (d : Fin 1024) :
    iblk m c 8 t (ix2 0 d) = (m ((c.tc : Thread nD τ).loc main_arg7) : FVec Ideal S1x1024 .f32) (ix2 0 d) := by
  refine (congrFun (V_main_arg7 m c) (((cfg0.win 8).rect t).emb (ix2 0 d))).trans ?_
  refine congrArg (m ((c.tc : Thread nD τ).loc main_arg7)) (funext fun a => Fin.ext ?_)
  refine (Window.rect_emb_val (cfg0.win 8) t (ix2 0 d) a).trans ?_
  match a with
  | ⟨0, _⟩ => rfl
  | ⟨1, _⟩ => show 0 * 1024 + d.val = d.val; omega

theorem b_at (d : Fin 1024) :
    iblk m c 9 t (ix2 0 d) = (m ((c.tc : Thread nD τ).loc main_arg8) : FVec Ideal S1x1024 .f32) (ix2 0 d) := by
  refine (congrFun (V_main_arg8 m c) (((cfg0.win 9).rect t).emb (ix2 0 d))).trans ?_
  refine congrArg (m ((c.tc : Thread nD τ).loc main_arg8)) (funext fun a => Fin.ext ?_)
  refine (Window.rect_emb_val (cfg0.win 9) t (ix2 0 d) a).trans ?_
  match a with
  | ⟨0, _⟩ => rfl
  | ⟨1, _⟩ => show 0 * 1024 + d.val = d.val; omega

end

/-! ## The result -/

/-- The reference's result on the kernel's arguments. -/
def wholeOf (c : Dev nD) : FVec Ideal S8x4352x1024 .f32 :=
  Ref.whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8))

theorem block_row (c : Dev nD) (t : Fin cfg0.N) (r : Fin 256) (d : Fin 1024) :
    out0_10 (iblk m c 0 t) (iblk m c 1 t) (iblk m c 2 t) (iblk m c 3 t) (iblk m c 4 t) (iblk m c 5 t) (iblk m c 6 t) (iblk m c 7 t) (iblk m c 8 t) (iblk m c 9 t) (ix3 0 r d)
      = wholeOf m c (ix3 (batch t) (row t r) d) := by
  refine (left_at _ _ _ _ _ _ _ _ _ _ r d).trans ?_
  refine Eq.trans ?_ (Ref.whole_at _ _ _ _ _ _ _ _ _ (batch t) (row t r) d).symm
  unfold headOf
  simp only [x_at, tab_at m c t r, p_at, q_at, z_at, w_at, gain_at, bias_at, g_at, b_at, add_zero]

theorem emb0_at (t : Fin cfg0.N) (r : Fin 256) (d : Fin 1024) :
    ((cfg0.win 10).rect t).emb (ix3 0 r d) = (ix3 (batch t) (row t r) d : S8x4352x1024.Idx) := by
  refine funext fun a => Fin.ext ?_
  refine (Window.rect_emb_val (cfg0.win 10) t (ix3 0 r d) a).trans ?_
  have h := congrFun (place10 t)
  match a with
  | ⟨0, _⟩ => show cc0_transform_10 (grid0.coords t) 0 * 1 + 0 = t.val / 17; rw [h]; show t.val / 17 * 1 + 0 = _; omega
  | ⟨1, _⟩ => show cc0_transform_10 (grid0.coords t) 1 * 256 + r.val = t.val % 17 * 256 + r.val; rw [h]; rfl
  | ⟨2, _⟩ => show cc0_transform_10 (grid0.coords t) 2 * 1024 + d.val = d.val; rw [h]; show 0 * 1024 + d.val = _; omega

theorem mem0 (i : S8x4352x1024.Idx) (t : Fin cfg0.N) (ht : t.val = (i 0).val * 17 + (i 1).val / 256) :
    i ∈ ((cfg0.win 10).rect t).set := by
  refine (Window.mem_rect_iff (cfg0.win 10) t i (by rfl)).mpr fun a => ?_
  have h := congrFun (place10 t)
  have h1 : (i 1).val < 4352 := (i 1).isLt
  match a with
  | ⟨0, _⟩ =>
    show cc0_transform_10 (grid0.coords t) 0 * 1 ≤ (i 0).val ∧ (i 0).val < cc0_transform_10 (grid0.coords t) 0 * 1 + 1
    rw [h]
    show t.val / 17 * 1 ≤ (i 0).val ∧ (i 0).val < t.val / 17 * 1 + 1
    omega
  | ⟨1, _⟩ =>
    show cc0_transform_10 (grid0.coords t) 1 * 256 ≤ (i 1).val ∧ (i 1).val < cc0_transform_10 (grid0.coords t) 1 * 256 + 256
    rw [h]
    show t.val % 17 * 256 ≤ (i 1).val ∧ (i 1).val < t.val % 17 * 256 + 256
    omega
  | ⟨2, _⟩ =>
    have h2 : (i 2).val < 1024 := (i 2).isLt
    show cc0_transform_10 (grid0.coords t) 2 * 1024 ≤ (i 2).val ∧ (i 2).val < cc0_transform_10 (grid0.coords t) 2 * 1024 + 1024
    rw [h]
    show 0 * 1024 ≤ (i 2).val ∧ (i 2).val < 0 * 1024 + 1024
    omega

theorem point0 (i : S8x4352x1024.Idx) : (i 0).val * 17 + (i 1).val / 256 < cfg0.N := by
  have h0 : (i 0).val < 8 := (i 0).isLt
  have h1 : (i 1).val < 4352 := (i 1).isLt
  show _ < 136
  omega

theorem result_eq (c : Dev nD) : (dats m 0 c).arrAt 10 cfg0.N = wholeOf m c := by
  refine (dats m 0 c).arrAt_eq_of_cover 10 (wholeOf m c : S8x4352x1024.Idx → EReal) (fun t _ => ?_) (fun i => ?_)
  · show (cfg0.win 10).cut (cfg0.grid.coords t) ((dats m 0 c).after 10 t) = _
    rw [after0_10]
    refine funext fun y => ?_
    obtain ⟨r, d, rfl⟩ : ∃ (r : Fin 256) (d : Fin 1024), y = (ix3 0 r d : S1x256x1024.Idx) := split3 y
    exact (block_row m c t r d).trans (congrArg (wholeOf m c) (emb0_at t r d).symm)
  · refine ⟨⟨_, point0 i⟩, flush0_10 _, ?_⟩
    show i ∈ ((View.whole main_v3).slice ((cfg0.win 10).rect ⟨_, point0 i⟩)).set
    erw [View.set_slice_whole]
    exact mem0 i _ rfl

end Cert.Proof.DeltaOutput

end
-- ==== Proof.lean ====
/-
  The claims of `Cert.Claim`: the gather of the experts' rows, run once over any float instance (Proof/Launch.lean,
  `run_main`), leaves row `idx[0, r]` of the table in row `r` of its result; the reference's chain is the same array
  (Proof/Value.lean, `ref_gathered`).

  The experts' call, run once over any float instance (Proof/ExEnd.lean, `run_kept`), leaves in its two results the column
  halves of every block's expert rows (Proof/ExValue.lean, `res6_eq` and `res7_eq`), which is the reference's chain
  (Proof/ExRef.lean, `res0_eq` and `res1_eq`). The printed program is its ideal reading's (Proof/ExSame.lean).

  The last layer's experts' call is run and read in the same way at its own shapes (Proof/LxEnd.lean, Proof/LxValue.lean,
  Proof/LxRef.lean, Proof/LxSame.lean).

  The combine's call leaves in its result, block by block, the norm of the residual row with the experts' rows summed by
  their weights (Proof/CoValue.lean, `result_eq`), which is the reference's chain (Proof/CoRef.lean, `result_eq`).

  The delta mixer's projection leaves in its results the modulated rows by the matrices' columns (Proof/PjValue.lean), which
  are the reference's (Proof/PjRef.lean); the conv mixer's projection likewise, its second result a product of two of them
  (Proof/PcValue.lean, Proof/PcRef.lean).

  The mixers' output projections leave the norm of the residual row with the mixer's row by the matrix (Proof/OuValue.lean,
  Proof/OuRef.lean); the delta mixer's takes its rows head by head, normed and gated (Proof/DoValue.lean, Proof/DoRef.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_rows_named
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_experts_named
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.Reference4Ideal.Run
public import proofs.«01_k».proof.Proof.Gen.Pre_last_named
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Launch
public import proofs.«01_k».proof.Proof.Value
public import proofs.«01_k».proof.Proof.ExEnd
public import proofs.«01_k».proof.Proof.ExSame
public import proofs.«01_k».proof.Proof.ExRef
public import proofs.«01_k».proof.Proof.ExValue
public import proofs.«01_k».proof.Proof.CoMath
public import proofs.«01_k».proof.Proof.CoRef
public import proofs.«01_k».proof.Proof.CoValue
public import proofs.«01_k».proof.Proof.LxEnd
public import proofs.«01_k».proof.Proof.LxSame
public import proofs.«01_k».proof.Proof.LxRef
public import proofs.«01_k».proof.Proof.LxValue
public import proofs.«01_k».proof.Proof.PjMath
public import proofs.«01_k».proof.Proof.PjRef
public import proofs.«01_k».proof.Proof.PjValue
public import proofs.«01_k».proof.Proof.PcMath
public import proofs.«01_k».proof.Proof.PcRef
public import proofs.«01_k».proof.Proof.PcValue
public import proofs.«01_k».proof.Proof.OuMath
public import proofs.«01_k».proof.Proof.OuRef
public import proofs.«01_k».proof.Proof.OuValue
public import proofs.«01_k».proof.Proof.DoMath
public import proofs.«01_k».proof.Proof.DoRef
public import proofs.«01_k».proof.Proof.DoValue
public import Idealize.ShloMosaic.Adequacy
public import Idealize.ShloMosaic.Init

@[expose] public section

noncomputable section

namespace Cert.Proof

open Idealize.ShloMosaic Idealize.SL.Sem
open Cert.Proof.Gather

variable {F : FTy → Type} [FloatOps F]

/-- The precondition, `(idx >= 0) & (idx < 155648)` of all ones, says that every word names a row of the table. -/
theorem words_of_pre (x : IVec Cert.Pre_rows_named.S155648x256 32) (n : IVec Cert.Pre_rows_named.S1x139264 32)
    (h : Cert.Pre_rows_named.fn (F := F) x n = fun _ => 1#1) : ∀ j, (n j).toNat < 155648 := by
  have both (p q : Bool) : IntOp.andi (BitVec.ofBool p) (BitVec.ofBool q) = BitVec.ofBool (p && q) := by
    cases p <;> cases q <;> decide
  have one (p : Bool) : (BitVec.ofBool p = 1#1) ↔ p = true := by cases p <;> decide
  have word : ∀ v : BitVec 32, IntOp.andi (IntOp.cmpi .sge v 0#32) (IntOp.cmpi .slt v 155648#32) = 1#1 → v.toNat < 155648 := by
    intro v e
    simp only [IntOp.cmpi, both, one, Bool.and_eq_true, BitVec.sle_eq_decide, BitVec.slt_eq_decide,
      decide_eq_true_eq, BitVec.toInt_eq_toNat_cond, BitVec.toNat_ofNat, Nat.reducePow, Nat.reduceMod] at e
    omega
  intro j
  have e := congrFun h j
  simp only [Cert.Pre_rows_named.fn, andi, cmpi, broadcastInDim, constantI] at e
  exact word _ e

/-- The precondition at the bits, in the launch's words. -/
theorem ok_bits (m : (ℓ : Loc Cert.Kernel.nD Cert.Kernel.τ Cert.Kernel.sig) → Buf (Elt Bits) ℓ) (h : Cert.Pre_Kernel m) :
    PreOK (F := Bits) m := fun d => words_of_pre (F := Bits) _ _ (h d)

/-- The precondition at the ideal instance, in the launch's words. -/
theorem ok_ideal (m : (ℓ : Loc Cert.KernelIdeal.nD Cert.KernelIdeal.τ Cert.KernelIdeal.sig) → Buf (Elt Ideal) ℓ)
    (h : Cert.Pre_KernelIdeal m) : PreOK (F := Ideal) m := fun d => words_of_pre (F := Ideal) _ _ (h d)

/-- The printed kernel ends, with its arguments unchanged and every counter at zero. -/
theorem frame_kernel : Cert.quiescent_Kernel := fun m ρ hp =>
  (θ_run Cert.KernelIdeal.defs _ _).mono (fun _ h => ⟨fun c => (h.1 c).2, h.2⟩) (run_main (F := Bits) m ρ (ok_bits m hp))

/-- Its ideal reading likewise. -/
theorem frame_kernelIdeal : Cert.quiescent_KernelIdeal := fun m ρ hp =>
  (θ_run Cert.KernelIdeal.defs _ _).mono (fun _ h => ⟨fun c => (h.1 c).2, h.2⟩) (run_main (F := Ideal) m ρ (ok_ideal m hp))

/-- The reference's ideal reading ends, with its arguments unchanged and no counter raised. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference at the bits likewise. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- At the ideal instance the kernel's result is the reference's. -/
theorem algebraic : Cert.algebraic_KernelIdeal_ReferenceIdeal := by
  intro m ρ m' ρ' hp hm
  have ok := ok_ideal m hp
  refine ⟨fun c => res m c, (θ_run Cert.KernelIdeal.defs _ _).mono (fun _ h => h.1) (run_main (F := Ideal) m ρ ok), ?_⟩
  refine (θ_run Cert.ReferenceIdeal.defs _ _).mono (fun r h c => ⟨(h c).1.trans ?_, (h c).2⟩)
    (Cert.ReferenceIdeal.Value.run (F := Ideal) m' ρ')
  rw [(hm c).1, (hm c).2]
  exact ref_gathered _ _ (ok c) _ _ _ _

/-- At the bits the kernel's result is the reference's, bit for bit. -/
theorem bitexact : Cert.bitexact_Kernel_Reference := by
  intro m ρ m' ρ' hp hm
  have ok := ok_bits m hp
  refine ⟨fun c => res m c, (θ_run Cert.KernelIdeal.defs _ _).mono (fun _ h => h.1) (run_main (F := Bits) m ρ ok), ?_⟩
  refine (θ_run Cert.Reference.defs _ _).mono (fun r h c => ⟨(h c).1.trans ?_, (h c).2⟩)
    (Cert.Reference.Value.run (F := Bits) m' ρ')
  rw [(hm c).1, (hm c).2]
  exact ref_gathered _ _ (ok c) _ _ _ _

/-- The precondition, `(block_e >= 0) & (block_e < 32)` of all ones, says that every block names an expert. -/
theorem experts_of_pre (x0 x1 : IVec Cert.Pre_experts_named.S155648x256 32) (e : IVec Cert.Pre_experts_named.S304 32)
    (n : IVec Cert.Pre_experts_named.S1 32) (w1 : FVec F Cert.Pre_experts_named.S4x32x1024x2048 .f32) (b1 : FVec F Cert.Pre_experts_named.S4x32x2048 .f32)
    (w2 : FVec F Cert.Pre_experts_named.S4x32x1024x1024 .f32) (b2 : FVec F Cert.Pre_experts_named.S4x32x1024 .f32)
    (h : Cert.Pre_experts_named.fn (F := F) x0 x1 e n w1 b1 w2 b2 = fun _ => 1#1) : ∀ j, (e j).toNat < 32 := by
  have both (p q : Bool) : IntOp.andi (BitVec.ofBool p) (BitVec.ofBool q) = BitVec.ofBool (p && q) := by
    cases p <;> cases q <;> decide
  have one (p : Bool) : (BitVec.ofBool p = 1#1) ↔ p = true := by cases p <;> decide
  have word : ∀ v : BitVec 32, IntOp.andi (IntOp.cmpi .sge v 0#32) (IntOp.cmpi .slt v 32#32) = 1#1 → v.toNat < 32 := by
    intro v e
    simp only [IntOp.cmpi, both, one, Bool.and_eq_true, BitVec.sle_eq_decide, BitVec.slt_eq_decide,
      decide_eq_true_eq, BitVec.toInt_eq_toNat_cond, BitVec.toNat_ofNat, Nat.reducePow, Nat.reduceMod] at e
    omega
  intro j
  have g := congrFun h j
  simp only [Cert.Pre_experts_named.fn, andi, cmpi, broadcastInDim, constantI] at g
  exact word _ g

/-- The precondition at the bits, in the experts' launch's words. -/
theorem experts_bits (m : (ℓ : Loc Cert.Kernel2.nD Cert.Kernel2.τ Cert.Kernel2.sig) → Buf (Elt Bits) ℓ) (h : Cert.Pre_Kernel2 m) :
    Experts.PreOK (F := Bits) m := fun j => by
  have e := experts_of_pre (F := Bits) _ _ _ _ _ _ _ _ (h 0) j
  rw [show (Experts.tab (F := Bits) m 0) = m ((((0 : Dev Cert.Kernel2Ideal.nD).tc : Thread Cert.Kernel2Ideal.nD Cert.Kernel2Ideal.τ)).loc Cert.Kernel2Ideal.main_arg2) from Experts.V_arg2 m 0]
  exact e

/-- The precondition at the ideal instance, in the experts' launch's words. -/
theorem experts_ideal (m : (ℓ : Loc Cert.Kernel2Ideal.nD Cert.Kernel2Ideal.τ Cert.Kernel2Ideal.sig) → Buf (Elt Ideal) ℓ) (h : Cert.Pre_Kernel2Ideal m) :
    Experts.PreOK (F := Ideal) m := fun j => by
  have e := experts_of_pre (F := Ideal) _ _ _ _ _ _ _ _ (h 0) j
  rw [show (Experts.tab (F := Ideal) m 0) = m ((((0 : Dev Cert.Kernel2Ideal.nD).tc : Thread Cert.Kernel2Ideal.nD Cert.Kernel2Ideal.τ)).loc Cert.Kernel2Ideal.main_arg2) from Experts.V_arg2 m 0]
  exact e

/-- A run of the one program is a run of any program equal to it. -/
theorem run_same (D : type_of% (Cert.Kernel2Ideal.defs (F := Bits))) (M : type_of% (Cert.Kernel2Ideal.main (F := Bits)))
    (hD : D = Cert.Kernel2Ideal.defs (F := Bits)) (hM : M = Cert.Kernel2Ideal.main (F := Bits))
    (m : (ℓ : Loc Cert.Kernel2Ideal.nD Cert.Kernel2Ideal.τ Cert.Kernel2Ideal.sig) → Buf (Elt Bits) ℓ) (hok : Experts.PreOK (F := Bits) m)
    (ρ : Dev Cert.Kernel2Ideal.nD → PrngReg) :
    θ_run D (onTc (τ := Cert.Kernel2Ideal.τ) M) ⟨m, fun _ => 0, ρ⟩
      (fun r => (∀ c : Dev Cert.Kernel2Ideal.nD, Experts.Kept (F := Bits) m r.2 c) ∧ r.2.sem = fun _ => 0) := by
  subst hD hM
  exact (θ_run (Cert.Kernel2Ideal.defs (F := Bits)) _ _).mono (fun _ h => ⟨fun c => (h.1 c).2.2, h.2⟩) (Experts.run_kept (F := Bits) m hok ρ)

/-- The experts' printed kernel ends, with its arguments unchanged and every counter at zero. -/
theorem frame_kernel2 : Cert.quiescent_Kernel2 := fun m ρ hp =>
  run_same (Cert.Kernel2.defs (F := Bits)) (Cert.Kernel2.main (F := Bits)) Experts.defs_same Experts.main_same m (experts_bits m hp) ρ

/-- Its ideal reading likewise. -/
theorem frame_kernel2Ideal : Cert.quiescent_Kernel2Ideal := fun m ρ hp =>
  (θ_run (Cert.Kernel2Ideal.defs (F := Ideal)) _ _).mono (fun _ h => ⟨fun c => (h.1 c).2.2, h.2⟩) (Experts.run_kept (F := Ideal) m (experts_ideal m hp) ρ)

/-- The experts' reference's ideal reading ends, with its arguments unchanged and no counter raised. -/
theorem frame_reference2Ideal : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- Equal arguments, equal rows. -/
theorem whole_congr {a0 b0 : IVec Cert.Reference2Ideal.S155648x256 32} {a1 b1 : IVec Cert.Reference2Ideal.S155648x256 32}
    {a2 b2 : IVec Cert.Reference2Ideal.S304 32} {a3 b3 : IVec Cert.Reference2Ideal.S1 32} {a4 b4 : FVec Ideal Cert.Reference2Ideal.S4x32x1024x2048 .f32}
    {a5 b5 : FVec Ideal Cert.Reference2Ideal.S4x32x2048 .f32} {a6 b6 : FVec Ideal Cert.Reference2Ideal.S4x32x1024x1024 .f32}
    {a7 b7 : FVec Ideal Cert.Reference2Ideal.S4x32x1024 .f32} (h0 : a0 = b0) (h1 : a1 = b1) (h2 : a2 = b2) (h3 : a3 = b3) (h4 : a4 = b4)
    (h5 : a5 = b5) (h6 : a6 = b6) (h7 : a7 = b7) :
    Experts.Ref.whole a0 a1 a2 a3 a4 a5 a6 a7 = Experts.Ref.whole b0 b1 b2 b3 b4 b5 b6 b7 := by
  subst h0 h1 h2 h3 h4 h5 h6 h7; rfl

/-- At the ideal instance the experts' two results are the reference's. -/
theorem algebraic2 : Cert.algebraic_Kernel2Ideal_Reference2Ideal := by
  intro m ρ m' ρ' hp hm
  have ok := experts_ideal m hp
  refine ⟨fun c => Experts.res6 m ok c, fun c => Experts.res7 m ok c,
    (θ_run (Cert.Kernel2Ideal.defs (F := Ideal)) _ _).mono (fun _ h => h.1) (Experts.run_kept (F := Ideal) m ok ρ), ?_⟩
  refine (θ_run Cert.Reference2Ideal.defs _ _).mono (fun r h c => ⟨(h c).1.trans ?_, (h c).2.1.trans ?_, (h c).2.2⟩)
    (Cert.Reference2Ideal.Value.run (F := Ideal) m' ρ')
  · obtain ⟨h0, h1, h2, h3, h4, h5, h6, h7⟩ := hm c
    exact (Experts.Ref.res0_eq m' c).trans
      ((congrArg Experts.Ref.halfA (whole_congr h0 h1 h2 h3 h4 h5 h6 h7)).trans (Experts.res6_eq m ok c).symm)
  · obtain ⟨h0, h1, h2, h3, h4, h5, h6, h7⟩ := hm c
    exact (Experts.Ref.res1_eq m' c).trans
      ((congrArg Experts.Ref.halfB (whole_congr h0 h1 h2 h3 h4 h5 h6 h7)).trans (Experts.res7_eq m ok c).symm)

/-- The combine leaves its arguments as launched and every counter at zero: as printed, read ideally, and the reference. -/
theorem frame_kernel3 : Cert.quiescent_Kernel3 := fun m ρ _ => Cert.Kernel3.Gen.frame m ρ

theorem frame_kernel3Ideal : Cert.quiescent_Kernel3Ideal := fun m ρ _ => Cert.Kernel3Ideal.Gen.frame m ρ

theorem frame_reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Equal arguments, equal results of the combine. -/
theorem combine_congr {a0 b0 : FVec Ideal Cert.Reference3Ideal.S8x4352x1024 .f32} {a1 b1 : FVec Ideal Cert.Reference3Ideal.S8x2x8x1024 .f32}
    {a2 b2 a3 b3 : IVec Cert.Reference3Ideal.S4x8x4096x256 32} {a4 b4 : FVec Ideal Cert.Reference3Ideal.S8x4096x128 .f32}
    {a5 b5 a6 b6 : FVec Ideal Cert.Reference3Ideal.S1x1024 .f32}
    (h0 : a0 = b0) (h1 : a1 = b1) (h2 : a2 = b2) (h3 : a3 = b3) (h4 : a4 = b4) (h5 : a5 = b5) (h6 : a6 = b6) :
    Combine.Ref.whole a0 a1 a2 a3 a4 a5 a6 = Combine.Ref.whole b0 b1 b2 b3 b4 b5 b6 := by
  subst h0 h1 h2 h3 h4 h5 h6; rfl

/-- At the ideal instance the combine's result is the reference's. -/
theorem algebraic3 : Cert.algebraic_Kernel3Ideal_Reference3Ideal := by
  intro m ρ m' ρ' _ hm
  refine ⟨fun c => Combine.wholeOf m c,
    (θ_run (Cert.Kernel3Ideal.defs (F := Ideal)) _ _).mono (fun r h c => ⟨((h.1 c).1 7).trans (Combine.result_eq m c), h.2 c⟩)
      (θ_run_and (Cert.Kernel3Ideal.Gen.run_main (F := Ideal) m ρ) (Cert.Kernel3Ideal.Gen.unchanged (F := Ideal) m ρ)), ?_⟩
  refine (θ_run Cert.Reference3Ideal.defs _ _).mono (fun r h c => ⟨(h c).1.trans ?_, (h c).2⟩)
    (Cert.Reference3Ideal.Value.run (F := Ideal) m' ρ')
  obtain ⟨h0, h1, h2, h3, h4, h5, h6⟩ := hm c
  exact (Combine.Ref.result_eq m' c).trans (combine_congr h0 h1 h2 h3 h4 h5 h6)

/-- The precondition, `(block_e >= 0) & (block_e < 32)` of all ones, says that every block names an expert. -/
theorem experts_of_pre_last (x0 x1 : IVec Cert.Pre_last_named.S147456x256 32) (e : IVec Cert.Pre_last_named.S288 32)
    (n : IVec Cert.Pre_last_named.S1 32) (w1 : FVec F Cert.Pre_last_named.S4x32x1024x2048 .f32) (b1 : FVec F Cert.Pre_last_named.S4x32x2048 .f32)
    (w2 : FVec F Cert.Pre_last_named.S4x32x1024x1024 .f32) (b2 : FVec F Cert.Pre_last_named.S4x32x1024 .f32)
    (h : Cert.Pre_last_named.fn (F := F) x0 x1 e n w1 b1 w2 b2 = fun _ => 1#1) : ∀ j, (e j).toNat < 32 := by
  have both (p q : Bool) : IntOp.andi (BitVec.ofBool p) (BitVec.ofBool q) = BitVec.ofBool (p && q) := by
    cases p <;> cases q <;> decide
  have one (p : Bool) : (BitVec.ofBool p = 1#1) ↔ p = true := by cases p <;> decide
  have word : ∀ v : BitVec 32, IntOp.andi (IntOp.cmpi .sge v 0#32) (IntOp.cmpi .slt v 32#32) = 1#1 → v.toNat < 32 := by
    intro v e
    simp only [IntOp.cmpi, both, one, Bool.and_eq_true, BitVec.sle_eq_decide, BitVec.slt_eq_decide,
      decide_eq_true_eq, BitVec.toInt_eq_toNat_cond, BitVec.toNat_ofNat, Nat.reducePow, Nat.reduceMod] at e
    omega
  intro j
  have g := congrFun h j
  simp only [Cert.Pre_last_named.fn, andi, cmpi, broadcastInDim, constantI] at g
  exact word _ g

/-- The precondition at the bits, in the last layer's experts' launch's words. -/
theorem experts_bits_last (m : (ℓ : Loc Cert.Kernel4.nD Cert.Kernel4.τ Cert.Kernel4.sig) → Buf (Elt Bits) ℓ) (h : Cert.Pre_Kernel4 m) :
    LastExperts.PreOK (F := Bits) m := fun j => by
  have e := experts_of_pre_last (F := Bits) _ _ _ _ _ _ _ _ (h 0) j
  rw [show (LastExperts.tab (F := Bits) m 0) = m ((((0 : Dev Cert.Kernel4Ideal.nD).tc : Thread Cert.Kernel4Ideal.nD Cert.Kernel4Ideal.τ)).loc Cert.Kernel4Ideal.main_arg2) from LastExperts.V_arg2 m 0]
  exact e

/-- The precondition at the ideal instance, in the last layer's experts' launch's words. -/
theorem experts_ideal_last (m : (ℓ : Loc Cert.Kernel4Ideal.nD Cert.Kernel4Ideal.τ Cert.Kernel4Ideal.sig) → Buf (Elt Ideal) ℓ) (h : Cert.Pre_Kernel4Ideal m) :
    LastExperts.PreOK (F := Ideal) m := fun j => by
  have e := experts_of_pre_last (F := Ideal) _ _ _ _ _ _ _ _ (h 0) j
  rw [show (LastExperts.tab (F := Ideal) m 0) = m ((((0 : Dev Cert.Kernel4Ideal.nD).tc : Thread Cert.Kernel4Ideal.nD Cert.Kernel4Ideal.τ)).loc Cert.Kernel4Ideal.main_arg2) from LastExperts.V_arg2 m 0]
  exact e

/-- A run of the one program is a run of any program equal to it. -/
theorem run_same_last (D : type_of% (Cert.Kernel4Ideal.defs (F := Bits))) (M : type_of% (Cert.Kernel4Ideal.main (F := Bits)))
    (hD : D = Cert.Kernel4Ideal.defs (F := Bits)) (hM : M = Cert.Kernel4Ideal.main (F := Bits))
    (m : (ℓ : Loc Cert.Kernel4Ideal.nD Cert.Kernel4Ideal.τ Cert.Kernel4Ideal.sig) → Buf (Elt Bits) ℓ) (hok : LastExperts.PreOK (F := Bits) m)
    (ρ : Dev Cert.Kernel4Ideal.nD → PrngReg) :
    θ_run D (onTc (τ := Cert.Kernel4Ideal.τ) M) ⟨m, fun _ => 0, ρ⟩
      (fun r => (∀ c : Dev Cert.Kernel4Ideal.nD, LastExperts.Kept (F := Bits) m r.2 c) ∧ r.2.sem = fun _ => 0) := by
  subst hD hM
  exact (θ_run (Cert.Kernel4Ideal.defs (F := Bits)) _ _).mono (fun _ h => ⟨fun c => (h.1 c).2.2, h.2⟩) (LastExperts.run_kept (F := Bits) m hok ρ)

/-- The last layer's experts' printed kernel ends, with its arguments unchanged and every counter at zero. -/
theorem frame_kernel4 : Cert.quiescent_Kernel4 := fun m ρ hp =>
  run_same_last (Cert.Kernel4.defs (F := Bits)) (Cert.Kernel4.main (F := Bits)) LastExperts.defs_same LastExperts.main_same m (experts_bits_last m hp) ρ

/-- Its ideal reading likewise. -/
theorem frame_kernel4Ideal : Cert.quiescent_Kernel4Ideal := fun m ρ hp =>
  (θ_run (Cert.Kernel4Ideal.defs (F := Ideal)) _ _).mono (fun _ h => ⟨fun c => (h.1 c).2.2, h.2⟩) (LastExperts.run_kept (F := Ideal) m (experts_ideal_last m hp) ρ)

/-- The last layer's experts' reference's ideal reading ends, with its arguments unchanged and no counter raised. -/
theorem frame_reference4Ideal : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- Equal arguments, equal rows. -/
theorem whole_congr_last {a0 b0 : IVec Cert.Reference4Ideal.S147456x256 32} {a1 b1 : IVec Cert.Reference4Ideal.S147456x256 32}
    {a2 b2 : IVec Cert.Reference4Ideal.S288 32} {a3 b3 : IVec Cert.Reference4Ideal.S1 32} {a4 b4 : FVec Ideal Cert.Reference4Ideal.S4x32x1024x2048 .f32}
    {a5 b5 : FVec Ideal Cert.Reference4Ideal.S4x32x2048 .f32} {a6 b6 : FVec Ideal Cert.Reference4Ideal.S4x32x1024x1024 .f32}
    {a7 b7 : FVec Ideal Cert.Reference4Ideal.S4x32x1024 .f32} (h0 : a0 = b0) (h1 : a1 = b1) (h2 : a2 = b2) (h3 : a3 = b3) (h4 : a4 = b4)
    (h5 : a5 = b5) (h6 : a6 = b6) (h7 : a7 = b7) :
    LastExperts.Ref.whole a0 a1 a2 a3 a4 a5 a6 a7 = LastExperts.Ref.whole b0 b1 b2 b3 b4 b5 b6 b7 := by
  subst h0 h1 h2 h3 h4 h5 h6 h7; rfl

/-- At the ideal instance the last layer's experts' two results are the reference's. -/
theorem algebraic4 : Cert.algebraic_Kernel4Ideal_Reference4Ideal := by
  intro m ρ m' ρ' hp hm
  have ok := experts_ideal_last m hp
  refine ⟨fun c => LastExperts.res6 m ok c, fun c => LastExperts.res7 m ok c,
    (θ_run (Cert.Kernel4Ideal.defs (F := Ideal)) _ _).mono (fun _ h => h.1) (LastExperts.run_kept (F := Ideal) m ok ρ), ?_⟩
  refine (θ_run Cert.Reference4Ideal.defs _ _).mono (fun r h c => ⟨(h c).1.trans ?_, (h c).2.1.trans ?_, (h c).2.2⟩)
    (Cert.Reference4Ideal.Value.run (F := Ideal) m' ρ')
  · obtain ⟨h0, h1, h2, h3, h4, h5, h6, h7⟩ := hm c
    exact (LastExperts.Ref.res0_eq m' c).trans
      ((congrArg LastExperts.Ref.halfA (whole_congr_last h0 h1 h2 h3 h4 h5 h6 h7)).trans (LastExperts.res6_eq m ok c).symm)
  · obtain ⟨h0, h1, h2, h3, h4, h5, h6, h7⟩ := hm c
    exact (LastExperts.Ref.res1_eq m' c).trans
      ((congrArg LastExperts.Ref.halfB (whole_congr_last h0 h1 h2 h3 h4 h5 h6 h7)).trans (LastExperts.res7_eq m ok c).symm)

/-- The delta projection leaves its arguments as launched and every counter at zero: as printed, read ideally, and the reference. -/
theorem frame_kernel5 : Cert.quiescent_Kernel5 := fun m ρ _ => Cert.Kernel5.Gen.frame m ρ

theorem frame_kernel5Ideal : Cert.quiescent_Kernel5Ideal := fun m ρ _ => Cert.Kernel5Ideal.Gen.frame m ρ

theorem frame_reference5Ideal : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

theorem delta0_congr {a0 b0 : FVec Ideal Cert.Reference5Ideal.S8x4352x1024 .f32} {a1 b1 : FVec Ideal Cert.Reference5Ideal.S8x2x8x1024 .f32} {a2 b2 : FVec Ideal Cert.Reference5Ideal.S1024x6144 .f32}
    (h0 : a0 = b0) (h1 : a1 = b1) (h2 : a2 = b2) : Project.Delta.Ref.res0 a0 a1 a2 = Project.Delta.Ref.res0 b0 b1 b2 := by
  subst h0 h1 h2; rfl

theorem delta1_congr {a0 b0 : FVec Ideal Cert.Reference5Ideal.S8x4352x1024 .f32} {a1 b1 : FVec Ideal Cert.Reference5Ideal.S8x2x8x1024 .f32} {a2 b2 : FVec Ideal Cert.Reference5Ideal.S1024x6144 .f32}
    (h0 : a0 = b0) (h1 : a1 = b1) (h2 : a2 = b2) : Project.Delta.Ref.res1 a0 a1 a2 = Project.Delta.Ref.res1 b0 b1 b2 := by
  subst h0 h1 h2; rfl

theorem delta2_congr {a0 b0 : FVec Ideal Cert.Reference5Ideal.S8x4352x1024 .f32} {a1 b1 : FVec Ideal Cert.Reference5Ideal.S8x2x8x1024 .f32} {a3 b3 : FVec Ideal Cert.Reference5Ideal.S1024x64 .f32}
    (h0 : a0 = b0) (h1 : a1 = b1) (h3 : a3 = b3) : Project.Delta.Ref.res2 a0 a1 a3 = Project.Delta.Ref.res2 b0 b1 b3 := by
  subst h0 h1 h3; rfl

/-- At the ideal instance the delta projection's results are the reference's. -/
theorem algebraic5 : Cert.algebraic_Kernel5Ideal_Reference5Ideal := by
  intro m ρ m' ρ' _ hm
  refine ⟨fun c => Project.Delta.want0 m c, fun c => Project.Delta.want1 m c, fun c => Project.Delta.want2 m c,
    (θ_run (Cert.Kernel5Ideal.defs (F := Ideal)) _ _).mono (fun r h c => ⟨((h.1 c).1 4).trans (Project.Delta.result0_eq m c), ((h.1 c).1 5).trans (Project.Delta.result1_eq m c), ((h.1 c).1 6).trans (Project.Delta.result2_eq m c), h.2 c⟩)
      (θ_run_and (Cert.Kernel5Ideal.Gen.run_main (F := Ideal) m ρ) (Cert.Kernel5Ideal.Gen.unchanged (F := Ideal) m ρ)), ?_⟩
  refine (θ_run Cert.Reference5Ideal.defs _ _).mono (fun r h c => ⟨(h c).1.trans ?_, (h c).2.1.trans ?_, (h c).2.2.1.trans ?_, (h c).2.2.2⟩)
    (Cert.Reference5Ideal.Value.run (F := Ideal) m' ρ')
  · obtain ⟨h0, h1, h2, h3⟩ := hm c
    exact delta0_congr h0 h1 h2
  · obtain ⟨h0, h1, h2, h3⟩ := hm c
    exact delta1_congr h0 h1 h2
  · obtain ⟨h0, h1, h2, h3⟩ := hm c
    exact delta2_congr h0 h1 h3

/-- The conv projection leaves its arguments as launched and every counter at zero: as printed, read ideally, and the reference. -/
theorem frame_kernel6 : Cert.quiescent_Kernel6 := fun m ρ _ => Cert.Kernel6.Gen.frame m ρ

theorem frame_kernel6Ideal : Cert.quiescent_Kernel6Ideal := fun m ρ _ => Cert.Kernel6Ideal.Gen.frame m ρ

theorem frame_reference6Ideal : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

theorem conv0_congr {a0 b0 : FVec Ideal Cert.Reference6Ideal.S8x4352x1024 .f32} {a1 b1 : FVec Ideal Cert.Reference6Ideal.S8x2x8x1024 .f32} {a2 b2 : FVec Ideal Cert.Reference6Ideal.S1024x3072 .f32}
    (h0 : a0 = b0) (h1 : a1 = b1) (h2 : a2 = b2) : Project.Conv.Ref.res0 a0 a1 a2 = Project.Conv.Ref.res0 b0 b1 b2 := by
  subst h0 h1 h2; rfl

theorem conv1_congr {a0 b0 : FVec Ideal Cert.Reference6Ideal.S8x4352x1024 .f32} {a1 b1 : FVec Ideal Cert.Reference6Ideal.S8x2x8x1024 .f32} {a2 b2 : FVec Ideal Cert.Reference6Ideal.S1024x3072 .f32}
    (h0 : a0 = b0) (h1 : a1 = b1) (h2 : a2 = b2) : Project.Conv.Ref.res1 a0 a1 a2 = Project.Conv.Ref.res1 b0 b1 b2 := by
  subst h0 h1 h2; rfl

/-- At the ideal instance the conv projection's results are the reference's. -/
theorem algebraic6 : Cert.algebraic_Kernel6Ideal_Reference6Ideal := by
  intro m ρ m' ρ' _ hm
  refine ⟨fun c => Project.Conv.want0 m c, fun c => Project.Conv.want1 m c,
    (θ_run (Cert.Kernel6Ideal.defs (F := Ideal)) _ _).mono (fun r h c => ⟨((h.1 c).1 4).trans (Project.Conv.result0_eq m c), ((h.1 c).1 5).trans (Project.Conv.result1_eq m c), h.2 c⟩)
      (θ_run_and (Cert.Kernel6Ideal.Gen.run_main (F := Ideal) m ρ) (Cert.Kernel6Ideal.Gen.unchanged (F := Ideal) m ρ)), ?_⟩
  refine (θ_run Cert.Reference6Ideal.defs _ _).mono (fun r h c => ⟨(h c).1.trans ?_, (h c).2.1.trans ?_, (h c).2.2⟩)
    (Cert.Reference6Ideal.Value.run (F := Ideal) m' ρ')
  · obtain ⟨h0, h1, h2⟩ := hm c
    exact conv0_congr h0 h1 h2
  · obtain ⟨h0, h1, h2⟩ := hm c
    exact conv1_congr h0 h1 h2

/-- The output projection leaves its arguments as launched and every counter at zero: as printed, read ideally, and the reference. -/
theorem frame_kernel7 : Cert.quiescent_Kernel7 := fun m ρ _ => Cert.Kernel7.Gen.frame m ρ

theorem frame_kernel7Ideal : Cert.quiescent_Kernel7Ideal := fun m ρ _ => Cert.Kernel7Ideal.Gen.frame m ρ

theorem frame_reference7Ideal : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem output_congr {a0 b0 : FVec Ideal Cert.Reference7Ideal.S8x4352x1024 .f32} {a1 b1 : FVec Ideal Cert.Reference7Ideal.S8x2x8x1024 .f32}
    {a2 b2 : FVec Ideal Cert.Reference7Ideal.S8x4352x1024 .bf16} {a3 b3 : FVec Ideal Cert.Reference7Ideal.S1024x1024 .f32}
    {a4 b4 : FVec Ideal Cert.Reference7Ideal.S1024 .f32} {a5 b5 a6 b6 : FVec Ideal Cert.Reference7Ideal.S1x1024 .f32}
    (h0 : a0 = b0) (h1 : a1 = b1) (h2 : a2 = b2) (h3 : a3 = b3) (h4 : a4 = b4) (h5 : a5 = b5) (h6 : a6 = b6) :
    Output.Ref.whole a0 a1 a2 a3 a4 a5 a6 = Output.Ref.whole b0 b1 b2 b3 b4 b5 b6 := by
  subst h0 h1 h2 h3 h4 h5 h6; rfl

/-- At the ideal instance the output projection's result is the reference's. -/
theorem algebraic7 : Cert.algebraic_Kernel7Ideal_Reference7Ideal := by
  intro m ρ m' ρ' _ hm
  refine ⟨fun c => Output.wholeOf m c,
    (θ_run (Cert.Kernel7Ideal.defs (F := Ideal)) _ _).mono (fun r h c => ⟨((h.1 c).1 7).trans (Output.result_eq m c), h.2 c⟩)
      (θ_run_and (Cert.Kernel7Ideal.Gen.run_main (F := Ideal) m ρ) (Cert.Kernel7Ideal.Gen.unchanged (F := Ideal) m ρ)), ?_⟩
  refine (θ_run Cert.Reference7Ideal.defs _ _).mono (fun r h c => ⟨(h c).1.trans ?_, (h c).2⟩)
    (Cert.Reference7Ideal.Value.run (F := Ideal) m' ρ')
  obtain ⟨h0, h1, h2, h3, h4, h5, h6⟩ := hm c
  exact (Output.Ref.result_eq m' c).trans (output_congr h0 h1 h2 h3 h4 h5 h6)

/-- The delta mixer's output projection likewise. -/
theorem frame_kernel8 : Cert.quiescent_Kernel8 := fun m ρ _ => Cert.Kernel8.Gen.frame m ρ

theorem frame_kernel8Ideal : Cert.quiescent_Kernel8Ideal := fun m ρ _ => Cert.Kernel8Ideal.Gen.frame m ρ

theorem frame_reference8Ideal : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem deltaOutput_congr {a0 b0 : FVec Ideal Cert.Reference8Ideal.S8x4352x1024 .f32} {a1 b1 : FVec Ideal Cert.Reference8Ideal.S8x2x8x1024 .f32}
    {a2 b2 a3 b3 a4 b4 : FVec Ideal Cert.Reference8Ideal.S8x4352x2048 .bf16} {a5 b5 : FVec Ideal Cert.Reference8Ideal.S128 .f32}
    {a6 b6 : FVec Ideal Cert.Reference8Ideal.S2048x1024 .f32} {a7 b7 a8 b8 : FVec Ideal Cert.Reference8Ideal.S1x1024 .f32}
    (h0 : a0 = b0) (h1 : a1 = b1) (h2 : a2 = b2) (h3 : a3 = b3) (h4 : a4 = b4) (h5 : a5 = b5) (h6 : a6 = b6) (h7 : a7 = b7) (h8 : a8 = b8) :
    DeltaOutput.Ref.whole a0 a1 a2 a3 a4 a5 a6 a7 a8 = DeltaOutput.Ref.whole b0 b1 b2 b3 b4 b5 b6 b7 b8 := by
  subst h0 h1 h2 h3 h4 h5 h6 h7 h8; rfl

/-- At the ideal instance the delta mixer's output projection's result is the reference's. -/
theorem algebraic8 : Cert.algebraic_Kernel8Ideal_Reference8Ideal := by
  intro m ρ m' ρ' _ hm
  refine ⟨fun c => DeltaOutput.wholeOf m c,
    (θ_run (Cert.Kernel8Ideal.defs (F := Ideal)) _ _).mono (fun r h c => ⟨((h.1 c).1 10).trans (DeltaOutput.result_eq m c), h.2 c⟩)
      (θ_run_and (Cert.Kernel8Ideal.Gen.run_main (F := Ideal) m ρ) (Cert.Kernel8Ideal.Gen.unchanged (F := Ideal) m ρ)), ?_⟩
  refine (θ_run Cert.Reference8Ideal.defs _ _).mono (fun r h c => ⟨(h c).1.trans ?_, (h c).2⟩)
    (Cert.Reference8Ideal.Value.run (F := Ideal) m' ρ')
  obtain ⟨h0, h1, h2, h3, h4, h5, h6, h7, h8⟩ := hm c
  exact (DeltaOutput.Ref.result_eq m' c).trans (deltaOutput_congr h0 h1 h2 h3 h4 h5 h6 h7 h8)

/-- The claims together. -/
theorem claim : Cert.Claim :=
  ⟨Cert.Kernel.Gen.facts, Cert.KernelIdeal.Gen.facts, Cert.ReferenceIdeal.Gen.facts, Cert.Reference.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_rows_named.Gen.facts, Cert.Pre_experts_named.Gen.facts, Cert.Pre_last_named.Gen.facts,
    frame_kernel, frame_kernelIdeal, frame_referenceIdeal, fun m ρ _ => frame_referenceIdeal m ρ trivial, frame_reference,
    frame_kernel2, frame_kernel2Ideal, frame_reference2Ideal, fun m ρ _ => frame_reference2Ideal m ρ trivial,
    frame_kernel3, frame_kernel3Ideal, frame_reference3Ideal,
    frame_kernel4, frame_kernel4Ideal, frame_reference4Ideal, fun m ρ _ => frame_reference4Ideal m ρ trivial,
    frame_kernel5, frame_kernel5Ideal, frame_reference5Ideal,
    frame_kernel6, frame_kernel6Ideal, frame_reference6Ideal,
    frame_kernel7, frame_kernel7Ideal, frame_reference7Ideal,
    frame_kernel8, frame_kernel8Ideal, frame_reference8Ideal,
    trivial, algebraic, bitexact, trivial, algebraic2, trivial, algebraic3, trivial, algebraic4,
    trivial, algebraic5, trivial, algebraic6, trivial, algebraic7,
    trivial, algebraic8⟩

end Cert.Proof

end
